-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v246) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x224x224 : Shape := ⟨4, ![8, 3, 224, 224]⟩
abbrev S768x3x16x16 : Shape := ⟨4, ![768, 3, 16, 16]⟩
abbrev S768 : Shape := ⟨1, ![768]⟩
abbrev S1x196x768 : Shape := ⟨3, ![1, 196, 768]⟩
abbrev S12x3072x768 : Shape := ⟨3, ![12, 3072, 768]⟩
abbrev S12x1536x4 : Shape := ⟨3, ![12, 1536, 4]⟩
abbrev S12x1536 : Shape := ⟨2, ![12, 1536]⟩
abbrev S12x80x1536 : Shape := ⟨3, ![12, 80, 1536]⟩
abbrev S12x1536x48 : Shape := ⟨3, ![12, 1536, 48]⟩
abbrev S12x1536x16 : Shape := ⟨3, ![12, 1536, 16]⟩
abbrev S12x768x1536 : Shape := ⟨3, ![12, 768, 1536]⟩
abbrev S8x3x14x16x14x16 : Shape := ⟨6, ![8, 3, 14, 16, 14, 16]⟩
abbrev S8x14x14x3x16x16 : Shape := ⟨6, ![8, 14, 14, 3, 16, 16]⟩
abbrev S8x196x768 : Shape := ⟨3, ![8, 196, 768]⟩
abbrev S768x768 : Shape := ⟨2, ![768, 768]⟩
abbrev S1x768 : Shape := ⟨2, ![1, 768]⟩
abbrev S12x768x3072 : Shape := ⟨3, ![12, 768, 3072]⟩
abbrev S12x4x1536 : Shape := ⟨3, ![12, 4, 1536]⟩
abbrev S12x1x1536 : Shape := ⟨3, ![12, 1, 1536]⟩
abbrev S12x1536x80 : Shape := ⟨3, ![12, 1536, 80]⟩
abbrev S12x48x1536 : Shape := ⟨3, ![12, 48, 1536]⟩
abbrev S12x16x1536 : Shape := ⟨3, ![12, 16, 1536]⟩
abbrev S12x1536x768 : Shape := ⟨3, ![12, 1536, 768]⟩
abbrev S196x768 : Shape := ⟨2, ![196, 768]⟩
abbrev S1x768x3072 : Shape := ⟨3, ![1, 768, 3072]⟩
abbrev S768x3072 : Shape := ⟨2, ![768, 3072]⟩
abbrev S1x4x1536 : Shape := ⟨3, ![1, 4, 1536]⟩
abbrev S4x1536 : Shape := ⟨2, ![4, 1536]⟩
abbrev S1x1x1536 : Shape := ⟨3, ![1, 1, 1536]⟩
abbrev S1x1536 : Shape := ⟨2, ![1, 1536]⟩
abbrev S1x1536x80 : Shape := ⟨3, ![1, 1536, 80]⟩
abbrev S1536x80 : Shape := ⟨2, ![1536, 80]⟩
abbrev S1x48x1536 : Shape := ⟨3, ![1, 48, 1536]⟩
abbrev S48x1536 : Shape := ⟨2, ![48, 1536]⟩
abbrev S1x16x1536 : Shape := ⟨3, ![1, 16, 1536]⟩
abbrev S16x1536 : Shape := ⟨2, ![16, 1536]⟩
abbrev S1x1536x768 : Shape := ⟨3, ![1, 1536, 768]⟩
abbrev S1536x768 : Shape := ⟨2, ![1536, 768]⟩
abbrev S25x8x1536 : Shape := ⟨3, ![25, 8, 1536]⟩
abbrev S25x8x16 : Shape := ⟨3, ![25, 8, 16]⟩
abbrev S196x3072 : Shape := ⟨2, ![196, 3072]⟩
abbrev S196x1536 : Shape := ⟨2, ![196, 1536]⟩
abbrev S3x1536 : Shape := ⟨2, ![3, 1536]⟩
abbrev S199x1536 : Shape := ⟨2, ![199, 1536]⟩
abbrev S196x80 : Shape := ⟨2, ![196, 80]⟩
abbrev S196x48 : Shape := ⟨2, ![196, 48]⟩
abbrev S196x16 : Shape := ⟨2, ![196, 16]⟩
abbrev S200x1536 : Shape := ⟨2, ![200, 1536]⟩
abbrev S4x16 : Shape := ⟨2, ![4, 16]⟩
abbrev S200x16 : Shape := ⟨2, ![200, 16]⟩
abbrev S1x8x1536 : Shape := ⟨3, ![1, 8, 1536]⟩
abbrev S8x1536 : Shape := ⟨2, ![8, 1536]⟩
abbrev S1x8x16 : Shape := ⟨3, ![1, 8, 16]⟩
abbrev S8x16 : Shape := ⟨2, ![8, 16]⟩
abbrev S16x8 : Shape := ⟨2, ![16, 8]⟩
abbrev S16x1 : Shape := ⟨2, ![16, 1]⟩
abbrev S1536 : Shape := ⟨1, ![1536]⟩
abbrev S196 : Shape := ⟨1, ![196]⟩
abbrev S196x1 : Shape := ⟨2, ![196, 1]⟩

abbrev nBuf : Space → Nat
  | .hbm => 262
  | .vmem => 229
  | .smem => 0
  | _ => 0

abbrev hbmTy0_0 (i : Nat) : BufTy := match i % 128 with
  | 0 => ⟨S8x3x224x224, .f32⟩
  | 1 => ⟨S768x3x16x16, .f32⟩
  | 2 => ⟨S768, .f32⟩
  | 3 => ⟨S1x196x768, .f32⟩
  | 4 => ⟨S12x3072x768, .f32⟩
  | 5 => ⟨S12x1536x4, .f32⟩
  | 6 => ⟨S12x1536, .f32⟩
  | 7 => ⟨S12x80x1536, .f32⟩
  | 8 => ⟨S12x1536x48, .f32⟩
  | 9 => ⟨S12x1536, .f32⟩
  | 10 => ⟨S12x1536x16, .f32⟩
  | 11 => ⟨S12x1536, .f32⟩
  | 12 => ⟨S12x768x1536, .f32⟩
  | 13 => ⟨S768, .f32⟩
  | 14 => ⟨S768, .f32⟩
  | 15 => ⟨S8x3x14x16x14x16, .f32⟩
  | 16 => ⟨S8x14x14x3x16x16, .f32⟩
  | 17 => ⟨S8x196x768, .f32⟩
  | 18 => ⟨S768x768, .f32⟩
  | 19 => ⟨S768x768, .f32⟩
  | 20 => ⟨S1x768, .f32⟩
  | 21 => ⟨S12x768x3072, .f32⟩
  | 22 => ⟨S12x4x1536, .f32⟩
  | 23 => ⟨S12x1x1536, .f32⟩
  | 24 => ⟨S12x1536x80, .f32⟩
  | 25 => ⟨S12x48x1536, .f32⟩
  | 26 => ⟨S12x1x1536, .f32⟩
  | 27 => ⟨S12x16x1536, .f32⟩
  | 28 => ⟨S12x1x1536, .f32⟩
  | 29 => ⟨S12x1536x768, .f32⟩
  | 30 => ⟨S8x196x768, .f32⟩
  | 31 => ⟨S1x768x3072, .f32⟩
  | 32 => ⟨S768x3072, .f32⟩
  | 33 => ⟨S1x4x1536, .f32⟩
  | 34 => ⟨S4x1536, .f32⟩
  | 35 => ⟨S1x1x1536, .f32⟩
  | 36 => ⟨S1x1536, .f32⟩
  | 37 => ⟨S1x1536x80, .f32⟩
  | 38 => ⟨S1536x80, .f32⟩
  | 39 => ⟨S1x48x1536, .f32⟩
  | 40 => ⟨S48x1536, .f32⟩
  | 41 => ⟨S1x1x1536, .f32⟩
  | 42 => ⟨S1x1536, .f32⟩
  | 43 => ⟨S1x16x1536, .f32⟩
  | 44 => ⟨S16x1536, .f32⟩
  | 45 => ⟨S1x1x1536, .f32⟩
  | 46 => ⟨S1x1536, .f32⟩
  | 47 => ⟨S1x1536x768, .f32⟩
  | 48 => ⟨S1536x768, .f32⟩
  | 49 => ⟨S8x196x768, .f32⟩
  | 50 => ⟨S1x768x3072, .f32⟩
  | 51 => ⟨S768x3072, .f32⟩
  | 52 => ⟨S1x4x1536, .f32⟩
  | 53 => ⟨S4x1536, .f32⟩
  | 54 => ⟨S1x1x1536, .f32⟩
  | 55 => ⟨S1x1536, .f32⟩
  | 56 => ⟨S1x1536x80, .f32⟩
  | 57 => ⟨S1536x80, .f32⟩
  | 58 => ⟨S1x48x1536, .f32⟩
  | 59 => ⟨S48x1536, .f32⟩
  | 60 => ⟨S1x1x1536, .f32⟩
  | 61 => ⟨S1x1536, .f32⟩
  | 62 => ⟨S1x16x1536, .f32⟩
  | 63 => ⟨S16x1536, .f32⟩
  | 64 => ⟨S1x1x1536, .f32⟩
  | 65 => ⟨S1x1536, .f32⟩
  | 66 => ⟨S1x1536x768, .f32⟩
  | 67 => ⟨S1536x768, .f32⟩
  | 68 => ⟨S8x196x768, .f32⟩
  | 69 => ⟨S1x768x3072, .f32⟩
  | 70 => ⟨S768x3072, .f32⟩
  | 71 => ⟨S1x4x1536, .f32⟩
  | 72 => ⟨S4x1536, .f32⟩
  | 73 => ⟨S1x1x1536, .f32⟩
  | 74 => ⟨S1x1536, .f32⟩
  | 75 => ⟨S1x1536x80, .f32⟩
  | 76 => ⟨S1536x80, .f32⟩
  | 77 => ⟨S1x48x1536, .f32⟩
  | 78 => ⟨S48x1536, .f32⟩
  | 79 => ⟨S1x1x1536, .f32⟩
  | 80 => ⟨S1x1536, .f32⟩
  | 81 => ⟨S1x16x1536, .f32⟩
  | 82 => ⟨S16x1536, .f32⟩
  | 83 => ⟨S1x1x1536, .f32⟩
  | 84 => ⟨S1x1536, .f32⟩
  | 85 => ⟨S1x1536x768, .f32⟩
  | 86 => ⟨S1536x768, .f32⟩
  | 87 => ⟨S8x196x768, .f32⟩
  | 88 => ⟨S1x768x3072, .f32⟩
  | 89 => ⟨S768x3072, .f32⟩
  | 90 => ⟨S1x4x1536, .f32⟩
  | 91 => ⟨S4x1536, .f32⟩
  | 92 => ⟨S1x1x1536, .f32⟩
  | 93 => ⟨S1x1536, .f32⟩
  | 94 => ⟨S1x1536x80, .f32⟩
  | 95 => ⟨S1536x80, .f32⟩
  | 96 => ⟨S1x48x1536, .f32⟩
  | 97 => ⟨S48x1536, .f32⟩
  | 98 => ⟨S1x1x1536, .f32⟩
  | 99 => ⟨S1x1536, .f32⟩
  | 100 => ⟨S1x16x1536, .f32⟩
  | 101 => ⟨S16x1536, .f32⟩
  | 102 => ⟨S1x1x1536, .f32⟩
  | 103 => ⟨S1x1536, .f32⟩
  | 104 => ⟨S1x1536x768, .f32⟩
  | 105 => ⟨S1536x768, .f32⟩
  | 106 => ⟨S8x196x768, .f32⟩
  | 107 => ⟨S1x768x3072, .f32⟩
  | 108 => ⟨S768x3072, .f32⟩
  | 109 => ⟨S1x4x1536, .f32⟩
  | 110 => ⟨S4x1536, .f32⟩
  | 111 => ⟨S1x1x1536, .f32⟩
  | 112 => ⟨S1x1536, .f32⟩
  | 113 => ⟨S1x1536x80, .f32⟩
  | 114 => ⟨S1536x80, .f32⟩
  | 115 => ⟨S1x48x1536, .f32⟩
  | 116 => ⟨S48x1536, .f32⟩
  | 117 => ⟨S1x1x1536, .f32⟩
  | 118 => ⟨S1x1536, .f32⟩
  | 119 => ⟨S1x16x1536, .f32⟩
  | 120 => ⟨S16x1536, .f32⟩
  | 121 => ⟨S1x1x1536, .f32⟩
  | 122 => ⟨S1x1536, .f32⟩
  | 123 => ⟨S1x1536x768, .f32⟩
  | 124 => ⟨S1536x768, .f32⟩
  | 125 => ⟨S8x196x768, .f32⟩
  | 126 => ⟨S1x768x3072, .f32⟩
  | 127 => ⟨S768x3072, .f32⟩
  | _ => ⟨S8x3x224x224, .f32⟩

abbrev hbmTy0_1 (i : Nat) : BufTy := match i % 128 with
  | 0 => ⟨S1x4x1536, .f32⟩
  | 1 => ⟨S4x1536, .f32⟩
  | 2 => ⟨S1x1x1536, .f32⟩
  | 3 => ⟨S1x1536, .f32⟩
  | 4 => ⟨S1x1536x80, .f32⟩
  | 5 => ⟨S1536x80, .f32⟩
  | 6 => ⟨S1x48x1536, .f32⟩
  | 7 => ⟨S48x1536, .f32⟩
  | 8 => ⟨S1x1x1536, .f32⟩
  | 9 => ⟨S1x1536, .f32⟩
  | 10 => ⟨S1x16x1536, .f32⟩
  | 11 => ⟨S16x1536, .f32⟩
  | 12 => ⟨S1x1x1536, .f32⟩
  | 13 => ⟨S1x1536, .f32⟩
  | 14 => ⟨S1x1536x768, .f32⟩
  | 15 => ⟨S1536x768, .f32⟩
  | 16 => ⟨S8x196x768, .f32⟩
  | 17 => ⟨S1x768x3072, .f32⟩
  | 18 => ⟨S768x3072, .f32⟩
  | 19 => ⟨S1x4x1536, .f32⟩
  | 20 => ⟨S4x1536, .f32⟩
  | 21 => ⟨S1x1x1536, .f32⟩
  | 22 => ⟨S1x1536, .f32⟩
  | 23 => ⟨S1x1536x80, .f32⟩
  | 24 => ⟨S1536x80, .f32⟩
  | 25 => ⟨S1x48x1536, .f32⟩
  | 26 => ⟨S48x1536, .f32⟩
  | 27 => ⟨S1x1x1536, .f32⟩
  | 28 => ⟨S1x1536, .f32⟩
  | 29 => ⟨S1x16x1536, .f32⟩
  | 30 => ⟨S16x1536, .f32⟩
  | 31 => ⟨S1x1x1536, .f32⟩
  | 32 => ⟨S1x1536, .f32⟩
  | 33 => ⟨S1x1536x768, .f32⟩
  | 34 => ⟨S1536x768, .f32⟩
  | 35 => ⟨S8x196x768, .f32⟩
  | 36 => ⟨S1x768x3072, .f32⟩
  | 37 => ⟨S768x3072, .f32⟩
  | 38 => ⟨S1x4x1536, .f32⟩
  | 39 => ⟨S4x1536, .f32⟩
  | 40 => ⟨S1x1x1536, .f32⟩
  | 41 => ⟨S1x1536, .f32⟩
  | 42 => ⟨S1x1536x80, .f32⟩
  | 43 => ⟨S1536x80, .f32⟩
  | 44 => ⟨S1x48x1536, .f32⟩
  | 45 => ⟨S48x1536, .f32⟩
  | 46 => ⟨S1x1x1536, .f32⟩
  | 47 => ⟨S1x1536, .f32⟩
  | 48 => ⟨S1x16x1536, .f32⟩
  | 49 => ⟨S16x1536, .f32⟩
  | 50 => ⟨S1x1x1536, .f32⟩
  | 51 => ⟨S1x1536, .f32⟩
  | 52 => ⟨S1x1536x768, .f32⟩
  | 53 => ⟨S1536x768, .f32⟩
  | 54 => ⟨S8x196x768, .f32⟩
  | 55 => ⟨S1x768x3072, .f32⟩
  | 56 => ⟨S768x3072, .f32⟩
  | 57 => ⟨S1x4x1536, .f32⟩
  | 58 => ⟨S4x1536, .f32⟩
  | 59 => ⟨S1x1x1536, .f32⟩
  | 60 => ⟨S1x1536, .f32⟩
  | 61 => ⟨S1x1536x80, .f32⟩
  | 62 => ⟨S1536x80, .f32⟩
  | 63 => ⟨S1x48x1536, .f32⟩
  | 64 => ⟨S48x1536, .f32⟩
  | 65 => ⟨S1x1x1536, .f32⟩
  | 66 => ⟨S1x1536, .f32⟩
  | 67 => ⟨S1x16x1536, .f32⟩
  | 68 => ⟨S16x1536, .f32⟩
  | 69 => ⟨S1x1x1536, .f32⟩
  | 70 => ⟨S1x1536, .f32⟩
  | 71 => ⟨S1x1536x768, .f32⟩
  | 72 => ⟨S1536x768, .f32⟩
  | 73 => ⟨S8x196x768, .f32⟩
  | 74 => ⟨S1x768x3072, .f32⟩
  | 75 => ⟨S768x3072, .f32⟩
  | 76 => ⟨S1x4x1536, .f32⟩
  | 77 => ⟨S4x1536, .f32⟩
  | 78 => ⟨S1x1x1536, .f32⟩
  | 79 => ⟨S1x1536, .f32⟩
  | 80 => ⟨S1x1536x80, .f32⟩
  | 81 => ⟨S1536x80, .f32⟩
  | 82 => ⟨S1x48x1536, .f32⟩
  | 83 => ⟨S48x1536, .f32⟩
  | 84 => ⟨S1x1x1536, .f32⟩
  | 85 => ⟨S1x1536, .f32⟩
  | 86 => ⟨S1x16x1536, .f32⟩
  | 87 => ⟨S16x1536, .f32⟩
  | 88 => ⟨S1x1x1536, .f32⟩
  | 89 => ⟨S1x1536, .f32⟩
  | 90 => ⟨S1x1536x768, .f32⟩
  | 91 => ⟨S1536x768, .f32⟩
  | 92 => ⟨S8x196x768, .f32⟩
  | 93 => ⟨S1x768x3072, .f32⟩
  | 94 => ⟨S768x3072, .f32⟩
  | 95 => ⟨S1x4x1536, .f32⟩
  | 96 => ⟨S4x1536, .f32⟩
  | 97 => ⟨S1x1x1536, .f32⟩
  | 98 => ⟨S1x1536, .f32⟩
  | 99 => ⟨S1x1536x80, .f32⟩
  | 100 => ⟨S1536x80, .f32⟩
  | 101 => ⟨S1x48x1536, .f32⟩
  | 102 => ⟨S48x1536, .f32⟩
  | 103 => ⟨S1x1x1536, .f32⟩
  | 104 => ⟨S1x1536, .f32⟩
  | 105 => ⟨S1x16x1536, .f32⟩
  | 106 => ⟨S16x1536, .f32⟩
  | 107 => ⟨S1x1x1536, .f32⟩
  | 108 => ⟨S1x1536, .f32⟩
  | 109 => ⟨S1x1536x768, .f32⟩
  | 110 => ⟨S1536x768, .f32⟩
  | 111 => ⟨S8x196x768, .f32⟩
  | 112 => ⟨S1x768x3072, .f32⟩
  | 113 => ⟨S768x3072, .f32⟩
  | 114 => ⟨S1x4x1536, .f32⟩
  | 115 => ⟨S4x1536, .f32⟩
  | 116 => ⟨S1x1x1536, .f32⟩
  | 117 => ⟨S1x1536, .f32⟩
  | 118 => ⟨S1x1536x80, .f32⟩
  | 119 => ⟨S1536x80, .f32⟩
  | 120 => ⟨S1x48x1536, .f32⟩
  | 121 => ⟨S48x1536, .f32⟩
  | 122 => ⟨S1x1x1536, .f32⟩
  | 123 => ⟨S1x1536, .f32⟩
  | 124 => ⟨S1x16x1536, .f32⟩
  | 125 => ⟨S16x1536, .f32⟩
  | 126 => ⟨S1x1x1536, .f32⟩
  | 127 => ⟨S1x1536, .f32⟩
  | _ => ⟨S8x3x224x224, .f32⟩

abbrev hbmTy0_2 (i : Nat) : BufTy := match i % 128 with
  | 0 => ⟨S1x1536x768, .f32⟩
  | 1 => ⟨S1536x768, .f32⟩
  | 2 => ⟨S8x196x768, .f32⟩
  | 3 => ⟨S1x768, .f32⟩
  | 4 => ⟨S1x768, .f32⟩
  | 5 => ⟨S8x196x768, .f32⟩
  | _ => ⟨S8x3x224x224, .f32⟩

abbrev hbmTy (i : Nat) : BufTy := match i / 128 with
  | 0 => hbmTy0_0 i
  | 1 => hbmTy0_1 i
  | 2 => hbmTy0_2 i
  | _ => ⟨S8x3x224x224, .f32⟩

abbrev vmemTy0_0 (i : Nat) : BufTy := match i % 128 with
  | 0 => ⟨S1x196x768, .f32⟩
  | 1 => ⟨S1x196x768, .f32⟩
  | 2 => ⟨S768x768, .f32⟩
  | 3 => ⟨S1x768, .f32⟩
  | 4 => ⟨S1x196x768, .f32⟩
  | 5 => ⟨S1x196x768, .f32⟩
  | 6 => ⟨S1x196x768, .f32⟩
  | 7 => ⟨S1x196x768, .f32⟩
  | 8 => ⟨S1x196x768, .f32⟩
  | 9 => ⟨S768x3072, .f32⟩
  | 10 => ⟨S4x1536, .f32⟩
  | 11 => ⟨S1x1536, .f32⟩
  | 12 => ⟨S1536x80, .f32⟩
  | 13 => ⟨S48x1536, .f32⟩
  | 14 => ⟨S1x1536, .f32⟩
  | 15 => ⟨S16x1536, .f32⟩
  | 16 => ⟨S1x1536, .f32⟩
  | 17 => ⟨S1536x768, .f32⟩
  | 18 => ⟨S1x196x768, .f32⟩
  | 19 => ⟨S1x196x768, .f32⟩
  | 20 => ⟨S25x8x1536, .f32⟩
  | 21 => ⟨S25x8x1536, .f32⟩
  | 22 => ⟨S25x8x16, .f32⟩
  | 23 => ⟨S25x8x16, .f32⟩
  | 24 => ⟨S25x8x1536, .f32⟩
  | 25 => ⟨S1x196x768, .f32⟩
  | 26 => ⟨S1x196x768, .f32⟩
  | 27 => ⟨S768x3072, .f32⟩
  | 28 => ⟨S4x1536, .f32⟩
  | 29 => ⟨S1x1536, .f32⟩
  | 30 => ⟨S1536x80, .f32⟩
  | 31 => ⟨S48x1536, .f32⟩
  | 32 => ⟨S1x1536, .f32⟩
  | 33 => ⟨S16x1536, .f32⟩
  | 34 => ⟨S1x1536, .f32⟩
  | 35 => ⟨S1536x768, .f32⟩
  | 36 => ⟨S1x196x768, .f32⟩
  | 37 => ⟨S1x196x768, .f32⟩
  | 38 => ⟨S25x8x1536, .f32⟩
  | 39 => ⟨S25x8x1536, .f32⟩
  | 40 => ⟨S25x8x16, .f32⟩
  | 41 => ⟨S25x8x16, .f32⟩
  | 42 => ⟨S25x8x1536, .f32⟩
  | 43 => ⟨S1x196x768, .f32⟩
  | 44 => ⟨S1x196x768, .f32⟩
  | 45 => ⟨S768x3072, .f32⟩
  | 46 => ⟨S4x1536, .f32⟩
  | 47 => ⟨S1x1536, .f32⟩
  | 48 => ⟨S1536x80, .f32⟩
  | 49 => ⟨S48x1536, .f32⟩
  | 50 => ⟨S1x1536, .f32⟩
  | 51 => ⟨S16x1536, .f32⟩
  | 52 => ⟨S1x1536, .f32⟩
  | 53 => ⟨S1536x768, .f32⟩
  | 54 => ⟨S1x196x768, .f32⟩
  | 55 => ⟨S1x196x768, .f32⟩
  | 56 => ⟨S25x8x1536, .f32⟩
  | 57 => ⟨S25x8x1536, .f32⟩
  | 58 => ⟨S25x8x16, .f32⟩
  | 59 => ⟨S25x8x16, .f32⟩
  | 60 => ⟨S25x8x1536, .f32⟩
  | 61 => ⟨S1x196x768, .f32⟩
  | 62 => ⟨S1x196x768, .f32⟩
  | 63 => ⟨S768x3072, .f32⟩
  | 64 => ⟨S4x1536, .f32⟩
  | 65 => ⟨S1x1536, .f32⟩
  | 66 => ⟨S1536x80, .f32⟩
  | 67 => ⟨S48x1536, .f32⟩
  | 68 => ⟨S1x1536, .f32⟩
  | 69 => ⟨S16x1536, .f32⟩
  | 70 => ⟨S1x1536, .f32⟩
  | 71 => ⟨S1536x768, .f32⟩
  | 72 => ⟨S1x196x768, .f32⟩
  | 73 => ⟨S1x196x768, .f32⟩
  | 74 => ⟨S25x8x1536, .f32⟩
  | 75 => ⟨S25x8x1536, .f32⟩
  | 76 => ⟨S25x8x16, .f32⟩
  | 77 => ⟨S25x8x16, .f32⟩
  | 78 => ⟨S25x8x1536, .f32⟩
  | 79 => ⟨S1x196x768, .f32⟩
  | 80 => ⟨S1x196x768, .f32⟩
  | 81 => ⟨S768x3072, .f32⟩
  | 82 => ⟨S4x1536, .f32⟩
  | 83 => ⟨S1x1536, .f32⟩
  | 84 => ⟨S1536x80, .f32⟩
  | 85 => ⟨S48x1536, .f32⟩
  | 86 => ⟨S1x1536, .f32⟩
  | 87 => ⟨S16x1536, .f32⟩
  | 88 => ⟨S1x1536, .f32⟩
  | 89 => ⟨S1536x768, .f32⟩
  | 90 => ⟨S1x196x768, .f32⟩
  | 91 => ⟨S1x196x768, .f32⟩
  | 92 => ⟨S25x8x1536, .f32⟩
  | 93 => ⟨S25x8x1536, .f32⟩
  | 94 => ⟨S25x8x16, .f32⟩
  | 95 => ⟨S25x8x16, .f32⟩
  | 96 => ⟨S25x8x1536, .f32⟩
  | 97 => ⟨S1x196x768, .f32⟩
  | 98 => ⟨S1x196x768, .f32⟩
  | 99 => ⟨S768x3072, .f32⟩
  | 100 => ⟨S4x1536, .f32⟩
  | 101 => ⟨S1x1536, .f32⟩
  | 102 => ⟨S1536x80, .f32⟩
  | 103 => ⟨S48x1536, .f32⟩
  | 104 => ⟨S1x1536, .f32⟩
  | 105 => ⟨S16x1536, .f32⟩
  | 106 => ⟨S1x1536, .f32⟩
  | 107 => ⟨S1536x768, .f32⟩
  | 108 => ⟨S1x196x768, .f32⟩
  | 109 => ⟨S1x196x768, .f32⟩
  | 110 => ⟨S25x8x1536, .f32⟩
  | 111 => ⟨S25x8x1536, .f32⟩
  | 112 => ⟨S25x8x16, .f32⟩
  | 113 => ⟨S25x8x16, .f32⟩
  | 114 => ⟨S25x8x1536, .f32⟩
  | 115 => ⟨S1x196x768, .f32⟩
  | 116 => ⟨S1x196x768, .f32⟩
  | 117 => ⟨S768x3072, .f32⟩
  | 118 => ⟨S4x1536, .f32⟩
  | 119 => ⟨S1x1536, .f32⟩
  | 120 => ⟨S1536x80, .f32⟩
  | 121 => ⟨S48x1536, .f32⟩
  | 122 => ⟨S1x1536, .f32⟩
  | 123 => ⟨S16x1536, .f32⟩
  | 124 => ⟨S1x1536, .f32⟩
  | 125 => ⟨S1536x768, .f32⟩
  | 126 => ⟨S1x196x768, .f32⟩
  | 127 => ⟨S1x196x768, .f32⟩
  | _ => ⟨S8x3x224x224, .f32⟩

abbrev vmemTy0_1 (i : Nat) : BufTy := match i % 128 with
  | 0 => ⟨S25x8x1536, .f32⟩
  | 1 => ⟨S25x8x1536, .f32⟩
  | 2 => ⟨S25x8x16, .f32⟩
  | 3 => ⟨S25x8x16, .f32⟩
  | 4 => ⟨S25x8x1536, .f32⟩
  | 5 => ⟨S1x196x768, .f32⟩
  | 6 => ⟨S1x196x768, .f32⟩
  | 7 => ⟨S768x3072, .f32⟩
  | 8 => ⟨S4x1536, .f32⟩
  | 9 => ⟨S1x1536, .f32⟩
  | 10 => ⟨S1536x80, .f32⟩
  | 11 => ⟨S48x1536, .f32⟩
  | 12 => ⟨S1x1536, .f32⟩
  | 13 => ⟨S16x1536, .f32⟩
  | 14 => ⟨S1x1536, .f32⟩
  | 15 => ⟨S1536x768, .f32⟩
  | 16 => ⟨S1x196x768, .f32⟩
  | 17 => ⟨S1x196x768, .f32⟩
  | 18 => ⟨S25x8x1536, .f32⟩
  | 19 => ⟨S25x8x1536, .f32⟩
  | 20 => ⟨S25x8x16, .f32⟩
  | 21 => ⟨S25x8x16, .f32⟩
  | 22 => ⟨S25x8x1536, .f32⟩
  | 23 => ⟨S1x196x768, .f32⟩
  | 24 => ⟨S1x196x768, .f32⟩
  | 25 => ⟨S768x3072, .f32⟩
  | 26 => ⟨S4x1536, .f32⟩
  | 27 => ⟨S1x1536, .f32⟩
  | 28 => ⟨S1536x80, .f32⟩
  | 29 => ⟨S48x1536, .f32⟩
  | 30 => ⟨S1x1536, .f32⟩
  | 31 => ⟨S16x1536, .f32⟩
  | 32 => ⟨S1x1536, .f32⟩
  | 33 => ⟨S1536x768, .f32⟩
  | 34 => ⟨S1x196x768, .f32⟩
  | 35 => ⟨S1x196x768, .f32⟩
  | 36 => ⟨S25x8x1536, .f32⟩
  | 37 => ⟨S25x8x1536, .f32⟩
  | 38 => ⟨S25x8x16, .f32⟩
  | 39 => ⟨S25x8x16, .f32⟩
  | 40 => ⟨S25x8x1536, .f32⟩
  | 41 => ⟨S1x196x768, .f32⟩
  | 42 => ⟨S1x196x768, .f32⟩
  | 43 => ⟨S768x3072, .f32⟩
  | 44 => ⟨S4x1536, .f32⟩
  | 45 => ⟨S1x1536, .f32⟩
  | 46 => ⟨S1536x80, .f32⟩
  | 47 => ⟨S48x1536, .f32⟩
  | 48 => ⟨S1x1536, .f32⟩
  | 49 => ⟨S16x1536, .f32⟩
  | 50 => ⟨S1x1536, .f32⟩
  | 51 => ⟨S1536x768, .f32⟩
  | 52 => ⟨S1x196x768, .f32⟩
  | 53 => ⟨S1x196x768, .f32⟩
  | 54 => ⟨S25x8x1536, .f32⟩
  | 55 => ⟨S25x8x1536, .f32⟩
  | 56 => ⟨S25x8x16, .f32⟩
  | 57 => ⟨S25x8x16, .f32⟩
  | 58 => ⟨S25x8x1536, .f32⟩
  | 59 => ⟨S1x196x768, .f32⟩
  | 60 => ⟨S1x196x768, .f32⟩
  | 61 => ⟨S768x3072, .f32⟩
  | 62 => ⟨S4x1536, .f32⟩
  | 63 => ⟨S1x1536, .f32⟩
  | 64 => ⟨S1536x80, .f32⟩
  | 65 => ⟨S48x1536, .f32⟩
  | 66 => ⟨S1x1536, .f32⟩
  | 67 => ⟨S16x1536, .f32⟩
  | 68 => ⟨S1x1536, .f32⟩
  | 69 => ⟨S1536x768, .f32⟩
  | 70 => ⟨S1x196x768, .f32⟩
  | 71 => ⟨S1x196x768, .f32⟩
  | 72 => ⟨S25x8x1536, .f32⟩
  | 73 => ⟨S25x8x1536, .f32⟩
  | 74 => ⟨S25x8x16, .f32⟩
  | 75 => ⟨S25x8x16, .f32⟩
  | 76 => ⟨S25x8x1536, .f32⟩
  | 77 => ⟨S1x196x768, .f32⟩
  | 78 => ⟨S1x196x768, .f32⟩
  | 79 => ⟨S768x3072, .f32⟩
  | 80 => ⟨S4x1536, .f32⟩
  | 81 => ⟨S1x1536, .f32⟩
  | 82 => ⟨S1536x80, .f32⟩
  | 83 => ⟨S48x1536, .f32⟩
  | 84 => ⟨S1x1536, .f32⟩
  | 85 => ⟨S16x1536, .f32⟩
  | 86 => ⟨S1x1536, .f32⟩
  | 87 => ⟨S1536x768, .f32⟩
  | 88 => ⟨S1x196x768, .f32⟩
  | 89 => ⟨S1x196x768, .f32⟩
  | 90 => ⟨S25x8x1536, .f32⟩
  | 91 => ⟨S25x8x1536, .f32⟩
  | 92 => ⟨S25x8x16, .f32⟩
  | 93 => ⟨S25x8x16, .f32⟩
  | 94 => ⟨S25x8x1536, .f32⟩
  | 95 => ⟨S1x196x768, .f32⟩
  | 96 => ⟨S1x196x768, .f32⟩
  | 97 => ⟨S1x768, .f32⟩
  | 98 => ⟨S1x768, .f32⟩
  | 99 => ⟨S1x196x768, .f32⟩
  | 100 => ⟨S1x196x768, .f32⟩
  | _ => ⟨S8x3x224x224, .f32⟩

abbrev vmemTy (i : Nat) : BufTy := match i / 128 with
  | 0 => vmemTy0_0 i
  | 1 => vmemTy0_1 i
  | _ => ⟨S8x3x224x224, .f32⟩

abbrev bufTy : (tb : Table) → Fin (tcTables nBuf tb) → BufTy
  | .hbm, ⟨i, _⟩ => hbmTy i
  | .local _ .vmem, ⟨i, _⟩ => vmemTy i
  | _, _ => ⟨S8x3x224x224, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 169 → Bool
  | ⟨i, _⟩ => dmaSemScopedAt i

abbrev sig : RefSig :=
  ofTc nBuf bufTy 0 169 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc2_scratch0 : Ref sig .tc := ⟨.vmem, 38, rfl⟩
abbrev cc2_scratch1 : Ref sig .tc := ⟨.vmem, 39, rfl⟩
abbrev cc2_scratch2 : Ref sig .tc := ⟨.vmem, 40, rfl⟩
abbrev cc2_scratch3 : Ref sig .tc := ⟨.vmem, 41, rfl⟩
abbrev cc2_scratch4 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg10_1 : Ref sig .tc := ⟨.vmem, 55, rfl⟩
abbrev cc3_scratch0 : Ref sig .tc := ⟨.vmem, 56, rfl⟩
abbrev cc3_scratch1 : Ref sig .tc := ⟨.vmem, 57, rfl⟩
abbrev cc3_scratch2 : Ref sig .tc := ⟨.vmem, 58, rfl⟩
abbrev cc3_scratch3 : Ref sig .tc := ⟨.vmem, 59, rfl⟩
abbrev cc3_scratch4 : Ref sig .tc := ⟨.vmem, 60, rfl⟩
abbrev cc4_stg0_0 : Ref sig .tc := ⟨.vmem, 61, rfl⟩
abbrev cc4_stg0_1 : Ref sig .tc := ⟨.vmem, 62, rfl⟩
abbrev cc4_stg1_0 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg7_0 : Ref sig .tc := ⟨.vmem, 69, rfl⟩
abbrev cc4_stg8_0 : Ref sig .tc := ⟨.vmem, 70, rfl⟩
abbrev cc4_stg9_0 : Ref sig .tc := ⟨.vmem, 71, rfl⟩
abbrev cc4_stg10_0 : Ref sig .tc := ⟨.vmem, 72, rfl⟩
abbrev cc4_stg10_1 : Ref sig .tc := ⟨.vmem, 73, rfl⟩
abbrev cc4_scratch0 : Ref sig .tc := ⟨.vmem, 74, rfl⟩
abbrev cc4_scratch1 : Ref sig .tc := ⟨.vmem, 75, rfl⟩
abbrev cc4_scratch2 : Ref sig .tc := ⟨.vmem, 76, rfl⟩
abbrev cc4_scratch3 : Ref sig .tc := ⟨.vmem, 77, rfl⟩
abbrev cc4_scratch4 : Ref sig .tc := ⟨.vmem, 78, rfl⟩
abbrev cc5_stg0_0 : Ref sig .tc := ⟨.vmem, 79, rfl⟩
abbrev cc5_stg0_1 : Ref sig .tc := ⟨.vmem, 80, rfl⟩
abbrev cc5_stg1_0 : Ref sig .tc := ⟨.vmem, 81, rfl⟩
abbrev cc5_stg2_0 : Ref sig .tc := ⟨.vmem, 82, rfl⟩
abbrev cc5_stg3_0 : Ref sig .tc := ⟨.vmem, 83, rfl⟩
abbrev cc5_stg4_0 : Ref sig .tc := ⟨.vmem, 84, rfl⟩
abbrev cc5_stg5_0 : Ref sig .tc := ⟨.vmem, 85, rfl⟩
abbrev cc5_stg6_0 : Ref sig .tc := ⟨.vmem, 86, rfl⟩
abbrev cc5_stg7_0 : Ref sig .tc := ⟨.vmem, 87, rfl⟩
abbrev cc5_stg8_0 : Ref sig .tc := ⟨.vmem, 88, rfl⟩
abbrev cc5_stg9_0 : Ref sig .tc := ⟨.vmem, 89, rfl⟩
abbrev cc5_stg10_0 : Ref sig .tc := ⟨.vmem, 90, rfl⟩
abbrev cc5_stg10_1 : Ref sig .tc := ⟨.vmem, 91, rfl⟩
abbrev cc5_scratch0 : Ref sig .tc := ⟨.vmem, 92, rfl⟩
abbrev cc5_scratch1 : Ref sig .tc := ⟨.vmem, 93, rfl⟩
abbrev cc5_scratch2 : Ref sig .tc := ⟨.vmem, 94, rfl⟩
abbrev cc5_scratch3 : Ref sig .tc := ⟨.vmem, 95, rfl⟩
abbrev cc5_scratch4 : Ref sig .tc := ⟨.vmem, 96, rfl⟩
abbrev cc6_stg0_0 : Ref sig .tc := ⟨.vmem, 97, rfl⟩
abbrev cc6_stg0_1 : Ref sig .tc := ⟨.vmem, 98, rfl⟩
abbrev cc6_stg1_0 : Ref sig .tc := ⟨.vmem, 99, rfl⟩
abbrev cc6_stg2_0 : Ref sig .tc := ⟨.vmem, 100, rfl⟩
abbrev cc6_stg3_0 : Ref sig .tc := ⟨.vmem, 101, rfl⟩
abbrev cc6_stg4_0 : Ref sig .tc := ⟨.vmem, 102, rfl⟩
abbrev cc6_stg5_0 : Ref sig .tc := ⟨.vmem, 103, rfl⟩
abbrev cc6_stg6_0 : Ref sig .tc := ⟨.vmem, 104, rfl⟩
abbrev cc6_stg7_0 : Ref sig .tc := ⟨.vmem, 105, rfl⟩
abbrev cc6_stg8_0 : Ref sig .tc := ⟨.vmem, 106, rfl⟩
abbrev cc6_stg9_0 : Ref sig .tc := ⟨.vmem, 107, rfl⟩
abbrev cc6_stg10_0 : Ref sig .tc := ⟨.vmem, 108, rfl⟩
abbrev cc6_stg10_1 : Ref sig .tc := ⟨.vmem, 109, rfl⟩
abbrev cc6_scratch0 : Ref sig .tc := ⟨.vmem, 110, rfl⟩
abbrev cc6_scratch1 : Ref sig .tc := ⟨.vmem, 111, rfl⟩
abbrev cc6_scratch2 : Ref sig .tc := ⟨.vmem, 112, rfl⟩
abbrev cc6_scratch3 : Ref sig .tc := ⟨.vmem, 113, rfl⟩
abbrev cc6_scratch4 : Ref sig .tc := ⟨.vmem, 114, rfl⟩
abbrev cc7_stg0_0 : Ref sig .tc := ⟨.vmem, 115, rfl⟩
abbrev cc7_stg0_1 : Ref sig .tc := ⟨.vmem, 116, rfl⟩
abbrev cc7_stg1_0 : Ref sig .tc := ⟨.vmem, 117, rfl⟩
abbrev cc7_stg2_0 : Ref sig .tc := ⟨.vmem, 118, rfl⟩
abbrev cc7_stg3_0 : Ref sig .tc := ⟨.vmem, 119, rfl⟩
abbrev cc7_stg4_0 : Ref sig .tc := ⟨.vmem, 120, rfl⟩
abbrev cc7_stg5_0 : Ref sig .tc := ⟨.vmem, 121, rfl⟩
abbrev cc7_stg6_0 : Ref sig .tc := ⟨.vmem, 122, rfl⟩
abbrev cc7_stg7_0 : Ref sig .tc := ⟨.vmem, 123, rfl⟩
abbrev cc7_stg8_0 : Ref sig .tc := ⟨.vmem, 124, rfl⟩
abbrev cc7_stg9_0 : Ref sig .tc := ⟨.vmem, 125, rfl⟩
abbrev cc7_stg10_0 : Ref sig .tc := ⟨.vmem, 126, rfl⟩
abbrev cc7_stg10_1 : Ref sig .tc := ⟨.vmem, 127, rfl⟩
abbrev cc7_scratch0 : Ref sig .tc := ⟨.vmem, 128, rfl⟩
abbrev cc7_scratch1 : Ref sig .tc := ⟨.vmem, 129, rfl⟩
abbrev cc7_scratch2 : Ref sig .tc := ⟨.vmem, 130, rfl⟩
abbrev cc7_scratch3 : Ref sig .tc := ⟨.vmem, 131, rfl⟩
abbrev cc7_scratch4 : Ref sig .tc := ⟨.vmem, 132, rfl⟩
abbrev cc8_stg0_0 : Ref sig .tc := ⟨.vmem, 133, rfl⟩
abbrev cc8_stg0_1 : Ref sig .tc := ⟨.vmem, 134, rfl⟩
abbrev cc8_stg1_0 : Ref sig .tc := ⟨.vmem, 135, rfl⟩
abbrev cc8_stg2_0 : Ref sig .tc := ⟨.vmem, 136, rfl⟩
abbrev cc8_stg3_0 : Ref sig .tc := ⟨.vmem, 137, rfl⟩
abbrev cc8_stg4_0 : Ref sig .tc := ⟨.vmem, 138, rfl⟩
abbrev cc8_stg5_0 : Ref sig .tc := ⟨.vmem, 139, rfl⟩
abbrev cc8_stg6_0 : Ref sig .tc := ⟨.vmem, 140, rfl⟩
abbrev cc8_stg7_0 : Ref sig .tc := ⟨.vmem, 141, rfl⟩
abbrev cc8_stg8_0 : Ref sig .tc := ⟨.vmem, 142, rfl⟩
abbrev cc8_stg9_0 : Ref sig .tc := ⟨.vmem, 143, rfl⟩
abbrev cc8_stg10_0 : Ref sig .tc := ⟨.vmem, 144, rfl⟩
abbrev cc8_stg10_1 : Ref sig .tc := ⟨.vmem, 145, rfl⟩
abbrev cc8_scratch0 : Ref sig .tc := ⟨.vmem, 146, rfl⟩
abbrev cc8_scratch1 : Ref sig .tc := ⟨.vmem, 147, rfl⟩
abbrev cc8_scratch2 : Ref sig .tc := ⟨.vmem, 148, rfl⟩
abbrev cc8_scratch3 : Ref sig .tc := ⟨.vmem, 149, rfl⟩
abbrev cc8_scratch4 : Ref sig .tc := ⟨.vmem, 150, rfl⟩
abbrev cc9_stg0_0 : Ref sig .tc := ⟨.vmem, 151, rfl⟩
abbrev cc9_stg0_1 : Ref sig .tc := ⟨.vmem, 152, rfl⟩
abbrev cc9_stg1_0 : Ref sig .tc := ⟨.vmem, 153, rfl⟩
abbrev cc9_stg2_0 : Ref sig .tc := ⟨.vmem, 154, rfl⟩
abbrev cc9_stg3_0 : Ref sig .tc := ⟨.vmem, 155, rfl⟩
abbrev cc9_stg4_0 : Ref sig .tc := ⟨.vmem, 156, rfl⟩
abbrev cc9_stg5_0 : Ref sig .tc := ⟨.vmem, 157, rfl⟩
abbrev cc9_stg6_0 : Ref sig .tc := ⟨.vmem, 158, rfl⟩
abbrev cc9_stg7_0 : Ref sig .tc := ⟨.vmem, 159, rfl⟩
abbrev cc9_stg8_0 : Ref sig .tc := ⟨.vmem, 160, rfl⟩
abbrev cc9_stg9_0 : Ref sig .tc := ⟨.vmem, 161, rfl⟩
abbrev cc9_stg10_0 : Ref sig .tc := ⟨.vmem, 162, rfl⟩
abbrev cc9_stg10_1 : Ref sig .tc := ⟨.vmem, 163, rfl⟩
abbrev cc9_scratch0 : Ref sig .tc := ⟨.vmem, 164, rfl⟩
abbrev cc9_scratch1 : Ref sig .tc := ⟨.vmem, 165, rfl⟩
abbrev cc9_scratch2 : Ref sig .tc := ⟨.vmem, 166, rfl⟩
abbrev cc9_scratch3 : Ref sig .tc := ⟨.vmem, 167, rfl⟩
abbrev cc9_scratch4 : Ref sig .tc := ⟨.vmem, 168, rfl⟩
abbrev cc10_stg0_0 : Ref sig .tc := ⟨.vmem, 169, rfl⟩
abbrev cc10_stg0_1 : Ref sig .tc := ⟨.vmem, 170, rfl⟩
abbrev cc10_stg1_0 : Ref sig .tc := ⟨.vmem, 171, rfl⟩
abbrev cc10_stg2_0 : Ref sig .tc := ⟨.vmem, 172, rfl⟩
abbrev cc10_stg3_0 : Ref sig .tc := ⟨.vmem, 173, rfl⟩
abbrev cc10_stg4_0 : Ref sig .tc := ⟨.vmem, 174, rfl⟩
abbrev cc10_stg5_0 : Ref sig .tc := ⟨.vmem, 175, rfl⟩
abbrev cc10_stg6_0 : Ref sig .tc := ⟨.vmem, 176, rfl⟩
abbrev cc10_stg7_0 : Ref sig .tc := ⟨.vmem, 177, rfl⟩
abbrev cc10_stg8_0 : Ref sig .tc := ⟨.vmem, 178, rfl⟩
abbrev cc10_stg9_0 : Ref sig .tc := ⟨.vmem, 179, rfl⟩
abbrev cc10_stg10_0 : Ref sig .tc := ⟨.vmem, 180, rfl⟩
abbrev cc10_stg10_1 : Ref sig .tc := ⟨.vmem, 181, rfl⟩
abbrev cc10_scratch0 : Ref sig .tc := ⟨.vmem, 182, rfl⟩
abbrev cc10_scratch1 : Ref sig .tc := ⟨.vmem, 183, rfl⟩
abbrev cc10_scratch2 : Ref sig .tc := ⟨.vmem, 184, rfl⟩
abbrev cc10_scratch3 : Ref sig .tc := ⟨.vmem, 185, rfl⟩
abbrev cc10_scratch4 : Ref sig .tc := ⟨.vmem, 186, rfl⟩
abbrev cc11_stg0_0 : Ref sig .tc := ⟨.vmem, 187, rfl⟩
abbrev cc11_stg0_1 : Ref sig .tc := ⟨.vmem, 188, rfl⟩
abbrev cc11_stg1_0 : Ref sig .tc := ⟨.vmem, 189, rfl⟩
abbrev cc11_stg2_0 : Ref sig .tc := ⟨.vmem, 190, rfl⟩
abbrev cc11_stg3_0 : Ref sig .tc := ⟨.vmem, 191, rfl⟩
abbrev cc11_stg4_0 : Ref sig .tc := ⟨.vmem, 192, rfl⟩
abbrev cc11_stg5_0 : Ref sig .tc := ⟨.vmem, 193, rfl⟩
abbrev cc11_stg6_0 : Ref sig .tc := ⟨.vmem, 194, rfl⟩
abbrev cc11_stg7_0 : Ref sig .tc := ⟨.vmem, 195, rfl⟩
abbrev cc11_stg8_0 : Ref sig .tc := ⟨.vmem, 196, rfl⟩
abbrev cc11_stg9_0 : Ref sig .tc := ⟨.vmem, 197, rfl⟩
abbrev cc11_stg10_0 : Ref sig .tc := ⟨.vmem, 198, rfl⟩
abbrev cc11_stg10_1 : Ref sig .tc := ⟨.vmem, 199, rfl⟩
abbrev cc11_scratch0 : Ref sig .tc := ⟨.vmem, 200, rfl⟩
abbrev cc11_scratch1 : Ref sig .tc := ⟨.vmem, 201, rfl⟩
abbrev cc11_scratch2 : Ref sig .tc := ⟨.vmem, 202, rfl⟩
abbrev cc11_scratch3 : Ref sig .tc := ⟨.vmem, 203, rfl⟩
abbrev cc11_scratch4 : Ref sig .tc := ⟨.vmem, 204, rfl⟩
abbrev cc12_stg0_0 : Ref sig .tc := ⟨.vmem, 205, rfl⟩
abbrev cc12_stg0_1 : Ref sig .tc := ⟨.vmem, 206, rfl⟩
abbrev cc12_stg1_0 : Ref sig .tc := ⟨.vmem, 207, rfl⟩
abbrev cc12_stg2_0 : Ref sig .tc := ⟨.vmem, 208, rfl⟩
abbrev cc12_stg3_0 : Ref sig .tc := ⟨.vmem, 209, rfl⟩
abbrev cc12_stg4_0 : Ref sig .tc := ⟨.vmem, 210, rfl⟩
abbrev cc12_stg5_0 : Ref sig .tc := ⟨.vmem, 211, rfl⟩
abbrev cc12_stg6_0 : Ref sig .tc := ⟨.vmem, 212, rfl⟩
abbrev cc12_stg7_0 : Ref sig .tc := ⟨.vmem, 213, rfl⟩
abbrev cc12_stg8_0 : Ref sig .tc := ⟨.vmem, 214, rfl⟩
abbrev cc12_stg9_0 : Ref sig .tc := ⟨.vmem, 215, rfl⟩
abbrev cc12_stg10_0 : Ref sig .tc := ⟨.vmem, 216, rfl⟩
abbrev cc12_stg10_1 : Ref sig .tc := ⟨.vmem, 217, rfl⟩
abbrev cc12_scratch0 : Ref sig .tc := ⟨.vmem, 218, rfl⟩
abbrev cc12_scratch1 : Ref sig .tc := ⟨.vmem, 219, rfl⟩
abbrev cc12_scratch2 : Ref sig .tc := ⟨.vmem, 220, rfl⟩
abbrev cc12_scratch3 : Ref sig .tc := ⟨.vmem, 221, rfl⟩
abbrev cc12_scratch4 : Ref sig .tc := ⟨.vmem, 222, rfl⟩
abbrev cc13_stg0_0 : Ref sig .tc := ⟨.vmem, 223, rfl⟩
abbrev cc13_stg0_1 : Ref sig .tc := ⟨.vmem, 224, rfl⟩
abbrev cc13_stg1_0 : Ref sig .tc := ⟨.vmem, 225, rfl⟩
abbrev cc13_stg2_0 : Ref sig .tc := ⟨.vmem, 226, rfl⟩
abbrev cc13_stg3_0 : Ref sig .tc := ⟨.vmem, 227, rfl⟩
abbrev cc13_stg3_1 : Ref sig .tc := ⟨.vmem, 228, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem10_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem10_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem8_0 : DmaSem sig := 55
abbrev cc4_sem9_0 : DmaSem sig := 56
abbrev cc4_sem10_0 : DmaSem sig := 57
abbrev cc4_sem10_1 : DmaSem sig := 58
abbrev cc5_sem0_0 : DmaSem sig := 59
abbrev cc5_sem0_1 : DmaSem sig := 60
abbrev cc5_sem1_0 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem6_0 : DmaSem sig := 66
abbrev cc5_sem7_0 : DmaSem sig := 67
abbrev cc5_sem8_0 : DmaSem sig := 68
abbrev cc5_sem9_0 : DmaSem sig := 69
abbrev cc5_sem10_0 : DmaSem sig := 70
abbrev cc5_sem10_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem6_0 : DmaSem sig := 79
abbrev cc6_sem7_0 : DmaSem sig := 80
abbrev cc6_sem8_0 : DmaSem sig := 81
abbrev cc6_sem9_0 : DmaSem sig := 82
abbrev cc6_sem10_0 : DmaSem sig := 83
abbrev cc6_sem10_1 : DmaSem sig := 84
abbrev cc7_sem0_0 : DmaSem sig := 85
abbrev cc7_sem0_1 : DmaSem sig := 86
abbrev cc7_sem1_0 : DmaSem sig := 87
abbrev cc7_sem2_0 : DmaSem sig := 88
abbrev cc7_sem3_0 : DmaSem sig := 89
abbrev cc7_sem4_0 : DmaSem sig := 90
abbrev cc7_sem5_0 : DmaSem sig := 91
abbrev cc7_sem6_0 : DmaSem sig := 92
abbrev cc7_sem7_0 : DmaSem sig := 93
abbrev cc7_sem8_0 : DmaSem sig := 94
abbrev cc7_sem9_0 : DmaSem sig := 95
abbrev cc7_sem10_0 : DmaSem sig := 96
abbrev cc7_sem10_1 : DmaSem sig := 97
abbrev cc8_sem0_0 : DmaSem sig := 98
abbrev cc8_sem0_1 : DmaSem sig := 99
abbrev cc8_sem1_0 : DmaSem sig := 100
abbrev cc8_sem2_0 : DmaSem sig := 101
abbrev cc8_sem3_0 : DmaSem sig := 102
abbrev cc8_sem4_0 : DmaSem sig := 103
abbrev cc8_sem5_0 : DmaSem sig := 104
abbrev cc8_sem6_0 : DmaSem sig := 105
abbrev cc8_sem7_0 : DmaSem sig := 106
abbrev cc8_sem8_0 : DmaSem sig := 107
abbrev cc8_sem9_0 : DmaSem sig := 108
abbrev cc8_sem10_0 : DmaSem sig := 109
abbrev cc8_sem10_1 : DmaSem sig := 110
abbrev cc9_sem0_0 : DmaSem sig := 111
abbrev cc9_sem0_1 : DmaSem sig := 112
abbrev cc9_sem1_0 : DmaSem sig := 113
abbrev cc9_sem2_0 : DmaSem sig := 114
abbrev cc9_sem3_0 : DmaSem sig := 115
abbrev cc9_sem4_0 : DmaSem sig := 116
abbrev cc9_sem5_0 : DmaSem sig := 117
abbrev cc9_sem6_0 : DmaSem sig := 118
abbrev cc9_sem7_0 : DmaSem sig := 119
abbrev cc9_sem8_0 : DmaSem sig := 120
abbrev cc9_sem9_0 : DmaSem sig := 121
abbrev cc9_sem10_0 : DmaSem sig := 122
abbrev cc9_sem10_1 : DmaSem sig := 123
abbrev cc10_sem0_0 : DmaSem sig := 124
abbrev cc10_sem0_1 : DmaSem sig := 125
abbrev cc10_sem1_0 : DmaSem sig := 126
abbrev cc10_sem2_0 : DmaSem sig := 127
abbrev cc10_sem3_0 : DmaSem sig := 128
abbrev cc10_sem4_0 : DmaSem sig := 129
abbrev cc10_sem5_0 : DmaSem sig := 130
abbrev cc10_sem6_0 : DmaSem sig := 131
abbrev cc10_sem7_0 : DmaSem sig := 132
abbrev cc10_sem8_0 : DmaSem sig := 133
abbrev cc10_sem9_0 : DmaSem sig := 134
abbrev cc10_sem10_0 : DmaSem sig := 135
abbrev cc10_sem10_1 : DmaSem sig := 136
abbrev cc11_sem0_0 : DmaSem sig := 137
abbrev cc11_sem0_1 : DmaSem sig := 138
abbrev cc11_sem1_0 : DmaSem sig := 139
abbrev cc11_sem2_0 : DmaSem sig := 140
abbrev cc11_sem3_0 : DmaSem sig := 141
abbrev cc11_sem4_0 : DmaSem sig := 142
abbrev cc11_sem5_0 : DmaSem sig := 143
abbrev cc11_sem6_0 : DmaSem sig := 144
abbrev cc11_sem7_0 : DmaSem sig := 145
abbrev cc11_sem8_0 : DmaSem sig := 146
abbrev cc11_sem9_0 : DmaSem sig := 147
abbrev cc11_sem10_0 : DmaSem sig := 148
abbrev cc11_sem10_1 : DmaSem sig := 149
abbrev cc12_sem0_0 : DmaSem sig := 150
abbrev cc12_sem0_1 : DmaSem sig := 151
abbrev cc12_sem1_0 : DmaSem sig := 152
abbrev cc12_sem2_0 : DmaSem sig := 153
abbrev cc12_sem3_0 : DmaSem sig := 154
abbrev cc12_sem4_0 : DmaSem sig := 155
abbrev cc12_sem5_0 : DmaSem sig := 156
abbrev cc12_sem6_0 : DmaSem sig := 157
abbrev cc12_sem7_0 : DmaSem sig := 158
abbrev cc12_sem8_0 : DmaSem sig := 159
abbrev cc12_sem9_0 : DmaSem sig := 160
abbrev cc12_sem10_0 : DmaSem sig := 161
abbrev cc12_sem10_1 : DmaSem sig := 162
abbrev cc13_sem0_0 : DmaSem sig := 163
abbrev cc13_sem0_1 : DmaSem sig := 164
abbrev cc13_sem1_0 : DmaSem sig := 165
abbrev cc13_sem2_0 : DmaSem sig := 166
abbrev cc13_sem3_0 : DmaSem sig := 167
abbrev cc13_sem3_1 : DmaSem sig := 168

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x196x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x196x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k1_off1 (k1_t1 : Fin k1_t1_loop.trips) : Fin 3 → Nat :=
  let c0_i32_41 : BitVec 32 := 0#32
  let c1_i32 : BitVec 32 := 1#32
  let arg17 : BitVec 32 := Scf.iv c0_i32_41 c1_i32 k1_t1
  let v120 : Index := Scalar.indexCast arg17
  let c0_54 : Index := 0#32
  let c0_55 : Index := 0#32
  ![v120.toNat, 0, 0]
def k1_off2 (k1_t1 : Fin k1_t1_loop.trips) : Fin 3 → Nat :=
  let c0_i32_41 : BitVec 32 := 0#32
  let c1_i32 : BitVec 32 := 1#32
  let arg17 : BitVec 32 := Scf.iv c0_i32_41 c1_i32 k1_t1
  let v126 : Index := Scalar.indexCast arg17
  let c0_58 : Index := 0#32
  let c0_59 : Index := 0#32
  ![v126.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x196x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1536x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S48x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1536 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1536 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1536x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x196x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

@[reducible] def k2_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k2_off1 (k2_t1 : Fin k2_t1_loop.trips) : Fin 3 → Nat :=
  let c0_i32_41 : BitVec 32 := 0#32
  let c1_i32 : BitVec 32 := 1#32
  let arg17 : BitVec 32 := Scf.iv c0_i32_41 c1_i32 k2_t1
  let v120 : Index := Scalar.indexCast arg17
  let c0_54 : Index := 0#32
  let c0_55 : Index := 0#32
  ![v120.toNat, 0, 0]
def k2_off2 (k2_t1 : Fin k2_t1_loop.trips) : Fin 3 → Nat :=
  let c0_i32_41 : BitVec 32 := 0#32
  let c1_i32 : BitVec 32 := 1#32
  let arg17 : BitVec 32 := Scf.iv c0_i32_41 c1_i32 k2_t1
  let v126 : Index := Scalar.indexCast arg17
  let c0_58 : Index := 0#32
  let c0_59 : Index := 0#32
  ![v126.toNat, 0, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x196x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x3072 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x1536 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1536 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1536x80 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S48x1536 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1536 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x1536 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1536 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1536x768 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1x196x768 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![8], ![false]⟩

@[reducible] def k3_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k3_off1 (k3_t1 : Fin k3_t1_loop.trips) : Fin 3 → Nat :=
  let c0_i32_41 : BitVec 32 := 0#32
  let c1_i32 : BitVec 32 := 1#32
  let arg17 : BitVec 32 := Scf.iv c0_i32_41 c1_i32 k3_t1
  let v120 : Index := Scalar.indexCast arg17
  let c0_54 : Index := 0#32
  let c0_55 : Index := 0#32
  ![v120.toNat, 0, 0]
def k3_off2 (k3_t1 : Fin k3_t1_loop.trips) : Fin 3 → Nat :=
  let c0_i32_41 : BitVec 32 := 0#32
  let c1_i32 : BitVec 32 := 1#32
  let arg17 : BitVec 32 := Scf.iv c0_i32_41 c1_i32 k3_t1
  let v126 : Index := Scalar.indexCast arg17
  let c0_58 : Index := 0#32
  let c0_59 : Index := 0#32
  ![v126.toNat, 0, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x196x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x3072 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4x1536 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1536x80 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S48x1536 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1536 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x1536 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1536 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1536x768 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S1x196x768 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![8], ![false]⟩

@[reducible] def k4_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k4_off1 (k4_t1 : Fin k4_t1_loop.trips) : Fin 3 → Nat :=
  let c0_i32_41 : BitVec 32 := 0#32
  let c1_i32 : BitVec 32 := 1#32
  let arg17 : BitVec 32 := Scf.iv c0_i32_41 c1_i32 k4_t1
  let v120 : Index := Scalar.indexCast arg17
  let c0_54 : Index := 0#32
  let c0_55 : Index := 0#32
  ![v120.toNat, 0, 0]
def k4_off2 (k4_t1 : Fin k4_t1_loop.trips) : Fin 3 → Nat :=
  let c0_i32_41 : BitVec 32 := 0#32
  let c1_i32 : BitVec 32 := 1#32
  let arg17 : BitVec 32 := Scf.iv c0_i32_41 c1_i32 k4_t1
  let v126 : Index := Scalar.indexCast arg17
  let c0_58 : Index := 0#32
  let c0_59 : Index := 0#32
  ![v126.toNat, 0, 0]
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x196x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S768x3072 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4x1536 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1536 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1536x80 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S48x1536 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1536 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S16x1536 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1536 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1536x768 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S1x196x768 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![8], ![false]⟩

@[reducible] def k5_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k5_off1 (k5_t1 : Fin k5_t1_loop.trips) : Fin 3 → Nat :=
  let c0_i32_41 : BitVec 32 := 0#32
  let c1_i32 : BitVec 32 := 1#32
  let arg17 : BitVec 32 := Scf.iv c0_i32_41 c1_i32 k5_t1
  let v120 : Index := Scalar.indexCast arg17
  let c0_54 : Index := 0#32
  let c0_55 : Index := 0#32
  ![v120.toNat, 0, 0]
def k5_off2 (k5_t1 : Fin k5_t1_loop.trips) : Fin 3 → Nat :=
  let c0_i32_41 : BitVec 32 := 0#32
  let c1_i32 : BitVec 32 := 1#32
  let arg17 : BitVec 32 := Scf.iv c0_i32_41 c1_i32 k5_t1
  let v126 : Index := Scalar.indexCast arg17
  let c0_58 : Index := 0#32
  let c0_59 : Index := 0#32
  ![v126.toNat, 0, 0]
def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x196x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S768x3072 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S4x1536 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1536 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1536x80 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S48x1536 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1536 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S16x1536 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1536 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1536x768 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S1x196x768 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![8], ![false]⟩

@[reducible] def k6_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k6_off1 (k6_t1 : Fin k6_t1_loop.trips) : Fin 3 → Nat :=
  let c0_i32_41 : BitVec 32 := 0#32
  let c1_i32 : BitVec 32 := 1#32
  let arg17 : BitVec 32 := Scf.iv c0_i32_41 c1_i32 k6_t1
  let v120 : Index := Scalar.indexCast arg17
  let c0_54 : Index := 0#32
  let c0_55 : Index := 0#32
  ![v120.toNat, 0, 0]
def k6_off2 (k6_t1 : Fin k6_t1_loop.trips) : Fin 3 → Nat :=
  let c0_i32_41 : BitVec 32 := 0#32
  let c1_i32 : BitVec 32 := 1#32
  let arg17 : BitVec 32 := Scf.iv c0_i32_41 c1_i32 k6_t1
  let v126 : Index := Scalar.indexCast arg17
  let c0_58 : Index := 0#32
  let c0_59 : Index := 0#32
  ![v126.toNat, 0, 0]
def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x196x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S768x3072 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S4x1536 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1536 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1536x80 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S48x1536 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1536 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S16x1536 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1536 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1536x768 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S1x196x768 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![8], ![false]⟩

@[reducible] def k7_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k7_off1 (k7_t1 : Fin k7_t1_loop.trips) : Fin 3 → Nat :=
  let c0_i32_41 : BitVec 32 := 0#32
  let c1_i32 : BitVec 32 := 1#32
  let arg17 : BitVec 32 := Scf.iv c0_i32_41 c1_i32 k7_t1
  let v120 : Index := Scalar.indexCast arg17
  let c0_54 : Index := 0#32
  let c0_55 : Index := 0#32
  ![v120.toNat, 0, 0]
def k7_off2 (k7_t1 : Fin k7_t1_loop.trips) : Fin 3 → Nat :=
  let c0_i32_41 : BitVec 32 := 0#32
  let c1_i32 : BitVec 32 := 1#32
  let arg17 : BitVec 32 := Scf.iv c0_i32_41 c1_i32 k7_t1
  let v126 : Index := Scalar.indexCast arg17
  let c0_58 : Index := 0#32
  let c0_59 : Index := 0#32
  ![v126.toNat, 0, 0]
def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x196x768 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S768x3072 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S4x1536 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1536 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1536x80 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S48x1536 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1536 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S16x1536 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x1536 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1536x768 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S1x196x768 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![8], ![false]⟩

@[reducible] def k8_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k8_off1 (k8_t1 : Fin k8_t1_loop.trips) : Fin 3 → Nat :=
  let c0_i32_41 : BitVec 32 := 0#32
  let c1_i32 : BitVec 32 := 1#32
  let arg17 : BitVec 32 := Scf.iv c0_i32_41 c1_i32 k8_t1
  let v120 : Index := Scalar.indexCast arg17
  let c0_54 : Index := 0#32
  let c0_55 : Index := 0#32
  ![v120.toNat, 0, 0]
def k8_off2 (k8_t1 : Fin k8_t1_loop.trips) : Fin 3 → Nat :=
  let c0_i32_41 : BitVec 32 := 0#32
  let c1_i32 : BitVec 32 := 1#32
  let arg17 : BitVec 32 := Scf.iv c0_i32_41 c1_i32 k8_t1
  let v126 : Index := Scalar.indexCast arg17
  let c0_58 : Index := 0#32
  let c0_59 : Index := 0#32
  ![v126.toNat, 0, 0]
def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x196x768 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S768x3072 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S4x1536 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x1536 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1536x80 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S48x1536 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x1536 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S16x1536 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x1536 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1536x768 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S1x196x768 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev grid9 : Pipeline.Grid := ⟨1, ![8], ![false]⟩

@[reducible] def k9_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k9_off1 (k9_t1 : Fin k9_t1_loop.trips) : Fin 3 → Nat :=
  let c0_i32_41 : BitVec 32 := 0#32
  let c1_i32 : BitVec 32 := 1#32
  let arg17 : BitVec 32 := Scf.iv c0_i32_41 c1_i32 k9_t1
  let v120 : Index := Scalar.indexCast arg17
  let c0_54 : Index := 0#32
  let c0_55 : Index := 0#32
  ![v120.toNat, 0, 0]
def k9_off2 (k9_t1 : Fin k9_t1_loop.trips) : Fin 3 → Nat :=
  let c0_i32_41 : BitVec 32 := 0#32
  let c1_i32 : BitVec 32 := 1#32
  let arg17 : BitVec 32 := Scf.iv c0_i32_41 c1_i32 k9_t1
  let v126 : Index := Scalar.indexCast arg17
  let c0_58 : Index := 0#32
  let c0_59 : Index := 0#32
  ![v126.toNat, 0, 0]
def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x196x768 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S768x3072 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S4x1536 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1536 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1536x80 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S48x1536 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1536 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S16x1536 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x1536 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1536x768 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 2 → Memref sig .tc .vmem S1x196x768 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev grid10 : Pipeline.Grid := ⟨1, ![8], ![false]⟩

@[reducible] def k10_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k10_off1 (k10_t1 : Fin k10_t1_loop.trips) : Fin 3 → Nat :=
  let c0_i32_41 : BitVec 32 := 0#32
  let c1_i32 : BitVec 32 := 1#32
  let arg17 : BitVec 32 := Scf.iv c0_i32_41 c1_i32 k10_t1
  let v120 : Index := Scalar.indexCast arg17
  let c0_54 : Index := 0#32
  let c0_55 : Index := 0#32
  ![v120.toNat, 0, 0]
def k10_off2 (k10_t1 : Fin k10_t1_loop.trips) : Fin 3 → Nat :=
  let c0_i32_41 : BitVec 32 := 0#32
  let c1_i32 : BitVec 32 := 1#32
  let arg17 : BitVec 32 := Scf.iv c0_i32_41 c1_i32 k10_t1
  let v126 : Index := Scalar.indexCast arg17
  let c0_58 : Index := 0#32
  let c0_59 : Index := 0#32
  ![v126.toNat, 0, 0]
def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x196x768 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S768x3072 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S4x1536 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1536 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1536x80 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S48x1536 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1536 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S16x1536 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x1536 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1536x768 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 2 → Memref sig .tc .vmem S1x196x768 .f32 := fun | 0 => Memref.whole cc10_stg10_0 | 1 => Memref.whole cc10_stg10_1 | ⟨_ + 2, h⟩ => absurd h (Nat.not_lt.2 (Nat.le_add_left _ _))
abbrev sem10_10 : Fin 2 → DmaSem sig := fun | 0 => cc10_sem10_0 | 1 => cc10_sem10_1 | ⟨_ + 2, h⟩ => absurd h (Nat.not_lt.2 (Nat.le_add_left _ _))
abbrev reads10_10 : Fin grid10.rank → Bool := ![true]

abbrev grid11 : Pipeline.Grid := ⟨1, ![8], ![false]⟩

@[reducible] def k11_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k11_off1 (k11_t1 : Fin k11_t1_loop.trips) : Fin 3 → Nat :=
  let c0_i32_41 : BitVec 32 := 0#32
  let c1_i32 : BitVec 32 := 1#32
  let arg17 : BitVec 32 := Scf.iv c0_i32_41 c1_i32 k11_t1
  let v120 : Index := Scalar.indexCast arg17
  let c0_54 : Index := 0#32
  let c0_55 : Index := 0#32
  ![v120.toNat, 0, 0]
def k11_off2 (k11_t1 : Fin k11_t1_loop.trips) : Fin 3 → Nat :=
  let c0_i32_41 : BitVec 32 := 0#32
  let c1_i32 : BitVec 32 := 1#32
  let arg17 : BitVec 32 := Scf.iv c0_i32_41 c1_i32 k11_t1
  let v126 : Index := Scalar.indexCast arg17
  let c0_58 : Index := 0#32
  let c0_59 : Index := 0#32
  ![v126.toNat, 0, 0]
def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x196x768 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S768x3072 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S4x1536 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x1536 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1536x80 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S48x1536 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x1536 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S16x1536 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x1536 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S1536x768 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 2 → Memref sig .tc .vmem S1x196x768 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev grid12 : Pipeline.Grid := ⟨1, ![8], ![false]⟩

@[reducible] def k12_t1_loop : Scf.Loop 32 :=
  let c0_i32_41 : BitVec 32 := 0#32
  let c25_i32 : BitVec 32 := 25#32
  let v101 : BitVec 32 := Scalar.addi c0_i32_41 c25_i32
  let c1_i32 : BitVec 32 := 1#32
  ⟨c0_i32_41, v101, c1_i32⟩
def k12_off1 (k12_t1 : Fin k12_t1_loop.trips) : Fin 3 → Nat :=
  let c0_i32_41 : BitVec 32 := 0#32
  let c1_i32 : BitVec 32 := 1#32
  let arg17 : BitVec 32 := Scf.iv c0_i32_41 c1_i32 k12_t1
  let v120 : Index := Scalar.indexCast arg17
  let c0_54 : Index := 0#32
  let c0_55 : Index := 0#32
  ![v120.toNat, 0, 0]
def k12_off2 (k12_t1 : Fin k12_t1_loop.trips) : Fin 3 → Nat :=
  let c0_i32_41 : BitVec 32 := 0#32
  let c1_i32 : BitVec 32 := 1#32
  let arg17 : BitVec 32 := Scf.iv c0_i32_41 c1_i32 k12_t1
  let v126 : Index := Scalar.indexCast arg17
  let c0_58 : Index := 0#32
  let c0_59 : Index := 0#32
  ![v126.toNat, 0, 0]
def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_10 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x196x768 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S768x3072 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S4x1536 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1536 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1536x80 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S48x1536 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x1536 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S16x1536 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x1536 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S1536x768 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 2 → Memref sig .tc .vmem S1x196x768 .f32 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true]

abbrev grid13 : Pipeline.Grid := ⟨1, ![8], ![false]⟩

def cc13_transform_0 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x196x768 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x768 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x768 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S1x196x768 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]
-- ==== ReferenceIdeal.lean ====
abbrev S8x3x224x224 : Shape := ⟨4, ![8, 3, 224, 224]⟩
abbrev S768x3x16x16 : Shape := ⟨4, ![768, 3, 16, 16]⟩
abbrev S768 : Shape := ⟨1, ![768]⟩
abbrev S1x196x768 : Shape := ⟨3, ![1, 196, 768]⟩
abbrev S12x3072x768 : Shape := ⟨3, ![12, 3072, 768]⟩
abbrev S12x1536x4 : Shape := ⟨3, ![12, 1536, 4]⟩
abbrev S12x1536 : Shape := ⟨2, ![12, 1536]⟩
abbrev S12x80x1536 : Shape := ⟨3, ![12, 80, 1536]⟩
abbrev S12x1536x48 : Shape := ⟨3, ![12, 1536, 48]⟩
abbrev S12x1536x16 : Shape := ⟨3, ![12, 1536, 16]⟩
abbrev S12x768x1536 : Shape := ⟨3, ![12, 768, 1536]⟩
abbrev S8x3x14x16x14x16 : Shape := ⟨6, ![8, 3, 14, 16, 14, 16]⟩
abbrev S8x14x14x768 : Shape := ⟨4, ![8, 14, 14, 768]⟩
abbrev S8x196x768 : Shape := ⟨3, ![8, 196, 768]⟩
abbrev S1x1x768 : Shape := ⟨3, ![1, 1, 768]⟩
abbrev S1x3072x768 : Shape := ⟨3, ![1, 3072, 768]⟩
abbrev S3072x768 : Shape := ⟨2, ![3072, 768]⟩
abbrev S1x1536x4 : Shape := ⟨3, ![1, 1536, 4]⟩
abbrev S1536x4 : Shape := ⟨2, ![1536, 4]⟩
abbrev S1x1536 : Shape := ⟨2, ![1, 1536]⟩
abbrev S1536 : Shape := ⟨1, ![1536]⟩
abbrev S1x80x1536 : Shape := ⟨3, ![1, 80, 1536]⟩
abbrev S80x1536 : Shape := ⟨2, ![80, 1536]⟩
abbrev S1x1536x48 : Shape := ⟨3, ![1, 1536, 48]⟩
abbrev S1536x48 : Shape := ⟨2, ![1536, 48]⟩
abbrev S1x1536x16 : Shape := ⟨3, ![1, 1536, 16]⟩
abbrev S1536x16 : Shape := ⟨2, ![1536, 16]⟩
abbrev S1x768x1536 : Shape := ⟨3, ![1, 768, 1536]⟩
abbrev S768x1536 : Shape := ⟨2, ![768, 1536]⟩
abbrev S8x196x3072 : Shape := ⟨3, ![8, 196, 3072]⟩
abbrev S8x196x1536 : Shape := ⟨3, ![8, 196, 1536]⟩
abbrev S_ : Shape := ⟨0, ![]⟩
abbrev S8x199x1536 : Shape := ⟨3, ![8, 199, 1536]⟩
abbrev S1536x1 : Shape := ⟨2, ![1536, 1]⟩
abbrev S1x1x1536 : Shape := ⟨3, ![1, 1, 1536]⟩
abbrev S8x196x80 : Shape := ⟨3, ![8, 196, 80]⟩
abbrev S8x196x48 : Shape := ⟨3, ![8, 196, 48]⟩
abbrev S8x196x16 : Shape := ⟨3, ![8, 196, 16]⟩
abbrev S8x1536x16 : Shape := ⟨3, ![8, 1536, 16]⟩
abbrev S196x8x1536 : Shape := ⟨3, ![196, 8, 1536]⟩
abbrev S196x8x16 : Shape := ⟨3, ![196, 8, 16]⟩
abbrev S1x8x1536 : Shape := ⟨3, ![1, 8, 1536]⟩
abbrev S8x1536 : Shape := ⟨2, ![8, 1536]⟩
abbrev S1x8x16 : Shape := ⟨3, ![1, 8, 16]⟩
abbrev S8x16 : Shape := ⟨2, ![8, 16]⟩
abbrev S8x1536x1 : Shape := ⟨3, ![8, 1536, 1]⟩
abbrev S8x1x16 : Shape := ⟨3, ![8, 1, 16]⟩
abbrev S8x196 : Shape := ⟨2, ![8, 196]⟩
abbrev S8x196x1 : Shape := ⟨3, ![8, 196, 1]⟩

abbrev nBuf : Space → Nat
  | .hbm => 1996
  | .vmem => 0
  | .smem => 0
  | _ => 0

abbrev hbmTy0_0 (i : Nat) : BufTy := match i % 128 with
  | 0 => ⟨S8x3x224x224, .f32⟩
  | 1 => ⟨S768x3x16x16, .f32⟩
  | 2 => ⟨S768, .f32⟩
  | 3 => ⟨S1x196x768, .f32⟩
  | 4 => ⟨S12x3072x768, .f32⟩
  | 5 => ⟨S12x1536x4, .f32⟩
  | 6 => ⟨S12x1536, .f32⟩
  | 7 => ⟨S12x80x1536, .f32⟩
  | 8 => ⟨S12x1536x48, .f32⟩
  | 9 => ⟨S12x1536, .f32⟩
  | 10 => ⟨S12x1536x16, .f32⟩
  | 11 => ⟨S12x1536, .f32⟩
  | 12 => ⟨S12x768x1536, .f32⟩
  | 13 => ⟨S768, .f32⟩
  | 14 => ⟨S768, .f32⟩
  | 15 => ⟨S8x3x14x16x14x16, .f32⟩
  | 16 => ⟨S8x14x14x768, .f32⟩
  | 17 => ⟨S8x196x768, .f32⟩
  | 18 => ⟨S1x1x768, .f32⟩
  | 19 => ⟨S8x196x768, .f32⟩
  | 20 => ⟨S8x196x768, .f32⟩
  | 21 => ⟨S8x196x768, .f32⟩
  | 22 => ⟨S8x196x768, .f32⟩
  | 23 => ⟨S1x3072x768, .f32⟩
  | 24 => ⟨S3072x768, .f32⟩
  | 25 => ⟨S1x1536x4, .f32⟩
  | 26 => ⟨S1536x4, .f32⟩
  | 27 => ⟨S1x1536, .f32⟩
  | 28 => ⟨S1536, .f32⟩
  | 29 => ⟨S1x80x1536, .f32⟩
  | 30 => ⟨S80x1536, .f32⟩
  | 31 => ⟨S1x1536x48, .f32⟩
  | 32 => ⟨S1536x48, .f32⟩
  | 33 => ⟨S1x1536, .f32⟩
  | 34 => ⟨S1536, .f32⟩
  | 35 => ⟨S1x1536x16, .f32⟩
  | 36 => ⟨S1536x16, .f32⟩
  | 37 => ⟨S1x1536, .f32⟩
  | 38 => ⟨S1536, .f32⟩
  | 39 => ⟨S1x768x1536, .f32⟩
  | 40 => ⟨S768x1536, .f32⟩
  | 41 => ⟨S8x196x3072, .f32⟩
  | 42 => ⟨S8x196x1536, .f32⟩
  | 43 => ⟨S8x196x1536, .f32⟩
  | 44 => ⟨S_, .i32⟩
  | 45 => ⟨S_, .f32⟩
  | 46 => ⟨S8x199x1536, .f32⟩
  | 47 => ⟨S8x196x1536, .f32⟩
  | 48 => ⟨S1536x1, .f32⟩
  | 49 => ⟨S1536, .f32⟩
  | 50 => ⟨S1x1x1536, .f32⟩
  | 51 => ⟨S8x196x1536, .f32⟩
  | 52 => ⟨S8x196x1536, .f32⟩
  | 53 => ⟨S_, .f32⟩
  | 54 => ⟨S8x196x1536, .f32⟩
  | 55 => ⟨S8x196x1536, .f32⟩
  | 56 => ⟨S8x196x1536, .f32⟩
  | 57 => ⟨S1536x1, .f32⟩
  | 58 => ⟨S1536, .f32⟩
  | 59 => ⟨S1x1x1536, .f32⟩
  | 60 => ⟨S8x196x1536, .f32⟩
  | 61 => ⟨S8x196x1536, .f32⟩
  | 62 => ⟨S8x196x1536, .f32⟩
  | 63 => ⟨S8x196x1536, .f32⟩
  | 64 => ⟨S1536x1, .f32⟩
  | 65 => ⟨S1536, .f32⟩
  | 66 => ⟨S1x1x1536, .f32⟩
  | 67 => ⟨S8x196x1536, .f32⟩
  | 68 => ⟨S8x196x1536, .f32⟩
  | 69 => ⟨S8x196x1536, .f32⟩
  | 70 => ⟨S8x196x1536, .f32⟩
  | 71 => ⟨S1536x1, .f32⟩
  | 72 => ⟨S1536, .f32⟩
  | 73 => ⟨S1x1x1536, .f32⟩
  | 74 => ⟨S8x196x1536, .f32⟩
  | 75 => ⟨S8x196x1536, .f32⟩
  | 76 => ⟨S8x196x1536, .f32⟩
  | 77 => ⟨S1x1x1536, .f32⟩
  | 78 => ⟨S8x196x1536, .f32⟩
  | 79 => ⟨S8x196x1536, .f32⟩
  | 80 => ⟨S8x196x1536, .f32⟩
  | 81 => ⟨S8x196x1536, .f32⟩
  | 82 => ⟨S_, .f32⟩
  | 83 => ⟨S8x196x1536, .f32⟩
  | 84 => ⟨S8x196x1536, .f32⟩
  | 85 => ⟨S_, .f32⟩
  | 86 => ⟨S8x196x1536, .f32⟩
  | 87 => ⟨S8x196x1536, .f32⟩
  | 88 => ⟨S8x196x1536, .f32⟩
  | 89 => ⟨S8x196x80, .f32⟩
  | 90 => ⟨S8x196x48, .f32⟩
  | 91 => ⟨S8x196x16, .f32⟩
  | 92 => ⟨S8x196x16, .f32⟩
  | 93 => ⟨S8x196x1536, .f32⟩
  | 94 => ⟨S1x1x1536, .f32⟩
  | 95 => ⟨S8x196x1536, .f32⟩
  | 96 => ⟨S8x196x1536, .f32⟩
  | 97 => ⟨S_, .f32⟩
  | 98 => ⟨S8x196x1536, .f32⟩
  | 99 => ⟨S8x196x1536, .f32⟩
  | 100 => ⟨S8x196x1536, .f32⟩
  | 101 => ⟨S8x196x1536, .f32⟩
  | 102 => ⟨S8x196x1536, .i1⟩
  | 103 => ⟨S8x196x1536, .f32⟩
  | 104 => ⟨S8x196x1536, .f32⟩
  | 105 => ⟨S8x196x1536, .f32⟩
  | 106 => ⟨S8x196x1536, .f32⟩
  | 107 => ⟨S8x196x1536, .f32⟩
  | 108 => ⟨S8x196x1536, .f32⟩
  | 109 => ⟨S8x196x1536, .f32⟩
  | 110 => ⟨S8x196x1536, .f32⟩
  | 111 => ⟨S1536x16, .f32⟩
  | 112 => ⟨S1536x16, .f32⟩
  | 113 => ⟨S_, .f32⟩
  | 114 => ⟨S8x1536x16, .f32⟩
  | 115 => ⟨S196x8x1536, .f32⟩
  | 116 => ⟨S196x8x1536, .f32⟩
  | 117 => ⟨S196x8x16, .f32⟩
  | 118 => ⟨S196x8x16, .f32⟩
  | 119 => ⟨S_, .f32⟩
  | 120 => ⟨S196x8x1536, .f32⟩
  | 121 => ⟨S_, .i32⟩
  | 122 => ⟨S196x8x1536, .f32⟩
  | 123 => ⟨S196x8x1536, .f32⟩
  | 124 => ⟨S196x8x16, .f32⟩
  | 125 => ⟨S196x8x16, .f32⟩
  | 126 => ⟨S1536x16, .f32⟩
  | 127 => ⟨S_, .i32⟩
  | _ => ⟨S8x3x224x224, .f32⟩

abbrev hbmTy0_1 (i : Nat) : BufTy := match i % 128 with
  | 0 => ⟨S8x1536x16, .f32⟩
  | 1 => ⟨S196x8x1536, .f32⟩
  | 2 => ⟨S_, .i32⟩
  | 3 => ⟨S_, .i1⟩
  | 4 => ⟨S_, .i32⟩
  | 5 => ⟨S_, .i32⟩
  | 6 => ⟨S1x8x1536, .f32⟩
  | 7 => ⟨S8x1536, .f32⟩
  | 8 => ⟨S_, .i32⟩
  | 9 => ⟨S_, .i32⟩
  | 10 => ⟨S1x8x1536, .f32⟩
  | 11 => ⟨S8x1536, .f32⟩
  | 12 => ⟨S_, .i32⟩
  | 13 => ⟨S_, .i32⟩
  | 14 => ⟨S1x8x16, .f32⟩
  | 15 => ⟨S8x16, .f32⟩
  | 16 => ⟨S_, .i32⟩
  | 17 => ⟨S_, .i32⟩
  | 18 => ⟨S1x8x16, .f32⟩
  | 19 => ⟨S8x16, .f32⟩
  | 20 => ⟨S8x1536x1, .f32⟩
  | 21 => ⟨S1x1536x16, .f32⟩
  | 22 => ⟨S8x1536x16, .f32⟩
  | 23 => ⟨S8x1536x16, .f32⟩
  | 24 => ⟨S8x1536x16, .f32⟩
  | 25 => ⟨S8x1536x16, .f32⟩
  | 26 => ⟨S8x1536x16, .f32⟩
  | 27 => ⟨S8x1536, .f32⟩
  | 28 => ⟨S8x1536x1, .f32⟩
  | 29 => ⟨S8x1x16, .f32⟩
  | 30 => ⟨S8x1536x16, .f32⟩
  | 31 => ⟨S8x1536x16, .f32⟩
  | 32 => ⟨S8x1536x16, .f32⟩
  | 33 => ⟨S8x1536x16, .f32⟩
  | 34 => ⟨S8x1536, .f32⟩
  | 35 => ⟨S1x8x1536, .f32⟩
  | 36 => ⟨S_, .i32⟩
  | 37 => ⟨S_, .i32⟩
  | 38 => ⟨S196x8x1536, .f32⟩
  | 39 => ⟨S_, .i32⟩
  | 40 => ⟨S_, .i32⟩
  | 41 => ⟨S8x196x1536, .f32⟩
  | 42 => ⟨S1x1x1536, .f32⟩
  | 43 => ⟨S8x196x1536, .f32⟩
  | 44 => ⟨S8x196x1536, .f32⟩
  | 45 => ⟨S8x196x1536, .f32⟩
  | 46 => ⟨S8x196x1536, .f32⟩
  | 47 => ⟨S8x196x1536, .f32⟩
  | 48 => ⟨S_, .f32⟩
  | 49 => ⟨S8x196x1536, .f32⟩
  | 50 => ⟨S8x196x1536, .f32⟩
  | 51 => ⟨S_, .f32⟩
  | 52 => ⟨S8x196x1536, .f32⟩
  | 53 => ⟨S8x196x1536, .f32⟩
  | 54 => ⟨S8x196x1536, .f32⟩
  | 55 => ⟨S8x196x1536, .f32⟩
  | 56 => ⟨S8x196x768, .f32⟩
  | 57 => ⟨S1x3072x768, .f32⟩
  | 58 => ⟨S3072x768, .f32⟩
  | 59 => ⟨S1x1536x4, .f32⟩
  | 60 => ⟨S1536x4, .f32⟩
  | 61 => ⟨S1x1536, .f32⟩
  | 62 => ⟨S1536, .f32⟩
  | 63 => ⟨S1x80x1536, .f32⟩
  | 64 => ⟨S80x1536, .f32⟩
  | 65 => ⟨S1x1536x48, .f32⟩
  | 66 => ⟨S1536x48, .f32⟩
  | 67 => ⟨S1x1536, .f32⟩
  | 68 => ⟨S1536, .f32⟩
  | 69 => ⟨S1x1536x16, .f32⟩
  | 70 => ⟨S1536x16, .f32⟩
  | 71 => ⟨S1x1536, .f32⟩
  | 72 => ⟨S1536, .f32⟩
  | 73 => ⟨S1x768x1536, .f32⟩
  | 74 => ⟨S768x1536, .f32⟩
  | 75 => ⟨S8x196x3072, .f32⟩
  | 76 => ⟨S8x196x1536, .f32⟩
  | 77 => ⟨S8x196x1536, .f32⟩
  | 78 => ⟨S_, .i32⟩
  | 79 => ⟨S_, .f32⟩
  | 80 => ⟨S8x199x1536, .f32⟩
  | 81 => ⟨S8x196x1536, .f32⟩
  | 82 => ⟨S1536x1, .f32⟩
  | 83 => ⟨S1536, .f32⟩
  | 84 => ⟨S1x1x1536, .f32⟩
  | 85 => ⟨S8x196x1536, .f32⟩
  | 86 => ⟨S8x196x1536, .f32⟩
  | 87 => ⟨S_, .f32⟩
  | 88 => ⟨S8x196x1536, .f32⟩
  | 89 => ⟨S8x196x1536, .f32⟩
  | 90 => ⟨S8x196x1536, .f32⟩
  | 91 => ⟨S1536x1, .f32⟩
  | 92 => ⟨S1536, .f32⟩
  | 93 => ⟨S1x1x1536, .f32⟩
  | 94 => ⟨S8x196x1536, .f32⟩
  | 95 => ⟨S8x196x1536, .f32⟩
  | 96 => ⟨S8x196x1536, .f32⟩
  | 97 => ⟨S8x196x1536, .f32⟩
  | 98 => ⟨S1536x1, .f32⟩
  | 99 => ⟨S1536, .f32⟩
  | 100 => ⟨S1x1x1536, .f32⟩
  | 101 => ⟨S8x196x1536, .f32⟩
  | 102 => ⟨S8x196x1536, .f32⟩
  | 103 => ⟨S8x196x1536, .f32⟩
  | 104 => ⟨S8x196x1536, .f32⟩
  | 105 => ⟨S1536x1, .f32⟩
  | 106 => ⟨S1536, .f32⟩
  | 107 => ⟨S1x1x1536, .f32⟩
  | 108 => ⟨S8x196x1536, .f32⟩
  | 109 => ⟨S8x196x1536, .f32⟩
  | 110 => ⟨S8x196x1536, .f32⟩
  | 111 => ⟨S1x1x1536, .f32⟩
  | 112 => ⟨S8x196x1536, .f32⟩
  | 113 => ⟨S8x196x1536, .f32⟩
  | 114 => ⟨S8x196x1536, .f32⟩
  | 115 => ⟨S8x196x1536, .f32⟩
  | 116 => ⟨S_, .f32⟩
  | 117 => ⟨S8x196x1536, .f32⟩
  | 118 => ⟨S8x196x1536, .f32⟩
  | 119 => ⟨S_, .f32⟩
  | 120 => ⟨S8x196x1536, .f32⟩
  | 121 => ⟨S8x196x1536, .f32⟩
  | 122 => ⟨S8x196x1536, .f32⟩
  | 123 => ⟨S8x196x80, .f32⟩
  | 124 => ⟨S8x196x48, .f32⟩
  | 125 => ⟨S8x196x16, .f32⟩
  | 126 => ⟨S8x196x16, .f32⟩
  | 127 => ⟨S8x196x1536, .f32⟩
  | _ => ⟨S8x3x224x224, .f32⟩

abbrev hbmTy0_2 (i : Nat) : BufTy := match i % 128 with
  | 0 => ⟨S1x1x1536, .f32⟩
  | 1 => ⟨S8x196x1536, .f32⟩
  | 2 => ⟨S8x196x1536, .f32⟩
  | 3 => ⟨S_, .f32⟩
  | 4 => ⟨S8x196x1536, .f32⟩
  | 5 => ⟨S8x196x1536, .f32⟩
  | 6 => ⟨S8x196x1536, .f32⟩
  | 7 => ⟨S8x196x1536, .f32⟩
  | 8 => ⟨S8x196x1536, .i1⟩
  | 9 => ⟨S8x196x1536, .f32⟩
  | 10 => ⟨S8x196x1536, .f32⟩
  | 11 => ⟨S8x196x1536, .f32⟩
  | 12 => ⟨S8x196x1536, .f32⟩
  | 13 => ⟨S8x196x1536, .f32⟩
  | 14 => ⟨S8x196x1536, .f32⟩
  | 15 => ⟨S8x196x1536, .f32⟩
  | 16 => ⟨S8x196x1536, .f32⟩
  | 17 => ⟨S1536x16, .f32⟩
  | 18 => ⟨S1536x16, .f32⟩
  | 19 => ⟨S_, .f32⟩
  | 20 => ⟨S8x1536x16, .f32⟩
  | 21 => ⟨S196x8x1536, .f32⟩
  | 22 => ⟨S196x8x1536, .f32⟩
  | 23 => ⟨S196x8x16, .f32⟩
  | 24 => ⟨S196x8x16, .f32⟩
  | 25 => ⟨S_, .f32⟩
  | 26 => ⟨S196x8x1536, .f32⟩
  | 27 => ⟨S_, .i32⟩
  | 28 => ⟨S196x8x1536, .f32⟩
  | 29 => ⟨S196x8x1536, .f32⟩
  | 30 => ⟨S196x8x16, .f32⟩
  | 31 => ⟨S196x8x16, .f32⟩
  | 32 => ⟨S1536x16, .f32⟩
  | 33 => ⟨S_, .i32⟩
  | 34 => ⟨S8x1536x16, .f32⟩
  | 35 => ⟨S196x8x1536, .f32⟩
  | 36 => ⟨S_, .i32⟩
  | 37 => ⟨S_, .i1⟩
  | 38 => ⟨S_, .i32⟩
  | 39 => ⟨S_, .i32⟩
  | 40 => ⟨S1x8x1536, .f32⟩
  | 41 => ⟨S8x1536, .f32⟩
  | 42 => ⟨S_, .i32⟩
  | 43 => ⟨S_, .i32⟩
  | 44 => ⟨S1x8x1536, .f32⟩
  | 45 => ⟨S8x1536, .f32⟩
  | 46 => ⟨S_, .i32⟩
  | 47 => ⟨S_, .i32⟩
  | 48 => ⟨S1x8x16, .f32⟩
  | 49 => ⟨S8x16, .f32⟩
  | 50 => ⟨S_, .i32⟩
  | 51 => ⟨S_, .i32⟩
  | 52 => ⟨S1x8x16, .f32⟩
  | 53 => ⟨S8x16, .f32⟩
  | 54 => ⟨S8x1536x1, .f32⟩
  | 55 => ⟨S1x1536x16, .f32⟩
  | 56 => ⟨S8x1536x16, .f32⟩
  | 57 => ⟨S8x1536x16, .f32⟩
  | 58 => ⟨S8x1536x16, .f32⟩
  | 59 => ⟨S8x1536x16, .f32⟩
  | 60 => ⟨S8x1536x16, .f32⟩
  | 61 => ⟨S8x1536, .f32⟩
  | 62 => ⟨S8x1536x1, .f32⟩
  | 63 => ⟨S8x1x16, .f32⟩
  | 64 => ⟨S8x1536x16, .f32⟩
  | 65 => ⟨S8x1536x16, .f32⟩
  | 66 => ⟨S8x1536x16, .f32⟩
  | 67 => ⟨S8x1536x16, .f32⟩
  | 68 => ⟨S8x1536, .f32⟩
  | 69 => ⟨S1x8x1536, .f32⟩
  | 70 => ⟨S_, .i32⟩
  | 71 => ⟨S_, .i32⟩
  | 72 => ⟨S196x8x1536, .f32⟩
  | 73 => ⟨S_, .i32⟩
  | 74 => ⟨S_, .i32⟩
  | 75 => ⟨S8x196x1536, .f32⟩
  | 76 => ⟨S1x1x1536, .f32⟩
  | 77 => ⟨S8x196x1536, .f32⟩
  | 78 => ⟨S8x196x1536, .f32⟩
  | 79 => ⟨S8x196x1536, .f32⟩
  | 80 => ⟨S8x196x1536, .f32⟩
  | 81 => ⟨S8x196x1536, .f32⟩
  | 82 => ⟨S_, .f32⟩
  | 83 => ⟨S8x196x1536, .f32⟩
  | 84 => ⟨S8x196x1536, .f32⟩
  | 85 => ⟨S_, .f32⟩
  | 86 => ⟨S8x196x1536, .f32⟩
  | 87 => ⟨S8x196x1536, .f32⟩
  | 88 => ⟨S8x196x1536, .f32⟩
  | 89 => ⟨S8x196x1536, .f32⟩
  | 90 => ⟨S8x196x768, .f32⟩
  | 91 => ⟨S1x3072x768, .f32⟩
  | 92 => ⟨S3072x768, .f32⟩
  | 93 => ⟨S1x1536x4, .f32⟩
  | 94 => ⟨S1536x4, .f32⟩
  | 95 => ⟨S1x1536, .f32⟩
  | 96 => ⟨S1536, .f32⟩
  | 97 => ⟨S1x80x1536, .f32⟩
  | 98 => ⟨S80x1536, .f32⟩
  | 99 => ⟨S1x1536x48, .f32⟩
  | 100 => ⟨S1536x48, .f32⟩
  | 101 => ⟨S1x1536, .f32⟩
  | 102 => ⟨S1536, .f32⟩
  | 103 => ⟨S1x1536x16, .f32⟩
  | 104 => ⟨S1536x16, .f32⟩
  | 105 => ⟨S1x1536, .f32⟩
  | 106 => ⟨S1536, .f32⟩
  | 107 => ⟨S1x768x1536, .f32⟩
  | 108 => ⟨S768x1536, .f32⟩
  | 109 => ⟨S8x196x3072, .f32⟩
  | 110 => ⟨S8x196x1536, .f32⟩
  | 111 => ⟨S8x196x1536, .f32⟩
  | 112 => ⟨S_, .i32⟩
  | 113 => ⟨S_, .f32⟩
  | 114 => ⟨S8x199x1536, .f32⟩
  | 115 => ⟨S8x196x1536, .f32⟩
  | 116 => ⟨S1536x1, .f32⟩
  | 117 => ⟨S1536, .f32⟩
  | 118 => ⟨S1x1x1536, .f32⟩
  | 119 => ⟨S8x196x1536, .f32⟩
  | 120 => ⟨S8x196x1536, .f32⟩
  | 121 => ⟨S_, .f32⟩
  | 122 => ⟨S8x196x1536, .f32⟩
  | 123 => ⟨S8x196x1536, .f32⟩
  | 124 => ⟨S8x196x1536, .f32⟩
  | 125 => ⟨S1536x1, .f32⟩
  | 126 => ⟨S1536, .f32⟩
  | 127 => ⟨S1x1x1536, .f32⟩
  | _ => ⟨S8x3x224x224, .f32⟩

abbrev hbmTy0_3 (i : Nat) : BufTy := match i % 128 with
  | 0 => ⟨S8x196x1536, .f32⟩
  | 1 => ⟨S8x196x1536, .f32⟩
  | 2 => ⟨S8x196x1536, .f32⟩
  | 3 => ⟨S8x196x1536, .f32⟩
  | 4 => ⟨S1536x1, .f32⟩
  | 5 => ⟨S1536, .f32⟩
  | 6 => ⟨S1x1x1536, .f32⟩
  | 7 => ⟨S8x196x1536, .f32⟩
  | 8 => ⟨S8x196x1536, .f32⟩
  | 9 => ⟨S8x196x1536, .f32⟩
  | 10 => ⟨S8x196x1536, .f32⟩
  | 11 => ⟨S1536x1, .f32⟩
  | 12 => ⟨S1536, .f32⟩
  | 13 => ⟨S1x1x1536, .f32⟩
  | 14 => ⟨S8x196x1536, .f32⟩
  | 15 => ⟨S8x196x1536, .f32⟩
  | 16 => ⟨S8x196x1536, .f32⟩
  | 17 => ⟨S1x1x1536, .f32⟩
  | 18 => ⟨S8x196x1536, .f32⟩
  | 19 => ⟨S8x196x1536, .f32⟩
  | 20 => ⟨S8x196x1536, .f32⟩
  | 21 => ⟨S8x196x1536, .f32⟩
  | 22 => ⟨S_, .f32⟩
  | 23 => ⟨S8x196x1536, .f32⟩
  | 24 => ⟨S8x196x1536, .f32⟩
  | 25 => ⟨S_, .f32⟩
  | 26 => ⟨S8x196x1536, .f32⟩
  | 27 => ⟨S8x196x1536, .f32⟩
  | 28 => ⟨S8x196x1536, .f32⟩
  | 29 => ⟨S8x196x80, .f32⟩
  | 30 => ⟨S8x196x48, .f32⟩
  | 31 => ⟨S8x196x16, .f32⟩
  | 32 => ⟨S8x196x16, .f32⟩
  | 33 => ⟨S8x196x1536, .f32⟩
  | 34 => ⟨S1x1x1536, .f32⟩
  | 35 => ⟨S8x196x1536, .f32⟩
  | 36 => ⟨S8x196x1536, .f32⟩
  | 37 => ⟨S_, .f32⟩
  | 38 => ⟨S8x196x1536, .f32⟩
  | 39 => ⟨S8x196x1536, .f32⟩
  | 40 => ⟨S8x196x1536, .f32⟩
  | 41 => ⟨S8x196x1536, .f32⟩
  | 42 => ⟨S8x196x1536, .i1⟩
  | 43 => ⟨S8x196x1536, .f32⟩
  | 44 => ⟨S8x196x1536, .f32⟩
  | 45 => ⟨S8x196x1536, .f32⟩
  | 46 => ⟨S8x196x1536, .f32⟩
  | 47 => ⟨S8x196x1536, .f32⟩
  | 48 => ⟨S8x196x1536, .f32⟩
  | 49 => ⟨S8x196x1536, .f32⟩
  | 50 => ⟨S8x196x1536, .f32⟩
  | 51 => ⟨S1536x16, .f32⟩
  | 52 => ⟨S1536x16, .f32⟩
  | 53 => ⟨S_, .f32⟩
  | 54 => ⟨S8x1536x16, .f32⟩
  | 55 => ⟨S196x8x1536, .f32⟩
  | 56 => ⟨S196x8x1536, .f32⟩
  | 57 => ⟨S196x8x16, .f32⟩
  | 58 => ⟨S196x8x16, .f32⟩
  | 59 => ⟨S_, .f32⟩
  | 60 => ⟨S196x8x1536, .f32⟩
  | 61 => ⟨S_, .i32⟩
  | 62 => ⟨S196x8x1536, .f32⟩
  | 63 => ⟨S196x8x1536, .f32⟩
  | 64 => ⟨S196x8x16, .f32⟩
  | 65 => ⟨S196x8x16, .f32⟩
  | 66 => ⟨S1536x16, .f32⟩
  | 67 => ⟨S_, .i32⟩
  | 68 => ⟨S8x1536x16, .f32⟩
  | 69 => ⟨S196x8x1536, .f32⟩
  | 70 => ⟨S_, .i32⟩
  | 71 => ⟨S_, .i1⟩
  | 72 => ⟨S_, .i32⟩
  | 73 => ⟨S_, .i32⟩
  | 74 => ⟨S1x8x1536, .f32⟩
  | 75 => ⟨S8x1536, .f32⟩
  | 76 => ⟨S_, .i32⟩
  | 77 => ⟨S_, .i32⟩
  | 78 => ⟨S1x8x1536, .f32⟩
  | 79 => ⟨S8x1536, .f32⟩
  | 80 => ⟨S_, .i32⟩
  | 81 => ⟨S_, .i32⟩
  | 82 => ⟨S1x8x16, .f32⟩
  | 83 => ⟨S8x16, .f32⟩
  | 84 => ⟨S_, .i32⟩
  | 85 => ⟨S_, .i32⟩
  | 86 => ⟨S1x8x16, .f32⟩
  | 87 => ⟨S8x16, .f32⟩
  | 88 => ⟨S8x1536x1, .f32⟩
  | 89 => ⟨S1x1536x16, .f32⟩
  | 90 => ⟨S8x1536x16, .f32⟩
  | 91 => ⟨S8x1536x16, .f32⟩
  | 92 => ⟨S8x1536x16, .f32⟩
  | 93 => ⟨S8x1536x16, .f32⟩
  | 94 => ⟨S8x1536x16, .f32⟩
  | 95 => ⟨S8x1536, .f32⟩
  | 96 => ⟨S8x1536x1, .f32⟩
  | 97 => ⟨S8x1x16, .f32⟩
  | 98 => ⟨S8x1536x16, .f32⟩
  | 99 => ⟨S8x1536x16, .f32⟩
  | 100 => ⟨S8x1536x16, .f32⟩
  | 101 => ⟨S8x1536x16, .f32⟩
  | 102 => ⟨S8x1536, .f32⟩
  | 103 => ⟨S1x8x1536, .f32⟩
  | 104 => ⟨S_, .i32⟩
  | 105 => ⟨S_, .i32⟩
  | 106 => ⟨S196x8x1536, .f32⟩
  | 107 => ⟨S_, .i32⟩
  | 108 => ⟨S_, .i32⟩
  | 109 => ⟨S8x196x1536, .f32⟩
  | 110 => ⟨S1x1x1536, .f32⟩
  | 111 => ⟨S8x196x1536, .f32⟩
  | 112 => ⟨S8x196x1536, .f32⟩
  | 113 => ⟨S8x196x1536, .f32⟩
  | 114 => ⟨S8x196x1536, .f32⟩
  | 115 => ⟨S8x196x1536, .f32⟩
  | 116 => ⟨S_, .f32⟩
  | 117 => ⟨S8x196x1536, .f32⟩
  | 118 => ⟨S8x196x1536, .f32⟩
  | 119 => ⟨S_, .f32⟩
  | 120 => ⟨S8x196x1536, .f32⟩
  | 121 => ⟨S8x196x1536, .f32⟩
  | 122 => ⟨S8x196x1536, .f32⟩
  | 123 => ⟨S8x196x1536, .f32⟩
  | 124 => ⟨S8x196x768, .f32⟩
  | 125 => ⟨S1x3072x768, .f32⟩
  | 126 => ⟨S3072x768, .f32⟩
  | 127 => ⟨S1x1536x4, .f32⟩
  | _ => ⟨S8x3x224x224, .f32⟩

abbrev hbmTy0_4 (i : Nat) : BufTy := match i % 128 with
  | 0 => ⟨S1536x4, .f32⟩
  | 1 => ⟨S1x1536, .f32⟩
  | 2 => ⟨S1536, .f32⟩
  | 3 => ⟨S1x80x1536, .f32⟩
  | 4 => ⟨S80x1536, .f32⟩
  | 5 => ⟨S1x1536x48, .f32⟩
  | 6 => ⟨S1536x48, .f32⟩
  | 7 => ⟨S1x1536, .f32⟩
  | 8 => ⟨S1536, .f32⟩
  | 9 => ⟨S1x1536x16, .f32⟩
  | 10 => ⟨S1536x16, .f32⟩
  | 11 => ⟨S1x1536, .f32⟩
  | 12 => ⟨S1536, .f32⟩
  | 13 => ⟨S1x768x1536, .f32⟩
  | 14 => ⟨S768x1536, .f32⟩
  | 15 => ⟨S8x196x3072, .f32⟩
  | 16 => ⟨S8x196x1536, .f32⟩
  | 17 => ⟨S8x196x1536, .f32⟩
  | 18 => ⟨S_, .i32⟩
  | 19 => ⟨S_, .f32⟩
  | 20 => ⟨S8x199x1536, .f32⟩
  | 21 => ⟨S8x196x1536, .f32⟩
  | 22 => ⟨S1536x1, .f32⟩
  | 23 => ⟨S1536, .f32⟩
  | 24 => ⟨S1x1x1536, .f32⟩
  | 25 => ⟨S8x196x1536, .f32⟩
  | 26 => ⟨S8x196x1536, .f32⟩
  | 27 => ⟨S_, .f32⟩
  | 28 => ⟨S8x196x1536, .f32⟩
  | 29 => ⟨S8x196x1536, .f32⟩
  | 30 => ⟨S8x196x1536, .f32⟩
  | 31 => ⟨S1536x1, .f32⟩
  | 32 => ⟨S1536, .f32⟩
  | 33 => ⟨S1x1x1536, .f32⟩
  | 34 => ⟨S8x196x1536, .f32⟩
  | 35 => ⟨S8x196x1536, .f32⟩
  | 36 => ⟨S8x196x1536, .f32⟩
  | 37 => ⟨S8x196x1536, .f32⟩
  | 38 => ⟨S1536x1, .f32⟩
  | 39 => ⟨S1536, .f32⟩
  | 40 => ⟨S1x1x1536, .f32⟩
  | 41 => ⟨S8x196x1536, .f32⟩
  | 42 => ⟨S8x196x1536, .f32⟩
  | 43 => ⟨S8x196x1536, .f32⟩
  | 44 => ⟨S8x196x1536, .f32⟩
  | 45 => ⟨S1536x1, .f32⟩
  | 46 => ⟨S1536, .f32⟩
  | 47 => ⟨S1x1x1536, .f32⟩
  | 48 => ⟨S8x196x1536, .f32⟩
  | 49 => ⟨S8x196x1536, .f32⟩
  | 50 => ⟨S8x196x1536, .f32⟩
  | 51 => ⟨S1x1x1536, .f32⟩
  | 52 => ⟨S8x196x1536, .f32⟩
  | 53 => ⟨S8x196x1536, .f32⟩
  | 54 => ⟨S8x196x1536, .f32⟩
  | 55 => ⟨S8x196x1536, .f32⟩
  | 56 => ⟨S_, .f32⟩
  | 57 => ⟨S8x196x1536, .f32⟩
  | 58 => ⟨S8x196x1536, .f32⟩
  | 59 => ⟨S_, .f32⟩
  | 60 => ⟨S8x196x1536, .f32⟩
  | 61 => ⟨S8x196x1536, .f32⟩
  | 62 => ⟨S8x196x1536, .f32⟩
  | 63 => ⟨S8x196x80, .f32⟩
  | 64 => ⟨S8x196x48, .f32⟩
  | 65 => ⟨S8x196x16, .f32⟩
  | 66 => ⟨S8x196x16, .f32⟩
  | 67 => ⟨S8x196x1536, .f32⟩
  | 68 => ⟨S1x1x1536, .f32⟩
  | 69 => ⟨S8x196x1536, .f32⟩
  | 70 => ⟨S8x196x1536, .f32⟩
  | 71 => ⟨S_, .f32⟩
  | 72 => ⟨S8x196x1536, .f32⟩
  | 73 => ⟨S8x196x1536, .f32⟩
  | 74 => ⟨S8x196x1536, .f32⟩
  | 75 => ⟨S8x196x1536, .f32⟩
  | 76 => ⟨S8x196x1536, .i1⟩
  | 77 => ⟨S8x196x1536, .f32⟩
  | 78 => ⟨S8x196x1536, .f32⟩
  | 79 => ⟨S8x196x1536, .f32⟩
  | 80 => ⟨S8x196x1536, .f32⟩
  | 81 => ⟨S8x196x1536, .f32⟩
  | 82 => ⟨S8x196x1536, .f32⟩
  | 83 => ⟨S8x196x1536, .f32⟩
  | 84 => ⟨S8x196x1536, .f32⟩
  | 85 => ⟨S1536x16, .f32⟩
  | 86 => ⟨S1536x16, .f32⟩
  | 87 => ⟨S_, .f32⟩
  | 88 => ⟨S8x1536x16, .f32⟩
  | 89 => ⟨S196x8x1536, .f32⟩
  | 90 => ⟨S196x8x1536, .f32⟩
  | 91 => ⟨S196x8x16, .f32⟩
  | 92 => ⟨S196x8x16, .f32⟩
  | 93 => ⟨S_, .f32⟩
  | 94 => ⟨S196x8x1536, .f32⟩
  | 95 => ⟨S_, .i32⟩
  | 96 => ⟨S196x8x1536, .f32⟩
  | 97 => ⟨S196x8x1536, .f32⟩
  | 98 => ⟨S196x8x16, .f32⟩
  | 99 => ⟨S196x8x16, .f32⟩
  | 100 => ⟨S1536x16, .f32⟩
  | 101 => ⟨S_, .i32⟩
  | 102 => ⟨S8x1536x16, .f32⟩
  | 103 => ⟨S196x8x1536, .f32⟩
  | 104 => ⟨S_, .i32⟩
  | 105 => ⟨S_, .i1⟩
  | 106 => ⟨S_, .i32⟩
  | 107 => ⟨S_, .i32⟩
  | 108 => ⟨S1x8x1536, .f32⟩
  | 109 => ⟨S8x1536, .f32⟩
  | 110 => ⟨S_, .i32⟩
  | 111 => ⟨S_, .i32⟩
  | 112 => ⟨S1x8x1536, .f32⟩
  | 113 => ⟨S8x1536, .f32⟩
  | 114 => ⟨S_, .i32⟩
  | 115 => ⟨S_, .i32⟩
  | 116 => ⟨S1x8x16, .f32⟩
  | 117 => ⟨S8x16, .f32⟩
  | 118 => ⟨S_, .i32⟩
  | 119 => ⟨S_, .i32⟩
  | 120 => ⟨S1x8x16, .f32⟩
  | 121 => ⟨S8x16, .f32⟩
  | 122 => ⟨S8x1536x1, .f32⟩
  | 123 => ⟨S1x1536x16, .f32⟩
  | 124 => ⟨S8x1536x16, .f32⟩
  | 125 => ⟨S8x1536x16, .f32⟩
  | 126 => ⟨S8x1536x16, .f32⟩
  | 127 => ⟨S8x1536x16, .f32⟩
  | _ => ⟨S8x3x224x224, .f32⟩

abbrev hbmTy0_5 (i : Nat) : BufTy := match i % 128 with
  | 0 => ⟨S8x1536x16, .f32⟩
  | 1 => ⟨S8x1536, .f32⟩
  | 2 => ⟨S8x1536x1, .f32⟩
  | 3 => ⟨S8x1x16, .f32⟩
  | 4 => ⟨S8x1536x16, .f32⟩
  | 5 => ⟨S8x1536x16, .f32⟩
  | 6 => ⟨S8x1536x16, .f32⟩
  | 7 => ⟨S8x1536x16, .f32⟩
  | 8 => ⟨S8x1536, .f32⟩
  | 9 => ⟨S1x8x1536, .f32⟩
  | 10 => ⟨S_, .i32⟩
  | 11 => ⟨S_, .i32⟩
  | 12 => ⟨S196x8x1536, .f32⟩
  | 13 => ⟨S_, .i32⟩
  | 14 => ⟨S_, .i32⟩
  | 15 => ⟨S8x196x1536, .f32⟩
  | 16 => ⟨S1x1x1536, .f32⟩
  | 17 => ⟨S8x196x1536, .f32⟩
  | 18 => ⟨S8x196x1536, .f32⟩
  | 19 => ⟨S8x196x1536, .f32⟩
  | 20 => ⟨S8x196x1536, .f32⟩
  | 21 => ⟨S8x196x1536, .f32⟩
  | 22 => ⟨S_, .f32⟩
  | 23 => ⟨S8x196x1536, .f32⟩
  | 24 => ⟨S8x196x1536, .f32⟩
  | 25 => ⟨S_, .f32⟩
  | 26 => ⟨S8x196x1536, .f32⟩
  | 27 => ⟨S8x196x1536, .f32⟩
  | 28 => ⟨S8x196x1536, .f32⟩
  | 29 => ⟨S8x196x1536, .f32⟩
  | 30 => ⟨S8x196x768, .f32⟩
  | 31 => ⟨S1x3072x768, .f32⟩
  | 32 => ⟨S3072x768, .f32⟩
  | 33 => ⟨S1x1536x4, .f32⟩
  | 34 => ⟨S1536x4, .f32⟩
  | 35 => ⟨S1x1536, .f32⟩
  | 36 => ⟨S1536, .f32⟩
  | 37 => ⟨S1x80x1536, .f32⟩
  | 38 => ⟨S80x1536, .f32⟩
  | 39 => ⟨S1x1536x48, .f32⟩
  | 40 => ⟨S1536x48, .f32⟩
  | 41 => ⟨S1x1536, .f32⟩
  | 42 => ⟨S1536, .f32⟩
  | 43 => ⟨S1x1536x16, .f32⟩
  | 44 => ⟨S1536x16, .f32⟩
  | 45 => ⟨S1x1536, .f32⟩
  | 46 => ⟨S1536, .f32⟩
  | 47 => ⟨S1x768x1536, .f32⟩
  | 48 => ⟨S768x1536, .f32⟩
  | 49 => ⟨S8x196x3072, .f32⟩
  | 50 => ⟨S8x196x1536, .f32⟩
  | 51 => ⟨S8x196x1536, .f32⟩
  | 52 => ⟨S_, .i32⟩
  | 53 => ⟨S_, .f32⟩
  | 54 => ⟨S8x199x1536, .f32⟩
  | 55 => ⟨S8x196x1536, .f32⟩
  | 56 => ⟨S1536x1, .f32⟩
  | 57 => ⟨S1536, .f32⟩
  | 58 => ⟨S1x1x1536, .f32⟩
  | 59 => ⟨S8x196x1536, .f32⟩
  | 60 => ⟨S8x196x1536, .f32⟩
  | 61 => ⟨S_, .f32⟩
  | 62 => ⟨S8x196x1536, .f32⟩
  | 63 => ⟨S8x196x1536, .f32⟩
  | 64 => ⟨S8x196x1536, .f32⟩
  | 65 => ⟨S1536x1, .f32⟩
  | 66 => ⟨S1536, .f32⟩
  | 67 => ⟨S1x1x1536, .f32⟩
  | 68 => ⟨S8x196x1536, .f32⟩
  | 69 => ⟨S8x196x1536, .f32⟩
  | 70 => ⟨S8x196x1536, .f32⟩
  | 71 => ⟨S8x196x1536, .f32⟩
  | 72 => ⟨S1536x1, .f32⟩
  | 73 => ⟨S1536, .f32⟩
  | 74 => ⟨S1x1x1536, .f32⟩
  | 75 => ⟨S8x196x1536, .f32⟩
  | 76 => ⟨S8x196x1536, .f32⟩
  | 77 => ⟨S8x196x1536, .f32⟩
  | 78 => ⟨S8x196x1536, .f32⟩
  | 79 => ⟨S1536x1, .f32⟩
  | 80 => ⟨S1536, .f32⟩
  | 81 => ⟨S1x1x1536, .f32⟩
  | 82 => ⟨S8x196x1536, .f32⟩
  | 83 => ⟨S8x196x1536, .f32⟩
  | 84 => ⟨S8x196x1536, .f32⟩
  | 85 => ⟨S1x1x1536, .f32⟩
  | 86 => ⟨S8x196x1536, .f32⟩
  | 87 => ⟨S8x196x1536, .f32⟩
  | 88 => ⟨S8x196x1536, .f32⟩
  | 89 => ⟨S8x196x1536, .f32⟩
  | 90 => ⟨S_, .f32⟩
  | 91 => ⟨S8x196x1536, .f32⟩
  | 92 => ⟨S8x196x1536, .f32⟩
  | 93 => ⟨S_, .f32⟩
  | 94 => ⟨S8x196x1536, .f32⟩
  | 95 => ⟨S8x196x1536, .f32⟩
  | 96 => ⟨S8x196x1536, .f32⟩
  | 97 => ⟨S8x196x80, .f32⟩
  | 98 => ⟨S8x196x48, .f32⟩
  | 99 => ⟨S8x196x16, .f32⟩
  | 100 => ⟨S8x196x16, .f32⟩
  | 101 => ⟨S8x196x1536, .f32⟩
  | 102 => ⟨S1x1x1536, .f32⟩
  | 103 => ⟨S8x196x1536, .f32⟩
  | 104 => ⟨S8x196x1536, .f32⟩
  | 105 => ⟨S_, .f32⟩
  | 106 => ⟨S8x196x1536, .f32⟩
  | 107 => ⟨S8x196x1536, .f32⟩
  | 108 => ⟨S8x196x1536, .f32⟩
  | 109 => ⟨S8x196x1536, .f32⟩
  | 110 => ⟨S8x196x1536, .i1⟩
  | 111 => ⟨S8x196x1536, .f32⟩
  | 112 => ⟨S8x196x1536, .f32⟩
  | 113 => ⟨S8x196x1536, .f32⟩
  | 114 => ⟨S8x196x1536, .f32⟩
  | 115 => ⟨S8x196x1536, .f32⟩
  | 116 => ⟨S8x196x1536, .f32⟩
  | 117 => ⟨S8x196x1536, .f32⟩
  | 118 => ⟨S8x196x1536, .f32⟩
  | 119 => ⟨S1536x16, .f32⟩
  | 120 => ⟨S1536x16, .f32⟩
  | 121 => ⟨S_, .f32⟩
  | 122 => ⟨S8x1536x16, .f32⟩
  | 123 => ⟨S196x8x1536, .f32⟩
  | 124 => ⟨S196x8x1536, .f32⟩
  | 125 => ⟨S196x8x16, .f32⟩
  | 126 => ⟨S196x8x16, .f32⟩
  | 127 => ⟨S_, .f32⟩
  | _ => ⟨S8x3x224x224, .f32⟩

abbrev hbmTy0_6 (i : Nat) : BufTy := match i % 128 with
  | 0 => ⟨S196x8x1536, .f32⟩
  | 1 => ⟨S_, .i32⟩
  | 2 => ⟨S196x8x1536, .f32⟩
  | 3 => ⟨S196x8x1536, .f32⟩
  | 4 => ⟨S196x8x16, .f32⟩
  | 5 => ⟨S196x8x16, .f32⟩
  | 6 => ⟨S1536x16, .f32⟩
  | 7 => ⟨S_, .i32⟩
  | 8 => ⟨S8x1536x16, .f32⟩
  | 9 => ⟨S196x8x1536, .f32⟩
  | 10 => ⟨S_, .i32⟩
  | 11 => ⟨S_, .i1⟩
  | 12 => ⟨S_, .i32⟩
  | 13 => ⟨S_, .i32⟩
  | 14 => ⟨S1x8x1536, .f32⟩
  | 15 => ⟨S8x1536, .f32⟩
  | 16 => ⟨S_, .i32⟩
  | 17 => ⟨S_, .i32⟩
  | 18 => ⟨S1x8x1536, .f32⟩
  | 19 => ⟨S8x1536, .f32⟩
  | 20 => ⟨S_, .i32⟩
  | 21 => ⟨S_, .i32⟩
  | 22 => ⟨S1x8x16, .f32⟩
  | 23 => ⟨S8x16, .f32⟩
  | 24 => ⟨S_, .i32⟩
  | 25 => ⟨S_, .i32⟩
  | 26 => ⟨S1x8x16, .f32⟩
  | 27 => ⟨S8x16, .f32⟩
  | 28 => ⟨S8x1536x1, .f32⟩
  | 29 => ⟨S1x1536x16, .f32⟩
  | 30 => ⟨S8x1536x16, .f32⟩
  | 31 => ⟨S8x1536x16, .f32⟩
  | 32 => ⟨S8x1536x16, .f32⟩
  | 33 => ⟨S8x1536x16, .f32⟩
  | 34 => ⟨S8x1536x16, .f32⟩
  | 35 => ⟨S8x1536, .f32⟩
  | 36 => ⟨S8x1536x1, .f32⟩
  | 37 => ⟨S8x1x16, .f32⟩
  | 38 => ⟨S8x1536x16, .f32⟩
  | 39 => ⟨S8x1536x16, .f32⟩
  | 40 => ⟨S8x1536x16, .f32⟩
  | 41 => ⟨S8x1536x16, .f32⟩
  | 42 => ⟨S8x1536, .f32⟩
  | 43 => ⟨S1x8x1536, .f32⟩
  | 44 => ⟨S_, .i32⟩
  | 45 => ⟨S_, .i32⟩
  | 46 => ⟨S196x8x1536, .f32⟩
  | 47 => ⟨S_, .i32⟩
  | 48 => ⟨S_, .i32⟩
  | 49 => ⟨S8x196x1536, .f32⟩
  | 50 => ⟨S1x1x1536, .f32⟩
  | 51 => ⟨S8x196x1536, .f32⟩
  | 52 => ⟨S8x196x1536, .f32⟩
  | 53 => ⟨S8x196x1536, .f32⟩
  | 54 => ⟨S8x196x1536, .f32⟩
  | 55 => ⟨S8x196x1536, .f32⟩
  | 56 => ⟨S_, .f32⟩
  | 57 => ⟨S8x196x1536, .f32⟩
  | 58 => ⟨S8x196x1536, .f32⟩
  | 59 => ⟨S_, .f32⟩
  | 60 => ⟨S8x196x1536, .f32⟩
  | 61 => ⟨S8x196x1536, .f32⟩
  | 62 => ⟨S8x196x1536, .f32⟩
  | 63 => ⟨S8x196x1536, .f32⟩
  | 64 => ⟨S8x196x768, .f32⟩
  | 65 => ⟨S1x3072x768, .f32⟩
  | 66 => ⟨S3072x768, .f32⟩
  | 67 => ⟨S1x1536x4, .f32⟩
  | 68 => ⟨S1536x4, .f32⟩
  | 69 => ⟨S1x1536, .f32⟩
  | 70 => ⟨S1536, .f32⟩
  | 71 => ⟨S1x80x1536, .f32⟩
  | 72 => ⟨S80x1536, .f32⟩
  | 73 => ⟨S1x1536x48, .f32⟩
  | 74 => ⟨S1536x48, .f32⟩
  | 75 => ⟨S1x1536, .f32⟩
  | 76 => ⟨S1536, .f32⟩
  | 77 => ⟨S1x1536x16, .f32⟩
  | 78 => ⟨S1536x16, .f32⟩
  | 79 => ⟨S1x1536, .f32⟩
  | 80 => ⟨S1536, .f32⟩
  | 81 => ⟨S1x768x1536, .f32⟩
  | 82 => ⟨S768x1536, .f32⟩
  | 83 => ⟨S8x196x3072, .f32⟩
  | 84 => ⟨S8x196x1536, .f32⟩
  | 85 => ⟨S8x196x1536, .f32⟩
  | 86 => ⟨S_, .i32⟩
  | 87 => ⟨S_, .f32⟩
  | 88 => ⟨S8x199x1536, .f32⟩
  | 89 => ⟨S8x196x1536, .f32⟩
  | 90 => ⟨S1536x1, .f32⟩
  | 91 => ⟨S1536, .f32⟩
  | 92 => ⟨S1x1x1536, .f32⟩
  | 93 => ⟨S8x196x1536, .f32⟩
  | 94 => ⟨S8x196x1536, .f32⟩
  | 95 => ⟨S_, .f32⟩
  | 96 => ⟨S8x196x1536, .f32⟩
  | 97 => ⟨S8x196x1536, .f32⟩
  | 98 => ⟨S8x196x1536, .f32⟩
  | 99 => ⟨S1536x1, .f32⟩
  | 100 => ⟨S1536, .f32⟩
  | 101 => ⟨S1x1x1536, .f32⟩
  | 102 => ⟨S8x196x1536, .f32⟩
  | 103 => ⟨S8x196x1536, .f32⟩
  | 104 => ⟨S8x196x1536, .f32⟩
  | 105 => ⟨S8x196x1536, .f32⟩
  | 106 => ⟨S1536x1, .f32⟩
  | 107 => ⟨S1536, .f32⟩
  | 108 => ⟨S1x1x1536, .f32⟩
  | 109 => ⟨S8x196x1536, .f32⟩
  | 110 => ⟨S8x196x1536, .f32⟩
  | 111 => ⟨S8x196x1536, .f32⟩
  | 112 => ⟨S8x196x1536, .f32⟩
  | 113 => ⟨S1536x1, .f32⟩
  | 114 => ⟨S1536, .f32⟩
  | 115 => ⟨S1x1x1536, .f32⟩
  | 116 => ⟨S8x196x1536, .f32⟩
  | 117 => ⟨S8x196x1536, .f32⟩
  | 118 => ⟨S8x196x1536, .f32⟩
  | 119 => ⟨S1x1x1536, .f32⟩
  | 120 => ⟨S8x196x1536, .f32⟩
  | 121 => ⟨S8x196x1536, .f32⟩
  | 122 => ⟨S8x196x1536, .f32⟩
  | 123 => ⟨S8x196x1536, .f32⟩
  | 124 => ⟨S_, .f32⟩
  | 125 => ⟨S8x196x1536, .f32⟩
  | 126 => ⟨S8x196x1536, .f32⟩
  | 127 => ⟨S_, .f32⟩
  | _ => ⟨S8x3x224x224, .f32⟩

abbrev hbmTy0_7 (i : Nat) : BufTy := match i % 128 with
  | 0 => ⟨S8x196x1536, .f32⟩
  | 1 => ⟨S8x196x1536, .f32⟩
  | 2 => ⟨S8x196x1536, .f32⟩
  | 3 => ⟨S8x196x80, .f32⟩
  | 4 => ⟨S8x196x48, .f32⟩
  | 5 => ⟨S8x196x16, .f32⟩
  | 6 => ⟨S8x196x16, .f32⟩
  | 7 => ⟨S8x196x1536, .f32⟩
  | 8 => ⟨S1x1x1536, .f32⟩
  | 9 => ⟨S8x196x1536, .f32⟩
  | 10 => ⟨S8x196x1536, .f32⟩
  | 11 => ⟨S_, .f32⟩
  | 12 => ⟨S8x196x1536, .f32⟩
  | 13 => ⟨S8x196x1536, .f32⟩
  | 14 => ⟨S8x196x1536, .f32⟩
  | 15 => ⟨S8x196x1536, .f32⟩
  | 16 => ⟨S8x196x1536, .i1⟩
  | 17 => ⟨S8x196x1536, .f32⟩
  | 18 => ⟨S8x196x1536, .f32⟩
  | 19 => ⟨S8x196x1536, .f32⟩
  | 20 => ⟨S8x196x1536, .f32⟩
  | 21 => ⟨S8x196x1536, .f32⟩
  | 22 => ⟨S8x196x1536, .f32⟩
  | 23 => ⟨S8x196x1536, .f32⟩
  | 24 => ⟨S8x196x1536, .f32⟩
  | 25 => ⟨S1536x16, .f32⟩
  | 26 => ⟨S1536x16, .f32⟩
  | 27 => ⟨S_, .f32⟩
  | 28 => ⟨S8x1536x16, .f32⟩
  | 29 => ⟨S196x8x1536, .f32⟩
  | 30 => ⟨S196x8x1536, .f32⟩
  | 31 => ⟨S196x8x16, .f32⟩
  | 32 => ⟨S196x8x16, .f32⟩
  | 33 => ⟨S_, .f32⟩
  | 34 => ⟨S196x8x1536, .f32⟩
  | 35 => ⟨S_, .i32⟩
  | 36 => ⟨S196x8x1536, .f32⟩
  | 37 => ⟨S196x8x1536, .f32⟩
  | 38 => ⟨S196x8x16, .f32⟩
  | 39 => ⟨S196x8x16, .f32⟩
  | 40 => ⟨S1536x16, .f32⟩
  | 41 => ⟨S_, .i32⟩
  | 42 => ⟨S8x1536x16, .f32⟩
  | 43 => ⟨S196x8x1536, .f32⟩
  | 44 => ⟨S_, .i32⟩
  | 45 => ⟨S_, .i1⟩
  | 46 => ⟨S_, .i32⟩
  | 47 => ⟨S_, .i32⟩
  | 48 => ⟨S1x8x1536, .f32⟩
  | 49 => ⟨S8x1536, .f32⟩
  | 50 => ⟨S_, .i32⟩
  | 51 => ⟨S_, .i32⟩
  | 52 => ⟨S1x8x1536, .f32⟩
  | 53 => ⟨S8x1536, .f32⟩
  | 54 => ⟨S_, .i32⟩
  | 55 => ⟨S_, .i32⟩
  | 56 => ⟨S1x8x16, .f32⟩
  | 57 => ⟨S8x16, .f32⟩
  | 58 => ⟨S_, .i32⟩
  | 59 => ⟨S_, .i32⟩
  | 60 => ⟨S1x8x16, .f32⟩
  | 61 => ⟨S8x16, .f32⟩
  | 62 => ⟨S8x1536x1, .f32⟩
  | 63 => ⟨S1x1536x16, .f32⟩
  | 64 => ⟨S8x1536x16, .f32⟩
  | 65 => ⟨S8x1536x16, .f32⟩
  | 66 => ⟨S8x1536x16, .f32⟩
  | 67 => ⟨S8x1536x16, .f32⟩
  | 68 => ⟨S8x1536x16, .f32⟩
  | 69 => ⟨S8x1536, .f32⟩
  | 70 => ⟨S8x1536x1, .f32⟩
  | 71 => ⟨S8x1x16, .f32⟩
  | 72 => ⟨S8x1536x16, .f32⟩
  | 73 => ⟨S8x1536x16, .f32⟩
  | 74 => ⟨S8x1536x16, .f32⟩
  | 75 => ⟨S8x1536x16, .f32⟩
  | 76 => ⟨S8x1536, .f32⟩
  | 77 => ⟨S1x8x1536, .f32⟩
  | 78 => ⟨S_, .i32⟩
  | 79 => ⟨S_, .i32⟩
  | 80 => ⟨S196x8x1536, .f32⟩
  | 81 => ⟨S_, .i32⟩
  | 82 => ⟨S_, .i32⟩
  | 83 => ⟨S8x196x1536, .f32⟩
  | 84 => ⟨S1x1x1536, .f32⟩
  | 85 => ⟨S8x196x1536, .f32⟩
  | 86 => ⟨S8x196x1536, .f32⟩
  | 87 => ⟨S8x196x1536, .f32⟩
  | 88 => ⟨S8x196x1536, .f32⟩
  | 89 => ⟨S8x196x1536, .f32⟩
  | 90 => ⟨S_, .f32⟩
  | 91 => ⟨S8x196x1536, .f32⟩
  | 92 => ⟨S8x196x1536, .f32⟩
  | 93 => ⟨S_, .f32⟩
  | 94 => ⟨S8x196x1536, .f32⟩
  | 95 => ⟨S8x196x1536, .f32⟩
  | 96 => ⟨S8x196x1536, .f32⟩
  | 97 => ⟨S8x196x1536, .f32⟩
  | 98 => ⟨S8x196x768, .f32⟩
  | 99 => ⟨S1x3072x768, .f32⟩
  | 100 => ⟨S3072x768, .f32⟩
  | 101 => ⟨S1x1536x4, .f32⟩
  | 102 => ⟨S1536x4, .f32⟩
  | 103 => ⟨S1x1536, .f32⟩
  | 104 => ⟨S1536, .f32⟩
  | 105 => ⟨S1x80x1536, .f32⟩
  | 106 => ⟨S80x1536, .f32⟩
  | 107 => ⟨S1x1536x48, .f32⟩
  | 108 => ⟨S1536x48, .f32⟩
  | 109 => ⟨S1x1536, .f32⟩
  | 110 => ⟨S1536, .f32⟩
  | 111 => ⟨S1x1536x16, .f32⟩
  | 112 => ⟨S1536x16, .f32⟩
  | 113 => ⟨S1x1536, .f32⟩
  | 114 => ⟨S1536, .f32⟩
  | 115 => ⟨S1x768x1536, .f32⟩
  | 116 => ⟨S768x1536, .f32⟩
  | 117 => ⟨S8x196x3072, .f32⟩
  | 118 => ⟨S8x196x1536, .f32⟩
  | 119 => ⟨S8x196x1536, .f32⟩
  | 120 => ⟨S_, .i32⟩
  | 121 => ⟨S_, .f32⟩
  | 122 => ⟨S8x199x1536, .f32⟩
  | 123 => ⟨S8x196x1536, .f32⟩
  | 124 => ⟨S1536x1, .f32⟩
  | 125 => ⟨S1536, .f32⟩
  | 126 => ⟨S1x1x1536, .f32⟩
  | 127 => ⟨S8x196x1536, .f32⟩
  | _ => ⟨S8x3x224x224, .f32⟩

abbrev hbmTy0_8 (i : Nat) : BufTy := match i % 128 with
  | 0 => ⟨S8x196x1536, .f32⟩
  | 1 => ⟨S_, .f32⟩
  | 2 => ⟨S8x196x1536, .f32⟩
  | 3 => ⟨S8x196x1536, .f32⟩
  | 4 => ⟨S8x196x1536, .f32⟩
  | 5 => ⟨S1536x1, .f32⟩
  | 6 => ⟨S1536, .f32⟩
  | 7 => ⟨S1x1x1536, .f32⟩
  | 8 => ⟨S8x196x1536, .f32⟩
  | 9 => ⟨S8x196x1536, .f32⟩
  | 10 => ⟨S8x196x1536, .f32⟩
  | 11 => ⟨S8x196x1536, .f32⟩
  | 12 => ⟨S1536x1, .f32⟩
  | 13 => ⟨S1536, .f32⟩
  | 14 => ⟨S1x1x1536, .f32⟩
  | 15 => ⟨S8x196x1536, .f32⟩
  | 16 => ⟨S8x196x1536, .f32⟩
  | 17 => ⟨S8x196x1536, .f32⟩
  | 18 => ⟨S8x196x1536, .f32⟩
  | 19 => ⟨S1536x1, .f32⟩
  | 20 => ⟨S1536, .f32⟩
  | 21 => ⟨S1x1x1536, .f32⟩
  | 22 => ⟨S8x196x1536, .f32⟩
  | 23 => ⟨S8x196x1536, .f32⟩
  | 24 => ⟨S8x196x1536, .f32⟩
  | 25 => ⟨S1x1x1536, .f32⟩
  | 26 => ⟨S8x196x1536, .f32⟩
  | 27 => ⟨S8x196x1536, .f32⟩
  | 28 => ⟨S8x196x1536, .f32⟩
  | 29 => ⟨S8x196x1536, .f32⟩
  | 30 => ⟨S_, .f32⟩
  | 31 => ⟨S8x196x1536, .f32⟩
  | 32 => ⟨S8x196x1536, .f32⟩
  | 33 => ⟨S_, .f32⟩
  | 34 => ⟨S8x196x1536, .f32⟩
  | 35 => ⟨S8x196x1536, .f32⟩
  | 36 => ⟨S8x196x1536, .f32⟩
  | 37 => ⟨S8x196x80, .f32⟩
  | 38 => ⟨S8x196x48, .f32⟩
  | 39 => ⟨S8x196x16, .f32⟩
  | 40 => ⟨S8x196x16, .f32⟩
  | 41 => ⟨S8x196x1536, .f32⟩
  | 42 => ⟨S1x1x1536, .f32⟩
  | 43 => ⟨S8x196x1536, .f32⟩
  | 44 => ⟨S8x196x1536, .f32⟩
  | 45 => ⟨S_, .f32⟩
  | 46 => ⟨S8x196x1536, .f32⟩
  | 47 => ⟨S8x196x1536, .f32⟩
  | 48 => ⟨S8x196x1536, .f32⟩
  | 49 => ⟨S8x196x1536, .f32⟩
  | 50 => ⟨S8x196x1536, .i1⟩
  | 51 => ⟨S8x196x1536, .f32⟩
  | 52 => ⟨S8x196x1536, .f32⟩
  | 53 => ⟨S8x196x1536, .f32⟩
  | 54 => ⟨S8x196x1536, .f32⟩
  | 55 => ⟨S8x196x1536, .f32⟩
  | 56 => ⟨S8x196x1536, .f32⟩
  | 57 => ⟨S8x196x1536, .f32⟩
  | 58 => ⟨S8x196x1536, .f32⟩
  | 59 => ⟨S1536x16, .f32⟩
  | 60 => ⟨S1536x16, .f32⟩
  | 61 => ⟨S_, .f32⟩
  | 62 => ⟨S8x1536x16, .f32⟩
  | 63 => ⟨S196x8x1536, .f32⟩
  | 64 => ⟨S196x8x1536, .f32⟩
  | 65 => ⟨S196x8x16, .f32⟩
  | 66 => ⟨S196x8x16, .f32⟩
  | 67 => ⟨S_, .f32⟩
  | 68 => ⟨S196x8x1536, .f32⟩
  | 69 => ⟨S_, .i32⟩
  | 70 => ⟨S196x8x1536, .f32⟩
  | 71 => ⟨S196x8x1536, .f32⟩
  | 72 => ⟨S196x8x16, .f32⟩
  | 73 => ⟨S196x8x16, .f32⟩
  | 74 => ⟨S1536x16, .f32⟩
  | 75 => ⟨S_, .i32⟩
  | 76 => ⟨S8x1536x16, .f32⟩
  | 77 => ⟨S196x8x1536, .f32⟩
  | 78 => ⟨S_, .i32⟩
  | 79 => ⟨S_, .i1⟩
  | 80 => ⟨S_, .i32⟩
  | 81 => ⟨S_, .i32⟩
  | 82 => ⟨S1x8x1536, .f32⟩
  | 83 => ⟨S8x1536, .f32⟩
  | 84 => ⟨S_, .i32⟩
  | 85 => ⟨S_, .i32⟩
  | 86 => ⟨S1x8x1536, .f32⟩
  | 87 => ⟨S8x1536, .f32⟩
  | 88 => ⟨S_, .i32⟩
  | 89 => ⟨S_, .i32⟩
  | 90 => ⟨S1x8x16, .f32⟩
  | 91 => ⟨S8x16, .f32⟩
  | 92 => ⟨S_, .i32⟩
  | 93 => ⟨S_, .i32⟩
  | 94 => ⟨S1x8x16, .f32⟩
  | 95 => ⟨S8x16, .f32⟩
  | 96 => ⟨S8x1536x1, .f32⟩
  | 97 => ⟨S1x1536x16, .f32⟩
  | 98 => ⟨S8x1536x16, .f32⟩
  | 99 => ⟨S8x1536x16, .f32⟩
  | 100 => ⟨S8x1536x16, .f32⟩
  | 101 => ⟨S8x1536x16, .f32⟩
  | 102 => ⟨S8x1536x16, .f32⟩
  | 103 => ⟨S8x1536, .f32⟩
  | 104 => ⟨S8x1536x1, .f32⟩
  | 105 => ⟨S8x1x16, .f32⟩
  | 106 => ⟨S8x1536x16, .f32⟩
  | 107 => ⟨S8x1536x16, .f32⟩
  | 108 => ⟨S8x1536x16, .f32⟩
  | 109 => ⟨S8x1536x16, .f32⟩
  | 110 => ⟨S8x1536, .f32⟩
  | 111 => ⟨S1x8x1536, .f32⟩
  | 112 => ⟨S_, .i32⟩
  | 113 => ⟨S_, .i32⟩
  | 114 => ⟨S196x8x1536, .f32⟩
  | 115 => ⟨S_, .i32⟩
  | 116 => ⟨S_, .i32⟩
  | 117 => ⟨S8x196x1536, .f32⟩
  | 118 => ⟨S1x1x1536, .f32⟩
  | 119 => ⟨S8x196x1536, .f32⟩
  | 120 => ⟨S8x196x1536, .f32⟩
  | 121 => ⟨S8x196x1536, .f32⟩
  | 122 => ⟨S8x196x1536, .f32⟩
  | 123 => ⟨S8x196x1536, .f32⟩
  | 124 => ⟨S_, .f32⟩
  | 125 => ⟨S8x196x1536, .f32⟩
  | 126 => ⟨S8x196x1536, .f32⟩
  | 127 => ⟨S_, .f32⟩
  | _ => ⟨S8x3x224x224, .f32⟩

abbrev hbmTy0_9 (i : Nat) : BufTy := match i % 128 with
  | 0 => ⟨S8x196x1536, .f32⟩
  | 1 => ⟨S8x196x1536, .f32⟩
  | 2 => ⟨S8x196x1536, .f32⟩
  | 3 => ⟨S8x196x1536, .f32⟩
  | 4 => ⟨S8x196x768, .f32⟩
  | 5 => ⟨S1x3072x768, .f32⟩
  | 6 => ⟨S3072x768, .f32⟩
  | 7 => ⟨S1x1536x4, .f32⟩
  | 8 => ⟨S1536x4, .f32⟩
  | 9 => ⟨S1x1536, .f32⟩
  | 10 => ⟨S1536, .f32⟩
  | 11 => ⟨S1x80x1536, .f32⟩
  | 12 => ⟨S80x1536, .f32⟩
  | 13 => ⟨S1x1536x48, .f32⟩
  | 14 => ⟨S1536x48, .f32⟩
  | 15 => ⟨S1x1536, .f32⟩
  | 16 => ⟨S1536, .f32⟩
  | 17 => ⟨S1x1536x16, .f32⟩
  | 18 => ⟨S1536x16, .f32⟩
  | 19 => ⟨S1x1536, .f32⟩
  | 20 => ⟨S1536, .f32⟩
  | 21 => ⟨S1x768x1536, .f32⟩
  | 22 => ⟨S768x1536, .f32⟩
  | 23 => ⟨S8x196x3072, .f32⟩
  | 24 => ⟨S8x196x1536, .f32⟩
  | 25 => ⟨S8x196x1536, .f32⟩
  | 26 => ⟨S_, .i32⟩
  | 27 => ⟨S_, .f32⟩
  | 28 => ⟨S8x199x1536, .f32⟩
  | 29 => ⟨S8x196x1536, .f32⟩
  | 30 => ⟨S1536x1, .f32⟩
  | 31 => ⟨S1536, .f32⟩
  | 32 => ⟨S1x1x1536, .f32⟩
  | 33 => ⟨S8x196x1536, .f32⟩
  | 34 => ⟨S8x196x1536, .f32⟩
  | 35 => ⟨S_, .f32⟩
  | 36 => ⟨S8x196x1536, .f32⟩
  | 37 => ⟨S8x196x1536, .f32⟩
  | 38 => ⟨S8x196x1536, .f32⟩
  | 39 => ⟨S1536x1, .f32⟩
  | 40 => ⟨S1536, .f32⟩
  | 41 => ⟨S1x1x1536, .f32⟩
  | 42 => ⟨S8x196x1536, .f32⟩
  | 43 => ⟨S8x196x1536, .f32⟩
  | 44 => ⟨S8x196x1536, .f32⟩
  | 45 => ⟨S8x196x1536, .f32⟩
  | 46 => ⟨S1536x1, .f32⟩
  | 47 => ⟨S1536, .f32⟩
  | 48 => ⟨S1x1x1536, .f32⟩
  | 49 => ⟨S8x196x1536, .f32⟩
  | 50 => ⟨S8x196x1536, .f32⟩
  | 51 => ⟨S8x196x1536, .f32⟩
  | 52 => ⟨S8x196x1536, .f32⟩
  | 53 => ⟨S1536x1, .f32⟩
  | 54 => ⟨S1536, .f32⟩
  | 55 => ⟨S1x1x1536, .f32⟩
  | 56 => ⟨S8x196x1536, .f32⟩
  | 57 => ⟨S8x196x1536, .f32⟩
  | 58 => ⟨S8x196x1536, .f32⟩
  | 59 => ⟨S1x1x1536, .f32⟩
  | 60 => ⟨S8x196x1536, .f32⟩
  | 61 => ⟨S8x196x1536, .f32⟩
  | 62 => ⟨S8x196x1536, .f32⟩
  | 63 => ⟨S8x196x1536, .f32⟩
  | 64 => ⟨S_, .f32⟩
  | 65 => ⟨S8x196x1536, .f32⟩
  | 66 => ⟨S8x196x1536, .f32⟩
  | 67 => ⟨S_, .f32⟩
  | 68 => ⟨S8x196x1536, .f32⟩
  | 69 => ⟨S8x196x1536, .f32⟩
  | 70 => ⟨S8x196x1536, .f32⟩
  | 71 => ⟨S8x196x80, .f32⟩
  | 72 => ⟨S8x196x48, .f32⟩
  | 73 => ⟨S8x196x16, .f32⟩
  | 74 => ⟨S8x196x16, .f32⟩
  | 75 => ⟨S8x196x1536, .f32⟩
  | 76 => ⟨S1x1x1536, .f32⟩
  | 77 => ⟨S8x196x1536, .f32⟩
  | 78 => ⟨S8x196x1536, .f32⟩
  | 79 => ⟨S_, .f32⟩
  | 80 => ⟨S8x196x1536, .f32⟩
  | 81 => ⟨S8x196x1536, .f32⟩
  | 82 => ⟨S8x196x1536, .f32⟩
  | 83 => ⟨S8x196x1536, .f32⟩
  | 84 => ⟨S8x196x1536, .i1⟩
  | 85 => ⟨S8x196x1536, .f32⟩
  | 86 => ⟨S8x196x1536, .f32⟩
  | 87 => ⟨S8x196x1536, .f32⟩
  | 88 => ⟨S8x196x1536, .f32⟩
  | 89 => ⟨S8x196x1536, .f32⟩
  | 90 => ⟨S8x196x1536, .f32⟩
  | 91 => ⟨S8x196x1536, .f32⟩
  | 92 => ⟨S8x196x1536, .f32⟩
  | 93 => ⟨S1536x16, .f32⟩
  | 94 => ⟨S1536x16, .f32⟩
  | 95 => ⟨S_, .f32⟩
  | 96 => ⟨S8x1536x16, .f32⟩
  | 97 => ⟨S196x8x1536, .f32⟩
  | 98 => ⟨S196x8x1536, .f32⟩
  | 99 => ⟨S196x8x16, .f32⟩
  | 100 => ⟨S196x8x16, .f32⟩
  | 101 => ⟨S_, .f32⟩
  | 102 => ⟨S196x8x1536, .f32⟩
  | 103 => ⟨S_, .i32⟩
  | 104 => ⟨S196x8x1536, .f32⟩
  | 105 => ⟨S196x8x1536, .f32⟩
  | 106 => ⟨S196x8x16, .f32⟩
  | 107 => ⟨S196x8x16, .f32⟩
  | 108 => ⟨S1536x16, .f32⟩
  | 109 => ⟨S_, .i32⟩
  | 110 => ⟨S8x1536x16, .f32⟩
  | 111 => ⟨S196x8x1536, .f32⟩
  | 112 => ⟨S_, .i32⟩
  | 113 => ⟨S_, .i1⟩
  | 114 => ⟨S_, .i32⟩
  | 115 => ⟨S_, .i32⟩
  | 116 => ⟨S1x8x1536, .f32⟩
  | 117 => ⟨S8x1536, .f32⟩
  | 118 => ⟨S_, .i32⟩
  | 119 => ⟨S_, .i32⟩
  | 120 => ⟨S1x8x1536, .f32⟩
  | 121 => ⟨S8x1536, .f32⟩
  | 122 => ⟨S_, .i32⟩
  | 123 => ⟨S_, .i32⟩
  | 124 => ⟨S1x8x16, .f32⟩
  | 125 => ⟨S8x16, .f32⟩
  | 126 => ⟨S_, .i32⟩
  | 127 => ⟨S_, .i32⟩
  | _ => ⟨S8x3x224x224, .f32⟩

abbrev hbmTy0_10 (i : Nat) : BufTy := match i % 128 with
  | 0 => ⟨S1x8x16, .f32⟩
  | 1 => ⟨S8x16, .f32⟩
  | 2 => ⟨S8x1536x1, .f32⟩
  | 3 => ⟨S1x1536x16, .f32⟩
  | 4 => ⟨S8x1536x16, .f32⟩
  | 5 => ⟨S8x1536x16, .f32⟩
  | 6 => ⟨S8x1536x16, .f32⟩
  | 7 => ⟨S8x1536x16, .f32⟩
  | 8 => ⟨S8x1536x16, .f32⟩
  | 9 => ⟨S8x1536, .f32⟩
  | 10 => ⟨S8x1536x1, .f32⟩
  | 11 => ⟨S8x1x16, .f32⟩
  | 12 => ⟨S8x1536x16, .f32⟩
  | 13 => ⟨S8x1536x16, .f32⟩
  | 14 => ⟨S8x1536x16, .f32⟩
  | 15 => ⟨S8x1536x16, .f32⟩
  | 16 => ⟨S8x1536, .f32⟩
  | 17 => ⟨S1x8x1536, .f32⟩
  | 18 => ⟨S_, .i32⟩
  | 19 => ⟨S_, .i32⟩
  | 20 => ⟨S196x8x1536, .f32⟩
  | 21 => ⟨S_, .i32⟩
  | 22 => ⟨S_, .i32⟩
  | 23 => ⟨S8x196x1536, .f32⟩
  | 24 => ⟨S1x1x1536, .f32⟩
  | 25 => ⟨S8x196x1536, .f32⟩
  | 26 => ⟨S8x196x1536, .f32⟩
  | 27 => ⟨S8x196x1536, .f32⟩
  | 28 => ⟨S8x196x1536, .f32⟩
  | 29 => ⟨S8x196x1536, .f32⟩
  | 30 => ⟨S_, .f32⟩
  | 31 => ⟨S8x196x1536, .f32⟩
  | 32 => ⟨S8x196x1536, .f32⟩
  | 33 => ⟨S_, .f32⟩
  | 34 => ⟨S8x196x1536, .f32⟩
  | 35 => ⟨S8x196x1536, .f32⟩
  | 36 => ⟨S8x196x1536, .f32⟩
  | 37 => ⟨S8x196x1536, .f32⟩
  | 38 => ⟨S8x196x768, .f32⟩
  | 39 => ⟨S1x3072x768, .f32⟩
  | 40 => ⟨S3072x768, .f32⟩
  | 41 => ⟨S1x1536x4, .f32⟩
  | 42 => ⟨S1536x4, .f32⟩
  | 43 => ⟨S1x1536, .f32⟩
  | 44 => ⟨S1536, .f32⟩
  | 45 => ⟨S1x80x1536, .f32⟩
  | 46 => ⟨S80x1536, .f32⟩
  | 47 => ⟨S1x1536x48, .f32⟩
  | 48 => ⟨S1536x48, .f32⟩
  | 49 => ⟨S1x1536, .f32⟩
  | 50 => ⟨S1536, .f32⟩
  | 51 => ⟨S1x1536x16, .f32⟩
  | 52 => ⟨S1536x16, .f32⟩
  | 53 => ⟨S1x1536, .f32⟩
  | 54 => ⟨S1536, .f32⟩
  | 55 => ⟨S1x768x1536, .f32⟩
  | 56 => ⟨S768x1536, .f32⟩
  | 57 => ⟨S8x196x3072, .f32⟩
  | 58 => ⟨S8x196x1536, .f32⟩
  | 59 => ⟨S8x196x1536, .f32⟩
  | 60 => ⟨S_, .i32⟩
  | 61 => ⟨S_, .f32⟩
  | 62 => ⟨S8x199x1536, .f32⟩
  | 63 => ⟨S8x196x1536, .f32⟩
  | 64 => ⟨S1536x1, .f32⟩
  | 65 => ⟨S1536, .f32⟩
  | 66 => ⟨S1x1x1536, .f32⟩
  | 67 => ⟨S8x196x1536, .f32⟩
  | 68 => ⟨S8x196x1536, .f32⟩
  | 69 => ⟨S_, .f32⟩
  | 70 => ⟨S8x196x1536, .f32⟩
  | 71 => ⟨S8x196x1536, .f32⟩
  | 72 => ⟨S8x196x1536, .f32⟩
  | 73 => ⟨S1536x1, .f32⟩
  | 74 => ⟨S1536, .f32⟩
  | 75 => ⟨S1x1x1536, .f32⟩
  | 76 => ⟨S8x196x1536, .f32⟩
  | 77 => ⟨S8x196x1536, .f32⟩
  | 78 => ⟨S8x196x1536, .f32⟩
  | 79 => ⟨S8x196x1536, .f32⟩
  | 80 => ⟨S1536x1, .f32⟩
  | 81 => ⟨S1536, .f32⟩
  | 82 => ⟨S1x1x1536, .f32⟩
  | 83 => ⟨S8x196x1536, .f32⟩
  | 84 => ⟨S8x196x1536, .f32⟩
  | 85 => ⟨S8x196x1536, .f32⟩
  | 86 => ⟨S8x196x1536, .f32⟩
  | 87 => ⟨S1536x1, .f32⟩
  | 88 => ⟨S1536, .f32⟩
  | 89 => ⟨S1x1x1536, .f32⟩
  | 90 => ⟨S8x196x1536, .f32⟩
  | 91 => ⟨S8x196x1536, .f32⟩
  | 92 => ⟨S8x196x1536, .f32⟩
  | 93 => ⟨S1x1x1536, .f32⟩
  | 94 => ⟨S8x196x1536, .f32⟩
  | 95 => ⟨S8x196x1536, .f32⟩
  | 96 => ⟨S8x196x1536, .f32⟩
  | 97 => ⟨S8x196x1536, .f32⟩
  | 98 => ⟨S_, .f32⟩
  | 99 => ⟨S8x196x1536, .f32⟩
  | 100 => ⟨S8x196x1536, .f32⟩
  | 101 => ⟨S_, .f32⟩
  | 102 => ⟨S8x196x1536, .f32⟩
  | 103 => ⟨S8x196x1536, .f32⟩
  | 104 => ⟨S8x196x1536, .f32⟩
  | 105 => ⟨S8x196x80, .f32⟩
  | 106 => ⟨S8x196x48, .f32⟩
  | 107 => ⟨S8x196x16, .f32⟩
  | 108 => ⟨S8x196x16, .f32⟩
  | 109 => ⟨S8x196x1536, .f32⟩
  | 110 => ⟨S1x1x1536, .f32⟩
  | 111 => ⟨S8x196x1536, .f32⟩
  | 112 => ⟨S8x196x1536, .f32⟩
  | 113 => ⟨S_, .f32⟩
  | 114 => ⟨S8x196x1536, .f32⟩
  | 115 => ⟨S8x196x1536, .f32⟩
  | 116 => ⟨S8x196x1536, .f32⟩
  | 117 => ⟨S8x196x1536, .f32⟩
  | 118 => ⟨S8x196x1536, .i1⟩
  | 119 => ⟨S8x196x1536, .f32⟩
  | 120 => ⟨S8x196x1536, .f32⟩
  | 121 => ⟨S8x196x1536, .f32⟩
  | 122 => ⟨S8x196x1536, .f32⟩
  | 123 => ⟨S8x196x1536, .f32⟩
  | 124 => ⟨S8x196x1536, .f32⟩
  | 125 => ⟨S8x196x1536, .f32⟩
  | 126 => ⟨S8x196x1536, .f32⟩
  | 127 => ⟨S1536x16, .f32⟩
  | _ => ⟨S8x3x224x224, .f32⟩

abbrev hbmTy0_11 (i : Nat) : BufTy := match i % 128 with
  | 0 => ⟨S1536x16, .f32⟩
  | 1 => ⟨S_, .f32⟩
  | 2 => ⟨S8x1536x16, .f32⟩
  | 3 => ⟨S196x8x1536, .f32⟩
  | 4 => ⟨S196x8x1536, .f32⟩
  | 5 => ⟨S196x8x16, .f32⟩
  | 6 => ⟨S196x8x16, .f32⟩
  | 7 => ⟨S_, .f32⟩
  | 8 => ⟨S196x8x1536, .f32⟩
  | 9 => ⟨S_, .i32⟩
  | 10 => ⟨S196x8x1536, .f32⟩
  | 11 => ⟨S196x8x1536, .f32⟩
  | 12 => ⟨S196x8x16, .f32⟩
  | 13 => ⟨S196x8x16, .f32⟩
  | 14 => ⟨S1536x16, .f32⟩
  | 15 => ⟨S_, .i32⟩
  | 16 => ⟨S8x1536x16, .f32⟩
  | 17 => ⟨S196x8x1536, .f32⟩
  | 18 => ⟨S_, .i32⟩
  | 19 => ⟨S_, .i1⟩
  | 20 => ⟨S_, .i32⟩
  | 21 => ⟨S_, .i32⟩
  | 22 => ⟨S1x8x1536, .f32⟩
  | 23 => ⟨S8x1536, .f32⟩
  | 24 => ⟨S_, .i32⟩
  | 25 => ⟨S_, .i32⟩
  | 26 => ⟨S1x8x1536, .f32⟩
  | 27 => ⟨S8x1536, .f32⟩
  | 28 => ⟨S_, .i32⟩
  | 29 => ⟨S_, .i32⟩
  | 30 => ⟨S1x8x16, .f32⟩
  | 31 => ⟨S8x16, .f32⟩
  | 32 => ⟨S_, .i32⟩
  | 33 => ⟨S_, .i32⟩
  | 34 => ⟨S1x8x16, .f32⟩
  | 35 => ⟨S8x16, .f32⟩
  | 36 => ⟨S8x1536x1, .f32⟩
  | 37 => ⟨S1x1536x16, .f32⟩
  | 38 => ⟨S8x1536x16, .f32⟩
  | 39 => ⟨S8x1536x16, .f32⟩
  | 40 => ⟨S8x1536x16, .f32⟩
  | 41 => ⟨S8x1536x16, .f32⟩
  | 42 => ⟨S8x1536x16, .f32⟩
  | 43 => ⟨S8x1536, .f32⟩
  | 44 => ⟨S8x1536x1, .f32⟩
  | 45 => ⟨S8x1x16, .f32⟩
  | 46 => ⟨S8x1536x16, .f32⟩
  | 47 => ⟨S8x1536x16, .f32⟩
  | 48 => ⟨S8x1536x16, .f32⟩
  | 49 => ⟨S8x1536x16, .f32⟩
  | 50 => ⟨S8x1536, .f32⟩
  | 51 => ⟨S1x8x1536, .f32⟩
  | 52 => ⟨S_, .i32⟩
  | 53 => ⟨S_, .i32⟩
  | 54 => ⟨S196x8x1536, .f32⟩
  | 55 => ⟨S_, .i32⟩
  | 56 => ⟨S_, .i32⟩
  | 57 => ⟨S8x196x1536, .f32⟩
  | 58 => ⟨S1x1x1536, .f32⟩
  | 59 => ⟨S8x196x1536, .f32⟩
  | 60 => ⟨S8x196x1536, .f32⟩
  | 61 => ⟨S8x196x1536, .f32⟩
  | 62 => ⟨S8x196x1536, .f32⟩
  | 63 => ⟨S8x196x1536, .f32⟩
  | 64 => ⟨S_, .f32⟩
  | 65 => ⟨S8x196x1536, .f32⟩
  | 66 => ⟨S8x196x1536, .f32⟩
  | 67 => ⟨S_, .f32⟩
  | 68 => ⟨S8x196x1536, .f32⟩
  | 69 => ⟨S8x196x1536, .f32⟩
  | 70 => ⟨S8x196x1536, .f32⟩
  | 71 => ⟨S8x196x1536, .f32⟩
  | 72 => ⟨S8x196x768, .f32⟩
  | 73 => ⟨S1x3072x768, .f32⟩
  | 74 => ⟨S3072x768, .f32⟩
  | 75 => ⟨S1x1536x4, .f32⟩
  | 76 => ⟨S1536x4, .f32⟩
  | 77 => ⟨S1x1536, .f32⟩
  | 78 => ⟨S1536, .f32⟩
  | 79 => ⟨S1x80x1536, .f32⟩
  | 80 => ⟨S80x1536, .f32⟩
  | 81 => ⟨S1x1536x48, .f32⟩
  | 82 => ⟨S1536x48, .f32⟩
  | 83 => ⟨S1x1536, .f32⟩
  | 84 => ⟨S1536, .f32⟩
  | 85 => ⟨S1x1536x16, .f32⟩
  | 86 => ⟨S1536x16, .f32⟩
  | 87 => ⟨S1x1536, .f32⟩
  | 88 => ⟨S1536, .f32⟩
  | 89 => ⟨S1x768x1536, .f32⟩
  | 90 => ⟨S768x1536, .f32⟩
  | 91 => ⟨S8x196x3072, .f32⟩
  | 92 => ⟨S8x196x1536, .f32⟩
  | 93 => ⟨S8x196x1536, .f32⟩
  | 94 => ⟨S_, .i32⟩
  | 95 => ⟨S_, .f32⟩
  | 96 => ⟨S8x199x1536, .f32⟩
  | 97 => ⟨S8x196x1536, .f32⟩
  | 98 => ⟨S1536x1, .f32⟩
  | 99 => ⟨S1536, .f32⟩
  | 100 => ⟨S1x1x1536, .f32⟩
  | 101 => ⟨S8x196x1536, .f32⟩
  | 102 => ⟨S8x196x1536, .f32⟩
  | 103 => ⟨S_, .f32⟩
  | 104 => ⟨S8x196x1536, .f32⟩
  | 105 => ⟨S8x196x1536, .f32⟩
  | 106 => ⟨S8x196x1536, .f32⟩
  | 107 => ⟨S1536x1, .f32⟩
  | 108 => ⟨S1536, .f32⟩
  | 109 => ⟨S1x1x1536, .f32⟩
  | 110 => ⟨S8x196x1536, .f32⟩
  | 111 => ⟨S8x196x1536, .f32⟩
  | 112 => ⟨S8x196x1536, .f32⟩
  | 113 => ⟨S8x196x1536, .f32⟩
  | 114 => ⟨S1536x1, .f32⟩
  | 115 => ⟨S1536, .f32⟩
  | 116 => ⟨S1x1x1536, .f32⟩
  | 117 => ⟨S8x196x1536, .f32⟩
  | 118 => ⟨S8x196x1536, .f32⟩
  | 119 => ⟨S8x196x1536, .f32⟩
  | 120 => ⟨S8x196x1536, .f32⟩
  | 121 => ⟨S1536x1, .f32⟩
  | 122 => ⟨S1536, .f32⟩
  | 123 => ⟨S1x1x1536, .f32⟩
  | 124 => ⟨S8x196x1536, .f32⟩
  | 125 => ⟨S8x196x1536, .f32⟩
  | 126 => ⟨S8x196x1536, .f32⟩
  | 127 => ⟨S1x1x1536, .f32⟩
  | _ => ⟨S8x3x224x224, .f32⟩

abbrev hbmTy0_12 (i : Nat) : BufTy := match i % 128 with
  | 0 => ⟨S8x196x1536, .f32⟩
  | 1 => ⟨S8x196x1536, .f32⟩
  | 2 => ⟨S8x196x1536, .f32⟩
  | 3 => ⟨S8x196x1536, .f32⟩
  | 4 => ⟨S_, .f32⟩
  | 5 => ⟨S8x196x1536, .f32⟩
  | 6 => ⟨S8x196x1536, .f32⟩
  | 7 => ⟨S_, .f32⟩
  | 8 => ⟨S8x196x1536, .f32⟩
  | 9 => ⟨S8x196x1536, .f32⟩
  | 10 => ⟨S8x196x1536, .f32⟩
  | 11 => ⟨S8x196x80, .f32⟩
  | 12 => ⟨S8x196x48, .f32⟩
  | 13 => ⟨S8x196x16, .f32⟩
  | 14 => ⟨S8x196x16, .f32⟩
  | 15 => ⟨S8x196x1536, .f32⟩
  | 16 => ⟨S1x1x1536, .f32⟩
  | 17 => ⟨S8x196x1536, .f32⟩
  | 18 => ⟨S8x196x1536, .f32⟩
  | 19 => ⟨S_, .f32⟩
  | 20 => ⟨S8x196x1536, .f32⟩
  | 21 => ⟨S8x196x1536, .f32⟩
  | 22 => ⟨S8x196x1536, .f32⟩
  | 23 => ⟨S8x196x1536, .f32⟩
  | 24 => ⟨S8x196x1536, .i1⟩
  | 25 => ⟨S8x196x1536, .f32⟩
  | 26 => ⟨S8x196x1536, .f32⟩
  | 27 => ⟨S8x196x1536, .f32⟩
  | 28 => ⟨S8x196x1536, .f32⟩
  | 29 => ⟨S8x196x1536, .f32⟩
  | 30 => ⟨S8x196x1536, .f32⟩
  | 31 => ⟨S8x196x1536, .f32⟩
  | 32 => ⟨S8x196x1536, .f32⟩
  | 33 => ⟨S1536x16, .f32⟩
  | 34 => ⟨S1536x16, .f32⟩
  | 35 => ⟨S_, .f32⟩
  | 36 => ⟨S8x1536x16, .f32⟩
  | 37 => ⟨S196x8x1536, .f32⟩
  | 38 => ⟨S196x8x1536, .f32⟩
  | 39 => ⟨S196x8x16, .f32⟩
  | 40 => ⟨S196x8x16, .f32⟩
  | 41 => ⟨S_, .f32⟩
  | 42 => ⟨S196x8x1536, .f32⟩
  | 43 => ⟨S_, .i32⟩
  | 44 => ⟨S196x8x1536, .f32⟩
  | 45 => ⟨S196x8x1536, .f32⟩
  | 46 => ⟨S196x8x16, .f32⟩
  | 47 => ⟨S196x8x16, .f32⟩
  | 48 => ⟨S1536x16, .f32⟩
  | 49 => ⟨S_, .i32⟩
  | 50 => ⟨S8x1536x16, .f32⟩
  | 51 => ⟨S196x8x1536, .f32⟩
  | 52 => ⟨S_, .i32⟩
  | 53 => ⟨S_, .i1⟩
  | 54 => ⟨S_, .i32⟩
  | 55 => ⟨S_, .i32⟩
  | 56 => ⟨S1x8x1536, .f32⟩
  | 57 => ⟨S8x1536, .f32⟩
  | 58 => ⟨S_, .i32⟩
  | 59 => ⟨S_, .i32⟩
  | 60 => ⟨S1x8x1536, .f32⟩
  | 61 => ⟨S8x1536, .f32⟩
  | 62 => ⟨S_, .i32⟩
  | 63 => ⟨S_, .i32⟩
  | 64 => ⟨S1x8x16, .f32⟩
  | 65 => ⟨S8x16, .f32⟩
  | 66 => ⟨S_, .i32⟩
  | 67 => ⟨S_, .i32⟩
  | 68 => ⟨S1x8x16, .f32⟩
  | 69 => ⟨S8x16, .f32⟩
  | 70 => ⟨S8x1536x1, .f32⟩
  | 71 => ⟨S1x1536x16, .f32⟩
  | 72 => ⟨S8x1536x16, .f32⟩
  | 73 => ⟨S8x1536x16, .f32⟩
  | 74 => ⟨S8x1536x16, .f32⟩
  | 75 => ⟨S8x1536x16, .f32⟩
  | 76 => ⟨S8x1536x16, .f32⟩
  | 77 => ⟨S8x1536, .f32⟩
  | 78 => ⟨S8x1536x1, .f32⟩
  | 79 => ⟨S8x1x16, .f32⟩
  | 80 => ⟨S8x1536x16, .f32⟩
  | 81 => ⟨S8x1536x16, .f32⟩
  | 82 => ⟨S8x1536x16, .f32⟩
  | 83 => ⟨S8x1536x16, .f32⟩
  | 84 => ⟨S8x1536, .f32⟩
  | 85 => ⟨S1x8x1536, .f32⟩
  | 86 => ⟨S_, .i32⟩
  | 87 => ⟨S_, .i32⟩
  | 88 => ⟨S196x8x1536, .f32⟩
  | 89 => ⟨S_, .i32⟩
  | 90 => ⟨S_, .i32⟩
  | 91 => ⟨S8x196x1536, .f32⟩
  | 92 => ⟨S1x1x1536, .f32⟩
  | 93 => ⟨S8x196x1536, .f32⟩
  | 94 => ⟨S8x196x1536, .f32⟩
  | 95 => ⟨S8x196x1536, .f32⟩
  | 96 => ⟨S8x196x1536, .f32⟩
  | 97 => ⟨S8x196x1536, .f32⟩
  | 98 => ⟨S_, .f32⟩
  | 99 => ⟨S8x196x1536, .f32⟩
  | 100 => ⟨S8x196x1536, .f32⟩
  | 101 => ⟨S_, .f32⟩
  | 102 => ⟨S8x196x1536, .f32⟩
  | 103 => ⟨S8x196x1536, .f32⟩
  | 104 => ⟨S8x196x1536, .f32⟩
  | 105 => ⟨S8x196x1536, .f32⟩
  | 106 => ⟨S8x196x768, .f32⟩
  | 107 => ⟨S1x3072x768, .f32⟩
  | 108 => ⟨S3072x768, .f32⟩
  | 109 => ⟨S1x1536x4, .f32⟩
  | 110 => ⟨S1536x4, .f32⟩
  | 111 => ⟨S1x1536, .f32⟩
  | 112 => ⟨S1536, .f32⟩
  | 113 => ⟨S1x80x1536, .f32⟩
  | 114 => ⟨S80x1536, .f32⟩
  | 115 => ⟨S1x1536x48, .f32⟩
  | 116 => ⟨S1536x48, .f32⟩
  | 117 => ⟨S1x1536, .f32⟩
  | 118 => ⟨S1536, .f32⟩
  | 119 => ⟨S1x1536x16, .f32⟩
  | 120 => ⟨S1536x16, .f32⟩
  | 121 => ⟨S1x1536, .f32⟩
  | 122 => ⟨S1536, .f32⟩
  | 123 => ⟨S1x768x1536, .f32⟩
  | 124 => ⟨S768x1536, .f32⟩
  | 125 => ⟨S8x196x3072, .f32⟩
  | 126 => ⟨S8x196x1536, .f32⟩
  | 127 => ⟨S8x196x1536, .f32⟩
  | _ => ⟨S8x3x224x224, .f32⟩

abbrev hbmTy0_13 (i : Nat) : BufTy := match i % 128 with
  | 0 => ⟨S_, .i32⟩
  | 1 => ⟨S_, .f32⟩
  | 2 => ⟨S8x199x1536, .f32⟩
  | 3 => ⟨S8x196x1536, .f32⟩
  | 4 => ⟨S1536x1, .f32⟩
  | 5 => ⟨S1536, .f32⟩
  | 6 => ⟨S1x1x1536, .f32⟩
  | 7 => ⟨S8x196x1536, .f32⟩
  | 8 => ⟨S8x196x1536, .f32⟩
  | 9 => ⟨S_, .f32⟩
  | 10 => ⟨S8x196x1536, .f32⟩
  | 11 => ⟨S8x196x1536, .f32⟩
  | 12 => ⟨S8x196x1536, .f32⟩
  | 13 => ⟨S1536x1, .f32⟩
  | 14 => ⟨S1536, .f32⟩
  | 15 => ⟨S1x1x1536, .f32⟩
  | 16 => ⟨S8x196x1536, .f32⟩
  | 17 => ⟨S8x196x1536, .f32⟩
  | 18 => ⟨S8x196x1536, .f32⟩
  | 19 => ⟨S8x196x1536, .f32⟩
  | 20 => ⟨S1536x1, .f32⟩
  | 21 => ⟨S1536, .f32⟩
  | 22 => ⟨S1x1x1536, .f32⟩
  | 23 => ⟨S8x196x1536, .f32⟩
  | 24 => ⟨S8x196x1536, .f32⟩
  | 25 => ⟨S8x196x1536, .f32⟩
  | 26 => ⟨S8x196x1536, .f32⟩
  | 27 => ⟨S1536x1, .f32⟩
  | 28 => ⟨S1536, .f32⟩
  | 29 => ⟨S1x1x1536, .f32⟩
  | 30 => ⟨S8x196x1536, .f32⟩
  | 31 => ⟨S8x196x1536, .f32⟩
  | 32 => ⟨S8x196x1536, .f32⟩
  | 33 => ⟨S1x1x1536, .f32⟩
  | 34 => ⟨S8x196x1536, .f32⟩
  | 35 => ⟨S8x196x1536, .f32⟩
  | 36 => ⟨S8x196x1536, .f32⟩
  | 37 => ⟨S8x196x1536, .f32⟩
  | 38 => ⟨S_, .f32⟩
  | 39 => ⟨S8x196x1536, .f32⟩
  | 40 => ⟨S8x196x1536, .f32⟩
  | 41 => ⟨S_, .f32⟩
  | 42 => ⟨S8x196x1536, .f32⟩
  | 43 => ⟨S8x196x1536, .f32⟩
  | 44 => ⟨S8x196x1536, .f32⟩
  | 45 => ⟨S8x196x80, .f32⟩
  | 46 => ⟨S8x196x48, .f32⟩
  | 47 => ⟨S8x196x16, .f32⟩
  | 48 => ⟨S8x196x16, .f32⟩
  | 49 => ⟨S8x196x1536, .f32⟩
  | 50 => ⟨S1x1x1536, .f32⟩
  | 51 => ⟨S8x196x1536, .f32⟩
  | 52 => ⟨S8x196x1536, .f32⟩
  | 53 => ⟨S_, .f32⟩
  | 54 => ⟨S8x196x1536, .f32⟩
  | 55 => ⟨S8x196x1536, .f32⟩
  | 56 => ⟨S8x196x1536, .f32⟩
  | 57 => ⟨S8x196x1536, .f32⟩
  | 58 => ⟨S8x196x1536, .i1⟩
  | 59 => ⟨S8x196x1536, .f32⟩
  | 60 => ⟨S8x196x1536, .f32⟩
  | 61 => ⟨S8x196x1536, .f32⟩
  | 62 => ⟨S8x196x1536, .f32⟩
  | 63 => ⟨S8x196x1536, .f32⟩
  | 64 => ⟨S8x196x1536, .f32⟩
  | 65 => ⟨S8x196x1536, .f32⟩
  | 66 => ⟨S8x196x1536, .f32⟩
  | 67 => ⟨S1536x16, .f32⟩
  | 68 => ⟨S1536x16, .f32⟩
  | 69 => ⟨S_, .f32⟩
  | 70 => ⟨S8x1536x16, .f32⟩
  | 71 => ⟨S196x8x1536, .f32⟩
  | 72 => ⟨S196x8x1536, .f32⟩
  | 73 => ⟨S196x8x16, .f32⟩
  | 74 => ⟨S196x8x16, .f32⟩
  | 75 => ⟨S_, .f32⟩
  | 76 => ⟨S196x8x1536, .f32⟩
  | 77 => ⟨S_, .i32⟩
  | 78 => ⟨S196x8x1536, .f32⟩
  | 79 => ⟨S196x8x1536, .f32⟩
  | 80 => ⟨S196x8x16, .f32⟩
  | 81 => ⟨S196x8x16, .f32⟩
  | 82 => ⟨S1536x16, .f32⟩
  | 83 => ⟨S_, .i32⟩
  | 84 => ⟨S8x1536x16, .f32⟩
  | 85 => ⟨S196x8x1536, .f32⟩
  | 86 => ⟨S_, .i32⟩
  | 87 => ⟨S_, .i1⟩
  | 88 => ⟨S_, .i32⟩
  | 89 => ⟨S_, .i32⟩
  | 90 => ⟨S1x8x1536, .f32⟩
  | 91 => ⟨S8x1536, .f32⟩
  | 92 => ⟨S_, .i32⟩
  | 93 => ⟨S_, .i32⟩
  | 94 => ⟨S1x8x1536, .f32⟩
  | 95 => ⟨S8x1536, .f32⟩
  | 96 => ⟨S_, .i32⟩
  | 97 => ⟨S_, .i32⟩
  | 98 => ⟨S1x8x16, .f32⟩
  | 99 => ⟨S8x16, .f32⟩
  | 100 => ⟨S_, .i32⟩
  | 101 => ⟨S_, .i32⟩
  | 102 => ⟨S1x8x16, .f32⟩
  | 103 => ⟨S8x16, .f32⟩
  | 104 => ⟨S8x1536x1, .f32⟩
  | 105 => ⟨S1x1536x16, .f32⟩
  | 106 => ⟨S8x1536x16, .f32⟩
  | 107 => ⟨S8x1536x16, .f32⟩
  | 108 => ⟨S8x1536x16, .f32⟩
  | 109 => ⟨S8x1536x16, .f32⟩
  | 110 => ⟨S8x1536x16, .f32⟩
  | 111 => ⟨S8x1536, .f32⟩
  | 112 => ⟨S8x1536x1, .f32⟩
  | 113 => ⟨S8x1x16, .f32⟩
  | 114 => ⟨S8x1536x16, .f32⟩
  | 115 => ⟨S8x1536x16, .f32⟩
  | 116 => ⟨S8x1536x16, .f32⟩
  | 117 => ⟨S8x1536x16, .f32⟩
  | 118 => ⟨S8x1536, .f32⟩
  | 119 => ⟨S1x8x1536, .f32⟩
  | 120 => ⟨S_, .i32⟩
  | 121 => ⟨S_, .i32⟩
  | 122 => ⟨S196x8x1536, .f32⟩
  | 123 => ⟨S_, .i32⟩
  | 124 => ⟨S_, .i32⟩
  | 125 => ⟨S8x196x1536, .f32⟩
  | 126 => ⟨S1x1x1536, .f32⟩
  | 127 => ⟨S8x196x1536, .f32⟩
  | _ => ⟨S8x3x224x224, .f32⟩

abbrev hbmTy0_14 (i : Nat) : BufTy := match i % 128 with
  | 0 => ⟨S8x196x1536, .f32⟩
  | 1 => ⟨S8x196x1536, .f32⟩
  | 2 => ⟨S8x196x1536, .f32⟩
  | 3 => ⟨S8x196x1536, .f32⟩
  | 4 => ⟨S_, .f32⟩
  | 5 => ⟨S8x196x1536, .f32⟩
  | 6 => ⟨S8x196x1536, .f32⟩
  | 7 => ⟨S_, .f32⟩
  | 8 => ⟨S8x196x1536, .f32⟩
  | 9 => ⟨S8x196x1536, .f32⟩
  | 10 => ⟨S8x196x1536, .f32⟩
  | 11 => ⟨S8x196x1536, .f32⟩
  | 12 => ⟨S8x196x768, .f32⟩
  | 13 => ⟨S1x3072x768, .f32⟩
  | 14 => ⟨S3072x768, .f32⟩
  | 15 => ⟨S1x1536x4, .f32⟩
  | 16 => ⟨S1536x4, .f32⟩
  | 17 => ⟨S1x1536, .f32⟩
  | 18 => ⟨S1536, .f32⟩
  | 19 => ⟨S1x80x1536, .f32⟩
  | 20 => ⟨S80x1536, .f32⟩
  | 21 => ⟨S1x1536x48, .f32⟩
  | 22 => ⟨S1536x48, .f32⟩
  | 23 => ⟨S1x1536, .f32⟩
  | 24 => ⟨S1536, .f32⟩
  | 25 => ⟨S1x1536x16, .f32⟩
  | 26 => ⟨S1536x16, .f32⟩
  | 27 => ⟨S1x1536, .f32⟩
  | 28 => ⟨S1536, .f32⟩
  | 29 => ⟨S1x768x1536, .f32⟩
  | 30 => ⟨S768x1536, .f32⟩
  | 31 => ⟨S8x196x3072, .f32⟩
  | 32 => ⟨S8x196x1536, .f32⟩
  | 33 => ⟨S8x196x1536, .f32⟩
  | 34 => ⟨S_, .i32⟩
  | 35 => ⟨S_, .f32⟩
  | 36 => ⟨S8x199x1536, .f32⟩
  | 37 => ⟨S8x196x1536, .f32⟩
  | 38 => ⟨S1536x1, .f32⟩
  | 39 => ⟨S1536, .f32⟩
  | 40 => ⟨S1x1x1536, .f32⟩
  | 41 => ⟨S8x196x1536, .f32⟩
  | 42 => ⟨S8x196x1536, .f32⟩
  | 43 => ⟨S_, .f32⟩
  | 44 => ⟨S8x196x1536, .f32⟩
  | 45 => ⟨S8x196x1536, .f32⟩
  | 46 => ⟨S8x196x1536, .f32⟩
  | 47 => ⟨S1536x1, .f32⟩
  | 48 => ⟨S1536, .f32⟩
  | 49 => ⟨S1x1x1536, .f32⟩
  | 50 => ⟨S8x196x1536, .f32⟩
  | 51 => ⟨S8x196x1536, .f32⟩
  | 52 => ⟨S8x196x1536, .f32⟩
  | 53 => ⟨S8x196x1536, .f32⟩
  | 54 => ⟨S1536x1, .f32⟩
  | 55 => ⟨S1536, .f32⟩
  | 56 => ⟨S1x1x1536, .f32⟩
  | 57 => ⟨S8x196x1536, .f32⟩
  | 58 => ⟨S8x196x1536, .f32⟩
  | 59 => ⟨S8x196x1536, .f32⟩
  | 60 => ⟨S8x196x1536, .f32⟩
  | 61 => ⟨S1536x1, .f32⟩
  | 62 => ⟨S1536, .f32⟩
  | 63 => ⟨S1x1x1536, .f32⟩
  | 64 => ⟨S8x196x1536, .f32⟩
  | 65 => ⟨S8x196x1536, .f32⟩
  | 66 => ⟨S8x196x1536, .f32⟩
  | 67 => ⟨S1x1x1536, .f32⟩
  | 68 => ⟨S8x196x1536, .f32⟩
  | 69 => ⟨S8x196x1536, .f32⟩
  | 70 => ⟨S8x196x1536, .f32⟩
  | 71 => ⟨S8x196x1536, .f32⟩
  | 72 => ⟨S_, .f32⟩
  | 73 => ⟨S8x196x1536, .f32⟩
  | 74 => ⟨S8x196x1536, .f32⟩
  | 75 => ⟨S_, .f32⟩
  | 76 => ⟨S8x196x1536, .f32⟩
  | 77 => ⟨S8x196x1536, .f32⟩
  | 78 => ⟨S8x196x1536, .f32⟩
  | 79 => ⟨S8x196x80, .f32⟩
  | 80 => ⟨S8x196x48, .f32⟩
  | 81 => ⟨S8x196x16, .f32⟩
  | 82 => ⟨S8x196x16, .f32⟩
  | 83 => ⟨S8x196x1536, .f32⟩
  | 84 => ⟨S1x1x1536, .f32⟩
  | 85 => ⟨S8x196x1536, .f32⟩
  | 86 => ⟨S8x196x1536, .f32⟩
  | 87 => ⟨S_, .f32⟩
  | 88 => ⟨S8x196x1536, .f32⟩
  | 89 => ⟨S8x196x1536, .f32⟩
  | 90 => ⟨S8x196x1536, .f32⟩
  | 91 => ⟨S8x196x1536, .f32⟩
  | 92 => ⟨S8x196x1536, .i1⟩
  | 93 => ⟨S8x196x1536, .f32⟩
  | 94 => ⟨S8x196x1536, .f32⟩
  | 95 => ⟨S8x196x1536, .f32⟩
  | 96 => ⟨S8x196x1536, .f32⟩
  | 97 => ⟨S8x196x1536, .f32⟩
  | 98 => ⟨S8x196x1536, .f32⟩
  | 99 => ⟨S8x196x1536, .f32⟩
  | 100 => ⟨S8x196x1536, .f32⟩
  | 101 => ⟨S1536x16, .f32⟩
  | 102 => ⟨S1536x16, .f32⟩
  | 103 => ⟨S_, .f32⟩
  | 104 => ⟨S8x1536x16, .f32⟩
  | 105 => ⟨S196x8x1536, .f32⟩
  | 106 => ⟨S196x8x1536, .f32⟩
  | 107 => ⟨S196x8x16, .f32⟩
  | 108 => ⟨S196x8x16, .f32⟩
  | 109 => ⟨S_, .f32⟩
  | 110 => ⟨S196x8x1536, .f32⟩
  | 111 => ⟨S_, .i32⟩
  | 112 => ⟨S196x8x1536, .f32⟩
  | 113 => ⟨S196x8x1536, .f32⟩
  | 114 => ⟨S196x8x16, .f32⟩
  | 115 => ⟨S196x8x16, .f32⟩
  | 116 => ⟨S1536x16, .f32⟩
  | 117 => ⟨S_, .i32⟩
  | 118 => ⟨S8x1536x16, .f32⟩
  | 119 => ⟨S196x8x1536, .f32⟩
  | 120 => ⟨S_, .i32⟩
  | 121 => ⟨S_, .i1⟩
  | 122 => ⟨S_, .i32⟩
  | 123 => ⟨S_, .i32⟩
  | 124 => ⟨S1x8x1536, .f32⟩
  | 125 => ⟨S8x1536, .f32⟩
  | 126 => ⟨S_, .i32⟩
  | 127 => ⟨S_, .i32⟩
  | _ => ⟨S8x3x224x224, .f32⟩

abbrev hbmTy0_15 (i : Nat) : BufTy := match i % 128 with
  | 0 => ⟨S1x8x1536, .f32⟩
  | 1 => ⟨S8x1536, .f32⟩
  | 2 => ⟨S_, .i32⟩
  | 3 => ⟨S_, .i32⟩
  | 4 => ⟨S1x8x16, .f32⟩
  | 5 => ⟨S8x16, .f32⟩
  | 6 => ⟨S_, .i32⟩
  | 7 => ⟨S_, .i32⟩
  | 8 => ⟨S1x8x16, .f32⟩
  | 9 => ⟨S8x16, .f32⟩
  | 10 => ⟨S8x1536x1, .f32⟩
  | 11 => ⟨S1x1536x16, .f32⟩
  | 12 => ⟨S8x1536x16, .f32⟩
  | 13 => ⟨S8x1536x16, .f32⟩
  | 14 => ⟨S8x1536x16, .f32⟩
  | 15 => ⟨S8x1536x16, .f32⟩
  | 16 => ⟨S8x1536x16, .f32⟩
  | 17 => ⟨S8x1536, .f32⟩
  | 18 => ⟨S8x1536x1, .f32⟩
  | 19 => ⟨S8x1x16, .f32⟩
  | 20 => ⟨S8x1536x16, .f32⟩
  | 21 => ⟨S8x1536x16, .f32⟩
  | 22 => ⟨S8x1536x16, .f32⟩
  | 23 => ⟨S8x1536x16, .f32⟩
  | 24 => ⟨S8x1536, .f32⟩
  | 25 => ⟨S1x8x1536, .f32⟩
  | 26 => ⟨S_, .i32⟩
  | 27 => ⟨S_, .i32⟩
  | 28 => ⟨S196x8x1536, .f32⟩
  | 29 => ⟨S_, .i32⟩
  | 30 => ⟨S_, .i32⟩
  | 31 => ⟨S8x196x1536, .f32⟩
  | 32 => ⟨S1x1x1536, .f32⟩
  | 33 => ⟨S8x196x1536, .f32⟩
  | 34 => ⟨S8x196x1536, .f32⟩
  | 35 => ⟨S8x196x1536, .f32⟩
  | 36 => ⟨S8x196x1536, .f32⟩
  | 37 => ⟨S8x196x1536, .f32⟩
  | 38 => ⟨S_, .f32⟩
  | 39 => ⟨S8x196x1536, .f32⟩
  | 40 => ⟨S8x196x1536, .f32⟩
  | 41 => ⟨S_, .f32⟩
  | 42 => ⟨S8x196x1536, .f32⟩
  | 43 => ⟨S8x196x1536, .f32⟩
  | 44 => ⟨S8x196x1536, .f32⟩
  | 45 => ⟨S8x196x1536, .f32⟩
  | 46 => ⟨S8x196x768, .f32⟩
  | 47 => ⟨S_, .f32⟩
  | 48 => ⟨S8x196, .f32⟩
  | 49 => ⟨S8x196x1, .f32⟩
  | 50 => ⟨S_, .f32⟩
  | 51 => ⟨S8x196x1, .f32⟩
  | 52 => ⟨S8x196x1, .f32⟩
  | 53 => ⟨S8x196x768, .f32⟩
  | 54 => ⟨S8x196x768, .f32⟩
  | 55 => ⟨S8x196x768, .f32⟩
  | 56 => ⟨S_, .f32⟩
  | 57 => ⟨S8x196, .f32⟩
  | 58 => ⟨S8x196x1, .f32⟩
  | 59 => ⟨S_, .f32⟩
  | 60 => ⟨S8x196x1, .f32⟩
  | 61 => ⟨S8x196x1, .f32⟩
  | 62 => ⟨S8x196x768, .f32⟩
  | 63 => ⟨S8x196x768, .f32⟩
  | 64 => ⟨S_, .f32⟩
  | 65 => ⟨S8x196x1, .f32⟩
  | 66 => ⟨S8x196x1, .f32⟩
  | 67 => ⟨S8x196x1, .f32⟩
  | 68 => ⟨S8x196x768, .f32⟩
  | 69 => ⟨S8x196x768, .f32⟩
  | 70 => ⟨S1x1x768, .f32⟩
  | 71 => ⟨S8x196x768, .f32⟩
  | 72 => ⟨S8x196x768, .f32⟩
  | 73 => ⟨S1x1x768, .f32⟩
  | 74 => ⟨S8x196x768, .f32⟩
  | 75 => ⟨S8x196x768, .f32⟩
  | _ => ⟨S8x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_c : Ref sig .tc := ⟨.hbm, 44, rfl⟩
abbrev main_call0_call0_v0 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_cst : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_call0_v17 : Ref sig .tc := ⟨.hbm, 61, rfl⟩
abbrev main_call0_v18 : Ref sig .tc := ⟨.hbm, 62, rfl⟩
abbrev main_call0_v19 : Ref sig .tc := ⟨.hbm, 63, rfl⟩
abbrev main_call0_v20 : Ref sig .tc := ⟨.hbm, 64, rfl⟩
abbrev main_call0_v21 : Ref sig .tc := ⟨.hbm, 65, rfl⟩
abbrev main_call0_v22 : Ref sig .tc := ⟨.hbm, 66, rfl⟩
abbrev main_call0_v23 : Ref sig .tc := ⟨.hbm, 67, rfl⟩
abbrev main_call0_v24 : Ref sig .tc := ⟨.hbm, 68, rfl⟩
abbrev main_call0_v25 : Ref sig .tc := ⟨.hbm, 69, rfl⟩
abbrev main_call0_v26 : Ref sig .tc := ⟨.hbm, 70, rfl⟩
abbrev main_call0_v27 : Ref sig .tc := ⟨.hbm, 71, rfl⟩
abbrev main_call0_v28 : Ref sig .tc := ⟨.hbm, 72, rfl⟩
abbrev main_call0_v29 : Ref sig .tc := ⟨.hbm, 73, rfl⟩
abbrev main_call0_v30 : Ref sig .tc := ⟨.hbm, 74, rfl⟩
abbrev main_call0_v31 : Ref sig .tc := ⟨.hbm, 75, rfl⟩
abbrev main_call0_v32 : Ref sig .tc := ⟨.hbm, 76, rfl⟩
abbrev main_call0_v33 : Ref sig .tc := ⟨.hbm, 77, rfl⟩
abbrev main_call0_v34 : Ref sig .tc := ⟨.hbm, 78, rfl⟩
abbrev main_call0_v35 : Ref sig .tc := ⟨.hbm, 79, rfl⟩
abbrev main_call0_call1_v0 : Ref sig .tc := ⟨.hbm, 80, rfl⟩
abbrev main_call0_call1_v1 : Ref sig .tc := ⟨.hbm, 81, rfl⟩
abbrev main_call0_call1_cst : Ref sig .tc := ⟨.hbm, 82, rfl⟩
abbrev main_call0_call1_v2 : Ref sig .tc := ⟨.hbm, 83, rfl⟩
abbrev main_call0_call1_v3 : Ref sig .tc := ⟨.hbm, 84, rfl⟩
abbrev main_call0_call1_cst_0 : Ref sig .tc := ⟨.hbm, 85, rfl⟩
abbrev main_call0_call1_v4 : Ref sig .tc := ⟨.hbm, 86, rfl⟩
abbrev main_call0_call1_v5 : Ref sig .tc := ⟨.hbm, 87, rfl⟩
abbrev main_call0_v36 : Ref sig .tc := ⟨.hbm, 88, rfl⟩
abbrev main_call0_v37 : Ref sig .tc := ⟨.hbm, 89, rfl⟩
abbrev main_call0_v38 : Ref sig .tc := ⟨.hbm, 90, rfl⟩
abbrev main_call0_v39 : Ref sig .tc := ⟨.hbm, 91, rfl⟩
abbrev main_call0_v40 : Ref sig .tc := ⟨.hbm, 92, rfl⟩
abbrev main_call0_v41 : Ref sig .tc := ⟨.hbm, 93, rfl⟩
abbrev main_call0_v42 : Ref sig .tc := ⟨.hbm, 94, rfl⟩
abbrev main_call0_v43 : Ref sig .tc := ⟨.hbm, 95, rfl⟩
abbrev main_call0_v44 : Ref sig .tc := ⟨.hbm, 96, rfl⟩
abbrev main_call0_call2_cst : Ref sig .tc := ⟨.hbm, 97, rfl⟩
abbrev main_call0_call2_v0 : Ref sig .tc := ⟨.hbm, 98, rfl⟩
abbrev main_call0_call2_v1 : Ref sig .tc := ⟨.hbm, 99, rfl⟩
abbrev main_call0_call2_v2 : Ref sig .tc := ⟨.hbm, 100, rfl⟩
abbrev main_call0_call2_v3 : Ref sig .tc := ⟨.hbm, 101, rfl⟩
abbrev main_call0_call2_v4 : Ref sig .tc := ⟨.hbm, 102, rfl⟩
abbrev main_call0_call2_v5 : Ref sig .tc := ⟨.hbm, 103, rfl⟩
abbrev main_call0_call2_v6 : Ref sig .tc := ⟨.hbm, 104, rfl⟩
abbrev main_call0_call2_v7 : Ref sig .tc := ⟨.hbm, 105, rfl⟩
abbrev main_call0_call2_v8 : Ref sig .tc := ⟨.hbm, 106, rfl⟩
abbrev main_call0_call2_v9 : Ref sig .tc := ⟨.hbm, 107, rfl⟩
abbrev main_call0_call2_v10 : Ref sig .tc := ⟨.hbm, 108, rfl⟩
abbrev main_call0_call2_v11 : Ref sig .tc := ⟨.hbm, 109, rfl⟩
abbrev main_call0_v45 : Ref sig .tc := ⟨.hbm, 110, rfl⟩
abbrev main_call0_v46 : Ref sig .tc := ⟨.hbm, 111, rfl⟩
abbrev main_call0_v47 : Ref sig .tc := ⟨.hbm, 112, rfl⟩
abbrev main_call0_cst_0 : Ref sig .tc := ⟨.hbm, 113, rfl⟩
abbrev main_call0_v48 : Ref sig .tc := ⟨.hbm, 114, rfl⟩
abbrev main_call0_v49 : Ref sig .tc := ⟨.hbm, 115, rfl⟩
abbrev main_call0_v50 : Ref sig .tc := ⟨.hbm, 116, rfl⟩
abbrev main_call0_v51 : Ref sig .tc := ⟨.hbm, 117, rfl⟩
abbrev main_call0_v52 : Ref sig .tc := ⟨.hbm, 118, rfl⟩
abbrev main_call0_cst_1 : Ref sig .tc := ⟨.hbm, 119, rfl⟩
abbrev main_call0_v53 : Ref sig .tc := ⟨.hbm, 120, rfl⟩
abbrev main_call0_c_2 : Ref sig .tc := ⟨.hbm, 121, rfl⟩
abbrev main_call0_v54_0 : Ref sig .tc := ⟨.hbm, 122, rfl⟩
abbrev main_call0_v54_1 : Ref sig .tc := ⟨.hbm, 123, rfl⟩
abbrev main_call0_v54_2 : Ref sig .tc := ⟨.hbm, 124, rfl⟩
abbrev main_call0_v54_3 : Ref sig .tc := ⟨.hbm, 125, rfl⟩
abbrev main_call0_v54_4 : Ref sig .tc := ⟨.hbm, 126, rfl⟩
abbrev main_call0_v54_5 : Ref sig .tc := ⟨.hbm, 127, rfl⟩
abbrev main_call0_v54_6 : Ref sig .tc := ⟨.hbm, 128, rfl⟩
abbrev main_call0_v54_7 : Ref sig .tc := ⟨.hbm, 129, rfl⟩
abbrev main_call0_while0c_c_10 : Ref sig .tc := ⟨.hbm, 130, rfl⟩
abbrev main_call0_while0c_v63 : Ref sig .tc := ⟨.hbm, 131, rfl⟩
abbrev main_call0_while0b_call3_c : Ref sig .tc := ⟨.hbm, 132, rfl⟩
abbrev main_call0_while0b_call3_c_0 : Ref sig .tc := ⟨.hbm, 133, rfl⟩
abbrev main_call0_while0b_call3_v0 : Ref sig .tc := ⟨.hbm, 134, rfl⟩
abbrev main_call0_while0b_v63 : Ref sig .tc := ⟨.hbm, 135, rfl⟩
abbrev main_call0_while0b_call4_c : Ref sig .tc := ⟨.hbm, 136, rfl⟩
abbrev main_call0_while0b_call4_c_0 : Ref sig .tc := ⟨.hbm, 137, rfl⟩
abbrev main_call0_while0b_call4_v0 : Ref sig .tc := ⟨.hbm, 138, rfl⟩
abbrev main_call0_while0b_v64 : Ref sig .tc := ⟨.hbm, 139, rfl⟩
abbrev main_call0_while0b_call5_c : Ref sig .tc := ⟨.hbm, 140, rfl⟩
abbrev main_call0_while0b_call5_c_0 : Ref sig .tc := ⟨.hbm, 141, rfl⟩
abbrev main_call0_while0b_call5_v0 : Ref sig .tc := ⟨.hbm, 142, rfl⟩
abbrev main_call0_while0b_v65 : Ref sig .tc := ⟨.hbm, 143, rfl⟩
abbrev main_call0_while0b_call6_c : Ref sig .tc := ⟨.hbm, 144, rfl⟩
abbrev main_call0_while0b_call6_c_0 : Ref sig .tc := ⟨.hbm, 145, rfl⟩
abbrev main_call0_while0b_call6_v0 : Ref sig .tc := ⟨.hbm, 146, rfl⟩
abbrev main_call0_while0b_v66 : Ref sig .tc := ⟨.hbm, 147, rfl⟩
abbrev main_call0_while0b_v67 : Ref sig .tc := ⟨.hbm, 148, rfl⟩
abbrev main_call0_while0b_v68 : Ref sig .tc := ⟨.hbm, 149, rfl⟩
abbrev main_call0_while0b_v69 : Ref sig .tc := ⟨.hbm, 150, rfl⟩
abbrev main_call0_while0b_v70 : Ref sig .tc := ⟨.hbm, 151, rfl⟩
abbrev main_call0_while0b_v71 : Ref sig .tc := ⟨.hbm, 152, rfl⟩
abbrev main_call0_while0b_v72 : Ref sig .tc := ⟨.hbm, 153, rfl⟩
abbrev main_call0_while0b_v73 : Ref sig .tc := ⟨.hbm, 154, rfl⟩
abbrev main_call0_while0b_v74 : Ref sig .tc := ⟨.hbm, 155, rfl⟩
abbrev main_call0_while0b_v75 : Ref sig .tc := ⟨.hbm, 156, rfl⟩
abbrev main_call0_while0b_v76 : Ref sig .tc := ⟨.hbm, 157, rfl⟩
abbrev main_call0_while0b_v77 : Ref sig .tc := ⟨.hbm, 158, rfl⟩
abbrev main_call0_while0b_v78 : Ref sig .tc := ⟨.hbm, 159, rfl⟩
abbrev main_call0_while0b_v79 : Ref sig .tc := ⟨.hbm, 160, rfl⟩
abbrev main_call0_while0b_v80 : Ref sig .tc := ⟨.hbm, 161, rfl⟩
abbrev main_call0_while0b_v81 : Ref sig .tc := ⟨.hbm, 162, rfl⟩
abbrev main_call0_while0b_call7_v0 : Ref sig .tc := ⟨.hbm, 163, rfl⟩
abbrev main_call0_while0b_call7_c : Ref sig .tc := ⟨.hbm, 164, rfl⟩
abbrev main_call0_while0b_call7_c_0 : Ref sig .tc := ⟨.hbm, 165, rfl⟩
abbrev main_call0_while0b_v82 : Ref sig .tc := ⟨.hbm, 166, rfl⟩
abbrev main_call0_while0b_c_10 : Ref sig .tc := ⟨.hbm, 167, rfl⟩
abbrev main_call0_while0b_v83 : Ref sig .tc := ⟨.hbm, 168, rfl⟩
abbrev main_call0_v55 : Ref sig .tc := ⟨.hbm, 169, rfl⟩
abbrev main_call0_v56 : Ref sig .tc := ⟨.hbm, 170, rfl⟩
abbrev main_call0_v57 : Ref sig .tc := ⟨.hbm, 171, rfl⟩
abbrev main_call0_v58 : Ref sig .tc := ⟨.hbm, 172, rfl⟩
abbrev main_call0_v59 : Ref sig .tc := ⟨.hbm, 173, rfl⟩
abbrev main_call0_call8_v0 : Ref sig .tc := ⟨.hbm, 174, rfl⟩
abbrev main_call0_call8_v1 : Ref sig .tc := ⟨.hbm, 175, rfl⟩
abbrev main_call0_call8_cst : Ref sig .tc := ⟨.hbm, 176, rfl⟩
abbrev main_call0_call8_v2 : Ref sig .tc := ⟨.hbm, 177, rfl⟩
abbrev main_call0_call8_v3 : Ref sig .tc := ⟨.hbm, 178, rfl⟩
abbrev main_call0_call8_cst_0 : Ref sig .tc := ⟨.hbm, 179, rfl⟩
abbrev main_call0_call8_v4 : Ref sig .tc := ⟨.hbm, 180, rfl⟩
abbrev main_call0_call8_v5 : Ref sig .tc := ⟨.hbm, 181, rfl⟩
abbrev main_call0_v60 : Ref sig .tc := ⟨.hbm, 182, rfl⟩
abbrev main_call0_v61 : Ref sig .tc := ⟨.hbm, 183, rfl⟩
abbrev main_v26 : Ref sig .tc := ⟨.hbm, 184, rfl⟩
abbrev main_v27 : Ref sig .tc := ⟨.hbm, 185, rfl⟩
abbrev main_v28 : Ref sig .tc := ⟨.hbm, 186, rfl⟩
abbrev main_v29 : Ref sig .tc := ⟨.hbm, 187, rfl⟩
abbrev main_v30 : Ref sig .tc := ⟨.hbm, 188, rfl⟩
abbrev main_v31 : Ref sig .tc := ⟨.hbm, 189, rfl⟩
abbrev main_v32 : Ref sig .tc := ⟨.hbm, 190, rfl⟩
abbrev main_v33 : Ref sig .tc := ⟨.hbm, 191, rfl⟩
abbrev main_v34 : Ref sig .tc := ⟨.hbm, 192, rfl⟩
abbrev main_v35 : Ref sig .tc := ⟨.hbm, 193, rfl⟩
abbrev main_v36 : Ref sig .tc := ⟨.hbm, 194, rfl⟩
abbrev main_v37 : Ref sig .tc := ⟨.hbm, 195, rfl⟩
abbrev main_v38 : Ref sig .tc := ⟨.hbm, 196, rfl⟩
abbrev main_v39 : Ref sig .tc := ⟨.hbm, 197, rfl⟩
abbrev main_v40 : Ref sig .tc := ⟨.hbm, 198, rfl⟩
abbrev main_v41 : Ref sig .tc := ⟨.hbm, 199, rfl⟩
abbrev main_v42 : Ref sig .tc := ⟨.hbm, 200, rfl⟩
abbrev main_v43 : Ref sig .tc := ⟨.hbm, 201, rfl⟩
abbrev main_v44 : Ref sig .tc := ⟨.hbm, 202, rfl⟩
abbrev main_call1_v0 : Ref sig .tc := ⟨.hbm, 203, rfl⟩
abbrev main_call1_v1 : Ref sig .tc := ⟨.hbm, 204, rfl⟩
abbrev main_call1_v2 : Ref sig .tc := ⟨.hbm, 205, rfl⟩
abbrev main_call1_c : Ref sig .tc := ⟨.hbm, 206, rfl⟩
abbrev main_call1_call0_v0 : Ref sig .tc := ⟨.hbm, 207, rfl⟩
abbrev main_call1_v3 : Ref sig .tc := ⟨.hbm, 208, rfl⟩
abbrev main_call1_v4 : Ref sig .tc := ⟨.hbm, 209, rfl⟩
abbrev main_call1_v5 : Ref sig .tc := ⟨.hbm, 210, rfl⟩
abbrev main_call1_v6 : Ref sig .tc := ⟨.hbm, 211, rfl⟩
abbrev main_call1_v7 : Ref sig .tc := ⟨.hbm, 212, rfl⟩
abbrev main_call1_v8 : Ref sig .tc := ⟨.hbm, 213, rfl⟩
abbrev main_call1_v9 : Ref sig .tc := ⟨.hbm, 214, rfl⟩
abbrev main_call1_cst : Ref sig .tc := ⟨.hbm, 215, rfl⟩
abbrev main_call1_v10 : Ref sig .tc := ⟨.hbm, 216, rfl⟩
abbrev main_call1_v11 : Ref sig .tc := ⟨.hbm, 217, rfl⟩
abbrev main_call1_v12 : Ref sig .tc := ⟨.hbm, 218, rfl⟩
abbrev main_call1_v13 : Ref sig .tc := ⟨.hbm, 219, rfl⟩
abbrev main_call1_v14 : Ref sig .tc := ⟨.hbm, 220, rfl⟩
abbrev main_call1_v15 : Ref sig .tc := ⟨.hbm, 221, rfl⟩
abbrev main_call1_v16 : Ref sig .tc := ⟨.hbm, 222, rfl⟩
abbrev main_call1_v17 : Ref sig .tc := ⟨.hbm, 223, rfl⟩
abbrev main_call1_v18 : Ref sig .tc := ⟨.hbm, 224, rfl⟩
abbrev main_call1_v19 : Ref sig .tc := ⟨.hbm, 225, rfl⟩
abbrev main_call1_v20 : Ref sig .tc := ⟨.hbm, 226, rfl⟩
abbrev main_call1_v21 : Ref sig .tc := ⟨.hbm, 227, rfl⟩
abbrev main_call1_v22 : Ref sig .tc := ⟨.hbm, 228, rfl⟩
abbrev main_call1_v23 : Ref sig .tc := ⟨.hbm, 229, rfl⟩
abbrev main_call1_v24 : Ref sig .tc := ⟨.hbm, 230, rfl⟩
abbrev main_call1_v25 : Ref sig .tc := ⟨.hbm, 231, rfl⟩
abbrev main_call1_v26 : Ref sig .tc := ⟨.hbm, 232, rfl⟩
abbrev main_call1_v27 : Ref sig .tc := ⟨.hbm, 233, rfl⟩
abbrev main_call1_v28 : Ref sig .tc := ⟨.hbm, 234, rfl⟩
abbrev main_call1_v29 : Ref sig .tc := ⟨.hbm, 235, rfl⟩
abbrev main_call1_v30 : Ref sig .tc := ⟨.hbm, 236, rfl⟩
abbrev main_call1_v31 : Ref sig .tc := ⟨.hbm, 237, rfl⟩
abbrev main_call1_v32 : Ref sig .tc := ⟨.hbm, 238, rfl⟩
abbrev main_call1_v33 : Ref sig .tc := ⟨.hbm, 239, rfl⟩
abbrev main_call1_v34 : Ref sig .tc := ⟨.hbm, 240, rfl⟩
abbrev main_call1_v35 : Ref sig .tc := ⟨.hbm, 241, rfl⟩
abbrev main_call1_call1_v0 : Ref sig .tc := ⟨.hbm, 242, rfl⟩
abbrev main_call1_call1_v1 : Ref sig .tc := ⟨.hbm, 243, rfl⟩
abbrev main_call1_call1_cst : Ref sig .tc := ⟨.hbm, 244, rfl⟩
abbrev main_call1_call1_v2 : Ref sig .tc := ⟨.hbm, 245, rfl⟩
abbrev main_call1_call1_v3 : Ref sig .tc := ⟨.hbm, 246, rfl⟩
abbrev main_call1_call1_cst_0 : Ref sig .tc := ⟨.hbm, 247, rfl⟩
abbrev main_call1_call1_v4 : Ref sig .tc := ⟨.hbm, 248, rfl⟩
abbrev main_call1_call1_v5 : Ref sig .tc := ⟨.hbm, 249, rfl⟩
abbrev main_call1_v36 : Ref sig .tc := ⟨.hbm, 250, rfl⟩
abbrev main_call1_v37 : Ref sig .tc := ⟨.hbm, 251, rfl⟩
abbrev main_call1_v38 : Ref sig .tc := ⟨.hbm, 252, rfl⟩
abbrev main_call1_v39 : Ref sig .tc := ⟨.hbm, 253, rfl⟩
abbrev main_call1_v40 : Ref sig .tc := ⟨.hbm, 254, rfl⟩
abbrev main_call1_v41 : Ref sig .tc := ⟨.hbm, 255, rfl⟩
abbrev main_call1_v42 : Ref sig .tc := ⟨.hbm, 256, rfl⟩
abbrev main_call1_v43 : Ref sig .tc := ⟨.hbm, 257, rfl⟩
abbrev main_call1_v44 : Ref sig .tc := ⟨.hbm, 258, rfl⟩
abbrev main_call1_call2_cst : Ref sig .tc := ⟨.hbm, 259, rfl⟩
abbrev main_call1_call2_v0 : Ref sig .tc := ⟨.hbm, 260, rfl⟩
abbrev main_call1_call2_v1 : Ref sig .tc := ⟨.hbm, 261, rfl⟩
abbrev main_call1_call2_v2 : Ref sig .tc := ⟨.hbm, 262, rfl⟩
abbrev main_call1_call2_v3 : Ref sig .tc := ⟨.hbm, 263, rfl⟩
abbrev main_call1_call2_v4 : Ref sig .tc := ⟨.hbm, 264, rfl⟩
abbrev main_call1_call2_v5 : Ref sig .tc := ⟨.hbm, 265, rfl⟩
abbrev main_call1_call2_v6 : Ref sig .tc := ⟨.hbm, 266, rfl⟩
abbrev main_call1_call2_v7 : Ref sig .tc := ⟨.hbm, 267, rfl⟩
abbrev main_call1_call2_v8 : Ref sig .tc := ⟨.hbm, 268, rfl⟩
abbrev main_call1_call2_v9 : Ref sig .tc := ⟨.hbm, 269, rfl⟩
abbrev main_call1_call2_v10 : Ref sig .tc := ⟨.hbm, 270, rfl⟩
abbrev main_call1_call2_v11 : Ref sig .tc := ⟨.hbm, 271, rfl⟩
abbrev main_call1_v45 : Ref sig .tc := ⟨.hbm, 272, rfl⟩
abbrev main_call1_v46 : Ref sig .tc := ⟨.hbm, 273, rfl⟩
abbrev main_call1_v47 : Ref sig .tc := ⟨.hbm, 274, rfl⟩
abbrev main_call1_cst_0 : Ref sig .tc := ⟨.hbm, 275, rfl⟩
abbrev main_call1_v48 : Ref sig .tc := ⟨.hbm, 276, rfl⟩
abbrev main_call1_v49 : Ref sig .tc := ⟨.hbm, 277, rfl⟩
abbrev main_call1_v50 : Ref sig .tc := ⟨.hbm, 278, rfl⟩
abbrev main_call1_v51 : Ref sig .tc := ⟨.hbm, 279, rfl⟩
abbrev main_call1_v52 : Ref sig .tc := ⟨.hbm, 280, rfl⟩
abbrev main_call1_cst_1 : Ref sig .tc := ⟨.hbm, 281, rfl⟩
abbrev main_call1_v53 : Ref sig .tc := ⟨.hbm, 282, rfl⟩
abbrev main_call1_c_2 : Ref sig .tc := ⟨.hbm, 283, rfl⟩
abbrev main_call1_v54_0 : Ref sig .tc := ⟨.hbm, 284, rfl⟩
abbrev main_call1_v54_1 : Ref sig .tc := ⟨.hbm, 285, rfl⟩
abbrev main_call1_v54_2 : Ref sig .tc := ⟨.hbm, 286, rfl⟩
abbrev main_call1_v54_3 : Ref sig .tc := ⟨.hbm, 287, rfl⟩
abbrev main_call1_v54_4 : Ref sig .tc := ⟨.hbm, 288, rfl⟩
abbrev main_call1_v54_5 : Ref sig .tc := ⟨.hbm, 289, rfl⟩
abbrev main_call1_v54_6 : Ref sig .tc := ⟨.hbm, 290, rfl⟩
abbrev main_call1_v54_7 : Ref sig .tc := ⟨.hbm, 291, rfl⟩
abbrev main_call1_while0c_c_10 : Ref sig .tc := ⟨.hbm, 292, rfl⟩
abbrev main_call1_while0c_v63 : Ref sig .tc := ⟨.hbm, 293, rfl⟩
abbrev main_call1_while0b_call3_c : Ref sig .tc := ⟨.hbm, 294, rfl⟩
abbrev main_call1_while0b_call3_c_0 : Ref sig .tc := ⟨.hbm, 295, rfl⟩
abbrev main_call1_while0b_call3_v0 : Ref sig .tc := ⟨.hbm, 296, rfl⟩
abbrev main_call1_while0b_v63 : Ref sig .tc := ⟨.hbm, 297, rfl⟩
abbrev main_call1_while0b_call4_c : Ref sig .tc := ⟨.hbm, 298, rfl⟩
abbrev main_call1_while0b_call4_c_0 : Ref sig .tc := ⟨.hbm, 299, rfl⟩
abbrev main_call1_while0b_call4_v0 : Ref sig .tc := ⟨.hbm, 300, rfl⟩
abbrev main_call1_while0b_v64 : Ref sig .tc := ⟨.hbm, 301, rfl⟩
abbrev main_call1_while0b_call5_c : Ref sig .tc := ⟨.hbm, 302, rfl⟩
abbrev main_call1_while0b_call5_c_0 : Ref sig .tc := ⟨.hbm, 303, rfl⟩
abbrev main_call1_while0b_call5_v0 : Ref sig .tc := ⟨.hbm, 304, rfl⟩
abbrev main_call1_while0b_v65 : Ref sig .tc := ⟨.hbm, 305, rfl⟩
abbrev main_call1_while0b_call6_c : Ref sig .tc := ⟨.hbm, 306, rfl⟩
abbrev main_call1_while0b_call6_c_0 : Ref sig .tc := ⟨.hbm, 307, rfl⟩
abbrev main_call1_while0b_call6_v0 : Ref sig .tc := ⟨.hbm, 308, rfl⟩
abbrev main_call1_while0b_v66 : Ref sig .tc := ⟨.hbm, 309, rfl⟩
abbrev main_call1_while0b_v67 : Ref sig .tc := ⟨.hbm, 310, rfl⟩
abbrev main_call1_while0b_v68 : Ref sig .tc := ⟨.hbm, 311, rfl⟩
abbrev main_call1_while0b_v69 : Ref sig .tc := ⟨.hbm, 312, rfl⟩
abbrev main_call1_while0b_v70 : Ref sig .tc := ⟨.hbm, 313, rfl⟩
abbrev main_call1_while0b_v71 : Ref sig .tc := ⟨.hbm, 314, rfl⟩
abbrev main_call1_while0b_v72 : Ref sig .tc := ⟨.hbm, 315, rfl⟩
abbrev main_call1_while0b_v73 : Ref sig .tc := ⟨.hbm, 316, rfl⟩
abbrev main_call1_while0b_v74 : Ref sig .tc := ⟨.hbm, 317, rfl⟩
abbrev main_call1_while0b_v75 : Ref sig .tc := ⟨.hbm, 318, rfl⟩
abbrev main_call1_while0b_v76 : Ref sig .tc := ⟨.hbm, 319, rfl⟩
abbrev main_call1_while0b_v77 : Ref sig .tc := ⟨.hbm, 320, rfl⟩
abbrev main_call1_while0b_v78 : Ref sig .tc := ⟨.hbm, 321, rfl⟩
abbrev main_call1_while0b_v79 : Ref sig .tc := ⟨.hbm, 322, rfl⟩
abbrev main_call1_while0b_v80 : Ref sig .tc := ⟨.hbm, 323, rfl⟩
abbrev main_call1_while0b_v81 : Ref sig .tc := ⟨.hbm, 324, rfl⟩
abbrev main_call1_while0b_call7_v0 : Ref sig .tc := ⟨.hbm, 325, rfl⟩
abbrev main_call1_while0b_call7_c : Ref sig .tc := ⟨.hbm, 326, rfl⟩
abbrev main_call1_while0b_call7_c_0 : Ref sig .tc := ⟨.hbm, 327, rfl⟩
abbrev main_call1_while0b_v82 : Ref sig .tc := ⟨.hbm, 328, rfl⟩
abbrev main_call1_while0b_c_10 : Ref sig .tc := ⟨.hbm, 329, rfl⟩
abbrev main_call1_while0b_v83 : Ref sig .tc := ⟨.hbm, 330, rfl⟩
abbrev main_call1_v55 : Ref sig .tc := ⟨.hbm, 331, rfl⟩
abbrev main_call1_v56 : Ref sig .tc := ⟨.hbm, 332, rfl⟩
abbrev main_call1_v57 : Ref sig .tc := ⟨.hbm, 333, rfl⟩
abbrev main_call1_v58 : Ref sig .tc := ⟨.hbm, 334, rfl⟩
abbrev main_call1_v59 : Ref sig .tc := ⟨.hbm, 335, rfl⟩
abbrev main_call1_call8_v0 : Ref sig .tc := ⟨.hbm, 336, rfl⟩
abbrev main_call1_call8_v1 : Ref sig .tc := ⟨.hbm, 337, rfl⟩
abbrev main_call1_call8_cst : Ref sig .tc := ⟨.hbm, 338, rfl⟩
abbrev main_call1_call8_v2 : Ref sig .tc := ⟨.hbm, 339, rfl⟩
abbrev main_call1_call8_v3 : Ref sig .tc := ⟨.hbm, 340, rfl⟩
abbrev main_call1_call8_cst_0 : Ref sig .tc := ⟨.hbm, 341, rfl⟩
abbrev main_call1_call8_v4 : Ref sig .tc := ⟨.hbm, 342, rfl⟩
abbrev main_call1_call8_v5 : Ref sig .tc := ⟨.hbm, 343, rfl⟩
abbrev main_call1_v60 : Ref sig .tc := ⟨.hbm, 344, rfl⟩
abbrev main_call1_v61 : Ref sig .tc := ⟨.hbm, 345, rfl⟩
abbrev main_v45 : Ref sig .tc := ⟨.hbm, 346, rfl⟩
abbrev main_v46 : Ref sig .tc := ⟨.hbm, 347, rfl⟩
abbrev main_v47 : Ref sig .tc := ⟨.hbm, 348, rfl⟩
abbrev main_v48 : Ref sig .tc := ⟨.hbm, 349, rfl⟩
abbrev main_v49 : Ref sig .tc := ⟨.hbm, 350, rfl⟩
abbrev main_v50 : Ref sig .tc := ⟨.hbm, 351, rfl⟩
abbrev main_v51 : Ref sig .tc := ⟨.hbm, 352, rfl⟩
abbrev main_v52 : Ref sig .tc := ⟨.hbm, 353, rfl⟩
abbrev main_v53 : Ref sig .tc := ⟨.hbm, 354, rfl⟩
abbrev main_v54 : Ref sig .tc := ⟨.hbm, 355, rfl⟩
abbrev main_v55 : Ref sig .tc := ⟨.hbm, 356, rfl⟩
abbrev main_v56 : Ref sig .tc := ⟨.hbm, 357, rfl⟩
abbrev main_v57 : Ref sig .tc := ⟨.hbm, 358, rfl⟩
abbrev main_v58 : Ref sig .tc := ⟨.hbm, 359, rfl⟩
abbrev main_v59 : Ref sig .tc := ⟨.hbm, 360, rfl⟩
abbrev main_v60 : Ref sig .tc := ⟨.hbm, 361, rfl⟩
abbrev main_v61 : Ref sig .tc := ⟨.hbm, 362, rfl⟩
abbrev main_v62 : Ref sig .tc := ⟨.hbm, 363, rfl⟩
abbrev main_v63 : Ref sig .tc := ⟨.hbm, 364, rfl⟩
abbrev main_call2_v0 : Ref sig .tc := ⟨.hbm, 365, rfl⟩
abbrev main_call2_v1 : Ref sig .tc := ⟨.hbm, 366, rfl⟩
abbrev main_call2_v2 : Ref sig .tc := ⟨.hbm, 367, rfl⟩
abbrev main_call2_c : Ref sig .tc := ⟨.hbm, 368, rfl⟩
abbrev main_call2_call0_v0 : Ref sig .tc := ⟨.hbm, 369, rfl⟩
abbrev main_call2_v3 : Ref sig .tc := ⟨.hbm, 370, rfl⟩
abbrev main_call2_v4 : Ref sig .tc := ⟨.hbm, 371, rfl⟩
abbrev main_call2_v5 : Ref sig .tc := ⟨.hbm, 372, rfl⟩
abbrev main_call2_v6 : Ref sig .tc := ⟨.hbm, 373, rfl⟩
abbrev main_call2_v7 : Ref sig .tc := ⟨.hbm, 374, rfl⟩
abbrev main_call2_v8 : Ref sig .tc := ⟨.hbm, 375, rfl⟩
abbrev main_call2_v9 : Ref sig .tc := ⟨.hbm, 376, rfl⟩
abbrev main_call2_cst : Ref sig .tc := ⟨.hbm, 377, rfl⟩
abbrev main_call2_v10 : Ref sig .tc := ⟨.hbm, 378, rfl⟩
abbrev main_call2_v11 : Ref sig .tc := ⟨.hbm, 379, rfl⟩
abbrev main_call2_v12 : Ref sig .tc := ⟨.hbm, 380, rfl⟩
abbrev main_call2_v13 : Ref sig .tc := ⟨.hbm, 381, rfl⟩
abbrev main_call2_v14 : Ref sig .tc := ⟨.hbm, 382, rfl⟩
abbrev main_call2_v15 : Ref sig .tc := ⟨.hbm, 383, rfl⟩
abbrev main_call2_v16 : Ref sig .tc := ⟨.hbm, 384, rfl⟩
abbrev main_call2_v17 : Ref sig .tc := ⟨.hbm, 385, rfl⟩
abbrev main_call2_v18 : Ref sig .tc := ⟨.hbm, 386, rfl⟩
abbrev main_call2_v19 : Ref sig .tc := ⟨.hbm, 387, rfl⟩
abbrev main_call2_v20 : Ref sig .tc := ⟨.hbm, 388, rfl⟩
abbrev main_call2_v21 : Ref sig .tc := ⟨.hbm, 389, rfl⟩
abbrev main_call2_v22 : Ref sig .tc := ⟨.hbm, 390, rfl⟩
abbrev main_call2_v23 : Ref sig .tc := ⟨.hbm, 391, rfl⟩
abbrev main_call2_v24 : Ref sig .tc := ⟨.hbm, 392, rfl⟩
abbrev main_call2_v25 : Ref sig .tc := ⟨.hbm, 393, rfl⟩
abbrev main_call2_v26 : Ref sig .tc := ⟨.hbm, 394, rfl⟩
abbrev main_call2_v27 : Ref sig .tc := ⟨.hbm, 395, rfl⟩
abbrev main_call2_v28 : Ref sig .tc := ⟨.hbm, 396, rfl⟩
abbrev main_call2_v29 : Ref sig .tc := ⟨.hbm, 397, rfl⟩
abbrev main_call2_v30 : Ref sig .tc := ⟨.hbm, 398, rfl⟩
abbrev main_call2_v31 : Ref sig .tc := ⟨.hbm, 399, rfl⟩
abbrev main_call2_v32 : Ref sig .tc := ⟨.hbm, 400, rfl⟩
abbrev main_call2_v33 : Ref sig .tc := ⟨.hbm, 401, rfl⟩
abbrev main_call2_v34 : Ref sig .tc := ⟨.hbm, 402, rfl⟩
abbrev main_call2_v35 : Ref sig .tc := ⟨.hbm, 403, rfl⟩
abbrev main_call2_call1_v0 : Ref sig .tc := ⟨.hbm, 404, rfl⟩
abbrev main_call2_call1_v1 : Ref sig .tc := ⟨.hbm, 405, rfl⟩
abbrev main_call2_call1_cst : Ref sig .tc := ⟨.hbm, 406, rfl⟩
abbrev main_call2_call1_v2 : Ref sig .tc := ⟨.hbm, 407, rfl⟩
abbrev main_call2_call1_v3 : Ref sig .tc := ⟨.hbm, 408, rfl⟩
abbrev main_call2_call1_cst_0 : Ref sig .tc := ⟨.hbm, 409, rfl⟩
abbrev main_call2_call1_v4 : Ref sig .tc := ⟨.hbm, 410, rfl⟩
abbrev main_call2_call1_v5 : Ref sig .tc := ⟨.hbm, 411, rfl⟩
abbrev main_call2_v36 : Ref sig .tc := ⟨.hbm, 412, rfl⟩
abbrev main_call2_v37 : Ref sig .tc := ⟨.hbm, 413, rfl⟩
abbrev main_call2_v38 : Ref sig .tc := ⟨.hbm, 414, rfl⟩
abbrev main_call2_v39 : Ref sig .tc := ⟨.hbm, 415, rfl⟩
abbrev main_call2_v40 : Ref sig .tc := ⟨.hbm, 416, rfl⟩
abbrev main_call2_v41 : Ref sig .tc := ⟨.hbm, 417, rfl⟩
abbrev main_call2_v42 : Ref sig .tc := ⟨.hbm, 418, rfl⟩
abbrev main_call2_v43 : Ref sig .tc := ⟨.hbm, 419, rfl⟩
abbrev main_call2_v44 : Ref sig .tc := ⟨.hbm, 420, rfl⟩
abbrev main_call2_call2_cst : Ref sig .tc := ⟨.hbm, 421, rfl⟩
abbrev main_call2_call2_v0 : Ref sig .tc := ⟨.hbm, 422, rfl⟩
abbrev main_call2_call2_v1 : Ref sig .tc := ⟨.hbm, 423, rfl⟩
abbrev main_call2_call2_v2 : Ref sig .tc := ⟨.hbm, 424, rfl⟩
abbrev main_call2_call2_v3 : Ref sig .tc := ⟨.hbm, 425, rfl⟩
abbrev main_call2_call2_v4 : Ref sig .tc := ⟨.hbm, 426, rfl⟩
abbrev main_call2_call2_v5 : Ref sig .tc := ⟨.hbm, 427, rfl⟩
abbrev main_call2_call2_v6 : Ref sig .tc := ⟨.hbm, 428, rfl⟩
abbrev main_call2_call2_v7 : Ref sig .tc := ⟨.hbm, 429, rfl⟩
abbrev main_call2_call2_v8 : Ref sig .tc := ⟨.hbm, 430, rfl⟩
abbrev main_call2_call2_v9 : Ref sig .tc := ⟨.hbm, 431, rfl⟩
abbrev main_call2_call2_v10 : Ref sig .tc := ⟨.hbm, 432, rfl⟩
abbrev main_call2_call2_v11 : Ref sig .tc := ⟨.hbm, 433, rfl⟩
abbrev main_call2_v45 : Ref sig .tc := ⟨.hbm, 434, rfl⟩
abbrev main_call2_v46 : Ref sig .tc := ⟨.hbm, 435, rfl⟩
abbrev main_call2_v47 : Ref sig .tc := ⟨.hbm, 436, rfl⟩
abbrev main_call2_cst_0 : Ref sig .tc := ⟨.hbm, 437, rfl⟩
abbrev main_call2_v48 : Ref sig .tc := ⟨.hbm, 438, rfl⟩
abbrev main_call2_v49 : Ref sig .tc := ⟨.hbm, 439, rfl⟩
abbrev main_call2_v50 : Ref sig .tc := ⟨.hbm, 440, rfl⟩
abbrev main_call2_v51 : Ref sig .tc := ⟨.hbm, 441, rfl⟩
abbrev main_call2_v52 : Ref sig .tc := ⟨.hbm, 442, rfl⟩
abbrev main_call2_cst_1 : Ref sig .tc := ⟨.hbm, 443, rfl⟩
abbrev main_call2_v53 : Ref sig .tc := ⟨.hbm, 444, rfl⟩
abbrev main_call2_c_2 : Ref sig .tc := ⟨.hbm, 445, rfl⟩
abbrev main_call2_v54_0 : Ref sig .tc := ⟨.hbm, 446, rfl⟩
abbrev main_call2_v54_1 : Ref sig .tc := ⟨.hbm, 447, rfl⟩
abbrev main_call2_v54_2 : Ref sig .tc := ⟨.hbm, 448, rfl⟩
abbrev main_call2_v54_3 : Ref sig .tc := ⟨.hbm, 449, rfl⟩
abbrev main_call2_v54_4 : Ref sig .tc := ⟨.hbm, 450, rfl⟩
abbrev main_call2_v54_5 : Ref sig .tc := ⟨.hbm, 451, rfl⟩
abbrev main_call2_v54_6 : Ref sig .tc := ⟨.hbm, 452, rfl⟩
abbrev main_call2_v54_7 : Ref sig .tc := ⟨.hbm, 453, rfl⟩
abbrev main_call2_while0c_c_10 : Ref sig .tc := ⟨.hbm, 454, rfl⟩
abbrev main_call2_while0c_v63 : Ref sig .tc := ⟨.hbm, 455, rfl⟩
abbrev main_call2_while0b_call3_c : Ref sig .tc := ⟨.hbm, 456, rfl⟩
abbrev main_call2_while0b_call3_c_0 : Ref sig .tc := ⟨.hbm, 457, rfl⟩
abbrev main_call2_while0b_call3_v0 : Ref sig .tc := ⟨.hbm, 458, rfl⟩
abbrev main_call2_while0b_v63 : Ref sig .tc := ⟨.hbm, 459, rfl⟩
abbrev main_call2_while0b_call4_c : Ref sig .tc := ⟨.hbm, 460, rfl⟩
abbrev main_call2_while0b_call4_c_0 : Ref sig .tc := ⟨.hbm, 461, rfl⟩
abbrev main_call2_while0b_call4_v0 : Ref sig .tc := ⟨.hbm, 462, rfl⟩
abbrev main_call2_while0b_v64 : Ref sig .tc := ⟨.hbm, 463, rfl⟩
abbrev main_call2_while0b_call5_c : Ref sig .tc := ⟨.hbm, 464, rfl⟩
abbrev main_call2_while0b_call5_c_0 : Ref sig .tc := ⟨.hbm, 465, rfl⟩
abbrev main_call2_while0b_call5_v0 : Ref sig .tc := ⟨.hbm, 466, rfl⟩
abbrev main_call2_while0b_v65 : Ref sig .tc := ⟨.hbm, 467, rfl⟩
abbrev main_call2_while0b_call6_c : Ref sig .tc := ⟨.hbm, 468, rfl⟩
abbrev main_call2_while0b_call6_c_0 : Ref sig .tc := ⟨.hbm, 469, rfl⟩
abbrev main_call2_while0b_call6_v0 : Ref sig .tc := ⟨.hbm, 470, rfl⟩
abbrev main_call2_while0b_v66 : Ref sig .tc := ⟨.hbm, 471, rfl⟩
abbrev main_call2_while0b_v67 : Ref sig .tc := ⟨.hbm, 472, rfl⟩
abbrev main_call2_while0b_v68 : Ref sig .tc := ⟨.hbm, 473, rfl⟩
abbrev main_call2_while0b_v69 : Ref sig .tc := ⟨.hbm, 474, rfl⟩
abbrev main_call2_while0b_v70 : Ref sig .tc := ⟨.hbm, 475, rfl⟩
abbrev main_call2_while0b_v71 : Ref sig .tc := ⟨.hbm, 476, rfl⟩
abbrev main_call2_while0b_v72 : Ref sig .tc := ⟨.hbm, 477, rfl⟩
abbrev main_call2_while0b_v73 : Ref sig .tc := ⟨.hbm, 478, rfl⟩
abbrev main_call2_while0b_v74 : Ref sig .tc := ⟨.hbm, 479, rfl⟩
abbrev main_call2_while0b_v75 : Ref sig .tc := ⟨.hbm, 480, rfl⟩
abbrev main_call2_while0b_v76 : Ref sig .tc := ⟨.hbm, 481, rfl⟩
abbrev main_call2_while0b_v77 : Ref sig .tc := ⟨.hbm, 482, rfl⟩
abbrev main_call2_while0b_v78 : Ref sig .tc := ⟨.hbm, 483, rfl⟩
abbrev main_call2_while0b_v79 : Ref sig .tc := ⟨.hbm, 484, rfl⟩
abbrev main_call2_while0b_v80 : Ref sig .tc := ⟨.hbm, 485, rfl⟩
abbrev main_call2_while0b_v81 : Ref sig .tc := ⟨.hbm, 486, rfl⟩
abbrev main_call2_while0b_call7_v0 : Ref sig .tc := ⟨.hbm, 487, rfl⟩
abbrev main_call2_while0b_call7_c : Ref sig .tc := ⟨.hbm, 488, rfl⟩
abbrev main_call2_while0b_call7_c_0 : Ref sig .tc := ⟨.hbm, 489, rfl⟩
abbrev main_call2_while0b_v82 : Ref sig .tc := ⟨.hbm, 490, rfl⟩
abbrev main_call2_while0b_c_10 : Ref sig .tc := ⟨.hbm, 491, rfl⟩
abbrev main_call2_while0b_v83 : Ref sig .tc := ⟨.hbm, 492, rfl⟩
abbrev main_call2_v55 : Ref sig .tc := ⟨.hbm, 493, rfl⟩
abbrev main_call2_v56 : Ref sig .tc := ⟨.hbm, 494, rfl⟩
abbrev main_call2_v57 : Ref sig .tc := ⟨.hbm, 495, rfl⟩
abbrev main_call2_v58 : Ref sig .tc := ⟨.hbm, 496, rfl⟩
abbrev main_call2_v59 : Ref sig .tc := ⟨.hbm, 497, rfl⟩
abbrev main_call2_call8_v0 : Ref sig .tc := ⟨.hbm, 498, rfl⟩
abbrev main_call2_call8_v1 : Ref sig .tc := ⟨.hbm, 499, rfl⟩
abbrev main_call2_call8_cst : Ref sig .tc := ⟨.hbm, 500, rfl⟩
abbrev main_call2_call8_v2 : Ref sig .tc := ⟨.hbm, 501, rfl⟩
abbrev main_call2_call8_v3 : Ref sig .tc := ⟨.hbm, 502, rfl⟩
abbrev main_call2_call8_cst_0 : Ref sig .tc := ⟨.hbm, 503, rfl⟩
abbrev main_call2_call8_v4 : Ref sig .tc := ⟨.hbm, 504, rfl⟩
abbrev main_call2_call8_v5 : Ref sig .tc := ⟨.hbm, 505, rfl⟩
abbrev main_call2_v60 : Ref sig .tc := ⟨.hbm, 506, rfl⟩
abbrev main_call2_v61 : Ref sig .tc := ⟨.hbm, 507, rfl⟩
abbrev main_v64 : Ref sig .tc := ⟨.hbm, 508, rfl⟩
abbrev main_v65 : Ref sig .tc := ⟨.hbm, 509, rfl⟩
abbrev main_v66 : Ref sig .tc := ⟨.hbm, 510, rfl⟩
abbrev main_v67 : Ref sig .tc := ⟨.hbm, 511, rfl⟩
abbrev main_v68 : Ref sig .tc := ⟨.hbm, 512, rfl⟩
abbrev main_v69 : Ref sig .tc := ⟨.hbm, 513, rfl⟩
abbrev main_v70 : Ref sig .tc := ⟨.hbm, 514, rfl⟩
abbrev main_v71 : Ref sig .tc := ⟨.hbm, 515, rfl⟩
abbrev main_v72 : Ref sig .tc := ⟨.hbm, 516, rfl⟩
abbrev main_v73 : Ref sig .tc := ⟨.hbm, 517, rfl⟩
abbrev main_v74 : Ref sig .tc := ⟨.hbm, 518, rfl⟩
abbrev main_v75 : Ref sig .tc := ⟨.hbm, 519, rfl⟩
abbrev main_v76 : Ref sig .tc := ⟨.hbm, 520, rfl⟩
abbrev main_v77 : Ref sig .tc := ⟨.hbm, 521, rfl⟩
abbrev main_v78 : Ref sig .tc := ⟨.hbm, 522, rfl⟩
abbrev main_v79 : Ref sig .tc := ⟨.hbm, 523, rfl⟩
abbrev main_v80 : Ref sig .tc := ⟨.hbm, 524, rfl⟩
abbrev main_v81 : Ref sig .tc := ⟨.hbm, 525, rfl⟩
abbrev main_v82 : Ref sig .tc := ⟨.hbm, 526, rfl⟩
abbrev main_call3_v0 : Ref sig .tc := ⟨.hbm, 527, rfl⟩
abbrev main_call3_v1 : Ref sig .tc := ⟨.hbm, 528, rfl⟩
abbrev main_call3_v2 : Ref sig .tc := ⟨.hbm, 529, rfl⟩
abbrev main_call3_c : Ref sig .tc := ⟨.hbm, 530, rfl⟩
abbrev main_call3_call0_v0 : Ref sig .tc := ⟨.hbm, 531, rfl⟩
abbrev main_call3_v3 : Ref sig .tc := ⟨.hbm, 532, rfl⟩
abbrev main_call3_v4 : Ref sig .tc := ⟨.hbm, 533, rfl⟩
abbrev main_call3_v5 : Ref sig .tc := ⟨.hbm, 534, rfl⟩
abbrev main_call3_v6 : Ref sig .tc := ⟨.hbm, 535, rfl⟩
abbrev main_call3_v7 : Ref sig .tc := ⟨.hbm, 536, rfl⟩
abbrev main_call3_v8 : Ref sig .tc := ⟨.hbm, 537, rfl⟩
abbrev main_call3_v9 : Ref sig .tc := ⟨.hbm, 538, rfl⟩
abbrev main_call3_cst : Ref sig .tc := ⟨.hbm, 539, rfl⟩
abbrev main_call3_v10 : Ref sig .tc := ⟨.hbm, 540, rfl⟩
abbrev main_call3_v11 : Ref sig .tc := ⟨.hbm, 541, rfl⟩
abbrev main_call3_v12 : Ref sig .tc := ⟨.hbm, 542, rfl⟩
abbrev main_call3_v13 : Ref sig .tc := ⟨.hbm, 543, rfl⟩
abbrev main_call3_v14 : Ref sig .tc := ⟨.hbm, 544, rfl⟩
abbrev main_call3_v15 : Ref sig .tc := ⟨.hbm, 545, rfl⟩
abbrev main_call3_v16 : Ref sig .tc := ⟨.hbm, 546, rfl⟩
abbrev main_call3_v17 : Ref sig .tc := ⟨.hbm, 547, rfl⟩
abbrev main_call3_v18 : Ref sig .tc := ⟨.hbm, 548, rfl⟩
abbrev main_call3_v19 : Ref sig .tc := ⟨.hbm, 549, rfl⟩
abbrev main_call3_v20 : Ref sig .tc := ⟨.hbm, 550, rfl⟩
abbrev main_call3_v21 : Ref sig .tc := ⟨.hbm, 551, rfl⟩
abbrev main_call3_v22 : Ref sig .tc := ⟨.hbm, 552, rfl⟩
abbrev main_call3_v23 : Ref sig .tc := ⟨.hbm, 553, rfl⟩
abbrev main_call3_v24 : Ref sig .tc := ⟨.hbm, 554, rfl⟩
abbrev main_call3_v25 : Ref sig .tc := ⟨.hbm, 555, rfl⟩
abbrev main_call3_v26 : Ref sig .tc := ⟨.hbm, 556, rfl⟩
abbrev main_call3_v27 : Ref sig .tc := ⟨.hbm, 557, rfl⟩
abbrev main_call3_v28 : Ref sig .tc := ⟨.hbm, 558, rfl⟩
abbrev main_call3_v29 : Ref sig .tc := ⟨.hbm, 559, rfl⟩
abbrev main_call3_v30 : Ref sig .tc := ⟨.hbm, 560, rfl⟩
abbrev main_call3_v31 : Ref sig .tc := ⟨.hbm, 561, rfl⟩
abbrev main_call3_v32 : Ref sig .tc := ⟨.hbm, 562, rfl⟩
abbrev main_call3_v33 : Ref sig .tc := ⟨.hbm, 563, rfl⟩
abbrev main_call3_v34 : Ref sig .tc := ⟨.hbm, 564, rfl⟩
abbrev main_call3_v35 : Ref sig .tc := ⟨.hbm, 565, rfl⟩
abbrev main_call3_call1_v0 : Ref sig .tc := ⟨.hbm, 566, rfl⟩
abbrev main_call3_call1_v1 : Ref sig .tc := ⟨.hbm, 567, rfl⟩
abbrev main_call3_call1_cst : Ref sig .tc := ⟨.hbm, 568, rfl⟩
abbrev main_call3_call1_v2 : Ref sig .tc := ⟨.hbm, 569, rfl⟩
abbrev main_call3_call1_v3 : Ref sig .tc := ⟨.hbm, 570, rfl⟩
abbrev main_call3_call1_cst_0 : Ref sig .tc := ⟨.hbm, 571, rfl⟩
abbrev main_call3_call1_v4 : Ref sig .tc := ⟨.hbm, 572, rfl⟩
abbrev main_call3_call1_v5 : Ref sig .tc := ⟨.hbm, 573, rfl⟩
abbrev main_call3_v36 : Ref sig .tc := ⟨.hbm, 574, rfl⟩
abbrev main_call3_v37 : Ref sig .tc := ⟨.hbm, 575, rfl⟩
abbrev main_call3_v38 : Ref sig .tc := ⟨.hbm, 576, rfl⟩
abbrev main_call3_v39 : Ref sig .tc := ⟨.hbm, 577, rfl⟩
abbrev main_call3_v40 : Ref sig .tc := ⟨.hbm, 578, rfl⟩
abbrev main_call3_v41 : Ref sig .tc := ⟨.hbm, 579, rfl⟩
abbrev main_call3_v42 : Ref sig .tc := ⟨.hbm, 580, rfl⟩
abbrev main_call3_v43 : Ref sig .tc := ⟨.hbm, 581, rfl⟩
abbrev main_call3_v44 : Ref sig .tc := ⟨.hbm, 582, rfl⟩
abbrev main_call3_call2_cst : Ref sig .tc := ⟨.hbm, 583, rfl⟩
abbrev main_call3_call2_v0 : Ref sig .tc := ⟨.hbm, 584, rfl⟩
abbrev main_call3_call2_v1 : Ref sig .tc := ⟨.hbm, 585, rfl⟩
abbrev main_call3_call2_v2 : Ref sig .tc := ⟨.hbm, 586, rfl⟩
abbrev main_call3_call2_v3 : Ref sig .tc := ⟨.hbm, 587, rfl⟩
abbrev main_call3_call2_v4 : Ref sig .tc := ⟨.hbm, 588, rfl⟩
abbrev main_call3_call2_v5 : Ref sig .tc := ⟨.hbm, 589, rfl⟩
abbrev main_call3_call2_v6 : Ref sig .tc := ⟨.hbm, 590, rfl⟩
abbrev main_call3_call2_v7 : Ref sig .tc := ⟨.hbm, 591, rfl⟩
abbrev main_call3_call2_v8 : Ref sig .tc := ⟨.hbm, 592, rfl⟩
abbrev main_call3_call2_v9 : Ref sig .tc := ⟨.hbm, 593, rfl⟩
abbrev main_call3_call2_v10 : Ref sig .tc := ⟨.hbm, 594, rfl⟩
abbrev main_call3_call2_v11 : Ref sig .tc := ⟨.hbm, 595, rfl⟩
abbrev main_call3_v45 : Ref sig .tc := ⟨.hbm, 596, rfl⟩
abbrev main_call3_v46 : Ref sig .tc := ⟨.hbm, 597, rfl⟩
abbrev main_call3_v47 : Ref sig .tc := ⟨.hbm, 598, rfl⟩
abbrev main_call3_cst_0 : Ref sig .tc := ⟨.hbm, 599, rfl⟩
abbrev main_call3_v48 : Ref sig .tc := ⟨.hbm, 600, rfl⟩
abbrev main_call3_v49 : Ref sig .tc := ⟨.hbm, 601, rfl⟩
abbrev main_call3_v50 : Ref sig .tc := ⟨.hbm, 602, rfl⟩
abbrev main_call3_v51 : Ref sig .tc := ⟨.hbm, 603, rfl⟩
abbrev main_call3_v52 : Ref sig .tc := ⟨.hbm, 604, rfl⟩
abbrev main_call3_cst_1 : Ref sig .tc := ⟨.hbm, 605, rfl⟩
abbrev main_call3_v53 : Ref sig .tc := ⟨.hbm, 606, rfl⟩
abbrev main_call3_c_2 : Ref sig .tc := ⟨.hbm, 607, rfl⟩
abbrev main_call3_v54_0 : Ref sig .tc := ⟨.hbm, 608, rfl⟩
abbrev main_call3_v54_1 : Ref sig .tc := ⟨.hbm, 609, rfl⟩
abbrev main_call3_v54_2 : Ref sig .tc := ⟨.hbm, 610, rfl⟩
abbrev main_call3_v54_3 : Ref sig .tc := ⟨.hbm, 611, rfl⟩
abbrev main_call3_v54_4 : Ref sig .tc := ⟨.hbm, 612, rfl⟩
abbrev main_call3_v54_5 : Ref sig .tc := ⟨.hbm, 613, rfl⟩
abbrev main_call3_v54_6 : Ref sig .tc := ⟨.hbm, 614, rfl⟩
abbrev main_call3_v54_7 : Ref sig .tc := ⟨.hbm, 615, rfl⟩
abbrev main_call3_while0c_c_10 : Ref sig .tc := ⟨.hbm, 616, rfl⟩
abbrev main_call3_while0c_v63 : Ref sig .tc := ⟨.hbm, 617, rfl⟩
abbrev main_call3_while0b_call3_c : Ref sig .tc := ⟨.hbm, 618, rfl⟩
abbrev main_call3_while0b_call3_c_0 : Ref sig .tc := ⟨.hbm, 619, rfl⟩
abbrev main_call3_while0b_call3_v0 : Ref sig .tc := ⟨.hbm, 620, rfl⟩
abbrev main_call3_while0b_v63 : Ref sig .tc := ⟨.hbm, 621, rfl⟩
abbrev main_call3_while0b_call4_c : Ref sig .tc := ⟨.hbm, 622, rfl⟩
abbrev main_call3_while0b_call4_c_0 : Ref sig .tc := ⟨.hbm, 623, rfl⟩
abbrev main_call3_while0b_call4_v0 : Ref sig .tc := ⟨.hbm, 624, rfl⟩
abbrev main_call3_while0b_v64 : Ref sig .tc := ⟨.hbm, 625, rfl⟩
abbrev main_call3_while0b_call5_c : Ref sig .tc := ⟨.hbm, 626, rfl⟩
abbrev main_call3_while0b_call5_c_0 : Ref sig .tc := ⟨.hbm, 627, rfl⟩
abbrev main_call3_while0b_call5_v0 : Ref sig .tc := ⟨.hbm, 628, rfl⟩
abbrev main_call3_while0b_v65 : Ref sig .tc := ⟨.hbm, 629, rfl⟩
abbrev main_call3_while0b_call6_c : Ref sig .tc := ⟨.hbm, 630, rfl⟩
abbrev main_call3_while0b_call6_c_0 : Ref sig .tc := ⟨.hbm, 631, rfl⟩
abbrev main_call3_while0b_call6_v0 : Ref sig .tc := ⟨.hbm, 632, rfl⟩
abbrev main_call3_while0b_v66 : Ref sig .tc := ⟨.hbm, 633, rfl⟩
abbrev main_call3_while0b_v67 : Ref sig .tc := ⟨.hbm, 634, rfl⟩
abbrev main_call3_while0b_v68 : Ref sig .tc := ⟨.hbm, 635, rfl⟩
abbrev main_call3_while0b_v69 : Ref sig .tc := ⟨.hbm, 636, rfl⟩
abbrev main_call3_while0b_v70 : Ref sig .tc := ⟨.hbm, 637, rfl⟩
abbrev main_call3_while0b_v71 : Ref sig .tc := ⟨.hbm, 638, rfl⟩
abbrev main_call3_while0b_v72 : Ref sig .tc := ⟨.hbm, 639, rfl⟩
abbrev main_call3_while0b_v73 : Ref sig .tc := ⟨.hbm, 640, rfl⟩
abbrev main_call3_while0b_v74 : Ref sig .tc := ⟨.hbm, 641, rfl⟩
abbrev main_call3_while0b_v75 : Ref sig .tc := ⟨.hbm, 642, rfl⟩
abbrev main_call3_while0b_v76 : Ref sig .tc := ⟨.hbm, 643, rfl⟩
abbrev main_call3_while0b_v77 : Ref sig .tc := ⟨.hbm, 644, rfl⟩
abbrev main_call3_while0b_v78 : Ref sig .tc := ⟨.hbm, 645, rfl⟩
abbrev main_call3_while0b_v79 : Ref sig .tc := ⟨.hbm, 646, rfl⟩
abbrev main_call3_while0b_v80 : Ref sig .tc := ⟨.hbm, 647, rfl⟩
abbrev main_call3_while0b_v81 : Ref sig .tc := ⟨.hbm, 648, rfl⟩
abbrev main_call3_while0b_call7_v0 : Ref sig .tc := ⟨.hbm, 649, rfl⟩
abbrev main_call3_while0b_call7_c : Ref sig .tc := ⟨.hbm, 650, rfl⟩
abbrev main_call3_while0b_call7_c_0 : Ref sig .tc := ⟨.hbm, 651, rfl⟩
abbrev main_call3_while0b_v82 : Ref sig .tc := ⟨.hbm, 652, rfl⟩
abbrev main_call3_while0b_c_10 : Ref sig .tc := ⟨.hbm, 653, rfl⟩
abbrev main_call3_while0b_v83 : Ref sig .tc := ⟨.hbm, 654, rfl⟩
abbrev main_call3_v55 : Ref sig .tc := ⟨.hbm, 655, rfl⟩
abbrev main_call3_v56 : Ref sig .tc := ⟨.hbm, 656, rfl⟩
abbrev main_call3_v57 : Ref sig .tc := ⟨.hbm, 657, rfl⟩
abbrev main_call3_v58 : Ref sig .tc := ⟨.hbm, 658, rfl⟩
abbrev main_call3_v59 : Ref sig .tc := ⟨.hbm, 659, rfl⟩
abbrev main_call3_call8_v0 : Ref sig .tc := ⟨.hbm, 660, rfl⟩
abbrev main_call3_call8_v1 : Ref sig .tc := ⟨.hbm, 661, rfl⟩
abbrev main_call3_call8_cst : Ref sig .tc := ⟨.hbm, 662, rfl⟩
abbrev main_call3_call8_v2 : Ref sig .tc := ⟨.hbm, 663, rfl⟩
abbrev main_call3_call8_v3 : Ref sig .tc := ⟨.hbm, 664, rfl⟩
abbrev main_call3_call8_cst_0 : Ref sig .tc := ⟨.hbm, 665, rfl⟩
abbrev main_call3_call8_v4 : Ref sig .tc := ⟨.hbm, 666, rfl⟩
abbrev main_call3_call8_v5 : Ref sig .tc := ⟨.hbm, 667, rfl⟩
abbrev main_call3_v60 : Ref sig .tc := ⟨.hbm, 668, rfl⟩
abbrev main_call3_v61 : Ref sig .tc := ⟨.hbm, 669, rfl⟩
abbrev main_v83 : Ref sig .tc := ⟨.hbm, 670, rfl⟩
abbrev main_v84 : Ref sig .tc := ⟨.hbm, 671, rfl⟩
abbrev main_v85 : Ref sig .tc := ⟨.hbm, 672, rfl⟩
abbrev main_v86 : Ref sig .tc := ⟨.hbm, 673, rfl⟩
abbrev main_v87 : Ref sig .tc := ⟨.hbm, 674, rfl⟩
abbrev main_v88 : Ref sig .tc := ⟨.hbm, 675, rfl⟩
abbrev main_v89 : Ref sig .tc := ⟨.hbm, 676, rfl⟩
abbrev main_v90 : Ref sig .tc := ⟨.hbm, 677, rfl⟩
abbrev main_v91 : Ref sig .tc := ⟨.hbm, 678, rfl⟩
abbrev main_v92 : Ref sig .tc := ⟨.hbm, 679, rfl⟩
abbrev main_v93 : Ref sig .tc := ⟨.hbm, 680, rfl⟩
abbrev main_v94 : Ref sig .tc := ⟨.hbm, 681, rfl⟩
abbrev main_v95 : Ref sig .tc := ⟨.hbm, 682, rfl⟩
abbrev main_v96 : Ref sig .tc := ⟨.hbm, 683, rfl⟩
abbrev main_v97 : Ref sig .tc := ⟨.hbm, 684, rfl⟩
abbrev main_v98 : Ref sig .tc := ⟨.hbm, 685, rfl⟩
abbrev main_v99 : Ref sig .tc := ⟨.hbm, 686, rfl⟩
abbrev main_v100 : Ref sig .tc := ⟨.hbm, 687, rfl⟩
abbrev main_v101 : Ref sig .tc := ⟨.hbm, 688, rfl⟩
abbrev main_call4_v0 : Ref sig .tc := ⟨.hbm, 689, rfl⟩
abbrev main_call4_v1 : Ref sig .tc := ⟨.hbm, 690, rfl⟩
abbrev main_call4_v2 : Ref sig .tc := ⟨.hbm, 691, rfl⟩
abbrev main_call4_c : Ref sig .tc := ⟨.hbm, 692, rfl⟩
abbrev main_call4_call0_v0 : Ref sig .tc := ⟨.hbm, 693, rfl⟩
abbrev main_call4_v3 : Ref sig .tc := ⟨.hbm, 694, rfl⟩
abbrev main_call4_v4 : Ref sig .tc := ⟨.hbm, 695, rfl⟩
abbrev main_call4_v5 : Ref sig .tc := ⟨.hbm, 696, rfl⟩
abbrev main_call4_v6 : Ref sig .tc := ⟨.hbm, 697, rfl⟩
abbrev main_call4_v7 : Ref sig .tc := ⟨.hbm, 698, rfl⟩
abbrev main_call4_v8 : Ref sig .tc := ⟨.hbm, 699, rfl⟩
abbrev main_call4_v9 : Ref sig .tc := ⟨.hbm, 700, rfl⟩
abbrev main_call4_cst : Ref sig .tc := ⟨.hbm, 701, rfl⟩
abbrev main_call4_v10 : Ref sig .tc := ⟨.hbm, 702, rfl⟩
abbrev main_call4_v11 : Ref sig .tc := ⟨.hbm, 703, rfl⟩
abbrev main_call4_v12 : Ref sig .tc := ⟨.hbm, 704, rfl⟩
abbrev main_call4_v13 : Ref sig .tc := ⟨.hbm, 705, rfl⟩
abbrev main_call4_v14 : Ref sig .tc := ⟨.hbm, 706, rfl⟩
abbrev main_call4_v15 : Ref sig .tc := ⟨.hbm, 707, rfl⟩
abbrev main_call4_v16 : Ref sig .tc := ⟨.hbm, 708, rfl⟩
abbrev main_call4_v17 : Ref sig .tc := ⟨.hbm, 709, rfl⟩
abbrev main_call4_v18 : Ref sig .tc := ⟨.hbm, 710, rfl⟩
abbrev main_call4_v19 : Ref sig .tc := ⟨.hbm, 711, rfl⟩
abbrev main_call4_v20 : Ref sig .tc := ⟨.hbm, 712, rfl⟩
abbrev main_call4_v21 : Ref sig .tc := ⟨.hbm, 713, rfl⟩
abbrev main_call4_v22 : Ref sig .tc := ⟨.hbm, 714, rfl⟩
abbrev main_call4_v23 : Ref sig .tc := ⟨.hbm, 715, rfl⟩
abbrev main_call4_v24 : Ref sig .tc := ⟨.hbm, 716, rfl⟩
abbrev main_call4_v25 : Ref sig .tc := ⟨.hbm, 717, rfl⟩
abbrev main_call4_v26 : Ref sig .tc := ⟨.hbm, 718, rfl⟩
abbrev main_call4_v27 : Ref sig .tc := ⟨.hbm, 719, rfl⟩
abbrev main_call4_v28 : Ref sig .tc := ⟨.hbm, 720, rfl⟩
abbrev main_call4_v29 : Ref sig .tc := ⟨.hbm, 721, rfl⟩
abbrev main_call4_v30 : Ref sig .tc := ⟨.hbm, 722, rfl⟩
abbrev main_call4_v31 : Ref sig .tc := ⟨.hbm, 723, rfl⟩
abbrev main_call4_v32 : Ref sig .tc := ⟨.hbm, 724, rfl⟩
abbrev main_call4_v33 : Ref sig .tc := ⟨.hbm, 725, rfl⟩
abbrev main_call4_v34 : Ref sig .tc := ⟨.hbm, 726, rfl⟩
abbrev main_call4_v35 : Ref sig .tc := ⟨.hbm, 727, rfl⟩
abbrev main_call4_call1_v0 : Ref sig .tc := ⟨.hbm, 728, rfl⟩
abbrev main_call4_call1_v1 : Ref sig .tc := ⟨.hbm, 729, rfl⟩
abbrev main_call4_call1_cst : Ref sig .tc := ⟨.hbm, 730, rfl⟩
abbrev main_call4_call1_v2 : Ref sig .tc := ⟨.hbm, 731, rfl⟩
abbrev main_call4_call1_v3 : Ref sig .tc := ⟨.hbm, 732, rfl⟩
abbrev main_call4_call1_cst_0 : Ref sig .tc := ⟨.hbm, 733, rfl⟩
abbrev main_call4_call1_v4 : Ref sig .tc := ⟨.hbm, 734, rfl⟩
abbrev main_call4_call1_v5 : Ref sig .tc := ⟨.hbm, 735, rfl⟩
abbrev main_call4_v36 : Ref sig .tc := ⟨.hbm, 736, rfl⟩
abbrev main_call4_v37 : Ref sig .tc := ⟨.hbm, 737, rfl⟩
abbrev main_call4_v38 : Ref sig .tc := ⟨.hbm, 738, rfl⟩
abbrev main_call4_v39 : Ref sig .tc := ⟨.hbm, 739, rfl⟩
abbrev main_call4_v40 : Ref sig .tc := ⟨.hbm, 740, rfl⟩
abbrev main_call4_v41 : Ref sig .tc := ⟨.hbm, 741, rfl⟩
abbrev main_call4_v42 : Ref sig .tc := ⟨.hbm, 742, rfl⟩
abbrev main_call4_v43 : Ref sig .tc := ⟨.hbm, 743, rfl⟩
abbrev main_call4_v44 : Ref sig .tc := ⟨.hbm, 744, rfl⟩
abbrev main_call4_call2_cst : Ref sig .tc := ⟨.hbm, 745, rfl⟩
abbrev main_call4_call2_v0 : Ref sig .tc := ⟨.hbm, 746, rfl⟩
abbrev main_call4_call2_v1 : Ref sig .tc := ⟨.hbm, 747, rfl⟩
abbrev main_call4_call2_v2 : Ref sig .tc := ⟨.hbm, 748, rfl⟩
abbrev main_call4_call2_v3 : Ref sig .tc := ⟨.hbm, 749, rfl⟩
abbrev main_call4_call2_v4 : Ref sig .tc := ⟨.hbm, 750, rfl⟩
abbrev main_call4_call2_v5 : Ref sig .tc := ⟨.hbm, 751, rfl⟩
abbrev main_call4_call2_v6 : Ref sig .tc := ⟨.hbm, 752, rfl⟩
abbrev main_call4_call2_v7 : Ref sig .tc := ⟨.hbm, 753, rfl⟩
abbrev main_call4_call2_v8 : Ref sig .tc := ⟨.hbm, 754, rfl⟩
abbrev main_call4_call2_v9 : Ref sig .tc := ⟨.hbm, 755, rfl⟩
abbrev main_call4_call2_v10 : Ref sig .tc := ⟨.hbm, 756, rfl⟩
abbrev main_call4_call2_v11 : Ref sig .tc := ⟨.hbm, 757, rfl⟩
abbrev main_call4_v45 : Ref sig .tc := ⟨.hbm, 758, rfl⟩
abbrev main_call4_v46 : Ref sig .tc := ⟨.hbm, 759, rfl⟩
abbrev main_call4_v47 : Ref sig .tc := ⟨.hbm, 760, rfl⟩
abbrev main_call4_cst_0 : Ref sig .tc := ⟨.hbm, 761, rfl⟩
abbrev main_call4_v48 : Ref sig .tc := ⟨.hbm, 762, rfl⟩
abbrev main_call4_v49 : Ref sig .tc := ⟨.hbm, 763, rfl⟩
abbrev main_call4_v50 : Ref sig .tc := ⟨.hbm, 764, rfl⟩
abbrev main_call4_v51 : Ref sig .tc := ⟨.hbm, 765, rfl⟩
abbrev main_call4_v52 : Ref sig .tc := ⟨.hbm, 766, rfl⟩
abbrev main_call4_cst_1 : Ref sig .tc := ⟨.hbm, 767, rfl⟩
abbrev main_call4_v53 : Ref sig .tc := ⟨.hbm, 768, rfl⟩
abbrev main_call4_c_2 : Ref sig .tc := ⟨.hbm, 769, rfl⟩
abbrev main_call4_v54_0 : Ref sig .tc := ⟨.hbm, 770, rfl⟩
abbrev main_call4_v54_1 : Ref sig .tc := ⟨.hbm, 771, rfl⟩
abbrev main_call4_v54_2 : Ref sig .tc := ⟨.hbm, 772, rfl⟩
abbrev main_call4_v54_3 : Ref sig .tc := ⟨.hbm, 773, rfl⟩
abbrev main_call4_v54_4 : Ref sig .tc := ⟨.hbm, 774, rfl⟩
abbrev main_call4_v54_5 : Ref sig .tc := ⟨.hbm, 775, rfl⟩
abbrev main_call4_v54_6 : Ref sig .tc := ⟨.hbm, 776, rfl⟩
abbrev main_call4_v54_7 : Ref sig .tc := ⟨.hbm, 777, rfl⟩
abbrev main_call4_while0c_c_10 : Ref sig .tc := ⟨.hbm, 778, rfl⟩
abbrev main_call4_while0c_v63 : Ref sig .tc := ⟨.hbm, 779, rfl⟩
abbrev main_call4_while0b_call3_c : Ref sig .tc := ⟨.hbm, 780, rfl⟩
abbrev main_call4_while0b_call3_c_0 : Ref sig .tc := ⟨.hbm, 781, rfl⟩
abbrev main_call4_while0b_call3_v0 : Ref sig .tc := ⟨.hbm, 782, rfl⟩
abbrev main_call4_while0b_v63 : Ref sig .tc := ⟨.hbm, 783, rfl⟩
abbrev main_call4_while0b_call4_c : Ref sig .tc := ⟨.hbm, 784, rfl⟩
abbrev main_call4_while0b_call4_c_0 : Ref sig .tc := ⟨.hbm, 785, rfl⟩
abbrev main_call4_while0b_call4_v0 : Ref sig .tc := ⟨.hbm, 786, rfl⟩
abbrev main_call4_while0b_v64 : Ref sig .tc := ⟨.hbm, 787, rfl⟩
abbrev main_call4_while0b_call5_c : Ref sig .tc := ⟨.hbm, 788, rfl⟩
abbrev main_call4_while0b_call5_c_0 : Ref sig .tc := ⟨.hbm, 789, rfl⟩
abbrev main_call4_while0b_call5_v0 : Ref sig .tc := ⟨.hbm, 790, rfl⟩
abbrev main_call4_while0b_v65 : Ref sig .tc := ⟨.hbm, 791, rfl⟩
abbrev main_call4_while0b_call6_c : Ref sig .tc := ⟨.hbm, 792, rfl⟩
abbrev main_call4_while0b_call6_c_0 : Ref sig .tc := ⟨.hbm, 793, rfl⟩
abbrev main_call4_while0b_call6_v0 : Ref sig .tc := ⟨.hbm, 794, rfl⟩
abbrev main_call4_while0b_v66 : Ref sig .tc := ⟨.hbm, 795, rfl⟩
abbrev main_call4_while0b_v67 : Ref sig .tc := ⟨.hbm, 796, rfl⟩
abbrev main_call4_while0b_v68 : Ref sig .tc := ⟨.hbm, 797, rfl⟩
abbrev main_call4_while0b_v69 : Ref sig .tc := ⟨.hbm, 798, rfl⟩
abbrev main_call4_while0b_v70 : Ref sig .tc := ⟨.hbm, 799, rfl⟩
abbrev main_call4_while0b_v71 : Ref sig .tc := ⟨.hbm, 800, rfl⟩
abbrev main_call4_while0b_v72 : Ref sig .tc := ⟨.hbm, 801, rfl⟩
abbrev main_call4_while0b_v73 : Ref sig .tc := ⟨.hbm, 802, rfl⟩
abbrev main_call4_while0b_v74 : Ref sig .tc := ⟨.hbm, 803, rfl⟩
abbrev main_call4_while0b_v75 : Ref sig .tc := ⟨.hbm, 804, rfl⟩
abbrev main_call4_while0b_v76 : Ref sig .tc := ⟨.hbm, 805, rfl⟩
abbrev main_call4_while0b_v77 : Ref sig .tc := ⟨.hbm, 806, rfl⟩
abbrev main_call4_while0b_v78 : Ref sig .tc := ⟨.hbm, 807, rfl⟩
abbrev main_call4_while0b_v79 : Ref sig .tc := ⟨.hbm, 808, rfl⟩
abbrev main_call4_while0b_v80 : Ref sig .tc := ⟨.hbm, 809, rfl⟩
abbrev main_call4_while0b_v81 : Ref sig .tc := ⟨.hbm, 810, rfl⟩
abbrev main_call4_while0b_call7_v0 : Ref sig .tc := ⟨.hbm, 811, rfl⟩
abbrev main_call4_while0b_call7_c : Ref sig .tc := ⟨.hbm, 812, rfl⟩
abbrev main_call4_while0b_call7_c_0 : Ref sig .tc := ⟨.hbm, 813, rfl⟩
abbrev main_call4_while0b_v82 : Ref sig .tc := ⟨.hbm, 814, rfl⟩
abbrev main_call4_while0b_c_10 : Ref sig .tc := ⟨.hbm, 815, rfl⟩
abbrev main_call4_while0b_v83 : Ref sig .tc := ⟨.hbm, 816, rfl⟩
abbrev main_call4_v55 : Ref sig .tc := ⟨.hbm, 817, rfl⟩
abbrev main_call4_v56 : Ref sig .tc := ⟨.hbm, 818, rfl⟩
abbrev main_call4_v57 : Ref sig .tc := ⟨.hbm, 819, rfl⟩
abbrev main_call4_v58 : Ref sig .tc := ⟨.hbm, 820, rfl⟩
abbrev main_call4_v59 : Ref sig .tc := ⟨.hbm, 821, rfl⟩
abbrev main_call4_call8_v0 : Ref sig .tc := ⟨.hbm, 822, rfl⟩
abbrev main_call4_call8_v1 : Ref sig .tc := ⟨.hbm, 823, rfl⟩
abbrev main_call4_call8_cst : Ref sig .tc := ⟨.hbm, 824, rfl⟩
abbrev main_call4_call8_v2 : Ref sig .tc := ⟨.hbm, 825, rfl⟩
abbrev main_call4_call8_v3 : Ref sig .tc := ⟨.hbm, 826, rfl⟩
abbrev main_call4_call8_cst_0 : Ref sig .tc := ⟨.hbm, 827, rfl⟩
abbrev main_call4_call8_v4 : Ref sig .tc := ⟨.hbm, 828, rfl⟩
abbrev main_call4_call8_v5 : Ref sig .tc := ⟨.hbm, 829, rfl⟩
abbrev main_call4_v60 : Ref sig .tc := ⟨.hbm, 830, rfl⟩
abbrev main_call4_v61 : Ref sig .tc := ⟨.hbm, 831, rfl⟩
abbrev main_v102 : Ref sig .tc := ⟨.hbm, 832, rfl⟩
abbrev main_v103 : Ref sig .tc := ⟨.hbm, 833, rfl⟩
abbrev main_v104 : Ref sig .tc := ⟨.hbm, 834, rfl⟩
abbrev main_v105 : Ref sig .tc := ⟨.hbm, 835, rfl⟩
abbrev main_v106 : Ref sig .tc := ⟨.hbm, 836, rfl⟩
abbrev main_v107 : Ref sig .tc := ⟨.hbm, 837, rfl⟩
abbrev main_v108 : Ref sig .tc := ⟨.hbm, 838, rfl⟩
abbrev main_v109 : Ref sig .tc := ⟨.hbm, 839, rfl⟩
abbrev main_v110 : Ref sig .tc := ⟨.hbm, 840, rfl⟩
abbrev main_v111 : Ref sig .tc := ⟨.hbm, 841, rfl⟩
abbrev main_v112 : Ref sig .tc := ⟨.hbm, 842, rfl⟩
abbrev main_v113 : Ref sig .tc := ⟨.hbm, 843, rfl⟩
abbrev main_v114 : Ref sig .tc := ⟨.hbm, 844, rfl⟩
abbrev main_v115 : Ref sig .tc := ⟨.hbm, 845, rfl⟩
abbrev main_v116 : Ref sig .tc := ⟨.hbm, 846, rfl⟩
abbrev main_v117 : Ref sig .tc := ⟨.hbm, 847, rfl⟩
abbrev main_v118 : Ref sig .tc := ⟨.hbm, 848, rfl⟩
abbrev main_v119 : Ref sig .tc := ⟨.hbm, 849, rfl⟩
abbrev main_v120 : Ref sig .tc := ⟨.hbm, 850, rfl⟩
abbrev main_call5_v0 : Ref sig .tc := ⟨.hbm, 851, rfl⟩
abbrev main_call5_v1 : Ref sig .tc := ⟨.hbm, 852, rfl⟩
abbrev main_call5_v2 : Ref sig .tc := ⟨.hbm, 853, rfl⟩
abbrev main_call5_c : Ref sig .tc := ⟨.hbm, 854, rfl⟩
abbrev main_call5_call0_v0 : Ref sig .tc := ⟨.hbm, 855, rfl⟩
abbrev main_call5_v3 : Ref sig .tc := ⟨.hbm, 856, rfl⟩
abbrev main_call5_v4 : Ref sig .tc := ⟨.hbm, 857, rfl⟩
abbrev main_call5_v5 : Ref sig .tc := ⟨.hbm, 858, rfl⟩
abbrev main_call5_v6 : Ref sig .tc := ⟨.hbm, 859, rfl⟩
abbrev main_call5_v7 : Ref sig .tc := ⟨.hbm, 860, rfl⟩
abbrev main_call5_v8 : Ref sig .tc := ⟨.hbm, 861, rfl⟩
abbrev main_call5_v9 : Ref sig .tc := ⟨.hbm, 862, rfl⟩
abbrev main_call5_cst : Ref sig .tc := ⟨.hbm, 863, rfl⟩
abbrev main_call5_v10 : Ref sig .tc := ⟨.hbm, 864, rfl⟩
abbrev main_call5_v11 : Ref sig .tc := ⟨.hbm, 865, rfl⟩
abbrev main_call5_v12 : Ref sig .tc := ⟨.hbm, 866, rfl⟩
abbrev main_call5_v13 : Ref sig .tc := ⟨.hbm, 867, rfl⟩
abbrev main_call5_v14 : Ref sig .tc := ⟨.hbm, 868, rfl⟩
abbrev main_call5_v15 : Ref sig .tc := ⟨.hbm, 869, rfl⟩
abbrev main_call5_v16 : Ref sig .tc := ⟨.hbm, 870, rfl⟩
abbrev main_call5_v17 : Ref sig .tc := ⟨.hbm, 871, rfl⟩
abbrev main_call5_v18 : Ref sig .tc := ⟨.hbm, 872, rfl⟩
abbrev main_call5_v19 : Ref sig .tc := ⟨.hbm, 873, rfl⟩
abbrev main_call5_v20 : Ref sig .tc := ⟨.hbm, 874, rfl⟩
abbrev main_call5_v21 : Ref sig .tc := ⟨.hbm, 875, rfl⟩
abbrev main_call5_v22 : Ref sig .tc := ⟨.hbm, 876, rfl⟩
abbrev main_call5_v23 : Ref sig .tc := ⟨.hbm, 877, rfl⟩
abbrev main_call5_v24 : Ref sig .tc := ⟨.hbm, 878, rfl⟩
abbrev main_call5_v25 : Ref sig .tc := ⟨.hbm, 879, rfl⟩
abbrev main_call5_v26 : Ref sig .tc := ⟨.hbm, 880, rfl⟩
abbrev main_call5_v27 : Ref sig .tc := ⟨.hbm, 881, rfl⟩
abbrev main_call5_v28 : Ref sig .tc := ⟨.hbm, 882, rfl⟩
abbrev main_call5_v29 : Ref sig .tc := ⟨.hbm, 883, rfl⟩
abbrev main_call5_v30 : Ref sig .tc := ⟨.hbm, 884, rfl⟩
abbrev main_call5_v31 : Ref sig .tc := ⟨.hbm, 885, rfl⟩
abbrev main_call5_v32 : Ref sig .tc := ⟨.hbm, 886, rfl⟩
abbrev main_call5_v33 : Ref sig .tc := ⟨.hbm, 887, rfl⟩
abbrev main_call5_v34 : Ref sig .tc := ⟨.hbm, 888, rfl⟩
abbrev main_call5_v35 : Ref sig .tc := ⟨.hbm, 889, rfl⟩
abbrev main_call5_call1_v0 : Ref sig .tc := ⟨.hbm, 890, rfl⟩
abbrev main_call5_call1_v1 : Ref sig .tc := ⟨.hbm, 891, rfl⟩
abbrev main_call5_call1_cst : Ref sig .tc := ⟨.hbm, 892, rfl⟩
abbrev main_call5_call1_v2 : Ref sig .tc := ⟨.hbm, 893, rfl⟩
abbrev main_call5_call1_v3 : Ref sig .tc := ⟨.hbm, 894, rfl⟩
abbrev main_call5_call1_cst_0 : Ref sig .tc := ⟨.hbm, 895, rfl⟩
abbrev main_call5_call1_v4 : Ref sig .tc := ⟨.hbm, 896, rfl⟩
abbrev main_call5_call1_v5 : Ref sig .tc := ⟨.hbm, 897, rfl⟩
abbrev main_call5_v36 : Ref sig .tc := ⟨.hbm, 898, rfl⟩
abbrev main_call5_v37 : Ref sig .tc := ⟨.hbm, 899, rfl⟩
abbrev main_call5_v38 : Ref sig .tc := ⟨.hbm, 900, rfl⟩
abbrev main_call5_v39 : Ref sig .tc := ⟨.hbm, 901, rfl⟩
abbrev main_call5_v40 : Ref sig .tc := ⟨.hbm, 902, rfl⟩
abbrev main_call5_v41 : Ref sig .tc := ⟨.hbm, 903, rfl⟩
abbrev main_call5_v42 : Ref sig .tc := ⟨.hbm, 904, rfl⟩
abbrev main_call5_v43 : Ref sig .tc := ⟨.hbm, 905, rfl⟩
abbrev main_call5_v44 : Ref sig .tc := ⟨.hbm, 906, rfl⟩
abbrev main_call5_call2_cst : Ref sig .tc := ⟨.hbm, 907, rfl⟩
abbrev main_call5_call2_v0 : Ref sig .tc := ⟨.hbm, 908, rfl⟩
abbrev main_call5_call2_v1 : Ref sig .tc := ⟨.hbm, 909, rfl⟩
abbrev main_call5_call2_v2 : Ref sig .tc := ⟨.hbm, 910, rfl⟩
abbrev main_call5_call2_v3 : Ref sig .tc := ⟨.hbm, 911, rfl⟩
abbrev main_call5_call2_v4 : Ref sig .tc := ⟨.hbm, 912, rfl⟩
abbrev main_call5_call2_v5 : Ref sig .tc := ⟨.hbm, 913, rfl⟩
abbrev main_call5_call2_v6 : Ref sig .tc := ⟨.hbm, 914, rfl⟩
abbrev main_call5_call2_v7 : Ref sig .tc := ⟨.hbm, 915, rfl⟩
abbrev main_call5_call2_v8 : Ref sig .tc := ⟨.hbm, 916, rfl⟩
abbrev main_call5_call2_v9 : Ref sig .tc := ⟨.hbm, 917, rfl⟩
abbrev main_call5_call2_v10 : Ref sig .tc := ⟨.hbm, 918, rfl⟩
abbrev main_call5_call2_v11 : Ref sig .tc := ⟨.hbm, 919, rfl⟩
abbrev main_call5_v45 : Ref sig .tc := ⟨.hbm, 920, rfl⟩
abbrev main_call5_v46 : Ref sig .tc := ⟨.hbm, 921, rfl⟩
abbrev main_call5_v47 : Ref sig .tc := ⟨.hbm, 922, rfl⟩
abbrev main_call5_cst_0 : Ref sig .tc := ⟨.hbm, 923, rfl⟩
abbrev main_call5_v48 : Ref sig .tc := ⟨.hbm, 924, rfl⟩
abbrev main_call5_v49 : Ref sig .tc := ⟨.hbm, 925, rfl⟩
abbrev main_call5_v50 : Ref sig .tc := ⟨.hbm, 926, rfl⟩
abbrev main_call5_v51 : Ref sig .tc := ⟨.hbm, 927, rfl⟩
abbrev main_call5_v52 : Ref sig .tc := ⟨.hbm, 928, rfl⟩
abbrev main_call5_cst_1 : Ref sig .tc := ⟨.hbm, 929, rfl⟩
abbrev main_call5_v53 : Ref sig .tc := ⟨.hbm, 930, rfl⟩
abbrev main_call5_c_2 : Ref sig .tc := ⟨.hbm, 931, rfl⟩
abbrev main_call5_v54_0 : Ref sig .tc := ⟨.hbm, 932, rfl⟩
abbrev main_call5_v54_1 : Ref sig .tc := ⟨.hbm, 933, rfl⟩
abbrev main_call5_v54_2 : Ref sig .tc := ⟨.hbm, 934, rfl⟩
abbrev main_call5_v54_3 : Ref sig .tc := ⟨.hbm, 935, rfl⟩
abbrev main_call5_v54_4 : Ref sig .tc := ⟨.hbm, 936, rfl⟩
abbrev main_call5_v54_5 : Ref sig .tc := ⟨.hbm, 937, rfl⟩
abbrev main_call5_v54_6 : Ref sig .tc := ⟨.hbm, 938, rfl⟩
abbrev main_call5_v54_7 : Ref sig .tc := ⟨.hbm, 939, rfl⟩
abbrev main_call5_while0c_c_10 : Ref sig .tc := ⟨.hbm, 940, rfl⟩
abbrev main_call5_while0c_v63 : Ref sig .tc := ⟨.hbm, 941, rfl⟩
abbrev main_call5_while0b_call3_c : Ref sig .tc := ⟨.hbm, 942, rfl⟩
abbrev main_call5_while0b_call3_c_0 : Ref sig .tc := ⟨.hbm, 943, rfl⟩
abbrev main_call5_while0b_call3_v0 : Ref sig .tc := ⟨.hbm, 944, rfl⟩
abbrev main_call5_while0b_v63 : Ref sig .tc := ⟨.hbm, 945, rfl⟩
abbrev main_call5_while0b_call4_c : Ref sig .tc := ⟨.hbm, 946, rfl⟩
abbrev main_call5_while0b_call4_c_0 : Ref sig .tc := ⟨.hbm, 947, rfl⟩
abbrev main_call5_while0b_call4_v0 : Ref sig .tc := ⟨.hbm, 948, rfl⟩
abbrev main_call5_while0b_v64 : Ref sig .tc := ⟨.hbm, 949, rfl⟩
abbrev main_call5_while0b_call5_c : Ref sig .tc := ⟨.hbm, 950, rfl⟩
abbrev main_call5_while0b_call5_c_0 : Ref sig .tc := ⟨.hbm, 951, rfl⟩
abbrev main_call5_while0b_call5_v0 : Ref sig .tc := ⟨.hbm, 952, rfl⟩
abbrev main_call5_while0b_v65 : Ref sig .tc := ⟨.hbm, 953, rfl⟩
abbrev main_call5_while0b_call6_c : Ref sig .tc := ⟨.hbm, 954, rfl⟩
abbrev main_call5_while0b_call6_c_0 : Ref sig .tc := ⟨.hbm, 955, rfl⟩
abbrev main_call5_while0b_call6_v0 : Ref sig .tc := ⟨.hbm, 956, rfl⟩
abbrev main_call5_while0b_v66 : Ref sig .tc := ⟨.hbm, 957, rfl⟩
abbrev main_call5_while0b_v67 : Ref sig .tc := ⟨.hbm, 958, rfl⟩
abbrev main_call5_while0b_v68 : Ref sig .tc := ⟨.hbm, 959, rfl⟩
abbrev main_call5_while0b_v69 : Ref sig .tc := ⟨.hbm, 960, rfl⟩
abbrev main_call5_while0b_v70 : Ref sig .tc := ⟨.hbm, 961, rfl⟩
abbrev main_call5_while0b_v71 : Ref sig .tc := ⟨.hbm, 962, rfl⟩
abbrev main_call5_while0b_v72 : Ref sig .tc := ⟨.hbm, 963, rfl⟩
abbrev main_call5_while0b_v73 : Ref sig .tc := ⟨.hbm, 964, rfl⟩
abbrev main_call5_while0b_v74 : Ref sig .tc := ⟨.hbm, 965, rfl⟩
abbrev main_call5_while0b_v75 : Ref sig .tc := ⟨.hbm, 966, rfl⟩
abbrev main_call5_while0b_v76 : Ref sig .tc := ⟨.hbm, 967, rfl⟩
abbrev main_call5_while0b_v77 : Ref sig .tc := ⟨.hbm, 968, rfl⟩
abbrev main_call5_while0b_v78 : Ref sig .tc := ⟨.hbm, 969, rfl⟩
abbrev main_call5_while0b_v79 : Ref sig .tc := ⟨.hbm, 970, rfl⟩
abbrev main_call5_while0b_v80 : Ref sig .tc := ⟨.hbm, 971, rfl⟩
abbrev main_call5_while0b_v81 : Ref sig .tc := ⟨.hbm, 972, rfl⟩
abbrev main_call5_while0b_call7_v0 : Ref sig .tc := ⟨.hbm, 973, rfl⟩
abbrev main_call5_while0b_call7_c : Ref sig .tc := ⟨.hbm, 974, rfl⟩
abbrev main_call5_while0b_call7_c_0 : Ref sig .tc := ⟨.hbm, 975, rfl⟩
abbrev main_call5_while0b_v82 : Ref sig .tc := ⟨.hbm, 976, rfl⟩
abbrev main_call5_while0b_c_10 : Ref sig .tc := ⟨.hbm, 977, rfl⟩
abbrev main_call5_while0b_v83 : Ref sig .tc := ⟨.hbm, 978, rfl⟩
abbrev main_call5_v55 : Ref sig .tc := ⟨.hbm, 979, rfl⟩
abbrev main_call5_v56 : Ref sig .tc := ⟨.hbm, 980, rfl⟩
abbrev main_call5_v57 : Ref sig .tc := ⟨.hbm, 981, rfl⟩
abbrev main_call5_v58 : Ref sig .tc := ⟨.hbm, 982, rfl⟩
abbrev main_call5_v59 : Ref sig .tc := ⟨.hbm, 983, rfl⟩
abbrev main_call5_call8_v0 : Ref sig .tc := ⟨.hbm, 984, rfl⟩
abbrev main_call5_call8_v1 : Ref sig .tc := ⟨.hbm, 985, rfl⟩
abbrev main_call5_call8_cst : Ref sig .tc := ⟨.hbm, 986, rfl⟩
abbrev main_call5_call8_v2 : Ref sig .tc := ⟨.hbm, 987, rfl⟩
abbrev main_call5_call8_v3 : Ref sig .tc := ⟨.hbm, 988, rfl⟩
abbrev main_call5_call8_cst_0 : Ref sig .tc := ⟨.hbm, 989, rfl⟩
abbrev main_call5_call8_v4 : Ref sig .tc := ⟨.hbm, 990, rfl⟩
abbrev main_call5_call8_v5 : Ref sig .tc := ⟨.hbm, 991, rfl⟩
abbrev main_call5_v60 : Ref sig .tc := ⟨.hbm, 992, rfl⟩
abbrev main_call5_v61 : Ref sig .tc := ⟨.hbm, 993, rfl⟩
abbrev main_v121 : Ref sig .tc := ⟨.hbm, 994, rfl⟩
abbrev main_v122 : Ref sig .tc := ⟨.hbm, 995, rfl⟩
abbrev main_v123 : Ref sig .tc := ⟨.hbm, 996, rfl⟩
abbrev main_v124 : Ref sig .tc := ⟨.hbm, 997, rfl⟩
abbrev main_v125 : Ref sig .tc := ⟨.hbm, 998, rfl⟩
abbrev main_v126 : Ref sig .tc := ⟨.hbm, 999, rfl⟩
abbrev main_v127 : Ref sig .tc := ⟨.hbm, 1000, rfl⟩
abbrev main_v128 : Ref sig .tc := ⟨.hbm, 1001, rfl⟩
abbrev main_v129 : Ref sig .tc := ⟨.hbm, 1002, rfl⟩
abbrev main_v130 : Ref sig .tc := ⟨.hbm, 1003, rfl⟩
abbrev main_v131 : Ref sig .tc := ⟨.hbm, 1004, rfl⟩
abbrev main_v132 : Ref sig .tc := ⟨.hbm, 1005, rfl⟩
abbrev main_v133 : Ref sig .tc := ⟨.hbm, 1006, rfl⟩
abbrev main_v134 : Ref sig .tc := ⟨.hbm, 1007, rfl⟩
abbrev main_v135 : Ref sig .tc := ⟨.hbm, 1008, rfl⟩
abbrev main_v136 : Ref sig .tc := ⟨.hbm, 1009, rfl⟩
abbrev main_v137 : Ref sig .tc := ⟨.hbm, 1010, rfl⟩
abbrev main_v138 : Ref sig .tc := ⟨.hbm, 1011, rfl⟩
abbrev main_v139 : Ref sig .tc := ⟨.hbm, 1012, rfl⟩
abbrev main_call6_v0 : Ref sig .tc := ⟨.hbm, 1013, rfl⟩
abbrev main_call6_v1 : Ref sig .tc := ⟨.hbm, 1014, rfl⟩
abbrev main_call6_v2 : Ref sig .tc := ⟨.hbm, 1015, rfl⟩
abbrev main_call6_c : Ref sig .tc := ⟨.hbm, 1016, rfl⟩
abbrev main_call6_call0_v0 : Ref sig .tc := ⟨.hbm, 1017, rfl⟩
abbrev main_call6_v3 : Ref sig .tc := ⟨.hbm, 1018, rfl⟩
abbrev main_call6_v4 : Ref sig .tc := ⟨.hbm, 1019, rfl⟩
abbrev main_call6_v5 : Ref sig .tc := ⟨.hbm, 1020, rfl⟩
abbrev main_call6_v6 : Ref sig .tc := ⟨.hbm, 1021, rfl⟩
abbrev main_call6_v7 : Ref sig .tc := ⟨.hbm, 1022, rfl⟩
abbrev main_call6_v8 : Ref sig .tc := ⟨.hbm, 1023, rfl⟩
abbrev main_call6_v9 : Ref sig .tc := ⟨.hbm, 1024, rfl⟩
abbrev main_call6_cst : Ref sig .tc := ⟨.hbm, 1025, rfl⟩
abbrev main_call6_v10 : Ref sig .tc := ⟨.hbm, 1026, rfl⟩
abbrev main_call6_v11 : Ref sig .tc := ⟨.hbm, 1027, rfl⟩
abbrev main_call6_v12 : Ref sig .tc := ⟨.hbm, 1028, rfl⟩
abbrev main_call6_v13 : Ref sig .tc := ⟨.hbm, 1029, rfl⟩
abbrev main_call6_v14 : Ref sig .tc := ⟨.hbm, 1030, rfl⟩
abbrev main_call6_v15 : Ref sig .tc := ⟨.hbm, 1031, rfl⟩
abbrev main_call6_v16 : Ref sig .tc := ⟨.hbm, 1032, rfl⟩
abbrev main_call6_v17 : Ref sig .tc := ⟨.hbm, 1033, rfl⟩
abbrev main_call6_v18 : Ref sig .tc := ⟨.hbm, 1034, rfl⟩
abbrev main_call6_v19 : Ref sig .tc := ⟨.hbm, 1035, rfl⟩
abbrev main_call6_v20 : Ref sig .tc := ⟨.hbm, 1036, rfl⟩
abbrev main_call6_v21 : Ref sig .tc := ⟨.hbm, 1037, rfl⟩
abbrev main_call6_v22 : Ref sig .tc := ⟨.hbm, 1038, rfl⟩
abbrev main_call6_v23 : Ref sig .tc := ⟨.hbm, 1039, rfl⟩
abbrev main_call6_v24 : Ref sig .tc := ⟨.hbm, 1040, rfl⟩
abbrev main_call6_v25 : Ref sig .tc := ⟨.hbm, 1041, rfl⟩
abbrev main_call6_v26 : Ref sig .tc := ⟨.hbm, 1042, rfl⟩
abbrev main_call6_v27 : Ref sig .tc := ⟨.hbm, 1043, rfl⟩
abbrev main_call6_v28 : Ref sig .tc := ⟨.hbm, 1044, rfl⟩
abbrev main_call6_v29 : Ref sig .tc := ⟨.hbm, 1045, rfl⟩
abbrev main_call6_v30 : Ref sig .tc := ⟨.hbm, 1046, rfl⟩
abbrev main_call6_v31 : Ref sig .tc := ⟨.hbm, 1047, rfl⟩
abbrev main_call6_v32 : Ref sig .tc := ⟨.hbm, 1048, rfl⟩
abbrev main_call6_v33 : Ref sig .tc := ⟨.hbm, 1049, rfl⟩
abbrev main_call6_v34 : Ref sig .tc := ⟨.hbm, 1050, rfl⟩
abbrev main_call6_v35 : Ref sig .tc := ⟨.hbm, 1051, rfl⟩
abbrev main_call6_call1_v0 : Ref sig .tc := ⟨.hbm, 1052, rfl⟩
abbrev main_call6_call1_v1 : Ref sig .tc := ⟨.hbm, 1053, rfl⟩
abbrev main_call6_call1_cst : Ref sig .tc := ⟨.hbm, 1054, rfl⟩
abbrev main_call6_call1_v2 : Ref sig .tc := ⟨.hbm, 1055, rfl⟩
abbrev main_call6_call1_v3 : Ref sig .tc := ⟨.hbm, 1056, rfl⟩
abbrev main_call6_call1_cst_0 : Ref sig .tc := ⟨.hbm, 1057, rfl⟩
abbrev main_call6_call1_v4 : Ref sig .tc := ⟨.hbm, 1058, rfl⟩
abbrev main_call6_call1_v5 : Ref sig .tc := ⟨.hbm, 1059, rfl⟩
abbrev main_call6_v36 : Ref sig .tc := ⟨.hbm, 1060, rfl⟩
abbrev main_call6_v37 : Ref sig .tc := ⟨.hbm, 1061, rfl⟩
abbrev main_call6_v38 : Ref sig .tc := ⟨.hbm, 1062, rfl⟩
abbrev main_call6_v39 : Ref sig .tc := ⟨.hbm, 1063, rfl⟩
abbrev main_call6_v40 : Ref sig .tc := ⟨.hbm, 1064, rfl⟩
abbrev main_call6_v41 : Ref sig .tc := ⟨.hbm, 1065, rfl⟩
abbrev main_call6_v42 : Ref sig .tc := ⟨.hbm, 1066, rfl⟩
abbrev main_call6_v43 : Ref sig .tc := ⟨.hbm, 1067, rfl⟩
abbrev main_call6_v44 : Ref sig .tc := ⟨.hbm, 1068, rfl⟩
abbrev main_call6_call2_cst : Ref sig .tc := ⟨.hbm, 1069, rfl⟩
abbrev main_call6_call2_v0 : Ref sig .tc := ⟨.hbm, 1070, rfl⟩
abbrev main_call6_call2_v1 : Ref sig .tc := ⟨.hbm, 1071, rfl⟩
abbrev main_call6_call2_v2 : Ref sig .tc := ⟨.hbm, 1072, rfl⟩
abbrev main_call6_call2_v3 : Ref sig .tc := ⟨.hbm, 1073, rfl⟩
abbrev main_call6_call2_v4 : Ref sig .tc := ⟨.hbm, 1074, rfl⟩
abbrev main_call6_call2_v5 : Ref sig .tc := ⟨.hbm, 1075, rfl⟩
abbrev main_call6_call2_v6 : Ref sig .tc := ⟨.hbm, 1076, rfl⟩
abbrev main_call6_call2_v7 : Ref sig .tc := ⟨.hbm, 1077, rfl⟩
abbrev main_call6_call2_v8 : Ref sig .tc := ⟨.hbm, 1078, rfl⟩
abbrev main_call6_call2_v9 : Ref sig .tc := ⟨.hbm, 1079, rfl⟩
abbrev main_call6_call2_v10 : Ref sig .tc := ⟨.hbm, 1080, rfl⟩
abbrev main_call6_call2_v11 : Ref sig .tc := ⟨.hbm, 1081, rfl⟩
abbrev main_call6_v45 : Ref sig .tc := ⟨.hbm, 1082, rfl⟩
abbrev main_call6_v46 : Ref sig .tc := ⟨.hbm, 1083, rfl⟩
abbrev main_call6_v47 : Ref sig .tc := ⟨.hbm, 1084, rfl⟩
abbrev main_call6_cst_0 : Ref sig .tc := ⟨.hbm, 1085, rfl⟩
abbrev main_call6_v48 : Ref sig .tc := ⟨.hbm, 1086, rfl⟩
abbrev main_call6_v49 : Ref sig .tc := ⟨.hbm, 1087, rfl⟩
abbrev main_call6_v50 : Ref sig .tc := ⟨.hbm, 1088, rfl⟩
abbrev main_call6_v51 : Ref sig .tc := ⟨.hbm, 1089, rfl⟩
abbrev main_call6_v52 : Ref sig .tc := ⟨.hbm, 1090, rfl⟩
abbrev main_call6_cst_1 : Ref sig .tc := ⟨.hbm, 1091, rfl⟩
abbrev main_call6_v53 : Ref sig .tc := ⟨.hbm, 1092, rfl⟩
abbrev main_call6_c_2 : Ref sig .tc := ⟨.hbm, 1093, rfl⟩
abbrev main_call6_v54_0 : Ref sig .tc := ⟨.hbm, 1094, rfl⟩
abbrev main_call6_v54_1 : Ref sig .tc := ⟨.hbm, 1095, rfl⟩
abbrev main_call6_v54_2 : Ref sig .tc := ⟨.hbm, 1096, rfl⟩
abbrev main_call6_v54_3 : Ref sig .tc := ⟨.hbm, 1097, rfl⟩
abbrev main_call6_v54_4 : Ref sig .tc := ⟨.hbm, 1098, rfl⟩
abbrev main_call6_v54_5 : Ref sig .tc := ⟨.hbm, 1099, rfl⟩
abbrev main_call6_v54_6 : Ref sig .tc := ⟨.hbm, 1100, rfl⟩
abbrev main_call6_v54_7 : Ref sig .tc := ⟨.hbm, 1101, rfl⟩
abbrev main_call6_while0c_c_10 : Ref sig .tc := ⟨.hbm, 1102, rfl⟩
abbrev main_call6_while0c_v63 : Ref sig .tc := ⟨.hbm, 1103, rfl⟩
abbrev main_call6_while0b_call3_c : Ref sig .tc := ⟨.hbm, 1104, rfl⟩
abbrev main_call6_while0b_call3_c_0 : Ref sig .tc := ⟨.hbm, 1105, rfl⟩
abbrev main_call6_while0b_call3_v0 : Ref sig .tc := ⟨.hbm, 1106, rfl⟩
abbrev main_call6_while0b_v63 : Ref sig .tc := ⟨.hbm, 1107, rfl⟩
abbrev main_call6_while0b_call4_c : Ref sig .tc := ⟨.hbm, 1108, rfl⟩
abbrev main_call6_while0b_call4_c_0 : Ref sig .tc := ⟨.hbm, 1109, rfl⟩
abbrev main_call6_while0b_call4_v0 : Ref sig .tc := ⟨.hbm, 1110, rfl⟩
abbrev main_call6_while0b_v64 : Ref sig .tc := ⟨.hbm, 1111, rfl⟩
abbrev main_call6_while0b_call5_c : Ref sig .tc := ⟨.hbm, 1112, rfl⟩
abbrev main_call6_while0b_call5_c_0 : Ref sig .tc := ⟨.hbm, 1113, rfl⟩
abbrev main_call6_while0b_call5_v0 : Ref sig .tc := ⟨.hbm, 1114, rfl⟩
abbrev main_call6_while0b_v65 : Ref sig .tc := ⟨.hbm, 1115, rfl⟩
abbrev main_call6_while0b_call6_c : Ref sig .tc := ⟨.hbm, 1116, rfl⟩
abbrev main_call6_while0b_call6_c_0 : Ref sig .tc := ⟨.hbm, 1117, rfl⟩
abbrev main_call6_while0b_call6_v0 : Ref sig .tc := ⟨.hbm, 1118, rfl⟩
abbrev main_call6_while0b_v66 : Ref sig .tc := ⟨.hbm, 1119, rfl⟩
abbrev main_call6_while0b_v67 : Ref sig .tc := ⟨.hbm, 1120, rfl⟩
abbrev main_call6_while0b_v68 : Ref sig .tc := ⟨.hbm, 1121, rfl⟩
abbrev main_call6_while0b_v69 : Ref sig .tc := ⟨.hbm, 1122, rfl⟩
abbrev main_call6_while0b_v70 : Ref sig .tc := ⟨.hbm, 1123, rfl⟩
abbrev main_call6_while0b_v71 : Ref sig .tc := ⟨.hbm, 1124, rfl⟩
abbrev main_call6_while0b_v72 : Ref sig .tc := ⟨.hbm, 1125, rfl⟩
abbrev main_call6_while0b_v73 : Ref sig .tc := ⟨.hbm, 1126, rfl⟩
abbrev main_call6_while0b_v74 : Ref sig .tc := ⟨.hbm, 1127, rfl⟩
abbrev main_call6_while0b_v75 : Ref sig .tc := ⟨.hbm, 1128, rfl⟩
abbrev main_call6_while0b_v76 : Ref sig .tc := ⟨.hbm, 1129, rfl⟩
abbrev main_call6_while0b_v77 : Ref sig .tc := ⟨.hbm, 1130, rfl⟩
abbrev main_call6_while0b_v78 : Ref sig .tc := ⟨.hbm, 1131, rfl⟩
abbrev main_call6_while0b_v79 : Ref sig .tc := ⟨.hbm, 1132, rfl⟩
abbrev main_call6_while0b_v80 : Ref sig .tc := ⟨.hbm, 1133, rfl⟩
abbrev main_call6_while0b_v81 : Ref sig .tc := ⟨.hbm, 1134, rfl⟩
abbrev main_call6_while0b_call7_v0 : Ref sig .tc := ⟨.hbm, 1135, rfl⟩
abbrev main_call6_while0b_call7_c : Ref sig .tc := ⟨.hbm, 1136, rfl⟩
abbrev main_call6_while0b_call7_c_0 : Ref sig .tc := ⟨.hbm, 1137, rfl⟩
abbrev main_call6_while0b_v82 : Ref sig .tc := ⟨.hbm, 1138, rfl⟩
abbrev main_call6_while0b_c_10 : Ref sig .tc := ⟨.hbm, 1139, rfl⟩
abbrev main_call6_while0b_v83 : Ref sig .tc := ⟨.hbm, 1140, rfl⟩
abbrev main_call6_v55 : Ref sig .tc := ⟨.hbm, 1141, rfl⟩
abbrev main_call6_v56 : Ref sig .tc := ⟨.hbm, 1142, rfl⟩
abbrev main_call6_v57 : Ref sig .tc := ⟨.hbm, 1143, rfl⟩
abbrev main_call6_v58 : Ref sig .tc := ⟨.hbm, 1144, rfl⟩
abbrev main_call6_v59 : Ref sig .tc := ⟨.hbm, 1145, rfl⟩
abbrev main_call6_call8_v0 : Ref sig .tc := ⟨.hbm, 1146, rfl⟩
abbrev main_call6_call8_v1 : Ref sig .tc := ⟨.hbm, 1147, rfl⟩
abbrev main_call6_call8_cst : Ref sig .tc := ⟨.hbm, 1148, rfl⟩
abbrev main_call6_call8_v2 : Ref sig .tc := ⟨.hbm, 1149, rfl⟩
abbrev main_call6_call8_v3 : Ref sig .tc := ⟨.hbm, 1150, rfl⟩
abbrev main_call6_call8_cst_0 : Ref sig .tc := ⟨.hbm, 1151, rfl⟩
abbrev main_call6_call8_v4 : Ref sig .tc := ⟨.hbm, 1152, rfl⟩
abbrev main_call6_call8_v5 : Ref sig .tc := ⟨.hbm, 1153, rfl⟩
abbrev main_call6_v60 : Ref sig .tc := ⟨.hbm, 1154, rfl⟩
abbrev main_call6_v61 : Ref sig .tc := ⟨.hbm, 1155, rfl⟩
abbrev main_v140 : Ref sig .tc := ⟨.hbm, 1156, rfl⟩
abbrev main_v141 : Ref sig .tc := ⟨.hbm, 1157, rfl⟩
abbrev main_v142 : Ref sig .tc := ⟨.hbm, 1158, rfl⟩
abbrev main_v143 : Ref sig .tc := ⟨.hbm, 1159, rfl⟩
abbrev main_v144 : Ref sig .tc := ⟨.hbm, 1160, rfl⟩
abbrev main_v145 : Ref sig .tc := ⟨.hbm, 1161, rfl⟩
abbrev main_v146 : Ref sig .tc := ⟨.hbm, 1162, rfl⟩
abbrev main_v147 : Ref sig .tc := ⟨.hbm, 1163, rfl⟩
abbrev main_v148 : Ref sig .tc := ⟨.hbm, 1164, rfl⟩
abbrev main_v149 : Ref sig .tc := ⟨.hbm, 1165, rfl⟩
abbrev main_v150 : Ref sig .tc := ⟨.hbm, 1166, rfl⟩
abbrev main_v151 : Ref sig .tc := ⟨.hbm, 1167, rfl⟩
abbrev main_v152 : Ref sig .tc := ⟨.hbm, 1168, rfl⟩
abbrev main_v153 : Ref sig .tc := ⟨.hbm, 1169, rfl⟩
abbrev main_v154 : Ref sig .tc := ⟨.hbm, 1170, rfl⟩
abbrev main_v155 : Ref sig .tc := ⟨.hbm, 1171, rfl⟩
abbrev main_v156 : Ref sig .tc := ⟨.hbm, 1172, rfl⟩
abbrev main_v157 : Ref sig .tc := ⟨.hbm, 1173, rfl⟩
abbrev main_v158 : Ref sig .tc := ⟨.hbm, 1174, rfl⟩
abbrev main_call7_v0 : Ref sig .tc := ⟨.hbm, 1175, rfl⟩
abbrev main_call7_v1 : Ref sig .tc := ⟨.hbm, 1176, rfl⟩
abbrev main_call7_v2 : Ref sig .tc := ⟨.hbm, 1177, rfl⟩
abbrev main_call7_c : Ref sig .tc := ⟨.hbm, 1178, rfl⟩
abbrev main_call7_call0_v0 : Ref sig .tc := ⟨.hbm, 1179, rfl⟩
abbrev main_call7_v3 : Ref sig .tc := ⟨.hbm, 1180, rfl⟩
abbrev main_call7_v4 : Ref sig .tc := ⟨.hbm, 1181, rfl⟩
abbrev main_call7_v5 : Ref sig .tc := ⟨.hbm, 1182, rfl⟩
abbrev main_call7_v6 : Ref sig .tc := ⟨.hbm, 1183, rfl⟩
abbrev main_call7_v7 : Ref sig .tc := ⟨.hbm, 1184, rfl⟩
abbrev main_call7_v8 : Ref sig .tc := ⟨.hbm, 1185, rfl⟩
abbrev main_call7_v9 : Ref sig .tc := ⟨.hbm, 1186, rfl⟩
abbrev main_call7_cst : Ref sig .tc := ⟨.hbm, 1187, rfl⟩
abbrev main_call7_v10 : Ref sig .tc := ⟨.hbm, 1188, rfl⟩
abbrev main_call7_v11 : Ref sig .tc := ⟨.hbm, 1189, rfl⟩
abbrev main_call7_v12 : Ref sig .tc := ⟨.hbm, 1190, rfl⟩
abbrev main_call7_v13 : Ref sig .tc := ⟨.hbm, 1191, rfl⟩
abbrev main_call7_v14 : Ref sig .tc := ⟨.hbm, 1192, rfl⟩
abbrev main_call7_v15 : Ref sig .tc := ⟨.hbm, 1193, rfl⟩
abbrev main_call7_v16 : Ref sig .tc := ⟨.hbm, 1194, rfl⟩
abbrev main_call7_v17 : Ref sig .tc := ⟨.hbm, 1195, rfl⟩
abbrev main_call7_v18 : Ref sig .tc := ⟨.hbm, 1196, rfl⟩
abbrev main_call7_v19 : Ref sig .tc := ⟨.hbm, 1197, rfl⟩
abbrev main_call7_v20 : Ref sig .tc := ⟨.hbm, 1198, rfl⟩
abbrev main_call7_v21 : Ref sig .tc := ⟨.hbm, 1199, rfl⟩
abbrev main_call7_v22 : Ref sig .tc := ⟨.hbm, 1200, rfl⟩
abbrev main_call7_v23 : Ref sig .tc := ⟨.hbm, 1201, rfl⟩
abbrev main_call7_v24 : Ref sig .tc := ⟨.hbm, 1202, rfl⟩
abbrev main_call7_v25 : Ref sig .tc := ⟨.hbm, 1203, rfl⟩
abbrev main_call7_v26 : Ref sig .tc := ⟨.hbm, 1204, rfl⟩
abbrev main_call7_v27 : Ref sig .tc := ⟨.hbm, 1205, rfl⟩
abbrev main_call7_v28 : Ref sig .tc := ⟨.hbm, 1206, rfl⟩
abbrev main_call7_v29 : Ref sig .tc := ⟨.hbm, 1207, rfl⟩
abbrev main_call7_v30 : Ref sig .tc := ⟨.hbm, 1208, rfl⟩
abbrev main_call7_v31 : Ref sig .tc := ⟨.hbm, 1209, rfl⟩
abbrev main_call7_v32 : Ref sig .tc := ⟨.hbm, 1210, rfl⟩
abbrev main_call7_v33 : Ref sig .tc := ⟨.hbm, 1211, rfl⟩
abbrev main_call7_v34 : Ref sig .tc := ⟨.hbm, 1212, rfl⟩
abbrev main_call7_v35 : Ref sig .tc := ⟨.hbm, 1213, rfl⟩
abbrev main_call7_call1_v0 : Ref sig .tc := ⟨.hbm, 1214, rfl⟩
abbrev main_call7_call1_v1 : Ref sig .tc := ⟨.hbm, 1215, rfl⟩
abbrev main_call7_call1_cst : Ref sig .tc := ⟨.hbm, 1216, rfl⟩
abbrev main_call7_call1_v2 : Ref sig .tc := ⟨.hbm, 1217, rfl⟩
abbrev main_call7_call1_v3 : Ref sig .tc := ⟨.hbm, 1218, rfl⟩
abbrev main_call7_call1_cst_0 : Ref sig .tc := ⟨.hbm, 1219, rfl⟩
abbrev main_call7_call1_v4 : Ref sig .tc := ⟨.hbm, 1220, rfl⟩
abbrev main_call7_call1_v5 : Ref sig .tc := ⟨.hbm, 1221, rfl⟩
abbrev main_call7_v36 : Ref sig .tc := ⟨.hbm, 1222, rfl⟩
abbrev main_call7_v37 : Ref sig .tc := ⟨.hbm, 1223, rfl⟩
abbrev main_call7_v38 : Ref sig .tc := ⟨.hbm, 1224, rfl⟩
abbrev main_call7_v39 : Ref sig .tc := ⟨.hbm, 1225, rfl⟩
abbrev main_call7_v40 : Ref sig .tc := ⟨.hbm, 1226, rfl⟩
abbrev main_call7_v41 : Ref sig .tc := ⟨.hbm, 1227, rfl⟩
abbrev main_call7_v42 : Ref sig .tc := ⟨.hbm, 1228, rfl⟩
abbrev main_call7_v43 : Ref sig .tc := ⟨.hbm, 1229, rfl⟩
abbrev main_call7_v44 : Ref sig .tc := ⟨.hbm, 1230, rfl⟩
abbrev main_call7_call2_cst : Ref sig .tc := ⟨.hbm, 1231, rfl⟩
abbrev main_call7_call2_v0 : Ref sig .tc := ⟨.hbm, 1232, rfl⟩
abbrev main_call7_call2_v1 : Ref sig .tc := ⟨.hbm, 1233, rfl⟩
abbrev main_call7_call2_v2 : Ref sig .tc := ⟨.hbm, 1234, rfl⟩
abbrev main_call7_call2_v3 : Ref sig .tc := ⟨.hbm, 1235, rfl⟩
abbrev main_call7_call2_v4 : Ref sig .tc := ⟨.hbm, 1236, rfl⟩
abbrev main_call7_call2_v5 : Ref sig .tc := ⟨.hbm, 1237, rfl⟩
abbrev main_call7_call2_v6 : Ref sig .tc := ⟨.hbm, 1238, rfl⟩
abbrev main_call7_call2_v7 : Ref sig .tc := ⟨.hbm, 1239, rfl⟩
abbrev main_call7_call2_v8 : Ref sig .tc := ⟨.hbm, 1240, rfl⟩
abbrev main_call7_call2_v9 : Ref sig .tc := ⟨.hbm, 1241, rfl⟩
abbrev main_call7_call2_v10 : Ref sig .tc := ⟨.hbm, 1242, rfl⟩
abbrev main_call7_call2_v11 : Ref sig .tc := ⟨.hbm, 1243, rfl⟩
abbrev main_call7_v45 : Ref sig .tc := ⟨.hbm, 1244, rfl⟩
abbrev main_call7_v46 : Ref sig .tc := ⟨.hbm, 1245, rfl⟩
abbrev main_call7_v47 : Ref sig .tc := ⟨.hbm, 1246, rfl⟩
abbrev main_call7_cst_0 : Ref sig .tc := ⟨.hbm, 1247, rfl⟩
abbrev main_call7_v48 : Ref sig .tc := ⟨.hbm, 1248, rfl⟩
abbrev main_call7_v49 : Ref sig .tc := ⟨.hbm, 1249, rfl⟩
abbrev main_call7_v50 : Ref sig .tc := ⟨.hbm, 1250, rfl⟩
abbrev main_call7_v51 : Ref sig .tc := ⟨.hbm, 1251, rfl⟩
abbrev main_call7_v52 : Ref sig .tc := ⟨.hbm, 1252, rfl⟩
abbrev main_call7_cst_1 : Ref sig .tc := ⟨.hbm, 1253, rfl⟩
abbrev main_call7_v53 : Ref sig .tc := ⟨.hbm, 1254, rfl⟩
abbrev main_call7_c_2 : Ref sig .tc := ⟨.hbm, 1255, rfl⟩
abbrev main_call7_v54_0 : Ref sig .tc := ⟨.hbm, 1256, rfl⟩
abbrev main_call7_v54_1 : Ref sig .tc := ⟨.hbm, 1257, rfl⟩
abbrev main_call7_v54_2 : Ref sig .tc := ⟨.hbm, 1258, rfl⟩
abbrev main_call7_v54_3 : Ref sig .tc := ⟨.hbm, 1259, rfl⟩
abbrev main_call7_v54_4 : Ref sig .tc := ⟨.hbm, 1260, rfl⟩
abbrev main_call7_v54_5 : Ref sig .tc := ⟨.hbm, 1261, rfl⟩
abbrev main_call7_v54_6 : Ref sig .tc := ⟨.hbm, 1262, rfl⟩
abbrev main_call7_v54_7 : Ref sig .tc := ⟨.hbm, 1263, rfl⟩
abbrev main_call7_while0c_c_10 : Ref sig .tc := ⟨.hbm, 1264, rfl⟩
abbrev main_call7_while0c_v63 : Ref sig .tc := ⟨.hbm, 1265, rfl⟩
abbrev main_call7_while0b_call3_c : Ref sig .tc := ⟨.hbm, 1266, rfl⟩
abbrev main_call7_while0b_call3_c_0 : Ref sig .tc := ⟨.hbm, 1267, rfl⟩
abbrev main_call7_while0b_call3_v0 : Ref sig .tc := ⟨.hbm, 1268, rfl⟩
abbrev main_call7_while0b_v63 : Ref sig .tc := ⟨.hbm, 1269, rfl⟩
abbrev main_call7_while0b_call4_c : Ref sig .tc := ⟨.hbm, 1270, rfl⟩
abbrev main_call7_while0b_call4_c_0 : Ref sig .tc := ⟨.hbm, 1271, rfl⟩
abbrev main_call7_while0b_call4_v0 : Ref sig .tc := ⟨.hbm, 1272, rfl⟩
abbrev main_call7_while0b_v64 : Ref sig .tc := ⟨.hbm, 1273, rfl⟩
abbrev main_call7_while0b_call5_c : Ref sig .tc := ⟨.hbm, 1274, rfl⟩
abbrev main_call7_while0b_call5_c_0 : Ref sig .tc := ⟨.hbm, 1275, rfl⟩
abbrev main_call7_while0b_call5_v0 : Ref sig .tc := ⟨.hbm, 1276, rfl⟩
abbrev main_call7_while0b_v65 : Ref sig .tc := ⟨.hbm, 1277, rfl⟩
abbrev main_call7_while0b_call6_c : Ref sig .tc := ⟨.hbm, 1278, rfl⟩
abbrev main_call7_while0b_call6_c_0 : Ref sig .tc := ⟨.hbm, 1279, rfl⟩
abbrev main_call7_while0b_call6_v0 : Ref sig .tc := ⟨.hbm, 1280, rfl⟩
abbrev main_call7_while0b_v66 : Ref sig .tc := ⟨.hbm, 1281, rfl⟩
abbrev main_call7_while0b_v67 : Ref sig .tc := ⟨.hbm, 1282, rfl⟩
abbrev main_call7_while0b_v68 : Ref sig .tc := ⟨.hbm, 1283, rfl⟩
abbrev main_call7_while0b_v69 : Ref sig .tc := ⟨.hbm, 1284, rfl⟩
abbrev main_call7_while0b_v70 : Ref sig .tc := ⟨.hbm, 1285, rfl⟩
abbrev main_call7_while0b_v71 : Ref sig .tc := ⟨.hbm, 1286, rfl⟩
abbrev main_call7_while0b_v72 : Ref sig .tc := ⟨.hbm, 1287, rfl⟩
abbrev main_call7_while0b_v73 : Ref sig .tc := ⟨.hbm, 1288, rfl⟩
abbrev main_call7_while0b_v74 : Ref sig .tc := ⟨.hbm, 1289, rfl⟩
abbrev main_call7_while0b_v75 : Ref sig .tc := ⟨.hbm, 1290, rfl⟩
abbrev main_call7_while0b_v76 : Ref sig .tc := ⟨.hbm, 1291, rfl⟩
abbrev main_call7_while0b_v77 : Ref sig .tc := ⟨.hbm, 1292, rfl⟩
abbrev main_call7_while0b_v78 : Ref sig .tc := ⟨.hbm, 1293, rfl⟩
abbrev main_call7_while0b_v79 : Ref sig .tc := ⟨.hbm, 1294, rfl⟩
abbrev main_call7_while0b_v80 : Ref sig .tc := ⟨.hbm, 1295, rfl⟩
abbrev main_call7_while0b_v81 : Ref sig .tc := ⟨.hbm, 1296, rfl⟩
abbrev main_call7_while0b_call7_v0 : Ref sig .tc := ⟨.hbm, 1297, rfl⟩
abbrev main_call7_while0b_call7_c : Ref sig .tc := ⟨.hbm, 1298, rfl⟩
abbrev main_call7_while0b_call7_c_0 : Ref sig .tc := ⟨.hbm, 1299, rfl⟩
abbrev main_call7_while0b_v82 : Ref sig .tc := ⟨.hbm, 1300, rfl⟩
abbrev main_call7_while0b_c_10 : Ref sig .tc := ⟨.hbm, 1301, rfl⟩
abbrev main_call7_while0b_v83 : Ref sig .tc := ⟨.hbm, 1302, rfl⟩
abbrev main_call7_v55 : Ref sig .tc := ⟨.hbm, 1303, rfl⟩
abbrev main_call7_v56 : Ref sig .tc := ⟨.hbm, 1304, rfl⟩
abbrev main_call7_v57 : Ref sig .tc := ⟨.hbm, 1305, rfl⟩
abbrev main_call7_v58 : Ref sig .tc := ⟨.hbm, 1306, rfl⟩
abbrev main_call7_v59 : Ref sig .tc := ⟨.hbm, 1307, rfl⟩
abbrev main_call7_call8_v0 : Ref sig .tc := ⟨.hbm, 1308, rfl⟩
abbrev main_call7_call8_v1 : Ref sig .tc := ⟨.hbm, 1309, rfl⟩
abbrev main_call7_call8_cst : Ref sig .tc := ⟨.hbm, 1310, rfl⟩
abbrev main_call7_call8_v2 : Ref sig .tc := ⟨.hbm, 1311, rfl⟩
abbrev main_call7_call8_v3 : Ref sig .tc := ⟨.hbm, 1312, rfl⟩
abbrev main_call7_call8_cst_0 : Ref sig .tc := ⟨.hbm, 1313, rfl⟩
abbrev main_call7_call8_v4 : Ref sig .tc := ⟨.hbm, 1314, rfl⟩
abbrev main_call7_call8_v5 : Ref sig .tc := ⟨.hbm, 1315, rfl⟩
abbrev main_call7_v60 : Ref sig .tc := ⟨.hbm, 1316, rfl⟩
abbrev main_call7_v61 : Ref sig .tc := ⟨.hbm, 1317, rfl⟩
abbrev main_v159 : Ref sig .tc := ⟨.hbm, 1318, rfl⟩
abbrev main_v160 : Ref sig .tc := ⟨.hbm, 1319, rfl⟩
abbrev main_v161 : Ref sig .tc := ⟨.hbm, 1320, rfl⟩
abbrev main_v162 : Ref sig .tc := ⟨.hbm, 1321, rfl⟩
abbrev main_v163 : Ref sig .tc := ⟨.hbm, 1322, rfl⟩
abbrev main_v164 : Ref sig .tc := ⟨.hbm, 1323, rfl⟩
abbrev main_v165 : Ref sig .tc := ⟨.hbm, 1324, rfl⟩
abbrev main_v166 : Ref sig .tc := ⟨.hbm, 1325, rfl⟩
abbrev main_v167 : Ref sig .tc := ⟨.hbm, 1326, rfl⟩
abbrev main_v168 : Ref sig .tc := ⟨.hbm, 1327, rfl⟩
abbrev main_v169 : Ref sig .tc := ⟨.hbm, 1328, rfl⟩
abbrev main_v170 : Ref sig .tc := ⟨.hbm, 1329, rfl⟩
abbrev main_v171 : Ref sig .tc := ⟨.hbm, 1330, rfl⟩
abbrev main_v172 : Ref sig .tc := ⟨.hbm, 1331, rfl⟩
abbrev main_v173 : Ref sig .tc := ⟨.hbm, 1332, rfl⟩
abbrev main_v174 : Ref sig .tc := ⟨.hbm, 1333, rfl⟩
abbrev main_v175 : Ref sig .tc := ⟨.hbm, 1334, rfl⟩
abbrev main_v176 : Ref sig .tc := ⟨.hbm, 1335, rfl⟩
abbrev main_v177 : Ref sig .tc := ⟨.hbm, 1336, rfl⟩
abbrev main_call8_v0 : Ref sig .tc := ⟨.hbm, 1337, rfl⟩
abbrev main_call8_v1 : Ref sig .tc := ⟨.hbm, 1338, rfl⟩
abbrev main_call8_v2 : Ref sig .tc := ⟨.hbm, 1339, rfl⟩
abbrev main_call8_c : Ref sig .tc := ⟨.hbm, 1340, rfl⟩
abbrev main_call8_call0_v0 : Ref sig .tc := ⟨.hbm, 1341, rfl⟩
abbrev main_call8_v3 : Ref sig .tc := ⟨.hbm, 1342, rfl⟩
abbrev main_call8_v4 : Ref sig .tc := ⟨.hbm, 1343, rfl⟩
abbrev main_call8_v5 : Ref sig .tc := ⟨.hbm, 1344, rfl⟩
abbrev main_call8_v6 : Ref sig .tc := ⟨.hbm, 1345, rfl⟩
abbrev main_call8_v7 : Ref sig .tc := ⟨.hbm, 1346, rfl⟩
abbrev main_call8_v8 : Ref sig .tc := ⟨.hbm, 1347, rfl⟩
abbrev main_call8_v9 : Ref sig .tc := ⟨.hbm, 1348, rfl⟩
abbrev main_call8_cst : Ref sig .tc := ⟨.hbm, 1349, rfl⟩
abbrev main_call8_v10 : Ref sig .tc := ⟨.hbm, 1350, rfl⟩
abbrev main_call8_v11 : Ref sig .tc := ⟨.hbm, 1351, rfl⟩
abbrev main_call8_v12 : Ref sig .tc := ⟨.hbm, 1352, rfl⟩
abbrev main_call8_v13 : Ref sig .tc := ⟨.hbm, 1353, rfl⟩
abbrev main_call8_v14 : Ref sig .tc := ⟨.hbm, 1354, rfl⟩
abbrev main_call8_v15 : Ref sig .tc := ⟨.hbm, 1355, rfl⟩
abbrev main_call8_v16 : Ref sig .tc := ⟨.hbm, 1356, rfl⟩
abbrev main_call8_v17 : Ref sig .tc := ⟨.hbm, 1357, rfl⟩
abbrev main_call8_v18 : Ref sig .tc := ⟨.hbm, 1358, rfl⟩
abbrev main_call8_v19 : Ref sig .tc := ⟨.hbm, 1359, rfl⟩
abbrev main_call8_v20 : Ref sig .tc := ⟨.hbm, 1360, rfl⟩
abbrev main_call8_v21 : Ref sig .tc := ⟨.hbm, 1361, rfl⟩
abbrev main_call8_v22 : Ref sig .tc := ⟨.hbm, 1362, rfl⟩
abbrev main_call8_v23 : Ref sig .tc := ⟨.hbm, 1363, rfl⟩
abbrev main_call8_v24 : Ref sig .tc := ⟨.hbm, 1364, rfl⟩
abbrev main_call8_v25 : Ref sig .tc := ⟨.hbm, 1365, rfl⟩
abbrev main_call8_v26 : Ref sig .tc := ⟨.hbm, 1366, rfl⟩
abbrev main_call8_v27 : Ref sig .tc := ⟨.hbm, 1367, rfl⟩
abbrev main_call8_v28 : Ref sig .tc := ⟨.hbm, 1368, rfl⟩
abbrev main_call8_v29 : Ref sig .tc := ⟨.hbm, 1369, rfl⟩
abbrev main_call8_v30 : Ref sig .tc := ⟨.hbm, 1370, rfl⟩
abbrev main_call8_v31 : Ref sig .tc := ⟨.hbm, 1371, rfl⟩
abbrev main_call8_v32 : Ref sig .tc := ⟨.hbm, 1372, rfl⟩
abbrev main_call8_v33 : Ref sig .tc := ⟨.hbm, 1373, rfl⟩
abbrev main_call8_v34 : Ref sig .tc := ⟨.hbm, 1374, rfl⟩
abbrev main_call8_v35 : Ref sig .tc := ⟨.hbm, 1375, rfl⟩
abbrev main_call8_call1_v0 : Ref sig .tc := ⟨.hbm, 1376, rfl⟩
abbrev main_call8_call1_v1 : Ref sig .tc := ⟨.hbm, 1377, rfl⟩
abbrev main_call8_call1_cst : Ref sig .tc := ⟨.hbm, 1378, rfl⟩
abbrev main_call8_call1_v2 : Ref sig .tc := ⟨.hbm, 1379, rfl⟩
abbrev main_call8_call1_v3 : Ref sig .tc := ⟨.hbm, 1380, rfl⟩
abbrev main_call8_call1_cst_0 : Ref sig .tc := ⟨.hbm, 1381, rfl⟩
abbrev main_call8_call1_v4 : Ref sig .tc := ⟨.hbm, 1382, rfl⟩
abbrev main_call8_call1_v5 : Ref sig .tc := ⟨.hbm, 1383, rfl⟩
abbrev main_call8_v36 : Ref sig .tc := ⟨.hbm, 1384, rfl⟩
abbrev main_call8_v37 : Ref sig .tc := ⟨.hbm, 1385, rfl⟩
abbrev main_call8_v38 : Ref sig .tc := ⟨.hbm, 1386, rfl⟩
abbrev main_call8_v39 : Ref sig .tc := ⟨.hbm, 1387, rfl⟩
abbrev main_call8_v40 : Ref sig .tc := ⟨.hbm, 1388, rfl⟩
abbrev main_call8_v41 : Ref sig .tc := ⟨.hbm, 1389, rfl⟩
abbrev main_call8_v42 : Ref sig .tc := ⟨.hbm, 1390, rfl⟩
abbrev main_call8_v43 : Ref sig .tc := ⟨.hbm, 1391, rfl⟩
abbrev main_call8_v44 : Ref sig .tc := ⟨.hbm, 1392, rfl⟩
abbrev main_call8_call2_cst : Ref sig .tc := ⟨.hbm, 1393, rfl⟩
abbrev main_call8_call2_v0 : Ref sig .tc := ⟨.hbm, 1394, rfl⟩
abbrev main_call8_call2_v1 : Ref sig .tc := ⟨.hbm, 1395, rfl⟩
abbrev main_call8_call2_v2 : Ref sig .tc := ⟨.hbm, 1396, rfl⟩
abbrev main_call8_call2_v3 : Ref sig .tc := ⟨.hbm, 1397, rfl⟩
abbrev main_call8_call2_v4 : Ref sig .tc := ⟨.hbm, 1398, rfl⟩
abbrev main_call8_call2_v5 : Ref sig .tc := ⟨.hbm, 1399, rfl⟩
abbrev main_call8_call2_v6 : Ref sig .tc := ⟨.hbm, 1400, rfl⟩
abbrev main_call8_call2_v7 : Ref sig .tc := ⟨.hbm, 1401, rfl⟩
abbrev main_call8_call2_v8 : Ref sig .tc := ⟨.hbm, 1402, rfl⟩
abbrev main_call8_call2_v9 : Ref sig .tc := ⟨.hbm, 1403, rfl⟩
abbrev main_call8_call2_v10 : Ref sig .tc := ⟨.hbm, 1404, rfl⟩
abbrev main_call8_call2_v11 : Ref sig .tc := ⟨.hbm, 1405, rfl⟩
abbrev main_call8_v45 : Ref sig .tc := ⟨.hbm, 1406, rfl⟩
abbrev main_call8_v46 : Ref sig .tc := ⟨.hbm, 1407, rfl⟩
abbrev main_call8_v47 : Ref sig .tc := ⟨.hbm, 1408, rfl⟩
abbrev main_call8_cst_0 : Ref sig .tc := ⟨.hbm, 1409, rfl⟩
abbrev main_call8_v48 : Ref sig .tc := ⟨.hbm, 1410, rfl⟩
abbrev main_call8_v49 : Ref sig .tc := ⟨.hbm, 1411, rfl⟩
abbrev main_call8_v50 : Ref sig .tc := ⟨.hbm, 1412, rfl⟩
abbrev main_call8_v51 : Ref sig .tc := ⟨.hbm, 1413, rfl⟩
abbrev main_call8_v52 : Ref sig .tc := ⟨.hbm, 1414, rfl⟩
abbrev main_call8_cst_1 : Ref sig .tc := ⟨.hbm, 1415, rfl⟩
abbrev main_call8_v53 : Ref sig .tc := ⟨.hbm, 1416, rfl⟩
abbrev main_call8_c_2 : Ref sig .tc := ⟨.hbm, 1417, rfl⟩
abbrev main_call8_v54_0 : Ref sig .tc := ⟨.hbm, 1418, rfl⟩
abbrev main_call8_v54_1 : Ref sig .tc := ⟨.hbm, 1419, rfl⟩
abbrev main_call8_v54_2 : Ref sig .tc := ⟨.hbm, 1420, rfl⟩
abbrev main_call8_v54_3 : Ref sig .tc := ⟨.hbm, 1421, rfl⟩
abbrev main_call8_v54_4 : Ref sig .tc := ⟨.hbm, 1422, rfl⟩
abbrev main_call8_v54_5 : Ref sig .tc := ⟨.hbm, 1423, rfl⟩
abbrev main_call8_v54_6 : Ref sig .tc := ⟨.hbm, 1424, rfl⟩
abbrev main_call8_v54_7 : Ref sig .tc := ⟨.hbm, 1425, rfl⟩
abbrev main_call8_while0c_c_10 : Ref sig .tc := ⟨.hbm, 1426, rfl⟩
abbrev main_call8_while0c_v63 : Ref sig .tc := ⟨.hbm, 1427, rfl⟩
abbrev main_call8_while0b_call3_c : Ref sig .tc := ⟨.hbm, 1428, rfl⟩
abbrev main_call8_while0b_call3_c_0 : Ref sig .tc := ⟨.hbm, 1429, rfl⟩
abbrev main_call8_while0b_call3_v0 : Ref sig .tc := ⟨.hbm, 1430, rfl⟩
abbrev main_call8_while0b_v63 : Ref sig .tc := ⟨.hbm, 1431, rfl⟩
abbrev main_call8_while0b_call4_c : Ref sig .tc := ⟨.hbm, 1432, rfl⟩
abbrev main_call8_while0b_call4_c_0 : Ref sig .tc := ⟨.hbm, 1433, rfl⟩
abbrev main_call8_while0b_call4_v0 : Ref sig .tc := ⟨.hbm, 1434, rfl⟩
abbrev main_call8_while0b_v64 : Ref sig .tc := ⟨.hbm, 1435, rfl⟩
abbrev main_call8_while0b_call5_c : Ref sig .tc := ⟨.hbm, 1436, rfl⟩
abbrev main_call8_while0b_call5_c_0 : Ref sig .tc := ⟨.hbm, 1437, rfl⟩
abbrev main_call8_while0b_call5_v0 : Ref sig .tc := ⟨.hbm, 1438, rfl⟩
abbrev main_call8_while0b_v65 : Ref sig .tc := ⟨.hbm, 1439, rfl⟩
abbrev main_call8_while0b_call6_c : Ref sig .tc := ⟨.hbm, 1440, rfl⟩
abbrev main_call8_while0b_call6_c_0 : Ref sig .tc := ⟨.hbm, 1441, rfl⟩
abbrev main_call8_while0b_call6_v0 : Ref sig .tc := ⟨.hbm, 1442, rfl⟩
abbrev main_call8_while0b_v66 : Ref sig .tc := ⟨.hbm, 1443, rfl⟩
abbrev main_call8_while0b_v67 : Ref sig .tc := ⟨.hbm, 1444, rfl⟩
abbrev main_call8_while0b_v68 : Ref sig .tc := ⟨.hbm, 1445, rfl⟩
abbrev main_call8_while0b_v69 : Ref sig .tc := ⟨.hbm, 1446, rfl⟩
abbrev main_call8_while0b_v70 : Ref sig .tc := ⟨.hbm, 1447, rfl⟩
abbrev main_call8_while0b_v71 : Ref sig .tc := ⟨.hbm, 1448, rfl⟩
abbrev main_call8_while0b_v72 : Ref sig .tc := ⟨.hbm, 1449, rfl⟩
abbrev main_call8_while0b_v73 : Ref sig .tc := ⟨.hbm, 1450, rfl⟩
abbrev main_call8_while0b_v74 : Ref sig .tc := ⟨.hbm, 1451, rfl⟩
abbrev main_call8_while0b_v75 : Ref sig .tc := ⟨.hbm, 1452, rfl⟩
abbrev main_call8_while0b_v76 : Ref sig .tc := ⟨.hbm, 1453, rfl⟩
abbrev main_call8_while0b_v77 : Ref sig .tc := ⟨.hbm, 1454, rfl⟩
abbrev main_call8_while0b_v78 : Ref sig .tc := ⟨.hbm, 1455, rfl⟩
abbrev main_call8_while0b_v79 : Ref sig .tc := ⟨.hbm, 1456, rfl⟩
abbrev main_call8_while0b_v80 : Ref sig .tc := ⟨.hbm, 1457, rfl⟩
abbrev main_call8_while0b_v81 : Ref sig .tc := ⟨.hbm, 1458, rfl⟩
abbrev main_call8_while0b_call7_v0 : Ref sig .tc := ⟨.hbm, 1459, rfl⟩
abbrev main_call8_while0b_call7_c : Ref sig .tc := ⟨.hbm, 1460, rfl⟩
abbrev main_call8_while0b_call7_c_0 : Ref sig .tc := ⟨.hbm, 1461, rfl⟩
abbrev main_call8_while0b_v82 : Ref sig .tc := ⟨.hbm, 1462, rfl⟩
abbrev main_call8_while0b_c_10 : Ref sig .tc := ⟨.hbm, 1463, rfl⟩
abbrev main_call8_while0b_v83 : Ref sig .tc := ⟨.hbm, 1464, rfl⟩
abbrev main_call8_v55 : Ref sig .tc := ⟨.hbm, 1465, rfl⟩
abbrev main_call8_v56 : Ref sig .tc := ⟨.hbm, 1466, rfl⟩
abbrev main_call8_v57 : Ref sig .tc := ⟨.hbm, 1467, rfl⟩
abbrev main_call8_v58 : Ref sig .tc := ⟨.hbm, 1468, rfl⟩
abbrev main_call8_v59 : Ref sig .tc := ⟨.hbm, 1469, rfl⟩
abbrev main_call8_call8_v0 : Ref sig .tc := ⟨.hbm, 1470, rfl⟩
abbrev main_call8_call8_v1 : Ref sig .tc := ⟨.hbm, 1471, rfl⟩
abbrev main_call8_call8_cst : Ref sig .tc := ⟨.hbm, 1472, rfl⟩
abbrev main_call8_call8_v2 : Ref sig .tc := ⟨.hbm, 1473, rfl⟩
abbrev main_call8_call8_v3 : Ref sig .tc := ⟨.hbm, 1474, rfl⟩
abbrev main_call8_call8_cst_0 : Ref sig .tc := ⟨.hbm, 1475, rfl⟩
abbrev main_call8_call8_v4 : Ref sig .tc := ⟨.hbm, 1476, rfl⟩
abbrev main_call8_call8_v5 : Ref sig .tc := ⟨.hbm, 1477, rfl⟩
abbrev main_call8_v60 : Ref sig .tc := ⟨.hbm, 1478, rfl⟩
abbrev main_call8_v61 : Ref sig .tc := ⟨.hbm, 1479, rfl⟩
abbrev main_v178 : Ref sig .tc := ⟨.hbm, 1480, rfl⟩
abbrev main_v179 : Ref sig .tc := ⟨.hbm, 1481, rfl⟩
abbrev main_v180 : Ref sig .tc := ⟨.hbm, 1482, rfl⟩
abbrev main_v181 : Ref sig .tc := ⟨.hbm, 1483, rfl⟩
abbrev main_v182 : Ref sig .tc := ⟨.hbm, 1484, rfl⟩
abbrev main_v183 : Ref sig .tc := ⟨.hbm, 1485, rfl⟩
abbrev main_v184 : Ref sig .tc := ⟨.hbm, 1486, rfl⟩
abbrev main_v185 : Ref sig .tc := ⟨.hbm, 1487, rfl⟩
abbrev main_v186 : Ref sig .tc := ⟨.hbm, 1488, rfl⟩
abbrev main_v187 : Ref sig .tc := ⟨.hbm, 1489, rfl⟩
abbrev main_v188 : Ref sig .tc := ⟨.hbm, 1490, rfl⟩
abbrev main_v189 : Ref sig .tc := ⟨.hbm, 1491, rfl⟩
abbrev main_v190 : Ref sig .tc := ⟨.hbm, 1492, rfl⟩
abbrev main_v191 : Ref sig .tc := ⟨.hbm, 1493, rfl⟩
abbrev main_v192 : Ref sig .tc := ⟨.hbm, 1494, rfl⟩
abbrev main_v193 : Ref sig .tc := ⟨.hbm, 1495, rfl⟩
abbrev main_v194 : Ref sig .tc := ⟨.hbm, 1496, rfl⟩
abbrev main_v195 : Ref sig .tc := ⟨.hbm, 1497, rfl⟩
abbrev main_v196 : Ref sig .tc := ⟨.hbm, 1498, rfl⟩
abbrev main_call9_v0 : Ref sig .tc := ⟨.hbm, 1499, rfl⟩
abbrev main_call9_v1 : Ref sig .tc := ⟨.hbm, 1500, rfl⟩
abbrev main_call9_v2 : Ref sig .tc := ⟨.hbm, 1501, rfl⟩
abbrev main_call9_c : Ref sig .tc := ⟨.hbm, 1502, rfl⟩
abbrev main_call9_call0_v0 : Ref sig .tc := ⟨.hbm, 1503, rfl⟩
abbrev main_call9_v3 : Ref sig .tc := ⟨.hbm, 1504, rfl⟩
abbrev main_call9_v4 : Ref sig .tc := ⟨.hbm, 1505, rfl⟩
abbrev main_call9_v5 : Ref sig .tc := ⟨.hbm, 1506, rfl⟩
abbrev main_call9_v6 : Ref sig .tc := ⟨.hbm, 1507, rfl⟩
abbrev main_call9_v7 : Ref sig .tc := ⟨.hbm, 1508, rfl⟩
abbrev main_call9_v8 : Ref sig .tc := ⟨.hbm, 1509, rfl⟩
abbrev main_call9_v9 : Ref sig .tc := ⟨.hbm, 1510, rfl⟩
abbrev main_call9_cst : Ref sig .tc := ⟨.hbm, 1511, rfl⟩
abbrev main_call9_v10 : Ref sig .tc := ⟨.hbm, 1512, rfl⟩
abbrev main_call9_v11 : Ref sig .tc := ⟨.hbm, 1513, rfl⟩
abbrev main_call9_v12 : Ref sig .tc := ⟨.hbm, 1514, rfl⟩
abbrev main_call9_v13 : Ref sig .tc := ⟨.hbm, 1515, rfl⟩
abbrev main_call9_v14 : Ref sig .tc := ⟨.hbm, 1516, rfl⟩
abbrev main_call9_v15 : Ref sig .tc := ⟨.hbm, 1517, rfl⟩
abbrev main_call9_v16 : Ref sig .tc := ⟨.hbm, 1518, rfl⟩
abbrev main_call9_v17 : Ref sig .tc := ⟨.hbm, 1519, rfl⟩
abbrev main_call9_v18 : Ref sig .tc := ⟨.hbm, 1520, rfl⟩
abbrev main_call9_v19 : Ref sig .tc := ⟨.hbm, 1521, rfl⟩
abbrev main_call9_v20 : Ref sig .tc := ⟨.hbm, 1522, rfl⟩
abbrev main_call9_v21 : Ref sig .tc := ⟨.hbm, 1523, rfl⟩
abbrev main_call9_v22 : Ref sig .tc := ⟨.hbm, 1524, rfl⟩
abbrev main_call9_v23 : Ref sig .tc := ⟨.hbm, 1525, rfl⟩
abbrev main_call9_v24 : Ref sig .tc := ⟨.hbm, 1526, rfl⟩
abbrev main_call9_v25 : Ref sig .tc := ⟨.hbm, 1527, rfl⟩
abbrev main_call9_v26 : Ref sig .tc := ⟨.hbm, 1528, rfl⟩
abbrev main_call9_v27 : Ref sig .tc := ⟨.hbm, 1529, rfl⟩
abbrev main_call9_v28 : Ref sig .tc := ⟨.hbm, 1530, rfl⟩
abbrev main_call9_v29 : Ref sig .tc := ⟨.hbm, 1531, rfl⟩
abbrev main_call9_v30 : Ref sig .tc := ⟨.hbm, 1532, rfl⟩
abbrev main_call9_v31 : Ref sig .tc := ⟨.hbm, 1533, rfl⟩
abbrev main_call9_v32 : Ref sig .tc := ⟨.hbm, 1534, rfl⟩
abbrev main_call9_v33 : Ref sig .tc := ⟨.hbm, 1535, rfl⟩
abbrev main_call9_v34 : Ref sig .tc := ⟨.hbm, 1536, rfl⟩
abbrev main_call9_v35 : Ref sig .tc := ⟨.hbm, 1537, rfl⟩
abbrev main_call9_call1_v0 : Ref sig .tc := ⟨.hbm, 1538, rfl⟩
abbrev main_call9_call1_v1 : Ref sig .tc := ⟨.hbm, 1539, rfl⟩
abbrev main_call9_call1_cst : Ref sig .tc := ⟨.hbm, 1540, rfl⟩
abbrev main_call9_call1_v2 : Ref sig .tc := ⟨.hbm, 1541, rfl⟩
abbrev main_call9_call1_v3 : Ref sig .tc := ⟨.hbm, 1542, rfl⟩
abbrev main_call9_call1_cst_0 : Ref sig .tc := ⟨.hbm, 1543, rfl⟩
abbrev main_call9_call1_v4 : Ref sig .tc := ⟨.hbm, 1544, rfl⟩
abbrev main_call9_call1_v5 : Ref sig .tc := ⟨.hbm, 1545, rfl⟩
abbrev main_call9_v36 : Ref sig .tc := ⟨.hbm, 1546, rfl⟩
abbrev main_call9_v37 : Ref sig .tc := ⟨.hbm, 1547, rfl⟩
abbrev main_call9_v38 : Ref sig .tc := ⟨.hbm, 1548, rfl⟩
abbrev main_call9_v39 : Ref sig .tc := ⟨.hbm, 1549, rfl⟩
abbrev main_call9_v40 : Ref sig .tc := ⟨.hbm, 1550, rfl⟩
abbrev main_call9_v41 : Ref sig .tc := ⟨.hbm, 1551, rfl⟩
abbrev main_call9_v42 : Ref sig .tc := ⟨.hbm, 1552, rfl⟩
abbrev main_call9_v43 : Ref sig .tc := ⟨.hbm, 1553, rfl⟩
abbrev main_call9_v44 : Ref sig .tc := ⟨.hbm, 1554, rfl⟩
abbrev main_call9_call2_cst : Ref sig .tc := ⟨.hbm, 1555, rfl⟩
abbrev main_call9_call2_v0 : Ref sig .tc := ⟨.hbm, 1556, rfl⟩
abbrev main_call9_call2_v1 : Ref sig .tc := ⟨.hbm, 1557, rfl⟩
abbrev main_call9_call2_v2 : Ref sig .tc := ⟨.hbm, 1558, rfl⟩
abbrev main_call9_call2_v3 : Ref sig .tc := ⟨.hbm, 1559, rfl⟩
abbrev main_call9_call2_v4 : Ref sig .tc := ⟨.hbm, 1560, rfl⟩
abbrev main_call9_call2_v5 : Ref sig .tc := ⟨.hbm, 1561, rfl⟩
abbrev main_call9_call2_v6 : Ref sig .tc := ⟨.hbm, 1562, rfl⟩
abbrev main_call9_call2_v7 : Ref sig .tc := ⟨.hbm, 1563, rfl⟩
abbrev main_call9_call2_v8 : Ref sig .tc := ⟨.hbm, 1564, rfl⟩
abbrev main_call9_call2_v9 : Ref sig .tc := ⟨.hbm, 1565, rfl⟩
abbrev main_call9_call2_v10 : Ref sig .tc := ⟨.hbm, 1566, rfl⟩
abbrev main_call9_call2_v11 : Ref sig .tc := ⟨.hbm, 1567, rfl⟩
abbrev main_call9_v45 : Ref sig .tc := ⟨.hbm, 1568, rfl⟩
abbrev main_call9_v46 : Ref sig .tc := ⟨.hbm, 1569, rfl⟩
abbrev main_call9_v47 : Ref sig .tc := ⟨.hbm, 1570, rfl⟩
abbrev main_call9_cst_0 : Ref sig .tc := ⟨.hbm, 1571, rfl⟩
abbrev main_call9_v48 : Ref sig .tc := ⟨.hbm, 1572, rfl⟩
abbrev main_call9_v49 : Ref sig .tc := ⟨.hbm, 1573, rfl⟩
abbrev main_call9_v50 : Ref sig .tc := ⟨.hbm, 1574, rfl⟩
abbrev main_call9_v51 : Ref sig .tc := ⟨.hbm, 1575, rfl⟩
abbrev main_call9_v52 : Ref sig .tc := ⟨.hbm, 1576, rfl⟩
abbrev main_call9_cst_1 : Ref sig .tc := ⟨.hbm, 1577, rfl⟩
abbrev main_call9_v53 : Ref sig .tc := ⟨.hbm, 1578, rfl⟩
abbrev main_call9_c_2 : Ref sig .tc := ⟨.hbm, 1579, rfl⟩
abbrev main_call9_v54_0 : Ref sig .tc := ⟨.hbm, 1580, rfl⟩
abbrev main_call9_v54_1 : Ref sig .tc := ⟨.hbm, 1581, rfl⟩
abbrev main_call9_v54_2 : Ref sig .tc := ⟨.hbm, 1582, rfl⟩
abbrev main_call9_v54_3 : Ref sig .tc := ⟨.hbm, 1583, rfl⟩
abbrev main_call9_v54_4 : Ref sig .tc := ⟨.hbm, 1584, rfl⟩
abbrev main_call9_v54_5 : Ref sig .tc := ⟨.hbm, 1585, rfl⟩
abbrev main_call9_v54_6 : Ref sig .tc := ⟨.hbm, 1586, rfl⟩
abbrev main_call9_v54_7 : Ref sig .tc := ⟨.hbm, 1587, rfl⟩
abbrev main_call9_while0c_c_10 : Ref sig .tc := ⟨.hbm, 1588, rfl⟩
abbrev main_call9_while0c_v63 : Ref sig .tc := ⟨.hbm, 1589, rfl⟩
abbrev main_call9_while0b_call3_c : Ref sig .tc := ⟨.hbm, 1590, rfl⟩
abbrev main_call9_while0b_call3_c_0 : Ref sig .tc := ⟨.hbm, 1591, rfl⟩
abbrev main_call9_while0b_call3_v0 : Ref sig .tc := ⟨.hbm, 1592, rfl⟩
abbrev main_call9_while0b_v63 : Ref sig .tc := ⟨.hbm, 1593, rfl⟩
abbrev main_call9_while0b_call4_c : Ref sig .tc := ⟨.hbm, 1594, rfl⟩
abbrev main_call9_while0b_call4_c_0 : Ref sig .tc := ⟨.hbm, 1595, rfl⟩
abbrev main_call9_while0b_call4_v0 : Ref sig .tc := ⟨.hbm, 1596, rfl⟩
abbrev main_call9_while0b_v64 : Ref sig .tc := ⟨.hbm, 1597, rfl⟩
abbrev main_call9_while0b_call5_c : Ref sig .tc := ⟨.hbm, 1598, rfl⟩
abbrev main_call9_while0b_call5_c_0 : Ref sig .tc := ⟨.hbm, 1599, rfl⟩
abbrev main_call9_while0b_call5_v0 : Ref sig .tc := ⟨.hbm, 1600, rfl⟩
abbrev main_call9_while0b_v65 : Ref sig .tc := ⟨.hbm, 1601, rfl⟩
abbrev main_call9_while0b_call6_c : Ref sig .tc := ⟨.hbm, 1602, rfl⟩
abbrev main_call9_while0b_call6_c_0 : Ref sig .tc := ⟨.hbm, 1603, rfl⟩
abbrev main_call9_while0b_call6_v0 : Ref sig .tc := ⟨.hbm, 1604, rfl⟩
abbrev main_call9_while0b_v66 : Ref sig .tc := ⟨.hbm, 1605, rfl⟩
abbrev main_call9_while0b_v67 : Ref sig .tc := ⟨.hbm, 1606, rfl⟩
abbrev main_call9_while0b_v68 : Ref sig .tc := ⟨.hbm, 1607, rfl⟩
abbrev main_call9_while0b_v69 : Ref sig .tc := ⟨.hbm, 1608, rfl⟩
abbrev main_call9_while0b_v70 : Ref sig .tc := ⟨.hbm, 1609, rfl⟩
abbrev main_call9_while0b_v71 : Ref sig .tc := ⟨.hbm, 1610, rfl⟩
abbrev main_call9_while0b_v72 : Ref sig .tc := ⟨.hbm, 1611, rfl⟩
abbrev main_call9_while0b_v73 : Ref sig .tc := ⟨.hbm, 1612, rfl⟩
abbrev main_call9_while0b_v74 : Ref sig .tc := ⟨.hbm, 1613, rfl⟩
abbrev main_call9_while0b_v75 : Ref sig .tc := ⟨.hbm, 1614, rfl⟩
abbrev main_call9_while0b_v76 : Ref sig .tc := ⟨.hbm, 1615, rfl⟩
abbrev main_call9_while0b_v77 : Ref sig .tc := ⟨.hbm, 1616, rfl⟩
abbrev main_call9_while0b_v78 : Ref sig .tc := ⟨.hbm, 1617, rfl⟩
abbrev main_call9_while0b_v79 : Ref sig .tc := ⟨.hbm, 1618, rfl⟩
abbrev main_call9_while0b_v80 : Ref sig .tc := ⟨.hbm, 1619, rfl⟩
abbrev main_call9_while0b_v81 : Ref sig .tc := ⟨.hbm, 1620, rfl⟩
abbrev main_call9_while0b_call7_v0 : Ref sig .tc := ⟨.hbm, 1621, rfl⟩
abbrev main_call9_while0b_call7_c : Ref sig .tc := ⟨.hbm, 1622, rfl⟩
abbrev main_call9_while0b_call7_c_0 : Ref sig .tc := ⟨.hbm, 1623, rfl⟩
abbrev main_call9_while0b_v82 : Ref sig .tc := ⟨.hbm, 1624, rfl⟩
abbrev main_call9_while0b_c_10 : Ref sig .tc := ⟨.hbm, 1625, rfl⟩
abbrev main_call9_while0b_v83 : Ref sig .tc := ⟨.hbm, 1626, rfl⟩
abbrev main_call9_v55 : Ref sig .tc := ⟨.hbm, 1627, rfl⟩
abbrev main_call9_v56 : Ref sig .tc := ⟨.hbm, 1628, rfl⟩
abbrev main_call9_v57 : Ref sig .tc := ⟨.hbm, 1629, rfl⟩
abbrev main_call9_v58 : Ref sig .tc := ⟨.hbm, 1630, rfl⟩
abbrev main_call9_v59 : Ref sig .tc := ⟨.hbm, 1631, rfl⟩
abbrev main_call9_call8_v0 : Ref sig .tc := ⟨.hbm, 1632, rfl⟩
abbrev main_call9_call8_v1 : Ref sig .tc := ⟨.hbm, 1633, rfl⟩
abbrev main_call9_call8_cst : Ref sig .tc := ⟨.hbm, 1634, rfl⟩
abbrev main_call9_call8_v2 : Ref sig .tc := ⟨.hbm, 1635, rfl⟩
abbrev main_call9_call8_v3 : Ref sig .tc := ⟨.hbm, 1636, rfl⟩
abbrev main_call9_call8_cst_0 : Ref sig .tc := ⟨.hbm, 1637, rfl⟩
abbrev main_call9_call8_v4 : Ref sig .tc := ⟨.hbm, 1638, rfl⟩
abbrev main_call9_call8_v5 : Ref sig .tc := ⟨.hbm, 1639, rfl⟩
abbrev main_call9_v60 : Ref sig .tc := ⟨.hbm, 1640, rfl⟩
abbrev main_call9_v61 : Ref sig .tc := ⟨.hbm, 1641, rfl⟩
abbrev main_v197 : Ref sig .tc := ⟨.hbm, 1642, rfl⟩
abbrev main_v198 : Ref sig .tc := ⟨.hbm, 1643, rfl⟩
abbrev main_v199 : Ref sig .tc := ⟨.hbm, 1644, rfl⟩
abbrev main_v200 : Ref sig .tc := ⟨.hbm, 1645, rfl⟩
abbrev main_v201 : Ref sig .tc := ⟨.hbm, 1646, rfl⟩
abbrev main_v202 : Ref sig .tc := ⟨.hbm, 1647, rfl⟩
abbrev main_v203 : Ref sig .tc := ⟨.hbm, 1648, rfl⟩
abbrev main_v204 : Ref sig .tc := ⟨.hbm, 1649, rfl⟩
abbrev main_v205 : Ref sig .tc := ⟨.hbm, 1650, rfl⟩
abbrev main_v206 : Ref sig .tc := ⟨.hbm, 1651, rfl⟩
abbrev main_v207 : Ref sig .tc := ⟨.hbm, 1652, rfl⟩
abbrev main_v208 : Ref sig .tc := ⟨.hbm, 1653, rfl⟩
abbrev main_v209 : Ref sig .tc := ⟨.hbm, 1654, rfl⟩
abbrev main_v210 : Ref sig .tc := ⟨.hbm, 1655, rfl⟩
abbrev main_v211 : Ref sig .tc := ⟨.hbm, 1656, rfl⟩
abbrev main_v212 : Ref sig .tc := ⟨.hbm, 1657, rfl⟩
abbrev main_v213 : Ref sig .tc := ⟨.hbm, 1658, rfl⟩
abbrev main_v214 : Ref sig .tc := ⟨.hbm, 1659, rfl⟩
abbrev main_v215 : Ref sig .tc := ⟨.hbm, 1660, rfl⟩
abbrev main_call10_v0 : Ref sig .tc := ⟨.hbm, 1661, rfl⟩
abbrev main_call10_v1 : Ref sig .tc := ⟨.hbm, 1662, rfl⟩
abbrev main_call10_v2 : Ref sig .tc := ⟨.hbm, 1663, rfl⟩
abbrev main_call10_c : Ref sig .tc := ⟨.hbm, 1664, rfl⟩
abbrev main_call10_call0_v0 : Ref sig .tc := ⟨.hbm, 1665, rfl⟩
abbrev main_call10_v3 : Ref sig .tc := ⟨.hbm, 1666, rfl⟩
abbrev main_call10_v4 : Ref sig .tc := ⟨.hbm, 1667, rfl⟩
abbrev main_call10_v5 : Ref sig .tc := ⟨.hbm, 1668, rfl⟩
abbrev main_call10_v6 : Ref sig .tc := ⟨.hbm, 1669, rfl⟩
abbrev main_call10_v7 : Ref sig .tc := ⟨.hbm, 1670, rfl⟩
abbrev main_call10_v8 : Ref sig .tc := ⟨.hbm, 1671, rfl⟩
abbrev main_call10_v9 : Ref sig .tc := ⟨.hbm, 1672, rfl⟩
abbrev main_call10_cst : Ref sig .tc := ⟨.hbm, 1673, rfl⟩
abbrev main_call10_v10 : Ref sig .tc := ⟨.hbm, 1674, rfl⟩
abbrev main_call10_v11 : Ref sig .tc := ⟨.hbm, 1675, rfl⟩
abbrev main_call10_v12 : Ref sig .tc := ⟨.hbm, 1676, rfl⟩
abbrev main_call10_v13 : Ref sig .tc := ⟨.hbm, 1677, rfl⟩
abbrev main_call10_v14 : Ref sig .tc := ⟨.hbm, 1678, rfl⟩
abbrev main_call10_v15 : Ref sig .tc := ⟨.hbm, 1679, rfl⟩
abbrev main_call10_v16 : Ref sig .tc := ⟨.hbm, 1680, rfl⟩
abbrev main_call10_v17 : Ref sig .tc := ⟨.hbm, 1681, rfl⟩
abbrev main_call10_v18 : Ref sig .tc := ⟨.hbm, 1682, rfl⟩
abbrev main_call10_v19 : Ref sig .tc := ⟨.hbm, 1683, rfl⟩
abbrev main_call10_v20 : Ref sig .tc := ⟨.hbm, 1684, rfl⟩
abbrev main_call10_v21 : Ref sig .tc := ⟨.hbm, 1685, rfl⟩
abbrev main_call10_v22 : Ref sig .tc := ⟨.hbm, 1686, rfl⟩
abbrev main_call10_v23 : Ref sig .tc := ⟨.hbm, 1687, rfl⟩
abbrev main_call10_v24 : Ref sig .tc := ⟨.hbm, 1688, rfl⟩
abbrev main_call10_v25 : Ref sig .tc := ⟨.hbm, 1689, rfl⟩
abbrev main_call10_v26 : Ref sig .tc := ⟨.hbm, 1690, rfl⟩
abbrev main_call10_v27 : Ref sig .tc := ⟨.hbm, 1691, rfl⟩
abbrev main_call10_v28 : Ref sig .tc := ⟨.hbm, 1692, rfl⟩
abbrev main_call10_v29 : Ref sig .tc := ⟨.hbm, 1693, rfl⟩
abbrev main_call10_v30 : Ref sig .tc := ⟨.hbm, 1694, rfl⟩
abbrev main_call10_v31 : Ref sig .tc := ⟨.hbm, 1695, rfl⟩
abbrev main_call10_v32 : Ref sig .tc := ⟨.hbm, 1696, rfl⟩
abbrev main_call10_v33 : Ref sig .tc := ⟨.hbm, 1697, rfl⟩
abbrev main_call10_v34 : Ref sig .tc := ⟨.hbm, 1698, rfl⟩
abbrev main_call10_v35 : Ref sig .tc := ⟨.hbm, 1699, rfl⟩
abbrev main_call10_call1_v0 : Ref sig .tc := ⟨.hbm, 1700, rfl⟩
abbrev main_call10_call1_v1 : Ref sig .tc := ⟨.hbm, 1701, rfl⟩
abbrev main_call10_call1_cst : Ref sig .tc := ⟨.hbm, 1702, rfl⟩
abbrev main_call10_call1_v2 : Ref sig .tc := ⟨.hbm, 1703, rfl⟩
abbrev main_call10_call1_v3 : Ref sig .tc := ⟨.hbm, 1704, rfl⟩
abbrev main_call10_call1_cst_0 : Ref sig .tc := ⟨.hbm, 1705, rfl⟩
abbrev main_call10_call1_v4 : Ref sig .tc := ⟨.hbm, 1706, rfl⟩
abbrev main_call10_call1_v5 : Ref sig .tc := ⟨.hbm, 1707, rfl⟩
abbrev main_call10_v36 : Ref sig .tc := ⟨.hbm, 1708, rfl⟩
abbrev main_call10_v37 : Ref sig .tc := ⟨.hbm, 1709, rfl⟩
abbrev main_call10_v38 : Ref sig .tc := ⟨.hbm, 1710, rfl⟩
abbrev main_call10_v39 : Ref sig .tc := ⟨.hbm, 1711, rfl⟩
abbrev main_call10_v40 : Ref sig .tc := ⟨.hbm, 1712, rfl⟩
abbrev main_call10_v41 : Ref sig .tc := ⟨.hbm, 1713, rfl⟩
abbrev main_call10_v42 : Ref sig .tc := ⟨.hbm, 1714, rfl⟩
abbrev main_call10_v43 : Ref sig .tc := ⟨.hbm, 1715, rfl⟩
abbrev main_call10_v44 : Ref sig .tc := ⟨.hbm, 1716, rfl⟩
abbrev main_call10_call2_cst : Ref sig .tc := ⟨.hbm, 1717, rfl⟩
abbrev main_call10_call2_v0 : Ref sig .tc := ⟨.hbm, 1718, rfl⟩
abbrev main_call10_call2_v1 : Ref sig .tc := ⟨.hbm, 1719, rfl⟩
abbrev main_call10_call2_v2 : Ref sig .tc := ⟨.hbm, 1720, rfl⟩
abbrev main_call10_call2_v3 : Ref sig .tc := ⟨.hbm, 1721, rfl⟩
abbrev main_call10_call2_v4 : Ref sig .tc := ⟨.hbm, 1722, rfl⟩
abbrev main_call10_call2_v5 : Ref sig .tc := ⟨.hbm, 1723, rfl⟩
abbrev main_call10_call2_v6 : Ref sig .tc := ⟨.hbm, 1724, rfl⟩
abbrev main_call10_call2_v7 : Ref sig .tc := ⟨.hbm, 1725, rfl⟩
abbrev main_call10_call2_v8 : Ref sig .tc := ⟨.hbm, 1726, rfl⟩
abbrev main_call10_call2_v9 : Ref sig .tc := ⟨.hbm, 1727, rfl⟩
abbrev main_call10_call2_v10 : Ref sig .tc := ⟨.hbm, 1728, rfl⟩
abbrev main_call10_call2_v11 : Ref sig .tc := ⟨.hbm, 1729, rfl⟩
abbrev main_call10_v45 : Ref sig .tc := ⟨.hbm, 1730, rfl⟩
abbrev main_call10_v46 : Ref sig .tc := ⟨.hbm, 1731, rfl⟩
abbrev main_call10_v47 : Ref sig .tc := ⟨.hbm, 1732, rfl⟩
abbrev main_call10_cst_0 : Ref sig .tc := ⟨.hbm, 1733, rfl⟩
abbrev main_call10_v48 : Ref sig .tc := ⟨.hbm, 1734, rfl⟩
abbrev main_call10_v49 : Ref sig .tc := ⟨.hbm, 1735, rfl⟩
abbrev main_call10_v50 : Ref sig .tc := ⟨.hbm, 1736, rfl⟩
abbrev main_call10_v51 : Ref sig .tc := ⟨.hbm, 1737, rfl⟩
abbrev main_call10_v52 : Ref sig .tc := ⟨.hbm, 1738, rfl⟩
abbrev main_call10_cst_1 : Ref sig .tc := ⟨.hbm, 1739, rfl⟩
abbrev main_call10_v53 : Ref sig .tc := ⟨.hbm, 1740, rfl⟩
abbrev main_call10_c_2 : Ref sig .tc := ⟨.hbm, 1741, rfl⟩
abbrev main_call10_v54_0 : Ref sig .tc := ⟨.hbm, 1742, rfl⟩
abbrev main_call10_v54_1 : Ref sig .tc := ⟨.hbm, 1743, rfl⟩
abbrev main_call10_v54_2 : Ref sig .tc := ⟨.hbm, 1744, rfl⟩
abbrev main_call10_v54_3 : Ref sig .tc := ⟨.hbm, 1745, rfl⟩
abbrev main_call10_v54_4 : Ref sig .tc := ⟨.hbm, 1746, rfl⟩
abbrev main_call10_v54_5 : Ref sig .tc := ⟨.hbm, 1747, rfl⟩
abbrev main_call10_v54_6 : Ref sig .tc := ⟨.hbm, 1748, rfl⟩
abbrev main_call10_v54_7 : Ref sig .tc := ⟨.hbm, 1749, rfl⟩
abbrev main_call10_while0c_c_10 : Ref sig .tc := ⟨.hbm, 1750, rfl⟩
abbrev main_call10_while0c_v63 : Ref sig .tc := ⟨.hbm, 1751, rfl⟩
abbrev main_call10_while0b_call3_c : Ref sig .tc := ⟨.hbm, 1752, rfl⟩
abbrev main_call10_while0b_call3_c_0 : Ref sig .tc := ⟨.hbm, 1753, rfl⟩
abbrev main_call10_while0b_call3_v0 : Ref sig .tc := ⟨.hbm, 1754, rfl⟩
abbrev main_call10_while0b_v63 : Ref sig .tc := ⟨.hbm, 1755, rfl⟩
abbrev main_call10_while0b_call4_c : Ref sig .tc := ⟨.hbm, 1756, rfl⟩
abbrev main_call10_while0b_call4_c_0 : Ref sig .tc := ⟨.hbm, 1757, rfl⟩
abbrev main_call10_while0b_call4_v0 : Ref sig .tc := ⟨.hbm, 1758, rfl⟩
abbrev main_call10_while0b_v64 : Ref sig .tc := ⟨.hbm, 1759, rfl⟩
abbrev main_call10_while0b_call5_c : Ref sig .tc := ⟨.hbm, 1760, rfl⟩
abbrev main_call10_while0b_call5_c_0 : Ref sig .tc := ⟨.hbm, 1761, rfl⟩
abbrev main_call10_while0b_call5_v0 : Ref sig .tc := ⟨.hbm, 1762, rfl⟩
abbrev main_call10_while0b_v65 : Ref sig .tc := ⟨.hbm, 1763, rfl⟩
abbrev main_call10_while0b_call6_c : Ref sig .tc := ⟨.hbm, 1764, rfl⟩
abbrev main_call10_while0b_call6_c_0 : Ref sig .tc := ⟨.hbm, 1765, rfl⟩
abbrev main_call10_while0b_call6_v0 : Ref sig .tc := ⟨.hbm, 1766, rfl⟩
abbrev main_call10_while0b_v66 : Ref sig .tc := ⟨.hbm, 1767, rfl⟩
abbrev main_call10_while0b_v67 : Ref sig .tc := ⟨.hbm, 1768, rfl⟩
abbrev main_call10_while0b_v68 : Ref sig .tc := ⟨.hbm, 1769, rfl⟩
abbrev main_call10_while0b_v69 : Ref sig .tc := ⟨.hbm, 1770, rfl⟩
abbrev main_call10_while0b_v70 : Ref sig .tc := ⟨.hbm, 1771, rfl⟩
abbrev main_call10_while0b_v71 : Ref sig .tc := ⟨.hbm, 1772, rfl⟩
abbrev main_call10_while0b_v72 : Ref sig .tc := ⟨.hbm, 1773, rfl⟩
abbrev main_call10_while0b_v73 : Ref sig .tc := ⟨.hbm, 1774, rfl⟩
abbrev main_call10_while0b_v74 : Ref sig .tc := ⟨.hbm, 1775, rfl⟩
abbrev main_call10_while0b_v75 : Ref sig .tc := ⟨.hbm, 1776, rfl⟩
abbrev main_call10_while0b_v76 : Ref sig .tc := ⟨.hbm, 1777, rfl⟩
abbrev main_call10_while0b_v77 : Ref sig .tc := ⟨.hbm, 1778, rfl⟩
abbrev main_call10_while0b_v78 : Ref sig .tc := ⟨.hbm, 1779, rfl⟩
abbrev main_call10_while0b_v79 : Ref sig .tc := ⟨.hbm, 1780, rfl⟩
abbrev main_call10_while0b_v80 : Ref sig .tc := ⟨.hbm, 1781, rfl⟩
abbrev main_call10_while0b_v81 : Ref sig .tc := ⟨.hbm, 1782, rfl⟩
abbrev main_call10_while0b_call7_v0 : Ref sig .tc := ⟨.hbm, 1783, rfl⟩
abbrev main_call10_while0b_call7_c : Ref sig .tc := ⟨.hbm, 1784, rfl⟩
abbrev main_call10_while0b_call7_c_0 : Ref sig .tc := ⟨.hbm, 1785, rfl⟩
abbrev main_call10_while0b_v82 : Ref sig .tc := ⟨.hbm, 1786, rfl⟩
abbrev main_call10_while0b_c_10 : Ref sig .tc := ⟨.hbm, 1787, rfl⟩
abbrev main_call10_while0b_v83 : Ref sig .tc := ⟨.hbm, 1788, rfl⟩
abbrev main_call10_v55 : Ref sig .tc := ⟨.hbm, 1789, rfl⟩
abbrev main_call10_v56 : Ref sig .tc := ⟨.hbm, 1790, rfl⟩
abbrev main_call10_v57 : Ref sig .tc := ⟨.hbm, 1791, rfl⟩
abbrev main_call10_v58 : Ref sig .tc := ⟨.hbm, 1792, rfl⟩
abbrev main_call10_v59 : Ref sig .tc := ⟨.hbm, 1793, rfl⟩
abbrev main_call10_call8_v0 : Ref sig .tc := ⟨.hbm, 1794, rfl⟩
abbrev main_call10_call8_v1 : Ref sig .tc := ⟨.hbm, 1795, rfl⟩
abbrev main_call10_call8_cst : Ref sig .tc := ⟨.hbm, 1796, rfl⟩
abbrev main_call10_call8_v2 : Ref sig .tc := ⟨.hbm, 1797, rfl⟩
abbrev main_call10_call8_v3 : Ref sig .tc := ⟨.hbm, 1798, rfl⟩
abbrev main_call10_call8_cst_0 : Ref sig .tc := ⟨.hbm, 1799, rfl⟩
abbrev main_call10_call8_v4 : Ref sig .tc := ⟨.hbm, 1800, rfl⟩
abbrev main_call10_call8_v5 : Ref sig .tc := ⟨.hbm, 1801, rfl⟩
abbrev main_call10_v60 : Ref sig .tc := ⟨.hbm, 1802, rfl⟩
abbrev main_call10_v61 : Ref sig .tc := ⟨.hbm, 1803, rfl⟩
abbrev main_v216 : Ref sig .tc := ⟨.hbm, 1804, rfl⟩
abbrev main_v217 : Ref sig .tc := ⟨.hbm, 1805, rfl⟩
abbrev main_v218 : Ref sig .tc := ⟨.hbm, 1806, rfl⟩
abbrev main_v219 : Ref sig .tc := ⟨.hbm, 1807, rfl⟩
abbrev main_v220 : Ref sig .tc := ⟨.hbm, 1808, rfl⟩
abbrev main_v221 : Ref sig .tc := ⟨.hbm, 1809, rfl⟩
abbrev main_v222 : Ref sig .tc := ⟨.hbm, 1810, rfl⟩
abbrev main_v223 : Ref sig .tc := ⟨.hbm, 1811, rfl⟩
abbrev main_v224 : Ref sig .tc := ⟨.hbm, 1812, rfl⟩
abbrev main_v225 : Ref sig .tc := ⟨.hbm, 1813, rfl⟩
abbrev main_v226 : Ref sig .tc := ⟨.hbm, 1814, rfl⟩
abbrev main_v227 : Ref sig .tc := ⟨.hbm, 1815, rfl⟩
abbrev main_v228 : Ref sig .tc := ⟨.hbm, 1816, rfl⟩
abbrev main_v229 : Ref sig .tc := ⟨.hbm, 1817, rfl⟩
abbrev main_v230 : Ref sig .tc := ⟨.hbm, 1818, rfl⟩
abbrev main_v231 : Ref sig .tc := ⟨.hbm, 1819, rfl⟩
abbrev main_v232 : Ref sig .tc := ⟨.hbm, 1820, rfl⟩
abbrev main_v233 : Ref sig .tc := ⟨.hbm, 1821, rfl⟩
abbrev main_v234 : Ref sig .tc := ⟨.hbm, 1822, rfl⟩
abbrev main_call11_v0 : Ref sig .tc := ⟨.hbm, 1823, rfl⟩
abbrev main_call11_v1 : Ref sig .tc := ⟨.hbm, 1824, rfl⟩
abbrev main_call11_v2 : Ref sig .tc := ⟨.hbm, 1825, rfl⟩
abbrev main_call11_c : Ref sig .tc := ⟨.hbm, 1826, rfl⟩
abbrev main_call11_call0_v0 : Ref sig .tc := ⟨.hbm, 1827, rfl⟩
abbrev main_call11_v3 : Ref sig .tc := ⟨.hbm, 1828, rfl⟩
abbrev main_call11_v4 : Ref sig .tc := ⟨.hbm, 1829, rfl⟩
abbrev main_call11_v5 : Ref sig .tc := ⟨.hbm, 1830, rfl⟩
abbrev main_call11_v6 : Ref sig .tc := ⟨.hbm, 1831, rfl⟩
abbrev main_call11_v7 : Ref sig .tc := ⟨.hbm, 1832, rfl⟩
abbrev main_call11_v8 : Ref sig .tc := ⟨.hbm, 1833, rfl⟩
abbrev main_call11_v9 : Ref sig .tc := ⟨.hbm, 1834, rfl⟩
abbrev main_call11_cst : Ref sig .tc := ⟨.hbm, 1835, rfl⟩
abbrev main_call11_v10 : Ref sig .tc := ⟨.hbm, 1836, rfl⟩
abbrev main_call11_v11 : Ref sig .tc := ⟨.hbm, 1837, rfl⟩
abbrev main_call11_v12 : Ref sig .tc := ⟨.hbm, 1838, rfl⟩
abbrev main_call11_v13 : Ref sig .tc := ⟨.hbm, 1839, rfl⟩
abbrev main_call11_v14 : Ref sig .tc := ⟨.hbm, 1840, rfl⟩
abbrev main_call11_v15 : Ref sig .tc := ⟨.hbm, 1841, rfl⟩
abbrev main_call11_v16 : Ref sig .tc := ⟨.hbm, 1842, rfl⟩
abbrev main_call11_v17 : Ref sig .tc := ⟨.hbm, 1843, rfl⟩
abbrev main_call11_v18 : Ref sig .tc := ⟨.hbm, 1844, rfl⟩
abbrev main_call11_v19 : Ref sig .tc := ⟨.hbm, 1845, rfl⟩
abbrev main_call11_v20 : Ref sig .tc := ⟨.hbm, 1846, rfl⟩
abbrev main_call11_v21 : Ref sig .tc := ⟨.hbm, 1847, rfl⟩
abbrev main_call11_v22 : Ref sig .tc := ⟨.hbm, 1848, rfl⟩
abbrev main_call11_v23 : Ref sig .tc := ⟨.hbm, 1849, rfl⟩
abbrev main_call11_v24 : Ref sig .tc := ⟨.hbm, 1850, rfl⟩
abbrev main_call11_v25 : Ref sig .tc := ⟨.hbm, 1851, rfl⟩
abbrev main_call11_v26 : Ref sig .tc := ⟨.hbm, 1852, rfl⟩
abbrev main_call11_v27 : Ref sig .tc := ⟨.hbm, 1853, rfl⟩
abbrev main_call11_v28 : Ref sig .tc := ⟨.hbm, 1854, rfl⟩
abbrev main_call11_v29 : Ref sig .tc := ⟨.hbm, 1855, rfl⟩
abbrev main_call11_v30 : Ref sig .tc := ⟨.hbm, 1856, rfl⟩
abbrev main_call11_v31 : Ref sig .tc := ⟨.hbm, 1857, rfl⟩
abbrev main_call11_v32 : Ref sig .tc := ⟨.hbm, 1858, rfl⟩
abbrev main_call11_v33 : Ref sig .tc := ⟨.hbm, 1859, rfl⟩
abbrev main_call11_v34 : Ref sig .tc := ⟨.hbm, 1860, rfl⟩
abbrev main_call11_v35 : Ref sig .tc := ⟨.hbm, 1861, rfl⟩
abbrev main_call11_call1_v0 : Ref sig .tc := ⟨.hbm, 1862, rfl⟩
abbrev main_call11_call1_v1 : Ref sig .tc := ⟨.hbm, 1863, rfl⟩
abbrev main_call11_call1_cst : Ref sig .tc := ⟨.hbm, 1864, rfl⟩
abbrev main_call11_call1_v2 : Ref sig .tc := ⟨.hbm, 1865, rfl⟩
abbrev main_call11_call1_v3 : Ref sig .tc := ⟨.hbm, 1866, rfl⟩
abbrev main_call11_call1_cst_0 : Ref sig .tc := ⟨.hbm, 1867, rfl⟩
abbrev main_call11_call1_v4 : Ref sig .tc := ⟨.hbm, 1868, rfl⟩
abbrev main_call11_call1_v5 : Ref sig .tc := ⟨.hbm, 1869, rfl⟩
abbrev main_call11_v36 : Ref sig .tc := ⟨.hbm, 1870, rfl⟩
abbrev main_call11_v37 : Ref sig .tc := ⟨.hbm, 1871, rfl⟩
abbrev main_call11_v38 : Ref sig .tc := ⟨.hbm, 1872, rfl⟩
abbrev main_call11_v39 : Ref sig .tc := ⟨.hbm, 1873, rfl⟩
abbrev main_call11_v40 : Ref sig .tc := ⟨.hbm, 1874, rfl⟩
abbrev main_call11_v41 : Ref sig .tc := ⟨.hbm, 1875, rfl⟩
abbrev main_call11_v42 : Ref sig .tc := ⟨.hbm, 1876, rfl⟩
abbrev main_call11_v43 : Ref sig .tc := ⟨.hbm, 1877, rfl⟩
abbrev main_call11_v44 : Ref sig .tc := ⟨.hbm, 1878, rfl⟩
abbrev main_call11_call2_cst : Ref sig .tc := ⟨.hbm, 1879, rfl⟩
abbrev main_call11_call2_v0 : Ref sig .tc := ⟨.hbm, 1880, rfl⟩
abbrev main_call11_call2_v1 : Ref sig .tc := ⟨.hbm, 1881, rfl⟩
abbrev main_call11_call2_v2 : Ref sig .tc := ⟨.hbm, 1882, rfl⟩
abbrev main_call11_call2_v3 : Ref sig .tc := ⟨.hbm, 1883, rfl⟩
abbrev main_call11_call2_v4 : Ref sig .tc := ⟨.hbm, 1884, rfl⟩
abbrev main_call11_call2_v5 : Ref sig .tc := ⟨.hbm, 1885, rfl⟩
abbrev main_call11_call2_v6 : Ref sig .tc := ⟨.hbm, 1886, rfl⟩
abbrev main_call11_call2_v7 : Ref sig .tc := ⟨.hbm, 1887, rfl⟩
abbrev main_call11_call2_v8 : Ref sig .tc := ⟨.hbm, 1888, rfl⟩
abbrev main_call11_call2_v9 : Ref sig .tc := ⟨.hbm, 1889, rfl⟩
abbrev main_call11_call2_v10 : Ref sig .tc := ⟨.hbm, 1890, rfl⟩
abbrev main_call11_call2_v11 : Ref sig .tc := ⟨.hbm, 1891, rfl⟩
abbrev main_call11_v45 : Ref sig .tc := ⟨.hbm, 1892, rfl⟩
abbrev main_call11_v46 : Ref sig .tc := ⟨.hbm, 1893, rfl⟩
abbrev main_call11_v47 : Ref sig .tc := ⟨.hbm, 1894, rfl⟩
abbrev main_call11_cst_0 : Ref sig .tc := ⟨.hbm, 1895, rfl⟩
abbrev main_call11_v48 : Ref sig .tc := ⟨.hbm, 1896, rfl⟩
abbrev main_call11_v49 : Ref sig .tc := ⟨.hbm, 1897, rfl⟩
abbrev main_call11_v50 : Ref sig .tc := ⟨.hbm, 1898, rfl⟩
abbrev main_call11_v51 : Ref sig .tc := ⟨.hbm, 1899, rfl⟩
abbrev main_call11_v52 : Ref sig .tc := ⟨.hbm, 1900, rfl⟩
abbrev main_call11_cst_1 : Ref sig .tc := ⟨.hbm, 1901, rfl⟩
abbrev main_call11_v53 : Ref sig .tc := ⟨.hbm, 1902, rfl⟩
abbrev main_call11_c_2 : Ref sig .tc := ⟨.hbm, 1903, rfl⟩
abbrev main_call11_v54_0 : Ref sig .tc := ⟨.hbm, 1904, rfl⟩
abbrev main_call11_v54_1 : Ref sig .tc := ⟨.hbm, 1905, rfl⟩
abbrev main_call11_v54_2 : Ref sig .tc := ⟨.hbm, 1906, rfl⟩
abbrev main_call11_v54_3 : Ref sig .tc := ⟨.hbm, 1907, rfl⟩
abbrev main_call11_v54_4 : Ref sig .tc := ⟨.hbm, 1908, rfl⟩
abbrev main_call11_v54_5 : Ref sig .tc := ⟨.hbm, 1909, rfl⟩
abbrev main_call11_v54_6 : Ref sig .tc := ⟨.hbm, 1910, rfl⟩
abbrev main_call11_v54_7 : Ref sig .tc := ⟨.hbm, 1911, rfl⟩
abbrev main_call11_while0c_c_10 : Ref sig .tc := ⟨.hbm, 1912, rfl⟩
abbrev main_call11_while0c_v63 : Ref sig .tc := ⟨.hbm, 1913, rfl⟩
abbrev main_call11_while0b_call3_c : Ref sig .tc := ⟨.hbm, 1914, rfl⟩
abbrev main_call11_while0b_call3_c_0 : Ref sig .tc := ⟨.hbm, 1915, rfl⟩
abbrev main_call11_while0b_call3_v0 : Ref sig .tc := ⟨.hbm, 1916, rfl⟩
abbrev main_call11_while0b_v63 : Ref sig .tc := ⟨.hbm, 1917, rfl⟩
abbrev main_call11_while0b_call4_c : Ref sig .tc := ⟨.hbm, 1918, rfl⟩
abbrev main_call11_while0b_call4_c_0 : Ref sig .tc := ⟨.hbm, 1919, rfl⟩
abbrev main_call11_while0b_call4_v0 : Ref sig .tc := ⟨.hbm, 1920, rfl⟩
abbrev main_call11_while0b_v64 : Ref sig .tc := ⟨.hbm, 1921, rfl⟩
abbrev main_call11_while0b_call5_c : Ref sig .tc := ⟨.hbm, 1922, rfl⟩
abbrev main_call11_while0b_call5_c_0 : Ref sig .tc := ⟨.hbm, 1923, rfl⟩
abbrev main_call11_while0b_call5_v0 : Ref sig .tc := ⟨.hbm, 1924, rfl⟩
abbrev main_call11_while0b_v65 : Ref sig .tc := ⟨.hbm, 1925, rfl⟩
abbrev main_call11_while0b_call6_c : Ref sig .tc := ⟨.hbm, 1926, rfl⟩
abbrev main_call11_while0b_call6_c_0 : Ref sig .tc := ⟨.hbm, 1927, rfl⟩
abbrev main_call11_while0b_call6_v0 : Ref sig .tc := ⟨.hbm, 1928, rfl⟩
abbrev main_call11_while0b_v66 : Ref sig .tc := ⟨.hbm, 1929, rfl⟩
abbrev main_call11_while0b_v67 : Ref sig .tc := ⟨.hbm, 1930, rfl⟩
abbrev main_call11_while0b_v68 : Ref sig .tc := ⟨.hbm, 1931, rfl⟩
abbrev main_call11_while0b_v69 : Ref sig .tc := ⟨.hbm, 1932, rfl⟩
abbrev main_call11_while0b_v70 : Ref sig .tc := ⟨.hbm, 1933, rfl⟩
abbrev main_call11_while0b_v71 : Ref sig .tc := ⟨.hbm, 1934, rfl⟩
abbrev main_call11_while0b_v72 : Ref sig .tc := ⟨.hbm, 1935, rfl⟩
abbrev main_call11_while0b_v73 : Ref sig .tc := ⟨.hbm, 1936, rfl⟩
abbrev main_call11_while0b_v74 : Ref sig .tc := ⟨.hbm, 1937, rfl⟩
abbrev main_call11_while0b_v75 : Ref sig .tc := ⟨.hbm, 1938, rfl⟩
abbrev main_call11_while0b_v76 : Ref sig .tc := ⟨.hbm, 1939, rfl⟩
abbrev main_call11_while0b_v77 : Ref sig .tc := ⟨.hbm, 1940, rfl⟩
abbrev main_call11_while0b_v78 : Ref sig .tc := ⟨.hbm, 1941, rfl⟩
abbrev main_call11_while0b_v79 : Ref sig .tc := ⟨.hbm, 1942, rfl⟩
abbrev main_call11_while0b_v80 : Ref sig .tc := ⟨.hbm, 1943, rfl⟩
abbrev main_call11_while0b_v81 : Ref sig .tc := ⟨.hbm, 1944, rfl⟩
abbrev main_call11_while0b_call7_v0 : Ref sig .tc := ⟨.hbm, 1945, rfl⟩
abbrev main_call11_while0b_call7_c : Ref sig .tc := ⟨.hbm, 1946, rfl⟩
abbrev main_call11_while0b_call7_c_0 : Ref sig .tc := ⟨.hbm, 1947, rfl⟩
abbrev main_call11_while0b_v82 : Ref sig .tc := ⟨.hbm, 1948, rfl⟩
abbrev main_call11_while0b_c_10 : Ref sig .tc := ⟨.hbm, 1949, rfl⟩
abbrev main_call11_while0b_v83 : Ref sig .tc := ⟨.hbm, 1950, rfl⟩
abbrev main_call11_v55 : Ref sig .tc := ⟨.hbm, 1951, rfl⟩
abbrev main_call11_v56 : Ref sig .tc := ⟨.hbm, 1952, rfl⟩
abbrev main_call11_v57 : Ref sig .tc := ⟨.hbm, 1953, rfl⟩
abbrev main_call11_v58 : Ref sig .tc := ⟨.hbm, 1954, rfl⟩
abbrev main_call11_v59 : Ref sig .tc := ⟨.hbm, 1955, rfl⟩
abbrev main_call11_call8_v0 : Ref sig .tc := ⟨.hbm, 1956, rfl⟩
abbrev main_call11_call8_v1 : Ref sig .tc := ⟨.hbm, 1957, rfl⟩
abbrev main_call11_call8_cst : Ref sig .tc := ⟨.hbm, 1958, rfl⟩
abbrev main_call11_call8_v2 : Ref sig .tc := ⟨.hbm, 1959, rfl⟩
abbrev main_call11_call8_v3 : Ref sig .tc := ⟨.hbm, 1960, rfl⟩
abbrev main_call11_call8_cst_0 : Ref sig .tc := ⟨.hbm, 1961, rfl⟩
abbrev main_call11_call8_v4 : Ref sig .tc := ⟨.hbm, 1962, rfl⟩
abbrev main_call11_call8_v5 : Ref sig .tc := ⟨.hbm, 1963, rfl⟩
abbrev main_call11_v60 : Ref sig .tc := ⟨.hbm, 1964, rfl⟩
abbrev main_call11_v61 : Ref sig .tc := ⟨.hbm, 1965, rfl⟩
abbrev main_v235 : Ref sig .tc := ⟨.hbm, 1966, rfl⟩
abbrev main_cst : Ref sig .tc := ⟨.hbm, 1967, rfl⟩
abbrev main_v236 : Ref sig .tc := ⟨.hbm, 1968, rfl⟩
abbrev main_v237 : Ref sig .tc := ⟨.hbm, 1969, rfl⟩
abbrev main_cst_0 : Ref sig .tc := ⟨.hbm, 1970, rfl⟩
abbrev main_v238 : Ref sig .tc := ⟨.hbm, 1971, rfl⟩
abbrev main_v239 : Ref sig .tc := ⟨.hbm, 1972, rfl⟩
abbrev main_v240 : Ref sig .tc := ⟨.hbm, 1973, rfl⟩
abbrev main_v241 : Ref sig .tc := ⟨.hbm, 1974, rfl⟩
abbrev main_v242 : Ref sig .tc := ⟨.hbm, 1975, rfl⟩
abbrev main_cst_1 : Ref sig .tc := ⟨.hbm, 1976, rfl⟩
abbrev main_v243 : Ref sig .tc := ⟨.hbm, 1977, rfl⟩
abbrev main_v244 : Ref sig .tc := ⟨.hbm, 1978, rfl⟩
abbrev main_cst_2 : Ref sig .tc := ⟨.hbm, 1979, rfl⟩
abbrev main_v245 : Ref sig .tc := ⟨.hbm, 1980, rfl⟩
abbrev main_v246 : Ref sig .tc := ⟨.hbm, 1981, rfl⟩
abbrev main_v247 : Ref sig .tc := ⟨.hbm, 1982, rfl⟩
abbrev main_v248 : Ref sig .tc := ⟨.hbm, 1983, rfl⟩
abbrev main_cst_3 : Ref sig .tc := ⟨.hbm, 1984, rfl⟩
abbrev main_v249 : Ref sig .tc := ⟨.hbm, 1985, rfl⟩
abbrev main_v250 : Ref sig .tc := ⟨.hbm, 1986, rfl⟩
abbrev main_v251 : Ref sig .tc := ⟨.hbm, 1987, rfl⟩
abbrev main_v252 : Ref sig .tc := ⟨.hbm, 1988, rfl⟩
abbrev main_v253 : Ref sig .tc := ⟨.hbm, 1989, rfl⟩
abbrev main_v254 : Ref sig .tc := ⟨.hbm, 1990, rfl⟩
abbrev main_v255 : Ref sig .tc := ⟨.hbm, 1991, rfl⟩
abbrev main_v256 : Ref sig .tc := ⟨.hbm, 1992, rfl⟩
abbrev main_v257 : Ref sig .tc := ⟨.hbm, 1993, rfl⟩
abbrev main_v258 : Ref sig .tc := ⟨.hbm, 1994, rfl⟩
abbrev main_v259 : Ref sig .tc := ⟨.hbm, 1995, rfl⟩

abbrev nD : Nat := 1
abbrev τ : Topo := Topo.v7x

variable {F : FTy → Type} [FloatOps F]

abbrev main_while0_count : Scf.Loop 32 := ⟨0#32, 196#32, 1#32⟩

abbrev main_while1_count : Scf.Loop 32 := ⟨0#32, 196#32, 1#32⟩

abbrev main_while2_count : Scf.Loop 32 := ⟨0#32, 196#32, 1#32⟩

abbrev main_while3_count : Scf.Loop 32 := ⟨0#32, 196#32, 1#32⟩

abbrev main_while4_count : Scf.Loop 32 := ⟨0#32, 196#32, 1#32⟩

abbrev main_while5_count : Scf.Loop 32 := ⟨0#32, 196#32, 1#32⟩

abbrev main_while6_count : Scf.Loop 32 := ⟨0#32, 196#32, 1#32⟩

abbrev main_while7_count : Scf.Loop 32 := ⟨0#32, 196#32, 1#32⟩

abbrev main_while8_count : Scf.Loop 32 := ⟨0#32, 196#32, 1#32⟩

abbrev main_while9_count : Scf.Loop 32 := ⟨0#32, 196#32, 1#32⟩

abbrev main_while10_count : Scf.Loop 32 := ⟨0#32, 196#32, 1#32⟩

abbrev main_while11_count : Scf.Loop 32 := ⟨0#32, 196#32, 1#32⟩
-- ==== Proof.Chunk.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Loops
public import Idealize.ShloMosaic.Lib.Tactic
public import Idealize.ShloMosaic.Lib.Pipeline.ValueKit

/-! # One chunk of the scan, and the chunks in turn

What one trip of the counted loop computes of the four chunks it loads and of the carried state, and what the loop
leaves in the scratch `arg16`, as plain functions of the four scratch buffers' contents. -/

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The state after the eight steps of a chunk: `v95` the logarithms of the decay, `a` the step sizes, `b` the scaled
    inputs, `d` the input weights of the chunk, `acc` the state before it. -/
def stepH (v95 : Vec F S16x1536 .f32) (a b : Vec F S1x8x1536 .f32) (d : Vec F S1x8x16 .f32) (acc : FVec F S16x1536 .f32) : FVec F S16x1536 .f32 :=
  k1_pay33 v95 (k1_pay2 a) (k1_pay3 b) (k1_pay4 d)
    (k1_pay17 (k1_pay30 v95) (k1_pay2 a) (k1_pay3 b) (k1_pay4 d) (k1_pay8 (k1_pay30 v95) acc a b d) (k1_pay10 (k1_pay30 v95) a))

/-- The eight rows of results of a chunk; `e` its output weights. -/
def stepY (v95 : Vec F S16x1536 .f32) (a b : Vec F S1x8x1536 .f32) (d e : Vec F S1x8x16 .f32) (acc : FVec F S16x1536 .f32) : FVec F S1x8x1536 .f32 :=
  k1_pay34 v95 (k1_pay2 a) (k1_pay3 b) (k1_pay4 d) (k1_pay5 e) (k1_pay7 (k1_pay30 v95) acc a b d e) (k1_pay9 (k1_pay30 v95) acc a b d e)
    (k1_pay12 (k1_pay3 b) (k1_pay4 d) (k1_pay5 e) (k1_pay8 (k1_pay30 v95) acc a b d) (k1_pay10 (k1_pay30 v95) a))
    (k1_pay14 (k1_pay30 v95) (k1_pay2 a) (k1_pay3 b) (k1_pay4 d) (k1_pay5 e) (k1_pay8 (k1_pay30 v95) acc a b d) (k1_pay10 (k1_pay30 v95) a))
    (k1_pay16 (k1_pay30 v95) (k1_pay2 a) (k1_pay3 b) (k1_pay4 d) (k1_pay5 e) (k1_pay8 (k1_pay30 v95) acc a b d) (k1_pay10 (k1_pay30 v95) a))
    (k1_pay17 (k1_pay30 v95) (k1_pay2 a) (k1_pay3 b) (k1_pay4 d) (k1_pay8 (k1_pay30 v95) acc a b d) (k1_pay10 (k1_pay30 v95) a))
    (k1_pay18 (k1_pay5 e))

/-- Chunk `k` of a scratch of 1536 columns, -/
def chunkW (X : Vec F S25x8x1536 .f32) (k : Fin k1_t1_loop.trips) : Vec F S1x8x1536 .f32 :=
  fun y => X ((Rect.unit (s := S25x8x1536) (k1_off1 k) S1x8x1536.size (k1_off1_inb k)).idx y)

/-- and of a scratch of 16 columns. -/
def chunkN (X : Vec F S25x8x16 .f32) (k : Fin k1_t1_loop.trips) : Vec F S1x8x16 .f32 :=
  fun y => X ((Rect.unit (s := S25x8x16) (k1_off2 k) S1x8x16.size (k1_off2_inb k)).idx y)

/-- The state before each chunk. -/
def hseq (v95 : Vec F S16x1536 .f32) (A B : Vec F S25x8x1536 .f32) (D : Vec F S25x8x16 .f32) : ℕ → FVec F S16x1536 .f32
  | 0 => k1_pay31
  | k + 1 => if h : k < k1_t1_loop.trips then stepH v95 (chunkW A ⟨k, h⟩) (chunkW B ⟨k, h⟩) (chunkN D ⟨k, h⟩) (hseq v95 A B D k) else hseq v95 A B D k

theorem hseq_succ (v95 : Vec F S16x1536 .f32) (A B : Vec F S25x8x1536 .f32) (D : Vec F S25x8x16 .f32) (k : Fin k1_t1_loop.trips) :
    hseq v95 A B D (k.val + 1) = stepH v95 (chunkW A k) (chunkW B k) (chunkN D k) (hseq v95 A B D k.val) := by
  rw [hseq]; exact dif_pos k.isLt

/-- The results of chunk `k`. -/
def yrows (v95 : Vec F S16x1536 .f32) (A B : Vec F S25x8x1536 .f32) (D E : Vec F S25x8x16 .f32) (k : Fin k1_t1_loop.trips) : FVec F S1x8x1536 .f32 :=
  stepY v95 (chunkW A k) (chunkW B k) (chunkN D k) (chunkN E k) (hseq v95 A B D k.val)

theorem trips_eq : k1_t1_loop.trips = 25 := by decide +kernel

theorem off1_eq : ∀ k : Fin k1_t1_loop.trips, k1_off1 k = ![k.val, 0, 0] := by decide +kernel

theorem off2_eq : ∀ k : Fin k1_t1_loop.trips, k1_off2 k = ![k.val, 0, 0] := by decide +kernel

/-- All the chunks' results. -/
def yall (v95 : Vec F S16x1536 .f32) (A B : Vec F S25x8x1536 .f32) (D E : Vec F S25x8x16 .f32) : Vec F S25x8x1536 .f32 :=
  fun y => yrows v95 A B D E ⟨(y 0).val, by rw [trips_eq]; exact (y 0).isLt⟩ (ix3 0 (y 1) (y 2))

/-- The piece chunk `k` stores. -/
def ypiece (v95 : Vec F S16x1536 .f32) (A B : Vec F S25x8x1536 .f32) (D E : Vec F S25x8x16 .f32) (k : Fin k1_t1_loop.trips) : View.Piece (Elt F) S25x8x1536 .f32 :=
  ⟨Rect.unit (s := S25x8x1536) (k1_off1 k) S1x8x1536.size (k1_off1_inb k), yrows v95 A B D E k⟩

theorem ypiece_at (v95 : Vec F S16x1536 .f32) (A B : Vec F S25x8x1536 .f32) (D E : Vec F S25x8x16 .f32) (k : Fin k1_t1_loop.trips) (x : (ypiece v95 A B D E k).1.shape.Idx) :
    (ypiece v95 A B D E k).2 x = yall v95 A B D E ((ypiece v95 A B D E k).1.emb x) := by
  have e : ∀ a, (((ypiece v95 A B D E k).1.emb x) a).val = (![k.val, 0, 0] : Fin 3 → ℕ) a + 1 * (x a).val := fun a => by
    rw [← off1_eq k]; rfl
  have e0 := e 0
  have e1 := e 1
  have e2 := e 2
  have h0 : (x 0).val < 1 := (x 0).isLt
  have e0' : (((ypiece v95 A B D E k).1.emb x) 0).val = k.val := by rw [e0]; simp
  unfold yall
  have hk : (⟨(((ypiece v95 A B D E k).1.emb x) 0).val, by rw [trips_eq]; exact (((ypiece v95 A B D E k).1.emb x) 0).isLt⟩ : Fin k1_t1_loop.trips) = k := Fin.ext e0'
  rw [hk]
  show yrows v95 A B D E k x = _
  refine congrArg _ (funext fun a => Fin.ext ?_)
  revert a
  refine Fin.forall_fin_succ.2 ⟨?_, Fin.forall_fin_succ.2 ⟨?_, Fin.forall_fin_succ.2 ⟨?_, fun a => a.elim0⟩⟩⟩
  · show (x 0).val = 0
    omega
  · show (x 1).val = (((ypiece v95 A B D E k).1.emb x) 1).val
    rw [e1]; simp
  · show (x 2).val = (((ypiece v95 A B D E k).1.emb x) 2).val
    rw [e2]; simp

theorem ypiece_mem (v95 : Vec F S16x1536 .f32) (A B : Vec F S25x8x1536 .f32) (D E : Vec F S25x8x16 .f32) (k : Fin k1_t1_loop.trips) (y : S25x8x1536.Idx) (hy : (y 0).val = k.val) :
    y ∈ (ypiece v95 A B D E k).1.set := by
  refine (ypiece v95 A B D E k).1.mem_set.mpr ?_
  intro a
  have ho : (ypiece v95 A B D E k).1.off a = (![k.val, 0, 0] : Fin 3 → ℕ) a := congrFun (off1_eq k) a
  rw [ho]
  revert a
  refine Fin.forall_fin_succ.2 ⟨?_, Fin.forall_fin_succ.2 ⟨?_, Fin.forall_fin_succ.2 ⟨?_, fun a => a.elim0⟩⟩⟩
  · intro _; exact ⟨0, Nat.zero_lt_one, by show (y 0).val = k.val + 1 * 0; omega⟩
  · intro _; exact ⟨(y 1).val, (y 1).isLt, by show (y 1).val = 0 + 1 * (y 1).val; omega⟩
  · intro _; exact ⟨(y 2).val, (y 2).isLt, by show (y 2).val = 0 + 1 * (y 2).val; omega⟩

section Trip

variable (𝒱 : Variants) (c : Dev nD) (bd : Option 𝒱.V) (i : grid1.Coords) (arg1 : Memref sig .tc .vmem S1x196x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S1536x768 .f32) (harg10 : arg10.IsWhole) (arg11 : Memref sig .tc .vmem S1x196x768 .f32) (harg11 : arg11.IsWhole) (arg12 : Memref sig .tc .vmem S25x8x1536 .f32) (harg12 : arg12.IsWhole) (arg13 : Memref sig .tc .vmem S25x8x1536 .f32) (harg13 : arg13.IsWhole) (arg14 : Memref sig .tc .vmem S25x8x16 .f32) (harg14 : arg14.IsWhole) (arg15 : Memref sig .tc .vmem S25x8x16 .f32) (harg15 : arg15.IsWhole) (arg16 : Memref sig .tc .vmem S25x8x1536 .f32) (harg16 : arg16.IsWhole) (v6 : FVec F S196x1536 .f32) (v38 : FVec F S196x1536 .f32) (v64 : FVec F S196x16 .f32) (v65 : FVec F S196x16 .f32) (c0_i32_29 : BitVec 32) (v95 : Vec F S16x1536 .f32) (X_arg12 : BufTy.Contents (Elt F) arg12.view.ty) (X_arg13 : BufTy.Contents (Elt F) arg13.view.ty) (X_arg14 : BufTy.Contents (Elt F) arg14.view.ty) (X_arg15 : BufTy.Contents (Elt F) arg15.view.ty)

/-- The state a trip yields, -/
theorem tripR_eq (k : Fin k1_t1_loop.trips) (acc : FVec F S16x1536 .f32) :
    tripR_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k acc
      = stepH v95 (chunkW (arg12.view.read (Elt F) X_arg12) k) (chunkW (arg13.view.read (Elt F) X_arg13) k) (chunkN (arg14.view.read (Elt F) X_arg14) k) acc := by
  unfold tripR_k1_t1 trip_k1_t1
  rfl

/-- and the one piece it stores. -/
theorem tripL_eq (k : Fin k1_t1_loop.trips) (acc : FVec F S16x1536 .f32) :
    tripL_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k acc
      = [⟨Rect.unit (s := S25x8x1536) (k1_off1 k) S1x8x1536.size (k1_off1_inb k), stepY v95 (chunkW (arg12.view.read (Elt F) X_arg12) k) (chunkW (arg13.view.read (Elt F) X_arg13) k) (chunkN (arg14.view.read (Elt F) X_arg14) k) (chunkN (arg15.view.read (Elt F) X_arg15) k) acc⟩] := by
  unfold tripL_k1_t1 trip_k1_t1
  rfl

/-- Before trip `k`: the carried state, and which pieces have been stored. -/
theorem st_eq (k : ℕ) (hk : k ≤ k1_t1_loop.trips) :
    (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k1_pay31 k).1 = hseq v95 (arg12.view.read (Elt F) X_arg12) (arg13.view.read (Elt F) X_arg13) (arg14.view.read (Elt F) X_arg14) k
    ∧ ∀ p, p ∈ (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k1_pay31 k).2 ↔ ∃ j : Fin k1_t1_loop.trips, j.val < k ∧ p = ypiece v95 (arg12.view.read (Elt F) X_arg12) (arg13.view.read (Elt F) X_arg13) (arg14.view.read (Elt F) X_arg14) (arg15.view.read (Elt F) X_arg15) j := by
  induction k with
  | zero => exact ⟨rfl, fun p => ⟨fun h => absurd h List.not_mem_nil, fun ⟨j, hj, _⟩ => absurd hj (Nat.not_lt_zero _)⟩⟩
  | succ k ih =>
    obtain ⟨ih1, ih2⟩ := ih (Nat.le_of_succ_le hk)
    have e := st_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k1_pay31 ⟨k, hk⟩
    have s := hseq_succ v95 (arg12.view.read (Elt F) X_arg12) (arg13.view.read (Elt F) X_arg13) (arg14.view.read (Elt F) X_arg14) ⟨k, hk⟩
    dsimp only at e s
    rw [e, tripR_eq, tripL_eq]
    refine ⟨?_, fun p => ?_⟩
    · rw [s, ih1]
    · rw [ih1, List.singleton_append, List.mem_cons, ih2]
      constructor
      · rintro (rfl | ⟨j, hj, rfl⟩)
        · exact ⟨⟨k, hk⟩, Nat.lt_succ_self k, rfl⟩
        · exact ⟨j, Nat.lt_succ_of_lt hj, rfl⟩
      · rintro ⟨j, hj, rfl⟩
        rcases Nat.lt_succ_iff_lt_or_eq.mp hj with h | h
        · exact .inr ⟨j, h, rfl⟩
        · left
          have : j = ⟨k, hk⟩ := Fin.ext h
          subst this
          rfl

/-- After the loop the scratch reads all the chunks' results, whatever it held before. -/
theorem read_ys (f : BufTy.Contents (Elt F) arg16.view.ty) :
    arg16.view.read (Elt F) (arg16.view.writes (Elt F) f (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k1_pay31 k1_t1_loop.trips).2)
      = yall v95 (arg12.view.read (Elt F) X_arg12) (arg13.view.read (Elt F) X_arg13) (arg14.view.read (Elt F) X_arg14) (arg15.view.read (Elt F) X_arg15) := by
  have h := (st_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v38 v64 v65 c0_i32_29 v95 X_arg12 X_arg13 X_arg14 X_arg15 k1_t1_loop.trips le_rfl).2
  funext y
  refine View.read_writes_apply_of_pieces _ _ _ _ (fun p hp x => ?_) y ?_
  · obtain ⟨j, -, rfl⟩ := (h p).1 hp
    exact ypiece_at _ _ _ _ _ j x
  · have hlt : (y 0).val < k1_t1_loop.trips := by rw [trips_eq]; exact (y 0).isLt
    exact ⟨_, (h _).2 ⟨⟨(y 0).val, hlt⟩, hlt, rfl⟩, ypiece_mem _ _ _ _ _ ⟨(y 0).val, hlt⟩ y rfl⟩

end Trip

end Cert.KernelIdeal.Val

end
-- ==== Proof.Body.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import proofs.«01_k».proof.Proof.Gen.KernelIdeal.Loops
public import Idealize.ShloMosaic.Lib.Tactic
public import Idealize.ShloMosaic.Lib.Pipeline.ValueKit
public import proofs.«01_k».proof.Proof.Chunk
public import Idealize.ShloMosaic.Lib.VecWindow

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The body's output

One run of the layer's body as a function of its ten input blocks, and the body's triple with that output. -/

/-- Row `j` of the convolution's weights. -/
def cwRow0 (x2 : Vec F S4x1536 .f32) : Vec F S1x1536 .f32 := fun y => x2 ((Rect.unit (s := S4x1536) ![0, 0] S1x1536.size inb_S4x1536_S1x1536_0_0).idx y)
def cwRow1 (x2 : Vec F S4x1536 .f32) : Vec F S1x1536 .f32 := fun y => x2 ((Rect.unit (s := S4x1536) ![1, 0] S1x1536.size inb_S4x1536_S1x1536_1_0).idx y)
def cwRow2 (x2 : Vec F S4x1536 .f32) : Vec F S1x1536 .f32 := fun y => x2 ((Rect.unit (s := S4x1536) ![2, 0] S1x1536.size inb_S4x1536_S1x1536_2_0).idx y)
def cwRow3 (x2 : Vec F S4x1536 .f32) : Vec F S1x1536 .f32 := fun y => x2 ((Rect.unit (s := S4x1536) ![3, 0] S1x1536.size inb_S4x1536_S1x1536_3_0).idx y)

/-- The convolved, activated rows the scan runs over. -/
def xcF (x0 : Vec F S1x196x768 .f32) (x1 : Vec F S768x3072 .f32) (x2 : Vec F S4x1536 .f32) (x3 : Vec F S1x1536 .f32) : FVec F S196x1536 .f32 :=
  k1_pay21 x0 x1 x3 (cwRow0 x2) (cwRow1 x2) (cwRow2 x2) (cwRow3 x2)

/-- The scan's results, chunk by chunk, of those rows. -/
def ysF (xc : FVec F S196x1536 .f32) (x4 : Vec F S1536x80 .f32) (x5 : Vec F S48x1536 .f32) (x6 : Vec F S1x1536 .f32) (x7 : Vec F S16x1536 .f32) : Vec F S25x8x1536 .f32 :=
  yall x7 (k1_pay26 xc x4 x5 x6) (k1_pay27 xc x4 x5 x6) (k1_pay28 (k1_pay24 xc x4) 0#32) (k1_pay29 (k1_pay25 xc x4))

/-- What the body leaves in its output block. -/
def outF (x0 : Vec F S1x196x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32) (x8 : Vec F S1x1536 .f32) (x9 : Vec F S1536x768 .f32) : FVec F S1x196x768 .f32 :=
  k1_pay1 (k1_pay35 (k1_pay20 x0 x1) (xcF x0 x1 x2 x3) (ysF (xcF x0 x1 x2 x3) x4 x5 x6 x7) x8) (k1_pay36 x9) (constant S196x768 .f32 0x00000000#32)

theorem read_load {s : Shape} (m : Memref sig .tc .vmem s .f32) (h : m.IsWhole) (x : s.Idx → Elt F .f32) {off : Fin s.rank → ℕ} (inb : ∀ a, off a + s.size a ≤ s.size a) :
    View.readAt (Elt F) m.view (Rect.unit off s.size inb).toLoadRect (h.unread x) = x := by
  rw [View.readAt_full, h.read_unread]

local notation "𝕄" => MT nD τ sig Unit (Elt F) ℕ (UR sig nD τ) ℕ

-- (the run's proof term is large: checking it walks past the default budget)
set_option maxHeartbeats 1000000 in
/-- The body's triple: on whole staging memrefs — the inputs' at their contents,
    the output's (10) at anything —
    the body runs to the continuation holding the inputs' as they were, the output's at `outF` of them, the scratch at
    some contents. -/
theorem bodyRun (c : Dev nD) (i : grid1.Coords) (arg1 : Memref sig .tc .vmem S1x196x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S1536x768 .f32) (harg10 : arg10.IsWhole) (arg11 : Memref sig .tc .vmem S1x196x768 .f32) (harg11 : arg11.IsWhole) (arg12 : Memref sig .tc .vmem S25x8x1536 .f32) (harg12 : arg12.IsWhole) (arg13 : Memref sig .tc .vmem S25x8x1536 .f32) (harg13 : arg13.IsWhole) (arg14 : Memref sig .tc .vmem S25x8x16 .f32) (harg14 : arg14.IsWhole) (arg15 : Memref sig .tc .vmem S25x8x16 .f32) (harg15 : arg15.IsWhole) (arg16 : Memref sig .tc .vmem S25x8x1536 .f32) (harg16 : arg16.IsWhole)
    (x0 : Vec F S1x196x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32) (x8 : Vec F S1x1536 .f32) (x9 : Vec F S1536x768 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outF x0 x1 x2 x3 x4 x5 x6 x7 x8 x9) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc1__layer_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc1__layer_body_eq_skeleton]; unfold cc1__layer_body_skel
    simp only [k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; swap; · iexact H10
      ipureintro
      refine (View.read_writes_full _ _ _ _ _).trans ?_
      unfold bodyRun.sl.r_5 bodyRun.sl.r_6 bodyRun.sl.cst_50 bodyRun.sl.r bodyRun.sl.r_1
      dsimp only
      have e1 : View.readAt (Elt F) arg1.view (Rect.unit ![0, 0, 0] ![1, 196, 768] inb_S1x196x768_S1x196x768_0_0_0).toLoadRect (harg1.unread x0) = x0 := read_load arg1 harg1 x0 _
      have e2 : View.readAt (Elt F) arg2.view (Rect.unit ![0, 0] ![768, 3072] inb_S768x3072_S768x3072_0_0).toLoadRect (harg2.unread x1) = x1 := read_load arg2 harg2 x1 _
      have e4 : View.readAt (Elt F) arg4.view (Rect.unit ![0, 0] ![1, 1536] inb_S1x1536_S1x1536_0_0).toLoadRect (harg4.unread x3) = x3 := read_load arg4 harg4 x3 _
      have e9 : View.readAt (Elt F) arg9.view (Rect.unit ![0, 0] ![1, 1536] inb_S1x1536_S1x1536_0_0).toLoadRect (harg9.unread x8) = x8 := read_load arg9 harg9 x8 _
      have e10 : View.readAt (Elt F) arg10.view (Rect.unit ![0, 0] ![1536, 768] inb_S1536x768_S1536x768_0_0).toLoadRect (harg10.unread x9) = x9 := read_load arg10 harg10 x9 _
      have e8 : View.readAt (Elt F) arg8.view (Rect.unit ![0, 0] ![16, 1536] inb_S16x1536_S16x1536_0_0).toLoadRect (harg8.unread x7) = x7 := read_load arg8 harg8 x7 _
      have e5 : View.readAt (Elt F) arg5.view (Rect.unit ![0, 0] ![1536, 80] inb_S1536x80_S1536x80_0_0).toLoadRect (harg5.unread x4) = x4 := read_load arg5 harg5 x4 _
      have e6 : View.readAt (Elt F) arg6.view (Rect.unit ![0, 0] ![48, 1536] inb_S48x1536_S48x1536_0_0).toLoadRect (harg6.unread x5) = x5 := read_load arg6 harg6 x5 _
      have e7 : View.readAt (Elt F) arg7.view (Rect.unit ![0, 0] ![1, 1536] inb_S1x1536_S1x1536_0_0).toLoadRect (harg7.unread x6) = x6 := read_load arg7 harg7 x6 _
      have r0 : View.readAt (Elt F) arg3.view (Rect.unit ![0, 0] ![1, 1536] inb_S4x1536_S1x1536_0_0).toLoadRect (harg3.unread x2) = cwRow0 x2 := funext fun y => congrFun (harg3.read_unread x2) _
      have r1 : View.readAt (Elt F) arg3.view (Rect.unit ![1, 0] ![1, 1536] inb_S4x1536_S1x1536_1_0).toLoadRect (harg3.unread x2) = cwRow1 x2 := funext fun y => congrFun (harg3.read_unread x2) _
      have r2 : View.readAt (Elt F) arg3.view (Rect.unit ![2, 0] ![1, 1536] inb_S4x1536_S1x1536_2_0).toLoadRect (harg3.unread x2) = cwRow2 x2 := funext fun y => congrFun (harg3.read_unread x2) _
      have r3 : View.readAt (Elt F) arg3.view (Rect.unit ![3, 0] ![1, 1536] inb_S4x1536_S1x1536_3_0).toLoadRect (harg3.unread x2) = cwRow3 x2 := funext fun y => congrFun (harg3.read_unread x2) _
      rw [e1, e2, e4, e9, e10, r0, r1, r2, r3]
      unfold outF ysF xcF
      refine congrArg (fun ys => k1_pay1 (k1_pay35 (k1_pay20 x0 x1) (k1_pay21 x0 x1 x3 (cwRow0 x2) (cwRow1 x2) (cwRow2 x2) (cwRow3 x2)) ys x8) (k1_pay36 x9) (constant S196x768 .f32 0x00000000#32)) ?_
      unfold bodyRun.sl.v103
      refine (View.readAt_full _ _ _).trans ?_
      refine (read_ys ..).trans ?_
      unfold bodyRun.sl.HS0_1 bodyRun.sl.HS1_1 bodyRun.sl.HS2_1 bodyRun.sl.HS3_1
      rw [View.read_writes_full, View.read_writes_full, View.read_writes_full, View.read_writes_full]
      have hx : bodyRun.sl.r_1 c arg1 harg1 arg2 harg2 arg3 harg3 arg4 harg4 x0 x1 x2 x3 = k1_pay21 x0 x1 x3 (cwRow0 x2) (cwRow1 x2) (cwRow2 x2) (cwRow3 x2) := by
        unfold bodyRun.sl.r_1
        dsimp only
        rw [e1, e2, e4, r0, r1, r2, r3]
      have h4 : bodyRun.sl.r_2 c arg5 harg5 x4 = x4 := by
        unfold bodyRun.sl.r_2
        dsimp only
        rw [e5]
      unfold bodyRun.sl.r_3 bodyRun.sl.r_4
      dsimp only
      rw [hx, h4, e6, e7, e8]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Val

end
-- ==== Proof.Step.lean ====
module

public import proofs.«01_k».proof.Proof.Body

@[expose] public section

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # One grid point of each of the three kernel bodies

The bodies' triples with the resources of a grid point around them: what the caller keeps (`P`, `O`), each
input's staging buffer at its contents (however the caller writes them, `b`), and the output's at anything. -/

local notation "𝕄" => MT nD τ sig Unit (Elt F) ℕ (UR sig nD τ) ℕ

/-- A grid point of the patch embedding. -/
theorem embed_step (c : Dev nD) (i : grid0.Coords) (arg1 : Memref sig .tc .vmem S1x196x768 .f32) (harg1 : arg1.IsWhole) (arg2 : Memref sig .tc .vmem S768x768 .f32) (harg2 : arg2.IsWhole) (arg3 : Memref sig .tc .vmem S1x768 .f32) (harg3 : arg3.IsWhole) (arg4 : Memref sig .tc .vmem S1x196x768 .f32) (harg4 : arg4.IsWhole) (arg5 : Memref sig .tc .vmem S1x196x768 .f32) (harg5 : arg5.IsWhole)
    (x0 : Vec F S1x196x768 .f32) (x1 : Vec F S768x768 .f32) (x2 : Vec F S1x768 .f32) (x3 : Vec F S1x196x768 .f32) {D0 D1 D2 D3 D4 : Type} (b0 : D0 → Vec F S1x196x768 .f32) (b1 : D1 → Vec F S768x768 .f32) (b2 : D2 → Vec F S1x768 .f32) (b3 : D3 → Vec F S1x196x768 .f32) (b4 : D4 → Vec F S1x196x768 .f32)
    (h0 : ∀ d, b0 d = x0) (h1 : ∀ d, b1 d = x1) (h2 : ∀ d, b2 d = x2) (h3 : ∀ d, b3 d = x3) (P O : sProp 𝕄) :
    iprop(P ∗ O ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)))
      ⊢ wp frame (wpE (defs₀ (F := F)) Variants.none c none) Set.univ (cc0__embed_body i arg1 harg1 arg2 harg2 arg3 harg3 arg4 harg4 arg5 harg5)
        (fun _ => iprop(P ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x1 x2 x3))) := by
  simp only [h0, h1, h2, h3]
  rw [cc0__embed_body_eq_skeleton]; unfold cc0__embed_body_skel
  unfold owns
  iintro ⟨HP, HO, ⟨%d0, %f0, %hf0, H0⟩, ⟨%d1, %f1, %hf1, H1⟩, ⟨%d2, %f2, %hf2, H2⟩, ⟨%d3, %f3, %hf3, H3⟩, ⟨%d4, %f4, -, H4⟩⟩
  obtain rfl := harg1.eq_unread hf0; obtain rfl := harg2.eq_unread hf1; obtain rfl := harg3.eq_unread hf2; obtain rfl := harg4.eq_unread hf3
  sl_exec
  sl_step
  isplitl [HP]; · iexact HP
  isplitl [HO]; · iexact HO
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  refine (View.read_writes_full _ _ _ _ _).trans ?_
  try dsimp only
  rw [read_load arg1 harg1 x0, read_load arg2 harg2 x1, read_load arg3 harg3 x2, read_load arg4 harg4 x3]

/-- A grid point of the final normalisation. -/
theorem norm_step (c : Dev nD) (i : grid13.Coords) (arg1 : Memref sig .tc .vmem S1x196x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S1x196x768 .f32) (harg4 : arg4.IsWhole)
    (x0 : Vec F S1x196x768 .f32) (x1 : Vec F S1x768 .f32) (x2 : Vec F S1x768 .f32) {D0 D1 D2 D3 : Type} (b0 : D0 → Vec F S1x196x768 .f32) (b1 : D1 → Vec F S1x768 .f32) (b2 : D2 → Vec F S1x768 .f32) (b3 : D3 → Vec F S1x196x768 .f32)
    (h0 : ∀ d, b0 d = x0) (h1 : ∀ d, b1 d = x1) (h2 : ∀ d, b2 d = x2) (P O : sProp 𝕄) :
    iprop(P ∗ O ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)))
      ⊢ wp frame (wpE (defs₀ (F := F)) Variants.none c none) Set.univ (cc13__ln_body i arg1 harg1 arg2 harg2 arg3 harg3 arg4 harg4)
        (fun _ => iprop(P ∗ O ∗ owns (c : Thread nD τ) arg1 fullShare x0 ∗ owns (c : Thread nD τ) arg2 fullShare x1 ∗ owns (c : Thread nD τ) arg3 fullShare x2 ∗ owns (c : Thread nD τ) arg4 fullShare (k13_pay1 x0 x1 x2))) := by
  simp only [h0, h1, h2]
  rw [cc13__ln_body_eq_skeleton]; unfold cc13__ln_body_skel
  unfold owns
  iintro ⟨HP, HO, ⟨%d0, %f0, %hf0, H0⟩, ⟨%d1, %f1, %hf1, H1⟩, ⟨%d2, %f2, %hf2, H2⟩, ⟨%d3, %f3, -, H3⟩⟩
  obtain rfl := harg1.eq_unread hf0; obtain rfl := harg2.eq_unread hf1; obtain rfl := harg3.eq_unread hf2
  sl_exec
  sl_step
  isplitl [HP]; · iexact HP
  isplitl [HO]; · iexact HO
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr; swap; · iexact H3
  ipureintro
  refine (View.read_writes_full _ _ _ _ _).trans ?_
  try dsimp only
  rw [read_load arg1 harg1 x0, read_load arg2 harg2 x1, read_load arg3 harg3 x2]

/-- A grid point of a layer: the five scratch buffers at anything, beside what the caller keeps. -/
theorem layer_step (c : Dev nD) (i : grid1.Coords) (arg1 : Memref sig .tc .vmem S1x196x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S1x1536 .f32) (harg9 : arg9.IsWhole) (arg10 : Memref sig .tc .vmem S1536x768 .f32) (harg10 : arg10.IsWhole) (arg11 : Memref sig .tc .vmem S1x196x768 .f32) (harg11 : arg11.IsWhole) (arg12 : Memref sig .tc .vmem S25x8x1536 .f32) (harg12 : arg12.IsWhole) (arg13 : Memref sig .tc .vmem S25x8x1536 .f32) (harg13 : arg13.IsWhole) (arg14 : Memref sig .tc .vmem S25x8x16 .f32) (harg14 : arg14.IsWhole) (arg15 : Memref sig .tc .vmem S25x8x16 .f32) (harg15 : arg15.IsWhole) (arg16 : Memref sig .tc .vmem S25x8x1536 .f32) (harg16 : arg16.IsWhole)
    (x0 : Vec F S1x196x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32) (x8 : Vec F S1x1536 .f32) (x9 : Vec F S1536x768 .f32) {D0 D1 D2 D3 D4 D5 D6 D7 D8 D9 D10 : Type} (b0 : D0 → Vec F S1x196x768 .f32) (b1 : D1 → Vec F S768x3072 .f32) (b2 : D2 → Vec F S4x1536 .f32) (b3 : D3 → Vec F S1x1536 .f32) (b4 : D4 → Vec F S1536x80 .f32) (b5 : D5 → Vec F S48x1536 .f32) (b6 : D6 → Vec F S1x1536 .f32) (b7 : D7 → Vec F S16x1536 .f32) (b8 : D8 → Vec F S1x1536 .f32) (b9 : D9 → Vec F S1536x768 .f32) (b10 : D10 → Vec F S1x196x768 .f32)
    (h0 : ∀ d, b0 d = x0) (h1 : ∀ d, b1 d = x1) (h2 : ∀ d, b2 d = x2) (h3 : ∀ d, b3 d = x3) (h4 : ∀ d, b4 d = x4) (h5 : ∀ d, b5 d = x5) (h6 : ∀ d, b6 d = x6) (h7 : ∀ d, b7 d = x7) (h8 : ∀ d, b8 d = x8) (h9 : ∀ d, b9 d = x9) (P₁ P₂ O : sProp 𝕄) :
    iprop(((((∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) ∗ P₁) ∗ P₂) ∗ O ∗ (∃ d, owns (c : Thread nD τ) arg1 fullShare (b0 d)) ∗ (∃ d, owns (c : Thread nD τ) arg2 fullShare (b1 d)) ∗ (∃ d, owns (c : Thread nD τ) arg3 fullShare (b2 d)) ∗ (∃ d, owns (c : Thread nD τ) arg4 fullShare (b3 d)) ∗ (∃ d, owns (c : Thread nD τ) arg5 fullShare (b4 d)) ∗ (∃ d, owns (c : Thread nD τ) arg6 fullShare (b5 d)) ∗ (∃ d, owns (c : Thread nD τ) arg7 fullShare (b6 d)) ∗ (∃ d, owns (c : Thread nD τ) arg8 fullShare (b7 d)) ∗ (∃ d, owns (c : Thread nD τ) arg9 fullShare (b8 d)) ∗ (∃ d, owns (c : Thread nD τ) arg10 fullShare (b9 d)) ∗ (∃ d, owns (c : Thread nD τ) arg11 fullShare (b10 d)))
      ⊢ wp frame (wpE (defs₀ (F := F)) Variants.none c none) Set.univ (cc1__layer_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(((((∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) ∗ P₁) ∗ P₂) ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outF x0 x1 x2 x3 x4 x5 x6 x7 x8 x9))) := by
  simp only [h0, h1, h2, h3, h4, h5, h6, h7, h8, h9]
  iintro ⟨⟨⟨⟨HS0, HS1, HS2, HS3, HS4⟩, HP1⟩, HP2⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 HP1 HP2]
  · isplitr [HP2]
    · isplitr [HP1]
      · isplitl [HS0]; · iexact HS0
        isplitl [HS1]; · iexact HS1
        isplitl [HS2]; · iexact HS2
        isplitl [HS3]; · iexact HS3
        iexact HS4
      iexact HP1
    iexact HP2
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Val

end
-- ==== Proof.Calls.lean ====
module

public import proofs.«01_k».proof.Proof.Step
public import Idealize.ShloMosaic.Lib.Pipeline.RegionArraysS

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The calls' proof data

One proof datum for every call of the program, over the contents `W` that the call finds: each input's block is
kept, the output window's is `out`. Then the body's obligation of each call, from the bodies' steps. -/

local notation "𝕄" => MT nD τ sig Unit (Elt F) ℕ (UR sig nD τ) ℕ

/-- The block of window `w` at point `t`, of the arrays at `W`. -/
def blockAt (cfg : Cfg sig Λ₀) (W : Valuation τ sig (Elt F)) (w : Fin cfg.W) (t : Fin cfg.N) : (cfg.win w).block.Idx → Elt F (cfg.win w).elt :=
  (cfg.win w).fill (cfg.grid.coords t) (fun _ => Classical.arbitrary _)
    (((cfg.win w).blk t).view.read (Elt F) (W (Proc.devRef .tc (Pipeline.arrRef cfg.spec w))))

/-- A call's proof data: the arrays as found, `out t` the output window's (`o`) contents after point `t`. -/
def callDat (cfg : Cfg sig Λ₀) (o : Fin cfg.W) (W : Valuation τ sig (Elt F)) (out : (t : Fin cfg.N) → (cfg.win o).block.Idx → Elt F (cfg.win o).elt)
    (c : Dev nD) : Dat τ (Elt F) Unit ℕ (UR sig nD τ) ℕ cfg c where
  A w := W (Proc.devRef .tc (Pipeline.arrRef cfg.spec w))
  after w t := if h : w = o then h ▸ out t else blockAt cfg W w t
  Φ _ := Pipeline.ΦA cfg.spec c
  q _ := fullShare
  owed _ := 0

theorem callDat_after_out (cfg : Cfg sig Λ₀) (o : Fin cfg.W) (W : Valuation τ sig (Elt F)) (out) (c : Dev nD) (t : Fin cfg.N) :
    (callDat cfg o W out c).after o t = out t := dif_pos rfl

theorem callDat_after_in (cfg : Cfg sig Λ₀) (o : Fin cfg.W) (W : Valuation τ sig (Elt F)) (out) (c : Dev nD) (w : Fin cfg.W) (h : w ≠ o) (t : Fin cfg.N) :
    (callDat cfg o W out c).after w t = blockAt cfg W w t := dif_neg h

/-- What the body finds in an input's buffer. -/
theorem callDat_before (cfg : Cfg sig Λ₀) (o : Fin cfg.W) (W : Valuation τ sig (Elt F)) (out) (c : Dev nD) (w : Fin cfg.W) (h : w ≠ o)
    (hin : (cfg.win w).isOut = false) (hidle : ∀ i, cfg.idle w i = false) (hclip : ∀ i a, (cfg.win w).clip i a = none) (t : Fin cfg.N) (d) :
    (callDat cfg o W out c).before w t d = blockAt cfg W w t :=
  ((callDat cfg o W out c).before_in_eq_fetched w hin hidle (fun t t' _ => by funext a; rw [hclip, hclip])
    (fun t => by rw [callDat_after_in cfg o W out c w h]; exact Window.cut_fill _ _ _ _) t d).trans
    (Pipeline.fill_of_clip_none w _ (hclip _) _ _ _)

/-- The triple of a grid point, its pieces restated. -/
theorem restate {P P' Φ Φ' : sProp 𝕄} (c : Dev nD) {e e' : Prog (TpuEff nD τ sig (Elt F) Λ₀ .tc) PUnit} {Q Q' : sProp 𝕄}
    (h : iprop(Φ ∗ P) ⊢ wp frame (wpE (defs₀ (F := F)) Variants.none c none) Set.univ e (fun _ => iprop(Φ ∗ Q)))
    (he : e = e') (hΦ : Φ' = Φ) (hP : P' = P) (hQ : Q' = Q) :
    iprop(Φ' ∗ P') ⊢ wp frame (wpE (defs₀ (F := F)) Variants.none c none) Set.univ e' (fun _ => iprop(Φ' ∗ Q')) := by
  subst he hΦ hP hQ; exact h

/-! ## The obligations -/

/-- Call 0's proof data over what it finds, -/
abbrev dat0 (W : Valuation τ sig (Elt F)) (c : Dev nD) : Dat τ (Elt F) Unit ℕ (UR sig nD τ) ℕ cfg0 c :=
  callDat cfg0 4 W (fun t => k0_pay1 (blockAt cfg0 W 0 t) (blockAt cfg0 W 1 t) (blockAt cfg0 W 2 t) (blockAt cfg0 W 3 t)) c

/-- and its body's obligation. -/
theorem obligation0 (W : Valuation τ sig (Elt F)) (c : Dev nD) : BodyObligation (dat0 W c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  unfold bodyAt0
  exact restate c (embed_step c _ _ _ _ _ _ _ _ _ _ _ (blockAt cfg0 W 0 t) (blockAt cfg0 W 1 t) (blockAt cfg0 W 2 t) (blockAt cfg0 W 3 t) ((dat0 W c).before 0 t) ((dat0 W c).before 1 t) ((dat0 W c).before 2 t) ((dat0 W c).before 3 t) ((dat0 W c).before 4 t) (callDat_before cfg0 4 W _ c 0 (by decide) rfl (fun _ => rfl) (fun _ _ => rfl) t) (callDat_before cfg0 4 W _ c 1 (by decide) rfl (fun _ => rfl) (fun _ _ => rfl) t) (callDat_before cfg0 4 W _ c 2 (by decide) rfl (fun _ => rfl) (fun _ _ => rfl) t) (callDat_before cfg0 4 W _ c 3 (by decide) rfl (fun _ => rfl) (fun _ _ => rfl) t) _ _) rfl rfl rfl rfl

/-- Call 1's proof data over what it finds, -/
abbrev dat1 (W : Valuation τ sig (Elt F)) (c : Dev nD) : Dat τ (Elt F) Unit ℕ (UR sig nD τ) ℕ cfg1 c :=
  callDat cfg1 10 W (fun t => outF (blockAt cfg1 W 0 t) (blockAt cfg1 W 1 t) (blockAt cfg1 W 2 t) (blockAt cfg1 W 3 t) (blockAt cfg1 W 4 t) (blockAt cfg1 W 5 t) (blockAt cfg1 W 6 t) (blockAt cfg1 W 7 t) (blockAt cfg1 W 8 t) (blockAt cfg1 W 9 t)) c

theorem rest1 (c : Dev nD) : (Pipeline.ΦA spec1 c : sProp 𝕄) = iprop((((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d))
    ∗ Pipeline.scopedRestBut spec1 c [cc1_scratch0, cc1_scratch1, cc1_scratch2, cc1_scratch3, cc1_scratch4]) ∗ (∃ r, prngReg c r)) := by
  unfold Pipeline.ΦA; rw [scopedRest1_split]; simp only [owns_whole]; try rfl

/-- and its body's obligation. -/
theorem obligation1 (W : Valuation τ sig (Elt F)) (c : Dev nD) : BodyObligation (dat1 W c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  unfold bodyAt1
  exact restate c (layer_step c _ _ _ _ _ _ _ _ _ _ _ _ _ _ _ _ _ _ _ _ _ _ _ _ _ _ _ _ _ _ _ _ _ (blockAt cfg1 W 0 t) (blockAt cfg1 W 1 t) (blockAt cfg1 W 2 t) (blockAt cfg1 W 3 t) (blockAt cfg1 W 4 t) (blockAt cfg1 W 5 t) (blockAt cfg1 W 6 t) (blockAt cfg1 W 7 t) (blockAt cfg1 W 8 t) (blockAt cfg1 W 9 t) ((dat1 W c).before 0 t) ((dat1 W c).before 1 t) ((dat1 W c).before 2 t) ((dat1 W c).before 3 t) ((dat1 W c).before 4 t) ((dat1 W c).before 5 t) ((dat1 W c).before 6 t) ((dat1 W c).before 7 t) ((dat1 W c).before 8 t) ((dat1 W c).before 9 t) ((dat1 W c).before 10 t) (callDat_before cfg1 10 W _ c 0 (by decide) rfl (fun _ => rfl) (fun _ _ => rfl) t) (callDat_before cfg1 10 W _ c 1 (by decide) rfl (fun _ => rfl) (fun _ _ => rfl) t) (callDat_before cfg1 10 W _ c 2 (by decide) rfl (fun _ => rfl) (fun _ _ => rfl) t) (callDat_before cfg1 10 W _ c 3 (by decide) rfl (fun _ => rfl) (fun _ _ => rfl) t) (callDat_before cfg1 10 W _ c 4 (by decide) rfl (fun _ => rfl) (fun _ _ => rfl) t) (callDat_before cfg1 10 W _ c 5 (by decide) rfl (fun _ => rfl) (fun _ _ => rfl) t) (callDat_before cfg1 10 W _ c 6 (by decide) rfl (fun _ => rfl) (fun _ _ => rfl) t) (callDat_before cfg1 10 W _ c 7 (by decide) rfl (fun _ => rfl) (fun _ _ => rfl) t) (callDat_before cfg1 10 W _ c 8 (by decide) rfl (fun _ => rfl) (fun _ _ => rfl) t) (callDat_before cfg1 10 W _ c 9 (by decide) rfl (fun _ => rfl) (fun _ _ => rfl) t) _ _ _) rfl (rest1 c) rfl rfl

/-- Call 2's proof data over what it finds, -/
abbrev dat2 (W : Valuation τ sig (Elt F)) (c : Dev nD) : Dat τ (Elt F) Unit ℕ (UR sig nD τ) ℕ cfg2 c :=
  callDat cfg2 10 W (fun t => outF (blockAt cfg2 W 0 t) (blockAt cfg2 W 1 t) (blockAt cfg2 W 2 t) (blockAt cfg2 W 3 t) (blockAt cfg2 W 4 t) (blockAt cfg2 W 5 t) (blockAt cfg2 W 6 t) (blockAt cfg2 W 7 t) (blockAt cfg2 W 8 t) (blockAt cfg2 W 9 t)) c

theorem rest2 (c : Dev nD) : (Pipeline.ΦA spec2 c : sProp 𝕄) = iprop((((∃ d, owns (c : Thread nD τ) (Memref.whole cc2_scratch0) fullShare d) ∗ (∃ d, owns (c : Thread nD τ) (Memref.whole cc2_scratch1) fullShare d) ∗ (∃ d, owns (c : Thread nD τ) (Memref.whole cc2_scratch2) fullShare d) ∗ (∃ d, owns (c : Thread nD τ) (Memref.whole cc2_scratch3) fullShare d) ∗ (∃ d, owns (c : Thread nD τ) (Memref.whole cc2_scratch4) fullShare d))
    ∗ Pipeline.scopedRestBut spec2 c [cc2_scratch0, cc2_scratch1, cc2_scratch2, cc2_scratch3, cc2_scratch4]) ∗ (∃ r, prngReg c r)) := by
  unfold Pipeline.ΦA; rw [scopedRest2_split]; simp only [owns_whole]; try rfl

theorem same2 : (cc2__layer_body (F := F)) = cc1__layer_body := rfl

/-- and its body's obligation. -/
theorem obligation2 (W : Valuation τ sig (Elt F)) (c : Dev nD) : BodyObligation (dat2 W c) (defs₀ (F := F)) Variants.none () Set.univ := fun t => by
  rw [bigSep_W2, bigSep_W2, show defs₀ (F := F) .tc cfg2.body (cfg2.bodyArgs t (cfg2.slots t)) = bodyAt2 t by unfold defs₀; rw [Defs.onTc_tc]]
  unfold bodyAt2; rw [same2]
  exact restate c (layer_step c _ _ _ _ _ _ _ _ _ _ _ _ _ _ _ _ _ _ _ _ _ _ _ _ _ _ _ _ _ _ _ _ _ (blockAt cfg2 W 0 t) (blockAt cfg2 W 1 t) (blockAt cfg2 W 2 t) (blockAt cfg2 W 3 t) (blockAt cfg2 W 4 t) (blockAt cfg2 W 5 t) (blockAt cfg2 W 6 t) (blockAt cfg2 W 7 t) (blockAt cfg2 W 8 t) (blockAt cfg2 W 9 t) ((dat2 W c).before 0 t) ((dat2 W c).before 1 t) ((dat2 W c).before 2 t) ((dat2 W c).before 3 t) ((dat2 W c).before 4 t) ((dat2 W c).before 5 t) ((dat2 W c).before 6 t) ((dat2 W c).before 7 t) ((dat2 W c).before 8 t) ((dat2 W c).before 9 t) ((dat2 W c).before 10 t) (callDat_before cfg2 10 W _ c 0 (by decide) rfl (fun _ => rfl) (fun _ _ => rfl) t) (callDat_before cfg2 10 W _ c 1 (by decide) rfl (fun _ => rfl) (fun _ _ => rfl) t) (callDat_before cfg2 10 W _ c 2 (by decide) rfl (fun _ => rfl) (fun _ _ => rfl) t) (callDat_before cfg2 10 W _ c 3 (by decide) rfl (fun _ => rfl) (fun _ _ => rfl) t) (callDat_before cfg2 10 W _ c 4 (by decide) rfl (fun _ => rfl) (fun _ _ => rfl) t) (callDat_before cfg2 10 W _ c 5 (by decide) rfl (fun _ => rfl) (fun _ _ => rfl) t) (callDat_before cfg2 10 W _ c 6 (by decide) rfl (fun _ => rfl) (fun _ _ => rfl) t) (callDat_before cfg2 10 W _ c 7 (by decide) rfl (fun _ => rfl) (fun _ _ => rfl) t) (callDat_before cfg2 10 W _ c 8 (by decide) rfl (fun _ => rfl) (fun _ _ => rfl) t) (callDat_before cfg2 10 W _ c 9 (by decide) rfl (fun _ => rfl) (fun _ _ => rfl) t) _ _ _) rfl (rest2 c) rfl rfl

/-- Call 3's proof data over what it finds, -/
abbrev dat3 (W : Valuation τ sig (Elt F)) (c : Dev nD) : Dat τ (Elt F) Unit ℕ (UR sig nD τ) ℕ cfg3 c :=
  callDat cfg3 10 W (fun t => outF (blockAt cfg3 W 0 t) (blockAt cfg3 W 1 t) (blockAt cfg3 W 2 t) (blockAt cfg3 W 3 t) (blockAt cfg3 W 4 t) (blockAt cfg3 W 5 t) (blockAt cfg3 W 6 t) (blockAt cfg3 W 7 t) (blockAt cfg3 W 8 t) (blockAt cfg3 W 9 t)) c

theorem rest3 (c : Dev nD) : (Pipeline.ΦA spec3 c : sProp 𝕄) = iprop((((∃ d, owns (c : Thread nD τ) (Memref.whole cc3_scratch0) fullShare d) ∗ (∃ d, owns (c : Thread nD τ) (Memref.whole cc3_scratch1) fullShare d) ∗ (∃ d, owns (c : Thread nD τ) (Memref.whole cc3_scratch2) fullShare d) ∗ (∃ d, owns (c : Thread nD τ) (Memref.whole cc3_scratch3) fullShare d) ∗ (∃ d, owns (c : Thread nD τ) (Memref.whole cc3_scratch4) fullShare d))
    ∗ Pipeline.scopedRestBut spec3 c [cc3_scratch0, cc3_scratch1, cc3_scratch2, cc3_scratch3, cc3_scratch4]) ∗ (∃ r, prngReg c r)) := by
  unfold Pipeline.ΦA; rw [scopedRest3_split]; simp only [owns_whole]; try rfl

theorem same3 : (cc3__layer_body (F := F)) = cc1__layer_body := rfl

/-- and its body's obligation. -/
theorem obligation3 (W : Valuation τ sig (Elt F)) (c : Dev nD) : BodyObligation (dat3 W c) (defs₀ (F := F)) Variants.none () Set.univ := fun t => by
  rw [bigSep_W3, bigSep_W3, show defs₀ (F := F) .tc cfg3.body (cfg3.bodyArgs t (cfg3.slots t)) = bodyAt3 t by unfold defs₀; rw [Defs.onTc_tc]]
  unfold bodyAt3; rw [same3]
  exact restate c (layer_step c _ _ _ _ _ _ _ _ _ _ _ _ _ _ _ _ _ _ _ _ _ _ _ _ _ _ _ _ _ _ _ _ _ (blockAt cfg3 W 0 t) (blockAt cfg3 W 1 t) (blockAt cfg3 W 2 t) (blockAt cfg3 W 3 t) (blockAt cfg3 W 4 t) (blockAt cfg3 W 5 t) (blockAt cfg3 W 6 t) (blockAt cfg3 W 7 t) (blockAt cfg3 W 8 t) (blockAt cfg3 W 9 t) ((dat3 W c).before 0 t) ((dat3 W c).before 1 t) ((dat3 W c).before 2 t) ((dat3 W c).before 3 t) ((dat3 W c).before 4 t) ((dat3 W c).before 5 t) ((dat3 W c).before 6 t) ((dat3 W c).before 7 t) ((dat3 W c).before 8 t) ((dat3 W c).before 9 t) ((dat3 W c).before 10 t) (callDat_before cfg3 10 W _ c 0 (by decide) rfl (fun _ => rfl) (fun _ _ => rfl) t) (callDat_before cfg3 10 W _ c 1 (by decide) rfl (fun _ => rfl) (fun _ _ => rfl) t) (callDat_before cfg3 10 W _ c 2 (by decide) rfl (fun _ => rfl) (fun _ _ => rfl) t) (callDat_before cfg3 10 W _ c 3 (by decide) rfl (fun _ => rfl) (fun _ _ => rfl) t) (callDat_before cfg3 10 W _ c 4 (by decide) rfl (fun _ => rfl) (fun _ _ => rfl) t) (callDat_before cfg3 10 W _ c 5 (by decide) rfl (fun _ => rfl) (fun _ _ => rfl) t) (callDat_before cfg3 10 W _ c 6 (by decide) rfl (fun _ => rfl) (fun _ _ => rfl) t) (callDat_before cfg3 10 W _ c 7 (by decide) rfl (fun _ => rfl) (fun _ _ => rfl) t) (callDat_before cfg3 10 W _ c 8 (by decide) rfl (fun _ => rfl) (fun _ _ => rfl) t) (callDat_before cfg3 10 W _ c 9 (by decide) rfl (fun _ => rfl) (fun _ _ => rfl) t) _ _ _) rfl (rest3 c) rfl rfl

/-- Call 4's proof data over what it finds, -/
abbrev dat4 (W : Valuation τ sig (Elt F)) (c : Dev nD) : Dat τ (Elt F) Unit ℕ (UR sig nD τ) ℕ cfg4 c :=
  callDat cfg4 10 W (fun t => outF (blockAt cfg4 W 0 t) (blockAt cfg4 W 1 t) (blockAt cfg4 W 2 t) (blockAt cfg4 W 3 t) (blockAt cfg4 W 4 t) (blockAt cfg4 W 5 t) (blockAt cfg4 W 6 t) (blockAt cfg4 W 7 t) (blockAt cfg4 W 8 t) (blockAt cfg4 W 9 t)) c

theorem rest4 (c : Dev nD) : (Pipeline.ΦA spec4 c : sProp 𝕄) = iprop((((∃ d, owns (c : Thread nD τ) (Memref.whole cc4_scratch0) fullShare d) ∗ (∃ d, owns (c : Thread nD τ) (Memref.whole cc4_scratch1) fullShare d) ∗ (∃ d, owns (c : Thread nD τ) (Memref.whole cc4_scratch2) fullShare d) ∗ (∃ d, owns (c : Thread nD τ) (Memref.whole cc4_scratch3) fullShare d) ∗ (∃ d, owns (c : Thread nD τ) (Memref.whole cc4_scratch4) fullShare d))
    ∗ Pipeline.scopedRestBut spec4 c [cc4_scratch0, cc4_scratch1, cc4_scratch2, cc4_scratch3, cc4_scratch4]) ∗ (∃ r, prngReg c r)) := by
  unfold Pipeline.ΦA; rw [scopedRest4_split]; simp only [owns_whole]; try rfl

theorem same4 : (cc4__layer_body (F := F)) = cc1__layer_body := rfl

/-- and its body's obligation. -/
theorem obligation4 (W : Valuation τ sig (Elt F)) (c : Dev nD) : BodyObligation (dat4 W c) (defs₀ (F := F)) Variants.none () Set.univ := fun t => by
  rw [bigSep_W4, bigSep_W4, show defs₀ (F := F) .tc cfg4.body (cfg4.bodyArgs t (cfg4.slots t)) = bodyAt4 t by unfold defs₀; rw [Defs.onTc_tc]]
  unfold bodyAt4; rw [same4]
  exact restate c (layer_step c _ _ _ _ _ _ _ _ _ _ _ _ _ _ _ _ _ _ _ _ _ _ _ _ _ _ _ _ _ _ _ _ _ (blockAt cfg4 W 0 t) (blockAt cfg4 W 1 t) (blockAt cfg4 W 2 t) (blockAt cfg4 W 3 t) (blockAt cfg4 W 4 t) (blockAt cfg4 W 5 t) (blockAt cfg4 W 6 t) (blockAt cfg4 W 7 t) (blockAt cfg4 W 8 t) (blockAt cfg4 W 9 t) ((dat4 W c).before 0 t) ((dat4 W c).before 1 t) ((dat4 W c).before 2 t) ((dat4 W c).before 3 t) ((dat4 W c).before 4 t) ((dat4 W c).before 5 t) ((dat4 W c).before 6 t) ((dat4 W c).before 7 t) ((dat4 W c).before 8 t) ((dat4 W c).before 9 t) ((dat4 W c).before 10 t) (callDat_before cfg4 10 W _ c 0 (by decide) rfl (fun _ => rfl) (fun _ _ => rfl) t) (callDat_before cfg4 10 W _ c 1 (by decide) rfl (fun _ => rfl) (fun _ _ => rfl) t) (callDat_before cfg4 10 W _ c 2 (by decide) rfl (fun _ => rfl) (fun _ _ => rfl) t) (callDat_before cfg4 10 W _ c 3 (by decide) rfl (fun _ => rfl) (fun _ _ => rfl) t) (callDat_before cfg4 10 W _ c 4 (by decide) rfl (fun _ => rfl) (fun _ _ => rfl) t) (callDat_before cfg4 10 W _ c 5 (by decide) rfl (fun _ => rfl) (fun _ _ => rfl) t) (callDat_before cfg4 10 W _ c 6 (by decide) rfl (fun _ => rfl) (fun _ _ => rfl) t) (callDat_before cfg4 10 W _ c 7 (by decide) rfl (fun _ => rfl) (fun _ _ => rfl) t) (callDat_before cfg4 10 W _ c 8 (by decide) rfl (fun _ => rfl) (fun _ _ => rfl) t) (callDat_before cfg4 10 W _ c 9 (by decide) rfl (fun _ => rfl) (fun _ _ => rfl) t) _ _ _) rfl (rest4 c) rfl rfl

/-- Call 5's proof data over what it finds, -/
abbrev dat5 (W : Valuation τ sig (Elt F)) (c : Dev nD) : Dat τ (Elt F) Unit ℕ (UR sig nD τ) ℕ cfg5 c :=
  callDat cfg5 10 W (fun t => outF (blockAt cfg5 W 0 t) (blockAt cfg5 W 1 t) (blockAt cfg5 W 2 t) (blockAt cfg5 W 3 t) (blockAt cfg5 W 4 t) (blockAt cfg5 W 5 t) (blockAt cfg5 W 6 t) (blockAt cfg5 W 7 t) (blockAt cfg5 W 8 t) (blockAt cfg5 W 9 t)) c

theorem rest5 (c : Dev nD) : (Pipeline.ΦA spec5 c : sProp 𝕄) = iprop((((∃ d, owns (c : Thread nD τ) (Memref.whole cc5_scratch0) fullShare d) ∗ (∃ d, owns (c : Thread nD τ) (Memref.whole cc5_scratch1) fullShare d) ∗ (∃ d, owns (c : Thread nD τ) (Memref.whole cc5_scratch2) fullShare d) ∗ (∃ d, owns (c : Thread nD τ) (Memref.whole cc5_scratch3) fullShare d) ∗ (∃ d, owns (c : Thread nD τ) (Memref.whole cc5_scratch4) fullShare d))
    ∗ Pipeline.scopedRestBut spec5 c [cc5_scratch0, cc5_scratch1, cc5_scratch2, cc5_scratch3, cc5_scratch4]) ∗ (∃ r, prngReg c r)) := by
  unfold Pipeline.ΦA; rw [scopedRest5_split]; simp only [owns_whole]; try rfl

theorem same5 : (cc5__layer_body (F := F)) = cc1__layer_body := rfl

/-- and its body's obligation. -/
theorem obligation5 (W : Valuation τ sig (Elt F)) (c : Dev nD) : BodyObligation (dat5 W c) (defs₀ (F := F)) Variants.none () Set.univ := fun t => by
  rw [bigSep_W5, bigSep_W5, show defs₀ (F := F) .tc cfg5.body (cfg5.bodyArgs t (cfg5.slots t)) = bodyAt5 t by unfold defs₀; rw [Defs.onTc_tc]]
  unfold bodyAt5; rw [same5]
  exact restate c (layer_step c _ _ _ _ _ _ _ _ _ _ _ _ _ _ _ _ _ _ _ _ _ _ _ _ _ _ _ _ _ _ _ _ _ (blockAt cfg5 W 0 t) (blockAt cfg5 W 1 t) (blockAt cfg5 W 2 t) (blockAt cfg5 W 3 t) (blockAt cfg5 W 4 t) (blockAt cfg5 W 5 t) (blockAt cfg5 W 6 t) (blockAt cfg5 W 7 t) (blockAt cfg5 W 8 t) (blockAt cfg5 W 9 t) ((dat5 W c).before 0 t) ((dat5 W c).before 1 t) ((dat5 W c).before 2 t) ((dat5 W c).before 3 t) ((dat5 W c).before 4 t) ((dat5 W c).before 5 t) ((dat5 W c).before 6 t) ((dat5 W c).before 7 t) ((dat5 W c).before 8 t) ((dat5 W c).before 9 t) ((dat5 W c).before 10 t) (callDat_before cfg5 10 W _ c 0 (by decide) rfl (fun _ => rfl) (fun _ _ => rfl) t) (callDat_before cfg5 10 W _ c 1 (by decide) rfl (fun _ => rfl) (fun _ _ => rfl) t) (callDat_before cfg5 10 W _ c 2 (by decide) rfl (fun _ => rfl) (fun _ _ => rfl) t) (callDat_before cfg5 10 W _ c 3 (by decide) rfl (fun _ => rfl) (fun _ _ => rfl) t) (callDat_before cfg5 10 W _ c 4 (by decide) rfl (fun _ => rfl) (fun _ _ => rfl) t) (callDat_before cfg5 10 W _ c 5 (by decide) rfl (fun _ => rfl) (fun _ _ => rfl) t) (callDat_before cfg5 10 W _ c 6 (by decide) rfl (fun _ => rfl) (fun _ _ => rfl) t) (callDat_before cfg5 10 W _ c 7 (by decide) rfl (fun _ => rfl) (fun _ _ => rfl) t) (callDat_before cfg5 10 W _ c 8 (by decide) rfl (fun _ => rfl) (fun _ _ => rfl) t) (callDat_before cfg5 10 W _ c 9 (by decide) rfl (fun _ => rfl) (fun _ _ => rfl) t) _ _ _) rfl (rest5 c) rfl rfl

/-- Call 6's proof data over what it finds, -/
abbrev dat6 (W : Valuation τ sig (Elt F)) (c : Dev nD) : Dat τ (Elt F) Unit ℕ (UR sig nD τ) ℕ cfg6 c :=
  callDat cfg6 10 W (fun t => outF (blockAt cfg6 W 0 t) (blockAt cfg6 W 1 t) (blockAt cfg6 W 2 t) (blockAt cfg6 W 3 t) (blockAt cfg6 W 4 t) (blockAt cfg6 W 5 t) (blockAt cfg6 W 6 t) (blockAt cfg6 W 7 t) (blockAt cfg6 W 8 t) (blockAt cfg6 W 9 t)) c

theorem rest6 (c : Dev nD) : (Pipeline.ΦA spec6 c : sProp 𝕄) = iprop((((∃ d, owns (c : Thread nD τ) (Memref.whole cc6_scratch0) fullShare d) ∗ (∃ d, owns (c : Thread nD τ) (Memref.whole cc6_scratch1) fullShare d) ∗ (∃ d, owns (c : Thread nD τ) (Memref.whole cc6_scratch2) fullShare d) ∗ (∃ d, owns (c : Thread nD τ) (Memref.whole cc6_scratch3) fullShare d) ∗ (∃ d, owns (c : Thread nD τ) (Memref.whole cc6_scratch4) fullShare d))
    ∗ Pipeline.scopedRestBut spec6 c [cc6_scratch0, cc6_scratch1, cc6_scratch2, cc6_scratch3, cc6_scratch4]) ∗ (∃ r, prngReg c r)) := by
  unfold Pipeline.ΦA; rw [scopedRest6_split]; simp only [owns_whole]; try rfl

theorem same6 : (cc6__layer_body (F := F)) = cc1__layer_body := rfl

/-- and its body's obligation. -/
theorem obligation6 (W : Valuation τ sig (Elt F)) (c : Dev nD) : BodyObligation (dat6 W c) (defs₀ (F := F)) Variants.none () Set.univ := fun t => by
  rw [bigSep_W6, bigSep_W6, show defs₀ (F := F) .tc cfg6.body (cfg6.bodyArgs t (cfg6.slots t)) = bodyAt6 t by unfold defs₀; rw [Defs.onTc_tc]]
  unfold bodyAt6; rw [same6]
  exact restate c (layer_step c _ _ _ _ _ _ _ _ _ _ _ _ _ _ _ _ _ _ _ _ _ _ _ _ _ _ _ _ _ _ _ _ _ (blockAt cfg6 W 0 t) (blockAt cfg6 W 1 t) (blockAt cfg6 W 2 t) (blockAt cfg6 W 3 t) (blockAt cfg6 W 4 t) (blockAt cfg6 W 5 t) (blockAt cfg6 W 6 t) (blockAt cfg6 W 7 t) (blockAt cfg6 W 8 t) (blockAt cfg6 W 9 t) ((dat6 W c).before 0 t) ((dat6 W c).before 1 t) ((dat6 W c).before 2 t) ((dat6 W c).before 3 t) ((dat6 W c).before 4 t) ((dat6 W c).before 5 t) ((dat6 W c).before 6 t) ((dat6 W c).before 7 t) ((dat6 W c).before 8 t) ((dat6 W c).before 9 t) ((dat6 W c).before 10 t) (callDat_before cfg6 10 W _ c 0 (by decide) rfl (fun _ => rfl) (fun _ _ => rfl) t) (callDat_before cfg6 10 W _ c 1 (by decide) rfl (fun _ => rfl) (fun _ _ => rfl) t) (callDat_before cfg6 10 W _ c 2 (by decide) rfl (fun _ => rfl) (fun _ _ => rfl) t) (callDat_before cfg6 10 W _ c 3 (by decide) rfl (fun _ => rfl) (fun _ _ => rfl) t) (callDat_before cfg6 10 W _ c 4 (by decide) rfl (fun _ => rfl) (fun _ _ => rfl) t) (callDat_before cfg6 10 W _ c 5 (by decide) rfl (fun _ => rfl) (fun _ _ => rfl) t) (callDat_before cfg6 10 W _ c 6 (by decide) rfl (fun _ => rfl) (fun _ _ => rfl) t) (callDat_before cfg6 10 W _ c 7 (by decide) rfl (fun _ => rfl) (fun _ _ => rfl) t) (callDat_before cfg6 10 W _ c 8 (by decide) rfl (fun _ => rfl) (fun _ _ => rfl) t) (callDat_before cfg6 10 W _ c 9 (by decide) rfl (fun _ => rfl) (fun _ _ => rfl) t) _ _ _) rfl (rest6 c) rfl rfl

/-- Call 7's proof data over what it finds, -/
abbrev dat7 (W : Valuation τ sig (Elt F)) (c : Dev nD) : Dat τ (Elt F) Unit ℕ (UR sig nD τ) ℕ cfg7 c :=
  callDat cfg7 10 W (fun t => outF (blockAt cfg7 W 0 t) (blockAt cfg7 W 1 t) (blockAt cfg7 W 2 t) (blockAt cfg7 W 3 t) (blockAt cfg7 W 4 t) (blockAt cfg7 W 5 t) (blockAt cfg7 W 6 t) (blockAt cfg7 W 7 t) (blockAt cfg7 W 8 t) (blockAt cfg7 W 9 t)) c

theorem rest7 (c : Dev nD) : (Pipeline.ΦA spec7 c : sProp 𝕄) = iprop((((∃ d, owns (c : Thread nD τ) (Memref.whole cc7_scratch0) fullShare d) ∗ (∃ d, owns (c : Thread nD τ) (Memref.whole cc7_scratch1) fullShare d) ∗ (∃ d, owns (c : Thread nD τ) (Memref.whole cc7_scratch2) fullShare d) ∗ (∃ d, owns (c : Thread nD τ) (Memref.whole cc7_scratch3) fullShare d) ∗ (∃ d, owns (c : Thread nD τ) (Memref.whole cc7_scratch4) fullShare d))
    ∗ Pipeline.scopedRestBut spec7 c [cc7_scratch0, cc7_scratch1, cc7_scratch2, cc7_scratch3, cc7_scratch4]) ∗ (∃ r, prngReg c r)) := by
  unfold Pipeline.ΦA; rw [scopedRest7_split]; simp only [owns_whole]; try rfl

theorem same7 : (cc7__layer_body (F := F)) = cc1__layer_body := rfl

/-- and its body's obligation. -/
theorem obligation7 (W : Valuation τ sig (Elt F)) (c : Dev nD) : BodyObligation (dat7 W c) (defs₀ (F := F)) Variants.none () Set.univ := fun t => by
  rw [bigSep_W7, bigSep_W7, show defs₀ (F := F) .tc cfg7.body (cfg7.bodyArgs t (cfg7.slots t)) = bodyAt7 t by unfold defs₀; rw [Defs.onTc_tc]]
  unfold bodyAt7; rw [same7]
  exact restate c (layer_step c _ _ _ _ _ _ _ _ _ _ _ _ _ _ _ _ _ _ _ _ _ _ _ _ _ _ _ _ _ _ _ _ _ (blockAt cfg7 W 0 t) (blockAt cfg7 W 1 t) (blockAt cfg7 W 2 t) (blockAt cfg7 W 3 t) (blockAt cfg7 W 4 t) (blockAt cfg7 W 5 t) (blockAt cfg7 W 6 t) (blockAt cfg7 W 7 t) (blockAt cfg7 W 8 t) (blockAt cfg7 W 9 t) ((dat7 W c).before 0 t) ((dat7 W c).before 1 t) ((dat7 W c).before 2 t) ((dat7 W c).before 3 t) ((dat7 W c).before 4 t) ((dat7 W c).before 5 t) ((dat7 W c).before 6 t) ((dat7 W c).before 7 t) ((dat7 W c).before 8 t) ((dat7 W c).before 9 t) ((dat7 W c).before 10 t) (callDat_before cfg7 10 W _ c 0 (by decide) rfl (fun _ => rfl) (fun _ _ => rfl) t) (callDat_before cfg7 10 W _ c 1 (by decide) rfl (fun _ => rfl) (fun _ _ => rfl) t) (callDat_before cfg7 10 W _ c 2 (by decide) rfl (fun _ => rfl) (fun _ _ => rfl) t) (callDat_before cfg7 10 W _ c 3 (by decide) rfl (fun _ => rfl) (fun _ _ => rfl) t) (callDat_before cfg7 10 W _ c 4 (by decide) rfl (fun _ => rfl) (fun _ _ => rfl) t) (callDat_before cfg7 10 W _ c 5 (by decide) rfl (fun _ => rfl) (fun _ _ => rfl) t) (callDat_before cfg7 10 W _ c 6 (by decide) rfl (fun _ => rfl) (fun _ _ => rfl) t) (callDat_before cfg7 10 W _ c 7 (by decide) rfl (fun _ => rfl) (fun _ _ => rfl) t) (callDat_before cfg7 10 W _ c 8 (by decide) rfl (fun _ => rfl) (fun _ _ => rfl) t) (callDat_before cfg7 10 W _ c 9 (by decide) rfl (fun _ => rfl) (fun _ _ => rfl) t) _ _ _) rfl (rest7 c) rfl rfl

/-- Call 8's proof data over what it finds, -/
abbrev dat8 (W : Valuation τ sig (Elt F)) (c : Dev nD) : Dat τ (Elt F) Unit ℕ (UR sig nD τ) ℕ cfg8 c :=
  callDat cfg8 10 W (fun t => outF (blockAt cfg8 W 0 t) (blockAt cfg8 W 1 t) (blockAt cfg8 W 2 t) (blockAt cfg8 W 3 t) (blockAt cfg8 W 4 t) (blockAt cfg8 W 5 t) (blockAt cfg8 W 6 t) (blockAt cfg8 W 7 t) (blockAt cfg8 W 8 t) (blockAt cfg8 W 9 t)) c

theorem rest8 (c : Dev nD) : (Pipeline.ΦA spec8 c : sProp 𝕄) = iprop((((∃ d, owns (c : Thread nD τ) (Memref.whole cc8_scratch0) fullShare d) ∗ (∃ d, owns (c : Thread nD τ) (Memref.whole cc8_scratch1) fullShare d) ∗ (∃ d, owns (c : Thread nD τ) (Memref.whole cc8_scratch2) fullShare d) ∗ (∃ d, owns (c : Thread nD τ) (Memref.whole cc8_scratch3) fullShare d) ∗ (∃ d, owns (c : Thread nD τ) (Memref.whole cc8_scratch4) fullShare d))
    ∗ Pipeline.scopedRestBut spec8 c [cc8_scratch0, cc8_scratch1, cc8_scratch2, cc8_scratch3, cc8_scratch4]) ∗ (∃ r, prngReg c r)) := by
  unfold Pipeline.ΦA; rw [scopedRest8_split]; simp only [owns_whole]; try rfl

theorem same8 : (cc8__layer_body (F := F)) = cc1__layer_body := rfl

/-- and its body's obligation. -/
theorem obligation8 (W : Valuation τ sig (Elt F)) (c : Dev nD) : BodyObligation (dat8 W c) (defs₀ (F := F)) Variants.none () Set.univ := fun t => by
  rw [bigSep_W8, bigSep_W8, show defs₀ (F := F) .tc cfg8.body (cfg8.bodyArgs t (cfg8.slots t)) = bodyAt8 t by unfold defs₀; rw [Defs.onTc_tc]]
  unfold bodyAt8; rw [same8]
  exact restate c (layer_step c _ _ _ _ _ _ _ _ _ _ _ _ _ _ _ _ _ _ _ _ _ _ _ _ _ _ _ _ _ _ _ _ _ (blockAt cfg8 W 0 t) (blockAt cfg8 W 1 t) (blockAt cfg8 W 2 t) (blockAt cfg8 W 3 t) (blockAt cfg8 W 4 t) (blockAt cfg8 W 5 t) (blockAt cfg8 W 6 t) (blockAt cfg8 W 7 t) (blockAt cfg8 W 8 t) (blockAt cfg8 W 9 t) ((dat8 W c).before 0 t) ((dat8 W c).before 1 t) ((dat8 W c).before 2 t) ((dat8 W c).before 3 t) ((dat8 W c).before 4 t) ((dat8 W c).before 5 t) ((dat8 W c).before 6 t) ((dat8 W c).before 7 t) ((dat8 W c).before 8 t) ((dat8 W c).before 9 t) ((dat8 W c).before 10 t) (callDat_before cfg8 10 W _ c 0 (by decide) rfl (fun _ => rfl) (fun _ _ => rfl) t) (callDat_before cfg8 10 W _ c 1 (by decide) rfl (fun _ => rfl) (fun _ _ => rfl) t) (callDat_before cfg8 10 W _ c 2 (by decide) rfl (fun _ => rfl) (fun _ _ => rfl) t) (callDat_before cfg8 10 W _ c 3 (by decide) rfl (fun _ => rfl) (fun _ _ => rfl) t) (callDat_before cfg8 10 W _ c 4 (by decide) rfl (fun _ => rfl) (fun _ _ => rfl) t) (callDat_before cfg8 10 W _ c 5 (by decide) rfl (fun _ => rfl) (fun _ _ => rfl) t) (callDat_before cfg8 10 W _ c 6 (by decide) rfl (fun _ => rfl) (fun _ _ => rfl) t) (callDat_before cfg8 10 W _ c 7 (by decide) rfl (fun _ => rfl) (fun _ _ => rfl) t) (callDat_before cfg8 10 W _ c 8 (by decide) rfl (fun _ => rfl) (fun _ _ => rfl) t) (callDat_before cfg8 10 W _ c 9 (by decide) rfl (fun _ => rfl) (fun _ _ => rfl) t) _ _ _) rfl (rest8 c) rfl rfl

/-- Call 9's proof data over what it finds, -/
abbrev dat9 (W : Valuation τ sig (Elt F)) (c : Dev nD) : Dat τ (Elt F) Unit ℕ (UR sig nD τ) ℕ cfg9 c :=
  callDat cfg9 10 W (fun t => outF (blockAt cfg9 W 0 t) (blockAt cfg9 W 1 t) (blockAt cfg9 W 2 t) (blockAt cfg9 W 3 t) (blockAt cfg9 W 4 t) (blockAt cfg9 W 5 t) (blockAt cfg9 W 6 t) (blockAt cfg9 W 7 t) (blockAt cfg9 W 8 t) (blockAt cfg9 W 9 t)) c

theorem rest9 (c : Dev nD) : (Pipeline.ΦA spec9 c : sProp 𝕄) = iprop((((∃ d, owns (c : Thread nD τ) (Memref.whole cc9_scratch0) fullShare d) ∗ (∃ d, owns (c : Thread nD τ) (Memref.whole cc9_scratch1) fullShare d) ∗ (∃ d, owns (c : Thread nD τ) (Memref.whole cc9_scratch2) fullShare d) ∗ (∃ d, owns (c : Thread nD τ) (Memref.whole cc9_scratch3) fullShare d) ∗ (∃ d, owns (c : Thread nD τ) (Memref.whole cc9_scratch4) fullShare d))
    ∗ Pipeline.scopedRestBut spec9 c [cc9_scratch0, cc9_scratch1, cc9_scratch2, cc9_scratch3, cc9_scratch4]) ∗ (∃ r, prngReg c r)) := by
  unfold Pipeline.ΦA; rw [scopedRest9_split]; simp only [owns_whole]; try rfl

theorem same9 : (cc9__layer_body (F := F)) = cc1__layer_body := rfl

/-- and its body's obligation. -/
theorem obligation9 (W : Valuation τ sig (Elt F)) (c : Dev nD) : BodyObligation (dat9 W c) (defs₀ (F := F)) Variants.none () Set.univ := fun t => by
  rw [bigSep_W9, bigSep_W9, show defs₀ (F := F) .tc cfg9.body (cfg9.bodyArgs t (cfg9.slots t)) = bodyAt9 t by unfold defs₀; rw [Defs.onTc_tc]]
  unfold bodyAt9; rw [same9]
  exact restate c (layer_step c _ _ _ _ _ _ _ _ _ _ _ _ _ _ _ _ _ _ _ _ _ _ _ _ _ _ _ _ _ _ _ _ _ (blockAt cfg9 W 0 t) (blockAt cfg9 W 1 t) (blockAt cfg9 W 2 t) (blockAt cfg9 W 3 t) (blockAt cfg9 W 4 t) (blockAt cfg9 W 5 t) (blockAt cfg9 W 6 t) (blockAt cfg9 W 7 t) (blockAt cfg9 W 8 t) (blockAt cfg9 W 9 t) ((dat9 W c).before 0 t) ((dat9 W c).before 1 t) ((dat9 W c).before 2 t) ((dat9 W c).before 3 t) ((dat9 W c).before 4 t) ((dat9 W c).before 5 t) ((dat9 W c).before 6 t) ((dat9 W c).before 7 t) ((dat9 W c).before 8 t) ((dat9 W c).before 9 t) ((dat9 W c).before 10 t) (callDat_before cfg9 10 W _ c 0 (by decide) rfl (fun _ => rfl) (fun _ _ => rfl) t) (callDat_before cfg9 10 W _ c 1 (by decide) rfl (fun _ => rfl) (fun _ _ => rfl) t) (callDat_before cfg9 10 W _ c 2 (by decide) rfl (fun _ => rfl) (fun _ _ => rfl) t) (callDat_before cfg9 10 W _ c 3 (by decide) rfl (fun _ => rfl) (fun _ _ => rfl) t) (callDat_before cfg9 10 W _ c 4 (by decide) rfl (fun _ => rfl) (fun _ _ => rfl) t) (callDat_before cfg9 10 W _ c 5 (by decide) rfl (fun _ => rfl) (fun _ _ => rfl) t) (callDat_before cfg9 10 W _ c 6 (by decide) rfl (fun _ => rfl) (fun _ _ => rfl) t) (callDat_before cfg9 10 W _ c 7 (by decide) rfl (fun _ => rfl) (fun _ _ => rfl) t) (callDat_before cfg9 10 W _ c 8 (by decide) rfl (fun _ => rfl) (fun _ _ => rfl) t) (callDat_before cfg9 10 W _ c 9 (by decide) rfl (fun _ => rfl) (fun _ _ => rfl) t) _ _ _) rfl (rest9 c) rfl rfl

/-- Call 10's proof data over what it finds, -/
abbrev dat10 (W : Valuation τ sig (Elt F)) (c : Dev nD) : Dat τ (Elt F) Unit ℕ (UR sig nD τ) ℕ cfg10 c :=
  callDat cfg10 10 W (fun t => outF (blockAt cfg10 W 0 t) (blockAt cfg10 W 1 t) (blockAt cfg10 W 2 t) (blockAt cfg10 W 3 t) (blockAt cfg10 W 4 t) (blockAt cfg10 W 5 t) (blockAt cfg10 W 6 t) (blockAt cfg10 W 7 t) (blockAt cfg10 W 8 t) (blockAt cfg10 W 9 t)) c

theorem rest10 (c : Dev nD) : (Pipeline.ΦA spec10 c : sProp 𝕄) = iprop((((∃ d, owns (c : Thread nD τ) (Memref.whole cc10_scratch0) fullShare d) ∗ (∃ d, owns (c : Thread nD τ) (Memref.whole cc10_scratch1) fullShare d) ∗ (∃ d, owns (c : Thread nD τ) (Memref.whole cc10_scratch2) fullShare d) ∗ (∃ d, owns (c : Thread nD τ) (Memref.whole cc10_scratch3) fullShare d) ∗ (∃ d, owns (c : Thread nD τ) (Memref.whole cc10_scratch4) fullShare d))
    ∗ Pipeline.scopedRestBut spec10 c [cc10_scratch0, cc10_scratch1, cc10_scratch2, cc10_scratch3, cc10_scratch4]) ∗ (∃ r, prngReg c r)) := by
  unfold Pipeline.ΦA; rw [scopedRest10_split]; simp only [owns_whole]; try rfl

theorem same10 : (cc10__layer_body (F := F)) = cc1__layer_body := rfl

/-- and its body's obligation. -/
theorem obligation10 (W : Valuation τ sig (Elt F)) (c : Dev nD) : BodyObligation (dat10 W c) (defs₀ (F := F)) Variants.none () Set.univ := fun t => by
  rw [bigSep_W10, bigSep_W10, show defs₀ (F := F) .tc cfg10.body (cfg10.bodyArgs t (cfg10.slots t)) = bodyAt10 t by unfold defs₀; rw [Defs.onTc_tc]]
  unfold bodyAt10; rw [same10]
  exact restate c (layer_step c _ _ _ _ _ _ _ _ _ _ _ _ _ _ _ _ _ _ _ _ _ _ _ _ _ _ _ _ _ _ _ _ _ (blockAt cfg10 W 0 t) (blockAt cfg10 W 1 t) (blockAt cfg10 W 2 t) (blockAt cfg10 W 3 t) (blockAt cfg10 W 4 t) (blockAt cfg10 W 5 t) (blockAt cfg10 W 6 t) (blockAt cfg10 W 7 t) (blockAt cfg10 W 8 t) (blockAt cfg10 W 9 t) ((dat10 W c).before 0 t) ((dat10 W c).before 1 t) ((dat10 W c).before 2 t) ((dat10 W c).before 3 t) ((dat10 W c).before 4 t) ((dat10 W c).before 5 t) ((dat10 W c).before 6 t) ((dat10 W c).before 7 t) ((dat10 W c).before 8 t) ((dat10 W c).before 9 t) ((dat10 W c).before 10 t) (callDat_before cfg10 10 W _ c 0 (by decide) rfl (fun _ => rfl) (fun _ _ => rfl) t) (callDat_before cfg10 10 W _ c 1 (by decide) rfl (fun _ => rfl) (fun _ _ => rfl) t) (callDat_before cfg10 10 W _ c 2 (by decide) rfl (fun _ => rfl) (fun _ _ => rfl) t) (callDat_before cfg10 10 W _ c 3 (by decide) rfl (fun _ => rfl) (fun _ _ => rfl) t) (callDat_before cfg10 10 W _ c 4 (by decide) rfl (fun _ => rfl) (fun _ _ => rfl) t) (callDat_before cfg10 10 W _ c 5 (by decide) rfl (fun _ => rfl) (fun _ _ => rfl) t) (callDat_before cfg10 10 W _ c 6 (by decide) rfl (fun _ => rfl) (fun _ _ => rfl) t) (callDat_before cfg10 10 W _ c 7 (by decide) rfl (fun _ => rfl) (fun _ _ => rfl) t) (callDat_before cfg10 10 W _ c 8 (by decide) rfl (fun _ => rfl) (fun _ _ => rfl) t) (callDat_before cfg10 10 W _ c 9 (by decide) rfl (fun _ => rfl) (fun _ _ => rfl) t) _ _ _) rfl (rest10 c) rfl rfl

/-- Call 11's proof data over what it finds, -/
abbrev dat11 (W : Valuation τ sig (Elt F)) (c : Dev nD) : Dat τ (Elt F) Unit ℕ (UR sig nD τ) ℕ cfg11 c :=
  callDat cfg11 10 W (fun t => outF (blockAt cfg11 W 0 t) (blockAt cfg11 W 1 t) (blockAt cfg11 W 2 t) (blockAt cfg11 W 3 t) (blockAt cfg11 W 4 t) (blockAt cfg11 W 5 t) (blockAt cfg11 W 6 t) (blockAt cfg11 W 7 t) (blockAt cfg11 W 8 t) (blockAt cfg11 W 9 t)) c

theorem rest11 (c : Dev nD) : (Pipeline.ΦA spec11 c : sProp 𝕄) = iprop((((∃ d, owns (c : Thread nD τ) (Memref.whole cc11_scratch0) fullShare d) ∗ (∃ d, owns (c : Thread nD τ) (Memref.whole cc11_scratch1) fullShare d) ∗ (∃ d, owns (c : Thread nD τ) (Memref.whole cc11_scratch2) fullShare d) ∗ (∃ d, owns (c : Thread nD τ) (Memref.whole cc11_scratch3) fullShare d) ∗ (∃ d, owns (c : Thread nD τ) (Memref.whole cc11_scratch4) fullShare d))
    ∗ Pipeline.scopedRestBut spec11 c [cc11_scratch0, cc11_scratch1, cc11_scratch2, cc11_scratch3, cc11_scratch4]) ∗ (∃ r, prngReg c r)) := by
  unfold Pipeline.ΦA; rw [scopedRest11_split]; simp only [owns_whole]; try rfl

theorem same11 : (cc11__layer_body (F := F)) = cc1__layer_body := rfl

/-- and its body's obligation. -/
theorem obligation11 (W : Valuation τ sig (Elt F)) (c : Dev nD) : BodyObligation (dat11 W c) (defs₀ (F := F)) Variants.none () Set.univ := fun t => by
  rw [bigSep_W11, bigSep_W11, show defs₀ (F := F) .tc cfg11.body (cfg11.bodyArgs t (cfg11.slots t)) = bodyAt11 t by unfold defs₀; rw [Defs.onTc_tc]]
  unfold bodyAt11; rw [same11]
  exact restate c (layer_step c _ _ _ _ _ _ _ _ _ _ _ _ _ _ _ _ _ _ _ _ _ _ _ _ _ _ _ _ _ _ _ _ _ (blockAt cfg11 W 0 t) (blockAt cfg11 W 1 t) (blockAt cfg11 W 2 t) (blockAt cfg11 W 3 t) (blockAt cfg11 W 4 t) (blockAt cfg11 W 5 t) (blockAt cfg11 W 6 t) (blockAt cfg11 W 7 t) (blockAt cfg11 W 8 t) (blockAt cfg11 W 9 t) ((dat11 W c).before 0 t) ((dat11 W c).before 1 t) ((dat11 W c).before 2 t) ((dat11 W c).before 3 t) ((dat11 W c).before 4 t) ((dat11 W c).before 5 t) ((dat11 W c).before 6 t) ((dat11 W c).before 7 t) ((dat11 W c).before 8 t) ((dat11 W c).before 9 t) ((dat11 W c).before 10 t) (callDat_before cfg11 10 W _ c 0 (by decide) rfl (fun _ => rfl) (fun _ _ => rfl) t) (callDat_before cfg11 10 W _ c 1 (by decide) rfl (fun _ => rfl) (fun _ _ => rfl) t) (callDat_before cfg11 10 W _ c 2 (by decide) rfl (fun _ => rfl) (fun _ _ => rfl) t) (callDat_before cfg11 10 W _ c 3 (by decide) rfl (fun _ => rfl) (fun _ _ => rfl) t) (callDat_before cfg11 10 W _ c 4 (by decide) rfl (fun _ => rfl) (fun _ _ => rfl) t) (callDat_before cfg11 10 W _ c 5 (by decide) rfl (fun _ => rfl) (fun _ _ => rfl) t) (callDat_before cfg11 10 W _ c 6 (by decide) rfl (fun _ => rfl) (fun _ _ => rfl) t) (callDat_before cfg11 10 W _ c 7 (by decide) rfl (fun _ => rfl) (fun _ _ => rfl) t) (callDat_before cfg11 10 W _ c 8 (by decide) rfl (fun _ => rfl) (fun _ _ => rfl) t) (callDat_before cfg11 10 W _ c 9 (by decide) rfl (fun _ => rfl) (fun _ _ => rfl) t) _ _ _) rfl (rest11 c) rfl rfl

/-- Call 12's proof data over what it finds, -/
abbrev dat12 (W : Valuation τ sig (Elt F)) (c : Dev nD) : Dat τ (Elt F) Unit ℕ (UR sig nD τ) ℕ cfg12 c :=
  callDat cfg12 10 W (fun t => outF (blockAt cfg12 W 0 t) (blockAt cfg12 W 1 t) (blockAt cfg12 W 2 t) (blockAt cfg12 W 3 t) (blockAt cfg12 W 4 t) (blockAt cfg12 W 5 t) (blockAt cfg12 W 6 t) (blockAt cfg12 W 7 t) (blockAt cfg12 W 8 t) (blockAt cfg12 W 9 t)) c

theorem rest12 (c : Dev nD) : (Pipeline.ΦA spec12 c : sProp 𝕄) = iprop((((∃ d, owns (c : Thread nD τ) (Memref.whole cc12_scratch0) fullShare d) ∗ (∃ d, owns (c : Thread nD τ) (Memref.whole cc12_scratch1) fullShare d) ∗ (∃ d, owns (c : Thread nD τ) (Memref.whole cc12_scratch2) fullShare d) ∗ (∃ d, owns (c : Thread nD τ) (Memref.whole cc12_scratch3) fullShare d) ∗ (∃ d, owns (c : Thread nD τ) (Memref.whole cc12_scratch4) fullShare d))
    ∗ Pipeline.scopedRestBut spec12 c [cc12_scratch0, cc12_scratch1, cc12_scratch2, cc12_scratch3, cc12_scratch4]) ∗ (∃ r, prngReg c r)) := by
  unfold Pipeline.ΦA; rw [scopedRest12_split]; simp only [owns_whole]; try rfl

theorem same12 : (cc12__layer_body (F := F)) = cc1__layer_body := rfl

/-- and its body's obligation. -/
theorem obligation12 (W : Valuation τ sig (Elt F)) (c : Dev nD) : BodyObligation (dat12 W c) (defs₀ (F := F)) Variants.none () Set.univ := fun t => by
  rw [bigSep_W12, bigSep_W12, show defs₀ (F := F) .tc cfg12.body (cfg12.bodyArgs t (cfg12.slots t)) = bodyAt12 t by unfold defs₀; rw [Defs.onTc_tc]]
  unfold bodyAt12; rw [same12]
  exact restate c (layer_step c _ _ _ _ _ _ _ _ _ _ _ _ _ _ _ _ _ _ _ _ _ _ _ _ _ _ _ _ _ _ _ _ _ (blockAt cfg12 W 0 t) (blockAt cfg12 W 1 t) (blockAt cfg12 W 2 t) (blockAt cfg12 W 3 t) (blockAt cfg12 W 4 t) (blockAt cfg12 W 5 t) (blockAt cfg12 W 6 t) (blockAt cfg12 W 7 t) (blockAt cfg12 W 8 t) (blockAt cfg12 W 9 t) ((dat12 W c).before 0 t) ((dat12 W c).before 1 t) ((dat12 W c).before 2 t) ((dat12 W c).before 3 t) ((dat12 W c).before 4 t) ((dat12 W c).before 5 t) ((dat12 W c).before 6 t) ((dat12 W c).before 7 t) ((dat12 W c).before 8 t) ((dat12 W c).before 9 t) ((dat12 W c).before 10 t) (callDat_before cfg12 10 W _ c 0 (by decide) rfl (fun _ => rfl) (fun _ _ => rfl) t) (callDat_before cfg12 10 W _ c 1 (by decide) rfl (fun _ => rfl) (fun _ _ => rfl) t) (callDat_before cfg12 10 W _ c 2 (by decide) rfl (fun _ => rfl) (fun _ _ => rfl) t) (callDat_before cfg12 10 W _ c 3 (by decide) rfl (fun _ => rfl) (fun _ _ => rfl) t) (callDat_before cfg12 10 W _ c 4 (by decide) rfl (fun _ => rfl) (fun _ _ => rfl) t) (callDat_before cfg12 10 W _ c 5 (by decide) rfl (fun _ => rfl) (fun _ _ => rfl) t) (callDat_before cfg12 10 W _ c 6 (by decide) rfl (fun _ => rfl) (fun _ _ => rfl) t) (callDat_before cfg12 10 W _ c 7 (by decide) rfl (fun _ => rfl) (fun _ _ => rfl) t) (callDat_before cfg12 10 W _ c 8 (by decide) rfl (fun _ => rfl) (fun _ _ => rfl) t) (callDat_before cfg12 10 W _ c 9 (by decide) rfl (fun _ => rfl) (fun _ _ => rfl) t) _ _ _) rfl (rest12 c) rfl rfl

/-- Call 13's proof data over what it finds, -/
abbrev dat13 (W : Valuation τ sig (Elt F)) (c : Dev nD) : Dat τ (Elt F) Unit ℕ (UR sig nD τ) ℕ cfg13 c :=
  callDat cfg13 3 W (fun t => k13_pay1 (blockAt cfg13 W 0 t) (blockAt cfg13 W 1 t) (blockAt cfg13 W 2 t)) c

/-- and its body's obligation. -/
theorem obligation13 (W : Valuation τ sig (Elt F)) (c : Dev nD) : BodyObligation (dat13 W c) (defs₀ (F := F)) Variants.none () Set.univ := fun t => by
  rw [bigSep_W13, bigSep_W13, show defs₀ (F := F) .tc cfg13.body (cfg13.bodyArgs t (cfg13.slots t)) = bodyAt13 t by unfold defs₀; rw [Defs.onTc_tc]]
  unfold bodyAt13
  exact restate c (norm_step c _ _ _ _ _ _ _ _ _ (blockAt cfg13 W 0 t) (blockAt cfg13 W 1 t) (blockAt cfg13 W 2 t) ((dat13 W c).before 0 t) ((dat13 W c).before 1 t) ((dat13 W c).before 2 t) ((dat13 W c).before 3 t) (callDat_before cfg13 3 W _ c 0 (by decide) rfl (fun _ => rfl) (fun _ _ => rfl) t) (callDat_before cfg13 3 W _ c 1 (by decide) rfl (fun _ => rfl) (fun _ _ => rfl) t) (callDat_before cfg13 3 W _ c 2 (by decide) rfl (fun _ => rfl) (fun _ _ => rfl) t) _ _) rfl rfl rfl rfl

end Cert.KernelIdeal.Val

end
-- ==== Proof.Run.lean ====
module

public import proofs.«01_k».proof.Proof.Calls
public import proofs.«01_k».proof.Proof.Gen.KernelIdeal.Regions

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

/-! # The run of the whole program

The fourteen calls and the host stretches before them, from the launch to the end: every unscoped buffer ends at the
contents that the last call leaves (`after13`). -/

local notation "𝕄" => MT nD τ sig Unit (Elt F) ℕ (UR sig nD τ) ℕ

variable (m : (ℓ : Loc nD τ sig) → Buf (Elt F) ℓ) (ρ : Dev nD → PrngReg)

/-! ## The contents before and after each call -/

/-- A device's buffers at the launch. -/
def start (c : Dev nD) : Valuation τ sig (Elt F) := fun b => m (c, b)

def before0 (c : Dev nD) : Valuation τ sig (Elt F) := StableHlo.after hostOps0 (start m c)
def after0 (c : Dev nD) : Valuation τ sig (Elt F) := Pipeline.afterRegion (dat0 (before0 m c) c) (before0 m c)
def before1 (c : Dev nD) : Valuation τ sig (Elt F) := StableHlo.after hostOps1 (after0 m c)
def after1 (c : Dev nD) : Valuation τ sig (Elt F) := Pipeline.afterRegion (dat1 (before1 m c) c) (before1 m c)
def before2 (c : Dev nD) : Valuation τ sig (Elt F) := StableHlo.after hostOps2 (after1 m c)
def after2 (c : Dev nD) : Valuation τ sig (Elt F) := Pipeline.afterRegion (dat2 (before2 m c) c) (before2 m c)
def before3 (c : Dev nD) : Valuation τ sig (Elt F) := StableHlo.after hostOps3 (after2 m c)
def after3 (c : Dev nD) : Valuation τ sig (Elt F) := Pipeline.afterRegion (dat3 (before3 m c) c) (before3 m c)
def before4 (c : Dev nD) : Valuation τ sig (Elt F) := StableHlo.after hostOps4 (after3 m c)
def after4 (c : Dev nD) : Valuation τ sig (Elt F) := Pipeline.afterRegion (dat4 (before4 m c) c) (before4 m c)
def before5 (c : Dev nD) : Valuation τ sig (Elt F) := StableHlo.after hostOps5 (after4 m c)
def after5 (c : Dev nD) : Valuation τ sig (Elt F) := Pipeline.afterRegion (dat5 (before5 m c) c) (before5 m c)
def before6 (c : Dev nD) : Valuation τ sig (Elt F) := StableHlo.after hostOps6 (after5 m c)
def after6 (c : Dev nD) : Valuation τ sig (Elt F) := Pipeline.afterRegion (dat6 (before6 m c) c) (before6 m c)
def before7 (c : Dev nD) : Valuation τ sig (Elt F) := StableHlo.after hostOps7 (after6 m c)
def after7 (c : Dev nD) : Valuation τ sig (Elt F) := Pipeline.afterRegion (dat7 (before7 m c) c) (before7 m c)
def before8 (c : Dev nD) : Valuation τ sig (Elt F) := StableHlo.after hostOps8 (after7 m c)
def after8 (c : Dev nD) : Valuation τ sig (Elt F) := Pipeline.afterRegion (dat8 (before8 m c) c) (before8 m c)
def before9 (c : Dev nD) : Valuation τ sig (Elt F) := StableHlo.after hostOps9 (after8 m c)
def after9 (c : Dev nD) : Valuation τ sig (Elt F) := Pipeline.afterRegion (dat9 (before9 m c) c) (before9 m c)
def before10 (c : Dev nD) : Valuation τ sig (Elt F) := StableHlo.after hostOps10 (after9 m c)
def after10 (c : Dev nD) : Valuation τ sig (Elt F) := Pipeline.afterRegion (dat10 (before10 m c) c) (before10 m c)
def before11 (c : Dev nD) : Valuation τ sig (Elt F) := StableHlo.after hostOps11 (after10 m c)
def after11 (c : Dev nD) : Valuation τ sig (Elt F) := Pipeline.afterRegion (dat11 (before11 m c) c) (before11 m c)
def before12 (c : Dev nD) : Valuation τ sig (Elt F) := StableHlo.after hostOps12 (after11 m c)
def after12 (c : Dev nD) : Valuation τ sig (Elt F) := Pipeline.afterRegion (dat12 (before12 m c) c) (before12 m c)
def before13 (c : Dev nD) : Valuation τ sig (Elt F) := StableHlo.after hostOps13 (after12 m c)
def after13 (c : Dev nD) : Valuation τ sig (Elt F) := Pipeline.afterRegion (dat13 (before13 m c) c) (before13 m c)

/-- The calls' proof data. -/
def pdats : (p : Fin 14) → (c : Dev nD) → Dat τ (Elt F) Unit ℕ (UR sig nD τ) ℕ (cfgs p) c
  | 0 => fun c => dat0 (before0 m c) c
  | 1 => fun c => dat1 (before1 m c) c
  | 2 => fun c => dat2 (before2 m c) c
  | 3 => fun c => dat3 (before3 m c) c
  | 4 => fun c => dat4 (before4 m c) c
  | 5 => fun c => dat5 (before5 m c) c
  | 6 => fun c => dat6 (before6 m c) c
  | 7 => fun c => dat7 (before7 m c) c
  | 8 => fun c => dat8 (before8 m c) c
  | 9 => fun c => dat9 (before9 m c) c
  | 10 => fun c => dat10 (before10 m c) c
  | 11 => fun c => dat11 (before11 m c) c
  | 12 => fun c => dat12 (before12 m c) c
  | 13 => fun c => dat13 (before13 m c) c

/-! ## The segments -/

/-- The one index of waits, at every cell of a TensorCore. -/
def L (g : GSem nD τ sig) : Finset Unit := if g.1.2 = .tc then {()} else ∅
def lv (_ : GSem nD τ sig) (_ : Unit) : ℕ := 0

/-- What the core carries beside the buffers: it owes nothing, and its generator's register. -/
def rest (c : Dev nD) : sProp 𝕄 :=
  iprop((∃ Wd, owes (c : Thread nD τ) (0 : CellTallies nD τ sig Unit) Wd) ∗ (∃ r, prngReg c r) ∗ emp)

/-- A call as a segment, entered at the contents `W`. -/
def callSeg (p : Fin 14) (kit : Pipeline.LaunchFacts (nD := nD) (τ := τ) cfgs p) (W : Dev nD → Valuation τ sig (Elt F))
    (hbody : ∀ c, BodyObligation (pdats m p c) (defs₀ (F := F)) Variants.none () Set.univ)
    (hΦ : ∀ c t, (pdats m p c).Φ t = Pipeline.ΦA (cfgs p).spec c) (howed : ∀ c t, (pdats m p c).owed t = 0)
    (hrec : ∀ c, (pdats m p c).recorded 0 = Set.univ) (hshare : ∀ c w, (pdats m p c).share w = fullShare)
    (hW : ∀ c w, (pdats m p c).arrAt w 0 = W c (Proc.devRef .tc (Pipeline.arrRef (cfgs p).spec w))) :
    RegionSeg (pcfgs (F := F)) adm (pdats m) () defs₀ Variants.none L lv p :=
  RegionSeg.ofHeldIn (pcfgs (F := F)) adm (pdats m) () defs₀ Variants.none L lv p (fun _ => 0) (Pipeline.ucRefs τ sig)
    (fun c => iprop(∃ r, prngReg c r)) (fun c => iprop(∃ r, prngReg c r)) kit.toP rfl (fun c => (hbody c).loose) howed hrec hshare
    (fun c => by rw [hΦ]; exact .rfl) (fun c => by rw [hΦ]; exact .rfl) (fun _ => 0)
    ⟨fun _ _ _ => by unfold L; rw [if_pos rfl]; exact Finset.mem_singleton_self _, fun _ _ _ => le_rfl, fun _ _ _ h => absurd h (lt_irrefl 0)⟩
    (fun _ => iprop(emp)) W hW

theorem arrays_unscoped (p : Fin 14) (kit : Pipeline.LaunchFacts (nD := nD) (τ := τ) cfgs p) :
    Pipeline.arrRefs (τ := τ) (pcfgs (F := F) p).spec ⊆ Pipeline.ucRefs τ sig :=
  Pipeline.arrRefs_sub_ucRefs _ (kit.toP (Val := Elt F)).win.arr_unscoped

theorem callSeg_pre {p : Fin 14} {kit} {W : Dev nD → Valuation τ sig (Elt F)} {hbody hΦ howed hrec hshare hW} (c : Dev nD) :
    iprop(StableHlo.held (c : Thread nD τ) (Pipeline.ucRefs τ sig) (W c) ∗ rest c) ⊢ (callSeg m p kit W hbody hΦ howed hrec hshare hW).pre c := by
  unfold rest callSeg
  exact RegionSeg.ofHeldIn_pre (pcs := pcfgs (F := F)) (a := adm) (pdats := pdats m) (ι := ()) (defs₀ := defs₀) (𝒱₀ := Variants.none) (L := L) (lv := lv)
    (p := p) (D := fun _ => 0) (S := Pipeline.ucRefs τ sig) (arrays_unscoped p kit) (X := fun c => iprop(∃ r, prngReg c r)) (Y := fun c => iprop(∃ r, prngReg c r))
    (kit := kit.toP) (R := fun _ => iprop(emp)) (W := W) c

theorem callSeg_post {p : Fin 14} {kit} {W : Dev nD → Valuation τ sig (Elt F)} {hbody hΦ howed hrec hshare hW} (c : Dev nD) :
    (callSeg m p kit W hbody hΦ howed hrec hshare hW).post c
      ⊢ iprop(StableHlo.held (c : Thread nD τ) (Pipeline.ucRefs τ sig) (Pipeline.afterRegion (pdats m p c) (W c)) ∗ rest c) := by
  unfold rest callSeg
  exact RegionSeg.ofHeldIn_post (arrays_unscoped p kit) c

/-- A host stretch as a segment. -/
def hostSeg (ops : List (HloOp τ sig (Elt F))) (hsub : ops.Forall fun op => op.bufs ⊆ StableHlo.tcRefs τ sig) (hfresh : ops.Forall fun op => op.fresh = ∅)
    (W : Dev nD → Valuation τ sig (Elt F)) : HostSeg (Name := ℕ) (U := UR sig nD τ) (pcfgs (F := F)) defs₀ Variants.none L lv :=
  HostSeg.ofOps _ _ _ _ _ (Pipeline.ucRefs τ sig) ops (fun op h => Pipeline.sub_ucRefs op ((List.forall_iff_forall_mem.mp hsub) op h))
    (fun op h => (List.forall_iff_forall_mem.mp hfresh) op h) W rest

/-- Call 0 as a segment, and the states around it. -/
def call0 : RegionSeg (pcfgs (F := F)) adm (pdats m) () defs₀ Variants.none L lv 0 :=
  callSeg m 0 launch0 (before0 m) (fun c => obligation0 _ c) (fun _ _ => rfl) (fun _ _ => rfl) (fun _ => rfl) (fun c => (dat0 (before0 m c) c).share_full fun _ => rfl) (fun _ _ => rfl)
theorem call0_pre (c : Dev nD) : iprop(StableHlo.held (c : Thread nD τ) (Pipeline.ucRefs τ sig) (before0 m c) ∗ rest c) ⊢ (call0 m).pre c :=
  callSeg_pre m c
theorem call0_post (c : Dev nD) : (call0 m).post c ⊢ iprop(StableHlo.held (c : Thread nD τ) (Pipeline.ucRefs τ sig) (after0 m c) ∗ rest c) :=
  callSeg_post m c
/-- Call 1 as a segment, and the states around it. -/
def call1 : RegionSeg (pcfgs (F := F)) adm (pdats m) () defs₀ Variants.none L lv 1 :=
  callSeg m 1 launch1 (before1 m) (fun c => obligation1 _ c) (fun _ _ => rfl) (fun _ _ => rfl) (fun _ => rfl) (fun c => (dat1 (before1 m c) c).share_full fun _ => rfl) (fun _ _ => rfl)
theorem call1_pre (c : Dev nD) : iprop(StableHlo.held (c : Thread nD τ) (Pipeline.ucRefs τ sig) (before1 m c) ∗ rest c) ⊢ (call1 m).pre c :=
  callSeg_pre m c
theorem call1_post (c : Dev nD) : (call1 m).post c ⊢ iprop(StableHlo.held (c : Thread nD τ) (Pipeline.ucRefs τ sig) (after1 m c) ∗ rest c) :=
  callSeg_post m c
/-- Call 2 as a segment, and the states around it. -/
def call2 : RegionSeg (pcfgs (F := F)) adm (pdats m) () defs₀ Variants.none L lv 2 :=
  callSeg m 2 launch2 (before2 m) (fun c => obligation2 _ c) (fun _ _ => rfl) (fun _ _ => rfl) (fun _ => rfl) (fun c => (dat2 (before2 m c) c).share_full fun _ => rfl) (fun _ _ => rfl)
theorem call2_pre (c : Dev nD) : iprop(StableHlo.held (c : Thread nD τ) (Pipeline.ucRefs τ sig) (before2 m c) ∗ rest c) ⊢ (call2 m).pre c :=
  callSeg_pre m c
theorem call2_post (c : Dev nD) : (call2 m).post c ⊢ iprop(StableHlo.held (c : Thread nD τ) (Pipeline.ucRefs τ sig) (after2 m c) ∗ rest c) :=
  callSeg_post m c
/-- Call 3 as a segment, and the states around it. -/
def call3 : RegionSeg (pcfgs (F := F)) adm (pdats m) () defs₀ Variants.none L lv 3 :=
  callSeg m 3 launch3 (before3 m) (fun c => obligation3 _ c) (fun _ _ => rfl) (fun _ _ => rfl) (fun _ => rfl) (fun c => (dat3 (before3 m c) c).share_full fun _ => rfl) (fun _ _ => rfl)
theorem call3_pre (c : Dev nD) : iprop(StableHlo.held (c : Thread nD τ) (Pipeline.ucRefs τ sig) (before3 m c) ∗ rest c) ⊢ (call3 m).pre c :=
  callSeg_pre m c
theorem call3_post (c : Dev nD) : (call3 m).post c ⊢ iprop(StableHlo.held (c : Thread nD τ) (Pipeline.ucRefs τ sig) (after3 m c) ∗ rest c) :=
  callSeg_post m c
/-- Call 4 as a segment, and the states around it. -/
def call4 : RegionSeg (pcfgs (F := F)) adm (pdats m) () defs₀ Variants.none L lv 4 :=
  callSeg m 4 launch4 (before4 m) (fun c => obligation4 _ c) (fun _ _ => rfl) (fun _ _ => rfl) (fun _ => rfl) (fun c => (dat4 (before4 m c) c).share_full fun _ => rfl) (fun _ _ => rfl)
theorem call4_pre (c : Dev nD) : iprop(StableHlo.held (c : Thread nD τ) (Pipeline.ucRefs τ sig) (before4 m c) ∗ rest c) ⊢ (call4 m).pre c :=
  callSeg_pre m c
theorem call4_post (c : Dev nD) : (call4 m).post c ⊢ iprop(StableHlo.held (c : Thread nD τ) (Pipeline.ucRefs τ sig) (after4 m c) ∗ rest c) :=
  callSeg_post m c
/-- Call 5 as a segment, and the states around it. -/
def call5 : RegionSeg (pcfgs (F := F)) adm (pdats m) () defs₀ Variants.none L lv 5 :=
  callSeg m 5 launch5 (before5 m) (fun c => obligation5 _ c) (fun _ _ => rfl) (fun _ _ => rfl) (fun _ => rfl) (fun c => (dat5 (before5 m c) c).share_full fun _ => rfl) (fun _ _ => rfl)
theorem call5_pre (c : Dev nD) : iprop(StableHlo.held (c : Thread nD τ) (Pipeline.ucRefs τ sig) (before5 m c) ∗ rest c) ⊢ (call5 m).pre c :=
  callSeg_pre m c
theorem call5_post (c : Dev nD) : (call5 m).post c ⊢ iprop(StableHlo.held (c : Thread nD τ) (Pipeline.ucRefs τ sig) (after5 m c) ∗ rest c) :=
  callSeg_post m c
/-- Call 6 as a segment, and the states around it. -/
def call6 : RegionSeg (pcfgs (F := F)) adm (pdats m) () defs₀ Variants.none L lv 6 :=
  callSeg m 6 launch6 (before6 m) (fun c => obligation6 _ c) (fun _ _ => rfl) (fun _ _ => rfl) (fun _ => rfl) (fun c => (dat6 (before6 m c) c).share_full fun _ => rfl) (fun _ _ => rfl)
theorem call6_pre (c : Dev nD) : iprop(StableHlo.held (c : Thread nD τ) (Pipeline.ucRefs τ sig) (before6 m c) ∗ rest c) ⊢ (call6 m).pre c :=
  callSeg_pre m c
theorem call6_post (c : Dev nD) : (call6 m).post c ⊢ iprop(StableHlo.held (c : Thread nD τ) (Pipeline.ucRefs τ sig) (after6 m c) ∗ rest c) :=
  callSeg_post m c
/-- Call 7 as a segment, and the states around it. -/
def call7 : RegionSeg (pcfgs (F := F)) adm (pdats m) () defs₀ Variants.none L lv 7 :=
  callSeg m 7 launch7 (before7 m) (fun c => obligation7 _ c) (fun _ _ => rfl) (fun _ _ => rfl) (fun _ => rfl) (fun c => (dat7 (before7 m c) c).share_full fun _ => rfl) (fun _ _ => rfl)
theorem call7_pre (c : Dev nD) : iprop(StableHlo.held (c : Thread nD τ) (Pipeline.ucRefs τ sig) (before7 m c) ∗ rest c) ⊢ (call7 m).pre c :=
  callSeg_pre m c
theorem call7_post (c : Dev nD) : (call7 m).post c ⊢ iprop(StableHlo.held (c : Thread nD τ) (Pipeline.ucRefs τ sig) (after7 m c) ∗ rest c) :=
  callSeg_post m c
/-- Call 8 as a segment, and the states around it. -/
def call8 : RegionSeg (pcfgs (F := F)) adm (pdats m) () defs₀ Variants.none L lv 8 :=
  callSeg m 8 launch8 (before8 m) (fun c => obligation8 _ c) (fun _ _ => rfl) (fun _ _ => rfl) (fun _ => rfl) (fun c => (dat8 (before8 m c) c).share_full fun _ => rfl) (fun _ _ => rfl)
theorem call8_pre (c : Dev nD) : iprop(StableHlo.held (c : Thread nD τ) (Pipeline.ucRefs τ sig) (before8 m c) ∗ rest c) ⊢ (call8 m).pre c :=
  callSeg_pre m c
theorem call8_post (c : Dev nD) : (call8 m).post c ⊢ iprop(StableHlo.held (c : Thread nD τ) (Pipeline.ucRefs τ sig) (after8 m c) ∗ rest c) :=
  callSeg_post m c
/-- Call 9 as a segment, and the states around it. -/
def call9 : RegionSeg (pcfgs (F := F)) adm (pdats m) () defs₀ Variants.none L lv 9 :=
  callSeg m 9 launch9 (before9 m) (fun c => obligation9 _ c) (fun _ _ => rfl) (fun _ _ => rfl) (fun _ => rfl) (fun c => (dat9 (before9 m c) c).share_full fun _ => rfl) (fun _ _ => rfl)
theorem call9_pre (c : Dev nD) : iprop(StableHlo.held (c : Thread nD τ) (Pipeline.ucRefs τ sig) (before9 m c) ∗ rest c) ⊢ (call9 m).pre c :=
  callSeg_pre m c
theorem call9_post (c : Dev nD) : (call9 m).post c ⊢ iprop(StableHlo.held (c : Thread nD τ) (Pipeline.ucRefs τ sig) (after9 m c) ∗ rest c) :=
  callSeg_post m c
/-- Call 10 as a segment, and the states around it. -/
def call10 : RegionSeg (pcfgs (F := F)) adm (pdats m) () defs₀ Variants.none L lv 10 :=
  callSeg m 10 launch10 (before10 m) (fun c => obligation10 _ c) (fun _ _ => rfl) (fun _ _ => rfl) (fun _ => rfl) (fun c => (dat10 (before10 m c) c).share_full fun _ => rfl) (fun _ _ => rfl)
theorem call10_pre (c : Dev nD) : iprop(StableHlo.held (c : Thread nD τ) (Pipeline.ucRefs τ sig) (before10 m c) ∗ rest c) ⊢ (call10 m).pre c :=
  callSeg_pre m c
theorem call10_post (c : Dev nD) : (call10 m).post c ⊢ iprop(StableHlo.held (c : Thread nD τ) (Pipeline.ucRefs τ sig) (after10 m c) ∗ rest c) :=
  callSeg_post m c
/-- Call 11 as a segment, and the states around it. -/
def call11 : RegionSeg (pcfgs (F := F)) adm (pdats m) () defs₀ Variants.none L lv 11 :=
  callSeg m 11 launch11 (before11 m) (fun c => obligation11 _ c) (fun _ _ => rfl) (fun _ _ => rfl) (fun _ => rfl) (fun c => (dat11 (before11 m c) c).share_full fun _ => rfl) (fun _ _ => rfl)
theorem call11_pre (c : Dev nD) : iprop(StableHlo.held (c : Thread nD τ) (Pipeline.ucRefs τ sig) (before11 m c) ∗ rest c) ⊢ (call11 m).pre c :=
  callSeg_pre m c
theorem call11_post (c : Dev nD) : (call11 m).post c ⊢ iprop(StableHlo.held (c : Thread nD τ) (Pipeline.ucRefs τ sig) (after11 m c) ∗ rest c) :=
  callSeg_post m c
/-- Call 12 as a segment, and the states around it. -/
def call12 : RegionSeg (pcfgs (F := F)) adm (pdats m) () defs₀ Variants.none L lv 12 :=
  callSeg m 12 launch12 (before12 m) (fun c => obligation12 _ c) (fun _ _ => rfl) (fun _ _ => rfl) (fun _ => rfl) (fun c => (dat12 (before12 m c) c).share_full fun _ => rfl) (fun _ _ => rfl)
theorem call12_pre (c : Dev nD) : iprop(StableHlo.held (c : Thread nD τ) (Pipeline.ucRefs τ sig) (before12 m c) ∗ rest c) ⊢ (call12 m).pre c :=
  callSeg_pre m c
theorem call12_post (c : Dev nD) : (call12 m).post c ⊢ iprop(StableHlo.held (c : Thread nD τ) (Pipeline.ucRefs τ sig) (after12 m c) ∗ rest c) :=
  callSeg_post m c
/-- Call 13 as a segment, and the states around it. -/
def call13 : RegionSeg (pcfgs (F := F)) adm (pdats m) () defs₀ Variants.none L lv 13 :=
  callSeg m 13 launch13 (before13 m) (fun c => obligation13 _ c) (fun _ _ => rfl) (fun _ _ => rfl) (fun _ => rfl) (fun c => (dat13 (before13 m c) c).share_full fun _ => rfl) (fun _ _ => rfl)
theorem call13_pre (c : Dev nD) : iprop(StableHlo.held (c : Thread nD τ) (Pipeline.ucRefs τ sig) (before13 m c) ∗ rest c) ⊢ (call13 m).pre c :=
  callSeg_pre m c
theorem call13_post (c : Dev nD) : (call13 m).post c ⊢ iprop(StableHlo.held (c : Thread nD τ) (Pipeline.ucRefs τ sig) (after13 m c) ∗ rest c) :=
  callSeg_post m c

/-- The program's segments. -/
def parts : List (Seg (pcfgs (F := F)) adm (pdats m) () defs₀ Variants.none L lv) := [
  .host (hostSeg hostOps0 hostOps0_sub hostOps0_fresh (start m)),
  .region (call0 m),
  .host (hostSeg hostOps1 hostOps1_sub hostOps1_fresh (after0 m)),
  .region (call1 m),
  .host (hostSeg hostOps2 hostOps2_sub hostOps2_fresh (after1 m)),
  .region (call2 m),
  .host (hostSeg hostOps3 hostOps3_sub hostOps3_fresh (after2 m)),
  .region (call3 m),
  .host (hostSeg hostOps4 hostOps4_sub hostOps4_fresh (after3 m)),
  .region (call4 m),
  .host (hostSeg hostOps5 hostOps5_sub hostOps5_fresh (after4 m)),
  .region (call5 m),
  .host (hostSeg hostOps6 hostOps6_sub hostOps6_fresh (after5 m)),
  .region (call6 m),
  .host (hostSeg hostOps7 hostOps7_sub hostOps7_fresh (after6 m)),
  .region (call7 m),
  .host (hostSeg hostOps8 hostOps8_sub hostOps8_fresh (after7 m)),
  .region (call8 m),
  .host (hostSeg hostOps9 hostOps9_sub hostOps9_fresh (after8 m)),
  .region (call9 m),
  .host (hostSeg hostOps10 hostOps10_sub hostOps10_fresh (after9 m)),
  .region (call10 m),
  .host (hostSeg hostOps11 hostOps11_sub hostOps11_fresh (after10 m)),
  .region (call11 m),
  .host (hostSeg hostOps12 hostOps12_sub hostOps12_fresh (after11 m)),
  .region (call12 m),
  .host (hostSeg hostOps13 hostOps13_sub hostOps13_fresh (after12 m)),
  .region (call13 m)]

/-- What the launch deals a core is the first segment's state. -/
theorem launch_state (c : Dev nD) :
    iprop(unscopedBufs c (fun b => m ((c.tc : Thread nD τ).loc b)) ∗ unscopedSems0 c ∗ owes (c.tc : Thread nD τ) (0 : CellTallies nD τ sig Unit) ∅
        ∗ Pipeline.launchCred (fun _ => 0) c ∗ prngReg c (ρ c) ∗ emp)
      ⊢ (iprop(StableHlo.held (c : Thread nD τ) (Pipeline.ucRefs τ sig) (start m c) ∗ rest c) : sProp 𝕄) := by
  rw [show (unscopedBufs c (fun b => m ((c.tc : Thread nD τ).loc b)) : sProp 𝕄) = StableHlo.held (c : Thread nD τ) (Pipeline.ucRefs τ sig) (start m c)
    from Pipeline.unscopedBufs_held (Ix := Unit) (Name := ℕ) (U := UR sig nD τ) (Lvl := ℕ) c (start m c)]
  unfold rest
  iintro ⟨Hh, -, HO, -, Hp, -⟩
  isplitl [Hh]; · iexact Hh
  isplitl [HO]; · iexists _; iexact HO
  isplitl [Hp]; · iexists _; iexact Hp
  iempintro

/-- The end state: every unscoped buffer at what the last call leaves. -/
def Final (c : Dev nD) (s : MemSt nD τ sig (Elt F)) : Prop :=
  ∀ b ∈ Pipeline.ucRefs τ sig, s.mem ((c : Thread nD τ).1, b) = after13 m c b

set_option backward.isDefEq.respectTransparency.types false in
/-- The run. -/
theorem run_main : θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) () cellOf_inj emb₁ defs₀ Variants.none L lv m ρ main
    (fun _ => parts m)
    (fun c Q => by
      rewrite [main_chain c, Seg.run_eq_chain,
        show (parts m).map Seg.prog = [
        StableHlo.seq hostOps0,
        Prog.lift (.customCall (Pipeline.entry 0) ()),
        StableHlo.seq hostOps1,
        Prog.lift (.customCall (Pipeline.entry 1) ()),
        StableHlo.seq hostOps2,
        Prog.lift (.customCall (Pipeline.entry 2) ()),
        StableHlo.seq hostOps3,
        Prog.lift (.customCall (Pipeline.entry 3) ()),
        StableHlo.seq hostOps4,
        Prog.lift (.customCall (Pipeline.entry 4) ()),
        StableHlo.seq hostOps5,
        Prog.lift (.customCall (Pipeline.entry 5) ()),
        StableHlo.seq hostOps6,
        Prog.lift (.customCall (Pipeline.entry 6) ()),
        StableHlo.seq hostOps7,
        Prog.lift (.customCall (Pipeline.entry 7) ()),
        StableHlo.seq hostOps8,
        Prog.lift (.customCall (Pipeline.entry 8) ()),
        StableHlo.seq hostOps9,
        Prog.lift (.customCall (Pipeline.entry 9) ()),
        StableHlo.seq hostOps10,
        Prog.lift (.customCall (Pipeline.entry 10) ()),
        StableHlo.seq hostOps11,
        Prog.lift (.customCall (Pipeline.entry 11) ()),
        StableHlo.seq hostOps12,
        Prog.lift (.customCall (Pipeline.entry 12) ()),
        StableHlo.seq hostOps13,
        Prog.lift (.customCall (Pipeline.entry 13) ())] from rfl]
      dsimp (config := { failIfUnchanged := false }) only
      exact .rfl)
    (fun c => by simp only [parts, Seg.pipes_host, Seg.pipes_region, Seg.pipes_nil]; decide)
    (fun _ => 0) (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (start m c) ∗ rest c))
    (Tₙ := fun c => StableHlo.held (c : Thread nD τ) (Pipeline.ucRefs τ sig) (after13 m c))
    (hch := fun c => ⟨.rfl, call0_pre m c, call0_post m c, call1_pre m c, call1_post m c, call2_pre m c, call2_post m c, call3_pre m c, call3_post m c, call4_pre m c, call4_post m c, call5_pre m c, call5_post m c, call6_pre m c, call6_post m c, call7_pre m c, call7_post m c, call8_pre m c, call8_post m c, call9_pre m c, call9_post m c, call10_pre m c, call10_post m c, call11_pre m c, call11_post m c, call12_pre m c, call12_post m c, call13_pre m c, (call13_post m c).trans (sep_mono .rfl (by unfold rest; iintro ⟨H, -, -⟩; iexact H))⟩)
    (hinit := ?_) (QY := Final m)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · iintro ⟨H, -⟩
    imodintro
    iapply (show _ ⊢ _ from bigSep_mono fun c _ => launch_state m ρ c) $$ H
  · unfold StableHlo.held
    iintro ⟨Hh, HSI⟩
    ihave Hr := (pointsTo_read_all (Pipeline.ucRefs τ sig) (fun b => ((c : Thread nD τ).1, b)) (after13 m c) s') $$ [Hh HSI]
    · isplitl [Hh] <;> iassumption
    icases Hr with ⟨%h, HSI⟩
    imodintro
    isplitr
    · ipureintro; exact h
    · iexact HSI

end Cert.KernelIdeal.Val

end
-- ==== Proof.Keep.lean ====
module

public import proofs.«01_k».proof.Proof.Run

/-! # What the run leaves as it was

Every argument, and each stacked parameter array that the first host stretch makes, is read by the calls and never
written again. -/

@[expose] public section

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg)

variable {F : FTy → Type} [FloatOps F]

/-- The program's arguments, -/
def argRefs : List (Ref sig .tc) :=
  [main_arg0, main_arg1, main_arg2, main_arg3, main_arg4, main_arg5, main_arg6, main_arg7, main_arg8, main_arg9, main_arg10, main_arg11, main_arg12, main_arg13, main_arg14]

/-- and with them the arrays that nothing writes after the first host stretch. -/
def fixed : List (Ref sig .tc) :=
  [main_arg0, main_arg1, main_arg2, main_arg3, main_arg4, main_arg5, main_arg6, main_arg7, main_arg8, main_arg9, main_arg10, main_arg11, main_arg12, main_arg13, main_arg14, main_v6, main_v7, main_v8, main_v9, main_v10, main_v11, main_v12, main_v13, main_v14]

theorem args_fixed : ∀ r ∈ argRefs, r ∈ fixed := by decide +kernel

/-- A call leaves every buffer but its result as it was. -/
theorem call_keeps (cfg : Cfg sig Λ₀) (o : Fin cfg.W) (W : Valuation τ sig (Elt F)) (out) (c : Dev nD)
    (hinj : Function.Injective (Pipeline.arrRef cfg.spec)) (hin : ∀ w, w ≠ o → (cfg.win w).isOut = false) (r : Ref sig .tc) (h : Pipeline.arrRef cfg.spec o ≠ r) :
    Pipeline.afterRegion (callDat cfg o W out c) W (Proc.devRef .tc r) = W (Proc.devRef .tc r) :=
  Pipeline.afterRegion_keeps _ W hinj (fun _ => rfl) r fun w hw => hin w fun hwo => h (hwo ▸ hw)

/-- A host stretch and the call after it leave the buffers of a list as they were, if neither writes one of them. -/
theorem stage_keeps (rs : List (Ref sig .tc)) (ops : List (HloOp τ sig (Elt F))) (ws : List (Ref sig .tc))
    (hops : ops.Forall fun op => op.writes ⊆ (ws.map (Proc.devRef (τ := τ) .tc)).toFinset)
    (cfg : Cfg sig Λ₀) (o : Fin cfg.W) (V : Valuation τ sig (Elt F)) (out) (c : Dev nD)
    (hinj : Function.Injective (Pipeline.arrRef cfg.spec)) (hin : ∀ w, w ≠ o → (cfg.win w).isOut = false)
    (h : ∀ r ∈ rs, r ∉ ws ∧ Pipeline.arrRef cfg.spec o ≠ r) (r : Ref sig .tc) (hr : r ∈ rs) :
    Pipeline.afterRegion (callDat cfg o (StableHlo.after ops V) out c) (StableHlo.after ops V) (Proc.devRef .tc r) = V (Proc.devRef .tc r) :=
  (call_keeps cfg o _ out c hinj hin r (h r hr).2).trans (StableHlo.after_of_writes_sub ops _ hops (h r hr).1)

variable (m : (ℓ : Loc nD τ sig) → Buf (Elt F) ℓ) (c : Dev nD)

theorem keep0 (r : Ref sig .tc) (h : r ∈ argRefs) : after0 m c (Proc.devRef .tc r) = start m c (Proc.devRef .tc r) :=
  stage_keeps argRefs hostOps0 hostOps0_W hostOps0_writes cfg0 4 (start m c) _ c launch0.win.arr_inj (by decide +kernel) (by decide +kernel) r h
theorem keep1 (r : Ref sig .tc) (h : r ∈ fixed) : after1 m c (Proc.devRef .tc r) = after0 m c (Proc.devRef .tc r) :=
  stage_keeps fixed hostOps1 hostOps1_W hostOps1_writes cfg1 10 (after0 m c) _ c launch1.win.arr_inj (by decide +kernel) (by decide +kernel) r h
theorem keep2 (r : Ref sig .tc) (h : r ∈ fixed) : after2 m c (Proc.devRef .tc r) = after1 m c (Proc.devRef .tc r) :=
  stage_keeps fixed hostOps2 hostOps2_W hostOps2_writes cfg2 10 (after1 m c) _ c launch2.win.arr_inj (by decide +kernel) (by decide +kernel) r h
theorem keep3 (r : Ref sig .tc) (h : r ∈ fixed) : after3 m c (Proc.devRef .tc r) = after2 m c (Proc.devRef .tc r) :=
  stage_keeps fixed hostOps3 hostOps3_W hostOps3_writes cfg3 10 (after2 m c) _ c launch3.win.arr_inj (by decide +kernel) (by decide +kernel) r h
theorem keep4 (r : Ref sig .tc) (h : r ∈ fixed) : after4 m c (Proc.devRef .tc r) = after3 m c (Proc.devRef .tc r) :=
  stage_keeps fixed hostOps4 hostOps4_W hostOps4_writes cfg4 10 (after3 m c) _ c launch4.win.arr_inj (by decide +kernel) (by decide +kernel) r h
theorem keep5 (r : Ref sig .tc) (h : r ∈ fixed) : after5 m c (Proc.devRef .tc r) = after4 m c (Proc.devRef .tc r) :=
  stage_keeps fixed hostOps5 hostOps5_W hostOps5_writes cfg5 10 (after4 m c) _ c launch5.win.arr_inj (by decide +kernel) (by decide +kernel) r h
theorem keep6 (r : Ref sig .tc) (h : r ∈ fixed) : after6 m c (Proc.devRef .tc r) = after5 m c (Proc.devRef .tc r) :=
  stage_keeps fixed hostOps6 hostOps6_W hostOps6_writes cfg6 10 (after5 m c) _ c launch6.win.arr_inj (by decide +kernel) (by decide +kernel) r h
theorem keep7 (r : Ref sig .tc) (h : r ∈ fixed) : after7 m c (Proc.devRef .tc r) = after6 m c (Proc.devRef .tc r) :=
  stage_keeps fixed hostOps7 hostOps7_W hostOps7_writes cfg7 10 (after6 m c) _ c launch7.win.arr_inj (by decide +kernel) (by decide +kernel) r h
theorem keep8 (r : Ref sig .tc) (h : r ∈ fixed) : after8 m c (Proc.devRef .tc r) = after7 m c (Proc.devRef .tc r) :=
  stage_keeps fixed hostOps8 hostOps8_W hostOps8_writes cfg8 10 (after7 m c) _ c launch8.win.arr_inj (by decide +kernel) (by decide +kernel) r h
theorem keep9 (r : Ref sig .tc) (h : r ∈ fixed) : after9 m c (Proc.devRef .tc r) = after8 m c (Proc.devRef .tc r) :=
  stage_keeps fixed hostOps9 hostOps9_W hostOps9_writes cfg9 10 (after8 m c) _ c launch9.win.arr_inj (by decide +kernel) (by decide +kernel) r h
theorem keep10 (r : Ref sig .tc) (h : r ∈ fixed) : after10 m c (Proc.devRef .tc r) = after9 m c (Proc.devRef .tc r) :=
  stage_keeps fixed hostOps10 hostOps10_W hostOps10_writes cfg10 10 (after9 m c) _ c launch10.win.arr_inj (by decide +kernel) (by decide +kernel) r h
theorem keep11 (r : Ref sig .tc) (h : r ∈ fixed) : after11 m c (Proc.devRef .tc r) = after10 m c (Proc.devRef .tc r) :=
  stage_keeps fixed hostOps11 hostOps11_W hostOps11_writes cfg11 10 (after10 m c) _ c launch11.win.arr_inj (by decide +kernel) (by decide +kernel) r h
theorem keep12 (r : Ref sig .tc) (h : r ∈ fixed) : after12 m c (Proc.devRef .tc r) = after11 m c (Proc.devRef .tc r) :=
  stage_keeps fixed hostOps12 hostOps12_W hostOps12_writes cfg12 10 (after11 m c) _ c launch12.win.arr_inj (by decide +kernel) (by decide +kernel) r h
theorem keep13 (r : Ref sig .tc) (h : r ∈ fixed) : after13 m c (Proc.devRef .tc r) = after12 m c (Proc.devRef .tc r) :=
  stage_keeps fixed hostOps13 hostOps13_W hostOps13_writes cfg13 3 (after12 m c) _ c launch13.win.arr_inj (by decide +kernel) (by decide +kernel) r h

/-! Since the first call. -/

theorem since1 (r : Ref sig .tc) (h : r ∈ fixed) : after1 m c (Proc.devRef .tc r) = after0 m c (Proc.devRef .tc r) := keep1 m c r h
theorem since2 (r : Ref sig .tc) (h : r ∈ fixed) : after2 m c (Proc.devRef .tc r) = after0 m c (Proc.devRef .tc r) := (keep2 m c r h).trans (since1 m c r h)
theorem since3 (r : Ref sig .tc) (h : r ∈ fixed) : after3 m c (Proc.devRef .tc r) = after0 m c (Proc.devRef .tc r) := (keep3 m c r h).trans (since2 m c r h)
theorem since4 (r : Ref sig .tc) (h : r ∈ fixed) : after4 m c (Proc.devRef .tc r) = after0 m c (Proc.devRef .tc r) := (keep4 m c r h).trans (since3 m c r h)
theorem since5 (r : Ref sig .tc) (h : r ∈ fixed) : after5 m c (Proc.devRef .tc r) = after0 m c (Proc.devRef .tc r) := (keep5 m c r h).trans (since4 m c r h)
theorem since6 (r : Ref sig .tc) (h : r ∈ fixed) : after6 m c (Proc.devRef .tc r) = after0 m c (Proc.devRef .tc r) := (keep6 m c r h).trans (since5 m c r h)
theorem since7 (r : Ref sig .tc) (h : r ∈ fixed) : after7 m c (Proc.devRef .tc r) = after0 m c (Proc.devRef .tc r) := (keep7 m c r h).trans (since6 m c r h)
theorem since8 (r : Ref sig .tc) (h : r ∈ fixed) : after8 m c (Proc.devRef .tc r) = after0 m c (Proc.devRef .tc r) := (keep8 m c r h).trans (since7 m c r h)
theorem since9 (r : Ref sig .tc) (h : r ∈ fixed) : after9 m c (Proc.devRef .tc r) = after0 m c (Proc.devRef .tc r) := (keep9 m c r h).trans (since8 m c r h)
theorem since10 (r : Ref sig .tc) (h : r ∈ fixed) : after10 m c (Proc.devRef .tc r) = after0 m c (Proc.devRef .tc r) := (keep10 m c r h).trans (since9 m c r h)
theorem since11 (r : Ref sig .tc) (h : r ∈ fixed) : after11 m c (Proc.devRef .tc r) = after0 m c (Proc.devRef .tc r) := (keep11 m c r h).trans (since10 m c r h)
theorem since12 (r : Ref sig .tc) (h : r ∈ fixed) : after12 m c (Proc.devRef .tc r) = after0 m c (Proc.devRef .tc r) := (keep12 m c r h).trans (since11 m c r h)
theorem since13 (r : Ref sig .tc) (h : r ∈ fixed) : after13 m c (Proc.devRef .tc r) = after0 m c (Proc.devRef .tc r) := (keep13 m c r h).trans (since12 m c r h)

/-- Every argument ends as it was. -/
theorem kept (r : Ref sig .tc) (h : r ∈ argRefs) : after13 m c (Proc.devRef .tc r) = m ((c.tc : Thread nD τ).loc r) :=
  (since13 m c r (args_fixed r h)).trans (keep0 m c r h)

/-- What the end state holds in a buffer of the core's own. -/
theorem final_at {s : MemSt nD τ sig (Elt F)} (h : Final m c s) (r : Ref sig .tc) (hr : (Proc.devRef .tc r : DevRef τ sig).isScoped = false) :
    s.mem ((c.tc : Thread nD τ).loc r) = after13 m c (Proc.devRef .tc r) :=
  h _ (Finset.mem_filter.mpr ⟨StableHlo.devRef_mem_tcRefs _, Bool.eq_false_iff.mp hr⟩)

/-- Every argument's buffer ends as it was. -/
theorem final_arg {s : MemSt nD τ sig (Elt F)} (h : Final m c s) (r : Ref sig .tc) (hr : r ∈ argRefs) :
    s.mem ((c.tc : Thread nD τ).loc r) = m ((c.tc : Thread nD τ).loc r) :=
  (final_at m c h r ((by decide +kernel : ∀ r ∈ argRefs, (Proc.devRef .tc r : DevRef τ sig).isScoped = false) r hr)).trans (kept m c r hr)

end Cert.KernelIdeal.Val

end
-- ==== Proof.Spec.lean ====
module

public import Idealize.ShloMosaic.Lib.Pointwise

/-! # The network over the reals

Embedding, layer and normalisation as functions of indices: what both programs compute, before either one's order of operations. A batch element
is a function `h : Fin 196 → Fin 768 → EReal`; the parameters are the fields of `Params`. -/

@[expose] public section

noncomputable section

namespace Cert.Spec

open Idealize.ShloMosaic

/-- The parameters of a layer, each by its own indices. -/
structure Params where
  inw : Fin 3072 → Fin 768 → EReal
  cw : Fin 1536 → Fin 4 → EReal
  cb : Fin 1536 → EReal
  xpw : Fin 80 → Fin 1536 → EReal
  dtw : Fin 1536 → Fin 48 → EReal
  dtb : Fin 1536 → EReal
  alog : Fin 1536 → Fin 16 → EReal
  dpar : Fin 1536 → EReal
  ow : Fin 768 → Fin 1536 → EReal

def silu (x : EReal) : EReal := x * Ideal.logistic x

def softplus (x : EReal) : EReal := max x 0 + Ideal.log1p (Ideal.exp (-max x (-x)))

variable (p : Params) (h : Fin 196 → Fin 768 → EReal)

/-- The branch the convolution reads, -/
def pre (t : Fin 196) (e : Fin 1536) : EReal := ∑ k, h t k * p.inw ⟨e.val, by omega⟩ k

/-- and the branch that gates the result. -/
def gate (t : Fin 196) (e : Fin 1536) : EReal := ∑ k, h t k * p.inw ⟨1536 + e.val, by omega⟩ k

/-- The convolution's tap `j`, with three rows of zeros before the first row. -/
def tap (j : ℕ) (hj : j ≤ 3) (t : Fin 196) (e : Fin 1536) : EReal :=
  if _ : j + t.val < 3 then 0 else pre p h ⟨j + t.val - 3, by omega⟩ e

def conv (t : Fin 196) (e : Fin 1536) : EReal :=
  p.cb e + (tap p h 0 (by decide) t e * p.cw e 0 + tap p h 1 (by decide) t e * p.cw e 1 + tap p h 2 (by decide) t e * p.cw e 2 + pre p h t e * p.cw e 3)

/-- What the scan takes in. -/
def act (t : Fin 196) (e : Fin 1536) : EReal := silu (conv p h t e)

def proj (t : Fin 196) (j : Fin 80) : EReal := ∑ e, act p h t e * p.xpw j e

def dt (t : Fin 196) (e : Fin 1536) : EReal := softplus ((∑ r : Fin 48, proj p h t ⟨r.val, by omega⟩ * p.dtw e r) + p.dtb e)

def bmat (t : Fin 196) (s : Fin 16) : EReal := proj p h t ⟨48 + s.val, by omega⟩

def cmat (t : Fin 196) (s : Fin 16) : EReal := proj p h t ⟨64 + s.val, by omega⟩

/-- The state after `k` steps, from zero. -/
def state : ℕ → Fin 1536 → Fin 16 → EReal
  | 0, _, _ => 0
  | k + 1, e, s =>
    if hk : k < 196 then
      Ideal.exp (dt p h ⟨k, hk⟩ e * -Ideal.exp (p.alog e s)) * state k e s + dt p h ⟨k, hk⟩ e * act p h ⟨k, hk⟩ e * bmat p h ⟨k, hk⟩ s
    else state k e s

theorem state_succ (t : Fin 196) (e : Fin 1536) (s : Fin 16) :
    state p h (t.val + 1) e s = Ideal.exp (dt p h t e * -Ideal.exp (p.alog e s)) * state p h t.val e s + dt p h t e * act p h t e * bmat p h t s := by
  rw [state]; exact dif_pos t.isLt

/-- What the scan gives out. -/
def scan (t : Fin 196) (e : Fin 1536) : EReal := ∑ s, state p h (t.val + 1) e s * cmat p h t s

def gated (t : Fin 196) (e : Fin 1536) : EReal := (scan p h t e + act p h t e * p.dpar e) * silu (gate p h t e)

/-- The layer. -/
def layer (t : Fin 196) (j : Fin 768) : EReal := ∑ e, gated p h t e * p.ow j e

/-! ## The whole -/

/-- The twelve layers' parameters, each in one array. -/
structure Stack where
  inw : Fin 12 → Fin 3072 → Fin 768 → EReal
  cw : Fin 12 → Fin 1536 → Fin 4 → EReal
  cb : Fin 12 → Fin 1536 → EReal
  xpw : Fin 12 → Fin 80 → Fin 1536 → EReal
  dtw : Fin 12 → Fin 1536 → Fin 48 → EReal
  dtb : Fin 12 → Fin 1536 → EReal
  alog : Fin 12 → Fin 1536 → Fin 16 → EReal
  dpar : Fin 12 → Fin 1536 → EReal
  ow : Fin 12 → Fin 768 → Fin 1536 → EReal

/-- Layer `k`'s. -/
def Stack.at (S : Stack) (k : Fin 12) : Params :=
  ⟨S.inw k, S.cw k, S.cb k, S.xpw k, S.dtw k, S.dtb k, S.alog k, S.dpar k, S.ow k⟩

/-- The layers of the list `ks`, one after the other. -/
def layers (S : Stack) : List (Fin 12) → (Fin 196 → Fin 768 → EReal) → Fin 196 → Fin 768 → EReal
  | [], h => h
  | k :: ks, h => layers S ks (layer (S.at k) h)

/-- Place `j` of a flattened patch: its channel, row and column. -/
def chan (j : Fin 768) : Fin 3 := ⟨j.val / 256, by omega⟩
def prow (j : Fin 768) : Fin 16 := ⟨j.val / 16 % 16, by omega⟩
def pcol (j : Fin 768) : Fin 16 := ⟨j.val % 16, by omega⟩

/-- The pixel at place `j` of patch `t` of an image. -/
def pixel (a : Fin 3 → Fin 224 → Fin 224 → EReal) (t : Fin 196) (j : Fin 768) : EReal :=
  a (chan j) ⟨t.val / 14 * 16 + (prow j).val, by have := (prow j).isLt; omega⟩ ⟨t.val % 14 * 16 + (pcol j).val, by have := (pcol j).isLt; omega⟩

/-- The embedding of an image: each patch's projection, with bias and position. -/
def embed (a : Fin 3 → Fin 224 → Fin 224 → EReal) (w : Fin 768 → Fin 3 → Fin 16 → Fin 16 → EReal) (c : Fin 768 → EReal) (q : Fin 196 → Fin 768 → EReal)
    (t : Fin 196) (k : Fin 768) : EReal :=
  ∑ j, pixel a t j * w k (chan j) (prow j) (pcol j) + c k + q t k

/-- The mean of a row. -/
def mean (x : Fin 768 → EReal) : EReal := Ideal.div (∑ k, x k) (Ideal.ofBits FTy.f32 1145044992#32)

/-- A row, less its mean and scaled to variance one, then scaled by `w` and moved by `c`. -/
def normed (w c x : Fin 768 → EReal) (k : Fin 768) : EReal :=
  (x k - mean x) * Ideal.rsqrt (mean (fun j => (x j - mean x) * (x j - mean x)) + Ideal.ofBits FTy.f32 925353388#32) * w k + c k

end Cert.Spec

end
-- ==== Proof.ChunkVal.lean ====
module
public import proofs.«01_k».proof.Proof.Body
public import proofs.«01_k».proof.Proof.Spec

/-! # What the body leaves in its block is the layer of the block

Over the reals, index by index: the payloads, the chunks' recurrence against the steps' one, and the block. -/

@[expose] public section

set_option maxRecDepth 16384

noncomputable section

namespace Cert.KernelIdeal.Val

open Idealize.ShloMosaic Idealize.ShloMosaic.TcCoe Idealize.SL.Sem
open Cert.KernelIdeal Cert.KernelIdeal.Gen

section Chunk

variable (v95 : Vec Ideal S16x1536 .f32) (a b : Vec Ideal S1x8x1536 .f32) (d f : Vec Ideal S1x8x16 .f32) (acc : FVec Ideal S16x1536 .f32)

/-- One step of a chunk: row `j` takes the state `x` on. -/
def adv (j : Fin 8) (s : Fin 16) (e : Fin 1536) (x : EReal) : EReal :=
  Ideal.exp (-Ideal.exp (v95 (ix2 s e)) * a (ix3 0 j e)) * x + d (ix3 0 j s) * b (ix3 0 j e)

def h1 (s : Fin 16) (e : Fin 1536) : EReal := adv v95 a b d 0 s e (acc (ix2 s e))
def h2 (s : Fin 16) (e : Fin 1536) : EReal := adv v95 a b d 1 s e (h1 v95 a b d acc s e)
def h3 (s : Fin 16) (e : Fin 1536) : EReal := adv v95 a b d 2 s e (h2 v95 a b d acc s e)
def h4 (s : Fin 16) (e : Fin 1536) : EReal := adv v95 a b d 3 s e (h3 v95 a b d acc s e)
def h5 (s : Fin 16) (e : Fin 1536) : EReal := adv v95 a b d 4 s e (h4 v95 a b d acc s e)
def h6 (s : Fin 16) (e : Fin 1536) : EReal := adv v95 a b d 5 s e (h5 v95 a b d acc s e)
def h7 (s : Fin 16) (e : Fin 1536) : EReal := adv v95 a b d 6 s e (h6 v95 a b d acc s e)
def h8 (s : Fin 16) (e : Fin 1536) : EReal := adv v95 a b d 7 s e (h7 v95 a b d acc s e)

theorem p30 (s : Fin 16) (e : Fin 1536) : k1_pay30 (F := Ideal) v95 (ix2 s e) = -Ideal.exp (v95 (ix2 s e)) := by
  pointwise [k1_pay30]
  exact zero_sub _
theorem p2 (r : Fin 8) (e : Fin 1536) : k1_pay2 (F := Ideal) a (ix2 r e) = a (ix3 0 r e) := by pointwise [k1_pay2]
theorem p3 (r : Fin 8) (e : Fin 1536) : k1_pay3 (F := Ideal) a (ix2 r e) = a (ix3 0 r e) := by pointwise [k1_pay3]
theorem p4 (r : Fin 8) (s : Fin 16) : k1_pay4 (F := Ideal) d (ix2 s r) = d (ix3 0 r s) := by pointwise [k1_pay4]
theorem p5 (r : Fin 8) (s : Fin 16) : k1_pay5 (F := Ideal) d (ix2 s r) = d (ix3 0 r s) := by pointwise [k1_pay5]
theorem h1_eq (s : Fin 16) (e : Fin 1536) : k1_pay6 (F := Ideal) (k1_pay30 v95) acc a b d (ix2 s e) = h1 v95 a b d acc s e := by
  pointwise [k1_pay6, p30, p2, p3, p4, h1, adv]
theorem h2_eq (s : Fin 16) (e : Fin 1536) : k1_pay8 (F := Ideal) (k1_pay30 v95) acc a b d (ix2 s e) = h2 v95 a b d acc s e := by
  pointwise [k1_pay8, p30, p2, p3, p4, h2, adv, h1_eq]
theorem h3_eq (s : Fin 16) (e : Fin 1536) : k1_pay11 (F := Ideal) (k1_pay3 b) (k1_pay4 d) (k1_pay8 (k1_pay30 v95) acc a b d) (k1_pay10 (k1_pay30 v95) a) (ix2 s e) = h3 v95 a b d acc s e := by
  pointwise [k1_pay11, k1_pay10, p30, p2, p3, p4, h3, adv, h2_eq]
theorem h4_eq (s : Fin 16) (e : Fin 1536) : k1_pay13 (F := Ideal) (k1_pay30 v95) (k1_pay2 a) (k1_pay3 b) (k1_pay4 d) (k1_pay8 (k1_pay30 v95) acc a b d) (k1_pay10 (k1_pay30 v95) a) (ix2 s e) = h4 v95 a b d acc s e := by
  pointwise [k1_pay13, p30, p2, p3, p4, h4, adv, h3_eq]
theorem h5_eq (s : Fin 16) (e : Fin 1536) : k1_pay15 (F := Ideal) (k1_pay30 v95) (k1_pay2 a) (k1_pay3 b) (k1_pay4 d) (k1_pay8 (k1_pay30 v95) acc a b d) (k1_pay10 (k1_pay30 v95) a) (ix2 s e) = h5 v95 a b d acc s e := by
  pointwise [k1_pay15, p30, p2, p3, p4, h5, adv, h4_eq]
theorem h6_eq (s : Fin 16) (e : Fin 1536) : k1_pay17 (F := Ideal) (k1_pay30 v95) (k1_pay2 a) (k1_pay3 b) (k1_pay4 d) (k1_pay8 (k1_pay30 v95) acc a b d) (k1_pay10 (k1_pay30 v95) a) (ix2 s e) = h6 v95 a b d acc s e := by
  pointwise [k1_pay17, p30, p2, p3, p4, h6, adv, h5_eq]
theorem h7_eq (s : Fin 16) (e : Fin 1536) : k1_pay32 (F := Ideal) v95 (k1_pay2 a) (k1_pay3 b) (k1_pay4 d) (k1_pay17 (k1_pay30 v95) (k1_pay2 a) (k1_pay3 b) (k1_pay4 d) (k1_pay8 (k1_pay30 v95) acc a b d) (k1_pay10 (k1_pay30 v95) a)) (ix2 s e) = h7 v95 a b d acc s e := by
  pointwise [k1_pay32, p30, p2, p3, p4, h7, adv, h6_eq]
theorem h8_eq (s : Fin 16) (e : Fin 1536) : stepH (F := Ideal) v95 a b d acc (ix2 s e) = h8 v95 a b d acc s e := by
  unfold stepH
  pointwise [k1_pay33, p30, p2, p3, p4, h8, adv, h7_eq]

theorem y_eq (r : Fin 8) (e : Fin 1536) : stepY (F := Ideal) v95 a b d f acc (ix3 0 r e) =
    ∑ s : Fin 16, (![h1 v95 a b d acc s e, h2 v95 a b d acc s e, h3 v95 a b d acc s e, h4 v95 a b d acc s e, h5 v95 a b d acc s e, h6 v95 a b d acc s e, h7 v95 a b d acc s e, h8 v95 a b d acc s e] : Fin 8 → EReal) r * f (ix3 0 r s) := by
  unfold stepY
  fin_cases r
  all_goals
    pointwise [k1_pay34, k1_pay7, k1_pay9, k1_pay12, k1_pay14, k1_pay16, k1_pay18, p5]
    refine Finset.sum_congr rfl fun s _ => congrArg (· * _) ?_
  · exact h1_eq v95 a b d acc s e
  · exact h2_eq v95 a b d acc s e
  · exact h3_eq v95 a b d acc s e
  · exact h4_eq v95 a b d acc s e
  · exact h5_eq v95 a b d acc s e
  · exact h6_eq v95 a b d acc s e
  · exact h7_eq v95 a b d acc s e
  · exact h8_eq v95 a b d acc s e

end Chunk

section Rows

variable (p : Spec.Params) (h : Fin 196 → Fin 768 → EReal)
variable (v95 : Vec Ideal S16x1536 .f32) (A B : Vec Ideal S25x8x1536 .f32) (D E : Vec Ideal S25x8x16 .f32)

theorem chunkW_at (X : Vec Ideal S25x8x1536 .f32) (k : Fin k1_t1_loop.trips) (r : Fin 8) (e : Fin 1536) :
    chunkW X k (ix3 0 r e) = X (ix3 ⟨k.val, lt_of_lt_of_eq k.isLt trips_eq⟩ r e) := by
  unfold chunkW
  refine congrArg X (funext fun a => Fin.ext ?_)
  have ho : k1_off1 k a = (![k.val, 0, 0] : Fin 3 → ℕ) a := congrFun (off1_eq k) a
  show k1_off1 k a + 1 * _ = _
  rw [ho]
  fin_cases a
  · show k.val + 1 * 0 = k.val
    omega
  · show 0 + 1 * r.val = r.val
    omega
  · show 0 + 1 * e.val = e.val
    omega

theorem chunkN_at (X : Vec Ideal S25x8x16 .f32) (k : Fin k1_t1_loop.trips) (r : Fin 8) (e : Fin 16) :
    chunkN X k (ix3 0 r e) = X (ix3 ⟨k.val, lt_of_lt_of_eq k.isLt trips_eq⟩ r e) := by
  unfold chunkN
  refine congrArg X (funext fun a => Fin.ext ?_)
  have ho : k1_off2 k a = (![k.val, 0, 0] : Fin 3 → ℕ) a := congrFun (off2_eq k) a
  show k1_off2 k a + 1 * _ = _
  rw [ho]
  fin_cases a
  · show k.val + 1 * 0 = k.val
    omega
  · show 0 + 1 * r.val = r.val
    omega
  · show 0 + 1 * e.val = e.val
    omega

/-- The scratch buffers hold the rows of the step sizes, the scaled inputs and the two weights, eight to a chunk. -/
structure Rows : Prop where
  hv : ∀ (s : Fin 16) (e : Fin 1536), v95 (ix2 s e) = p.alog e s
  hA : ∀ (k : Fin 25) (r : Fin 8) (e : Fin 1536) (ht : k.val * 8 + r.val < 196), A (ix3 k r e) = Spec.dt p h ⟨k.val * 8 + r.val, ht⟩ e
  hB : ∀ (k : Fin 25) (r : Fin 8) (e : Fin 1536) (ht : k.val * 8 + r.val < 196),
    B (ix3 k r e) = Spec.dt p h ⟨k.val * 8 + r.val, ht⟩ e * Spec.act p h ⟨k.val * 8 + r.val, ht⟩ e
  hD : ∀ (k : Fin 25) (r : Fin 8) (s : Fin 16) (ht : k.val * 8 + r.val < 196), D (ix3 k r s) = Spec.bmat p h ⟨k.val * 8 + r.val, ht⟩ s
  hE : ∀ (k : Fin 25) (r : Fin 8) (s : Fin 16) (ht : k.val * 8 + r.val < 196), E (ix3 k r s) = Spec.cmat p h ⟨k.val * 8 + r.val, ht⟩ s

variable {p h v95 A B D E}

/-- A row of a chunk takes the state one step on. -/
theorem adv_eq (H : Rows p h v95 A B D E) (k : Fin k1_t1_loop.trips) (j : Fin 8) (s : Fin 16) (e : Fin 1536) (n : ℕ) (hn : n = k.val * 8 + j.val) (ht : n < 196)
    {x : EReal} (hx : x = Spec.state p h n e s) : adv v95 (chunkW A k) (chunkW B k) (chunkN D k) j s e x = Spec.state p h (n + 1) e s := by
  subst hn
  unfold adv
  rw [chunkW_at, chunkW_at, chunkN_at, H.hv, H.hA ⟨k.val, lt_of_lt_of_eq k.isLt trips_eq⟩ j e ht, H.hB ⟨k.val, lt_of_lt_of_eq k.isLt trips_eq⟩ j e ht,
    H.hD ⟨k.val, lt_of_lt_of_eq k.isLt trips_eq⟩ j s ht, hx]
  refine Eq.trans ?_ (Spec.state_succ p h ⟨k.val * 8 + j.val, ht⟩ e s).symm
  rw [mul_comm (-Ideal.exp _), mul_comm (Spec.bmat _ _ _ _)]

variable (acc : FVec Ideal S16x1536 .f32)

/-- The states within a chunk. -/
theorem vec_eq (H : Rows p h v95 A B D E) (k : Fin k1_t1_loop.trips) (hacc : ∀ (s : Fin 16) (e : Fin 1536), acc (ix2 s e) = Spec.state p h (k.val * 8) e s)
    (r : Fin 8) (ht : k.val * 8 + r.val < 196) (s : Fin 16) (e : Fin 1536) :
    (![h1 v95 (chunkW A k) (chunkW B k) (chunkN D k) acc s e, h2 v95 (chunkW A k) (chunkW B k) (chunkN D k) acc s e,
       h3 v95 (chunkW A k) (chunkW B k) (chunkN D k) acc s e, h4 v95 (chunkW A k) (chunkW B k) (chunkN D k) acc s e,
       h5 v95 (chunkW A k) (chunkW B k) (chunkN D k) acc s e, h6 v95 (chunkW A k) (chunkW B k) (chunkN D k) acc s e,
       h7 v95 (chunkW A k) (chunkW B k) (chunkN D k) acc s e, h8 v95 (chunkW A k) (chunkW B k) (chunkN D k) acc s e] : Fin 8 → EReal) r
      = Spec.state p h (k.val * 8 + r.val + 1) e s := by
  have e1 : k.val * 8 + 0 < 196 → h1 v95 (chunkW A k) (chunkW B k) (chunkN D k) acc s e = Spec.state p h (k.val * 8 + 0 + 1) e s := fun ht =>
    adv_eq H k 0 s e _ rfl ht (hacc s e)
  have e2 : k.val * 8 + 1 < 196 → h2 v95 (chunkW A k) (chunkW B k) (chunkN D k) acc s e = Spec.state p h (k.val * 8 + 1 + 1) e s := fun ht =>
    adv_eq H k 1 s e _ rfl ht (e1 (by omega))
  have e3 : k.val * 8 + 2 < 196 → h3 v95 (chunkW A k) (chunkW B k) (chunkN D k) acc s e = Spec.state p h (k.val * 8 + 2 + 1) e s := fun ht =>
    adv_eq H k 2 s e _ rfl ht (e2 (by omega))
  have e4 : k.val * 8 + 3 < 196 → h4 v95 (chunkW A k) (chunkW B k) (chunkN D k) acc s e = Spec.state p h (k.val * 8 + 3 + 1) e s := fun ht =>
    adv_eq H k 3 s e _ rfl ht (e3 (by omega))
  have e5 : k.val * 8 + 4 < 196 → h5 v95 (chunkW A k) (chunkW B k) (chunkN D k) acc s e = Spec.state p h (k.val * 8 + 4 + 1) e s := fun ht =>
    adv_eq H k 4 s e _ rfl ht (e4 (by omega))
  have e6 : k.val * 8 + 5 < 196 → h6 v95 (chunkW A k) (chunkW B k) (chunkN D k) acc s e = Spec.state p h (k.val * 8 + 5 + 1) e s := fun ht =>
    adv_eq H k 5 s e _ rfl ht (e5 (by omega))
  have e7 : k.val * 8 + 6 < 196 → h7 v95 (chunkW A k) (chunkW B k) (chunkN D k) acc s e = Spec.state p h (k.val * 8 + 6 + 1) e s := fun ht =>
    adv_eq H k 6 s e _ rfl ht (e6 (by omega))
  have e8 : k.val * 8 + 7 < 196 → h8 v95 (chunkW A k) (chunkW B k) (chunkN D k) acc s e = Spec.state p h (k.val * 8 + 7 + 1) e s := fun ht =>
    adv_eq H k 7 s e _ rfl ht (e7 (by omega))
  fin_cases r
  · exact e1 ht
  · exact e2 ht
  · exact e3 ht
  · exact e4 ht
  · exact e5 ht
  · exact e6 ht
  · exact e7 ht
  · exact e8 ht

/-- The state before a chunk is the state after the steps of the chunks before it. -/
theorem hseq_eq (H : Rows p h v95 A B D E) (k : ℕ) (hk : k ≤ 24) (s : Fin 16) (e : Fin 1536) : hseq v95 A B D k (ix2 s e) = Spec.state p h (k * 8) e s := by
  induction k generalizing s e with
  | zero =>
    show k1_pay31 (F := Ideal) (ix2 s e) = 0
    pointwise [k1_pay31]
  | succ k ih =>
    have hk' : k < k1_t1_loop.trips := by rw [trips_eq]; omega
    rw [hseq_succ v95 A B D ⟨k, hk'⟩, h8_eq]
    have := vec_eq (hseq v95 A B D k) H ⟨k, hk'⟩ (fun s e => ih (by omega) s e) 7 (by show k * 8 + 7 < 196; omega) s e
    refine this.trans ?_
    rw [show (⟨k, hk'⟩ : Fin k1_t1_loop.trips).val * 8 + (7 : Fin 8).val + 1 = (k + 1) * 8 from by show k * 8 + 7 + 1 = _; omega]

/-- The scan's result, row by row. -/
theorem yall_eq (H : Rows p h v95 A B D E) (k : Fin 25) (r : Fin 8) (ht : k.val * 8 + r.val < 196) (e : Fin 1536) :
    yall v95 A B D E (ix3 k r e) = Spec.scan p h ⟨k.val * 8 + r.val, ht⟩ e := by
  have hk' : k.val < k1_t1_loop.trips := by rw [trips_eq]; exact k.isLt
  show stepY v95 (chunkW A ⟨k.val, hk'⟩) (chunkW B ⟨k.val, hk'⟩) (chunkN D ⟨k.val, hk'⟩) (chunkN E ⟨k.val, hk'⟩) (hseq v95 A B D k.val) (ix3 0 r e) = _
  rw [y_eq]
  unfold Spec.scan
  refine Finset.sum_congr rfl fun s _ => ?_
  rw [vec_eq (hseq v95 A B D k.val) H ⟨k.val, hk'⟩ (fun s e => hseq_eq H k.val (by omega) s e) r ht s e, chunkN_at, H.hE k r s ht]

end Rows

end Cert.KernelIdeal.Val
end
-- ==== Proof.BlockVal.lean ====
module

public import proofs.«01_k».proof.Proof.ChunkVal

/-! # The body's block is the layer of its input block

Each payload of the body, read at an index over the reals, is the function of `Spec` it computes. -/

@[expose] public section

set_option maxRecDepth 16384

noncomputable section

namespace Cert.KernelIdeal.Val

open Idealize.ShloMosaic Idealize.ShloMosaic.TcCoe Idealize.SL.Sem
open Cert.KernelIdeal Cert.KernelIdeal.Gen

section Block

variable (x0 : Vec Ideal S1x196x768 .f32) (x1 : Vec Ideal S768x3072 .f32) (x2 : Vec Ideal S4x1536 .f32) (x3 : Vec Ideal S1x1536 .f32) (x4 : Vec Ideal S1536x80 .f32)
  (x5 : Vec Ideal S48x1536 .f32) (x6 : Vec Ideal S1x1536 .f32) (x7 : Vec Ideal S16x1536 .f32) (x8 : Vec Ideal S1x1536 .f32) (x9 : Vec Ideal S1536x768 .f32)

/-- The layer's parameters, as the body's blocks hold them. -/
def prm : Spec.Params where
  inw e k := x1 (ix2 k e)
  cw e j := x2 (ix2 j e)
  cb e := x3 (ix2 0 e)
  xpw j e := x4 (ix2 e j)
  dtw e r := x5 (ix2 r e)
  dtb e := x6 (ix2 0 e)
  alog e s := x7 (ix2 s e)
  dpar e := x8 (ix2 0 e)
  ow j e := x9 (ix2 e j)

/-- The block's rows. -/
def row (t : Fin 196) (k : Fin 768) : EReal := x0 (ix3 0 t k)

theorem cw0_at (e : Fin 1536) : cwRow0 (F := Ideal) x2 (ix2 0 e) = x2 (ix2 0 e) := by
  unfold cwRow0
  exact congrArg x2 (funext fun a => Fin.ext (by
    fin_cases a
    · rfl
    · show 0 + 1 * e.val = e.val; omega))
theorem cw1_at (e : Fin 1536) : cwRow1 (F := Ideal) x2 (ix2 0 e) = x2 (ix2 1 e) := by
  unfold cwRow1
  exact congrArg x2 (funext fun a => Fin.ext (by
    fin_cases a
    · rfl
    · show 0 + 1 * e.val = e.val; omega))
theorem cw2_at (e : Fin 1536) : cwRow2 (F := Ideal) x2 (ix2 0 e) = x2 (ix2 2 e) := by
  unfold cwRow2
  exact congrArg x2 (funext fun a => Fin.ext (by
    fin_cases a
    · rfl
    · show 0 + 1 * e.val = e.val; omega))
theorem cw3_at (e : Fin 1536) : cwRow3 (F := Ideal) x2 (ix2 0 e) = x2 (ix2 3 e) := by
  unfold cwRow3
  exact congrArg x2 (funext fun a => Fin.ext (by
    fin_cases a
    · rfl
    · show 0 + 1 * e.val = e.val; omega))

theorem z_eq (t : Fin 196) (e : Fin 1536) : k1_pay20 (F := Ideal) x0 x1 (ix2 t e) = Spec.gate (prm x1 x2 x3 x4 x5 x6 x7 x8 x9) (row x0) t e := by
  pointwise [k1_pay20, k1_pay19]
  rfl

theorem zero_word : ((((0#32 : BitVec 32).toInt : ℤ) : ℝ) : EReal) = 0 := by simp

theorem act_eq (t : Fin 196) (e : Fin 1536) : xcF (F := Ideal) x0 x1 x2 x3 (ix2 t e) = Spec.act (prm x1 x2 x3 x4 x5 x6 x7 x8 x9) (row x0) t e := by
  pointwise [xcF, k1_pay21, k1_pay19, cw0_at, cw1_at, cw2_at, cw3_at]
  simp only [zero_word]
  have h0 : Spec.tap (prm x1 x2 x3 x4 x5 x6 x7 x8 x9) (row x0) 0 (by decide) t e
      = if _ : t.val < 3 then 0 else Spec.pre (prm x1 x2 x3 x4 x5 x6 x7 x8 x9) (row x0) ⟨t.val - 3, by omega⟩ e := by
    unfold Spec.tap
    simp only [Nat.zero_add]
  unfold Spec.act Spec.conv
  rw [h0]
  simp only [← add_assoc]
  rfl

variable (xc : FVec Ideal S196x1536 .f32) (hxc : ∀ (t : Fin 196) (e : Fin 1536), xc (ix2 t e) = Spec.act (prm x1 x2 x3 x4 x5 x6 x7 x8 x9) (row x0) t e)

include hxc

theorem proj_eq (t : Fin 196) (j : Fin 80) : k1_pay22 (F := Ideal) xc x4 (ix2 t j) = Spec.proj (prm x1 x2 x3 x4 x5 x6 x7 x8 x9) (row x0) t j := by
  pointwise [k1_pay22]
  simp only [hxc]
  rfl

theorem dt_eq (t : Fin 196) (e : Fin 1536) : k1_pay23 (F := Ideal) xc x4 x5 x6 (ix2 t e) = Spec.dt (prm x1 x2 x3 x4 x5 x6 x7 x8 x9) (row x0) t e := by
  pointwise [k1_pay23, proj_eq x0 x1 x2 x3 x4 x5 x6 x7 x8 x9 xc hxc]
  rw [if_neg (fun h => h rfl), zero_sub]
  rfl

theorem b_eq (t : Fin 196) (s : Fin 16) : k1_pay24 (F := Ideal) xc x4 (ix2 t s) = Spec.bmat (prm x1 x2 x3 x4 x5 x6 x7 x8 x9) (row x0) t s := by
  pointwise [k1_pay24, proj_eq x0 x1 x2 x3 x4 x5 x6 x7 x8 x9 xc hxc]
  rfl

theorem c_eq (t : Fin 196) (s : Fin 16) : k1_pay25 (F := Ideal) xc x4 (ix2 t s) = Spec.cmat (prm x1 x2 x3 x4 x5 x6 x7 x8 x9) (row x0) t s := by
  pointwise [k1_pay25, proj_eq x0 x1 x2 x3 x4 x5 x6 x7 x8 x9 xc hxc]
  rfl

theorem rows : Rows (prm x1 x2 x3 x4 x5 x6 x7 x8 x9) (row x0) x7 (k1_pay26 xc x4 x5 x6) (k1_pay27 xc x4 x5 x6) (k1_pay28 (k1_pay24 xc x4) 0#32) (k1_pay29 (k1_pay25 xc x4)) where
  hv s e := rfl
  hA k r e ht := by
    pointwise [k1_pay26, dt_eq x0 x1 x2 x3 x4 x5 x6 x7 x8 x9 xc hxc]
    rw [dif_pos ht]
  hB k r e ht := by
    pointwise [k1_pay27, dt_eq x0 x1 x2 x3 x4 x5 x6 x7 x8 x9 xc hxc, hxc]
    rw [dif_pos ht]
  hD k r s ht := by
    pointwise [k1_pay28, b_eq x0 x1 x2 x3 x4 x5 x6 x7 x8 x9 xc hxc]
    rw [dif_pos ht]
  hE k r s ht := by
    pointwise [k1_pay29, c_eq x0 x1 x2 x3 x4 x5 x6 x7 x8 x9 xc hxc]
    rw [dif_pos ht]

theorem ys_eq (k : Fin 25) (r : Fin 8) (ht : k.val * 8 + r.val < 196) (e : Fin 1536) :
    ysF xc x4 x5 x6 x7 (ix3 k r e) = Spec.scan (prm x1 x2 x3 x4 x5 x6 x7 x8 x9) (row x0) ⟨k.val * 8 + r.val, ht⟩ e :=
  yall_eq (rows x0 x1 x2 x3 x4 x5 x6 x7 x8 x9 xc hxc) k r ht e

theorem gated_eq (t : Fin 196) (e : Fin 1536) :
    k1_pay35 (F := Ideal) (k1_pay20 x0 x1) xc (ysF xc x4 x5 x6 x7) x8 (ix2 t e) = Spec.gated (prm x1 x2 x3 x4 x5 x6 x7 x8 x9) (row x0) t e := by
  pointwise [k1_pay35, hxc, z_eq x0 x1 x2 x3 x4 x5 x6 x7 x8 x9]
  rw [ys_eq x0 x1 x2 x3 x4 x5 x6 x7 x8 x9 xc hxc _ _ (by show t.val / 8 * 8 + t.val % 8 < 196; omega)]
  have : (⟨t.val / 8 * 8 + t.val % 8, by omega⟩ : Fin 196) = t := Fin.ext (by show t.val / 8 * 8 + t.val % 8 = t.val; omega)
  exact congrArg₂ (· * ·) (congrArg₂ (· + ·) (congrArg (Spec.scan _ _ · e) this) rfl) rfl

omit hxc in
/-- The body's block, over the reals. -/
theorem out_eq (t : Fin 196) (j : Fin 768) : outF (F := Ideal) x0 x1 x2 x3 x4 x5 x6 x7 x8 x9 (ix3 0 t j) = Spec.layer (prm x1 x2 x3 x4 x5 x6 x7 x8 x9) (row x0) t j := by
  pointwise [outF, k1_pay1, k1_pay36, gated_eq x0 x1 x2 x3 x4 x5 x6 x7 x8 x9 _ (act_eq x0 x1 x2 x3 x4 x5 x6 x7 x8 x9)]
  rfl

end Block

end Cert.KernelIdeal.Val

end
-- ==== Proof.HostVal.lean ====
module

public import proofs.«01_k».proof.Proof.BlockVal
public import proofs.«01_k».proof.Proof.Gen.KernelIdeal.Regions
public import Idealize.ShloMosaic.Lib.Tactic
public import Idealize.ShloMosaic.Lib.Pipeline.ValueKit

/-! # What the host stretches hand to the calls

The first stretch turns the arguments over; the stretch before each layer's call cuts that layer's parameters out. -/

@[expose] public section

set_option maxRecDepth 16384

noncomputable section

namespace Cert.KernelIdeal.Val

open Idealize.ShloMosaic Idealize.ShloMosaic.TcCoe Idealize.SL.Sem
open Idealize.ShloMosaic.Pipeline (Dat Cfg)
open Cert.KernelIdeal Cert.KernelIdeal.Gen
open Cert.Spec (chan prow pcol pixel)

variable (V : Valuation τ sig (Elt Ideal))

/-- The layers' parameters, as the arguments hold them, -/
def stackArgs : Spec.Stack where
  inw k i j := V (Proc.devRef .tc main_arg4) (ix3 k i j)
  cw k i j := V (Proc.devRef .tc main_arg5) (ix3 k i j)
  cb k i := V (Proc.devRef .tc main_arg6) (ix2 k i)
  xpw k i j := V (Proc.devRef .tc main_arg7) (ix3 k i j)
  dtw k i j := V (Proc.devRef .tc main_arg8) (ix3 k i j)
  dtb k i := V (Proc.devRef .tc main_arg9) (ix2 k i)
  alog k i j := V (Proc.devRef .tc main_arg10) (ix3 k i j)
  dpar k i := V (Proc.devRef .tc main_arg11) (ix2 k i)
  ow k i j := V (Proc.devRef .tc main_arg12) (ix3 k i j)

/-- and as the stacked arrays do. -/
def stackMade : Spec.Stack where
  inw k i j := V (Proc.devRef .tc main_v6) (ix3 k j i)
  cw k i j := V (Proc.devRef .tc main_v7) (ix3 k j i)
  cb k i := V (Proc.devRef .tc main_v8) (ix3 k 0 i)
  xpw k i j := V (Proc.devRef .tc main_v9) (ix3 k j i)
  dtw k i j := V (Proc.devRef .tc main_v10) (ix3 k j i)
  dtb k i := V (Proc.devRef .tc main_v11) (ix3 k 0 i)
  alog k i j := V (Proc.devRef .tc main_v12) (ix3 k j i)
  dpar k i := V (Proc.devRef .tc main_v13) (ix3 k 0 i)
  ow k i j := V (Proc.devRef .tc main_v14) (ix3 k j i)

theorem stack_made : stackMade (StableHlo.after hostOps0 V) = stackArgs V := by
  unfold stackMade stackArgs
  after_results
  congr 1
  · funext k i j; pointwise []
  · funext k i j; pointwise []
  · funext k i; pointwise []
  · funext k i j; pointwise []
  · funext k i j; pointwise []
  · funext k i; pointwise []
  · funext k i j; pointwise []
  · funext k i; pointwise []
  · funext k i j; pointwise []

/-- The patches, flattened, -/
theorem patches (b : Fin 8) (t : Fin 196) (j : Fin 768) :
    StableHlo.after hostOps0 V (Proc.devRef .tc main_v2) (ix3 b t j) = pixel (fun c r q => V (Proc.devRef .tc main_arg0) (ix4 b c r q)) t j := by
  after_results
  unfold pixel chan prow pcol
  pointwise []

/-- their projection, -/
theorem projection (j k : Fin 768) : StableHlo.after hostOps0 V (Proc.devRef .tc main_v4) (ix2 j k) = V (Proc.devRef .tc main_arg1) (ix4 k (chan j) (prow j) (pcol j)) := by
  after_results
  unfold chan prow pcol
  pointwise []

/-- and its bias. -/
theorem bias (k : Fin 768) : StableHlo.after hostOps0 V (Proc.devRef .tc main_v5) (ix2 0 k) = V (Proc.devRef .tc main_arg2) (ix1 k) := by
  after_results
  pointwise []

/-- The normalisation's scale and shift. -/
theorem scale (k : Fin 768) : StableHlo.after hostOps13 V (Proc.devRef .tc main_v244) (ix2 0 k) = V (Proc.devRef .tc main_arg13) (ix1 k) := by
  after_results
  pointwise []
theorem shift (k : Fin 768) : StableHlo.after hostOps13 V (Proc.devRef .tc main_v245) (ix2 0 k) = V (Proc.devRef .tc main_arg14) (ix1 k) := by
  after_results
  pointwise []

/-- Layer `k`'s parameters, cut out of stacked arrays. -/
theorem cut_prm (k : Fin 12) (a1 : FVec Ideal S12x768x3072 .f32) (a2 : FVec Ideal S12x4x1536 .f32) (a3 : FVec Ideal S12x1x1536 .f32) (a4 : FVec Ideal S12x1536x80 .f32) (a5 : FVec Ideal S12x48x1536 .f32) (a6 : FVec Ideal S12x1x1536 .f32) (a7 : FVec Ideal S12x16x1536 .f32) (a8 : FVec Ideal S12x1x1536 .f32) (a9 : FVec Ideal S12x1536x768 .f32)
    (h1 : S12x768x3072.Slices ![k.val, 0, 0] S1x768x3072) (h2 : S12x4x1536.Slices ![k.val, 0, 0] S1x4x1536) (h3 : S12x1x1536.Slices ![k.val, 0, 0] S1x1x1536) (h4 : S12x1536x80.Slices ![k.val, 0, 0] S1x1536x80) (h5 : S12x48x1536.Slices ![k.val, 0, 0] S1x48x1536) (h6 : S12x1x1536.Slices ![k.val, 0, 0] S1x1x1536) (h7 : S12x16x1536.Slices ![k.val, 0, 0] S1x16x1536) (h8 : S12x1x1536.Slices ![k.val, 0, 0] S1x1x1536) (h9 : S12x1536x768.Slices ![k.val, 0, 0] S1x1536x768) :
    prm (shapeCast S768x3072 (extractStridedSlice S1x768x3072 ![k.val, 0, 0] a1 h1) shapeCasts_S1x768x3072_S768x3072) (shapeCast S4x1536 (extractStridedSlice S1x4x1536 ![k.val, 0, 0] a2 h2) shapeCasts_S1x4x1536_S4x1536) (shapeCast S1x1536 (extractStridedSlice S1x1x1536 ![k.val, 0, 0] a3 h3) shapeCasts_S1x1x1536_S1x1536) (shapeCast S1536x80 (extractStridedSlice S1x1536x80 ![k.val, 0, 0] a4 h4) shapeCasts_S1x1536x80_S1536x80) (shapeCast S48x1536 (extractStridedSlice S1x48x1536 ![k.val, 0, 0] a5 h5) shapeCasts_S1x48x1536_S48x1536) (shapeCast S1x1536 (extractStridedSlice S1x1x1536 ![k.val, 0, 0] a6 h6) shapeCasts_S1x1x1536_S1x1536) (shapeCast S16x1536 (extractStridedSlice S1x16x1536 ![k.val, 0, 0] a7 h7) shapeCasts_S1x16x1536_S16x1536) (shapeCast S1x1536 (extractStridedSlice S1x1x1536 ![k.val, 0, 0] a8 h8) shapeCasts_S1x1x1536_S1x1536) (shapeCast S1536x768 (extractStridedSlice S1x1536x768 ![k.val, 0, 0] a9 h9) shapeCasts_S1x1536x768_S1536x768)
      = ⟨fun i j => a1 (ix3 k j i), fun i j => a2 (ix3 k j i), fun i => a3 (ix3 k 0 i), fun i j => a4 (ix3 k j i), fun i j => a5 (ix3 k j i), fun i => a6 (ix3 k 0 i),
          fun i j => a7 (ix3 k j i), fun i => a8 (ix3 k 0 i), fun i j => a9 (ix3 k j i)⟩ := by
  unfold prm
  congr 1
  · funext i j; pointwise []
  · funext i j; pointwise []
  · funext i; pointwise []
  · funext i j; pointwise []
  · funext i j; pointwise []
  · funext i; pointwise []
  · funext i j; pointwise []
  · funext i; pointwise []
  · funext i j; pointwise []

/-! The parameters each layer's call finds. -/

theorem made1 : prm (StableHlo.after hostOps1 V (Proc.devRef .tc main_v17)) (StableHlo.after hostOps1 V (Proc.devRef .tc main_v19)) (StableHlo.after hostOps1 V (Proc.devRef .tc main_v21)) (StableHlo.after hostOps1 V (Proc.devRef .tc main_v23)) (StableHlo.after hostOps1 V (Proc.devRef .tc main_v25)) (StableHlo.after hostOps1 V (Proc.devRef .tc main_v27)) (StableHlo.after hostOps1 V (Proc.devRef .tc main_v29)) (StableHlo.after hostOps1 V (Proc.devRef .tc main_v31)) (StableHlo.after hostOps1 V (Proc.devRef .tc main_v33)) = (stackMade V).at 0 := by
  after_results
  exact cut_prm 0 _ _ _ _ _ _ _ _ _ _ _ _ _ _ _ _ _ _
theorem made2 : prm (StableHlo.after hostOps2 V (Proc.devRef .tc main_v36)) (StableHlo.after hostOps2 V (Proc.devRef .tc main_v38)) (StableHlo.after hostOps2 V (Proc.devRef .tc main_v40)) (StableHlo.after hostOps2 V (Proc.devRef .tc main_v42)) (StableHlo.after hostOps2 V (Proc.devRef .tc main_v44)) (StableHlo.after hostOps2 V (Proc.devRef .tc main_v46)) (StableHlo.after hostOps2 V (Proc.devRef .tc main_v48)) (StableHlo.after hostOps2 V (Proc.devRef .tc main_v50)) (StableHlo.after hostOps2 V (Proc.devRef .tc main_v52)) = (stackMade V).at 1 := by
  after_results
  exact cut_prm 1 _ _ _ _ _ _ _ _ _ _ _ _ _ _ _ _ _ _
theorem made3 : prm (StableHlo.after hostOps3 V (Proc.devRef .tc main_v55)) (StableHlo.after hostOps3 V (Proc.devRef .tc main_v57)) (StableHlo.after hostOps3 V (Proc.devRef .tc main_v59)) (StableHlo.after hostOps3 V (Proc.devRef .tc main_v61)) (StableHlo.after hostOps3 V (Proc.devRef .tc main_v63)) (StableHlo.after hostOps3 V (Proc.devRef .tc main_v65)) (StableHlo.after hostOps3 V (Proc.devRef .tc main_v67)) (StableHlo.after hostOps3 V (Proc.devRef .tc main_v69)) (StableHlo.after hostOps3 V (Proc.devRef .tc main_v71)) = (stackMade V).at 2 := by
  after_results
  exact cut_prm 2 _ _ _ _ _ _ _ _ _ _ _ _ _ _ _ _ _ _
theorem made4 : prm (StableHlo.after hostOps4 V (Proc.devRef .tc main_v74)) (StableHlo.after hostOps4 V (Proc.devRef .tc main_v76)) (StableHlo.after hostOps4 V (Proc.devRef .tc main_v78)) (StableHlo.after hostOps4 V (Proc.devRef .tc main_v80)) (StableHlo.after hostOps4 V (Proc.devRef .tc main_v82)) (StableHlo.after hostOps4 V (Proc.devRef .tc main_v84)) (StableHlo.after hostOps4 V (Proc.devRef .tc main_v86)) (StableHlo.after hostOps4 V (Proc.devRef .tc main_v88)) (StableHlo.after hostOps4 V (Proc.devRef .tc main_v90)) = (stackMade V).at 3 := by
  after_results
  exact cut_prm 3 _ _ _ _ _ _ _ _ _ _ _ _ _ _ _ _ _ _
theorem made5 : prm (StableHlo.after hostOps5 V (Proc.devRef .tc main_v93)) (StableHlo.after hostOps5 V (Proc.devRef .tc main_v95)) (StableHlo.after hostOps5 V (Proc.devRef .tc main_v97)) (StableHlo.after hostOps5 V (Proc.devRef .tc main_v99)) (StableHlo.after hostOps5 V (Proc.devRef .tc main_v101)) (StableHlo.after hostOps5 V (Proc.devRef .tc main_v103)) (StableHlo.after hostOps5 V (Proc.devRef .tc main_v105)) (StableHlo.after hostOps5 V (Proc.devRef .tc main_v107)) (StableHlo.after hostOps5 V (Proc.devRef .tc main_v109)) = (stackMade V).at 4 := by
  after_results
  exact cut_prm 4 _ _ _ _ _ _ _ _ _ _ _ _ _ _ _ _ _ _
theorem made6 : prm (StableHlo.after hostOps6 V (Proc.devRef .tc main_v112)) (StableHlo.after hostOps6 V (Proc.devRef .tc main_v114)) (StableHlo.after hostOps6 V (Proc.devRef .tc main_v116)) (StableHlo.after hostOps6 V (Proc.devRef .tc main_v118)) (StableHlo.after hostOps6 V (Proc.devRef .tc main_v120)) (StableHlo.after hostOps6 V (Proc.devRef .tc main_v122)) (StableHlo.after hostOps6 V (Proc.devRef .tc main_v124)) (StableHlo.after hostOps6 V (Proc.devRef .tc main_v126)) (StableHlo.after hostOps6 V (Proc.devRef .tc main_v128)) = (stackMade V).at 5 := by
  after_results
  exact cut_prm 5 _ _ _ _ _ _ _ _ _ _ _ _ _ _ _ _ _ _
theorem made7 : prm (StableHlo.after hostOps7 V (Proc.devRef .tc main_v131)) (StableHlo.after hostOps7 V (Proc.devRef .tc main_v133)) (StableHlo.after hostOps7 V (Proc.devRef .tc main_v135)) (StableHlo.after hostOps7 V (Proc.devRef .tc main_v137)) (StableHlo.after hostOps7 V (Proc.devRef .tc main_v139)) (StableHlo.after hostOps7 V (Proc.devRef .tc main_v141)) (StableHlo.after hostOps7 V (Proc.devRef .tc main_v143)) (StableHlo.after hostOps7 V (Proc.devRef .tc main_v145)) (StableHlo.after hostOps7 V (Proc.devRef .tc main_v147)) = (stackMade V).at 6 := by
  after_results
  exact cut_prm 6 _ _ _ _ _ _ _ _ _ _ _ _ _ _ _ _ _ _
theorem made8 : prm (StableHlo.after hostOps8 V (Proc.devRef .tc main_v150)) (StableHlo.after hostOps8 V (Proc.devRef .tc main_v152)) (StableHlo.after hostOps8 V (Proc.devRef .tc main_v154)) (StableHlo.after hostOps8 V (Proc.devRef .tc main_v156)) (StableHlo.after hostOps8 V (Proc.devRef .tc main_v158)) (StableHlo.after hostOps8 V (Proc.devRef .tc main_v160)) (StableHlo.after hostOps8 V (Proc.devRef .tc main_v162)) (StableHlo.after hostOps8 V (Proc.devRef .tc main_v164)) (StableHlo.after hostOps8 V (Proc.devRef .tc main_v166)) = (stackMade V).at 7 := by
  after_results
  exact cut_prm 7 _ _ _ _ _ _ _ _ _ _ _ _ _ _ _ _ _ _
theorem made9 : prm (StableHlo.after hostOps9 V (Proc.devRef .tc main_v169)) (StableHlo.after hostOps9 V (Proc.devRef .tc main_v171)) (StableHlo.after hostOps9 V (Proc.devRef .tc main_v173)) (StableHlo.after hostOps9 V (Proc.devRef .tc main_v175)) (StableHlo.after hostOps9 V (Proc.devRef .tc main_v177)) (StableHlo.after hostOps9 V (Proc.devRef .tc main_v179)) (StableHlo.after hostOps9 V (Proc.devRef .tc main_v181)) (StableHlo.after hostOps9 V (Proc.devRef .tc main_v183)) (StableHlo.after hostOps9 V (Proc.devRef .tc main_v185)) = (stackMade V).at 8 := by
  after_results
  exact cut_prm 8 _ _ _ _ _ _ _ _ _ _ _ _ _ _ _ _ _ _
theorem made10 : prm (StableHlo.after hostOps10 V (Proc.devRef .tc main_v188)) (StableHlo.after hostOps10 V (Proc.devRef .tc main_v190)) (StableHlo.after hostOps10 V (Proc.devRef .tc main_v192)) (StableHlo.after hostOps10 V (Proc.devRef .tc main_v194)) (StableHlo.after hostOps10 V (Proc.devRef .tc main_v196)) (StableHlo.after hostOps10 V (Proc.devRef .tc main_v198)) (StableHlo.after hostOps10 V (Proc.devRef .tc main_v200)) (StableHlo.after hostOps10 V (Proc.devRef .tc main_v202)) (StableHlo.after hostOps10 V (Proc.devRef .tc main_v204)) = (stackMade V).at 9 := by
  after_results
  exact cut_prm 9 _ _ _ _ _ _ _ _ _ _ _ _ _ _ _ _ _ _
theorem made11 : prm (StableHlo.after hostOps11 V (Proc.devRef .tc main_v207)) (StableHlo.after hostOps11 V (Proc.devRef .tc main_v209)) (StableHlo.after hostOps11 V (Proc.devRef .tc main_v211)) (StableHlo.after hostOps11 V (Proc.devRef .tc main_v213)) (StableHlo.after hostOps11 V (Proc.devRef .tc main_v215)) (StableHlo.after hostOps11 V (Proc.devRef .tc main_v217)) (StableHlo.after hostOps11 V (Proc.devRef .tc main_v219)) (StableHlo.after hostOps11 V (Proc.devRef .tc main_v221)) (StableHlo.after hostOps11 V (Proc.devRef .tc main_v223)) = (stackMade V).at 10 := by
  after_results
  exact cut_prm 10 _ _ _ _ _ _ _ _ _ _ _ _ _ _ _ _ _ _
theorem made12 : prm (StableHlo.after hostOps12 V (Proc.devRef .tc main_v226)) (StableHlo.after hostOps12 V (Proc.devRef .tc main_v228)) (StableHlo.after hostOps12 V (Proc.devRef .tc main_v230)) (StableHlo.after hostOps12 V (Proc.devRef .tc main_v232)) (StableHlo.after hostOps12 V (Proc.devRef .tc main_v234)) (StableHlo.after hostOps12 V (Proc.devRef .tc main_v236)) (StableHlo.after hostOps12 V (Proc.devRef .tc main_v238)) (StableHlo.after hostOps12 V (Proc.devRef .tc main_v240)) (StableHlo.after hostOps12 V (Proc.devRef .tc main_v242)) = (stackMade V).at 11 := by
  after_results
  exact cut_prm 11 _ _ _ _ _ _ _ _ _ _ _ _ _ _ _ _ _ _

end Cert.KernelIdeal.Val

end
-- ==== Proof.LayerVal.lean ====
module
public import proofs.«01_k».proof.Proof.BlockVal
public import proofs.«01_k».proof.Proof.Calls

/-! # The array each layer's call leaves

At every point the layers' calls read one image's rows and the whole of each parameter array, so each leaves the layer
of every image. The first call's windows stand for all twelve: the others differ in the arrays' names only. -/

@[expose] public section

set_option maxRecDepth 16384

noncomputable section

namespace Cert.KernelIdeal.Val

open Idealize.ShloMosaic Idealize.ShloMosaic.TcCoe Idealize.SL.Sem
open Idealize.ShloMosaic.Pipeline (Dat Cfg)
open Cert.KernelIdeal Cert.KernelIdeal.Gen

theorem idx : ∀ t : Fin cfg1.N, win1_0.index t = ![t.val, 0, 0] ∧ win1_1.index t = ![0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![0, 0] ∧ win1_9.index t = ![0, 0]
    ∧ win1_10.index t = ![t.val, 0, 0] :=
  (by decide +kernel : ∀ t : Fin grid1.N, _)

variable (W : Valuation τ sig (Elt Ideal)) (c : Dev nD)

/-- The layer of each batch element, as an array. -/
def layerArr (a0 : FVec Ideal S8x196x768 .f32) (P : Spec.Params) : FVec Ideal S8x196x768 .f32 :=
  fun y => Spec.layer P (fun t k => a0 (ix3 (y 0) t k)) (y 1) (y 2)

/-- The block that window `w` of the first layer's call reads of the array `X` at point `t`. -/
def blockOf (w : Fin cfg1.W) (X : (Pipeline.arrRef cfg1.spec w).ty.Contents (Elt Ideal)) (t : Fin cfg1.N) : (cfg1.win w).block.Idx → Elt Ideal (cfg1.win w).elt :=
  (cfg1.win w).fill (cfg1.grid.coords t) (fun _ => Classical.arbitrary _) (((cfg1.win w).blk t).view.read (Elt Ideal) X)

theorem block0 (X : FVec Ideal S8x196x768 .f32) (t : Fin cfg1.N) (ht : t.val < 8) (r : Fin 196) (k : Fin 768) : blockOf 0 X t (ix3 0 r k) = X (ix3 ⟨t.val, ht⟩ r k) := by
  show ((cfg1.win 0).blk t).view.read (Elt Ideal) X (ix3 0 r k) = _
  blk_point [idx t]
theorem block1 (X : FVec Ideal S768x3072 .f32) (t : Fin cfg1.N) : blockOf 1 X t = X := by
  funext y
  idx_vars y
  show ((cfg1.win 1).blk t).view.read (Elt Ideal) X (ix2 y0 y1) = _
  blk_point [idx t]
theorem block2 (X : FVec Ideal S4x1536 .f32) (t : Fin cfg1.N) : blockOf 2 X t = X := by
  funext y
  idx_vars y
  show ((cfg1.win 2).blk t).view.read (Elt Ideal) X (ix2 y0 y1) = _
  blk_point [idx t]
theorem block3 (X : FVec Ideal S1x1536 .f32) (t : Fin cfg1.N) : blockOf 3 X t = X := by
  funext y
  idx_vars y
  show ((cfg1.win 3).blk t).view.read (Elt Ideal) X (ix2 y0 y1) = _
  blk_point [idx t]
theorem block4 (X : FVec Ideal S1536x80 .f32) (t : Fin cfg1.N) : blockOf 4 X t = X := by
  funext y
  idx_vars y
  show ((cfg1.win 4).blk t).view.read (Elt Ideal) X (ix2 y0 y1) = _
  blk_point [idx t]
theorem block5 (X : FVec Ideal S48x1536 .f32) (t : Fin cfg1.N) : blockOf 5 X t = X := by
  funext y
  idx_vars y
  show ((cfg1.win 5).blk t).view.read (Elt Ideal) X (ix2 y0 y1) = _
  blk_point [idx t]
theorem block6 (X : FVec Ideal S1x1536 .f32) (t : Fin cfg1.N) : blockOf 6 X t = X := by
  funext y
  idx_vars y
  show ((cfg1.win 6).blk t).view.read (Elt Ideal) X (ix2 y0 y1) = _
  blk_point [idx t]
theorem block7 (X : FVec Ideal S16x1536 .f32) (t : Fin cfg1.N) : blockOf 7 X t = X := by
  funext y
  idx_vars y
  show ((cfg1.win 7).blk t).view.read (Elt Ideal) X (ix2 y0 y1) = _
  blk_point [idx t]
theorem block8 (X : FVec Ideal S1x1536 .f32) (t : Fin cfg1.N) : blockOf 8 X t = X := by
  funext y
  idx_vars y
  show ((cfg1.win 8).blk t).view.read (Elt Ideal) X (ix2 y0 y1) = _
  blk_point [idx t]
theorem block9 (X : FVec Ideal S1536x768 .f32) (t : Fin cfg1.N) : blockOf 9 X t = X := by
  funext y
  idx_vars y
  show ((cfg1.win 9).blk t).view.read (Elt Ideal) X (ix2 y0 y1) = _
  blk_point [idx t]

/-- A place of the block that a grid point of the layer's call leaves, of the arrays the call reads. -/
theorem point (X0 : FVec Ideal S8x196x768 .f32) (X1 : FVec Ideal S768x3072 .f32) (X2 : FVec Ideal S4x1536 .f32) (X3 : FVec Ideal S1x1536 .f32) (X4 : FVec Ideal S1536x80 .f32)
    (X5 : FVec Ideal S48x1536 .f32) (X6 : FVec Ideal S1x1536 .f32) (X7 : FVec Ideal S16x1536 .f32) (X8 : FVec Ideal S1x1536 .f32) (X9 : FVec Ideal S1536x768 .f32)
    (t : Fin cfg1.N) (y : S1x196x768.Idx) :
    outF (F := Ideal) (blockOf 0 X0 t) (blockOf 1 X1 t) (blockOf 2 X2 t) (blockOf 3 X3 t) (blockOf 4 X4 t) (blockOf 5 X5 t) (blockOf 6 X6 t) (blockOf 7 X7 t) (blockOf 8 X8 t) (blockOf 9 X9 t) y
      = layerArr X0 (prm X1 X2 X3 X4 X5 X6 X7 X8 X9) (((cfg1.win 10).blk t).view.emb y) := by
  idx_vars y
  obtain rfl : y0 = 0 := Subsingleton.elim _ _
  have ht : t.val < 8 := t.isLt
  have hy : (((View.whole main_v34).slice (win1_10.rect t)).emb (ix3 0 y1 y2)) = ix3 ⟨t.val, ht⟩ y1 y2 := by
    blk_ext [idx t]
  rw [block1, block2, block3, block4, block5, block6, block7, block8, block9, out_eq]
  show Spec.layer _ _ y1 y2 = layerArr X0 _ (((View.whole main_v34).slice (win1_10.rect t)).emb (ix3 0 y1 y2))
  rw [hy]
  refine congrArg (Spec.layer _ · y1 y2) ?_
  funext r k
  exact block0 X0 t ht r k

/-! ## The calls' results -/

theorem value1 : (dat1 W c).arrAt 10 cfg1.N = layerArr (W (Proc.devRef .tc main_v15)) (prm (W (Proc.devRef .tc main_v17)) (W (Proc.devRef .tc main_v19)) (W (Proc.devRef .tc main_v21)) (W (Proc.devRef .tc main_v23)) (W (Proc.devRef .tc main_v25)) (W (Proc.devRef .tc main_v27)) (W (Proc.devRef .tc main_v29)) (W (Proc.devRef .tc main_v31)) (W (Proc.devRef .tc main_v33))) :=
  (dat1 W c).arrAt_eq_of_covers 10 _ (by decide +kernel) fun t _ y => by
    rw [callDat_after_out]
    exact point _ _ _ _ _ _ _ _ _ _ t y
theorem value2 : (dat2 W c).arrAt 10 cfg2.N = layerArr (W (Proc.devRef .tc main_v34)) (prm (W (Proc.devRef .tc main_v36)) (W (Proc.devRef .tc main_v38)) (W (Proc.devRef .tc main_v40)) (W (Proc.devRef .tc main_v42)) (W (Proc.devRef .tc main_v44)) (W (Proc.devRef .tc main_v46)) (W (Proc.devRef .tc main_v48)) (W (Proc.devRef .tc main_v50)) (W (Proc.devRef .tc main_v52))) :=
  (dat2 W c).arrAt_eq_of_covers 10 _ (by decide +kernel) fun t _ y => by
    rw [callDat_after_out]
    exact point _ _ _ _ _ _ _ _ _ _ t y
theorem value3 : (dat3 W c).arrAt 10 cfg3.N = layerArr (W (Proc.devRef .tc main_v53)) (prm (W (Proc.devRef .tc main_v55)) (W (Proc.devRef .tc main_v57)) (W (Proc.devRef .tc main_v59)) (W (Proc.devRef .tc main_v61)) (W (Proc.devRef .tc main_v63)) (W (Proc.devRef .tc main_v65)) (W (Proc.devRef .tc main_v67)) (W (Proc.devRef .tc main_v69)) (W (Proc.devRef .tc main_v71))) :=
  (dat3 W c).arrAt_eq_of_covers 10 _ (by decide +kernel) fun t _ y => by
    rw [callDat_after_out]
    exact point _ _ _ _ _ _ _ _ _ _ t y
theorem value4 : (dat4 W c).arrAt 10 cfg4.N = layerArr (W (Proc.devRef .tc main_v72)) (prm (W (Proc.devRef .tc main_v74)) (W (Proc.devRef .tc main_v76)) (W (Proc.devRef .tc main_v78)) (W (Proc.devRef .tc main_v80)) (W (Proc.devRef .tc main_v82)) (W (Proc.devRef .tc main_v84)) (W (Proc.devRef .tc main_v86)) (W (Proc.devRef .tc main_v88)) (W (Proc.devRef .tc main_v90))) :=
  (dat4 W c).arrAt_eq_of_covers 10 _ (by decide +kernel) fun t _ y => by
    rw [callDat_after_out]
    exact point _ _ _ _ _ _ _ _ _ _ t y
theorem value5 : (dat5 W c).arrAt 10 cfg5.N = layerArr (W (Proc.devRef .tc main_v91)) (prm (W (Proc.devRef .tc main_v93)) (W (Proc.devRef .tc main_v95)) (W (Proc.devRef .tc main_v97)) (W (Proc.devRef .tc main_v99)) (W (Proc.devRef .tc main_v101)) (W (Proc.devRef .tc main_v103)) (W (Proc.devRef .tc main_v105)) (W (Proc.devRef .tc main_v107)) (W (Proc.devRef .tc main_v109))) :=
  (dat5 W c).arrAt_eq_of_covers 10 _ (by decide +kernel) fun t _ y => by
    rw [callDat_after_out]
    exact point _ _ _ _ _ _ _ _ _ _ t y
theorem value6 : (dat6 W c).arrAt 10 cfg6.N = layerArr (W (Proc.devRef .tc main_v110)) (prm (W (Proc.devRef .tc main_v112)) (W (Proc.devRef .tc main_v114)) (W (Proc.devRef .tc main_v116)) (W (Proc.devRef .tc main_v118)) (W (Proc.devRef .tc main_v120)) (W (Proc.devRef .tc main_v122)) (W (Proc.devRef .tc main_v124)) (W (Proc.devRef .tc main_v126)) (W (Proc.devRef .tc main_v128))) :=
  (dat6 W c).arrAt_eq_of_covers 10 _ (by decide +kernel) fun t _ y => by
    rw [callDat_after_out]
    exact point _ _ _ _ _ _ _ _ _ _ t y
theorem value7 : (dat7 W c).arrAt 10 cfg7.N = layerArr (W (Proc.devRef .tc main_v129)) (prm (W (Proc.devRef .tc main_v131)) (W (Proc.devRef .tc main_v133)) (W (Proc.devRef .tc main_v135)) (W (Proc.devRef .tc main_v137)) (W (Proc.devRef .tc main_v139)) (W (Proc.devRef .tc main_v141)) (W (Proc.devRef .tc main_v143)) (W (Proc.devRef .tc main_v145)) (W (Proc.devRef .tc main_v147))) :=
  (dat7 W c).arrAt_eq_of_covers 10 _ (by decide +kernel) fun t _ y => by
    rw [callDat_after_out]
    exact point _ _ _ _ _ _ _ _ _ _ t y
theorem value8 : (dat8 W c).arrAt 10 cfg8.N = layerArr (W (Proc.devRef .tc main_v148)) (prm (W (Proc.devRef .tc main_v150)) (W (Proc.devRef .tc main_v152)) (W (Proc.devRef .tc main_v154)) (W (Proc.devRef .tc main_v156)) (W (Proc.devRef .tc main_v158)) (W (Proc.devRef .tc main_v160)) (W (Proc.devRef .tc main_v162)) (W (Proc.devRef .tc main_v164)) (W (Proc.devRef .tc main_v166))) :=
  (dat8 W c).arrAt_eq_of_covers 10 _ (by decide +kernel) fun t _ y => by
    rw [callDat_after_out]
    exact point _ _ _ _ _ _ _ _ _ _ t y
theorem value9 : (dat9 W c).arrAt 10 cfg9.N = layerArr (W (Proc.devRef .tc main_v167)) (prm (W (Proc.devRef .tc main_v169)) (W (Proc.devRef .tc main_v171)) (W (Proc.devRef .tc main_v173)) (W (Proc.devRef .tc main_v175)) (W (Proc.devRef .tc main_v177)) (W (Proc.devRef .tc main_v179)) (W (Proc.devRef .tc main_v181)) (W (Proc.devRef .tc main_v183)) (W (Proc.devRef .tc main_v185))) :=
  (dat9 W c).arrAt_eq_of_covers 10 _ (by decide +kernel) fun t _ y => by
    rw [callDat_after_out]
    exact point _ _ _ _ _ _ _ _ _ _ t y
theorem value10 : (dat10 W c).arrAt 10 cfg10.N = layerArr (W (Proc.devRef .tc main_v186)) (prm (W (Proc.devRef .tc main_v188)) (W (Proc.devRef .tc main_v190)) (W (Proc.devRef .tc main_v192)) (W (Proc.devRef .tc main_v194)) (W (Proc.devRef .tc main_v196)) (W (Proc.devRef .tc main_v198)) (W (Proc.devRef .tc main_v200)) (W (Proc.devRef .tc main_v202)) (W (Proc.devRef .tc main_v204))) :=
  (dat10 W c).arrAt_eq_of_covers 10 _ (by decide +kernel) fun t _ y => by
    rw [callDat_after_out]
    exact point _ _ _ _ _ _ _ _ _ _ t y
theorem value11 : (dat11 W c).arrAt 10 cfg11.N = layerArr (W (Proc.devRef .tc main_v205)) (prm (W (Proc.devRef .tc main_v207)) (W (Proc.devRef .tc main_v209)) (W (Proc.devRef .tc main_v211)) (W (Proc.devRef .tc main_v213)) (W (Proc.devRef .tc main_v215)) (W (Proc.devRef .tc main_v217)) (W (Proc.devRef .tc main_v219)) (W (Proc.devRef .tc main_v221)) (W (Proc.devRef .tc main_v223))) :=
  (dat11 W c).arrAt_eq_of_covers 10 _ (by decide +kernel) fun t _ y => by
    rw [callDat_after_out]
    exact point _ _ _ _ _ _ _ _ _ _ t y
theorem value12 : (dat12 W c).arrAt 10 cfg12.N = layerArr (W (Proc.devRef .tc main_v224)) (prm (W (Proc.devRef .tc main_v226)) (W (Proc.devRef .tc main_v228)) (W (Proc.devRef .tc main_v230)) (W (Proc.devRef .tc main_v232)) (W (Proc.devRef .tc main_v234)) (W (Proc.devRef .tc main_v236)) (W (Proc.devRef .tc main_v238)) (W (Proc.devRef .tc main_v240)) (W (Proc.devRef .tc main_v242))) :=
  (dat12 W c).arrAt_eq_of_covers 10 _ (by decide +kernel) fun t _ y => by
    rw [callDat_after_out]
    exact point _ _ _ _ _ _ _ _ _ _ t y

end Cert.KernelIdeal.Val

end
-- ==== Proof.EdgeVal.lean ====
module

public import proofs.«01_k».proof.Proof.Calls
public import proofs.«01_k».proof.Proof.Spec
public import Idealize.ShloMosaic.Lib.Tactic
public import Idealize.ShloMosaic.Lib.Pipeline.ValueKit

/-! # The arrays the first and the last call leave

The patches' embedding, and the rows normalised. -/

@[expose] public section

set_option maxRecDepth 16384

noncomputable section

namespace Cert.KernelIdeal.Val

open Idealize.ShloMosaic Idealize.ShloMosaic.TcCoe Idealize.SL.Sem
open Idealize.ShloMosaic.Pipeline (Dat Cfg)
open Cert.KernelIdeal Cert.KernelIdeal.Gen
open Cert.Spec (chan prow pcol pixel)

/-! ## The embedding -/

theorem embed_at (x0 : Vec Ideal S1x196x768 .f32) (x1 : Vec Ideal S768x768 .f32) (x2 : Vec Ideal S1x768 .f32) (x3 : Vec Ideal S1x196x768 .f32) (t : Fin 196) (k : Fin 768) :
    k0_pay1 (F := Ideal) x0 x1 x2 x3 (ix3 0 t k) = ∑ j, x0 (ix3 0 t j) * x1 (ix2 j k) + x2 (ix2 0 k) + x3 (ix3 0 t k) := by
  pointwise [k0_pay1]

/-- Every row projected, with bias and position, as an array. -/
def embArr (a0 : FVec Ideal S8x196x768 .f32) (a1 : FVec Ideal S768x768 .f32) (a2 : FVec Ideal S1x768 .f32) (a3 : FVec Ideal S1x196x768 .f32) : FVec Ideal S8x196x768 .f32 :=
  fun y => ∑ j, a0 (ix3 (y 0) (y 1) j) * a1 (ix2 j (y 2)) + a2 (ix2 0 (y 2)) + a3 (ix3 0 (y 1) (y 2))

theorem idx0 : ∀ t : Fin cfg0.N, win0_0.index t = ![t.val, 0, 0] ∧ win0_1.index t = ![0, 0] ∧ win0_2.index t = ![0, 0] ∧ win0_3.index t = ![0, 0, 0] ∧ win0_4.index t = ![t.val, 0, 0] :=
  (by decide +kernel : ∀ t : Fin grid0.N, _)

variable (W : Valuation τ sig (Elt Ideal)) (c : Dev nD)

theorem emb_block0 (t : Fin cfg0.N) (ht : t.val < 8) (r : Fin 196) (k : Fin 768) : blockAt cfg0 W 0 t (ix3 0 r k) = W (Proc.devRef .tc main_v2) (ix3 ⟨t.val, ht⟩ r k) := by
  show ((cfg0.win 0).blk t).view.read (Elt Ideal) (W (Proc.devRef .tc main_v2)) (ix3 0 r k) = _
  blk_point [idx0 t]
theorem emb_block1 (t : Fin cfg0.N) (j k : Fin 768) : blockAt cfg0 W 1 t (ix2 j k) = W (Proc.devRef .tc main_v4) (ix2 j k) := by
  show ((cfg0.win 1).blk t).view.read (Elt Ideal) (W (Proc.devRef .tc main_v4)) (ix2 j k) = _
  blk_point [idx0 t]
theorem emb_block2 (t : Fin cfg0.N) (k : Fin 768) : blockAt cfg0 W 2 t (ix2 0 k) = W (Proc.devRef .tc main_v5) (ix2 0 k) := by
  show ((cfg0.win 2).blk t).view.read (Elt Ideal) (W (Proc.devRef .tc main_v5)) (ix2 0 k) = _
  blk_point [idx0 t]
theorem emb_block3 (t : Fin cfg0.N) (r : Fin 196) (k : Fin 768) : blockAt cfg0 W 3 t (ix3 0 r k) = W (Proc.devRef .tc main_arg3) (ix3 0 r k) := by
  show ((cfg0.win 3).blk t).view.read (Elt Ideal) (W (Proc.devRef .tc main_arg3)) (ix3 0 r k) = _
  blk_point [idx0 t]

theorem value0 : (dat0 W c).arrAt 4 cfg0.N
    = embArr (W (Proc.devRef .tc main_v2)) (W (Proc.devRef .tc main_v4)) (W (Proc.devRef .tc main_v5)) (W (Proc.devRef .tc main_arg3)) := by
  refine (dat0 W c).arrAt_eq_of_covers 4 _ (by decide +kernel) fun t _ y => ?_
  blk_simp
  rw [callDat_after_out]
  idx_vars y
  obtain rfl : y0 = 0 := Subsingleton.elim _ _
  have ht : t.val < 8 := t.isLt
  have hy : (((View.whole main_v15).slice (win0_4.rect t)).emb (ix3 0 y1 y2)) = ix3 ⟨t.val, ht⟩ y1 y2 := by
    blk_ext [idx0 t]
  rw [hy]
  refine (embed_at _ _ _ _ y1 y2).trans ?_
  unfold embArr
  rw [emb_block2 W t y2, emb_block3 W t y1 y2]
  simp only [emb_block0 W t ht, emb_block1]
  rfl

/-! ## The normalisation -/

theorem norm_at (x0 : Vec Ideal S1x196x768 .f32) (x1 x2 : Vec Ideal S1x768 .f32) (t : Fin 196) (k : Fin 768) :
    k13_pay1 (F := Ideal) x0 x1 x2 (ix3 0 t k) = Spec.normed (fun j => x1 (ix2 0 j)) (fun j => x2 (ix2 0 j)) (fun j => x0 (ix3 0 t j)) k := by
  pointwise [k13_pay1]
  rfl

/-- Every row normalised, as an array. -/
def normArr (a0 : FVec Ideal S8x196x768 .f32) (a1 a2 : FVec Ideal S1x768 .f32) : FVec Ideal S8x196x768 .f32 :=
  fun y => Spec.normed (fun k => a1 (ix2 0 k)) (fun k => a2 (ix2 0 k)) (fun k => a0 (ix3 (y 0) (y 1) k)) (y 2)

theorem idx13 : ∀ t : Fin cfg13.N, win13_0.index t = ![t.val, 0, 0] ∧ win13_1.index t = ![0, 0] ∧ win13_2.index t = ![0, 0] ∧ win13_3.index t = ![t.val, 0, 0] :=
  (by decide +kernel : ∀ t : Fin grid13.N, _)

theorem norm_block0 (t : Fin cfg13.N) (ht : t.val < 8) (r : Fin 196) (k : Fin 768) : blockAt cfg13 W 0 t (ix3 0 r k) = W (Proc.devRef .tc main_v243) (ix3 ⟨t.val, ht⟩ r k) := by
  show ((cfg13.win 0).blk t).view.read (Elt Ideal) (W (Proc.devRef .tc main_v243)) (ix3 0 r k) = _
  blk_point [idx13 t]
theorem norm_block1 (t : Fin cfg13.N) (k : Fin 768) : blockAt cfg13 W 1 t (ix2 0 k) = W (Proc.devRef .tc main_v244) (ix2 0 k) := by
  show ((cfg13.win 1).blk t).view.read (Elt Ideal) (W (Proc.devRef .tc main_v244)) (ix2 0 k) = _
  blk_point [idx13 t]
theorem norm_block2 (t : Fin cfg13.N) (k : Fin 768) : blockAt cfg13 W 2 t (ix2 0 k) = W (Proc.devRef .tc main_v245) (ix2 0 k) := by
  show ((cfg13.win 2).blk t).view.read (Elt Ideal) (W (Proc.devRef .tc main_v245)) (ix2 0 k) = _
  blk_point [idx13 t]

theorem value13 : (dat13 W c).arrAt 3 cfg13.N = normArr (W (Proc.devRef .tc main_v243)) (W (Proc.devRef .tc main_v244)) (W (Proc.devRef .tc main_v245)) := by
  refine (dat13 W c).arrAt_eq_of_covers 3 _ (by decide +kernel) fun t _ y => ?_
  blk_simp
  rw [callDat_after_out]
  idx_vars y
  obtain rfl : y0 = 0 := Subsingleton.elim _ _
  have ht : t.val < 8 := t.isLt
  have hy : (((View.whole main_v246).slice (win13_3.rect t)).emb (ix3 0 y1 y2)) = ix3 ⟨t.val, ht⟩ y1 y2 := by
    blk_ext [idx13 t]
  rw [hy]
  refine (norm_at _ _ _ y1 y2).trans ?_
  unfold normArr
  rw [funext (norm_block0 W t ht y1), funext (norm_block1 W t), funext (norm_block2 W t)]
  rfl

end Cert.KernelIdeal.Val

end
-- ==== Proof.WholeVal.lean ====
module

public import proofs.«01_k».proof.Proof.Keep
public import proofs.«01_k».proof.Proof.HostVal
public import proofs.«01_k».proof.Proof.LayerVal
public import proofs.«01_k».proof.Proof.EdgeVal

/-! # The whole program's result

The embedding, the twelve layers and the normalisation of each image, call after call. -/

@[expose] public section

set_option maxRecDepth 16384

noncomputable section

namespace Cert.KernelIdeal.Val

open Idealize.ShloMosaic Idealize.ShloMosaic.TcCoe Idealize.SL.Sem
open Cert.KernelIdeal Cert.KernelIdeal.Gen

/-- The stacked parameter arrays. -/
def stacked : List (Ref sig .tc) := [main_v6, main_v7, main_v8, main_v9, main_v10, main_v11, main_v12, main_v13, main_v14]

theorem stacked_fixed : ∀ r ∈ stacked, r ∈ fixed := by decide +kernel

theorem stackMade_congr (V V' : Valuation τ sig (Elt Ideal)) (h : ∀ r ∈ stacked, V (Proc.devRef .tc r) = V' (Proc.devRef .tc r)) : stackMade V = stackMade V' := by
  unfold stackMade
  rw [h main_v6 (by decide +kernel), h main_v7 (by decide +kernel), h main_v8 (by decide +kernel), h main_v9 (by decide +kernel), h main_v10 (by decide +kernel), h main_v11 (by decide +kernel), h main_v12 (by decide +kernel), h main_v13 (by decide +kernel), h main_v14 (by decide +kernel)]

variable (m : (ℓ : Loc nD τ sig) → Buf (Elt Ideal) ℓ) (c : Dev nD)

/-- The first call leaves the parameters as the first stretch made them. -/
theorem made0 : stackMade (after0 m c) = stackArgs (start m c) :=
  (stackMade_congr _ _ fun r h => call_keeps cfg0 4 (before0 m c) _ c launch0.win.arr_inj (by decide +kernel) r
    ((by decide +kernel : ∀ r ∈ stacked, Pipeline.arrRef cfg0.spec 4 ≠ r) r h)).trans (stack_made (start m c))

/-- Layer `k`'s parameters. -/
abbrev par (k : Fin 12) : Spec.Params := (stackArgs (start m c)).at k

/-- What a layer's call leaves, of what it finds: the rows `x` of each image, and layer `k`'s parameters. -/
theorem layer_rows (X Y : FVec Ideal S8x196x768 .f32) (P : Spec.Params) (k : Fin 12) (h : Y = layerArr X P) (X' : FVec Ideal S8x196x768 .f32) (hX : X = X') (hP : P = par m c k) (b : Fin 8) :
    (fun t j => Y (ix3 b t j)) = Spec.layer (par m c k) (fun t j => X' (ix3 b t j)) := by
  subst h hX hP; rfl

theorem embArr_at (a0 : FVec Ideal S8x196x768 .f32) (a1 : FVec Ideal S768x768 .f32) (a2 : FVec Ideal S1x768 .f32) (a3 : FVec Ideal S1x196x768 .f32) (b : Fin 8) (t : Fin 196) (k : Fin 768) :
    embArr a0 a1 a2 a3 (ix3 b t k) = ∑ j, a0 (ix3 b t j) * a1 (ix2 j k) + a2 (ix2 0 k) + a3 (ix3 0 t k) := rfl

/-! The rows after each call. -/

theorem rows0 (b : Fin 8) : (fun t j => after0 m c (Proc.devRef .tc main_v15) (ix3 b t j))
    = Spec.embed (fun ch r q => start m c (Proc.devRef .tc main_arg0) (ix4 b ch r q)) (fun k ch r q => start m c (Proc.devRef .tc main_arg1) (ix4 k ch r q)) (fun k => start m c (Proc.devRef .tc main_arg2) (ix1 k))
        (fun t k => start m c (Proc.devRef .tc main_arg3) (ix3 0 t k)) := by
  have h : after0 m c (Proc.devRef .tc main_v15) = embArr (before0 m c (Proc.devRef .tc main_v2)) (before0 m c (Proc.devRef .tc main_v4)) (before0 m c (Proc.devRef .tc main_v5)) (before0 m c (Proc.devRef .tc main_arg3)) :=
    (Pipeline.afterRegion_arr (dat0 (before0 m c) c) (before0 m c) launch0.win.arr_inj 4).trans (value0 _ c)
  funext t j
  rw [h]
  rw [embArr_at]
  exact congrArg₂ (· + ·) (congrArg₂ (· + ·) (Finset.sum_congr rfl fun i _ => congrArg₂ (· * ·) (patches (start m c) b t i) (projection (start m c) i j)) (bias (start m c) j))
    (congrFun (show StableHlo.after hostOps0 (start m c) (Proc.devRef .tc main_arg3) = start m c (Proc.devRef .tc main_arg3) from
      StableHlo.after_of_writes_sub hostOps0 _ hostOps0_writes (by decide +kernel)) (ix3 0 t j))

theorem rows1 (b : Fin 8) : (fun t j => after1 m c (Proc.devRef .tc main_v34) (ix3 b t j)) = Spec.layer (par m c 0) (fun t j => after0 m c (Proc.devRef .tc main_v15) (ix3 b t j)) :=
  layer_rows m c _ _ _ 0 ((Pipeline.afterRegion_arr (dat1 (before1 m c) c) (before1 m c) launch1.win.arr_inj 10).trans (value1 _ c)) _
    (StableHlo.after_of_writes_sub hostOps1 _ hostOps1_writes (by decide +kernel))
    ((made1 (after0 m c)).trans (congrArg (Spec.Stack.at · 0) (made0 m c))) b

theorem rows2 (b : Fin 8) : (fun t j => after2 m c (Proc.devRef .tc main_v53) (ix3 b t j)) = Spec.layer (par m c 1) (fun t j => after1 m c (Proc.devRef .tc main_v34) (ix3 b t j)) :=
  layer_rows m c _ _ _ 1 ((Pipeline.afterRegion_arr (dat2 (before2 m c) c) (before2 m c) launch2.win.arr_inj 10).trans (value2 _ c)) _
    (StableHlo.after_of_writes_sub hostOps2 _ hostOps2_writes (by decide +kernel))
    ((made2 (after1 m c)).trans (congrArg (Spec.Stack.at · 1) ((stackMade_congr _ _ fun r h => since1 m c r (stacked_fixed r h)).trans (made0 m c)))) b

theorem rows3 (b : Fin 8) : (fun t j => after3 m c (Proc.devRef .tc main_v72) (ix3 b t j)) = Spec.layer (par m c 2) (fun t j => after2 m c (Proc.devRef .tc main_v53) (ix3 b t j)) :=
  layer_rows m c _ _ _ 2 ((Pipeline.afterRegion_arr (dat3 (before3 m c) c) (before3 m c) launch3.win.arr_inj 10).trans (value3 _ c)) _
    (StableHlo.after_of_writes_sub hostOps3 _ hostOps3_writes (by decide +kernel))
    ((made3 (after2 m c)).trans (congrArg (Spec.Stack.at · 2) ((stackMade_congr _ _ fun r h => since2 m c r (stacked_fixed r h)).trans (made0 m c)))) b

theorem rows4 (b : Fin 8) : (fun t j => after4 m c (Proc.devRef .tc main_v91) (ix3 b t j)) = Spec.layer (par m c 3) (fun t j => after3 m c (Proc.devRef .tc main_v72) (ix3 b t j)) :=
  layer_rows m c _ _ _ 3 ((Pipeline.afterRegion_arr (dat4 (before4 m c) c) (before4 m c) launch4.win.arr_inj 10).trans (value4 _ c)) _
    (StableHlo.after_of_writes_sub hostOps4 _ hostOps4_writes (by decide +kernel))
    ((made4 (after3 m c)).trans (congrArg (Spec.Stack.at · 3) ((stackMade_congr _ _ fun r h => since3 m c r (stacked_fixed r h)).trans (made0 m c)))) b

theorem rows5 (b : Fin 8) : (fun t j => after5 m c (Proc.devRef .tc main_v110) (ix3 b t j)) = Spec.layer (par m c 4) (fun t j => after4 m c (Proc.devRef .tc main_v91) (ix3 b t j)) :=
  layer_rows m c _ _ _ 4 ((Pipeline.afterRegion_arr (dat5 (before5 m c) c) (before5 m c) launch5.win.arr_inj 10).trans (value5 _ c)) _
    (StableHlo.after_of_writes_sub hostOps5 _ hostOps5_writes (by decide +kernel))
    ((made5 (after4 m c)).trans (congrArg (Spec.Stack.at · 4) ((stackMade_congr _ _ fun r h => since4 m c r (stacked_fixed r h)).trans (made0 m c)))) b

theorem rows6 (b : Fin 8) : (fun t j => after6 m c (Proc.devRef .tc main_v129) (ix3 b t j)) = Spec.layer (par m c 5) (fun t j => after5 m c (Proc.devRef .tc main_v110) (ix3 b t j)) :=
  layer_rows m c _ _ _ 5 ((Pipeline.afterRegion_arr (dat6 (before6 m c) c) (before6 m c) launch6.win.arr_inj 10).trans (value6 _ c)) _
    (StableHlo.after_of_writes_sub hostOps6 _ hostOps6_writes (by decide +kernel))
    ((made6 (after5 m c)).trans (congrArg (Spec.Stack.at · 5) ((stackMade_congr _ _ fun r h => since5 m c r (stacked_fixed r h)).trans (made0 m c)))) b

theorem rows7 (b : Fin 8) : (fun t j => after7 m c (Proc.devRef .tc main_v148) (ix3 b t j)) = Spec.layer (par m c 6) (fun t j => after6 m c (Proc.devRef .tc main_v129) (ix3 b t j)) :=
  layer_rows m c _ _ _ 6 ((Pipeline.afterRegion_arr (dat7 (before7 m c) c) (before7 m c) launch7.win.arr_inj 10).trans (value7 _ c)) _
    (StableHlo.after_of_writes_sub hostOps7 _ hostOps7_writes (by decide +kernel))
    ((made7 (after6 m c)).trans (congrArg (Spec.Stack.at · 6) ((stackMade_congr _ _ fun r h => since6 m c r (stacked_fixed r h)).trans (made0 m c)))) b

theorem rows8 (b : Fin 8) : (fun t j => after8 m c (Proc.devRef .tc main_v167) (ix3 b t j)) = Spec.layer (par m c 7) (fun t j => after7 m c (Proc.devRef .tc main_v148) (ix3 b t j)) :=
  layer_rows m c _ _ _ 7 ((Pipeline.afterRegion_arr (dat8 (before8 m c) c) (before8 m c) launch8.win.arr_inj 10).trans (value8 _ c)) _
    (StableHlo.after_of_writes_sub hostOps8 _ hostOps8_writes (by decide +kernel))
    ((made8 (after7 m c)).trans (congrArg (Spec.Stack.at · 7) ((stackMade_congr _ _ fun r h => since7 m c r (stacked_fixed r h)).trans (made0 m c)))) b

theorem rows9 (b : Fin 8) : (fun t j => after9 m c (Proc.devRef .tc main_v186) (ix3 b t j)) = Spec.layer (par m c 8) (fun t j => after8 m c (Proc.devRef .tc main_v167) (ix3 b t j)) :=
  layer_rows m c _ _ _ 8 ((Pipeline.afterRegion_arr (dat9 (before9 m c) c) (before9 m c) launch9.win.arr_inj 10).trans (value9 _ c)) _
    (StableHlo.after_of_writes_sub hostOps9 _ hostOps9_writes (by decide +kernel))
    ((made9 (after8 m c)).trans (congrArg (Spec.Stack.at · 8) ((stackMade_congr _ _ fun r h => since8 m c r (stacked_fixed r h)).trans (made0 m c)))) b

theorem rows10 (b : Fin 8) : (fun t j => after10 m c (Proc.devRef .tc main_v205) (ix3 b t j)) = Spec.layer (par m c 9) (fun t j => after9 m c (Proc.devRef .tc main_v186) (ix3 b t j)) :=
  layer_rows m c _ _ _ 9 ((Pipeline.afterRegion_arr (dat10 (before10 m c) c) (before10 m c) launch10.win.arr_inj 10).trans (value10 _ c)) _
    (StableHlo.after_of_writes_sub hostOps10 _ hostOps10_writes (by decide +kernel))
    ((made10 (after9 m c)).trans (congrArg (Spec.Stack.at · 9) ((stackMade_congr _ _ fun r h => since9 m c r (stacked_fixed r h)).trans (made0 m c)))) b

theorem rows11 (b : Fin 8) : (fun t j => after11 m c (Proc.devRef .tc main_v224) (ix3 b t j)) = Spec.layer (par m c 10) (fun t j => after10 m c (Proc.devRef .tc main_v205) (ix3 b t j)) :=
  layer_rows m c _ _ _ 10 ((Pipeline.afterRegion_arr (dat11 (before11 m c) c) (before11 m c) launch11.win.arr_inj 10).trans (value11 _ c)) _
    (StableHlo.after_of_writes_sub hostOps11 _ hostOps11_writes (by decide +kernel))
    ((made11 (after10 m c)).trans (congrArg (Spec.Stack.at · 10) ((stackMade_congr _ _ fun r h => since10 m c r (stacked_fixed r h)).trans (made0 m c)))) b

theorem rows12 (b : Fin 8) : (fun t j => after12 m c (Proc.devRef .tc main_v243) (ix3 b t j)) = Spec.layer (par m c 11) (fun t j => after11 m c (Proc.devRef .tc main_v224) (ix3 b t j)) :=
  layer_rows m c _ _ _ 11 ((Pipeline.afterRegion_arr (dat12 (before12 m c) c) (before12 m c) launch12.win.arr_inj 10).trans (value12 _ c)) _
    (StableHlo.after_of_writes_sub hostOps12 _ hostOps12_writes (by decide +kernel))
    ((made12 (after11 m c)).trans (congrArg (Spec.Stack.at · 11) ((stackMade_congr _ _ fun r h => since11 m c r (stacked_fixed r h)).trans (made0 m c)))) b

/-- The rows after the last layer. -/
theorem rows_all (b : Fin 8) : (fun t j => after12 m c (Proc.devRef .tc main_v243) (ix3 b t j))
    = Spec.layers (stackArgs (start m c)) [0, 1, 2, 3, 4, 5, 6, 7, 8, 9, 10, 11]
        (Spec.embed (fun ch r q => start m c (Proc.devRef .tc main_arg0) (ix4 b ch r q)) (fun k ch r q => start m c (Proc.devRef .tc main_arg1) (ix4 k ch r q)) (fun k => start m c (Proc.devRef .tc main_arg2) (ix1 k))
          (fun t k => start m c (Proc.devRef .tc main_arg3) (ix3 0 t k))) := by
  rw [rows12, rows11, rows10, rows9, rows8, rows7, rows6, rows5, rows4, rows3, rows2, rows1, rows0]
  rfl

/-- The result. -/
def wholeArr : FVec Ideal S8x196x768 .f32 := fun y =>
  Spec.normed (fun k => start m c (Proc.devRef .tc main_arg13) (ix1 k)) (fun k => start m c (Proc.devRef .tc main_arg14) (ix1 k))
    (Spec.layers (stackArgs (start m c)) [0, 1, 2, 3, 4, 5, 6, 7, 8, 9, 10, 11]
        (Spec.embed (fun ch r q => start m c (Proc.devRef .tc main_arg0) (ix4 (y 0) ch r q)) (fun k ch r q => start m c (Proc.devRef .tc main_arg1) (ix4 k ch r q)) (fun k => start m c (Proc.devRef .tc main_arg2) (ix1 k))
          (fun t k => start m c (Proc.devRef .tc main_arg3) (ix3 0 t k))) (y 1)) (y 2)

theorem arg_at12 (r : Ref sig .tc) (h : r ∈ argRefs) : after12 m c (Proc.devRef .tc r) = start m c (Proc.devRef .tc r) :=
  (since12 m c r (args_fixed r h)).trans (keep0 m c r h)

theorem whole_value : after13 m c (Proc.devRef .tc main_v246) = wholeArr m c := by
  have h : after13 m c (Proc.devRef .tc main_v246) = normArr (before13 m c (Proc.devRef .tc main_v243)) (before13 m c (Proc.devRef .tc main_v244)) (before13 m c (Proc.devRef .tc main_v245)) :=
    (Pipeline.afterRegion_arr (dat13 (before13 m c) c) (before13 m c) launch13.win.arr_inj 3).trans (value13 _ c)
  have hx (b : Fin 8) (t : Fin 196) : (fun k => before13 m c (Proc.devRef .tc main_v243) (ix3 b t k)) = fun k => after12 m c (Proc.devRef .tc main_v243) (ix3 b t k) :=
    congrArg (fun (X : FVec Ideal S8x196x768 .f32) k => X (ix3 b t k)) (StableHlo.after_of_writes_sub hostOps13 _ hostOps13_writes (by decide +kernel))
  rw [h]
  funext y
  idx_vars y
  show Spec.normed (fun k => before13 m c (Proc.devRef .tc main_v244) (ix2 0 k)) (fun k => before13 m c (Proc.devRef .tc main_v245) (ix2 0 k)) (fun k => before13 m c (Proc.devRef .tc main_v243) (ix3 y0 y1 k)) y2 = _
  rw [hx, show (fun k => after12 m c (Proc.devRef .tc main_v243) (ix3 y0 y1 k)) = _ from congrFun (rows_all m c y0) y1]
  exact congrArg₂ (fun w v => Spec.normed w v _ y2) (funext fun k => (scale (after12 m c) k).trans (congrFun (arg_at12 m c main_arg13 (by decide +kernel)) (ix1 k)))
    (funext fun k => (shift (after12 m c) k).trans (congrFun (arg_at12 m c main_arg14 (by decide +kernel)) (ix1 k)))

end Cert.KernelIdeal.Val

end
-- ==== Proof.RefFn.lean ====
module

public import proofs.«01_k».proof.Proof.Gen.ReferenceIdeal
public import proofs.«01_k».proof.Proof.Spec
public import Idealize.ShloMosaic.Lib.StableHlo.RunLoop
public import Idealize.ShloMosaic.Lib.StableHlo.RunLoopItems

/-! # The reference's layer as operations over any call's buffers

The layer is one function, called twelve times, each time over buffers of its own. Its operations are listed here once,
over the typed references of its arguments (`Ins`) and of its values (`fn_mamba_layer.Bufs`); what is asked of these is
that no two of them are the same buffer (`Distinct`). A buffer's place in the list of them (`place`) tells it from the
others. -/

@[expose] public section

set_option maxRecDepth 16384

noncomputable section

namespace Cert.ReferenceIdeal.Fn

open Idealize.ShloMosaic Idealize.ShloMosaic.TcCoe Idealize.SL.Sem Idealize.ShloMosaic.StableHlo
open Cert.ReferenceIdeal Cert.ReferenceIdeal.Gen

/-! ## Reading a typed reference -/

section Read

variable {T Tx Ta Tb Tc Ty : BufTy}

/-- The contents of a typed reference's buffer, at the value's type. -/
def rd (y : TRef sig T) (V : Valuation τ sig (Elt Ideal)) : T.Contents (Elt Ideal) := y.ofBuf (V (Proc.devRef .tc y.ref))

variable (V : Valuation τ sig (Elt Ideal)) (y : TRef sig Ty)

theorem rd_nullary (v : Ty.Contents (Elt Ideal)) : rd y ((TRef.nullary y v : HloOp τ sig (Elt Ideal)).result V) = v := by
  unfold rd; rw [nullary_result']; exact TRef.ofBuf_toBuf _ _
theorem rd_unary (x : TRef sig Tx) (f : Tx.Contents (Elt Ideal) → Ty.Contents (Elt Ideal)) :
    rd y ((TRef.unary x y f : HloOp τ sig (Elt Ideal)).result V) = f (rd x V) := by
  unfold rd; rw [unary_result']; exact TRef.ofBuf_toBuf _ _
theorem rd_binary (a : TRef sig Ta) (b : TRef sig Tb) (f : Ta.Contents (Elt Ideal) → Tb.Contents (Elt Ideal) → Ty.Contents (Elt Ideal)) :
    rd y ((TRef.binary a b y f : HloOp τ sig (Elt Ideal)).result V) = f (rd a V) (rd b V) := by
  unfold rd; rw [binary_result']; exact TRef.ofBuf_toBuf _ _
theorem rd_ternary (c : TRef sig Tc) (a : TRef sig Ta) (b : TRef sig Tb)
    (f : Tc.Contents (Elt Ideal) → Ta.Contents (Elt Ideal) → Tb.Contents (Elt Ideal) → Ty.Contents (Elt Ideal)) :
    rd y ((TRef.ternary c a b y f : HloOp τ sig (Elt Ideal)).result V) = f (rd c V) (rd a V) (rd b V) := by
  unfold rd; rw [ternary_result']; exact TRef.ofBuf_toBuf _ _
theorem rd_reshape_cast (x : TRef sig Tx) (he : Tx.elt = Ty.elt) (hn : Tx.shape.ShapeCasts Ty.shape) :
    rd y ((TRef.reshape x y he hn : HloOp τ sig (Elt Ideal)).result V) = fun i => he ▸ shapeCast Ty.shape (rd x V) hn i := by
  unfold rd; rw [reshape_result']
  obtain ⟨x, rfl, _, _⟩ := x
  obtain ⟨y, rfl, _, _⟩ := y
  rfl
theorem rd_reshape {s t : Shape} {e : EltTy} (x : TRef sig ⟨s, e⟩) (y : TRef sig ⟨t, e⟩) (he : e = e) (hn : s.ShapeCasts t) :
    rd y ((TRef.reshape x y he hn : HloOp τ sig (Elt Ideal)).result V) = shapeCast t (rd x V) hn :=
  rd_reshape_cast V y x he hn
theorem rd_three (i j k : TRef sig T) : (fun n => rd ((![i, j, k] : Fin 3 → TRef sig T) n) V) = ![rd i V, rd j V, rd k V] := by
  funext n; fin_cases n <;> rfl
theorem rd_unaryIndexed (a : TRef sig Ta) (i j k : TRef sig T) (f : Ta.Contents (Elt Ideal) → (Fin 3 → T.Contents (Elt Ideal)) → Ty.Contents (Elt Ideal)) :
    rd y ((TRef.unaryIndexed a ![i, j, k] y f : HloOp τ sig (Elt Ideal)).result V) = f (rd a V) ![rd i V, rd j V, rd k V] := by
  rw [← rd_three]; unfold rd; rw [unaryIndexed_result']; exact TRef.ofBuf_toBuf _ _
theorem rd_binaryIndexed (a : TRef sig Ta) (b : TRef sig Tb) (i j k : TRef sig T)
    (f : Ta.Contents (Elt Ideal) → Tb.Contents (Elt Ideal) → (Fin 3 → T.Contents (Elt Ideal)) → Ty.Contents (Elt Ideal)) :
    rd y ((TRef.binaryIndexed a b ![i, j, k] y f : HloOp τ sig (Elt Ideal)).result V) = f (rd a V) (rd b V) ![rd i V, rd j V, rd k V] := by
  rw [← rd_three]; unfold rd; rw [binaryIndexed_result']; exact TRef.ofBuf_toBuf _ _

end Read

section Keep

variable {T Tx Ta Tb Tc Ty Tz : BufTy} {p : Ref sig .tc → ℕ} {V : Valuation τ sig (Elt Ideal)} {z : TRef sig Tz} {y : TRef sig Ty}

theorem ne_of_place (p : Ref sig .tc → ℕ) {a b : Ref sig .tc} (h : p a ≠ p b) : a ≠ b := fun e => h (congrArg p e)

theorem rd_nullary_ne (v : Ty.Contents (Elt Ideal)) (h : p z.ref ≠ p y.ref) :
    rd z ((TRef.nullary y v : HloOp τ sig (Elt Ideal)).result V) = rd z V := by
  unfold rd; rw [nullary_result_ne' (h := ne_of_place p h)]
theorem rd_unary_ne (x : TRef sig Tx) (f : Tx.Contents (Elt Ideal) → Ty.Contents (Elt Ideal)) (h : p z.ref ≠ p y.ref) :
    rd z ((TRef.unary x y f : HloOp τ sig (Elt Ideal)).result V) = rd z V := by
  unfold rd; rw [unary_result_ne' (h := ne_of_place p h)]
theorem rd_binary_ne (a : TRef sig Ta) (b : TRef sig Tb) (f : Ta.Contents (Elt Ideal) → Tb.Contents (Elt Ideal) → Ty.Contents (Elt Ideal)) (h : p z.ref ≠ p y.ref) :
    rd z ((TRef.binary a b y f : HloOp τ sig (Elt Ideal)).result V) = rd z V := by
  unfold rd; rw [binary_result_ne' (h := ne_of_place p h)]
theorem rd_ternary_ne (c : TRef sig Tc) (a : TRef sig Ta) (b : TRef sig Tb)
    (f : Tc.Contents (Elt Ideal) → Ta.Contents (Elt Ideal) → Tb.Contents (Elt Ideal) → Ty.Contents (Elt Ideal)) (h : p z.ref ≠ p y.ref) :
    rd z ((TRef.ternary c a b y f : HloOp τ sig (Elt Ideal)).result V) = rd z V := by
  unfold rd; rw [ternary_result_ne' (h := ne_of_place p h)]
theorem rd_reshape_ne (x : TRef sig Tx) (he : Tx.elt = Ty.elt) (hn : Tx.shape.ShapeCasts Ty.shape) (h : p z.ref ≠ p y.ref) :
    rd z ((TRef.reshape x y he hn : HloOp τ sig (Elt Ideal)).result V) = rd z V := by
  unfold rd; rw [reshape_result_ne' (h := ne_of_place p h)]
theorem rd_unaryIndexed_ne (a : TRef sig Ta) {n : ℕ} (ix : Fin n → TRef sig T) (f : Ta.Contents (Elt Ideal) → (Fin n → T.Contents (Elt Ideal)) → Ty.Contents (Elt Ideal)) (h : p z.ref ≠ p y.ref) :
    rd z ((TRef.unaryIndexed a ix y f : HloOp τ sig (Elt Ideal)).result V) = rd z V := by
  unfold rd; rw [unaryIndexed_result_ne' (h := ne_of_place p h)]
theorem rd_binaryIndexed_ne (a : TRef sig Ta) (b : TRef sig Tb) {n : ℕ} (ix : Fin n → TRef sig T)
    (f : Ta.Contents (Elt Ideal) → Tb.Contents (Elt Ideal) → (Fin n → T.Contents (Elt Ideal)) → Ty.Contents (Elt Ideal)) (h : p z.ref ≠ p y.ref) :
    rd z ((TRef.binaryIndexed a b ix y f : HloOp τ sig (Elt Ideal)).result V) = rd z V := by
  unfold rd; rw [binaryIndexed_result_ne' (h := ne_of_place p h)]

end Keep

/-! ## The layer's references -/

/-- The typed references of a call's arguments. -/
structure Ins where
  a0 : StableHlo.TRef sig ⟨S8x196x768, .f32⟩
  a1 : StableHlo.TRef sig ⟨S3072x768, .f32⟩
  a2 : StableHlo.TRef sig ⟨S1536x4, .f32⟩
  a3 : StableHlo.TRef sig ⟨S1536, .f32⟩
  a4 : StableHlo.TRef sig ⟨S80x1536, .f32⟩
  a5 : StableHlo.TRef sig ⟨S1536x48, .f32⟩
  a6 : StableHlo.TRef sig ⟨S1536, .f32⟩
  a7 : StableHlo.TRef sig ⟨S1536x16, .f32⟩
  a8 : StableHlo.TRef sig ⟨S1536, .f32⟩
  a9 : StableHlo.TRef sig ⟨S768x1536, .f32⟩

variable (x : Ins) (φ : fn_mamba_layer.Bufs)

/-- Every buffer of a call: its arguments', then its values' in the order they are written. -/
def refs : List (Ref sig .tc) :=
  [x.a0.ref, x.a1.ref, x.a2.ref, x.a3.ref, x.a4.ref, x.a5.ref, x.a6.ref, x.a7.ref, x.a8.ref, x.a9.ref, φ.v0.ref, φ.v1.ref, φ.v2.ref, φ.c.ref, φ.call0.v0.ref, φ.call0.v1.ref, φ.v4.ref, φ.v5.ref, φ.v6.ref, φ.v7.ref, φ.v8.ref, φ.v9.ref, φ.cst.ref, φ.v10.ref, φ.v11.ref, φ.v12.ref, φ.v13.ref, φ.v14.ref, φ.v15.ref, φ.v16.ref, φ.v17.ref, φ.v18.ref, φ.v19.ref, φ.v20.ref, φ.v21.ref, φ.v22.ref, φ.v23.ref, φ.v24.ref, φ.v25.ref, φ.v26.ref, φ.v27.ref, φ.v28.ref, φ.v29.ref, φ.v30.ref, φ.v31.ref, φ.v32.ref, φ.v33.ref, φ.v34.ref, φ.v35.ref, φ.call1.v0.ref, φ.call1.v1.ref, φ.call1.cst.ref, φ.call1.v2.ref, φ.call1.v3.ref, φ.call1.cst_0.ref, φ.call1.v4.ref, φ.call1.v5.ref, φ.call1.v6.ref, φ.v37.ref, φ.v38.ref, φ.v39.ref, φ.v40.ref, φ.v41.ref, φ.v42.ref, φ.v43.ref, φ.v44.ref, φ.call2.cst.ref, φ.call2.v0.ref, φ.call2.v1.ref, φ.call2.v2.ref, φ.call2.v3.ref, φ.call2.v4.ref, φ.call2.v5.ref, φ.call2.v6.ref, φ.call2.v7.ref, φ.call2.v8.ref, φ.call2.v9.ref, φ.call2.v10.ref, φ.call2.v11.ref, φ.call2.v12.ref, φ.v46.ref, φ.v47.ref, φ.cst_0.ref, φ.v48.ref, φ.v49.ref, φ.v50.ref, φ.v51.ref, φ.v52.ref, φ.cst_1.ref, φ.v53.ref, φ.c_2.ref, φ.v54_0.ref, φ.v54_1.ref, φ.v54_2.ref, φ.v54_3.ref, φ.v54_4.ref, φ.v54_5.ref, φ.v54_6.ref, φ.v54_7.ref, φ.while0c_c_10.ref, φ.while0c_v63.ref, φ.while0b_call3.c.ref, φ.while0b_call3.c_0.ref, φ.while0b_call3.v0.ref, φ.while0b_call3.v1.ref, φ.while0b_call4.c.ref, φ.while0b_call4.c_0.ref, φ.while0b_call4.v0.ref, φ.while0b_call4.v1.ref, φ.while0b_call5.c.ref, φ.while0b_call5.c_0.ref, φ.while0b_call5.v0.ref, φ.while0b_call5.v1.ref, φ.while0b_call6.c.ref, φ.while0b_call6.c_0.ref, φ.while0b_call6.v0.ref, φ.while0b_call6.v1.ref, φ.while0b_v67.ref, φ.while0b_v68.ref, φ.while0b_v69.ref, φ.while0b_v70.ref, φ.while0b_v71.ref, φ.while0b_v72.ref, φ.while0b_v73.ref, φ.while0b_v74.ref, φ.while0b_v75.ref, φ.while0b_v76.ref, φ.while0b_v77.ref, φ.while0b_v78.ref, φ.while0b_v79.ref, φ.while0b_v80.ref, φ.while0b_v81.ref, φ.while0b_call7.v0.ref, φ.while0b_call7.c.ref, φ.while0b_call7.c_0.ref, φ.while0b_call7.v1.ref, φ.while0b_c_10.ref, φ.while0b_v83.ref, φ.v55.ref, φ.v56.ref, φ.v57.ref, φ.v58.ref, φ.v59.ref, φ.call8.v0.ref, φ.call8.v1.ref, φ.call8.cst.ref, φ.call8.v2.ref, φ.call8.v3.ref, φ.call8.cst_0.ref, φ.call8.v4.ref, φ.call8.v5.ref, φ.call8.v6.ref, φ.v61.ref, φ.v62.ref]

/-- No two of a call's buffers are the same. -/
class Distinct : Prop where
  nodup : (refs x φ).Nodup

/-- Where a buffer stands in the list. -/
def place (r : Ref sig .tc) : ℕ := (refs x φ).idxOf r

variable {x φ} in
theorem place_at [D : Distinct x φ] (i : ℕ) {r : Ref sig .tc} (h : (refs x φ)[i]? = some r) : place x φ r = i := by
  obtain ⟨hi, rfl⟩ := List.getElem?_eq_some_iff.mp h
  exact D.nodup.idxOf_getElem i hi

section Places

variable [Distinct x φ]

@[simp] theorem place_a0 : place x φ x.a0.ref = 0 := place_at 0 rfl
@[simp] theorem place_a1 : place x φ x.a1.ref = 1 := place_at 1 rfl
@[simp] theorem place_a2 : place x φ x.a2.ref = 2 := place_at 2 rfl
@[simp] theorem place_a3 : place x φ x.a3.ref = 3 := place_at 3 rfl
@[simp] theorem place_a4 : place x φ x.a4.ref = 4 := place_at 4 rfl
@[simp] theorem place_a5 : place x φ x.a5.ref = 5 := place_at 5 rfl
@[simp] theorem place_a6 : place x φ x.a6.ref = 6 := place_at 6 rfl
@[simp] theorem place_a7 : place x φ x.a7.ref = 7 := place_at 7 rfl
@[simp] theorem place_a8 : place x φ x.a8.ref = 8 := place_at 8 rfl
@[simp] theorem place_a9 : place x φ x.a9.ref = 9 := place_at 9 rfl
@[simp] theorem place_v0 : place x φ φ.v0.ref = 10 := place_at 10 rfl
@[simp] theorem place_v1 : place x φ φ.v1.ref = 11 := place_at 11 rfl
@[simp] theorem place_v2 : place x φ φ.v2.ref = 12 := place_at 12 rfl
@[simp] theorem place_c : place x φ φ.c.ref = 13 := place_at 13 rfl
@[simp] theorem place_call0_v0 : place x φ φ.call0.v0.ref = 14 := place_at 14 rfl
@[simp] theorem place_call0_v1 : place x φ φ.call0.v1.ref = 15 := place_at 15 rfl
@[simp] theorem place_v4 : place x φ φ.v4.ref = 16 := place_at 16 rfl
@[simp] theorem place_v5 : place x φ φ.v5.ref = 17 := place_at 17 rfl
@[simp] theorem place_v6 : place x φ φ.v6.ref = 18 := place_at 18 rfl
@[simp] theorem place_v7 : place x φ φ.v7.ref = 19 := place_at 19 rfl
@[simp] theorem place_v8 : place x φ φ.v8.ref = 20 := place_at 20 rfl
@[simp] theorem place_v9 : place x φ φ.v9.ref = 21 := place_at 21 rfl
@[simp] theorem place_cst : place x φ φ.cst.ref = 22 := place_at 22 rfl
@[simp] theorem place_v10 : place x φ φ.v10.ref = 23 := place_at 23 rfl
@[simp] theorem place_v11 : place x φ φ.v11.ref = 24 := place_at 24 rfl
@[simp] theorem place_v12 : place x φ φ.v12.ref = 25 := place_at 25 rfl
@[simp] theorem place_v13 : place x φ φ.v13.ref = 26 := place_at 26 rfl
@[simp] theorem place_v14 : place x φ φ.v14.ref = 27 := place_at 27 rfl
@[simp] theorem place_v15 : place x φ φ.v15.ref = 28 := place_at 28 rfl
@[simp] theorem place_v16 : place x φ φ.v16.ref = 29 := place_at 29 rfl
@[simp] theorem place_v17 : place x φ φ.v17.ref = 30 := place_at 30 rfl
@[simp] theorem place_v18 : place x φ φ.v18.ref = 31 := place_at 31 rfl
@[simp] theorem place_v19 : place x φ φ.v19.ref = 32 := place_at 32 rfl
@[simp] theorem place_v20 : place x φ φ.v20.ref = 33 := place_at 33 rfl
@[simp] theorem place_v21 : place x φ φ.v21.ref = 34 := place_at 34 rfl
@[simp] theorem place_v22 : place x φ φ.v22.ref = 35 := place_at 35 rfl
@[simp] theorem place_v23 : place x φ φ.v23.ref = 36 := place_at 36 rfl
@[simp] theorem place_v24 : place x φ φ.v24.ref = 37 := place_at 37 rfl
@[simp] theorem place_v25 : place x φ φ.v25.ref = 38 := place_at 38 rfl
@[simp] theorem place_v26 : place x φ φ.v26.ref = 39 := place_at 39 rfl
@[simp] theorem place_v27 : place x φ φ.v27.ref = 40 := place_at 40 rfl
@[simp] theorem place_v28 : place x φ φ.v28.ref = 41 := place_at 41 rfl
@[simp] theorem place_v29 : place x φ φ.v29.ref = 42 := place_at 42 rfl
@[simp] theorem place_v30 : place x φ φ.v30.ref = 43 := place_at 43 rfl
@[simp] theorem place_v31 : place x φ φ.v31.ref = 44 := place_at 44 rfl
@[simp] theorem place_v32 : place x φ φ.v32.ref = 45 := place_at 45 rfl
@[simp] theorem place_v33 : place x φ φ.v33.ref = 46 := place_at 46 rfl
@[simp] theorem place_v34 : place x φ φ.v34.ref = 47 := place_at 47 rfl
@[simp] theorem place_v35 : place x φ φ.v35.ref = 48 := place_at 48 rfl
@[simp] theorem place_call1_v0 : place x φ φ.call1.v0.ref = 49 := place_at 49 rfl
@[simp] theorem place_call1_v1 : place x φ φ.call1.v1.ref = 50 := place_at 50 rfl
@[simp] theorem place_call1_cst : place x φ φ.call1.cst.ref = 51 := place_at 51 rfl
@[simp] theorem place_call1_v2 : place x φ φ.call1.v2.ref = 52 := place_at 52 rfl
@[simp] theorem place_call1_v3 : place x φ φ.call1.v3.ref = 53 := place_at 53 rfl
@[simp] theorem place_call1_cst_0 : place x φ φ.call1.cst_0.ref = 54 := place_at 54 rfl
@[simp] theorem place_call1_v4 : place x φ φ.call1.v4.ref = 55 := place_at 55 rfl
@[simp] theorem place_call1_v5 : place x φ φ.call1.v5.ref = 56 := place_at 56 rfl
@[simp] theorem place_call1_v6 : place x φ φ.call1.v6.ref = 57 := place_at 57 rfl
@[simp] theorem place_v37 : place x φ φ.v37.ref = 58 := place_at 58 rfl
@[simp] theorem place_v38 : place x φ φ.v38.ref = 59 := place_at 59 rfl
@[simp] theorem place_v39 : place x φ φ.v39.ref = 60 := place_at 60 rfl
@[simp] theorem place_v40 : place x φ φ.v40.ref = 61 := place_at 61 rfl
@[simp] theorem place_v41 : place x φ φ.v41.ref = 62 := place_at 62 rfl
@[simp] theorem place_v42 : place x φ φ.v42.ref = 63 := place_at 63 rfl
@[simp] theorem place_v43 : place x φ φ.v43.ref = 64 := place_at 64 rfl
@[simp] theorem place_v44 : place x φ φ.v44.ref = 65 := place_at 65 rfl
@[simp] theorem place_call2_cst : place x φ φ.call2.cst.ref = 66 := place_at 66 rfl
@[simp] theorem place_call2_v0 : place x φ φ.call2.v0.ref = 67 := place_at 67 rfl
@[simp] theorem place_call2_v1 : place x φ φ.call2.v1.ref = 68 := place_at 68 rfl
@[simp] theorem place_call2_v2 : place x φ φ.call2.v2.ref = 69 := place_at 69 rfl
@[simp] theorem place_call2_v3 : place x φ φ.call2.v3.ref = 70 := place_at 70 rfl
@[simp] theorem place_call2_v4 : place x φ φ.call2.v4.ref = 71 := place_at 71 rfl
@[simp] theorem place_call2_v5 : place x φ φ.call2.v5.ref = 72 := place_at 72 rfl
@[simp] theorem place_call2_v6 : place x φ φ.call2.v6.ref = 73 := place_at 73 rfl
@[simp] theorem place_call2_v7 : place x φ φ.call2.v7.ref = 74 := place_at 74 rfl
@[simp] theorem place_call2_v8 : place x φ φ.call2.v8.ref = 75 := place_at 75 rfl
@[simp] theorem place_call2_v9 : place x φ φ.call2.v9.ref = 76 := place_at 76 rfl
@[simp] theorem place_call2_v10 : place x φ φ.call2.v10.ref = 77 := place_at 77 rfl
@[simp] theorem place_call2_v11 : place x φ φ.call2.v11.ref = 78 := place_at 78 rfl
@[simp] theorem place_call2_v12 : place x φ φ.call2.v12.ref = 79 := place_at 79 rfl
@[simp] theorem place_v46 : place x φ φ.v46.ref = 80 := place_at 80 rfl
@[simp] theorem place_v47 : place x φ φ.v47.ref = 81 := place_at 81 rfl
@[simp] theorem place_cst_0 : place x φ φ.cst_0.ref = 82 := place_at 82 rfl
@[simp] theorem place_v48 : place x φ φ.v48.ref = 83 := place_at 83 rfl
@[simp] theorem place_v49 : place x φ φ.v49.ref = 84 := place_at 84 rfl
@[simp] theorem place_v50 : place x φ φ.v50.ref = 85 := place_at 85 rfl
@[simp] theorem place_v51 : place x φ φ.v51.ref = 86 := place_at 86 rfl
@[simp] theorem place_v52 : place x φ φ.v52.ref = 87 := place_at 87 rfl
@[simp] theorem place_cst_1 : place x φ φ.cst_1.ref = 88 := place_at 88 rfl
@[simp] theorem place_v53 : place x φ φ.v53.ref = 89 := place_at 89 rfl
@[simp] theorem place_c_2 : place x φ φ.c_2.ref = 90 := place_at 90 rfl
@[simp] theorem place_v54_0 : place x φ φ.v54_0.ref = 91 := place_at 91 rfl
@[simp] theorem place_v54_1 : place x φ φ.v54_1.ref = 92 := place_at 92 rfl
@[simp] theorem place_v54_2 : place x φ φ.v54_2.ref = 93 := place_at 93 rfl
@[simp] theorem place_v54_3 : place x φ φ.v54_3.ref = 94 := place_at 94 rfl
@[simp] theorem place_v54_4 : place x φ φ.v54_4.ref = 95 := place_at 95 rfl
@[simp] theorem place_v54_5 : place x φ φ.v54_5.ref = 96 := place_at 96 rfl
@[simp] theorem place_v54_6 : place x φ φ.v54_6.ref = 97 := place_at 97 rfl
@[simp] theorem place_v54_7 : place x φ φ.v54_7.ref = 98 := place_at 98 rfl
@[simp] theorem place_while0c_c_10 : place x φ φ.while0c_c_10.ref = 99 := place_at 99 rfl
@[simp] theorem place_while0c_v63 : place x φ φ.while0c_v63.ref = 100 := place_at 100 rfl
@[simp] theorem place_while0b_call3_c : place x φ φ.while0b_call3.c.ref = 101 := place_at 101 rfl
@[simp] theorem place_while0b_call3_c_0 : place x φ φ.while0b_call3.c_0.ref = 102 := place_at 102 rfl
@[simp] theorem place_while0b_call3_v0 : place x φ φ.while0b_call3.v0.ref = 103 := place_at 103 rfl
@[simp] theorem place_while0b_call3_v1 : place x φ φ.while0b_call3.v1.ref = 104 := place_at 104 rfl
@[simp] theorem place_while0b_call4_c : place x φ φ.while0b_call4.c.ref = 105 := place_at 105 rfl
@[simp] theorem place_while0b_call4_c_0 : place x φ φ.while0b_call4.c_0.ref = 106 := place_at 106 rfl
@[simp] theorem place_while0b_call4_v0 : place x φ φ.while0b_call4.v0.ref = 107 := place_at 107 rfl
@[simp] theorem place_while0b_call4_v1 : place x φ φ.while0b_call4.v1.ref = 108 := place_at 108 rfl
@[simp] theorem place_while0b_call5_c : place x φ φ.while0b_call5.c.ref = 109 := place_at 109 rfl
@[simp] theorem place_while0b_call5_c_0 : place x φ φ.while0b_call5.c_0.ref = 110 := place_at 110 rfl
@[simp] theorem place_while0b_call5_v0 : place x φ φ.while0b_call5.v0.ref = 111 := place_at 111 rfl
@[simp] theorem place_while0b_call5_v1 : place x φ φ.while0b_call5.v1.ref = 112 := place_at 112 rfl
@[simp] theorem place_while0b_call6_c : place x φ φ.while0b_call6.c.ref = 113 := place_at 113 rfl
@[simp] theorem place_while0b_call6_c_0 : place x φ φ.while0b_call6.c_0.ref = 114 := place_at 114 rfl
@[simp] theorem place_while0b_call6_v0 : place x φ φ.while0b_call6.v0.ref = 115 := place_at 115 rfl
@[simp] theorem place_while0b_call6_v1 : place x φ φ.while0b_call6.v1.ref = 116 := place_at 116 rfl
@[simp] theorem place_while0b_v67 : place x φ φ.while0b_v67.ref = 117 := place_at 117 rfl
@[simp] theorem place_while0b_v68 : place x φ φ.while0b_v68.ref = 118 := place_at 118 rfl
@[simp] theorem place_while0b_v69 : place x φ φ.while0b_v69.ref = 119 := place_at 119 rfl
@[simp] theorem place_while0b_v70 : place x φ φ.while0b_v70.ref = 120 := place_at 120 rfl
@[simp] theorem place_while0b_v71 : place x φ φ.while0b_v71.ref = 121 := place_at 121 rfl
@[simp] theorem place_while0b_v72 : place x φ φ.while0b_v72.ref = 122 := place_at 122 rfl
@[simp] theorem place_while0b_v73 : place x φ φ.while0b_v73.ref = 123 := place_at 123 rfl
@[simp] theorem place_while0b_v74 : place x φ φ.while0b_v74.ref = 124 := place_at 124 rfl
@[simp] theorem place_while0b_v75 : place x φ φ.while0b_v75.ref = 125 := place_at 125 rfl
@[simp] theorem place_while0b_v76 : place x φ φ.while0b_v76.ref = 126 := place_at 126 rfl
@[simp] theorem place_while0b_v77 : place x φ φ.while0b_v77.ref = 127 := place_at 127 rfl
@[simp] theorem place_while0b_v78 : place x φ φ.while0b_v78.ref = 128 := place_at 128 rfl
@[simp] theorem place_while0b_v79 : place x φ φ.while0b_v79.ref = 129 := place_at 129 rfl
@[simp] theorem place_while0b_v80 : place x φ φ.while0b_v80.ref = 130 := place_at 130 rfl
@[simp] theorem place_while0b_v81 : place x φ φ.while0b_v81.ref = 131 := place_at 131 rfl
@[simp] theorem place_while0b_call7_v0 : place x φ φ.while0b_call7.v0.ref = 132 := place_at 132 rfl
@[simp] theorem place_while0b_call7_c : place x φ φ.while0b_call7.c.ref = 133 := place_at 133 rfl
@[simp] theorem place_while0b_call7_c_0 : place x φ φ.while0b_call7.c_0.ref = 134 := place_at 134 rfl
@[simp] theorem place_while0b_call7_v1 : place x φ φ.while0b_call7.v1.ref = 135 := place_at 135 rfl
@[simp] theorem place_while0b_c_10 : place x φ φ.while0b_c_10.ref = 136 := place_at 136 rfl
@[simp] theorem place_while0b_v83 : place x φ φ.while0b_v83.ref = 137 := place_at 137 rfl
@[simp] theorem place_v55 : place x φ φ.v55.ref = 138 := place_at 138 rfl
@[simp] theorem place_v56 : place x φ φ.v56.ref = 139 := place_at 139 rfl
@[simp] theorem place_v57 : place x φ φ.v57.ref = 140 := place_at 140 rfl
@[simp] theorem place_v58 : place x φ φ.v58.ref = 141 := place_at 141 rfl
@[simp] theorem place_v59 : place x φ φ.v59.ref = 142 := place_at 142 rfl
@[simp] theorem place_call8_v0 : place x φ φ.call8.v0.ref = 143 := place_at 143 rfl
@[simp] theorem place_call8_v1 : place x φ φ.call8.v1.ref = 144 := place_at 144 rfl
@[simp] theorem place_call8_cst : place x φ φ.call8.cst.ref = 145 := place_at 145 rfl
@[simp] theorem place_call8_v2 : place x φ φ.call8.v2.ref = 146 := place_at 146 rfl
@[simp] theorem place_call8_v3 : place x φ φ.call8.v3.ref = 147 := place_at 147 rfl
@[simp] theorem place_call8_cst_0 : place x φ φ.call8.cst_0.ref = 148 := place_at 148 rfl
@[simp] theorem place_call8_v4 : place x φ φ.call8.v4.ref = 149 := place_at 149 rfl
@[simp] theorem place_call8_v5 : place x φ φ.call8.v5.ref = 150 := place_at 150 rfl
@[simp] theorem place_call8_v6 : place x φ φ.call8.v6.ref = 151 := place_at 151 rfl
@[simp] theorem place_v61 : place x φ φ.v61.ref = 152 := place_at 152 rfl
@[simp] theorem place_v62 : place x φ φ.v62.ref = 153 := place_at 153 rfl

end Places

/-! ## The operations -/

variable {F : FTy → Type} [FloatOps F]

/-- Three rows of zeros before the first row. -/
abbrev padOps (arg0 : TRef sig ⟨S8x196x1536, .f32⟩) (arg1 : TRef sig ⟨S_, .i32⟩) (φ : fn_pad.Bufs) : List (HloOp τ sig (Elt F)) :=
  [ TRef.unary arg1 φ.v0 (sitofp .f32),
    TRef.binary arg0 φ.v0 φ.v1 (fun x v => pad S8x199x1536 ![0, 3, 0] ![0, 0, 0] ![0, 0, 0] x v pads_S8x196x1536_S8x199x1536_000_300_000 h_S_) ]

/-- `x · 1/(1+exp(-x))`. -/
abbrev siluOps (arg0 : TRef sig ⟨S8x196x1536, .f32⟩) (φ : fn_silu.Bufs) : List (HloOp τ sig (Elt F)) :=
  [ TRef.unary arg0 φ.v0 Host.negf,
    TRef.unary φ.v0 φ.v1 Host.exp,
    TRef.nullary φ.cst (constant S_ .f32 0x3F800000#32),
    TRef.unary φ.cst φ.v2 (broadcastInDim S8x196x1536 ![] bcast_S_S8x196x1536),
    TRef.binary φ.v2 φ.v1 φ.v3 addf,
    TRef.nullary φ.cst_0 (constant S_ .f32 0x3F800000#32),
    TRef.unary φ.cst_0 φ.v4 (broadcastInDim S8x196x1536 ![] bcast_S_S8x196x1536),
    TRef.binary φ.v4 φ.v3 φ.v5 Host.divf,
    TRef.binary arg0 φ.v5 φ.v6 mulf ]

/-- `log(1+exp x)`, by the larger of `x` and `0`. -/
abbrev softplusOps (arg0 : TRef sig ⟨S8x196x1536, .f32⟩) (φ : fn_softplus.Bufs) : List (HloOp τ sig (Elt F)) :=
  [ TRef.nullary φ.cst (constant S_ .f32 0x00000000#32),
    TRef.unary φ.cst φ.v0 (broadcastInDim S8x196x1536 ![] bcast_S_S8x196x1536),
    TRef.binary arg0 φ.v0 φ.v1 maximumf,
    TRef.unary φ.cst φ.v2 (broadcastInDim S8x196x1536 ![] bcast_S_S8x196x1536),
    TRef.binary arg0 φ.v2 φ.v3 subf,
    TRef.binary φ.v3 φ.v3 φ.v4 (cmpf .une),
    TRef.unary φ.cst φ.v5 (broadcastInDim S8x196x1536 ![] bcast_S_S8x196x1536),
    TRef.binary arg0 φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- A row of a wide array, -/
abbrev wideOps (arg0 : TRef sig ⟨S196x8x1536, .f32⟩) (arg1 : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.unaryIndexed arg0 ![arg1, φ.c, φ.c_0] φ.v0 (fun x i => Host.dynamicSlice S1x8x1536 x (fun k => (i k (Shape.Idx.first h_S_)).toInt) sliceFits_S196x8x1536_S1x8x1536),
    TRef.reshape φ.v0 φ.v1 (rfl : (.f32 : EltTy) = .f32) shapeCasts_S1x8x1536_S8x1536 ]

/-- of a narrow one, -/
abbrev narrowOps (arg0 : TRef sig ⟨S196x8x16, .f32⟩) (arg1 : TRef sig ⟨S_, .i32⟩) (φ : fn_dynamic_index_in_dim_0.Bufs) : List (HloOp τ sig (Elt F)) :=
  [ TRef.nullary φ.c (constantI S_ 32 0#32),
    TRef.nullary φ.c_0 (constantI S_ 32 0#32),
    TRef.unaryIndexed arg0 ![arg1, φ.c, φ.c_0] φ.v0 (fun x i => Host.dynamicSlice S1x8x16 x (fun k => (i k (Shape.Idx.first h_S_)).toInt) sliceFits_S196x8x16_S1x8x16),
    TRef.reshape φ.v0 φ.v1 (rfl : (.f32 : EltTy) = .f32) shapeCasts_S1x8x16_S8x16 ]

/-- and a row put into a wide array. -/
abbrev putOps (arg0 : TRef sig ⟨S196x8x1536, .f32⟩) (arg1 : TRef sig ⟨S8x1536, .f32⟩) (arg2 : TRef sig ⟨S_, .i32⟩) (φ : fn_dynamic_update_index_in_dim.Bufs) : List (HloOp τ sig (Elt F)) :=
  [ TRef.unary arg1 φ.v0 (broadcastInDim S1x8x1536 ![1, 2] bcast_S8x1536_S1x8x1536_1_2),
    TRef.nullary φ.c (constantI S_ 32 0#32),
    TRef.nullary φ.c_0 (constantI S_ 32 0#32),
    TRef.binaryIndexed arg0 φ.v0 ![arg2, φ.c, φ.c_0] φ.v1 (fun x u i => Host.dynamicUpdateSlice x u (fun k => (i k (Shape.Idx.first h_S_)).toInt) updateFits_S196x8x1536_S1x8x1536) ]

/-- Operations of the layer before its loop. -/
abbrev pre0  : List (HloOp τ sig (Elt F)) :=
  [ TRef.binary x.a0 x.a1 φ.v0 (fun l r => Host.dotGeneral dot_S8x196x768_S3072x768_S8x196x3072_2_1_01_0_n_n none l r),
    TRef.unary φ.v0 φ.v1 (extractStridedSlice S8x196x1536 ![0, 0, 0] · slices_S8x196x3072_S8x196x1536_0_0_0),
    TRef.unary φ.v0 φ.v2 (extractStridedSlice S8x196x1536 ![0, 0, 1536] · slices_S8x196x3072_S8x196x1536_0_0_1536),
    TRef.nullary φ.c (constantI S_ 32 0#32) ]

/-- Operations of the layer before its loop. -/
abbrev pre1 : List (HloOp τ sig (Elt F)) := padOps φ.v1 φ.c φ.call0

/-- Operations of the layer before its loop. -/
abbrev pre2  : List (HloOp τ sig (Elt F)) :=
  [ TRef.unary φ.call0.v1 φ.v4 (extractStridedSlice S8x196x1536 ![0, 0, 0] · slices_S8x199x1536_S8x196x1536_0_0_0),
    TRef.unary x.a2 φ.v5 (extractStridedSlice S1536x1 ![0, 0] · slices_S1536x4_S1536x1_0_0),
    TRef.reshape φ.v5 φ.v6 (rfl : (.f32 : EltTy) = .f32) shapeCasts_S1536x1_S1536,
    TRef.unary φ.v6 φ.v7 (broadcastInDim S1x1x1536 ![2] bcast_S1536_S1x1x1536_2),
    TRef.unary φ.v7 φ.v8 (broadcastInDim S8x196x1536 ![0, 1, 2] bcast_S1x1x1536_S8x196x1536_0_1_2),
    TRef.binary φ.v4 φ.v8 φ.v9 mulf,
    TRef.nullary φ.cst (constant S_ .f32 0x00000000#32),
    TRef.unary φ.cst φ.v10 (broadcastInDim S8x196x1536 ![] bcast_S_S8x196x1536),
    TRef.binary φ.v10 φ.v9 φ.v11 addf,
    TRef.unary φ.call0.v1 φ.v12 (extractStridedSlice S8x196x1536 ![0, 1, 0] · slices_S8x199x1536_S8x196x1536_0_1_0),
    TRef.unary x.a2 φ.v13 (extractStridedSlice S1536x1 ![0, 1] · slices_S1536x4_S1536x1_0_1),
    TRef.reshape φ.v13 φ.v14 (rfl : (.f32 : EltTy) = .f32) shapeCasts_S1536x1_S1536,
    TRef.unary φ.v14 φ.v15 (broadcastInDim S1x1x1536 ![2] bcast_S1536_S1x1x1536_2),
    TRef.unary φ.v15 φ.v16 (broadcastInDim S8x196x1536 ![0, 1, 2] bcast_S1x1x1536_S8x196x1536_0_1_2),
    TRef.binary φ.v12 φ.v16 φ.v17 mulf,
    TRef.binary φ.v11 φ.v17 φ.v18 addf,
    TRef.unary φ.call0.v1 φ.v19 (extractStridedSlice S8x196x1536 ![0, 2, 0] · slices_S8x199x1536_S8x196x1536_0_2_0),
    TRef.unary x.a2 φ.v20 (extractStridedSlice S1536x1 ![0, 2] · slices_S1536x4_S1536x1_0_2),
    TRef.reshape φ.v20 φ.v21 (rfl : (.f32 : EltTy) = .f32) shapeCasts_S1536x1_S1536,
    TRef.unary φ.v21 φ.v22 (broadcastInDim S1x1x1536 ![2] bcast_S1536_S1x1x1536_2),
    TRef.unary φ.v22 φ.v23 (broadcastInDim S8x196x1536 ![0, 1, 2] bcast_S1x1x1536_S8x196x1536_0_1_2),
    TRef.binary φ.v19 φ.v23 φ.v24 mulf,
    TRef.binary φ.v18 φ.v24 φ.v25 addf,
    TRef.unary φ.call0.v1 φ.v26 (extractStridedSlice S8x196x1536 ![0, 3, 0] · slices_S8x199x1536_S8x196x1536_0_3_0),
    TRef.unary x.a2 φ.v27 (extractStridedSlice S1536x1 ![0, 3] · slices_S1536x4_S1536x1_0_3),
    TRef.reshape φ.v27 φ.v28 (rfl : (.f32 : EltTy) = .f32) shapeCasts_S1536x1_S1536,
    TRef.unary φ.v28 φ.v29 (broadcastInDim S1x1x1536 ![2] bcast_S1536_S1x1x1536_2),
    TRef.unary φ.v29 φ.v30 (broadcastInDim S8x196x1536 ![0, 1, 2] bcast_S1x1x1536_S8x196x1536_0_1_2),
    TRef.binary φ.v26 φ.v30 φ.v31 mulf,
    TRef.binary φ.v25 φ.v31 φ.v32 addf,
    TRef.unary x.a3 φ.v33 (broadcastInDim S1x1x1536 ![2] bcast_S1536_S1x1x1536_2),
    TRef.unary φ.v33 φ.v34 (broadcastInDim S8x196x1536 ![0, 1, 2] bcast_S1x1x1536_S8x196x1536_0_1_2),
    TRef.binary φ.v34 φ.v32 φ.v35 addf ]

/-- Operations of the layer before its loop. -/
abbrev pre3 : List (HloOp τ sig (Elt F)) := siluOps φ.v35 φ.call1

/-- Operations of the layer before its loop. -/
abbrev pre4  : List (HloOp τ sig (Elt F)) :=
  [ TRef.binary φ.call1.v6 x.a4 φ.v37 (fun l r => Host.dotGeneral dot_S8x196x1536_S80x1536_S8x196x80_2_1_01_0_n_n none l r),
    TRef.unary φ.v37 φ.v38 (extractStridedSlice S8x196x48 ![0, 0, 0] · slices_S8x196x80_S8x196x48_0_0_0),
    TRef.unary φ.v37 φ.v39 (extractStridedSlice S8x196x16 ![0, 0, 48] · slices_S8x196x80_S8x196x16_0_0_48),
    TRef.unary φ.v37 φ.v40 (extractStridedSlice S8x196x16 ![0, 0, 64] · slices_S8x196x80_S8x196x16_0_0_64),
    TRef.binary φ.v38 x.a5 φ.v41 (fun l r => Host.dotGeneral dot_S8x196x48_S1536x48_S8x196x1536_2_1_01_0_n_n none l r),
    TRef.unary x.a6 φ.v42 (broadcastInDim S1x1x1536 ![2] bcast_S1536_S1x1x1536_2),
    TRef.unary φ.v42 φ.v43 (broadcastInDim S8x196x1536 ![0, 1, 2] bcast_S1x1x1536_S8x196x1536_0_1_2),
    TRef.binary φ.v41 φ.v43 φ.v44 addf ]

/-- Operations of the layer before its loop. -/
abbrev pre5 : List (HloOp τ sig (Elt F)) := softplusOps φ.v44 φ.call2

/-- Operations of the layer before its loop. -/
abbrev pre6  : List (HloOp τ sig (Elt F)) :=
  [ TRef.unary x.a7 φ.v46 Host.exp,
    TRef.unary φ.v46 φ.v47 Host.negf,
    TRef.nullary φ.cst_0 (constant S_ .f32 0x00000000#32),
    TRef.unary φ.cst_0 φ.v48 (broadcastInDim S8x1536x16 ![] bcast_S_S8x1536x16),
    TRef.unary φ.call1.v6 φ.v49 (transpose S196x8x1536 [1, 0, 2] · transposes_S8x196x1536_S196x8x1536_1_0_2),
    TRef.unary φ.call2.v12 φ.v50 (transpose S196x8x1536 [1, 0, 2] · transposes_S8x196x1536_S196x8x1536_1_0_2),
    TRef.unary φ.v39 φ.v51 (transpose S196x8x16 [1, 0, 2] · transposes_S8x196x16_S196x8x16_1_0_2),
    TRef.unary φ.v40 φ.v52 (transpose S196x8x16 [1, 0, 2] · transposes_S8x196x16_S196x8x16_1_0_2),
    TRef.nullary φ.cst_1 (constant S_ .f32 0x00000000#32),
    TRef.unary φ.cst_1 φ.v53 (broadcastInDim S196x8x1536 ![] bcast_S_S196x8x1536),
    TRef.nullary φ.c_2 (constantI S_ 32 0#32),
    TRef.unary φ.v49 φ.v54_0 id,
    TRef.unary φ.v50 φ.v54_1 id,
    TRef.unary φ.v51 φ.v54_2 id,
    TRef.unary φ.v52 φ.v54_3 id,
    TRef.unary φ.v47 φ.v54_4 id,
    TRef.unary φ.c_2 φ.v54_5 id,
    TRef.unary φ.v48 φ.v54_6 id,
    TRef.unary φ.v53 φ.v54_7 id ]

/-- Operations of the layer after its loop. -/
abbrev post0  : List (HloOp τ sig (Elt F)) :=
  [ TRef.unary φ.v54_7 φ.v55 (transpose S8x196x1536 [1, 0, 2] · transposes_S196x8x1536_S8x196x1536_1_0_2),
    TRef.unary x.a8 φ.v56 (broadcastInDim S1x1x1536 ![2] bcast_S1536_S1x1x1536_2),
    TRef.unary φ.v56 φ.v57 (broadcastInDim S8x196x1536 ![0, 1, 2] bcast_S1x1x1536_S8x196x1536_0_1_2),
    TRef.binary φ.call1.v6 φ.v57 φ.v58 mulf,
    TRef.binary φ.v55 φ.v58 φ.v59 addf ]

/-- Operations of the layer after its loop. -/
abbrev post1 : List (HloOp τ sig (Elt F)) := siluOps φ.v2 φ.call8

/-- Operations of the layer after its loop. -/
abbrev post2  : List (HloOp τ sig (Elt F)) :=
  [ TRef.binary φ.v59 φ.call8.v6 φ.v61 mulf,
    TRef.binary φ.v61 x.a9 φ.v62 (fun l r => Host.dotGeneral dot_S8x196x1536_S768x1536_S8x196x768_2_1_01_0_n_n none l r) ]

/-- The loop's condition. -/
abbrev condOps  : List (HloOp τ sig (Elt F)) :=
  [ TRef.nullary φ.while0c_c_10 (constantI S_ 32 196#32),
    TRef.binary φ.v54_5 φ.while0c_c_10 φ.while0c_v63 (cmpi .slt) ]

/-- Operations of a trip. -/
abbrev trip0 : List (HloOp τ sig (Elt F)) := wideOps φ.v54_0 φ.v54_5 φ.while0b_call3

/-- Operations of a trip. -/
abbrev trip1 : List (HloOp τ sig (Elt F)) := wideOps φ.v54_1 φ.v54_5 φ.while0b_call4

/-- Operations of a trip. -/
abbrev trip2 : List (HloOp τ sig (Elt F)) := narrowOps φ.v54_2 φ.v54_5 φ.while0b_call5

/-- Operations of a trip. -/
abbrev trip3 : List (HloOp τ sig (Elt F)) := narrowOps φ.v54_3 φ.v54_5 φ.while0b_call6

/-- Operations of a trip. -/
abbrev trip4  : List (HloOp τ sig (Elt F)) :=
  [ TRef.unary φ.while0b_call4.v1 φ.while0b_v67 (broadcastInDim S8x1536x1 ![0, 1] bcast_S8x1536_S8x1536x1_0_1),
    TRef.unary φ.v54_4 φ.while0b_v68 (broadcastInDim S1x1536x16 ![1, 2] bcast_S1536x16_S1x1536x16_1_2),
    TRef.unary φ.while0b_v67 φ.while0b_v69 (broadcastInDim S8x1536x16 ![0, 1, 2] bcast_S8x1536x1_S8x1536x16_0_1_2),
    TRef.unary φ.while0b_v68 φ.while0b_v70 (broadcastInDim S8x1536x16 ![0, 1, 2] bcast_S1x1536x16_S8x1536x16_0_1_2),
    TRef.binary φ.while0b_v69 φ.while0b_v70 φ.while0b_v71 mulf,
    TRef.unary φ.while0b_v71 φ.while0b_v72 Host.exp,
    TRef.binary φ.while0b_v72 φ.v54_6 φ.while0b_v73 mulf,
    TRef.binary φ.while0b_call4.v1 φ.while0b_call3.v1 φ.while0b_v74 mulf,
    TRef.unary φ.while0b_v74 φ.while0b_v75 (broadcastInDim S8x1536x1 ![0, 1] bcast_S8x1536_S8x1536x1_0_1),
    TRef.unary φ.while0b_call5.v1 φ.while0b_v76 (broadcastInDim S8x1x16 ![0, 2] bcast_S8x16_S8x1x16_0_2),
    TRef.unary φ.while0b_v75 φ.while0b_v77 (broadcastInDim S8x1536x16 ![0, 1, 2] bcast_S8x1536x1_S8x1536x16_0_1_2),
    TRef.unary φ.while0b_v76 φ.while0b_v78 (broadcastInDim S8x1536x16 ![0, 1, 2] bcast_S8x1x16_S8x1536x16_0_1_2),
    TRef.binary φ.while0b_v77 φ.while0b_v78 φ.while0b_v79 mulf,
    TRef.binary φ.while0b_v73 φ.while0b_v79 φ.while0b_v80 addf,
    TRef.binary φ.while0b_v80 φ.while0b_call6.v1 φ.while0b_v81 (fun l r => Host.dotGeneral dot_S8x1536x16_S8x16_S8x1536_2_1_1_n_0_0 none l r) ]

/-- Operations of a trip. -/
abbrev trip5 : List (HloOp τ sig (Elt F)) := putOps φ.v54_7 φ.while0b_v81 φ.v54_5 φ.while0b_call7

/-- Operations of a trip. -/
abbrev trip6  : List (HloOp τ sig (Elt F)) :=
  [ TRef.nullary φ.while0b_c_10 (constantI S_ 32 1#32),
    TRef.binary φ.v54_5 φ.while0b_c_10 φ.while0b_v83 addi,
    TRef.unary φ.while0b_v83 φ.v54_5 id,
    TRef.unary φ.while0b_v80 φ.v54_6 id,
    TRef.unary φ.while0b_call7.v1 φ.v54_7 id ]

/-- The last stretch before the loop, in two. -/
abbrev pre6a  : List (HloOp τ sig (Elt F)) :=
  [ TRef.unary x.a7 φ.v46 Host.exp,
    TRef.unary φ.v46 φ.v47 Host.negf,
    TRef.nullary φ.cst_0 (constant S_ .f32 0x00000000#32),
    TRef.unary φ.cst_0 φ.v48 (broadcastInDim S8x1536x16 ![] bcast_S_S8x1536x16),
    TRef.unary φ.call1.v6 φ.v49 (transpose S196x8x1536 [1, 0, 2] · transposes_S8x196x1536_S196x8x1536_1_0_2),
    TRef.unary φ.call2.v12 φ.v50 (transpose S196x8x1536 [1, 0, 2] · transposes_S8x196x1536_S196x8x1536_1_0_2),
    TRef.unary φ.v39 φ.v51 (transpose S196x8x16 [1, 0, 2] · transposes_S8x196x16_S196x8x16_1_0_2),
    TRef.unary φ.v40 φ.v52 (transpose S196x8x16 [1, 0, 2] · transposes_S8x196x16_S196x8x16_1_0_2),
    TRef.nullary φ.cst_1 (constant S_ .f32 0x00000000#32),
    TRef.unary φ.cst_1 φ.v53 (broadcastInDim S196x8x1536 ![] bcast_S_S196x8x1536),
    TRef.nullary φ.c_2 (constantI S_ 32 0#32),
    TRef.unary φ.v49 φ.v54_0 id ]

/-- The last stretch before the loop, in two. -/
abbrev pre6b  : List (HloOp τ sig (Elt F)) :=
  [ TRef.unary φ.v50 φ.v54_1 id,
    TRef.unary φ.v51 φ.v54_2 id,
    TRef.unary φ.v52 φ.v54_3 id,
    TRef.unary φ.v47 φ.v54_4 id,
    TRef.unary φ.c_2 φ.v54_5 id,
    TRef.unary φ.v48 φ.v54_6 id,
    TRef.unary φ.v53 φ.v54_7 id ]

/-- The stretches before the loop, of a trip, and after the loop. -/
abbrev preI : List (List (HloOp τ sig (Elt F))) := [pre0 x φ, pre1 φ, pre2 x φ, pre3 φ, pre4 x φ, pre5 φ, pre6a x φ, pre6b φ]
abbrev tripI : List (List (HloOp τ sig (Elt F))) := [trip0 φ, trip1 φ, trip2 φ, trip3 φ, trip4 φ, trip5 φ, trip6 φ]
abbrev postI : List (List (HloOp τ sig (Elt F))) := [post0 x φ, post1 φ, post2 x φ]

end Cert.ReferenceIdeal.Fn

end
-- ==== Proof.RefPre.lean ====
module

public import proofs.«01_k».proof.Proof.RefFn

/-! # The layer's stretches, each read at an index

Each stretch's results as functions of the buffers it reads, before the loop and after it. -/

@[expose] public section

set_option maxRecDepth 16384

noncomputable section

namespace Cert.ReferenceIdeal.Fn

open Idealize.ShloMosaic Idealize.ShloMosaic.TcCoe Idealize.SL.Sem Idealize.ShloMosaic.StableHlo
open Cert.ReferenceIdeal Cert.ReferenceIdeal.Gen

theorem zero_word : ((((0#32).toInt : ℤ) : ℝ) : EReal) = 0 := by simp

variable (x : Ins) (φ : fn_mamba_layer.Bufs) [Distinct x φ]
variable (V : Valuation τ sig (Elt Ideal)) (p : Spec.Params) (h : Fin 196 → Fin 768 → EReal) (b : Fin 8)

include x

theorem v1_eq (h0 : ∀ t k, (rd x.a0 V)  (ix3 b t k) = h t k) (h1 : ∀ e k, (rd x.a1 V)  (ix2 e k) = p.inw e k)
    (t : Fin 196) (e : Fin 1536) : (rd φ.v1 (after (pre0 x φ) V))  (ix3 b t e) = Spec.pre p h t e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h0, h1]
  rfl

theorem v2_eq (h0 : ∀ t k, (rd x.a0 V)  (ix3 b t k) = h t k) (h1 : ∀ e k, (rd x.a1 V)  (ix2 e k) = p.inw e k)
    (t : Fin 196) (e : Fin 1536) : (rd φ.v2 (after (pre0 x φ) V))  (ix3 b t e) = Spec.gate p h t e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h0, h1]
  rfl

theorem c_eq : (rd φ.c (after (pre0 x φ) V))  = constantI S_ 32 0#32 := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]

theorem v3_eq (hc : (rd φ.c V)  = constantI S_ 32 0#32) (h1 : ∀ t e, (rd φ.v1 V)  (ix3 b t e) = Spec.pre p h t e)
    (t : Fin 199) (e : Fin 1536) :
 (rd φ.call0.v1 (after (pre1 φ) V))  (ix3 b t e) = if ht : t.val < 3 then (0 : EReal) else Spec.pre p h ⟨t.val - 3, by omega⟩ e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  rw [hc]
  pointwise [h1]
  by_cases ht : t.val < 3
  · rw [dif_neg (by omega), dif_pos ht]
    exact zero_word
  · rw [dif_pos (by omega), dif_neg ht]

theorem v35_eq (h3 : ∀ (t : Fin 199) e, (rd φ.call0.v1 V)  (ix3 b t e) = if ht : t.val < 3 then (0 : EReal) else Spec.pre p h ⟨t.val - 3, by omega⟩ e)
    (hw : ∀ e j, (rd x.a2 V)  (ix2 e j) = p.cw e j) (hb : ∀ e, (rd x.a3 V)  (ix1 e) = p.cb e)
    (t : Fin 196) (e : Fin 1536) : (rd φ.v35 (after (pre2 x φ) V))  (ix3 b t e) = Spec.conv p h t e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h3, hw, hb]
  unfold Spec.conv Spec.tap
  simp only [Nat.zero_add]

theorem v36_eq (h35 : ∀ t e, (rd φ.v35 V)  (ix3 b t e) = Spec.conv p h t e)
    (t : Fin 196) (e : Fin 1536) : (rd φ.call1.v6 (after (pre3 φ) V))  (ix3 b t e) = Spec.act p h t e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h35]
  rfl

theorem v39_eq (h36 : ∀ t e, (rd φ.call1.v6 V)  (ix3 b t e) = Spec.act p h t e) (hw : ∀ j e, (rd x.a4 V)  (ix2 j e) = p.xpw j e)
    (t : Fin 196) (s : Fin 16) : (rd φ.v39 (after (pre4 x φ) V))  (ix3 b t s) = Spec.bmat p h t s := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h36, hw]
  rfl

theorem v40_eq (h36 : ∀ t e, (rd φ.call1.v6 V)  (ix3 b t e) = Spec.act p h t e) (hw : ∀ j e, (rd x.a4 V)  (ix2 j e) = p.xpw j e)
    (t : Fin 196) (s : Fin 16) : (rd φ.v40 (after (pre4 x φ) V))  (ix3 b t s) = Spec.cmat p h t s := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h36, hw]
  rfl

theorem v44_eq (h36 : ∀ t e, (rd φ.call1.v6 V)  (ix3 b t e) = Spec.act p h t e) (hw : ∀ j e, (rd x.a4 V)  (ix2 j e) = p.xpw j e)
    (hd : ∀ e r, (rd x.a5 V)  (ix2 e r) = p.dtw e r) (hb : ∀ e, (rd x.a6 V)  (ix1 e) = p.dtb e)
    (t : Fin 196) (e : Fin 1536) :
 (rd φ.v44 (after (pre4 x φ) V))  (ix3 b t e) = (∑ r : Fin 48, Spec.proj p h t ⟨r.val, by omega⟩ * p.dtw e r) + p.dtb e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h36, hw, hd, hb]
  rfl

theorem v45_eq (h44 : ∀ t e, (rd φ.v44 V)  (ix3 b t e) = (∑ r : Fin 48, Spec.proj p h t ⟨r.val, by omega⟩ * p.dtw e r) + p.dtb e)
    (t : Fin 196) (e : Fin 1536) : (rd φ.call2.v12 (after (pre5 φ) V))  (ix3 b t e) = Spec.dt p h t e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h44]
  rw [if_neg (fun hn => hn rfl)]
  rfl

theorem v54_0_eq (t : Fin 196) (e : Fin 1536) : (rd φ.v54_0 (after (pre6 x φ) V))  (ix3 t b e) = (rd φ.call1.v6 V)  (ix3 b t e) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise

theorem v54_1_eq (t : Fin 196) (e : Fin 1536) : (rd φ.v54_1 (after (pre6 x φ) V))  (ix3 t b e) = (rd φ.call2.v12 V)  (ix3 b t e) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise

theorem v54_2_eq (t : Fin 196) (s : Fin 16) : (rd φ.v54_2 (after (pre6 x φ) V))  (ix3 t b s) = (rd φ.v39 V)  (ix3 b t s) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise

theorem v54_3_eq (t : Fin 196) (s : Fin 16) : (rd φ.v54_3 (after (pre6 x φ) V))  (ix3 t b s) = (rd φ.v40 V)  (ix3 b t s) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise

theorem v54_4_eq (ha : ∀ e s, (rd x.a7 V)  (ix2 e s) = p.alog e s)
    (e : Fin 1536) (s : Fin 16) : (rd φ.v54_4 (after (pre6 x φ) V))  (ix2 e s) = -Ideal.exp (p.alog e s) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [ha]

theorem v54_6_eq (e : Fin 1536) (s : Fin 16) : (rd φ.v54_6 (after (pre6 x φ) V))  (ix3 b e s) = (0 : EReal) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise

/-! After the loop. -/

theorem v59_eq (h36 : ∀ t e, (rd φ.call1.v6 V)  (ix3 b t e) = Spec.act p h t e) (h54 : ∀ t e, (rd φ.v54_7 V)  (ix3 t b e) = Spec.scan p h t e)
    (hd : ∀ e, (rd x.a8 V)  (ix1 e) = p.dpar e) (t : Fin 196) (e : Fin 1536) :
 (rd φ.v59 (after (post0 x φ) V))  (ix3 b t e) = Spec.scan p h t e + Spec.act p h t e * p.dpar e := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h36, h54, hd]

theorem v60_eq (h2 : ∀ t e, (rd φ.v2 V)  (ix3 b t e) = Spec.gate p h t e)
    (t : Fin 196) (e : Fin 1536) : (rd φ.call8.v6 (after (post1 φ) V))  (ix3 b t e) = Spec.silu (Spec.gate p h t e) := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h2]
  rfl

theorem v62_eq (h59 : ∀ t e, (rd φ.v59 V)  (ix3 b t e) = Spec.scan p h t e + Spec.act p h t e * p.dpar e)
    (h60 : ∀ t e, (rd φ.call8.v6 V)  (ix3 b t e) = Spec.silu (Spec.gate p h t e)) (hw : ∀ j e, (rd x.a9 V)  (ix2 j e) = p.ow j e)
    (t : Fin 196) (j : Fin 768) : (rd φ.v62 (after (post2 x φ) V))  (ix3 b t j) = Spec.layer p h t j := by
  simp (disch := simp) only [after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]
  pointwise [h59, h60, hw]
  rfl

end Cert.ReferenceIdeal.Fn

end
-- ==== Proof.RefLoop.lean ====
module

public import proofs.«01_k».proof.Proof.RefPre
public import Idealize.ShloMosaic.Lib.DynamicIndex
public import Idealize.ShloMosaic.Lib.Pipeline.Value
public import Idealize.ShloMosaic.Lib.StableHlo.RunLoop

/-! # The layer function's loop over the rows, and its result

One trip reads row `k` of the loop's inputs, moves the state on and writes row `k` of its output. The stretches before
the loop, the trips and the stretches after it put together compute `Spec.layer`. -/

@[expose] public section

set_option maxRecDepth 16384

noncomputable section

namespace Cert.ReferenceIdeal.Fn

open Idealize.ShloMosaic Idealize.ShloMosaic.TcCoe Idealize.SL.Sem Idealize.ShloMosaic.StableHlo
open Cert.ReferenceIdeal Cert.ReferenceIdeal.Gen

/-- Where a trip's slices start. -/
abbrev start (ctr : IVec S_ 32) : Fin 3 → Int :=
  fun k => (((![ctr, constantI S_ 32 0#32, constantI S_ 32 0#32] : Fin 3 → (⟨S_, .i32⟩ : BufTy).Contents (Elt Ideal))) k (Shape.Idx.first h_S_)).toInt

theorem start_eq (k : Fin 196) (a : Fin 3) : start (fun _ => Scf.iv 0#32 1#32 k.val) a = ((![k.val, 0, 0] : Fin 3 → ℕ) a : ℤ) := by
  have h0 : (Scf.iv 0#32 1#32 k.val).toInt = (k.val : ℤ) := by
    rw [Scf.toInt_iv (ub := 196#32) (by decide) (k := k.val) (by have := k.isLt; have h : Scf.trips 0#32 196#32 1#32 = 196 := by decide
                                                                 omega)]
    simp
  fin_cases a
  · exact h0
  · rfl
  · rfl

theorem wide_fits (k : Fin 196) : S196x8x1536.Slices ![k.val, 0, 0] S1x8x1536 :=
  ⟨rfl, fun a => by have := k.isLt; fin_cases a <;> simp <;> omega⟩

theorem narrow_fits (k : Fin 196) : S196x8x16.Slices ![k.val, 0, 0] S1x8x16 :=
  ⟨rfl, fun a => by have := k.isLt; fin_cases a <;> simp <;> omega⟩

theorem wide_row (x : FVec Ideal S196x8x1536 .f32) (k : Fin 196) (b : Fin 8) (e : Fin 1536) :
    shapeCast S8x1536 (Host.dynamicSlice S1x8x1536 x (start (fun _ => Scf.iv 0#32 1#32 k.val)) sliceFits_S196x8x1536_S1x8x1536) shapeCasts_S1x8x1536_S8x1536 (ix2 b e)
      = x (ix3 k b e) := by
  rw [Host.dynamicSlice_eq_extractStridedSlice _ _ _ ![k.val, 0, 0] _ (wide_fits k) (start_eq k)]
  pointwise

theorem narrow_row (x : FVec Ideal S196x8x16 .f32) (k : Fin 196) (b : Fin 8) (e : Fin 16) :
    shapeCast S8x16 (Host.dynamicSlice S1x8x16 x (start (fun _ => Scf.iv 0#32 1#32 k.val)) sliceFits_S196x8x16_S1x8x16) shapeCasts_S1x8x16_S8x16 (ix2 b e)
      = x (ix3 k b e) := by
  rw [Host.dynamicSlice_eq_extractStridedSlice _ _ _ ![k.val, 0, 0] _ (narrow_fits k) (start_eq k)]
  pointwise

theorem put_row (x : FVec Ideal S196x8x1536 .f32) (u : FVec Ideal S1x8x1536 .f32) (k t : Fin 196) (b : Fin 8) (e : Fin 1536) :
    Host.dynamicUpdateSlice x u (start (fun _ => Scf.iv 0#32 1#32 k.val)) updateFits_S196x8x1536_S1x8x1536 (ix3 t b e)
      = if t = k then u (ix3 0 b e) else x (ix3 t b e) := by
  rw [Host.dynamicUpdateSlice_eq_updateSlice _ _ _ _ ![k.val, 0, 0] (fun a => by
    have := (wide_fits k).2 a
    rw [start_eq k a]
    omega) (wide_fits k)]
  pointwise
  by_cases hk : t = k
  · subst hk
    rw [dif_pos ⟨Nat.le_refl _, Nat.lt_succ_self _⟩, if_pos rfl]
    exact congrArg (fun z => u (ix3 z b e)) (Fin.ext (Nat.sub_self _))
  · have : t.val ≠ k.val := fun hv => hk (Fin.ext hv)
    rw [dif_neg (by omega), if_neg hk]

/-! ## A trip -/

variable (x : Ins) (φ : fn_mamba_layer.Bufs)

/-- A trip with the condition before it. -/
abbrev trip (V : Valuation τ sig (Elt Ideal)) : Valuation τ sig (Elt Ideal) := afterL (tripI φ) (after (condOps φ) V)

section Trip

variable [Distinct x φ] (V : Valuation τ sig (Elt Ideal))

include x

theorem trip_keep {T : BufTy} (z : TRef sig T) (hz : place x φ z.ref < 96) : rd z (trip φ V) = rd z V := by
  simp (disch := (simp; omega)) only [afterL_cons, afterL_nil, after_cons, after_nil, rd_nullary, rd_unary, rd_binary, rd_ternary, rd_reshape, rd_unaryIndexed, rd_binaryIndexed, id_eq,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]

theorem trip_ctr : rd φ.v54_5 (trip φ V) = addi (rd φ.v54_5 V) (constantI S_ 32 1#32) := by
  simp (disch := simp) only [afterL_cons, afterL_nil, after_cons, after_nil, rd_nullary, rd_unary, rd_binary, rd_ternary, rd_reshape, rd_unaryIndexed, rd_binaryIndexed, id_eq,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]

/-- The loop's inputs and counter before trip `k`. -/
structure Ready (p : Spec.Params) (h : Fin 196 → Fin 768 → EReal) (b : Fin 8) (V : Valuation τ sig (Elt Ideal)) (k : ℕ) : Prop where
  act : ∀ (t : Fin 196) (e : Fin 1536), rd φ.v54_0 V (ix3 t b e) = Spec.act p h t e
  dt : ∀ (t : Fin 196) (e : Fin 1536), rd φ.v54_1 V (ix3 t b e) = Spec.dt p h t e
  bmat : ∀ (t : Fin 196) (s : Fin 16), rd φ.v54_2 V (ix3 t b s) = Spec.bmat p h t s
  cmat : ∀ (t : Fin 196) (s : Fin 16), rd φ.v54_3 V (ix3 t b s) = Spec.cmat p h t s
  a : ∀ (e : Fin 1536) (s : Fin 16), rd φ.v54_4 V (ix2 e s) = -Ideal.exp (p.alog e s)
  ctr : rd φ.v54_5 V = fun _ => Scf.iv 0#32 1#32 k
  state : ∀ (e : Fin 1536) (s : Fin 16), rd φ.v54_6 V (ix3 b e s) = Spec.state p h k e s
  out : ∀ (t : Fin 196) (e : Fin 1536), t.val < k → rd φ.v54_7 V (ix3 t b e) = Spec.scan p h t e

variable {φ V} {p : Spec.Params} {h : Fin 196 → Fin 768 → EReal} {b : Fin 8}

theorem Ready.state_next {k : Fin 196} (H : Ready φ p h b V k.val) (e : Fin 1536) (s : Fin 16) :
    rd φ.v54_6 (trip φ V) (ix3 b e s) = Spec.state p h (k.val + 1) e s := by
  have h1 : ∀ e, shapeCast S8x1536 (Host.dynamicSlice S1x8x1536 (rd φ.v54_0 V) (start (fun _ => Scf.iv 0#32 1#32 k.val)) sliceFits_S196x8x1536_S1x8x1536) shapeCasts_S1x8x1536_S8x1536 (ix2 b e) = Spec.act p h k e :=
    fun e => (wide_row _ k b e).trans (H.act k e)
  have h0 : ∀ e, shapeCast S8x1536 (Host.dynamicSlice S1x8x1536 (rd φ.v54_1 V) (start (fun _ => Scf.iv 0#32 1#32 k.val)) sliceFits_S196x8x1536_S1x8x1536) shapeCasts_S1x8x1536_S8x1536 (ix2 b e) = Spec.dt p h k e :=
    fun e => (wide_row _ k b e).trans (H.dt k e)
  have h2 : ∀ s, shapeCast S8x16 (Host.dynamicSlice S1x8x16 (rd φ.v54_2 V) (start (fun _ => Scf.iv 0#32 1#32 k.val)) sliceFits_S196x8x16_S1x8x16) shapeCasts_S1x8x16_S8x16 (ix2 b s) = Spec.bmat p h k s :=
    fun s => (narrow_row _ k b s).trans (H.bmat k s)
  rw [Spec.state_succ]
  simp (disch := simp) only [afterL_cons, afterL_nil, after_cons, after_nil, rd_nullary, rd_unary, rd_binary, rd_ternary, rd_reshape, rd_unaryIndexed, rd_binaryIndexed, id_eq,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
  rw [H.ctr]
  generalize shapeCast S8x1536 (Host.dynamicSlice S1x8x1536 (rd φ.v54_0 V) _ _) _ = X at h1 ⊢
  generalize shapeCast S8x1536 (Host.dynamicSlice S1x8x1536 (rd φ.v54_1 V) _ _) _ = Z at h0 ⊢
  generalize shapeCast S8x16 (Host.dynamicSlice S1x8x16 (rd φ.v54_2 V) _ _) _ = Y at h2 ⊢
  pointwise [h0, h1, h2, H.state, H.a]

theorem Ready.out_next {k : Fin 196} (H : Ready φ p h b V k.val) (t : Fin 196) (e : Fin 1536) :
    rd φ.v54_7 (trip φ V) (ix3 t b e) = if t = k then Spec.scan p h t e else rd φ.v54_7 V (ix3 t b e) := by
  have h3 : ∀ s, shapeCast S8x16 (Host.dynamicSlice S1x8x16 (rd φ.v54_3 V) (start (fun _ => Scf.iv 0#32 1#32 k.val)) sliceFits_S196x8x16_S1x8x16) shapeCasts_S1x8x16_S8x16 (ix2 b s) = Spec.cmat p h k s :=
    fun s => (narrow_row _ k b s).trans (H.cmat k s)
  have h6 := H.state_next x
  revert h6
  simp (disch := simp) only [afterL_cons, afterL_nil, after_cons, after_nil, rd_nullary, rd_unary, rd_binary, rd_ternary, rd_reshape, rd_unaryIndexed, rd_binaryIndexed, id_eq,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
  rw [H.ctr]
  intro h6
  refine (put_row _ _ k t b e).trans ?_
  split
  · rename_i hk
    subst hk
    generalize shapeCast S8x16 (Host.dynamicSlice S1x8x16 (rd φ.v54_3 V) _ _) _ = Y at h3 ⊢
    generalize (addf (mulf _ _) (mulf _ _) : FVec Ideal S8x1536x16 .f32) = Z at h6 ⊢
    pointwise [h3, h6]
    rfl
  · rfl

theorem Ready.next {k : Fin 196} (H : Ready φ p h b V k.val) : Ready φ p h b (trip φ V) (k.val + 1) where
  act t e := by rw [trip_keep x φ V _ (by simp)]; exact H.act t e
  dt t e := by rw [trip_keep x φ V _ (by simp)]; exact H.dt t e
  bmat t s := by rw [trip_keep x φ V _ (by simp)]; exact H.bmat t s
  cmat t s := by rw [trip_keep x φ V _ (by simp)]; exact H.cmat t s
  a e s := by rw [trip_keep x φ V _ (by simp)]; exact H.a e s
  ctr := by
    rw [trip_ctr x φ V, H.ctr, Scf.iv_succ]
    rfl
  state := H.state_next x
  out t e ht := by
    rw [H.out_next x]
    split
    · rfl
    · rename_i hk
      exact H.out t e (by have : t.val ≠ k.val := fun hv => hk (Fin.ext hv)
                          omega)

theorem Ready.iterate (H : Ready φ p h b V 0) : ∀ k : ℕ, k ≤ 196 → Ready φ p h b ((trip φ)^[k] V) k
  | 0, _ => H
  | k + 1, hk => by
    rw [Function.iterate_succ_apply']
    exact (Ready.iterate H k (by omega)).next x (k := ⟨k, by omega⟩)

variable (φ V)

theorem trips_keep {T : BufTy} (z : TRef sig T) (hz : place x φ z.ref < 96) (k : ℕ) : rd z ((trip φ)^[k] V) = rd z V := by
  induction k with
  | zero => rfl
  | succ k ih => rw [Function.iterate_succ_apply', trip_keep x φ _ z hz, ih]

theorem trips_ctr (h0 : rd φ.v54_5 V = constantI S_ 32 0#32) (k : ℕ) : rd φ.v54_5 ((trip φ)^[k] V) = fun _ => Scf.iv 0#32 1#32 k := by
  induction k with
  | zero => rw [Scf.iv_zero]; exact h0
  | succ k ih => rw [Function.iterate_succ_apply', trip_ctr x φ, ih, Scf.iv_succ]; rfl

end Trip

end Cert.ReferenceIdeal.Fn

end
-- ==== Proof.RefRun.lean ====
module

public import proofs.«01_k».proof.Proof.RefLoop
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! # Running the layer function

A call of the layer function as segments of a run: the stretches before its loop, the loop, the stretches after it. -/

@[expose] public section

set_option maxRecDepth 16384

noncomputable section

namespace Cert.ReferenceIdeal.Fn

open Idealize.ShloMosaic Idealize.ShloMosaic.TcCoe
open Idealize.SL Idealize.SL.RA Idealize.SL.BI
open scoped Idealize.SL.BI
open Idealize.SL.BI.BIBase Idealize.SL.Sem
open Idealize.ShloMosaic.StableHlo Idealize.ShloMosaic.Pipeline
open Cert.ReferenceIdeal Cert.ReferenceIdeal.Gen

/-- The reference's programs. -/
abbrev Pr := Prog (TpuEff nD τ sig (Elt Ideal) (HostLoop.Sig (Pipeline.Sig Λ₀ (Fin 0) fun p => (pcfgs (F := Ideal) p).Adm) 12) .tc)

variable (x : Ins) (φ : fn_mamba_layer.Bufs)

/-- The function called on `x`'s references, -/
abbrev body : Pr PUnit := fn_mamba_layer.body (F := Ideal) x.a0 x.a1 x.a2 x.a3 x.a4 x.a5 x.a6 x.a7 x.a8 x.a9 φ

/-- its loop's condition -/
abbrev loopCond : Pr (Elt Ideal .i1) := fn_mamba_layer.while0_cond (F := Ideal) x.a0 x.a1 x.a2 x.a3 x.a4 x.a5 x.a6 x.a7 x.a8 x.a9 φ

/-- and its loop's body. -/
abbrev loopBody : Pr PUnit := fn_mamba_layer.while0_body (F := Ideal) x.a0 x.a1 x.a2 x.a3 x.a4 x.a5 x.a6 x.a7 x.a8 x.a9 φ

/-- What a call runs, in order. -/
abbrev items : List (Pr PUnit) := ((preI x φ).map fun ops => seq ops) ++ HostLoop.enter φ.while0 :: (postI x φ).map fun ops => seq ops

theorem part0_chain : fn_mamba_layer.body_part0 (F := Ideal) x.a0 x.a1 x.a2 x.a3 x.a4 x.a5 x.a6 x.a7 x.a8 x.a9 φ
    = (chainK [seq (pre0 x φ), seq (pre1 φ), seq (pre2 x φ), seq (pre3 φ), seq (pre4 x φ), seq (pre5 φ)] (seq (pre6a x φ)) : Pr PUnit) := by
  rewrite [chainK_seq_cons, chainK_cons, chainK_seq_cons, chainK_cons, chainK_seq_cons, chainK_cons]
  chain_rfl

theorem part1_chain : fn_mamba_layer.body_part1 (F := Ideal) x.a0 x.a1 x.a2 x.a3 x.a4 x.a5 x.a6 x.a7 x.a8 x.a9 φ
    = (chain [seq (pre6b φ), HostLoop.enter φ.while0, seq (post0 x φ), seq (post1 φ), seq (post2 x φ)] : Pr PUnit) := by
  rewrite [chain_seq_cons, chain_cons, chain_seq_cons, chain_cons]
  chain_rfl

theorem body_chain : body x φ = chain (items x φ) :=
  (chain_of_window (xs := [seq (pre0 x φ), seq (pre1 φ), seq (pre2 x φ), seq (pre3 φ), seq (pre4 x φ), seq (pre5 φ)]) (q := seq (pre6a x φ))
    (ys := [seq (pre6b φ), HostLoop.enter φ.while0, seq (post0 x φ), seq (post1 φ), seq (post2 x φ)]) (part0_chain x φ) (part1_chain x φ))

theorem loopBody_chain : loopBody x φ = chain ((tripI φ).map fun ops => (seq ops : Pr PUnit)) := by
  show _ = (chain [seq (trip0 φ), seq (trip1 φ), seq (trip2 φ), seq (trip3 φ), seq (trip4 φ), seq (trip5 φ), seq (trip6 φ)] : Pr PUnit)
  rewrite [chain_cons, chain_cons, chain_cons, chain_cons, chain_seq_cons, chain_cons, chain_seq_cons]
  chain_rfl

/-! ## Nothing but tensor values -/

section Plain

variable {T Tx Ta Tb Tc Ty : BufTy}

theorem sub_nullary (y : TRef sig Ty) (v : Ty.Contents (Elt Ideal)) :
    (TRef.nullary y v : HloOp τ sig (Elt Ideal)).bufs ⊆ tcRefs τ sig ∧ (TRef.nullary y v : HloOp τ sig (Elt Ideal)).fresh = ∅ := ⟨nullary_bufs_sub .., rfl⟩
theorem sub_unary (x : TRef sig Tx) (y : TRef sig Ty) (f : Tx.Contents (Elt Ideal) → Ty.Contents (Elt Ideal)) :
    (TRef.unary x y f : HloOp τ sig (Elt Ideal)).bufs ⊆ tcRefs τ sig ∧ (TRef.unary x y f : HloOp τ sig (Elt Ideal)).fresh = ∅ := ⟨unary_bufs_sub .., rfl⟩
theorem sub_binary (a : TRef sig Ta) (b : TRef sig Tb) (y : TRef sig Ty) (f : Ta.Contents (Elt Ideal) → Tb.Contents (Elt Ideal) → Ty.Contents (Elt Ideal)) :
    (TRef.binary a b y f : HloOp τ sig (Elt Ideal)).bufs ⊆ tcRefs τ sig ∧ (TRef.binary a b y f : HloOp τ sig (Elt Ideal)).fresh = ∅ := ⟨binary_bufs_sub .., rfl⟩
theorem sub_ternary (c : TRef sig Tc) (a : TRef sig Ta) (b : TRef sig Tb) (y : TRef sig Ty) (f : Tc.Contents (Elt Ideal) → Ta.Contents (Elt Ideal) → Tb.Contents (Elt Ideal) → Ty.Contents (Elt Ideal)) :
    (TRef.ternary c a b y f : HloOp τ sig (Elt Ideal)).bufs ⊆ tcRefs τ sig ∧ (TRef.ternary c a b y f : HloOp τ sig (Elt Ideal)).fresh = ∅ := ⟨ternary_bufs_sub .., rfl⟩
theorem sub_reshape (x : TRef sig Tx) (y : TRef sig Ty) (he : Tx.elt = Ty.elt) (hn : Tx.shape.ShapeCasts Ty.shape) :
    (TRef.reshape x y he hn : HloOp τ sig (Elt Ideal)).bufs ⊆ tcRefs τ sig ∧ (TRef.reshape x y he hn : HloOp τ sig (Elt Ideal)).fresh = ∅ := ⟨reshape_bufs_sub .., rfl⟩
theorem sub_unaryIndexed (a : TRef sig Ta) {n : ℕ} (ix : Fin n → TRef sig T) (y : TRef sig Ty) (f : Ta.Contents (Elt Ideal) → (Fin n → T.Contents (Elt Ideal)) → Ty.Contents (Elt Ideal)) :
    (TRef.unaryIndexed a ix y f : HloOp τ sig (Elt Ideal)).bufs ⊆ tcRefs τ sig ∧ (TRef.unaryIndexed a ix y f : HloOp τ sig (Elt Ideal)).fresh = ∅ := ⟨unaryIndexed_bufs_sub .., rfl⟩
theorem sub_binaryIndexed (a : TRef sig Ta) (b : TRef sig Tb) {n : ℕ} (ix : Fin n → TRef sig T) (y : TRef sig Ty) (f : Ta.Contents (Elt Ideal) → Tb.Contents (Elt Ideal) → (Fin n → T.Contents (Elt Ideal)) → Ty.Contents (Elt Ideal)) :
    (TRef.binaryIndexed a b ix y f : HloOp τ sig (Elt Ideal)).bufs ⊆ tcRefs τ sig ∧ (TRef.binaryIndexed a b ix y f : HloOp τ sig (Elt Ideal)).fresh = ∅ := ⟨binaryIndexed_bufs_sub .., rfl⟩

/-- Operations that touch the core's own buffers and allocate none. -/
abbrev Own (ops : List (HloOp τ sig (Elt Ideal))) : Prop := ∀ op ∈ ops, op.bufs ⊆ tcRefs τ sig ∧ op.fresh = ∅

theorem plain_of {items : List (List (HloOp τ sig (Elt Ideal)))} (h : ∀ ops ∈ items, Own ops) : Plain items :=
  fun ops ho => ⟨fun op hop => (h ops ho op hop).1, fun op hop => (h ops ho op hop).2⟩

end Plain

theorem pre_plain : Plain (preI (F := Ideal) x φ) := plain_of (by
  simp only [List.forall_mem_cons, List.not_mem_nil, false_imp_iff, implies_true, forall_const, and_true, sub_nullary, sub_unary, sub_binary, sub_ternary, sub_reshape, sub_unaryIndexed, sub_binaryIndexed])

theorem trip_plain : Plain (tripI (F := Ideal) φ) := plain_of (by
  simp only [List.forall_mem_cons, List.not_mem_nil, false_imp_iff, implies_true, forall_const, and_true, sub_nullary, sub_unary, sub_binary, sub_ternary, sub_reshape, sub_unaryIndexed, sub_binaryIndexed])

theorem post_plain : Plain (postI (F := Ideal) x φ) := plain_of (by
  simp only [List.forall_mem_cons, List.not_mem_nil, false_imp_iff, implies_true, forall_const, and_true, sub_nullary, sub_unary, sub_binary, sub_ternary, sub_reshape, sub_unaryIndexed, sub_binaryIndexed])

/-! ## The loop -/

/-- Every buffer's contents at the loop's entry, -/
abbrev entry (W : Valuation τ sig (Elt Ideal)) : Valuation τ sig (Elt Ideal) := afterL (preI x φ) W

/-- and after the call. -/
abbrev done (W : Valuation τ sig (Elt Ideal)) : Valuation τ sig (Elt Ideal) := afterL (postI x φ) (after (condOps φ) ((trip φ)^[196] (entry x φ W)))

theorem atTrip_eq (W : Dev nD → Valuation τ sig (Elt Ideal)) (k : ℕ) (c : Dev nD) : atTrip (condOps φ) (tripI φ) W k c = (trip φ)^[k] (W c) := by
  induction k with
  | zero => rfl
  | succ k ih => rw [Function.iterate_succ_apply', ← ih]; rfl

/-- What the condition returns. -/
theorem slt_iff (k : ℕ) (hk : k ≤ 196) (u v : IVec S_ 32) (hu : u = fun _ => Scf.iv 0#32 1#32 k) (hv : v = constantI S_ 32 196#32) :
    Iff ((φ.while0c_v63.ofBuf (Val := Elt Ideal) (φ.while0c_v63.toBuf (Val := Elt Ideal) (cmpi .slt u v)) : IVec S_ 1) HostLoop.idx0 = 1#1) (k < 196) := by
  rw [TRef.ofBuf_toBuf, hu, hv]
  exact Scf.cmpi_slt_iv_ub_iff (lb := 0#32) (ub := 196#32) (st := 1#32) (by decide) (show k ≤ Scf.trips 0#32 196#32 1#32 from hk)

section Loop

variable [Distinct x φ]

theorem entry_ctr (W : Valuation τ sig (Elt Ideal)) : rd φ.v54_5 (entry x φ W) = constantI S_ 32 0#32 := by
  simp (disch := simp) only [afterL_cons, afterL_nil, after_cons, after_nil, rd_nullary, rd_unary, rd_binary, rd_ternary, rd_reshape, id_eq, rd_nullary_ne (p := place x φ), rd_unary_ne (p := place x φ),
    rd_binary_ne (p := place x φ), rd_ternary_ne (p := place x φ), rd_reshape_ne (p := place x φ)]

local notation "𝕄" => MT nD τ sig Unit (Elt Ideal) ℕ (Option PUnit) ℕ

/-- What rides along beside the buffers. -/
abbrev Rw (c : Dev nD) : sProp 𝕄 := iprop(∃ W, owes (c : Thread nD τ) (0 : CellTallies nD τ sig Unit) W)

set_option backward.isDefEq.respectTransparency.types false in
theorem cond_spec (W : Dev nD → Valuation τ sig (Elt Ideal)) :
    LoopCond pcfgs defs₀ Variants.none loops Rw (loopCond x φ) (condOps φ) (tripI φ) (fun c => entry x φ (W c)) 196 := by
  intro k hk c bd
  have hctr := trips_ctr x φ (entry x φ (W c)) (entry_ctr x φ (W c)) k
  rw [← atTrip_eq φ (fun c => entry x φ (W c)) k c] at hctr
  unfold loopCond fn_mamba_layer.while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    refine slt_iff φ k hk (rd φ.v54_5 ((TRef.nullary φ.while0c_c_10 (constantI S_ 32 196#32) : HloOp τ sig (Elt Ideal)).result (atTrip (condOps φ) (tripI φ) (fun c => entry x φ (W c)) k c)))
      (rd φ.while0c_c_10 ((TRef.nullary φ.while0c_c_10 (constantI S_ 32 196#32) : HloOp τ sig (Elt Ideal)).result (atTrip (condOps φ) (tripI φ) (fun c => entry x φ (W c)) k c))) ?_ ?_
    · rw [rd_nullary_ne (p := place x φ) (h := by simp), hctr]
    · rw [rd_nullary]
  isplitl [Hb]; · iexact Hb
  isplitl [Hh]
  · rw [after_cons, after_cons, after_nil]; iexact Hh
  iexact HR

end Loop

end Cert.ReferenceIdeal.Fn

end
-- ==== Proof.RefVal.lean ====
module

public import proofs.«01_k».proof.Proof.RefRun

/-! # The value of a call of the layer function -/

@[expose] public section

set_option maxRecDepth 16384

noncomputable section

namespace Cert.ReferenceIdeal.Fn

open Idealize.ShloMosaic Idealize.ShloMosaic.TcCoe Idealize.SL.Sem Idealize.ShloMosaic.StableHlo
open Cert.ReferenceIdeal Cert.ReferenceIdeal.Gen

variable (x : Ins) (φ : fn_mamba_layer.Bufs) [Distinct x φ] (V : Valuation τ sig (Elt Ideal))

include x

/-! ## What a stretch leaves alone -/

section Keep

variable {T : BufTy} (z : TRef sig T)

theorem pre0_keep (h : place x φ z.ref < 10 ∨ 153 < place x φ z.ref) : rd z (after (pre0 x φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem pre1_keep (h : place x φ z.ref < 14 ∨ 153 < place x φ z.ref) : rd z (after (pre1 φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem pre2_keep (h : place x φ z.ref < 16 ∨ 153 < place x φ z.ref) : rd z (after (pre2 x φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem pre3_keep (h : place x φ z.ref < 49 ∨ 153 < place x φ z.ref) : rd z (after (pre3 φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem pre4_keep (h : place x φ z.ref < 58 ∨ 153 < place x φ z.ref) : rd z (after (pre4 x φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem pre5_keep (h : place x φ z.ref < 66 ∨ 153 < place x φ z.ref) : rd z (after (pre5 φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem pre6_keep (h : place x φ z.ref < 80 ∨ 153 < place x φ z.ref) : rd z (after (pre6 x φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem post0_keep (h : place x φ z.ref < 138 ∨ 153 < place x φ z.ref) : rd z (after (post0 x φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem post1_keep (h : place x φ z.ref < 143 ∨ 153 < place x φ z.ref) : rd z (after (post1 φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem post2_keep (h : place x φ z.ref < 152 ∨ 153 < place x φ z.ref) : rd z (after (post2 x φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem condOps_keep (h : place x φ z.ref < 99 ∨ 153 < place x φ z.ref) : rd z (after (condOps φ) V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem trip_out (h : 153 < place x φ z.ref) : rd z (trip φ V) = rd z V := by
  simp (disch := (simp; omega)) only [afterL_cons, afterL_nil, after_cons, after_nil,
    rd_nullary_ne (p := place x φ), rd_unary_ne (p := place x φ), rd_binary_ne (p := place x φ), rd_ternary_ne (p := place x φ), rd_reshape_ne (p := place x φ),
    rd_unaryIndexed_ne (p := place x φ), rd_binaryIndexed_ne (p := place x φ)]
theorem trips_out (h : 153 < place x φ z.ref) (k : ℕ) : rd z ((trip φ)^[k] V) = rd z V := by
  induction k with
  | zero => rfl
  | succ k ih => rw [Function.iterate_succ_apply', trip_out x φ _ z h, ih]

/-- A call changes none but its own buffers. -/
theorem done_out (h : 153 < place x φ z.ref) : rd z (done x φ V) = rd z V := by
  show rd z (after (post2 x φ) (after (post1 φ) (after (post0 x φ) (after (condOps φ) ((trip φ)^[196] (entry x φ V)))))) = _
  rw [post2_keep x φ _ z (.inr h), post1_keep x φ _ z (.inr h), post0_keep x φ _ z (.inr h), condOps_keep x φ _ z (.inr h), trips_out x φ _ z h]
  show rd z (after (pre6 x φ) (after (pre5 φ) (after (pre4 x φ) (after (pre3 φ) (after (pre2 x φ) (after (pre1 φ) (after (pre0 x φ) V))))))) = _
  rw [pre6_keep x φ _ z (.inr h), pre5_keep x φ _ z (.inr h), pre4_keep x φ _ z (.inr h), pre3_keep x φ _ z (.inr h), pre2_keep x φ _ z (.inr h), pre1_keep x φ _ z (.inr h), pre0_keep x φ _ z (.inr h)]

end Keep

/-! ## The result -/

/-- The call's arguments are a batch row `b` of the layer's input and its parameters. -/
structure Args (p : Spec.Params) (h : Fin 196 → Fin 768 → EReal) (b : Fin 8) : Prop where
  a0 : ∀ t k, rd x.a0 V (ix3 b t k) = h t k
  a1 : ∀ e k, rd x.a1 V (ix2 e k) = p.inw e k
  a2 : ∀ e j, rd x.a2 V (ix2 e j) = p.cw e j
  a3 : ∀ e, rd x.a3 V (ix1 e) = p.cb e
  a4 : ∀ j e, rd x.a4 V (ix2 j e) = p.xpw j e
  a5 : ∀ e r, rd x.a5 V (ix2 e r) = p.dtw e r
  a6 : ∀ e, rd x.a6 V (ix1 e) = p.dtb e
  a7 : ∀ e s, rd x.a7 V (ix2 e s) = p.alog e s
  a8 : ∀ e, rd x.a8 V (ix1 e) = p.dpar e
  a9 : ∀ j e, rd x.a9 V (ix2 j e) = p.ow j e

variable {x V} {p : Spec.Params} {h : Fin 196 → Fin 768 → EReal} {b : Fin 8}

theorem done_value (H : Args x V p h b) (t : Fin 196) (j : Fin 768) : rd φ.v62 (done x φ V) (ix3 b t j) = Spec.layer p h t j := by
  let U1 := after (pre0 x φ) V
  let U2 := after (pre1 φ) U1
  let U3 := after (pre2 x φ) U2
  let U4 := after (pre3 φ) U3
  let U5 := after (pre4 x φ) U4
  let U6 := after (pre5 φ) U5
  let U7 := after (pre6 x φ) U6
  have u1 {T : BufTy} (z : TRef sig T) (hz : place x φ z.ref < 10) : rd z U1 = rd z V := pre0_keep x φ V z (.inl hz)
  have u2 {T : BufTy} (z : TRef sig T) (hz : place x φ z.ref < 14) : rd z U2 = rd z U1 := pre1_keep x φ U1 z (.inl hz)
  have u3 {T : BufTy} (z : TRef sig T) (hz : place x φ z.ref < 16) : rd z U3 = rd z U2 := pre2_keep x φ U2 z (.inl hz)
  have u4 {T : BufTy} (z : TRef sig T) (hz : place x φ z.ref < 49) : rd z U4 = rd z U3 := pre3_keep x φ U3 z (.inl hz)
  have u5 {T : BufTy} (z : TRef sig T) (hz : place x φ z.ref < 58) : rd z U5 = rd z U4 := pre4_keep x φ U4 z (.inl hz)
  have u6 {T : BufTy} (z : TRef sig T) (hz : place x φ z.ref < 66) : rd z U6 = rd z U5 := pre5_keep x φ U5 z (.inl hz)
  have u7 {T : BufTy} (z : TRef sig T) (hz : place x φ z.ref < 80) : rd z U7 = rd z U6 := pre6_keep x φ U6 z (.inl hz)
  have e1 := v1_eq x φ V p h b H.a0 H.a1
  have e2 := v2_eq x φ V p h b H.a0 H.a1
  have e3 := v3_eq x φ U1 p h b (c_eq x φ V) e1
  have e35 := v35_eq x φ U2 p h b e3 (fun e j => by rw [u2 _ (by simp), u1 _ (by simp)]; exact H.a2 e j) (fun e => by rw [u2 _ (by simp), u1 _ (by simp)]; exact H.a3 e)
  have e36 := v36_eq x φ U3 p h b e35
  have w4 : ∀ j e, rd x.a4 U4 (ix2 j e) = p.xpw j e := fun j e => by
    rw [u4 _ (by simp), u3 _ (by simp), u2 _ (by simp), u1 _ (by simp)]; exact H.a4 j e
  have e39 := v39_eq x φ U4 p h b e36 w4
  have e40 := v40_eq x φ U4 p h b e36 w4
  have e44 := v44_eq x φ U4 p h b e36 w4 (fun e r => by rw [u4 _ (by simp), u3 _ (by simp), u2 _ (by simp), u1 _ (by simp)]; exact H.a5 e r)
    (fun e => by rw [u4 _ (by simp), u3 _ (by simp), u2 _ (by simp), u1 _ (by simp)]; exact H.a6 e)
  have e45 := v45_eq x φ U5 p h b e44
  have e36' : ∀ t e, rd φ.call1.v6 U6 (ix3 b t e) = Spec.act p h t e := fun t e => by
    rw [u6 _ (by simp), u5 _ (by simp)]; exact e36 t e
  have R0 : Ready φ p h b U7 0 :=
    { act := fun t e => (v54_0_eq x φ U6 b t e).trans (e36' t e)
      dt := fun t e => (v54_1_eq x φ U6 b t e).trans (e45 t e)
      bmat := fun t s => (v54_2_eq x φ U6 b t s).trans (by rw [u6 _ (by simp)]; exact e39 t s)
      cmat := fun t s => (v54_3_eq x φ U6 b t s).trans (by rw [u6 _ (by simp)]; exact e40 t s)
      a := v54_4_eq x φ U6 p (fun e s => by
        rw [u6 _ (by simp), u5 _ (by simp), u4 _ (by simp), u3 _ (by simp), u2 _ (by simp), u1 _ (by simp)]; exact H.a7 e s)
      ctr := (entry_ctr x φ V).trans (by rw [Scf.iv_zero]; rfl)
      state := v54_6_eq x φ U6 b
      out := fun t e ht => absurd ht (Nat.not_lt_zero _) }
  have R := R0.iterate x 196 (Nat.le_refl _)
  let Y0 := after (condOps φ) ((trip φ)^[196] U7)
  let Y1 := after (post0 x φ) Y0
  let Y2 := after (post1 φ) Y1
  have y0 {T : BufTy} (z : TRef sig T) (hz : place x φ z.ref < 80) : rd z Y0 = rd z U6 := by
    rw [show rd z Y0 = _ from condOps_keep x φ _ z (.inl (by omega)), trips_keep x φ U7 z (by omega), u7 z hz]
  have y1 {T : BufTy} (z : TRef sig T) (hz : place x φ z.ref < 138) : rd z Y1 = rd z Y0 := post0_keep x φ Y0 z (.inl hz)
  have y2 {T : BufTy} (z : TRef sig T) (hz : place x φ z.ref < 143) : rd z Y2 = rd z Y1 := post1_keep x φ Y1 z (.inl hz)
  have c54 : ∀ t e, rd φ.v54_7 Y0 (ix3 t b e) = Spec.scan p h t e := fun t e => by
    rw [show rd φ.v54_7 Y0 = _ from condOps_keep x φ _ φ.v54_7 (.inl (by simp))]; exact R.out t e t.isLt
  have c36 : ∀ t e, rd φ.call1.v6 Y0 (ix3 b t e) = Spec.act p h t e := fun t e => by rw [y0 _ (by simp)]; exact e36' t e
  have f59 := v59_eq x φ Y0 p h b c36 c54 (fun e => by
    rw [y0 _ (by simp), u6 _ (by simp), u5 _ (by simp), u4 _ (by simp), u3 _ (by simp), u2 _ (by simp), u1 _ (by simp)]; exact H.a8 e)
  have f60 := v60_eq x φ Y1 p h b (fun t e => by
    rw [y1 _ (by simp), y0 _ (by simp), u6 _ (by simp), u5 _ (by simp), u4 _ (by simp), u3 _ (by simp), u2 _ (by simp)]; exact e2 t e)
  exact v62_eq x φ Y2 p h b (fun t e => by rw [y2 _ (by simp)]; exact f59 t e) f60 (fun j e => by
    rw [y2 _ (by simp), y1 _ (by simp), y0 _ (by simp), u6 _ (by simp), u5 _ (by simp), u4 _ (by simp), u3 _ (by simp), u2 _ (by simp), u1 _ (by simp)]; exact H.a9 j e) t j

end Cert.ReferenceIdeal.Fn

end
-- ==== Proof.RefCut.lean ====
module

public import proofs.«01_k».proof.Proof.RefVal

/-! # The layers' parameters, cut out of the stacked arrays

Before each call of the layer function its parameters are cut out of the arrays that hold all layers'. A layer's place in
the program (`Slot`) is its number, the buffers of the cuts and those of the call. -/

@[expose] public section

set_option maxRecDepth 16384

noncomputable section

namespace Cert.ReferenceIdeal.Fn

open Idealize.ShloMosaic Idealize.ShloMosaic.TcCoe Idealize.SL.Sem Idealize.ShloMosaic.StableHlo
open Cert.ReferenceIdeal Cert.ReferenceIdeal.Gen

/-- The arguments that hold all layers' parameters. -/
abbrev arg4 : TRef sig ⟨S12x3072x768, .f32⟩ := .of main_arg4
abbrev arg5 : TRef sig ⟨S12x1536x4, .f32⟩ := .of main_arg5
abbrev arg6 : TRef sig ⟨S12x1536, .f32⟩ := .of main_arg6
abbrev arg7 : TRef sig ⟨S12x80x1536, .f32⟩ := .of main_arg7
abbrev arg8 : TRef sig ⟨S12x1536x48, .f32⟩ := .of main_arg8
abbrev arg9 : TRef sig ⟨S12x1536, .f32⟩ := .of main_arg9
abbrev arg10 : TRef sig ⟨S12x1536x16, .f32⟩ := .of main_arg10
abbrev arg11 : TRef sig ⟨S12x1536, .f32⟩ := .of main_arg11
abbrev arg12 : TRef sig ⟨S12x768x1536, .f32⟩ := .of main_arg12

structure Slot where
  k : Fin 12
  s1 : TRef sig ⟨S1x3072x768, .f32⟩
  s2 : TRef sig ⟨S1x1536x4, .f32⟩
  s3 : TRef sig ⟨S1x1536, .f32⟩
  s4 : TRef sig ⟨S1x80x1536, .f32⟩
  s5 : TRef sig ⟨S1x1536x48, .f32⟩
  s6 : TRef sig ⟨S1x1536, .f32⟩
  s7 : TRef sig ⟨S1x1536x16, .f32⟩
  s8 : TRef sig ⟨S1x1536, .f32⟩
  s9 : TRef sig ⟨S1x768x1536, .f32⟩
  x : Ins
  φ : fn_mamba_layer.Bufs

variable (C : Slot)

/-- The stacked arrays, the layer's input, and the buffers that hold what is cut out. -/
def Slot.cutRefs : List (Ref sig .tc) :=
  [arg4.ref, arg5.ref, arg6.ref, arg7.ref, arg8.ref, arg9.ref, arg10.ref, arg11.ref, arg12.ref, C.x.a0.ref,
    C.s1.ref, C.x.a1.ref, C.s2.ref, C.x.a2.ref, C.s3.ref, C.x.a3.ref, C.s4.ref, C.x.a4.ref, C.s5.ref, C.x.a5.ref, C.s6.ref, C.x.a6.ref, C.s7.ref, C.x.a7.ref, C.s8.ref, C.x.a8.ref, C.s9.ref, C.x.a9.ref]

/-- The arguments of the program. -/
def argRefs : List (Ref sig .tc) :=
  [main_arg0, main_arg1, main_arg2, main_arg3, main_arg4, main_arg5, main_arg6, main_arg7, main_arg8, main_arg9, main_arg10, main_arg11, main_arg12, main_arg13, main_arg14]

/-- The buffers' places in those lists. -/
def Slot.cutPlace (r : Ref sig .tc) : ℕ := C.cutRefs.idxOf r

/-- What is asked of a layer's buffers: that no two are the same, and none an argument of the program. -/
class Good : Prop where
  nodup : (refs C.x C.φ).Nodup
  cut_nodup : C.cutRefs.Nodup
  args_cut : ∀ r ∈ argRefs, C.cutPlace r < 10 ∨ 27 < C.cutPlace r
  args_out : ∀ r ∈ argRefs, 153 < place C.x C.φ r

instance [G : Good C] : Distinct C.x C.φ := ⟨G.nodup⟩

variable {C} in
theorem cutPlace_at [G : Good C] (i : ℕ) {r : Ref sig .tc} (h : C.cutRefs[i]? = some r) : C.cutPlace r = i := by
  obtain ⟨hi, rfl⟩ := List.getElem?_eq_some_iff.mp h
  exact G.cut_nodup.idxOf_getElem i hi

section Places

variable [Good C]

@[simp] theorem cutPlace_arg4 : C.cutPlace main_arg4 = 0 := cutPlace_at 0 rfl
@[simp] theorem cutPlace_arg5 : C.cutPlace main_arg5 = 1 := cutPlace_at 1 rfl
@[simp] theorem cutPlace_arg6 : C.cutPlace main_arg6 = 2 := cutPlace_at 2 rfl
@[simp] theorem cutPlace_arg7 : C.cutPlace main_arg7 = 3 := cutPlace_at 3 rfl
@[simp] theorem cutPlace_arg8 : C.cutPlace main_arg8 = 4 := cutPlace_at 4 rfl
@[simp] theorem cutPlace_arg9 : C.cutPlace main_arg9 = 5 := cutPlace_at 5 rfl
@[simp] theorem cutPlace_arg10 : C.cutPlace main_arg10 = 6 := cutPlace_at 6 rfl
@[simp] theorem cutPlace_arg11 : C.cutPlace main_arg11 = 7 := cutPlace_at 7 rfl
@[simp] theorem cutPlace_arg12 : C.cutPlace main_arg12 = 8 := cutPlace_at 8 rfl
@[simp] theorem cutPlace_a0 : C.cutPlace C.x.a0.ref = 9 := cutPlace_at 9 rfl
@[simp] theorem cutPlace_s1 : C.cutPlace C.s1.ref = 10 := cutPlace_at 10 rfl
@[simp] theorem cutPlace_a1 : C.cutPlace C.x.a1.ref = 11 := cutPlace_at 11 rfl
@[simp] theorem cutPlace_s2 : C.cutPlace C.s2.ref = 12 := cutPlace_at 12 rfl
@[simp] theorem cutPlace_a2 : C.cutPlace C.x.a2.ref = 13 := cutPlace_at 13 rfl
@[simp] theorem cutPlace_s3 : C.cutPlace C.s3.ref = 14 := cutPlace_at 14 rfl
@[simp] theorem cutPlace_a3 : C.cutPlace C.x.a3.ref = 15 := cutPlace_at 15 rfl
@[simp] theorem cutPlace_s4 : C.cutPlace C.s4.ref = 16 := cutPlace_at 16 rfl
@[simp] theorem cutPlace_a4 : C.cutPlace C.x.a4.ref = 17 := cutPlace_at 17 rfl
@[simp] theorem cutPlace_s5 : C.cutPlace C.s5.ref = 18 := cutPlace_at 18 rfl
@[simp] theorem cutPlace_a5 : C.cutPlace C.x.a5.ref = 19 := cutPlace_at 19 rfl
@[simp] theorem cutPlace_s6 : C.cutPlace C.s6.ref = 20 := cutPlace_at 20 rfl
@[simp] theorem cutPlace_a6 : C.cutPlace C.x.a6.ref = 21 := cutPlace_at 21 rfl
@[simp] theorem cutPlace_s7 : C.cutPlace C.s7.ref = 22 := cutPlace_at 22 rfl
@[simp] theorem cutPlace_a7 : C.cutPlace C.x.a7.ref = 23 := cutPlace_at 23 rfl
@[simp] theorem cutPlace_s8 : C.cutPlace C.s8.ref = 24 := cutPlace_at 24 rfl
@[simp] theorem cutPlace_a8 : C.cutPlace C.x.a8.ref = 25 := cutPlace_at 25 rfl
@[simp] theorem cutPlace_s9 : C.cutPlace C.s9.ref = 26 := cutPlace_at 26 rfl
@[simp] theorem cutPlace_a9 : C.cutPlace C.x.a9.ref = 27 := cutPlace_at 27 rfl

end Places

/-! ## The cuts -/

theorem fits_S12x3072x768 : ∀ k : Fin 12, S12x3072x768.Slices ![k.val, 0, 0] S1x3072x768 := by decide +kernel
theorem fits_S12x1536x4 : ∀ k : Fin 12, S12x1536x4.Slices ![k.val, 0, 0] S1x1536x4 := by decide +kernel
theorem fits_S12x1536 : ∀ k : Fin 12, S12x1536.Slices ![k.val, 0] S1x1536 := by decide +kernel
theorem fits_S12x80x1536 : ∀ k : Fin 12, S12x80x1536.Slices ![k.val, 0, 0] S1x80x1536 := by decide +kernel
theorem fits_S12x1536x48 : ∀ k : Fin 12, S12x1536x48.Slices ![k.val, 0, 0] S1x1536x48 := by decide +kernel
theorem fits_S12x1536x16 : ∀ k : Fin 12, S12x1536x16.Slices ![k.val, 0, 0] S1x1536x16 := by decide +kernel
theorem fits_S12x768x1536 : ∀ k : Fin 12, S12x768x1536.Slices ![k.val, 0, 0] S1x768x1536 := by decide +kernel

section Ops

variable {F : FTy → Type} [FloatOps F]

/-- Layer `k`'s parameters cut out, -/
abbrev cutOps : List (HloOp τ sig (Elt F)) :=
  [ TRef.unary arg4 C.s1 (extractStridedSlice S1x3072x768 ![C.k.val, 0, 0] · (fits_S12x3072x768 C.k)),
    TRef.reshape C.s1 C.x.a1 rfl shapeCasts_S1x3072x768_S3072x768,
    TRef.unary arg5 C.s2 (extractStridedSlice S1x1536x4 ![C.k.val, 0, 0] · (fits_S12x1536x4 C.k)),
    TRef.reshape C.s2 C.x.a2 rfl shapeCasts_S1x1536x4_S1536x4,
    TRef.unary arg6 C.s3 (extractStridedSlice S1x1536 ![C.k.val, 0] · (fits_S12x1536 C.k)),
    TRef.reshape C.s3 C.x.a3 rfl shapeCasts_S1x1536_S1536,
    TRef.unary arg7 C.s4 (extractStridedSlice S1x80x1536 ![C.k.val, 0, 0] · (fits_S12x80x1536 C.k)),
    TRef.reshape C.s4 C.x.a4 rfl shapeCasts_S1x80x1536_S80x1536,
    TRef.unary arg8 C.s5 (extractStridedSlice S1x1536x48 ![C.k.val, 0, 0] · (fits_S12x1536x48 C.k)),
    TRef.reshape C.s5 C.x.a5 rfl shapeCasts_S1x1536x48_S1536x48,
    TRef.unary arg9 C.s6 (extractStridedSlice S1x1536 ![C.k.val, 0] · (fits_S12x1536 C.k)),
    TRef.reshape C.s6 C.x.a6 rfl shapeCasts_S1x1536_S1536,
    TRef.unary arg10 C.s7 (extractStridedSlice S1x1536x16 ![C.k.val, 0, 0] · (fits_S12x1536x16 C.k)),
    TRef.reshape C.s7 C.x.a7 rfl shapeCasts_S1x1536x16_S1536x16,
    TRef.unary arg11 C.s8 (extractStridedSlice S1x1536 ![C.k.val, 0] · (fits_S12x1536 C.k)),
    TRef.reshape C.s8 C.x.a8 rfl shapeCasts_S1x1536_S1536,
    TRef.unary arg12 C.s9 (extractStridedSlice S1x768x1536 ![C.k.val, 0, 0] · (fits_S12x768x1536 C.k)),
    TRef.reshape C.s9 C.x.a9 rfl shapeCasts_S1x768x1536_S768x1536 ]

end Ops

variable [Good C] (V : Valuation τ sig (Elt Ideal))

/-- All layers' parameters. -/
def stack : Spec.Stack where
  inw k i j := rd arg4 V (ix3 k i j)
  cw k i j := rd arg5 V (ix3 k i j)
  cb k i := rd arg6 V (ix2 k i)
  xpw k i j := rd arg7 V (ix3 k i j)
  dtw k i j := rd arg8 V (ix3 k i j)
  dtb k i := rd arg9 V (ix2 k i)
  alog k i j := rd arg10 V (ix3 k i j)
  dpar k i := rd arg11 V (ix2 k i)
  ow k i j := rd arg12 V (ix3 k i j)

theorem cut_keep {T : BufTy} (z : TRef sig T) (h : C.cutPlace z.ref < 10 ∨ 27 < C.cutPlace z.ref) : rd z (after (cutOps C) V) = rd z V := by
  simp (disch := (simp; omega)) only [after_cons, after_nil, rd_unary, rd_reshape, rd_unary_ne (p := C.cutPlace), rd_reshape_ne (p := C.cutPlace)]

theorem cut_a1 : rd C.x.a1 (after (cutOps C) V) = shapeCast S3072x768 (extractStridedSlice S1x3072x768 ![C.k.val, 0, 0] (rd arg4 V) (fits_S12x3072x768 C.k)) shapeCasts_S1x3072x768_S3072x768 := by
  simp (disch := simp) only [after_cons, after_nil, rd_unary, rd_reshape, rd_unary_ne (p := C.cutPlace), rd_reshape_ne (p := C.cutPlace)]
theorem cut_a2 : rd C.x.a2 (after (cutOps C) V) = shapeCast S1536x4 (extractStridedSlice S1x1536x4 ![C.k.val, 0, 0] (rd arg5 V) (fits_S12x1536x4 C.k)) shapeCasts_S1x1536x4_S1536x4 := by
  simp (disch := simp) only [after_cons, after_nil, rd_unary, rd_reshape, rd_unary_ne (p := C.cutPlace), rd_reshape_ne (p := C.cutPlace)]
theorem cut_a3 : rd C.x.a3 (after (cutOps C) V) = shapeCast S1536 (extractStridedSlice S1x1536 ![C.k.val, 0] (rd arg6 V) (fits_S12x1536 C.k)) shapeCasts_S1x1536_S1536 := by
  simp (disch := simp) only [after_cons, after_nil, rd_unary, rd_reshape, rd_unary_ne (p := C.cutPlace), rd_reshape_ne (p := C.cutPlace)]
theorem cut_a4 : rd C.x.a4 (after (cutOps C) V) = shapeCast S80x1536 (extractStridedSlice S1x80x1536 ![C.k.val, 0, 0] (rd arg7 V) (fits_S12x80x1536 C.k)) shapeCasts_S1x80x1536_S80x1536 := by
  simp (disch := simp) only [after_cons, after_nil, rd_unary, rd_reshape, rd_unary_ne (p := C.cutPlace), rd_reshape_ne (p := C.cutPlace)]
theorem cut_a5 : rd C.x.a5 (after (cutOps C) V) = shapeCast S1536x48 (extractStridedSlice S1x1536x48 ![C.k.val, 0, 0] (rd arg8 V) (fits_S12x1536x48 C.k)) shapeCasts_S1x1536x48_S1536x48 := by
  simp (disch := simp) only [after_cons, after_nil, rd_unary, rd_reshape, rd_unary_ne (p := C.cutPlace), rd_reshape_ne (p := C.cutPlace)]
theorem cut_a6 : rd C.x.a6 (after (cutOps C) V) = shapeCast S1536 (extractStridedSlice S1x1536 ![C.k.val, 0] (rd arg9 V) (fits_S12x1536 C.k)) shapeCasts_S1x1536_S1536 := by
  simp (disch := simp) only [after_cons, after_nil, rd_unary, rd_reshape, rd_unary_ne (p := C.cutPlace), rd_reshape_ne (p := C.cutPlace)]
theorem cut_a7 : rd C.x.a7 (after (cutOps C) V) = shapeCast S1536x16 (extractStridedSlice S1x1536x16 ![C.k.val, 0, 0] (rd arg10 V) (fits_S12x1536x16 C.k)) shapeCasts_S1x1536x16_S1536x16 := by
  simp (disch := simp) only [after_cons, after_nil, rd_unary, rd_reshape, rd_unary_ne (p := C.cutPlace), rd_reshape_ne (p := C.cutPlace)]
theorem cut_a8 : rd C.x.a8 (after (cutOps C) V) = shapeCast S1536 (extractStridedSlice S1x1536 ![C.k.val, 0] (rd arg11 V) (fits_S12x1536 C.k)) shapeCasts_S1x1536_S1536 := by
  simp (disch := simp) only [after_cons, after_nil, rd_unary, rd_reshape, rd_unary_ne (p := C.cutPlace), rd_reshape_ne (p := C.cutPlace)]
theorem cut_a9 : rd C.x.a9 (after (cutOps C) V) = shapeCast S768x1536 (extractStridedSlice S1x768x1536 ![C.k.val, 0, 0] (rd arg12 V) (fits_S12x768x1536 C.k)) shapeCasts_S1x768x1536_S768x1536 := by
  simp (disch := simp) only [after_cons, after_nil, rd_unary, rd_reshape, rd_unary_ne (p := C.cutPlace), rd_reshape_ne (p := C.cutPlace)]

/-- The cuts are the layer's parameters. -/
theorem cut_args (h : Fin 196 → Fin 768 → EReal) (b : Fin 8) (H : ∀ t j, rd C.x.a0 V (ix3 b t j) = h t j) :
    Args C.x (after (cutOps C) V) ((stack V).at C.k) h b where
  a0 t j := by rw [cut_keep C V _ (.inl (by simp))]; exact H t j
  a1 e i := by rw [cut_a1]; show _ = rd arg4 V (ix3 C.k e i); pointwise []
  a2 e i := by rw [cut_a2]; show _ = rd arg5 V (ix3 C.k e i); pointwise []
  a3 e := by rw [cut_a3]; show _ = rd arg6 V (ix2 C.k e); pointwise []
  a4 e i := by rw [cut_a4]; show _ = rd arg7 V (ix3 C.k e i); pointwise []
  a5 e i := by rw [cut_a5]; show _ = rd arg8 V (ix3 C.k e i); pointwise []
  a6 e := by rw [cut_a6]; show _ = rd arg9 V (ix2 C.k e); pointwise []
  a7 e i := by rw [cut_a7]; show _ = rd arg10 V (ix3 C.k e i); pointwise []
  a8 e := by rw [cut_a8]; show _ = rd arg11 V (ix2 C.k e); pointwise []
  a9 e i := by rw [cut_a9]; show _ = rd arg12 V (ix3 C.k e i); pointwise []

/-- The cuts and the call. -/
def Slot.step (V : Valuation τ sig (Elt Ideal)) : Valuation τ sig (Elt Ideal) := done C.x C.φ (after (cutOps C) V)

/-- A layer leaves the program's arguments alone. -/
theorem step_args {T : BufTy} (z : TRef sig T) (h : z.ref ∈ argRefs) : rd z (C.step V) = rd z V :=
  (done_out C.x C.φ _ z (Good.args_out _ h)).trans (cut_keep C V z (Good.args_cut _ h))

theorem step_stack : stack (C.step V) = stack V := by
  unfold stack
  congr 1 <;> (funext k i; try funext j) <;> exact congrFun (step_args C V _ (by decide +kernel)) _

theorem step_value (h : Fin 196 → Fin 768 → EReal) (b : Fin 8) (H : ∀ t j, rd C.x.a0 V (ix3 b t j) = h t j) (t : Fin 196) (j : Fin 768) :
    rd C.φ.v62 (C.step V) (ix3 b t j) = Spec.layer ((stack V).at C.k) h t j :=
  done_value C.φ (cut_args C V h b H) t j

/-! ## All of them -/

/-- Each layer's input is the one's before it. -/
def Linked (z : TRef sig ⟨S8x196x768, .f32⟩) : List Slot → TRef sig ⟨S8x196x768, .f32⟩ → Prop
  | [], y => z = y
  | C :: Cs, y => C.x.a0 = z ∧ Linked C.φ.v62 Cs y

/-- The layers of a list, in order. -/
def steps : List Slot → Valuation τ sig (Elt Ideal) → Valuation τ sig (Elt Ideal)
  | [], V => V
  | C :: Cs, V => steps Cs (C.step V)

omit [Good C] in
theorem steps_args {T : BufTy} (z : TRef sig T) (h : z.ref ∈ argRefs) : ∀ (Cs : List Slot) (_ : ∀ C ∈ Cs, Good C) (V : Valuation τ sig (Elt Ideal)),
    rd z (steps Cs V) = rd z V
  | [], _, _ => rfl
  | C :: Cs, G, V => by
    have : Good C := G C List.mem_cons_self
    exact (steps_args z h Cs (fun D hD => G D (List.mem_cons_of_mem _ hD)) _).trans (step_args C V z h)

omit [Good C] in
theorem steps_value (b : Fin 8) (y : TRef sig ⟨S8x196x768, .f32⟩) : ∀ (Cs : List Slot) (_ : ∀ C ∈ Cs, Good C) (z : TRef sig ⟨S8x196x768, .f32⟩) (_ : Linked z Cs y)
    (V : Valuation τ sig (Elt Ideal)) (h : Fin 196 → Fin 768 → EReal) (_ : ∀ t j, rd z V (ix3 b t j) = h t j) (t : Fin 196) (j : Fin 768),
    rd y (steps Cs V) (ix3 b t j) = Spec.layers (stack V) (Cs.map Slot.k) h t j
  | [], _, z, e, V, h, H, t, j => by obtain rfl : z = y := e; exact H t j
  | C :: Cs, G, z, e, V, h, H, t, j => by
    have : Good C := G C List.mem_cons_self
    obtain ⟨rfl, e⟩ := e
    rw [List.map_cons, Spec.layers, ← step_stack C V]
    exact steps_value b y Cs (fun D hD => G D (List.mem_cons_of_mem _ hD)) C.φ.v62 e (C.step V) _ (fun t j => by rw [step_stack]; exact step_value C V h b H t j) t j

end Cert.ReferenceIdeal.Fn

end
-- ==== Proof.RefMain.lean ====
module

public import proofs.«01_k».proof.Proof.RefCut

/-! # The reference, whole

Its operations before and after the layers, its twelve layers, its run and its result. -/

@[expose] public section

set_option maxRecDepth 16384

noncomputable section

namespace Cert.ReferenceIdeal.Fn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo Idealize.ShloMosaic.Pipeline
open Cert.ReferenceIdeal Cert.ReferenceIdeal.Gen

section Ops

variable {F : FTy → Type} [FloatOps F]

/-- The embedding, -/
abbrev embOps : List (HloOp τ sig (Elt F)) :=
  [ StableHlo.reshape main_arg0 main_v0 (rfl : (.f32 : EltTy) = .f32) shapeCasts_S8x3x224x224_S8x3x14x16x14x16,
    StableHlo.binary main_v0 main_arg1 main_v1 ((fun l r => Host.dotGeneral dot_S8x3x14x16x14x16_S768x3x16x16_S8x14x14x768_135_123_024_0_n_n none l r) : (⟨S8x3x14x16x14x16, .f32⟩ : BufTy).Contents (Elt F) → (⟨S768x3x16x16, .f32⟩ : BufTy).Contents (Elt F) → (⟨S8x14x14x768, .f32⟩ : BufTy).Contents (Elt F)),
    StableHlo.reshape main_v1 main_v2 (rfl : (.f32 : EltTy) = .f32) shapeCasts_S8x14x14x768_S8x196x768,
    StableHlo.unary main_arg2 main_v3 (broadcastInDim S1x1x768 ![2] bcast_S768_S1x1x768_2 : (⟨S768, .f32⟩ : BufTy).Contents (Elt F) → (⟨S1x1x768, .f32⟩ : BufTy).Contents (Elt F)),
    StableHlo.unary main_v3 main_v4 (broadcastInDim S8x196x768 ![0, 1, 2] bcast_S1x1x768_S8x196x768_0_1_2 : (⟨S1x1x768, .f32⟩ : BufTy).Contents (Elt F) → (⟨S8x196x768, .f32⟩ : BufTy).Contents (Elt F)),
    StableHlo.binary main_v2 main_v4 main_v5 (addf : (⟨S8x196x768, .f32⟩ : BufTy).Contents (Elt F) → (⟨S8x196x768, .f32⟩ : BufTy).Contents (Elt F) → (⟨S8x196x768, .f32⟩ : BufTy).Contents (Elt F)),
    StableHlo.unary main_arg3 main_v6 (broadcastInDim S8x196x768 ![0, 1, 2] bcast_S1x196x768_S8x196x768_0_1_2 : (⟨S1x196x768, .f32⟩ : BufTy).Contents (Elt F) → (⟨S8x196x768, .f32⟩ : BufTy).Contents (Elt F)),
    StableHlo.binary main_v5 main_v6 main_v7 (addf : (⟨S8x196x768, .f32⟩ : BufTy).Contents (Elt F) → (⟨S8x196x768, .f32⟩ : BufTy).Contents (Elt F) → (⟨S8x196x768, .f32⟩ : BufTy).Contents (Elt F)) ]

/-- and the normalisation. -/
abbrev normOps : List (HloOp τ sig (Elt F)) :=
  [ StableHlo.nullary main_cst (constant S_ .f32 0x00000000#32),
    StableHlo.binary main_v235 main_cst main_v236 ((fun x v => Host.reduceAdd x v reducesTo_S8x196x768_S8x196_d2 h_S_) : (⟨S8x196x768, .f32⟩ : BufTy).Contents (Elt F) → (⟨S_, .f32⟩ : BufTy).Contents (Elt F) → (⟨S8x196, .f32⟩ : BufTy).Contents (Elt F)),
    StableHlo.unary main_v236 main_v237 (broadcastInDim S8x196x1 ![0, 1] bcast_S8x196_S8x196x1_0_1 : (⟨S8x196, .f32⟩ : BufTy).Contents (Elt F) → (⟨S8x196x1, .f32⟩ : BufTy).Contents (Elt F)),
    StableHlo.nullary main_cst_0 (constant S_ .f32 0x44400000#32),
    StableHlo.unary main_cst_0 main_v238 (broadcastInDim S8x196x1 ![] bcast_S_S8x196x1 : (⟨S_, .f32⟩ : BufTy).Contents (Elt F) → (⟨S8x196x1, .f32⟩ : BufTy).Contents (Elt F)),
    StableHlo.binary main_v237 main_v238 main_v239 (Host.divf : (⟨S8x196x1, .f32⟩ : BufTy).Contents (Elt F) → (⟨S8x196x1, .f32⟩ : BufTy).Contents (Elt F) → (⟨S8x196x1, .f32⟩ : BufTy).Contents (Elt F)),
    StableHlo.unary main_v239 main_v240 (broadcastInDim S8x196x768 ![0, 1, 2] bcast_S8x196x1_S8x196x768_0_1_2 : (⟨S8x196x1, .f32⟩ : BufTy).Contents (Elt F) → (⟨S8x196x768, .f32⟩ : BufTy).Contents (Elt F)),
    StableHlo.binary main_v235 main_v240 main_v241 (subf : (⟨S8x196x768, .f32⟩ : BufTy).Contents (Elt F) → (⟨S8x196x768, .f32⟩ : BufTy).Contents (Elt F) → (⟨S8x196x768, .f32⟩ : BufTy).Contents (Elt F)),
    StableHlo.binary main_v241 main_v241 main_v242 (mulf : (⟨S8x196x768, .f32⟩ : BufTy).Contents (Elt F) → (⟨S8x196x768, .f32⟩ : BufTy).Contents (Elt F) → (⟨S8x196x768, .f32⟩ : BufTy).Contents (Elt F)),
    StableHlo.nullary main_cst_1 (constant S_ .f32 0x00000000#32),
    StableHlo.binary main_v242 main_cst_1 main_v243 ((fun x v => Host.reduceAdd x v reducesTo_S8x196x768_S8x196_d2 h_S_) : (⟨S8x196x768, .f32⟩ : BufTy).Contents (Elt F) → (⟨S_, .f32⟩ : BufTy).Contents (Elt F) → (⟨S8x196, .f32⟩ : BufTy).Contents (Elt F)),
    StableHlo.unary main_v243 main_v244 (broadcastInDim S8x196x1 ![0, 1] bcast_S8x196_S8x196x1_0_1 : (⟨S8x196, .f32⟩ : BufTy).Contents (Elt F) → (⟨S8x196x1, .f32⟩ : BufTy).Contents (Elt F)),
    StableHlo.nullary main_cst_2 (constant S_ .f32 0x44400000#32),
    StableHlo.unary main_cst_2 main_v245 (broadcastInDim S8x196x1 ![] bcast_S_S8x196x1 : (⟨S_, .f32⟩ : BufTy).Contents (Elt F) → (⟨S8x196x1, .f32⟩ : BufTy).Contents (Elt F)),
    StableHlo.binary main_v244 main_v245 main_v246 (Host.divf : (⟨S8x196x1, .f32⟩ : BufTy).Contents (Elt F) → (⟨S8x196x1, .f32⟩ : BufTy).Contents (Elt F) → (⟨S8x196x1, .f32⟩ : BufTy).Contents (Elt F)),
    StableHlo.unary main_v239 main_v247 (broadcastInDim S8x196x768 ![0, 1, 2] bcast_S8x196x1_S8x196x768_0_1_2 : (⟨S8x196x1, .f32⟩ : BufTy).Contents (Elt F) → (⟨S8x196x768, .f32⟩ : BufTy).Contents (Elt F)),
    StableHlo.binary main_v235 main_v247 main_v248 (subf : (⟨S8x196x768, .f32⟩ : BufTy).Contents (Elt F) → (⟨S8x196x768, .f32⟩ : BufTy).Contents (Elt F) → (⟨S8x196x768, .f32⟩ : BufTy).Contents (Elt F)),
    StableHlo.nullary main_cst_3 (constant S_ .f32 0x3727C5AC#32),
    StableHlo.unary main_cst_3 main_v249 (broadcastInDim S8x196x1 ![] bcast_S_S8x196x1 : (⟨S_, .f32⟩ : BufTy).Contents (Elt F) → (⟨S8x196x1, .f32⟩ : BufTy).Contents (Elt F)),
    StableHlo.binary main_v246 main_v249 main_v250 (addf : (⟨S8x196x1, .f32⟩ : BufTy).Contents (Elt F) → (⟨S8x196x1, .f32⟩ : BufTy).Contents (Elt F) → (⟨S8x196x1, .f32⟩ : BufTy).Contents (Elt F)),
    StableHlo.unary main_v250 main_v251 (Host.rsqrt : (⟨S8x196x1, .f32⟩ : BufTy).Contents (Elt F) → (⟨S8x196x1, .f32⟩ : BufTy).Contents (Elt F)),
    StableHlo.unary main_v251 main_v252 (broadcastInDim S8x196x768 ![0, 1, 2] bcast_S8x196x1_S8x196x768_0_1_2 : (⟨S8x196x1, .f32⟩ : BufTy).Contents (Elt F) → (⟨S8x196x768, .f32⟩ : BufTy).Contents (Elt F)),
    StableHlo.binary main_v248 main_v252 main_v253 (mulf : (⟨S8x196x768, .f32⟩ : BufTy).Contents (Elt F) → (⟨S8x196x768, .f32⟩ : BufTy).Contents (Elt F) → (⟨S8x196x768, .f32⟩ : BufTy).Contents (Elt F)),
    StableHlo.unary main_arg13 main_v254 (broadcastInDim S1x1x768 ![2] bcast_S768_S1x1x768_2 : (⟨S768, .f32⟩ : BufTy).Contents (Elt F) → (⟨S1x1x768, .f32⟩ : BufTy).Contents (Elt F)),
    StableHlo.unary main_v254 main_v255 (broadcastInDim S8x196x768 ![0, 1, 2] bcast_S1x1x768_S8x196x768_0_1_2 : (⟨S1x1x768, .f32⟩ : BufTy).Contents (Elt F) → (⟨S8x196x768, .f32⟩ : BufTy).Contents (Elt F)),
    StableHlo.binary main_v253 main_v255 main_v256 (mulf : (⟨S8x196x768, .f32⟩ : BufTy).Contents (Elt F) → (⟨S8x196x768, .f32⟩ : BufTy).Contents (Elt F) → (⟨S8x196x768, .f32⟩ : BufTy).Contents (Elt F)),
    StableHlo.unary main_arg14 main_v257 (broadcastInDim S1x1x768 ![2] bcast_S768_S1x1x768_2 : (⟨S768, .f32⟩ : BufTy).Contents (Elt F) → (⟨S1x1x768, .f32⟩ : BufTy).Contents (Elt F)),
    StableHlo.unary main_v257 main_v258 (broadcastInDim S8x196x768 ![0, 1, 2] bcast_S1x1x768_S8x196x768_0_1_2 : (⟨S1x1x768, .f32⟩ : BufTy).Contents (Elt F) → (⟨S8x196x768, .f32⟩ : BufTy).Contents (Elt F)),
    StableHlo.binary main_v256 main_v258 main_v259 (addf : (⟨S8x196x768, .f32⟩ : BufTy).Contents (Elt F) → (⟨S8x196x768, .f32⟩ : BufTy).Contents (Elt F) → (⟨S8x196x768, .f32⟩ : BufTy).Contents (Elt F)) ]

end Ops

/-! ## The layers -/

abbrev slot0 : Slot := ⟨0, .of main_v8, .of main_v10, .of main_v12, .of main_v14, .of main_v16, .of main_v18, .of main_v20, .of main_v22, .of main_v24,
  ⟨.of main_v7, .of main_v9, .of main_v11, .of main_v13, .of main_v15, .of main_v17, .of main_v19, .of main_v21, .of main_v23, .of main_v25⟩, main_call0⟩
abbrev slot1 : Slot := ⟨1, .of main_v27, .of main_v29, .of main_v31, .of main_v33, .of main_v35, .of main_v37, .of main_v39, .of main_v41, .of main_v43,
  ⟨.of main_v26, .of main_v28, .of main_v30, .of main_v32, .of main_v34, .of main_v36, .of main_v38, .of main_v40, .of main_v42, .of main_v44⟩, main_call1⟩
abbrev slot2 : Slot := ⟨2, .of main_v46, .of main_v48, .of main_v50, .of main_v52, .of main_v54, .of main_v56, .of main_v58, .of main_v60, .of main_v62,
  ⟨.of main_v45, .of main_v47, .of main_v49, .of main_v51, .of main_v53, .of main_v55, .of main_v57, .of main_v59, .of main_v61, .of main_v63⟩, main_call2⟩
abbrev slot3 : Slot := ⟨3, .of main_v65, .of main_v67, .of main_v69, .of main_v71, .of main_v73, .of main_v75, .of main_v77, .of main_v79, .of main_v81,
  ⟨.of main_v64, .of main_v66, .of main_v68, .of main_v70, .of main_v72, .of main_v74, .of main_v76, .of main_v78, .of main_v80, .of main_v82⟩, main_call3⟩
abbrev slot4 : Slot := ⟨4, .of main_v84, .of main_v86, .of main_v88, .of main_v90, .of main_v92, .of main_v94, .of main_v96, .of main_v98, .of main_v100,
  ⟨.of main_v83, .of main_v85, .of main_v87, .of main_v89, .of main_v91, .of main_v93, .of main_v95, .of main_v97, .of main_v99, .of main_v101⟩, main_call4⟩
abbrev slot5 : Slot := ⟨5, .of main_v103, .of main_v105, .of main_v107, .of main_v109, .of main_v111, .of main_v113, .of main_v115, .of main_v117, .of main_v119,
  ⟨.of main_v102, .of main_v104, .of main_v106, .of main_v108, .of main_v110, .of main_v112, .of main_v114, .of main_v116, .of main_v118, .of main_v120⟩, main_call5⟩
abbrev slot6 : Slot := ⟨6, .of main_v122, .of main_v124, .of main_v126, .of main_v128, .of main_v130, .of main_v132, .of main_v134, .of main_v136, .of main_v138,
  ⟨.of main_v121, .of main_v123, .of main_v125, .of main_v127, .of main_v129, .of main_v131, .of main_v133, .of main_v135, .of main_v137, .of main_v139⟩, main_call6⟩
abbrev slot7 : Slot := ⟨7, .of main_v141, .of main_v143, .of main_v145, .of main_v147, .of main_v149, .of main_v151, .of main_v153, .of main_v155, .of main_v157,
  ⟨.of main_v140, .of main_v142, .of main_v144, .of main_v146, .of main_v148, .of main_v150, .of main_v152, .of main_v154, .of main_v156, .of main_v158⟩, main_call7⟩
abbrev slot8 : Slot := ⟨8, .of main_v160, .of main_v162, .of main_v164, .of main_v166, .of main_v168, .of main_v170, .of main_v172, .of main_v174, .of main_v176,
  ⟨.of main_v159, .of main_v161, .of main_v163, .of main_v165, .of main_v167, .of main_v169, .of main_v171, .of main_v173, .of main_v175, .of main_v177⟩, main_call8⟩
abbrev slot9 : Slot := ⟨9, .of main_v179, .of main_v181, .of main_v183, .of main_v185, .of main_v187, .of main_v189, .of main_v191, .of main_v193, .of main_v195,
  ⟨.of main_v178, .of main_v180, .of main_v182, .of main_v184, .of main_v186, .of main_v188, .of main_v190, .of main_v192, .of main_v194, .of main_v196⟩, main_call9⟩
abbrev slot10 : Slot := ⟨10, .of main_v198, .of main_v200, .of main_v202, .of main_v204, .of main_v206, .of main_v208, .of main_v210, .of main_v212, .of main_v214,
  ⟨.of main_v197, .of main_v199, .of main_v201, .of main_v203, .of main_v205, .of main_v207, .of main_v209, .of main_v211, .of main_v213, .of main_v215⟩, main_call10⟩
abbrev slot11 : Slot := ⟨11, .of main_v217, .of main_v219, .of main_v221, .of main_v223, .of main_v225, .of main_v227, .of main_v229, .of main_v231, .of main_v233,
  ⟨.of main_v216, .of main_v218, .of main_v220, .of main_v222, .of main_v224, .of main_v226, .of main_v228, .of main_v230, .of main_v232, .of main_v234⟩, main_call11⟩

abbrev slots : List Slot := [slot0, slot1, slot2, slot3, slot4, slot5, slot6, slot7, slot8, slot9, slot10, slot11]

/-- `Good`, computed. -/
def check (C : Slot) : Bool :=
  decide (refs C.x C.φ).Nodup && decide C.cutRefs.Nodup && decide (∀ r ∈ argRefs, C.cutPlace r < 10 ∨ 27 < C.cutPlace r) && decide (∀ r ∈ argRefs, 153 < place C.x C.φ r)

theorem good_of_check {C : Slot} (h : check C = true) : Good C := by
  unfold check at h
  simp only [Bool.and_eq_true, decide_eq_true_eq] at h
  exact ⟨h.1.1.1, h.1.1.2, h.1.2, h.2⟩

theorem slots_check : slots.all check = true := by decide +kernel

theorem slots_good : ∀ C ∈ slots, Good C := fun C h => good_of_check (List.all_eq_true.mp slots_check C h)

theorem slots_linked : Linked (.of main_v7) slots (.of main_v235) :=
  ⟨rfl, rfl, rfl, rfl, rfl, rfl, rfl, rfl, rfl, rfl, rfl, rfl, rfl⟩

theorem slots_loops : ∀ C ∈ slots, loops C.φ.while0 = HostLoop.step C.φ.while0 (loopCond C.x C.φ) (loopBody C.x C.φ) := by
  simp only [List.forall_mem_cons, List.not_mem_nil, false_imp_iff, implies_true, and_true]
  refine ⟨?_, ?_, ?_, ?_, ?_, ?_, ?_, ?_, ?_, ?_, ?_, ?_⟩ <;> rfl

/-! ## The program as a chain -/

/-- A window that ends inside a stretch, and what follows it. -/
theorem window {m r : Pr PUnit} {xs ys : List (Pr PUnit)} (ops : List (HloOp τ sig (Elt Ideal))) (n : ℕ)
    (hm : m = chainK xs (seq (ops.take n))) (hr : r = chain (seq (ops.drop n) :: ys)) : (m >>= fun _ => r) = chain (xs ++ seq ops :: ys) := by
  rw [hm, hr, chainK_bind_chain]
  clear hm
  induction xs with
  | nil =>
    rw [List.nil_append, List.nil_append, chain_cons, chain_cons, chain_cons, ← bind_assoc, ← seq_append, List.take_append_drop]
  | cons x xs ih => rw [List.cons_append, List.cons_append, chain_cons, chain_cons, ih]

theorem chain_append (xs ys : List (Pr PUnit)) : (chain (xs ++ ys) : Pr PUnit) = (chain xs >>= fun _ => chain ys) := by
  induction xs with
  | nil => rw [List.nil_append, chain_nil, pure_bind]
  | cons x xs ih => rw [List.cons_append, chain_cons, chain_cons, ih, bind_assoc]

/-- What a layer runs, its call not yet opened, -/
abbrev shut (C : Slot) : List (Pr PUnit) := [seq (cutOps C), body C.x C.φ]

/-- and opened. -/
abbrev opened (C : Slot) : List (Pr PUnit) := seq (cutOps C) :: items C.x C.φ

theorem chain_open (ys : List (Pr PUnit)) : ∀ Cs : List Slot, (chain (Cs.flatMap shut ++ ys) : Pr PUnit) = chain (Cs.flatMap opened ++ ys)
  | [] => rfl
  | C :: Cs => by
    rw [List.flatMap_cons, List.flatMap_cons, List.append_assoc, List.append_assoc, chain_append, chain_append (opened C), chain_open ys Cs]
    refine congrArg (fun p : Pr PUnit => p >>= fun _ => chain (Cs.flatMap opened ++ ys)) ?_
    rw [chain_cons, chain_cons, chain_cons, chain_nil, body_chain]
    exact congrArg (fun p => seq (cutOps C) >>= fun _ => p) bind_pure_unit

theorem main_part0_chain (c : Dev nD) : main_part0 (F := Ideal) c = (chainK [seq embOps, seq (cutOps slot0), body slot0.x slot0.φ, seq (cutOps slot1), body slot1.x slot1.φ] (seq ((cutOps slot2).take 14)) : Pr PUnit) := by
  rewrite [chainK_seq_cons, chainK_seq_cons, chainK_cons, chainK_seq_cons, chainK_cons]
  chain_rfl

theorem main_part1_chain (c : Dev nD) : main_part1 (F := Ideal) c = (chainK [seq ((cutOps slot2).drop 14), body slot2.x slot2.φ, seq (cutOps slot3), body slot3.x slot3.φ, seq (cutOps slot4), body slot4.x slot4.φ] (seq ((cutOps slot5).take 17)) : Pr PUnit) := by
  rewrite [chainK_seq_cons, chainK_cons, chainK_seq_cons, chainK_cons, chainK_seq_cons, chainK_cons]
  chain_rfl

theorem main_part2_chain (c : Dev nD) : main_part2 (F := Ideal) c = (chainK [seq ((cutOps slot5).drop 17), body slot5.x slot5.φ, seq (cutOps slot6), body slot6.x slot6.φ, seq (cutOps slot7), body slot7.x slot7.φ, seq (cutOps slot8), body slot8.x slot8.φ] (seq ((cutOps slot9).take 1)) : Pr PUnit) := by
  rewrite [chainK_seq_cons, chainK_cons, chainK_seq_cons, chainK_cons, chainK_seq_cons, chainK_cons, chainK_seq_cons, chainK_cons]
  chain_rfl

theorem main_part3_chain (c : Dev nD) : main_part3 (F := Ideal) c = (chainK [seq ((cutOps slot9).drop 1), body slot9.x slot9.φ, seq (cutOps slot10), body slot10.x slot10.φ, seq (cutOps slot11), body slot11.x slot11.φ] (seq ((normOps).take 4)) : Pr PUnit) := by
  rewrite [chainK_seq_cons, chainK_cons, chainK_seq_cons, chainK_cons, chainK_seq_cons, chainK_cons]
  chain_rfl

theorem main_part4_chain (c : Dev nD) : main_part4 (F := Ideal) c = (chain [seq (normOps.drop 4)] : Pr PUnit) := by
  chain_rfl

theorem main_chain (c : Dev nD) : main (F := Ideal) c = (chain (seq embOps :: slots.flatMap opened ++ [seq normOps]) : Pr PUnit) := by
  have h3 := window _ _ (main_part3_chain c) (main_part4_chain c)
  have h2 := window _ _ (main_part2_chain c) h3
  have h1 := window _ _ (main_part1_chain c) h2
  have h0 := window _ _ (main_part0_chain c) h1
  refine Eq.trans h0 ?_
  show chain (seq embOps :: (slots.flatMap shut ++ [seq normOps])) = chain (seq embOps :: (slots.flatMap opened ++ [seq normOps]))
  rw [chain_cons, chain_cons, chain_open]

end Cert.ReferenceIdeal.Fn

end
-- ==== Proof.RefWhole.lean ====
module

public import proofs.«01_k».proof.Proof.RefMain

/-! # The reference's run

Every operation of the reference in turn, each layer's loop counted: what every buffer holds at the end. -/

@[expose] public section

set_option maxRecDepth 16384

noncomputable section

namespace Cert.ReferenceIdeal.Fn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo Idealize.ShloMosaic.Pipeline
open Cert.ReferenceIdeal Cert.ReferenceIdeal.Gen

local notation "𝕄" => MT nD τ sig Unit (Elt Ideal) ℕ (Option PUnit) ℕ

/-- There is no kernel region: nothing to admit, no ticket, no level. -/
abbrev admR : (p : Fin 0) → (pcfgs (F := Ideal) p).Adm := fun p => p.elim0
abbrev tkR : Fin 0 → Ticket (Ix := Unit) (Name := ℕ) (U := Option PUnit) (Lvl := ℕ) (nD := nD) (τ := τ) (pcfgs (F := Ideal)) admR := fun j => j.elim0
abbrev lvlsR : GSem nD τ sig → Finset Unit := fun _ => ∅
abbrev lvR : GSem nD τ sig → Unit → ℕ := fun _ _ => 0
theorem cells_inj : Function.Injective (Pipeline.cellOf (nD := nD) (τ := τ) (Pipeline.pin (pcfgs (F := Ideal)) admR)) := fun k => k.1.elim0

abbrev SegR := CSeg (Ix := Unit) (Name := ℕ) (U := Option PUnit) (Lvl := ℕ) (pcfgs (F := Ideal)) admR defs₀ Variants.none lvlsR lvR loops tkR

theorem cut_plain (C : Slot) : Plain [cutOps (F := Ideal) C] := plain_of (by
  simp only [List.forall_mem_cons, List.not_mem_nil, false_imp_iff, implies_true, forall_const, and_true, sub_unary, sub_reshape])

theorem emb_plain : Plain [embOps (F := Ideal)] := plain_of (by
  simp only [List.forall_mem_cons, List.not_mem_nil, false_imp_iff, implies_true, forall_const, and_true]
  exact ⟨⟨reshape_bufs_sub .., rfl⟩, ⟨binary_bufs_sub .., rfl⟩, ⟨reshape_bufs_sub .., rfl⟩, ⟨unary_bufs_sub .., rfl⟩, ⟨unary_bufs_sub .., rfl⟩, ⟨binary_bufs_sub .., rfl⟩,
    ⟨unary_bufs_sub .., rfl⟩, ⟨binary_bufs_sub .., rfl⟩⟩)

theorem norm_plain : Plain [normOps (F := Ideal)] := plain_of (by
  simp only [List.forall_mem_cons, List.not_mem_nil, false_imp_iff, implies_true, forall_const, and_true]
  exact ⟨⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩)

section Layer

variable (C : Slot) [Good C] (hl : loops C.φ.while0 = HostLoop.step C.φ.while0 (loopCond C.x C.φ) (loopBody C.x C.φ)) (W : Dev nD → Valuation τ sig (Elt Ideal))

/-- Every buffer's contents before the layer function's first operation. -/
abbrev cutAt (c : Dev nD) : Valuation τ sig (Elt Ideal) := after (cutOps C) (W c)

/-- A layer as segments of a run. -/
def layerSegs : List SegR :=
  segsOf _ _ _ _ _ _ _ _ Rw [cutOps C] (cut_plain C) W
    ++ (segsOf _ _ _ _ _ _ _ _ Rw (preI C.x C.φ) (pre_plain C.x C.φ) (cutAt C W)
      ++ loopSeg _ _ _ _ _ _ _ _ C.φ.while0 (loopCond C.x C.φ) (loopBody C.x C.φ) hl (condOps C.φ) (tripI C.φ) (trip_plain C.φ) (loopBody_chain C.x C.φ) 196
          (fun c => entry C.x C.φ (cutAt C W c)) Rw (cond_spec C.x C.φ (cutAt C W))
        :: segsOf _ _ _ _ _ _ _ _ Rw (postI C.x C.φ) (post_plain C.x C.φ)
            (fun c => after (condOps C.φ) (atTrip (condOps C.φ) (tripI C.φ) (fun c => entry C.x C.φ (cutAt C W c)) 196 c)))

theorem layerSegs_prog : (layerSegs C hl W).map CSeg.prog = opened C := by
  unfold layerSegs
  rw [List.map_append, List.map_append, List.map_cons, segsOf_prog, segsOf_prog, segsOf_prog]
  rfl

theorem layerSegs_chains : CSeg.Chains (fun c => iprop(held (c : Thread nD τ) (ucRefs τ sig) (W c) ∗ Rw c)) (layerSegs C hl W)
    (fun c => iprop(held (c : Thread nD τ) (ucRefs τ sig) (C.step (W c)) ∗ Rw c)) := by
  have e : ∀ c, C.step (W c) = afterL (postI C.x C.φ) (after (condOps C.φ) (atTrip (condOps C.φ) (tripI C.φ) (fun c => entry C.x C.φ (cutAt C W c)) 196 c)) := fun c => by
    rw [atTrip_eq]; rfl
  rw [show (fun c : Dev nD => (iprop(held (c : Thread nD τ) (ucRefs τ sig) (C.step (W c)) ∗ Rw c) : sProp 𝕄))
    = fun c : Dev nD => iprop(held (c : Thread nD τ) (ucRefs τ sig) (afterL (postI C.x C.φ) (after (condOps C.φ) (atTrip (condOps C.φ) (tripI C.φ) (fun c => entry C.x C.φ (cutAt C W c)) 196 c))) ∗ Rw c)
    from funext fun c => by rw [e c]]
  unfold layerSegs
  exact CSeg.Chains.append (segsOf_chains _ _ _ _ _ _ _ _ Rw [cutOps C] (cut_plain C) W)
    (CSeg.Chains.append (segsOf_chains _ _ _ _ _ _ _ _ Rw (preI C.x C.φ) (pre_plain C.x C.φ) (cutAt C W))
      ⟨fun _ => .rfl, segsOf_chains _ _ _ _ _ _ _ _ Rw (postI C.x C.φ) (post_plain C.x C.φ) _⟩)

end Layer

/-- What is asked of a layer for its run. -/
abbrev Runs (C : Slot) : Prop := Good C ∧ loops C.φ.while0 = HostLoop.step C.φ.while0 (loopCond C.x C.φ) (loopBody C.x C.φ)

/-- The layers of a list as segments of a run. -/
def allSegs : (Cs : List Slot) → (∀ C ∈ Cs, Runs C) → (Dev nD → Valuation τ sig (Elt Ideal)) → List SegR
  | [], _, _ => []
  | C :: Cs, G, W => have := (G C List.mem_cons_self).1
    layerSegs C (G C List.mem_cons_self).2 W ++ allSegs Cs (fun D hD => G D (List.mem_cons_of_mem _ hD)) (fun c => C.step (W c))

theorem allSegs_prog : ∀ (Cs : List Slot) (G : ∀ C ∈ Cs, Runs C) (W : Dev nD → Valuation τ sig (Elt Ideal)), (allSegs Cs G W).map CSeg.prog = Cs.flatMap opened
  | [], _, _ => rfl
  | C :: Cs, G, W => by
    have := (G C List.mem_cons_self).1
    rw [allSegs, List.map_append, List.flatMap_cons, allSegs_prog Cs, layerSegs_prog]

theorem allSegs_chains : ∀ (Cs : List Slot) (G : ∀ C ∈ Cs, Runs C) (W : Dev nD → Valuation τ sig (Elt Ideal)),
    CSeg.Chains (fun c => iprop(held (c : Thread nD τ) (ucRefs τ sig) (W c) ∗ Rw c)) (allSegs Cs G W) (fun c => iprop(held (c : Thread nD τ) (ucRefs τ sig) (steps Cs (W c)) ∗ Rw c))
  | [], _, _ => fun _ => .rfl
  | C :: Cs, G, W => by
    have := (G C List.mem_cons_self).1
    rw [allSegs]
    exact CSeg.Chains.append (layerSegs_chains C _ W) (allSegs_chains Cs _ _)

theorem slots_run : ∀ C ∈ slots, Runs C := fun C h => ⟨slots_good C h, slots_loops C h⟩

variable (m : (ℓ : Loc nD τ sig) → Buf (Elt Ideal) ℓ) (ρ : Dev nD → PrngReg)

/-- Every buffer's contents after the embedding, -/
abbrev embAt (c : Dev nD) : Valuation τ sig (Elt Ideal) := after embOps (launchContents m c)

/-- after the layers, -/
abbrev laysAt (c : Dev nD) : Valuation τ sig (Elt Ideal) := steps slots (embAt m c)

/-- and at the end. -/
abbrev endAt (c : Dev nD) : Valuation τ sig (Elt Ideal) := after normOps (laysAt m c)

/-- The program as segments of a run. -/
def segsR : List SegR :=
  segsOf _ _ _ _ _ _ _ _ Rw [embOps] emb_plain (launchContents m) ++ (allSegs slots slots_run (embAt m) ++ segsOf _ _ _ _ _ _ _ _ Rw [normOps] norm_plain (laysAt m))

theorem segsR_prog : (segsR m).map CSeg.prog = seq embOps :: slots.flatMap opened ++ [seq normOps] := by
  unfold segsR
  rw [List.map_append, List.map_append, segsOf_prog, segsOf_prog, allSegs_prog, List.map_cons, List.map_nil, List.map_cons, List.map_nil, List.singleton_append, List.cons_append]

theorem segsR_chains : CSeg.Chains (fun c => iprop(held (c : Thread nD τ) (ucRefs τ sig) (launchContents m c) ∗ Rw c)) (segsR m)
    (fun c => iprop(iprop(held (c : Thread nD τ) (ucRefs τ sig) (endAt m c)) ∗ ∃ W, owes (c : Thread nD τ) (0 : CellTallies nD τ sig Unit) W)) := by
  unfold segsR
  exact CSeg.Chains.append (segsOf_chains _ _ _ _ _ _ _ _ Rw [embOps] emb_plain (launchContents m))
    (CSeg.Chains.append (allSegs_chains slots slots_run (embAt m)) (segsOf_chains _ _ _ _ _ _ _ _ Rw [normOps] norm_plain (laysAt m)))

theorem main_eq : main (F := Ideal) = fun _ => Pipeline.chain ((segsR m).map CSeg.prog) :=
  funext fun c => (main_chain c).trans (congrArg Pipeline.chain (segsR_prog m).symm)

/-- Every counter of the program is a scoped one. -/
theorem all_scoped : ∀ sm : SemLoc sig, sm.isScoped .tc = true := by decide

/-- The run of the segments: every tensor value's buffer ends at `endAt`, every counter at zero. -/
theorem run_segs : θ_run defs (onTc (τ := τ) fun _ => Pipeline.chain ((segsR m).map CSeg.prog)) ⟨m, fun _ => 0, ρ⟩
    (fun r => (∀ (c : Dev nD) (b : Ref sig .tc), (Proc.devRef .tc b : DevRef τ sig).isScoped = false →
      r.2.mem ((c.tc : Thread nD τ).loc b) = endAt m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt Ideal)
    (pcfgs (F := Ideal)) admR cells_inj defs₀ Variants.none lvlsR lvR loops tkR m ρ (fun _ => Pipeline.chain ((segsR m).map CSeg.prog)) (segsR m)
    (fun _ _ => .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (endAt m c)))
    (hch := segsR_chains m)
    (hinit := by
      refine Pipeline.initEach lvlsR lvR fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endAt m c b)
    (hfin := fun c s' => by
      unfold held
      iintro ⟨Hh, HSI⟩
      ihave Hr := (pointsTo_read_all (ucRefs τ sig) (fun b => ((c : Dev nD), b)) (fun b => endAt m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (all_scoped g.2))⟩)

/-- The run of the program. -/
theorem run_main : θ_run defs (onTc (τ := τ) (main (F := Ideal))) ⟨m, fun _ => 0, ρ⟩
    (fun r => (∀ (c : Dev nD) (b : Ref sig .tc), (Proc.devRef .tc b : DevRef τ sig).isScoped = false →
      r.2.mem ((c.tc : Thread nD τ).loc b) = endAt m c (Proc.devRef .tc b)) ∧ r.2.sem = fun _ => 0) := by
  rw [main_eq m]
  exact run_segs m ρ

end Cert.ReferenceIdeal.Fn

end
-- ==== Proof.RefEnd.lean ====
module

public import proofs.«01_k».proof.Proof.RefWhole
public import Idealize.ShloMosaic.Lib.Tactic
public import Idealize.ShloMosaic.Lib.Pipeline.ValueKit

/-! # The reference's result

Embedding, layers and normalisation of each image, and every argument as it was. -/

@[expose] public section

set_option maxRecDepth 16384

noncomputable section

namespace Cert.ReferenceIdeal.Fn

open Idealize.ShloMosaic Idealize.ShloMosaic.TcCoe Idealize.SL.Sem Idealize.ShloMosaic.StableHlo
open Cert.ReferenceIdeal Cert.ReferenceIdeal.Gen
open Cert.Spec (chan prow pcol pixel)

/-! ## The embedding -/

/-- The product over channel, row and column. -/
local notation "𝔻" => dot_S8x3x14x16x14x16_S768x3x16x16_S8x14x14x768_135_123_024_0_n_n

/-- A contraction index and the place of the flattened patch it names. -/
def spot : Shape.Idx (DotDims.contr 𝔻) ≃ Fin 768 where
  toFun q := ⟨(q (0 : Fin 3)).val * 256 + (q (1 : Fin 3)).val * 16 + (q (2 : Fin 3)).val, by
    have h0 : (q (0 : Fin 3)).val < 3 := (q (0 : Fin 3)).isLt
    have h1 : (q (1 : Fin 3)).val < 16 := (q (1 : Fin 3)).isLt
    have h2 : (q (2 : Fin 3)).val < 16 := (q (2 : Fin 3)).isLt
    omega⟩
  invFun j := fun a : Fin 3 => match a with
    | ⟨0, _⟩ => chan j
    | ⟨1, _⟩ => prow j
    | ⟨2, _⟩ => pcol j
  left_inv q := by
    have h0 : (q (0 : Fin 3)).val < 3 := (q (0 : Fin 3)).isLt
    have h1 : (q (1 : Fin 3)).val < 16 := (q (1 : Fin 3)).isLt
    have h2 : (q (2 : Fin 3)).val < 16 := (q (2 : Fin 3)).isLt
    funext (a : Fin 3)
    refine Fin.ext ?_
    match a with
    | ⟨0, _⟩ => show ((q (0 : Fin 3)).val * 256 + (q (1 : Fin 3)).val * 16 + (q (2 : Fin 3)).val) / 256 = (q (0 : Fin 3)).val; omega
    | ⟨1, _⟩ => show ((q (0 : Fin 3)).val * 256 + (q (1 : Fin 3)).val * 16 + (q (2 : Fin 3)).val) / 16 % 16 = (q (1 : Fin 3)).val; omega
    | ⟨2, _⟩ => show ((q (0 : Fin 3)).val * 256 + (q (1 : Fin 3)).val * 16 + (q (2 : Fin 3)).val) % 16 = (q (2 : Fin 3)).val; omega
  right_inv j := Fin.ext (by
    show j.val / 256 * 256 + j.val / 16 % 16 * 16 + j.val % 16 = j.val
    omega)

/-- The reference's product, place by place. -/
theorem dot_eq (x : S8x3x14x16x14x16.Idx → EReal) (w : S768x3x16x16.Idx → EReal) (b : Fin 8) (i q : Fin 14) (k : Fin 768) :
    Ideal.matmul 𝔻 x w (fun _ => 0) (ix4 b i q k)
      = ∑ j, x (ix6 b (chan j) i (prow j) q (pcol j)) * w (ix4 k (chan j) (prow j) (pcol j)) := by
  unfold Ideal.matmul
  rw [zero_add, ← Equiv.sum_comp spot.symm]
  refine Finset.sum_congr rfl fun j _ => ?_
  refine congrArg₂ (· * ·) (congrArg x (funext fun a => Fin.ext ?_)) (congrArg w (funext fun a => Fin.ext ?_))
  · fin_cases a <;> rfl
  · fin_cases a <;> rfl

theorem split_at (a0 : FVec Ideal S8x3x224x224 .f32) (b : Fin 8) (t : Fin 196) (j : Fin 768) :
    shapeCast S8x3x14x16x14x16 a0 shapeCasts_S8x3x224x224_S8x3x14x16x14x16 (ix6 b (chan j) ⟨t.val / 14, by omega⟩ (prow j) ⟨t.val % 14, by omega⟩ (pcol j))
      = pixel (fun c r q => a0 (ix4 b c r q)) t j := by
  pointwise []
  rfl

variable (V : Valuation τ sig (Elt Ideal))

theorem emb_value (b : Fin 8) (t : Fin 196) (j : Fin 768) :
    rd (.of main_v7 : TRef sig ⟨S8x196x768, .f32⟩) (after embOps V) (ix3 b t j)
      = Spec.embed (fun c r q => rd (.of main_arg0 : TRef sig ⟨S8x3x224x224, .f32⟩) V (ix4 b c r q)) (fun k c r q => rd (.of main_arg1 : TRef sig ⟨S768x3x16x16, .f32⟩) V (ix4 k c r q))
          (fun k => rd (.of main_arg2 : TRef sig ⟨S768, .f32⟩) V (ix1 k)) (fun t k => rd (.of main_arg3 : TRef sig ⟨S1x196x768, .f32⟩) V (ix3 0 t k)) t j := by
  show after embOps V (Proc.devRef .tc main_v7) (ix3 b t j)
    = Spec.embed (fun c r q => V (Proc.devRef .tc main_arg0) (ix4 b c r q)) (fun k c r q => V (Proc.devRef .tc main_arg1) (ix4 k c r q))
        (fun k => V (Proc.devRef .tc main_arg2) (ix1 k)) (fun t k => V (Proc.devRef .tc main_arg3) (ix3 0 t k)) t j
  after_results
  pointwise []
  rw [dot_eq]
  exact congrArg₂ (· + ·) (congrArg₂ (· + ·) (Finset.sum_congr rfl fun i _ => rfl) rfl) rfl

/-! ## The normalisation -/

theorem norm_value (b : Fin 8) (t : Fin 196) (j : Fin 768) :
    rd (.of main_v259 : TRef sig ⟨S8x196x768, .f32⟩) (after normOps V) (ix3 b t j)
      = Spec.normed (fun k => rd (.of main_arg13 : TRef sig ⟨S768, .f32⟩) V (ix1 k)) (fun k => rd (.of main_arg14 : TRef sig ⟨S768, .f32⟩) V (ix1 k))
          (fun k => rd (.of main_v235 : TRef sig ⟨S8x196x768, .f32⟩) V (ix3 b t k)) j := by
  show after normOps V (Proc.devRef .tc main_v259) (ix3 b t j) = Spec.normed (fun k => V (Proc.devRef .tc main_arg13) (ix1 k)) (fun k => V (Proc.devRef .tc main_arg14) (ix1 k))
    (fun k => V (Proc.devRef .tc main_v235) (ix3 b t k)) j
  after_results
  pointwise []
  rfl

/-! ## The arguments -/

/-- What the embedding writes, and the normalisation. -/
abbrev embW : List (Ref sig .tc) := [main_v0, main_v1, main_v2, main_v3, main_v4, main_v5, main_v6, main_v7]
abbrev normW : List (Ref sig .tc) := [main_cst, main_v236, main_v237, main_cst_0, main_v238, main_v239, main_v240, main_v241, main_v242, main_cst_1, main_v243, main_v244, main_cst_2, main_v245, main_v246, main_v247, main_v248, main_cst_3, main_v249, main_v250, main_v251, main_v252, main_v253, main_v254, main_v255, main_v256, main_v257, main_v258, main_v259]

theorem emb_args (r : Ref sig .tc) (h : r ∈ argRefs) : after embOps V (Proc.devRef .tc r) = V (Proc.devRef .tc r) :=
  after_of_writes_sub (W := embW) embOps V (forall_writes_sub_of_map rfl) ((by decide +kernel : ∀ r ∈ argRefs, r ∉ embW) r h)

theorem norm_args (r : Ref sig .tc) (h : r ∈ argRefs) : after normOps V (Proc.devRef .tc r) = V (Proc.devRef .tc r) :=
  after_of_writes_sub (W := normW) normOps V (forall_writes_sub_of_map rfl) ((by decide +kernel : ∀ r ∈ argRefs, r ∉ normW) r h)

variable (m : (ℓ : Loc nD τ sig) → Buf (Elt Ideal) ℓ) (c : Dev nD)

/-- Every argument is at the end what it was. -/
theorem endAt_arg (r : Ref sig .tc) (h : r ∈ argRefs) (T : BufTy) (z : TRef sig T) (e : z.ref = r) : rd z (endAt m c) = rd z (launchContents m c) := by
  subst e
  refine (congrArg z.ofBuf (norm_args (laysAt m c) _ h)).trans ?_
  refine (steps_args z h slots slots_good (embAt m c)).trans ?_
  exact congrArg z.ofBuf (emb_args _ _ h)

theorem stack_embAt : stack (embAt m c) = stack (launchContents m c) := by
  unfold stack
  congr 1 <;> (funext k i; try funext j) <;> exact congrFun (emb_args _ _ (by decide +kernel)) _

/-- The result, of the arguments' contents. -/
theorem endAt_value (b : Fin 8) (t : Fin 196) (j : Fin 768) :
    rd (.of main_v259 : TRef sig ⟨S8x196x768, .f32⟩) (endAt m c) (ix3 b t j)
      = Spec.normed (fun k => rd (.of main_arg13 : TRef sig ⟨S768, .f32⟩) (launchContents m c) (ix1 k)) (fun k => rd (.of main_arg14 : TRef sig ⟨S768, .f32⟩) (launchContents m c) (ix1 k))
          (Spec.layers (stack (launchContents m c)) (slots.map Slot.k)
            (Spec.embed (fun ch r q => rd (.of main_arg0 : TRef sig ⟨S8x3x224x224, .f32⟩) (launchContents m c) (ix4 b ch r q))
              (fun k ch r q => rd (.of main_arg1 : TRef sig ⟨S768x3x16x16, .f32⟩) (launchContents m c) (ix4 k ch r q))
              (fun k => rd (.of main_arg2 : TRef sig ⟨S768, .f32⟩) (launchContents m c) (ix1 k)) (fun t k => rd (.of main_arg3 : TRef sig ⟨S1x196x768, .f32⟩) (launchContents m c) (ix3 0 t k))) t) j := by
  have ha {T : BufTy} (z : TRef sig T) (h : z.ref ∈ argRefs) : rd z (laysAt m c) = rd z (launchContents m c) :=
    (steps_args z h slots slots_good (embAt m c)).trans (congrArg z.ofBuf (emb_args _ _ h))
  refine (norm_value (laysAt m c) b t j).trans ?_
  rw [ha (.of main_arg13 : TRef sig ⟨S768, .f32⟩) (by decide +kernel), ha (.of main_arg14 : TRef sig ⟨S768, .f32⟩) (by decide +kernel)]
  refine congrArg (fun x => Spec.normed _ _ x j) (funext fun k => ?_)
  rw [← stack_embAt]
  exact steps_value b (.of main_v235) slots slots_good (.of main_v7) slots_linked (embAt m c) _ (emb_value (launchContents m c) b) t k

end Cert.ReferenceIdeal.Fn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.BitsKeep
public import proofs.«01_k».proof.Proof.WholeVal
public import proofs.«01_k».proof.Proof.RefEnd
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel on bits keeps its arguments and ends with every counter at zero, -/
theorem quiescent_kernel : Cert.quiescent_Kernel (hKernel := Cert.Kernel.Gen.facts) := fun m g _ =>
  (θ_run _ _ _).mono (fun _ h => ⟨fun c => ⟨Cert.Kernel.Val.final_arg m c (h.1 c) Cert.Kernel.main_arg0 (by decide +kernel), Cert.Kernel.Val.final_arg m c (h.1 c) Cert.Kernel.main_arg1 (by decide +kernel), Cert.Kernel.Val.final_arg m c (h.1 c) Cert.Kernel.main_arg2 (by decide +kernel), Cert.Kernel.Val.final_arg m c (h.1 c) Cert.Kernel.main_arg3 (by decide +kernel), Cert.Kernel.Val.final_arg m c (h.1 c) Cert.Kernel.main_arg4 (by decide +kernel), Cert.Kernel.Val.final_arg m c (h.1 c) Cert.Kernel.main_arg5 (by decide +kernel), Cert.Kernel.Val.final_arg m c (h.1 c) Cert.Kernel.main_arg6 (by decide +kernel), Cert.Kernel.Val.final_arg m c (h.1 c) Cert.Kernel.main_arg7 (by decide +kernel), Cert.Kernel.Val.final_arg m c (h.1 c) Cert.Kernel.main_arg8 (by decide +kernel), Cert.Kernel.Val.final_arg m c (h.1 c) Cert.Kernel.main_arg9 (by decide +kernel), Cert.Kernel.Val.final_arg m c (h.1 c) Cert.Kernel.main_arg10 (by decide +kernel), Cert.Kernel.Val.final_arg m c (h.1 c) Cert.Kernel.main_arg11 (by decide +kernel), Cert.Kernel.Val.final_arg m c (h.1 c) Cert.Kernel.main_arg12 (by decide +kernel), Cert.Kernel.Val.final_arg m c (h.1 c) Cert.Kernel.main_arg13 (by decide +kernel), Cert.Kernel.Val.final_arg m c (h.1 c) Cert.Kernel.main_arg14 (by decide +kernel)⟩, h.2⟩)
    (Cert.Kernel.Val.run_main m g)

/-- What the kernel at `Ideal` keeps. -/
abbrev Kept (m : (ℓ : Loc Cert.KernelIdeal.nD Cert.KernelIdeal.τ Cert.KernelIdeal.sig) → Buf (Elt Ideal) ℓ) (s : MemSt Cert.KernelIdeal.nD Cert.KernelIdeal.τ Cert.KernelIdeal.sig (Elt Ideal))
    (c : Dev Cert.KernelIdeal.nD) : Prop :=
  s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
  ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
  ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
  ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
  ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
  ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
  ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6)
  ∧ s.mem ((c.tc : Thread Cert.KernelIdeal.nD Cert.KernelIdeal.τ).loc Cert.KernelIdeal.main_arg7) = m ((c.tc : Thread Cert.KernelIdeal.nD Cert.KernelIdeal.τ).loc Cert.KernelIdeal.main_arg7)
  ∧ s.mem ((c.tc : Thread Cert.KernelIdeal.nD Cert.KernelIdeal.τ).loc Cert.KernelIdeal.main_arg8) = m ((c.tc : Thread Cert.KernelIdeal.nD Cert.KernelIdeal.τ).loc Cert.KernelIdeal.main_arg8)
  ∧ s.mem ((c.tc : Thread Cert.KernelIdeal.nD Cert.KernelIdeal.τ).loc Cert.KernelIdeal.main_arg9) = m ((c.tc : Thread Cert.KernelIdeal.nD Cert.KernelIdeal.τ).loc Cert.KernelIdeal.main_arg9)
  ∧ s.mem ((c.tc : Thread Cert.KernelIdeal.nD Cert.KernelIdeal.τ).loc Cert.KernelIdeal.main_arg10) = m ((c.tc : Thread Cert.KernelIdeal.nD Cert.KernelIdeal.τ).loc Cert.KernelIdeal.main_arg10)
  ∧ s.mem ((c.tc : Thread Cert.KernelIdeal.nD Cert.KernelIdeal.τ).loc Cert.KernelIdeal.main_arg11) = m ((c.tc : Thread Cert.KernelIdeal.nD Cert.KernelIdeal.τ).loc Cert.KernelIdeal.main_arg11)
  ∧ s.mem ((c.tc : Thread Cert.KernelIdeal.nD Cert.KernelIdeal.τ).loc Cert.KernelIdeal.main_arg12) = m ((c.tc : Thread Cert.KernelIdeal.nD Cert.KernelIdeal.τ).loc Cert.KernelIdeal.main_arg12)
  ∧ s.mem ((c.tc : Thread Cert.KernelIdeal.nD Cert.KernelIdeal.τ).loc Cert.KernelIdeal.main_arg13) = m ((c.tc : Thread Cert.KernelIdeal.nD Cert.KernelIdeal.τ).loc Cert.KernelIdeal.main_arg13)
  ∧ s.mem ((c.tc : Thread Cert.KernelIdeal.nD Cert.KernelIdeal.τ).loc Cert.KernelIdeal.main_arg14) = m ((c.tc : Thread Cert.KernelIdeal.nD Cert.KernelIdeal.τ).loc Cert.KernelIdeal.main_arg14)

theorem kept {m : (ℓ : Loc Cert.KernelIdeal.nD Cert.KernelIdeal.τ Cert.KernelIdeal.sig) → Buf (Elt Ideal) ℓ} {s : MemSt Cert.KernelIdeal.nD Cert.KernelIdeal.τ Cert.KernelIdeal.sig (Elt Ideal)}
    {c : Dev Cert.KernelIdeal.nD} (h : Cert.KernelIdeal.Val.Final m c s) : Kept m s c :=
  ⟨Cert.KernelIdeal.Val.final_arg m c h Cert.KernelIdeal.main_arg0 (by decide +kernel), Cert.KernelIdeal.Val.final_arg m c h Cert.KernelIdeal.main_arg1 (by decide +kernel), Cert.KernelIdeal.Val.final_arg m c h Cert.KernelIdeal.main_arg2 (by decide +kernel), Cert.KernelIdeal.Val.final_arg m c h Cert.KernelIdeal.main_arg3 (by decide +kernel), Cert.KernelIdeal.Val.final_arg m c h Cert.KernelIdeal.main_arg4 (by decide +kernel), Cert.KernelIdeal.Val.final_arg m c h Cert.KernelIdeal.main_arg5 (by decide +kernel), Cert.KernelIdeal.Val.final_arg m c h Cert.KernelIdeal.main_arg6 (by decide +kernel), Cert.KernelIdeal.Val.final_arg m c h Cert.KernelIdeal.main_arg7 (by decide +kernel), Cert.KernelIdeal.Val.final_arg m c h Cert.KernelIdeal.main_arg8 (by decide +kernel), Cert.KernelIdeal.Val.final_arg m c h Cert.KernelIdeal.main_arg9 (by decide +kernel), Cert.KernelIdeal.Val.final_arg m c h Cert.KernelIdeal.main_arg10 (by decide +kernel), Cert.KernelIdeal.Val.final_arg m c h Cert.KernelIdeal.main_arg11 (by decide +kernel), Cert.KernelIdeal.Val.final_arg m c h Cert.KernelIdeal.main_arg12 (by decide +kernel), Cert.KernelIdeal.Val.final_arg m c h Cert.KernelIdeal.main_arg13 (by decide +kernel), Cert.KernelIdeal.Val.final_arg m c h Cert.KernelIdeal.main_arg14 (by decide +kernel)⟩

/-- and so does it over the reals. -/
theorem quiescent_kernelIdeal : Cert.quiescent_KernelIdeal (hKernelIdeal := Cert.KernelIdeal.Gen.facts) := fun m g _ =>
  (θ_run _ _ _).mono (fun _ h => ⟨fun c => kept (h.1 c), h.2⟩) (Cert.KernelIdeal.Val.run_main m g)

/-- An argument of the reference ends as it was. -/
theorem ref_arg {m : (ℓ : Loc Cert.ReferenceIdeal.nD Cert.ReferenceIdeal.τ Cert.ReferenceIdeal.sig) → Buf (Elt Ideal) ℓ}
    {s : MemSt Cert.ReferenceIdeal.nD Cert.ReferenceIdeal.τ Cert.ReferenceIdeal.sig (Elt Ideal)} {c : Dev Cert.ReferenceIdeal.nD}
    (h : ∀ b : Ref Cert.ReferenceIdeal.sig .tc, (Proc.devRef .tc b : DevRef Cert.ReferenceIdeal.τ Cert.ReferenceIdeal.sig).isScoped = false →
      s.mem ((c.tc : Thread Cert.ReferenceIdeal.nD Cert.ReferenceIdeal.τ).loc b) = Cert.ReferenceIdeal.Fn.endAt m c (Proc.devRef .tc b))
    (r : Ref Cert.ReferenceIdeal.sig .tc) (hr : r ∈ Cert.ReferenceIdeal.Fn.argRefs) :
    s.mem ((c.tc : Thread Cert.ReferenceIdeal.nD Cert.ReferenceIdeal.τ).loc r) = m ((c.tc : Thread Cert.ReferenceIdeal.nD Cert.ReferenceIdeal.τ).loc r) :=
  (h r ((by decide +kernel : ∀ r ∈ Cert.ReferenceIdeal.Fn.argRefs, (Proc.devRef .tc r : DevRef Cert.ReferenceIdeal.τ Cert.ReferenceIdeal.sig).isScoped = false) r hr)).trans
    (Cert.ReferenceIdeal.Fn.endAt_arg m c r hr r.ty
      ⟨r, rfl, (by decide +kernel : ∀ r ∈ Cert.ReferenceIdeal.Fn.argRefs, r.space ≠ .host) r hr, (by decide +kernel : ∀ r ∈ Cert.ReferenceIdeal.Fn.argRefs, r.isScoped = false) r hr⟩ rfl)

/-- What the reference keeps. -/
abbrev RefKept (m : (ℓ : Loc Cert.ReferenceIdeal.nD Cert.ReferenceIdeal.τ Cert.ReferenceIdeal.sig) → Buf (Elt Ideal) ℓ) (s : MemSt Cert.ReferenceIdeal.nD Cert.ReferenceIdeal.τ Cert.ReferenceIdeal.sig (Elt Ideal))
    (c : Dev Cert.ReferenceIdeal.nD) : Prop :=
  s.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
  ∧ s.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
  ∧ s.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
  ∧ s.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
  ∧ s.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
  ∧ s.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
  ∧ s.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
  ∧ s.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
  ∧ s.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
  ∧ s.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
  ∧ s.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
  ∧ s.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
  ∧ s.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
  ∧ s.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
  ∧ s.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)

theorem ref_kept {m : (ℓ : Loc Cert.ReferenceIdeal.nD Cert.ReferenceIdeal.τ Cert.ReferenceIdeal.sig) → Buf (Elt Ideal) ℓ}
    {s : MemSt Cert.ReferenceIdeal.nD Cert.ReferenceIdeal.τ Cert.ReferenceIdeal.sig (Elt Ideal)} {c : Dev Cert.ReferenceIdeal.nD}
    (h : ∀ b : Ref Cert.ReferenceIdeal.sig .tc, (Proc.devRef .tc b : DevRef Cert.ReferenceIdeal.τ Cert.ReferenceIdeal.sig).isScoped = false →
      s.mem ((c.tc : Thread Cert.ReferenceIdeal.nD Cert.ReferenceIdeal.τ).loc b) = Cert.ReferenceIdeal.Fn.endAt m c (Proc.devRef .tc b)) : RefKept m s c :=
  ⟨ref_arg h Cert.ReferenceIdeal.main_arg0 (by decide +kernel), ref_arg h Cert.ReferenceIdeal.main_arg1 (by decide +kernel), ref_arg h Cert.ReferenceIdeal.main_arg2 (by decide +kernel), ref_arg h Cert.ReferenceIdeal.main_arg3 (by decide +kernel), ref_arg h Cert.ReferenceIdeal.main_arg4 (by decide +kernel), ref_arg h Cert.ReferenceIdeal.main_arg5 (by decide +kernel), ref_arg h Cert.ReferenceIdeal.main_arg6 (by decide +kernel), ref_arg h Cert.ReferenceIdeal.main_arg7 (by decide +kernel), ref_arg h Cert.ReferenceIdeal.main_arg8 (by decide +kernel), ref_arg h Cert.ReferenceIdeal.main_arg9 (by decide +kernel), ref_arg h Cert.ReferenceIdeal.main_arg10 (by decide +kernel), ref_arg h Cert.ReferenceIdeal.main_arg11 (by decide +kernel), ref_arg h Cert.ReferenceIdeal.main_arg12 (by decide +kernel), ref_arg h Cert.ReferenceIdeal.main_arg13 (by decide +kernel), ref_arg h Cert.ReferenceIdeal.main_arg14 (by decide +kernel)⟩

theorem quiescent_referenceIdeal : Cert.quiescent_ReferenceIdeal (hReferenceIdeal := Cert.ReferenceIdeal.Gen.facts) := fun m g _ =>
  (θ_run _ _ _).mono (fun _ h => ⟨fun c => ref_kept (h.1 c), h.2⟩) (Cert.ReferenceIdeal.Fn.run_main m g)

/-- The reference's result is the kernel's, where the arguments are the same. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Fn.endAt m' c (Proc.devRef .tc Cert.ReferenceIdeal.main_v259) = Cert.KernelIdeal.Val.wholeArr m c := by
  obtain ⟨h0, h1, h2, h3, h4, h5, h6, h7, h8, h9, h10, h11, h12, h13, h14⟩ := h
  have hs : Cert.ReferenceIdeal.Fn.stack (StableHlo.launchContents m' c) = Cert.KernelIdeal.Val.stackArgs (Cert.KernelIdeal.Val.start m c) := by
    unfold Cert.ReferenceIdeal.Fn.stack Cert.KernelIdeal.Val.stackArgs
    congr 1
    · funext k i j; exact congrFun h4 _
    · funext k i j; exact congrFun h5 _
    · funext k i; exact congrFun h6 _
    · funext k i j; exact congrFun h7 _
    · funext k i j; exact congrFun h8 _
    · funext k i; exact congrFun h9 _
    · funext k i j; exact congrFun h10 _
    · funext k i; exact congrFun h11 _
    · funext k i j; exact congrFun h12 _
  funext y
  idx_vars y
  refine (Cert.ReferenceIdeal.Fn.endAt_value m' c y0 y1 y2).trans ?_
  rw [hs]
  show Spec.normed (fun k => m' ((c.tc : Thread Cert.ReferenceIdeal.nD Cert.ReferenceIdeal.τ).loc Cert.ReferenceIdeal.main_arg13) (ix1 k))
    (fun k => m' ((c.tc : Thread Cert.ReferenceIdeal.nD Cert.ReferenceIdeal.τ).loc Cert.ReferenceIdeal.main_arg14) (ix1 k))
    (Spec.layers _ [0, 1, 2, 3, 4, 5, 6, 7, 8, 9, 10, 11]
      (Spec.embed (fun ch r q => m' ((c.tc : Thread Cert.ReferenceIdeal.nD Cert.ReferenceIdeal.τ).loc Cert.ReferenceIdeal.main_arg0) (ix4 y0 ch r q))
        (fun k ch r q => m' ((c.tc : Thread Cert.ReferenceIdeal.nD Cert.ReferenceIdeal.τ).loc Cert.ReferenceIdeal.main_arg1) (ix4 k ch r q))
        (fun k => m' ((c.tc : Thread Cert.ReferenceIdeal.nD Cert.ReferenceIdeal.τ).loc Cert.ReferenceIdeal.main_arg2) (ix1 k))
        (fun t k => m' ((c.tc : Thread Cert.ReferenceIdeal.nD Cert.ReferenceIdeal.τ).loc Cert.ReferenceIdeal.main_arg3) (ix3 0 t k))) y1) y2 = _
  rw [h0, h1, h2, h3, h13, h14]
  rfl

/-- Both end with the same result. -/
theorem algebraic : Cert.algebraic_KernelIdeal_ReferenceIdeal (hKernelIdeal := Cert.KernelIdeal.Gen.facts) (hReferenceIdeal := Cert.ReferenceIdeal.Gen.facts) := fun m g m' g' _ hm =>
  ⟨fun c => Cert.KernelIdeal.Val.wholeArr m c,
    (θ_run _ _ _).mono (fun _ h c => ⟨(Cert.KernelIdeal.Val.final_at m c (h.1 c) Cert.KernelIdeal.main_v246 (by decide +kernel)).trans (Cert.KernelIdeal.Val.whole_value m c), kept (h.1 c)⟩)
      (Cert.KernelIdeal.Val.run_main m g),
    (θ_run _ _ _).mono (fun _ h c => ⟨(h.1 c Cert.ReferenceIdeal.main_v259 (by decide +kernel)).trans (same_result m m' c (hm c)), ref_kept (h.1 c)⟩)
      (Cert.ReferenceIdeal.Fn.run_main m' g')⟩

theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
